-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)) (v4 : (c : Dev Cert.KernelIdeal.nD) → Buf (Elt Ideal) ((c.tc : Thread Cert.KernelIdeal.nD Cert.KernelIdeal.τ).loc Cert.KernelIdeal.main_v1_3)) (v5 : (c : Dev Cert.KernelIdeal.nD) → Buf (Elt Ideal) ((c.tc : Thread Cert.KernelIdeal.nD Cert.KernelIdeal.τ).loc Cert.KernelIdeal.main_v1_4)) (v6 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_v1_3) = v4 c
          ∧ r.2.mem ((c.tc : Thread Cert.KernelIdeal.nD Cert.KernelIdeal.τ).loc Cert.KernelIdeal.main_v1_4) = v5 c
          ∧ r.2.mem ((c.tc : Thread Cert.KernelIdeal.nD Cert.KernelIdeal.τ).loc Cert.KernelIdeal.main_v1_5) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_v126) = v2 c
          ∧ r.2.mem ((c.tc : Thread Cert.ReferenceIdeal.nD Cert.ReferenceIdeal.τ).loc Cert.ReferenceIdeal.main_v127) = v3 c
          ∧ r.2.mem ((c.tc : Thread Cert.ReferenceIdeal.nD Cert.ReferenceIdeal.τ).loc Cert.ReferenceIdeal.main_v128) = v4 c
          ∧ r.2.mem ((c.tc : Thread Cert.ReferenceIdeal.nD Cert.ReferenceIdeal.τ).loc Cert.ReferenceIdeal.main_v114) = v5 c
          ∧ r.2.mem ((c.tc : Thread Cert.ReferenceIdeal.nD Cert.ReferenceIdeal.τ).loc Cert.ReferenceIdeal.main_v112) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v27) = v1 c
          ∧ r.2.mem ((c.tc : Thread Cert.Reference3Ideal.nD Cert.Reference3Ideal.τ).loc Cert.Reference3Ideal.main_v30) = v2 c
          ∧ r.2.mem ((c.tc : Thread Cert.Reference3Ideal.nD Cert.Reference3Ideal.τ).loc Cert.Reference3Ideal.main_v31) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v24_0)) (v1 : (c : Dev Cert.Kernel4Ideal.nD) → Buf (Elt Ideal) ((c.tc : Thread Cert.Kernel4Ideal.nD Cert.Kernel4Ideal.τ).loc Cert.Kernel4Ideal.main_v24_1)) (v2 : (c : Dev Cert.Kernel4Ideal.nD) → Buf (Elt Ideal) ((c.tc : Thread Cert.Kernel4Ideal.nD Cert.Kernel4Ideal.τ).loc Cert.Kernel4Ideal.main_v24_2)) (v3 : (c : Dev Cert.Kernel4Ideal.nD) → Buf (Elt Ideal) ((c.tc : Thread Cert.Kernel4Ideal.nD Cert.Kernel4Ideal.τ).loc Cert.Kernel4Ideal.main_v24_3)) (v4 : (c : Dev Cert.Kernel4Ideal.nD) → Buf (Elt Ideal) ((c.tc : Thread Cert.Kernel4Ideal.nD Cert.Kernel4Ideal.τ).loc Cert.Kernel4Ideal.main_v24_4)) (v5 : (c : Dev Cert.Kernel4Ideal.nD) → Buf (Elt Ideal) ((c.tc : Thread Cert.Kernel4Ideal.nD Cert.Kernel4Ideal.τ).loc Cert.Kernel4Ideal.main_v24_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v24_0) = v0 c
          ∧ r.2.mem ((c.tc : Thread Cert.Kernel4Ideal.nD Cert.Kernel4Ideal.τ).loc Cert.Kernel4Ideal.main_v24_1) = v1 c
          ∧ r.2.mem ((c.tc : Thread Cert.Kernel4Ideal.nD Cert.Kernel4Ideal.τ).loc Cert.Kernel4Ideal.main_v24_2) = v2 c
          ∧ r.2.mem ((c.tc : Thread Cert.Kernel4Ideal.nD Cert.Kernel4Ideal.τ).loc Cert.Kernel4Ideal.main_v24_3) = v3 c
          ∧ r.2.mem ((c.tc : Thread Cert.Kernel4Ideal.nD Cert.Kernel4Ideal.τ).loc Cert.Kernel4Ideal.main_v24_4) = v4 c
          ∧ r.2.mem ((c.tc : Thread Cert.Kernel4Ideal.nD Cert.Kernel4Ideal.τ).loc Cert.Kernel4Ideal.main_v24_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v62) = v0 c
          ∧ r.2.mem ((c.tc : Thread Cert.Reference4Ideal.nD Cert.Reference4Ideal.τ).loc Cert.Reference4Ideal.main_v45) = v1 c
          ∧ r.2.mem ((c.tc : Thread Cert.Reference4Ideal.nD Cert.Reference4Ideal.τ).loc Cert.Reference4Ideal.main_v65) = v2 c
          ∧ r.2.mem ((c.tc : Thread Cert.Reference4Ideal.nD Cert.Reference4Ideal.τ).loc Cert.Reference4Ideal.main_v68) = v3 c
          ∧ r.2.mem ((c.tc : Thread Cert.Reference4Ideal.nD Cert.Reference4Ideal.τ).loc Cert.Reference4Ideal.main_v71) = v4 c
          ∧ r.2.mem ((c.tc : Thread Cert.Reference4Ideal.nD Cert.Reference4Ideal.τ).loc Cert.Reference4Ideal.main_v72) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)) (v5 : (c : Dev Cert.Kernel5Ideal.nD) → Buf (Elt Ideal) ((c.tc : Thread Cert.Kernel5Ideal.nD Cert.Kernel5Ideal.τ).loc Cert.Kernel5Ideal.main_v0_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_v0_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v74) = v0 c
          ∧ r.2.mem ((c.tc : Thread Cert.Reference5Ideal.nD Cert.Reference5Ideal.τ).loc Cert.Reference5Ideal.main_v73) = v1 c
          ∧ r.2.mem ((c.tc : Thread Cert.Reference5Ideal.nD Cert.Reference5Ideal.τ).loc Cert.Reference5Ideal.main_v57) = v2 c
          ∧ r.2.mem ((c.tc : Thread Cert.Reference5Ideal.nD Cert.Reference5Ideal.τ).loc Cert.Reference5Ideal.main_v77) = v3 c
          ∧ r.2.mem ((c.tc : Thread Cert.Reference5Ideal.nD Cert.Reference5Ideal.τ).loc Cert.Reference5Ideal.main_v80) = v4 c
          ∧ r.2.mem ((c.tc : Thread Cert.Reference5Ideal.nD Cert.Reference5Ideal.τ).loc Cert.Reference5Ideal.main_v81) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)) (v5 : (c : Dev Cert.Kernel6Ideal.nD) → Buf (Elt Ideal) ((c.tc : Thread Cert.Kernel6Ideal.nD Cert.Kernel6Ideal.τ).loc Cert.Kernel6Ideal.main_v0_5)) (v6 : (c : Dev Cert.Kernel6Ideal.nD) → Buf (Elt Ideal) ((c.tc : Thread Cert.Kernel6Ideal.nD Cert.Kernel6Ideal.τ).loc Cert.Kernel6Ideal.main_v0_6)) (v7 : (c : Dev Cert.Kernel6Ideal.nD) → Buf (Elt Ideal) ((c.tc : Thread Cert.Kernel6Ideal.nD Cert.Kernel6Ideal.τ).loc Cert.Kernel6Ideal.main_v0_7)) (v8 : (c : Dev Cert.Kernel6Ideal.nD) → Buf (Elt Ideal) ((c.tc : Thread Cert.Kernel6Ideal.nD Cert.Kernel6Ideal.τ).loc Cert.Kernel6Ideal.main_v0_8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_v0_5) = v5 c
          ∧ r.2.mem ((c.tc : Thread Cert.Kernel6Ideal.nD Cert.Kernel6Ideal.τ).loc Cert.Kernel6Ideal.main_v0_6) = v6 c
          ∧ r.2.mem ((c.tc : Thread Cert.Kernel6Ideal.nD Cert.Kernel6Ideal.τ).loc Cert.Kernel6Ideal.main_v0_7) = v7 c
          ∧ r.2.mem ((c.tc : Thread Cert.Kernel6Ideal.nD Cert.Kernel6Ideal.τ).loc Cert.Kernel6Ideal.main_v0_8) = v8 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_v16) = v1 c
          ∧ r.2.mem ((c.tc : Thread Cert.Reference6Ideal.nD Cert.Reference6Ideal.τ).loc Cert.Reference6Ideal.main_v17) = v2 c
          ∧ r.2.mem ((c.tc : Thread Cert.Reference6Ideal.nD Cert.Reference6Ideal.τ).loc Cert.Reference6Ideal.main_v18) = v3 c
          ∧ r.2.mem ((c.tc : Thread Cert.Reference6Ideal.nD Cert.Reference6Ideal.τ).loc Cert.Reference6Ideal.main_v19) = v4 c
          ∧ r.2.mem ((c.tc : Thread Cert.Reference6Ideal.nD Cert.Reference6Ideal.τ).loc Cert.Reference6Ideal.main_v20) = v5 c
          ∧ r.2.mem ((c.tc : Thread Cert.Reference6Ideal.nD Cert.Reference6Ideal.τ).loc Cert.Reference6Ideal.main_v21) = v6 c
          ∧ r.2.mem ((c.tc : Thread Cert.Reference6Ideal.nD Cert.Reference6Ideal.τ).loc Cert.Reference6Ideal.main_v22) = v7 c
          ∧ r.2.mem ((c.tc : Thread Cert.Reference6Ideal.nD Cert.Reference6Ideal.τ).loc Cert.Reference6Ideal.main_v23) = v8 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v81) = v0 c
          ∧ r.2.mem ((c.tc : Thread Cert.Reference7Ideal.nD Cert.Reference7Ideal.τ).loc Cert.Reference7Ideal.main_v64) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v63) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v50) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S4096x1024 : Shape := ⟨2, ![4096, 1024]⟩
abbrev S1x1024 : Shape := ⟨2, ![1, 1024]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bitsLt_bf16_f32 : FTy.bits .bf16 < FTy.bits .f32
  bcast_S_S2816x1024 : S_.BroadcastsInDim S2816x1024 (![] : Fin 0 → Fin S2816x1024.rank)

variable [Facts]

def fn_part1 {F : FTy → Type} [FloatOps F] (main_v2 : IVec S4096x1024 1) (main_v5 : IVec S1x1024 1) (main_v9 : IVec S2816x1024 1) (main_v13 : IVec S2816x1024 1) (main_v17 : IVec S2816x1024 1) (main_v18 : FVec F S4096x1024 .f32) : IVec S4096x1024 1 × IVec S1x1024 1 × IVec S2816x1024 1 × IVec S2816x1024 1 × IVec S2816x1024 1 × IVec S4096x1024 1 :=
  let main_cst_4 : FVec F S_ .f32 := constant S_ .f32 0x7F800000#32
  let main_v19 : FVec F S4096x1024 .f32 := broadcastInDim S4096x1024 ![] bcast_S_S4096x1024 main_cst_4
  let main_v20 : IVec S4096x1024 1 := cmpf .olt main_v18 main_v19
  (main_v2, main_v5, main_v9, main_v13, main_v17, main_v20)

def fn {F : FTy → Type} [FloatOps F] (main_arg0 : FVec F S4096x1024 .f32) (main_arg1 : FVec F S1x1024 .f32) (main_arg2 : FVec F S2816x1024 .bf16) (main_arg3 : FVec F S2816x1024 .bf16) (main_arg4 : FVec F S2816x1024 .bf16) (main_arg5 : FVec F S4096x1024 .f32) : IVec S4096x1024 1 × IVec S1x1024 1 × IVec S2816x1024 1 × IVec S2816x1024 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S2816x1024 .f32 := (extf .f32 · bitsLt_bf16_f32) main_arg2
  let main_v7 : FVec F S2816x1024 .f32 := Host.absf main_v6
  let main_cst_1 : FVec F S_ .f32 := constant S_ .f32 0x7F800000#32
  let main_v8 : FVec F S2816x1024 .f32 := broadcastInDim S2816x1024 ![] bcast_S_S2816x1024 main_cst_1
  let main_v9 : IVec S2816x1024 1 := cmpf .olt main_v7 main_v8
  let main_v10 : FVec F S2816x1024 .f32 := (extf .f32 · bitsLt_bf16_f32) main_arg3
  let main_v11 : FVec F S2816x1024 .f32 := Host.absf main_v10
  let main_cst_2 : FVec F S_ .f32 := constant S_ .f32 0x7F800000#32
  let main_v12 : FVec F S2816x1024 .f32 := broadcastInDim S2816x1024 ![] bcast_S_S2816x1024 main_cst_2
  let main_v13 : IVec S2816x1024 1 := cmpf .olt main_v11 main_v12
  let main_v14 : FVec F S2816x1024 .f32 := (extf .f32 · bitsLt_bf16_f32) main_arg4
  let main_v15 : FVec F S2816x1024 .f32 := Host.absf main_v14
  let main_cst_3 : FVec F S_ .f32 := constant S_ .f32 0x7F800000#32
  let main_v16 : FVec F S2816x1024 .f32 := broadcastInDim S2816x1024 ![] bcast_S_S2816x1024 main_cst_3
  let main_v17 : IVec S2816x1024 1 := cmpf .olt main_v15 main_v16
  let main_v18 : FVec F S4096x1024 .f32 := Host.absf main_arg5
  fn_part1 (F := F) main_v2 main_v5 main_v9 main_v13 main_v17 main_v18
-- ==== Kernel.lean ====
abbrev S4096x256 : Shape := ⟨2, ![4096, 256]⟩
abbrev S4096x512 : Shape := ⟨2, ![4096, 512]⟩
abbrev S4096x16 : Shape := ⟨2, ![4096, 16]⟩
abbrev S16x256 : Shape := ⟨2, ![16, 256]⟩
abbrev S1x256 : Shape := ⟨2, ![1, 256]⟩
abbrev S64x128x256 : Shape := ⟨3, ![64, 128, 256]⟩
abbrev S256x256 : Shape := ⟨2, ![256, 256]⟩
abbrev S256x512 : Shape := ⟨2, ![256, 512]⟩
abbrev S256x16 : Shape := ⟨2, ![256, 16]⟩
abbrev S4x128x256 : Shape := ⟨3, ![4, 128, 256]⟩
abbrev S128x256 : Shape := ⟨2, ![128, 256]⟩
abbrev S64x256 : Shape := ⟨2, ![64, 256]⟩
abbrev S64x16 : Shape := ⟨2, ![64, 16]⟩
abbrev S64x64 : Shape := ⟨2, ![64, 64]⟩
abbrev S1x128x256 : Shape := ⟨3, ![1, 128, 256]⟩
abbrev S64x128 : Shape := ⟨2, ![64, 128]⟩
abbrev S256 : Shape := ⟨1, ![256]⟩
abbrev S64x1 : Shape := ⟨2, ![64, 1]⟩

abbrev nBuf : Space → Nat
  | .hbm => 15
  | .vmem => 40
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x512, .f32⟩
  | .hbm, ⟨3, _⟩ => ⟨S4096x16, .f32⟩
  | .hbm, ⟨4, _⟩ => ⟨S16x256, .f32⟩
  | .hbm, ⟨5, _⟩ => ⟨S1x256, .f32⟩
  | .hbm, ⟨6, _⟩ => ⟨S4096x512, .bf16⟩
  | .hbm, ⟨7, _⟩ => ⟨S4096x512, .f32⟩
  | .hbm, ⟨8, _⟩ => ⟨S64x128x256, .f32⟩
  | .hbm, ⟨9, _⟩ => ⟨S4096x256, .bf16⟩
  | .hbm, ⟨10, _⟩ => ⟨S4096x256, .bf16⟩
  | .hbm, ⟨11, _⟩ => ⟨S4096x512, .bf16⟩
  | .hbm, ⟨12, _⟩ => ⟨S4096x16, .bf16⟩
  | .hbm, ⟨13, _⟩ => ⟨S16x256, .f32⟩
  | .hbm, ⟨14, _⟩ => ⟨S1x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x512, .f32⟩
  | .local _ .vmem, ⟨5, _⟩ => ⟨S256x512, .f32⟩
  | .local _ .vmem, ⟨6, _⟩ => ⟨S256x16, .f32⟩
  | .local _ .vmem, ⟨7, _⟩ => ⟨S256x16, .f32⟩
  | .local _ .vmem, ⟨8, _⟩ => ⟨S16x256, .f32⟩
  | .local _ .vmem, ⟨9, _⟩ => ⟨S1x256, .f32⟩
  | .local _ .vmem, ⟨10, _⟩ => ⟨S256x512, .f32⟩
  | .local _ .vmem, ⟨11, _⟩ => ⟨S256x512, .f32⟩
  | .local _ .vmem, ⟨12, _⟩ => ⟨S4x128x256, .f32⟩
  | .local _ .vmem, ⟨13, _⟩ => ⟨S4x128x256, .f32⟩
  | .local _ .vmem, ⟨14, _⟩ => ⟨S128x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x512, .f32⟩
  | .local _ .vmem, ⟨20, _⟩ => ⟨S256x512, .f32⟩
  | .local _ .vmem, ⟨21, _⟩ => ⟨S256x16, .f32⟩
  | .local _ .vmem, ⟨22, _⟩ => ⟨S256x16, .f32⟩
  | .local _ .vmem, ⟨23, _⟩ => ⟨S16x256, .f32⟩
  | .local _ .vmem, ⟨24, _⟩ => ⟨S1x256, .f32⟩
  | .local _ .vmem, ⟨25, _⟩ => ⟨S4x128x256, .f32⟩
  | .local _ .vmem, ⟨26, _⟩ => ⟨S4x128x256, .f32⟩
  | .local _ .vmem, ⟨27, _⟩ => ⟨S256x512, .bf16⟩
  | .local _ .vmem, ⟨28, _⟩ => ⟨S256x512, .bf16⟩
  | .local _ .vmem, ⟨29, _⟩ => ⟨S256x256, .bf16⟩
  | .local _ .vmem, ⟨30, _⟩ => ⟨S256x256, .bf16⟩
  | .local _ .vmem, ⟨31, _⟩ => ⟨S256x256, .bf16⟩
  | .local _ .vmem, ⟨32, _⟩ => ⟨S256x256, .bf16⟩
  | .local _ .vmem, ⟨33, _⟩ => ⟨S256x512, .bf16⟩
  | .local _ .vmem, ⟨34, _⟩ => ⟨S256x512, .bf16⟩
  | .local _ .vmem, ⟨35, _⟩ => ⟨S256x16, .bf16⟩
  | .local _ .vmem, ⟨36, _⟩ => ⟨S256x16, .bf16⟩
  | .local _ .vmem, ⟨37, _⟩ => ⟨S16x256, .f32⟩
  | .local _ .vmem, ⟨38, _⟩ => ⟨S1x256, .f32⟩
  | .local _ .vmem, ⟨39, _⟩ => ⟨S128x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg9_1 : Ref sig .tc := ⟨.vmem, 32, rfl⟩
abbrev cc1_stg10_0 : Ref sig .tc := ⟨.vmem, 33, rfl⟩
abbrev cc1_stg10_1 : Ref sig .tc := ⟨.vmem, 34, rfl⟩
abbrev cc1_stg11_0 : Ref sig .tc := ⟨.vmem, 35, rfl⟩
abbrev cc1_stg11_1 : Ref sig .tc := ⟨.vmem, 36, rfl⟩
abbrev cc1_stg12_0 : Ref sig .tc := ⟨.vmem, 37, rfl⟩
abbrev cc1_stg13_0 : Ref sig .tc := ⟨.vmem, 38, rfl⟩
abbrev cc1_scratch0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem10_1 : DmaSem sig := 33
abbrev cc1_sem11_0 : DmaSem sig := 34
abbrev cc1_sem11_1 : DmaSem sig := 35
abbrev cc1_sem12_0 : DmaSem sig := 36
abbrev cc1_sem13_0 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc1_transform_7 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S16x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4x128x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x256 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x512 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x16 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S16x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]
-- ==== ReferenceIdeal.lean ====
abbrev S4096x256 : Shape := ⟨2, ![4096, 256]⟩
abbrev S4096x512 : Shape := ⟨2, ![4096, 512]⟩
abbrev S4096x16 : Shape := ⟨2, ![4096, 16]⟩
abbrev S16x256 : Shape := ⟨2, ![16, 256]⟩
abbrev S1x256 : Shape := ⟨2, ![1, 256]⟩
abbrev S1x4096x256 : Shape := ⟨3, ![1, 4096, 256]⟩
abbrev S1x4096x512 : Shape := ⟨3, ![1, 4096, 512]⟩
abbrev S1x4096x16 : Shape := ⟨3, ![1, 4096, 16]⟩
abbrev S1x64x64x4x64 : Shape := ⟨5, ![1, 64, 64, 4, 64]⟩
abbrev S_ : Shape := ⟨0, ![]⟩
abbrev S1x64x64x4x128 : Shape := ⟨5, ![1, 64, 64, 4, 128]⟩
abbrev S1x1x256 : Shape := ⟨3, ![1, 1, 256]⟩
abbrev S1x64x1x4x64 : Shape := ⟨5, ![1, 64, 1, 4, 64]⟩
abbrev S1x64x4x64 : Shape := ⟨4, ![1, 64, 4, 64]⟩
abbrev S1x64x4x64x64 : Shape := ⟨5, ![1, 64, 4, 64, 64]⟩
abbrev S64x64 : Shape := ⟨2, ![64, 64]⟩
abbrev S1x64x4x128x64 : Shape := ⟨5, ![1, 64, 4, 128, 64]⟩
abbrev S1x64x4x64x128 : Shape := ⟨5, ![1, 64, 4, 64, 128]⟩
abbrev S1x4x64x128 : Shape := ⟨4, ![1, 4, 64, 128]⟩
abbrev S64x1x4x64 : Shape := ⟨4, ![64, 1, 4, 64]⟩
abbrev S64x1x4x64x128 : Shape := ⟨5, ![64, 1, 4, 64, 128]⟩
abbrev S64x1x4x64x1 : Shape := ⟨5, ![64, 1, 4, 64, 1]⟩
abbrev S1x1x4x64 : Shape := ⟨4, ![1, 1, 4, 64]⟩
abbrev S1x4x64 : Shape := ⟨3, ![1, 4, 64]⟩
abbrev S1x1x4x64x128 : Shape := ⟨5, ![1, 1, 4, 64, 128]⟩
abbrev S1x4x64x1 : Shape := ⟨4, ![1, 4, 64, 1]⟩
abbrev S1x1x4x64x1 : Shape := ⟨5, ![1, 1, 4, 64, 1]⟩
abbrev S4x64 : Shape := ⟨2, ![4, 64]⟩
abbrev S64x4x64 : Shape := ⟨3, ![64, 4, 64]⟩
abbrev S256 : Shape := ⟨1, ![256]⟩
abbrev S256x16 : Shape := ⟨2, ![256, 16]⟩

abbrev nBuf : Space → Nat
  | .hbm => 317
  | .vmem => 0
  | .smem => 0
  | _ => 0

abbrev hbmTy0_0 (i : Nat) : BufTy := match i % 128 with
  | 0 => ⟨S4096x256, .f32⟩
  | 1 => ⟨S4096x256, .f32⟩
  | 2 => ⟨S4096x512, .f32⟩
  | 3 => ⟨S4096x16, .f32⟩
  | 4 => ⟨S16x256, .f32⟩
  | 5 => ⟨S1x256, .f32⟩
  | 6 => ⟨S4096x512, .bf16⟩
  | 7 => ⟨S1x4096x256, .f32⟩
  | 8 => ⟨S1x4096x256, .f32⟩
  | 9 => ⟨S1x4096x512, .f32⟩
  | 10 => ⟨S1x4096x16, .f32⟩
  | 11 => ⟨S1x64x64x4x64, .f32⟩
  | 12 => ⟨S_, .f32⟩
  | 13 => ⟨S1x64x64x4x64, .f32⟩
  | 14 => ⟨S1x64x64x4x64, .f32⟩
  | 15 => ⟨S1x64x64x4x64, .f32⟩
  | 16 => ⟨S1x64x64x4x128, .f32⟩
  | 17 => ⟨S1x4096x256, .f32⟩
  | 18 => ⟨S1x1x256, .f32⟩
  | 19 => ⟨S1x4096x256, .f32⟩
  | 20 => ⟨S1x4096x256, .f32⟩
  | 21 => ⟨S1x4096x256, .f32⟩
  | 22 => ⟨S_, .f32⟩
  | 23 => ⟨S1x4096x256, .f32⟩
  | 24 => ⟨S1x4096x256, .f32⟩
  | 25 => ⟨S1x4096x256, .f32⟩
  | 26 => ⟨S1x4096x256, .f32⟩
  | 27 => ⟨S1x4096x256, .i1⟩
  | 28 => ⟨S1x4096x256, .f32⟩
  | 29 => ⟨S1x4096x256, .f32⟩
  | 30 => ⟨S1x4096x256, .f32⟩
  | 31 => ⟨S1x4096x256, .f32⟩
  | 32 => ⟨S1x4096x256, .f32⟩
  | 33 => ⟨S1x4096x256, .f32⟩
  | 34 => ⟨S1x4096x256, .f32⟩
  | 35 => ⟨S1x4096x256, .f32⟩
  | 36 => ⟨S_, .f32⟩
  | 37 => ⟨S1x4096x256, .f32⟩
  | 38 => ⟨S1x4096x256, .i1⟩
  | 39 => ⟨S_, .f32⟩
  | 40 => ⟨S1x4096x256, .f32⟩
  | 41 => ⟨S1x4096x256, .f32⟩
  | 42 => ⟨S_, .f32⟩
  | 43 => ⟨S1x4096x256, .f32⟩
  | 44 => ⟨S1x4096x256, .i1⟩
  | 45 => ⟨S_, .f32⟩
  | 46 => ⟨S1x4096x256, .f32⟩
  | 47 => ⟨S1x4096x256, .f32⟩
  | 48 => ⟨S1x4096x256, .f32⟩
  | 49 => ⟨S1x4096x256, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S1x4096x256, .f32⟩
  | 58 => ⟨S1x4096x256, .i1⟩
  | 59 => ⟨S_, .f32⟩
  | 60 => ⟨S1x4096x256, .f32⟩
  | 61 => ⟨S1x4096x256, .f32⟩
  | 62 => ⟨S1x4096x256, .f32⟩
  | 63 => ⟨S1x4096x256, .f32⟩
  | 64 => ⟨S1x4096x256, .f32⟩
  | 65 => ⟨S_, .f32⟩
  | 66 => ⟨S1x4096x256, .f32⟩
  | 67 => ⟨S1x4096x256, .f32⟩
  | 68 => ⟨S1x4096x256, .f32⟩
  | 69 => ⟨S_, .f32⟩
  | 70 => ⟨S1x4096x256, .f32⟩
  | 71 => ⟨S1x4096x256, .f32⟩
  | 72 => ⟨S1x64x64x4x64, .f32⟩
  | 73 => ⟨S_, .f32⟩
  | 74 => ⟨S_, .f32⟩
  | 75 => ⟨S1x64x64x4x64, .f32⟩
  | 76 => ⟨S1x64x1x4x64, .f32⟩
  | 77 => ⟨S1x64x4x64, .f32⟩
  | 78 => ⟨S1x64x64x4x64, .f32⟩
  | 79 => ⟨S1x64x64x4x64, .f32⟩
  | 80 => ⟨S1x64x64x4x64, .f32⟩
  | 81 => ⟨S1x64x64x4x64, .f32⟩
  | 82 => ⟨S1x64x64x4x64, .f32⟩
  | 83 => ⟨S1x64x4x64x64, .f32⟩
  | 84 => ⟨S_, .i1⟩
  | 85 => ⟨S64x64, .i1⟩
  | 86 => ⟨S64x64, .i32⟩
  | 87 => ⟨S_, .i32⟩
  | 88 => ⟨S64x64, .i32⟩
  | 89 => ⟨S64x64, .i32⟩
  | 90 => ⟨S64x64, .i32⟩
  | 91 => ⟨S64x64, .i1⟩
  | 92 => ⟨S_, .i1⟩
  | 93 => ⟨S64x64, .i1⟩
  | 94 => ⟨S64x64, .i1⟩
  | 95 => ⟨S_, .f32⟩
  | 96 => ⟨S_, .f32⟩
  | 97 => ⟨S1x64x4x64x64, .i1⟩
  | 98 => ⟨S1x64x4x64x64, .f32⟩
  | 99 => ⟨S1x64x4x64x64, .f32⟩
  | 100 => ⟨S_, .f32⟩
  | 101 => ⟨S1x64x4x64x64, .f32⟩
  | 102 => ⟨S1x64x4x128x64, .f32⟩
  | 103 => ⟨S1x64x64x4x128, .f32⟩
  | 104 => ⟨S1x64x1x4x64, .f32⟩
  | 105 => ⟨S1x64x64x4x64, .f32⟩
  | 106 => ⟨S1x64x64x4x64, .f32⟩
  | 107 => ⟨S1x64x64x4x64, .f32⟩
  | 108 => ⟨S1x64x64x4x64, .f32⟩
  | 109 => ⟨S1x64x4x64x128, .f32⟩
  | 110 => ⟨S1x64x4x64, .f32⟩
  | 111 => ⟨S_, .f32⟩
  | 112 => ⟨S1x4x64x128, .f32⟩
  | 113 => ⟨S64x1x4x64, .f32⟩
  | 114 => ⟨S64x1x4x64x128, .f32⟩
  | 115 => ⟨S_, .f32⟩
  | 116 => ⟨S64x1x4x64x128, .f32⟩
  | 117 => ⟨S_, .f32⟩
  | 118 => ⟨S64x1x4x64x1, .f32⟩
  | 119 => ⟨S_, .i32⟩
  | 120 => ⟨S64x1x4x64, .f32⟩
  | 121 => ⟨S64x1x4x64x128, .f32⟩
  | 122 => ⟨S_, .i32⟩
  | 123 => ⟨S1x4x64x128, .f32⟩
  | 124 => ⟨S64x1x4x64x128, .f32⟩
  | 125 => ⟨S64x1x4x64x1, .f32⟩
  | 126 => ⟨S_, .i32⟩
  | 127 => ⟨S_, .i1⟩
  | _ => ⟨S4096x256, .f32⟩

abbrev hbmTy0_1 (i : Nat) : BufTy := match i % 128 with
  | 0 => ⟨S_, .i32⟩
  | 1 => ⟨S_, .i32⟩
  | 2 => ⟨S_, .i32⟩
  | 3 => ⟨S1x1x4x64, .f32⟩
  | 4 => ⟨S1x4x64, .f32⟩
  | 5 => ⟨S_, .i32⟩
  | 6 => ⟨S_, .i32⟩
  | 7 => ⟨S_, .i32⟩
  | 8 => ⟨S_, .i32⟩
  | 9 => ⟨S1x1x4x64x128, .f32⟩
  | 10 => ⟨S1x4x64x128, .f32⟩
  | 11 => ⟨S1x4x64x1, .f32⟩
  | 12 => ⟨S1x4x64x128, .f32⟩
  | 13 => ⟨S1x4x64x128, .f32⟩
  | 14 => ⟨S1x4x64x128, .f32⟩
  | 15 => ⟨S1x1x4x64x128, .f32⟩
  | 16 => ⟨S_, .i32⟩
  | 17 => ⟨S_, .i32⟩
  | 18 => ⟨S_, .i32⟩
  | 19 => ⟨S_, .i32⟩
  | 20 => ⟨S64x1x4x64x128, .f32⟩
  | 21 => ⟨S1x1x4x64x1, .f32⟩
  | 22 => ⟨S_, .i32⟩
  | 23 => ⟨S_, .i32⟩
  | 24 => ⟨S_, .i32⟩
  | 25 => ⟨S_, .i32⟩
  | 26 => ⟨S64x1x4x64x1, .f32⟩
  | 27 => ⟨S_, .i32⟩
  | 28 => ⟨S_, .i32⟩
  | 29 => ⟨S1x64x4x64x128, .f32⟩
  | 30 => ⟨S1x64x4x128x64, .f32⟩
  | 31 => ⟨S1x64x64x4x128, .f32⟩
  | 32 => ⟨S1x64x64x4x128, .f32⟩
  | 33 => ⟨S1x4096x512, .f32⟩
  | 34 => ⟨S4096x512, .f32⟩
  | 35 => ⟨S4096x512, .f32⟩
  | 36 => ⟨S_, .f32⟩
  | 37 => ⟨S1x4x64x128, .f32⟩
  | 38 => ⟨S1x4096x512, .f32⟩
  | 39 => ⟨S1x64x64x4x128, .f32⟩
  | 40 => ⟨S1x64x4x128x64, .f32⟩
  | 41 => ⟨S1x64x4x64x64, .f32⟩
  | 42 => ⟨S1x64x64x4x64, .f32⟩
  | 43 => ⟨S1x64x4x128x64, .f32⟩
  | 44 => ⟨S1x64x4x64x128, .f32⟩
  | 45 => ⟨S64x1x4x64x128, .f32⟩
  | 46 => ⟨S_, .f32⟩
  | 47 => ⟨S1x4x64x128, .f32⟩
  | 48 => ⟨S_, .f32⟩
  | 49 => ⟨S64x1x4x64, .f32⟩
  | 50 => ⟨S_, .f32⟩
  | 51 => ⟨S64x1x4x64x128, .f32⟩
  | 52 => ⟨S_, .i32⟩
  | 53 => ⟨S64x1x4x64x128, .f32⟩
  | 54 => ⟨S64x1x4x64x128, .f32⟩
  | 55 => ⟨S64x1x4x64x1, .f32⟩
  | 56 => ⟨S_, .i32⟩
  | 57 => ⟨S1x4x64x128, .f32⟩
  | 58 => ⟨S64x1x4x64, .f32⟩
  | 59 => ⟨S64x1x4x64x128, .f32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S1x1x4x64x128, .f32⟩
  | 71 => ⟨S1x4x64x128, .f32⟩
  | 72 => ⟨S_, .i32⟩
  | 73 => ⟨S_, .i32⟩
  | 74 => ⟨S_, .i32⟩
  | 75 => ⟨S_, .i32⟩
  | 76 => ⟨S1x1x4x64x128, .f32⟩
  | 77 => ⟨S1x4x64x128, .f32⟩
  | 78 => ⟨S_, .i32⟩
  | 79 => ⟨S_, .i32⟩
  | 80 => ⟨S_, .i32⟩
  | 81 => ⟨S_, .i32⟩
  | 82 => ⟨S1x1x4x64x1, .f32⟩
  | 83 => ⟨S1x4x64x1, .f32⟩
  | 84 => ⟨S1x4x64x128, .f32⟩
  | 85 => ⟨S1x4x64x128, .f32⟩
  | 86 => ⟨S1x4x64x128, .f32⟩
  | 87 => ⟨S1x4x64x128, .f32⟩
  | 88 => ⟨S_, .f32⟩
  | 89 => ⟨S1x4x64, .f32⟩
  | 90 => ⟨S1x4x64x1, .f32⟩
  | 91 => ⟨S_, .f32⟩
  | 92 => ⟨S4x64, .f32⟩
  | 93 => ⟨S1x4x64, .f32⟩
  | 94 => ⟨S1x1x4x64, .f32⟩
  | 95 => ⟨S_, .i32⟩
  | 96 => ⟨S_, .i32⟩
  | 97 => ⟨S_, .i32⟩
  | 98 => ⟨S64x1x4x64, .f32⟩
  | 99 => ⟨S1x1x4x64x128, .f32⟩
  | 100 => ⟨S_, .i32⟩
  | 101 => ⟨S_, .i32⟩
  | 102 => ⟨S_, .i32⟩
  | 103 => ⟨S_, .i32⟩
  | 104 => ⟨S64x1x4x64x128, .f32⟩
  | 105 => ⟨S_, .i32⟩
  | 106 => ⟨S_, .i32⟩
  | 107 => ⟨S1x64x4x64x128, .f32⟩
  | 108 => ⟨S1x64x4x64, .f32⟩
  | 109 => ⟨S1x64x4x64, .f32⟩
  | 110 => ⟨S1x64x4x128x64, .f32⟩
  | 111 => ⟨S1x64x64x4x128, .f32⟩
  | 112 => ⟨S1x64x4x64x64, .f32⟩
  | 113 => ⟨S1x64x64x4x64, .f32⟩
  | 114 => ⟨S1x64x64x4x64, .f32⟩
  | 115 => ⟨S1x64x64x4x64, .f32⟩
  | 116 => ⟨S1x64x64x4x64, .f32⟩
  | 117 => ⟨S_, .f32⟩
  | 118 => ⟨S1x64x4x64, .f32⟩
  | 119 => ⟨S1x64x1x4x64, .f32⟩
  | 120 => ⟨S1x64x64x4x64, .f32⟩
  | 121 => ⟨S_, .f32⟩
  | 122 => ⟨S64x4x64, .f32⟩
  | 123 => ⟨S1x64x4x64, .f32⟩
  | 124 => ⟨S1x64x4x64, .f32⟩
  | 125 => ⟨S1x64x4x128x64, .f32⟩
  | 126 => ⟨S1x64x4x64x64, .f32⟩
  | 127 => ⟨S1x64x4x128x64, .f32⟩
  | _ => ⟨S4096x256, .f32⟩

abbrev hbmTy0_2 (i : Nat) : BufTy := match i % 128 with
  | 0 => ⟨S1x64x64x4x128, .f32⟩
  | 1 => ⟨S1x64x64x4x128, .f32⟩
  | 2 => ⟨S_, .f32⟩
  | 3 => ⟨S1x64x4x64x64, .f32⟩
  | 4 => ⟨S1x64x4x64x64, .f32⟩
  | 5 => ⟨S1x64x4x64x64, .f32⟩
  | 6 => ⟨S1x64x64x4x64, .f32⟩
  | 7 => ⟨S1x64x4x64x64, .f32⟩
  | 8 => ⟨S1x64x64x4x64, .f32⟩
  | 9 => ⟨S1x64x64x4x64, .f32⟩
  | 10 => ⟨S1x64x64x4x64, .f32⟩
  | 11 => ⟨S1x64x64x4x64, .f32⟩
  | 12 => ⟨S1x64x64x4x64, .f32⟩
  | 13 => ⟨S1x64x64x4x64, .f32⟩
  | 14 => ⟨S1x64x64x4x64, .f32⟩
  | 15 => ⟨S1x64x64x4x64, .f32⟩
  | 16 => ⟨S1x64x64x4x64, .f32⟩
  | 17 => ⟨S1x64x64x4x64, .f32⟩
  | 18 => ⟨S1x64x64x4x64, .f32⟩
  | 19 => ⟨S1x64x64x4x64, .f32⟩
  | 20 => ⟨S1x64x1x4x64, .f32⟩
  | 21 => ⟨S_, .f32⟩
  | 22 => ⟨S1x64x64x4x64, .f32⟩
  | 23 => ⟨S1x64x64x4x64, .f32⟩
  | 24 => ⟨S_, .f32⟩
  | 25 => ⟨S_, .f32⟩
  | 26 => ⟨S1x64x64x4x64, .f32⟩
  | 27 => ⟨S1x4096x256, .f32⟩
  | 28 => ⟨S_, .f32⟩
  | 29 => ⟨S1x4096x256, .f32⟩
  | 30 => ⟨S1x4096x256, .f32⟩
  | 31 => ⟨S1x4096x256, .f32⟩
  | 32 => ⟨S1x4096x256, .f32⟩
  | 33 => ⟨S1x4096x256, .f32⟩
  | 34 => ⟨S_, .f32⟩
  | 35 => ⟨S1x256, .f32⟩
  | 36 => ⟨S1x1x256, .f32⟩
  | 37 => ⟨S_, .f32⟩
  | 38 => ⟨S256, .f32⟩
  | 39 => ⟨S1x256, .f32⟩
  | 40 => ⟨S256x16, .f32⟩
  | 41 => ⟨S16x256, .f32⟩
  | 42 => ⟨S1x4096x16, .f32⟩
  | 43 => ⟨S1x4096x512, .f32⟩
  | 44 => ⟨S1x4096x256, .f32⟩
  | 45 => ⟨S_, .f32⟩
  | 46 => ⟨S1x64x64x4x64, .f32⟩
  | 47 => ⟨S1x64x64x4x64, .f32⟩
  | 48 => ⟨S1x4096x256, .f32⟩
  | 49 => ⟨S_, .f32⟩
  | 50 => ⟨S4096x16, .f32⟩
  | 51 => ⟨S_, .f32⟩
  | 52 => ⟨S4096x512, .f32⟩
  | 53 => ⟨S_, .f32⟩
  | 54 => ⟨S4096x256, .f32⟩
  | 55 => ⟨S_, .f32⟩
  | 56 => ⟨S4096x256, .f32⟩
  | 57 => ⟨S4096x256, .bf16⟩
  | 58 => ⟨S4096x256, .bf16⟩
  | 59 => ⟨S4096x512, .bf16⟩
  | 60 => ⟨S4096x16, .bf16⟩
  | _ => ⟨S4096x256, .f32⟩

abbrev hbmTy (i : Nat) : BufTy := match i / 128 with
  | 0 => hbmTy0_0 i
  | 1 => hbmTy0_1 i
  | 2 => hbmTy0_2 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v13_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v13_2 : Ref sig .tc := ⟨.hbm, 67, rfl⟩
abbrev main_v13_0 : Ref sig .tc := ⟨.hbm, 68, rfl⟩
abbrev main_cst_0 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_call1_call0_cst : Ref sig .tc := ⟨.hbm, 73, rfl⟩
abbrev main_call1_call0_v0 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_c : Ref sig .tc := ⟨.hbm, 84, rfl⟩
abbrev main_v26 : Ref sig .tc := ⟨.hbm, 85, rfl⟩
abbrev main_call2_v0 : Ref sig .tc := ⟨.hbm, 86, rfl⟩
abbrev main_call2_c : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_c_0 : Ref sig .tc := ⟨.hbm, 92, rfl⟩
abbrev main_call2_v5 : Ref sig .tc := ⟨.hbm, 93, rfl⟩
abbrev main_v27 : Ref sig .tc := ⟨.hbm, 94, rfl⟩
abbrev main_cst_1 : Ref sig .tc := ⟨.hbm, 95, rfl⟩
abbrev main_call3_v0 : Ref sig .tc := ⟨.hbm, 96, rfl⟩
abbrev main_v28_1 : Ref sig .tc := ⟨.hbm, 97, rfl⟩
abbrev main_call3_v2 : Ref sig .tc := ⟨.hbm, 98, rfl⟩
abbrev main_v28_0 : Ref sig .tc := ⟨.hbm, 99, rfl⟩
abbrev main_call3_cst : Ref sig .tc := ⟨.hbm, 100, rfl⟩
abbrev main_v28_2 : Ref sig .tc := ⟨.hbm, 101, rfl⟩
abbrev main_v29 : Ref sig .tc := ⟨.hbm, 102, rfl⟩
abbrev main_v30 : Ref sig .tc := ⟨.hbm, 103, rfl⟩
abbrev main_v31 : Ref sig .tc := ⟨.hbm, 104, rfl⟩
abbrev main_v32 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_cst_2 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_cst_3 : Ref sig .tc := ⟨.hbm, 115, rfl⟩
abbrev main_v41 : Ref sig .tc := ⟨.hbm, 116, rfl⟩
abbrev main_cst_4 : Ref sig .tc := ⟨.hbm, 117, rfl⟩
abbrev main_v42 : Ref sig .tc := ⟨.hbm, 118, rfl⟩
abbrev main_c_5 : Ref sig .tc := ⟨.hbm, 119, rfl⟩
abbrev main_v43_0 : Ref sig .tc := ⟨.hbm, 120, rfl⟩
abbrev main_v43_1 : Ref sig .tc := ⟨.hbm, 121, rfl⟩
abbrev main_v43_2 : Ref sig .tc := ⟨.hbm, 122, rfl⟩
abbrev main_v43_3 : Ref sig .tc := ⟨.hbm, 123, rfl⟩
abbrev main_v43_4 : Ref sig .tc := ⟨.hbm, 124, rfl⟩
abbrev main_v43_5 : Ref sig .tc := ⟨.hbm, 125, rfl⟩
abbrev main_while0c_c_27 : Ref sig .tc := ⟨.hbm, 126, rfl⟩
abbrev main_while0c_v129 : Ref sig .tc := ⟨.hbm, 127, rfl⟩
abbrev main_while0b_call4_c : Ref sig .tc := ⟨.hbm, 128, rfl⟩
abbrev main_while0b_call4_c_0 : Ref sig .tc := ⟨.hbm, 129, rfl⟩
abbrev main_while0b_call4_c_1 : Ref sig .tc := ⟨.hbm, 130, rfl⟩
abbrev main_while0b_call4_v0 : Ref sig .tc := ⟨.hbm, 131, rfl⟩
abbrev main_while0b_v129 : Ref sig .tc := ⟨.hbm, 132, rfl⟩
abbrev main_while0b_call5_c : Ref sig .tc := ⟨.hbm, 133, rfl⟩
abbrev main_while0b_call5_c_0 : Ref sig .tc := ⟨.hbm, 134, rfl⟩
abbrev main_while0b_call5_c_1 : Ref sig .tc := ⟨.hbm, 135, rfl⟩
abbrev main_while0b_call5_c_2 : Ref sig .tc := ⟨.hbm, 136, rfl⟩
abbrev main_while0b_call5_v0 : Ref sig .tc := ⟨.hbm, 137, rfl⟩
abbrev main_while0b_v130 : Ref sig .tc := ⟨.hbm, 138, rfl⟩
abbrev main_while0b_v131 : Ref sig .tc := ⟨.hbm, 139, rfl⟩
abbrev main_while0b_v132 : Ref sig .tc := ⟨.hbm, 140, rfl⟩
abbrev main_while0b_v133 : Ref sig .tc := ⟨.hbm, 141, rfl⟩
abbrev main_while0b_v134 : Ref sig .tc := ⟨.hbm, 142, rfl⟩
abbrev main_while0b_call6_v0 : Ref sig .tc := ⟨.hbm, 143, rfl⟩
abbrev main_while0b_call6_c : Ref sig .tc := ⟨.hbm, 144, rfl⟩
abbrev main_while0b_call6_c_0 : Ref sig .tc := ⟨.hbm, 145, rfl⟩
abbrev main_while0b_call6_c_1 : Ref sig .tc := ⟨.hbm, 146, rfl⟩
abbrev main_while0b_call6_c_2 : Ref sig .tc := ⟨.hbm, 147, rfl⟩
abbrev main_while0b_v135 : Ref sig .tc := ⟨.hbm, 148, rfl⟩
abbrev main_while0b_call7_v0 : Ref sig .tc := ⟨.hbm, 149, rfl⟩
abbrev main_while0b_call7_c : Ref sig .tc := ⟨.hbm, 150, rfl⟩
abbrev main_while0b_call7_c_0 : Ref sig .tc := ⟨.hbm, 151, rfl⟩
abbrev main_while0b_call7_c_1 : Ref sig .tc := ⟨.hbm, 152, rfl⟩
abbrev main_while0b_call7_c_2 : Ref sig .tc := ⟨.hbm, 153, rfl⟩
abbrev main_while0b_v136 : Ref sig .tc := ⟨.hbm, 154, rfl⟩
abbrev main_while0b_c_27 : Ref sig .tc := ⟨.hbm, 155, rfl⟩
abbrev main_while0b_v137 : Ref sig .tc := ⟨.hbm, 156, rfl⟩
abbrev main_v44 : Ref sig .tc := ⟨.hbm, 157, rfl⟩
abbrev main_v45 : Ref sig .tc := ⟨.hbm, 158, rfl⟩
abbrev main_v46 : Ref sig .tc := ⟨.hbm, 159, rfl⟩
abbrev main_v47 : Ref sig .tc := ⟨.hbm, 160, rfl⟩
abbrev main_v48 : Ref sig .tc := ⟨.hbm, 161, rfl⟩
abbrev main_v49 : Ref sig .tc := ⟨.hbm, 162, rfl⟩
abbrev main_v50 : Ref sig .tc := ⟨.hbm, 163, rfl⟩
abbrev main_cst_6 : Ref sig .tc := ⟨.hbm, 164, rfl⟩
abbrev main_v51 : Ref sig .tc := ⟨.hbm, 165, rfl⟩
abbrev main_v52 : Ref sig .tc := ⟨.hbm, 166, rfl⟩
abbrev main_v53 : Ref sig .tc := ⟨.hbm, 167, rfl⟩
abbrev main_v54 : Ref sig .tc := ⟨.hbm, 168, rfl⟩
abbrev main_v55 : Ref sig .tc := ⟨.hbm, 169, rfl⟩
abbrev main_v56 : Ref sig .tc := ⟨.hbm, 170, rfl⟩
abbrev main_v57 : Ref sig .tc := ⟨.hbm, 171, rfl⟩
abbrev main_v58 : Ref sig .tc := ⟨.hbm, 172, rfl⟩
abbrev main_v59 : Ref sig .tc := ⟨.hbm, 173, rfl⟩
abbrev main_cst_7 : Ref sig .tc := ⟨.hbm, 174, rfl⟩
abbrev main_v60 : Ref sig .tc := ⟨.hbm, 175, rfl⟩
abbrev main_cst_8 : Ref sig .tc := ⟨.hbm, 176, rfl⟩
abbrev main_v61 : Ref sig .tc := ⟨.hbm, 177, rfl⟩
abbrev main_cst_9 : Ref sig .tc := ⟨.hbm, 178, rfl⟩
abbrev main_v62 : Ref sig .tc := ⟨.hbm, 179, rfl⟩
abbrev main_c_10 : Ref sig .tc := ⟨.hbm, 180, rfl⟩
abbrev main_v63_0 : Ref sig .tc := ⟨.hbm, 181, rfl⟩
abbrev main_v63_1 : Ref sig .tc := ⟨.hbm, 182, rfl⟩
abbrev main_v63_2 : Ref sig .tc := ⟨.hbm, 183, rfl⟩
abbrev main_v63_3 : Ref sig .tc := ⟨.hbm, 184, rfl⟩
abbrev main_v63_4 : Ref sig .tc := ⟨.hbm, 185, rfl⟩
abbrev main_v63_5 : Ref sig .tc := ⟨.hbm, 186, rfl⟩
abbrev main_v63_6 : Ref sig .tc := ⟨.hbm, 187, rfl⟩
abbrev main_while1c_c_28 : Ref sig .tc := ⟨.hbm, 188, rfl⟩
abbrev main_while1c_v129 : Ref sig .tc := ⟨.hbm, 189, rfl⟩
abbrev main_while1b_c_28 : Ref sig .tc := ⟨.hbm, 190, rfl⟩
abbrev main_while1b_v129 : Ref sig .tc := ⟨.hbm, 191, rfl⟩
abbrev main_while1b_c_29 : Ref sig .tc := ⟨.hbm, 192, rfl⟩
abbrev main_while1b_v130 : Ref sig .tc := ⟨.hbm, 193, rfl⟩
abbrev main_while1b_call8_c : Ref sig .tc := ⟨.hbm, 194, rfl⟩
abbrev main_while1b_call8_c_0 : Ref sig .tc := ⟨.hbm, 195, rfl⟩
abbrev main_while1b_call8_c_1 : Ref sig .tc := ⟨.hbm, 196, rfl⟩
abbrev main_while1b_call8_c_2 : Ref sig .tc := ⟨.hbm, 197, rfl⟩
abbrev main_while1b_call8_v0 : Ref sig .tc := ⟨.hbm, 198, rfl⟩
abbrev main_while1b_v131 : Ref sig .tc := ⟨.hbm, 199, rfl⟩
abbrev main_while1b_call9_c : Ref sig .tc := ⟨.hbm, 200, rfl⟩
abbrev main_while1b_call9_c_0 : Ref sig .tc := ⟨.hbm, 201, rfl⟩
abbrev main_while1b_call9_c_1 : Ref sig .tc := ⟨.hbm, 202, rfl⟩
abbrev main_while1b_call9_c_2 : Ref sig .tc := ⟨.hbm, 203, rfl⟩
abbrev main_while1b_call9_v0 : Ref sig .tc := ⟨.hbm, 204, rfl⟩
abbrev main_while1b_v132 : Ref sig .tc := ⟨.hbm, 205, rfl⟩
abbrev main_while1b_call10_c : Ref sig .tc := ⟨.hbm, 206, rfl⟩
abbrev main_while1b_call10_c_0 : Ref sig .tc := ⟨.hbm, 207, rfl⟩
abbrev main_while1b_call10_c_1 : Ref sig .tc := ⟨.hbm, 208, rfl⟩
abbrev main_while1b_call10_c_2 : Ref sig .tc := ⟨.hbm, 209, rfl⟩
abbrev main_while1b_call10_v0 : Ref sig .tc := ⟨.hbm, 210, rfl⟩
abbrev main_while1b_v133 : Ref sig .tc := ⟨.hbm, 211, rfl⟩
abbrev main_while1b_v134 : Ref sig .tc := ⟨.hbm, 212, rfl⟩
abbrev main_while1b_v135 : Ref sig .tc := ⟨.hbm, 213, rfl⟩
abbrev main_while1b_v136 : Ref sig .tc := ⟨.hbm, 214, rfl⟩
abbrev main_while1b_v137 : Ref sig .tc := ⟨.hbm, 215, rfl⟩
abbrev main_while1b_cst_30 : Ref sig .tc := ⟨.hbm, 216, rfl⟩
abbrev main_while1b_v138 : Ref sig .tc := ⟨.hbm, 217, rfl⟩
abbrev main_while1b_v139 : Ref sig .tc := ⟨.hbm, 218, rfl⟩
abbrev main_while1b_cst_31 : Ref sig .tc := ⟨.hbm, 219, rfl⟩
abbrev main_while1b_v140 : Ref sig .tc := ⟨.hbm, 220, rfl⟩
abbrev main_while1b_v141 : Ref sig .tc := ⟨.hbm, 221, rfl⟩
abbrev main_while1b_call11_v0 : Ref sig .tc := ⟨.hbm, 222, rfl⟩
abbrev main_while1b_call11_c : Ref sig .tc := ⟨.hbm, 223, rfl⟩
abbrev main_while1b_call11_c_0 : Ref sig .tc := ⟨.hbm, 224, rfl⟩
abbrev main_while1b_call11_c_1 : Ref sig .tc := ⟨.hbm, 225, rfl⟩
abbrev main_while1b_v142 : Ref sig .tc := ⟨.hbm, 226, rfl⟩
abbrev main_while1b_call12_v0 : Ref sig .tc := ⟨.hbm, 227, rfl⟩
abbrev main_while1b_call12_c : Ref sig .tc := ⟨.hbm, 228, rfl⟩
abbrev main_while1b_call12_c_0 : Ref sig .tc := ⟨.hbm, 229, rfl⟩
abbrev main_while1b_call12_c_1 : Ref sig .tc := ⟨.hbm, 230, rfl⟩
abbrev main_while1b_call12_c_2 : Ref sig .tc := ⟨.hbm, 231, rfl⟩
abbrev main_while1b_v143 : Ref sig .tc := ⟨.hbm, 232, rfl⟩
abbrev main_while1b_c_32 : Ref sig .tc := ⟨.hbm, 233, rfl⟩
abbrev main_while1b_v144 : Ref sig .tc := ⟨.hbm, 234, rfl⟩
abbrev main_v64 : Ref sig .tc := ⟨.hbm, 235, rfl⟩
abbrev main_v65 : Ref sig .tc := ⟨.hbm, 236, rfl⟩
abbrev main_v66 : Ref sig .tc := ⟨.hbm, 237, rfl⟩
abbrev main_v67 : Ref sig .tc := ⟨.hbm, 238, rfl⟩
abbrev main_v68 : Ref sig .tc := ⟨.hbm, 239, rfl⟩
abbrev main_v69 : Ref sig .tc := ⟨.hbm, 240, rfl⟩
abbrev main_v70 : Ref sig .tc := ⟨.hbm, 241, rfl⟩
abbrev main_v71 : Ref sig .tc := ⟨.hbm, 242, rfl⟩
abbrev main_v72 : Ref sig .tc := ⟨.hbm, 243, rfl⟩
abbrev main_v73 : Ref sig .tc := ⟨.hbm, 244, rfl⟩
abbrev main_cst_11 : Ref sig .tc := ⟨.hbm, 245, rfl⟩
abbrev main_v74 : Ref sig .tc := ⟨.hbm, 246, rfl⟩
abbrev main_v75 : Ref sig .tc := ⟨.hbm, 247, rfl⟩
abbrev main_v76 : Ref sig .tc := ⟨.hbm, 248, rfl⟩
abbrev main_cst_12 : Ref sig .tc := ⟨.hbm, 249, rfl⟩
abbrev main_v77 : Ref sig .tc := ⟨.hbm, 250, rfl⟩
abbrev main_v78 : Ref sig .tc := ⟨.hbm, 251, rfl⟩
abbrev main_v79 : Ref sig .tc := ⟨.hbm, 252, rfl⟩
abbrev main_v80 : Ref sig .tc := ⟨.hbm, 253, rfl⟩
abbrev main_v81 : Ref sig .tc := ⟨.hbm, 254, rfl⟩
abbrev main_v82 : Ref sig .tc := ⟨.hbm, 255, rfl⟩
abbrev main_v83 : Ref sig .tc := ⟨.hbm, 256, rfl⟩
abbrev main_v84 : Ref sig .tc := ⟨.hbm, 257, rfl⟩
abbrev main_call13_cst : Ref sig .tc := ⟨.hbm, 258, rfl⟩
abbrev main_call13_v0 : Ref sig .tc := ⟨.hbm, 259, rfl⟩
abbrev main_v85 : Ref sig .tc := ⟨.hbm, 260, rfl⟩
abbrev main_v86 : Ref sig .tc := ⟨.hbm, 261, rfl⟩
abbrev main_v87 : Ref sig .tc := ⟨.hbm, 262, rfl⟩
abbrev main_v88 : Ref sig .tc := ⟨.hbm, 263, rfl⟩
abbrev main_v89 : Ref sig .tc := ⟨.hbm, 264, rfl⟩
abbrev main_v90 : Ref sig .tc := ⟨.hbm, 265, rfl⟩
abbrev main_v91 : Ref sig .tc := ⟨.hbm, 266, rfl⟩
abbrev main_v92 : Ref sig .tc := ⟨.hbm, 267, rfl⟩
abbrev main_v93 : Ref sig .tc := ⟨.hbm, 268, rfl⟩
abbrev main_v94 : Ref sig .tc := ⟨.hbm, 269, rfl⟩
abbrev main_v95 : Ref sig .tc := ⟨.hbm, 270, rfl⟩
abbrev main_v96 : Ref sig .tc := ⟨.hbm, 271, rfl⟩
abbrev main_v97 : Ref sig .tc := ⟨.hbm, 272, rfl⟩
abbrev main_v98 : Ref sig .tc := ⟨.hbm, 273, rfl⟩
abbrev main_v99 : Ref sig .tc := ⟨.hbm, 274, rfl⟩
abbrev main_v100 : Ref sig .tc := ⟨.hbm, 275, rfl⟩
abbrev main_v101 : Ref sig .tc := ⟨.hbm, 276, rfl⟩
abbrev main_cst_13 : Ref sig .tc := ⟨.hbm, 277, rfl⟩
abbrev main_v102 : Ref sig .tc := ⟨.hbm, 278, rfl⟩
abbrev main_v103 : Ref sig .tc := ⟨.hbm, 279, rfl⟩
abbrev main_call14_call0_cst : Ref sig .tc := ⟨.hbm, 280, rfl⟩
abbrev main_call14_call0_v0 : Ref sig .tc := ⟨.hbm, 281, rfl⟩
abbrev main_v104 : Ref sig .tc := ⟨.hbm, 282, rfl⟩
abbrev main_v105 : Ref sig .tc := ⟨.hbm, 283, rfl⟩
abbrev main_cst_14 : Ref sig .tc := ⟨.hbm, 284, rfl⟩
abbrev main_v106 : Ref sig .tc := ⟨.hbm, 285, rfl⟩
abbrev main_v107 : Ref sig .tc := ⟨.hbm, 286, rfl⟩
abbrev main_call15_v0 : Ref sig .tc := ⟨.hbm, 287, rfl⟩
abbrev main_call15_v1 : Ref sig .tc := ⟨.hbm, 288, rfl⟩
abbrev main_v108 : Ref sig .tc := ⟨.hbm, 289, rfl⟩
abbrev main_cst_15 : Ref sig .tc := ⟨.hbm, 290, rfl⟩
abbrev main_v109 : Ref sig .tc := ⟨.hbm, 291, rfl⟩
abbrev main_v110 : Ref sig .tc := ⟨.hbm, 292, rfl⟩
abbrev main_cst_16 : Ref sig .tc := ⟨.hbm, 293, rfl⟩
abbrev main_v111 : Ref sig .tc := ⟨.hbm, 294, rfl⟩
abbrev main_v112 : Ref sig .tc := ⟨.hbm, 295, rfl⟩
abbrev main_v113 : Ref sig .tc := ⟨.hbm, 296, rfl⟩
abbrev main_v114 : Ref sig .tc := ⟨.hbm, 297, rfl⟩
abbrev main_v115 : Ref sig .tc := ⟨.hbm, 298, rfl⟩
abbrev main_v116 : Ref sig .tc := ⟨.hbm, 299, rfl⟩
abbrev main_v117 : Ref sig .tc := ⟨.hbm, 300, rfl⟩
abbrev main_cst_17 : Ref sig .tc := ⟨.hbm, 301, rfl⟩
abbrev main_v118 : Ref sig .tc := ⟨.hbm, 302, rfl⟩
abbrev main_v119 : Ref sig .tc := ⟨.hbm, 303, rfl⟩
abbrev main_v120 : Ref sig .tc := ⟨.hbm, 304, rfl⟩
abbrev main_cst_18 : Ref sig .tc := ⟨.hbm, 305, rfl⟩
abbrev main_v121 : Ref sig .tc := ⟨.hbm, 306, rfl⟩
abbrev main_cst_19 : Ref sig .tc := ⟨.hbm, 307, rfl⟩
abbrev main_v122 : Ref sig .tc := ⟨.hbm, 308, rfl⟩
abbrev main_cst_20 : Ref sig .tc := ⟨.hbm, 309, rfl⟩
abbrev main_v123 : Ref sig .tc := ⟨.hbm, 310, rfl⟩
abbrev main_cst_21 : Ref sig .tc := ⟨.hbm, 311, rfl⟩
abbrev main_v124 : Ref sig .tc := ⟨.hbm, 312, rfl⟩
abbrev main_v125 : Ref sig .tc := ⟨.hbm, 313, rfl⟩
abbrev main_v126 : Ref sig .tc := ⟨.hbm, 314, rfl⟩
abbrev main_v127 : Ref sig .tc := ⟨.hbm, 315, rfl⟩
abbrev main_v128 : Ref sig .tc := ⟨.hbm, 316, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩
-- ==== Kernel2.lean ====
abbrev S11x4096x256 : Shape := ⟨3, ![11, 4096, 256]⟩
abbrev S4096x1024 : Shape := ⟨2, ![4096, 1024]⟩
abbrev S2816x1024 : Shape := ⟨2, ![2816, 1024]⟩
abbrev S1x4096x256 : Shape := ⟨3, ![1, 4096, 256]⟩
abbrev S256x1024 : Shape := ⟨2, ![256, 1024]⟩
abbrev S1x512x256 : Shape := ⟨3, ![1, 512, 256]⟩
abbrev S512x256 : Shape := ⟨2, ![512, 256]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S11x4096x256, .bf16⟩
  | .hbm, ⟨1, _⟩ => ⟨S4096x1024, .bf16⟩
  | .hbm, ⟨2, _⟩ => ⟨S2816x1024, .bf16⟩
  | .local _ .vmem, ⟨0, _⟩ => ⟨S1x4096x256, .bf16⟩
  | .local _ .vmem, ⟨1, _⟩ => ⟨S1x4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .f32⟩
  | _, _ => ⟨S11x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def k0_mult1 : BitVec 32 :=
  let c0_i32 : BitVec 32 := 0#32
  let c512_i32 : BitVec 32 := 512#32
  let v4 : BitVec 32 := Scalar.muli c0_i32 c512_i32
  v4
def k0_off1 (c0_i32 : BitVec 32) : Fin 3 → Nat :=
  let c0_1 : Index := 0#32
  let c512_i32 : BitVec 32 := 512#32
  let v4 : BitVec 32 := Scalar.muli c0_i32 c512_i32
  let v5 : BitVec 32 := v4
  let v6 : Index := Scalar.indexCast v5
  let c0_2 : Index := 0#32
  ![0, v6.toNat, 0]
def k0_off2 (c0_i32 : BitVec 32) : Fin 2 → Nat :=
  let c512_i32 : BitVec 32 := 512#32
  let v4 : BitVec 32 := Scalar.muli c0_i32 c512_i32
  let v5 : BitVec 32 := v4
  let v10 : Index := Scalar.indexCast v5
  let c0_5 : Index := 0#32
  ![v10.toNat, 0]
def k0_mult2 : BitVec 32 :=
  let c1_i32 : BitVec 32 := 1#32
  let c512_i32_9 : BitVec 32 := 512#32
  let v17 : BitVec 32 := Scalar.muli c1_i32 c512_i32_9
  v17
def k0_mult3 : BitVec 32 :=
  let c2_i32 : BitVec 32 := 2#32
  let c512_i32_18 : BitVec 32 := 512#32
  let v30 : BitVec 32 := Scalar.muli c2_i32 c512_i32_18
  v30
def k0_mult4 : BitVec 32 :=
  let c3_i32 : BitVec 32 := 3#32
  let c512_i32_27 : BitVec 32 := 512#32
  let v43 : BitVec 32 := Scalar.muli c3_i32 c512_i32_27
  v43
def k0_mult5 : BitVec 32 :=
  let c4_i32 : BitVec 32 := 4#32
  let c512_i32_36 : BitVec 32 := 512#32
  let v56 : BitVec 32 := Scalar.muli c4_i32 c512_i32_36
  v56
def k0_mult6 : BitVec 32 :=
  let c5_i32 : BitVec 32 := 5#32
  let c512_i32_45 : BitVec 32 := 512#32
  let v69 : BitVec 32 := Scalar.muli c5_i32 c512_i32_45
  v69
def k0_mult7 : BitVec 32 :=
  let c6_i32 : BitVec 32 := 6#32
  let c512_i32_54 : BitVec 32 := 512#32
  let v82 : BitVec 32 := Scalar.muli c6_i32 c512_i32_54
  v82
def k0_mult8 : BitVec 32 :=
  let c7_i32 : BitVec 32 := 7#32
  let c512_i32_63 : BitVec 32 := 512#32
  let v95 : BitVec 32 := Scalar.muli c7_i32 c512_i32_63
  v95
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S11x4096x256 : Shape := ⟨3, ![11, 4096, 256]⟩
abbrev S4096x1024 : Shape := ⟨2, ![4096, 1024]⟩
abbrev S4096x11x256 : Shape := ⟨3, ![4096, 11, 256]⟩
abbrev S4096x2816 : Shape := ⟨2, ![4096, 2816]⟩
abbrev S_ : Shape := ⟨0, ![]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S11x4096x256, .bf16⟩
  | .hbm, ⟨1, _⟩ => ⟨S4096x1024, .bf16⟩
  | .hbm, ⟨2, _⟩ => ⟨S11x4096x256, .f32⟩
  | .hbm, ⟨3, _⟩ => ⟨S4096x11x256, .f32⟩
  | .hbm, ⟨4, _⟩ => ⟨S4096x2816, .f32⟩
  | .hbm, ⟨5, _⟩ => ⟨S_, .f32⟩
  | .hbm, ⟨6, _⟩ => ⟨S2816x1024, .f32⟩
  | .hbm, ⟨7, _⟩ => ⟨S4096x1024, .f32⟩
  | .hbm, ⟨8, _⟩ => ⟨S1024x2816, .f32⟩
  | .hbm, ⟨9, _⟩ => ⟨S4096x2816, .f32⟩
  | .hbm, ⟨10, _⟩ => ⟨S2816x1024, .f32⟩
  | .hbm, ⟨11, _⟩ => ⟨S1024x2816, .f32⟩
  | .hbm, ⟨12, _⟩ => ⟨S2816x1024, .f32⟩
  | .hbm, ⟨13, _⟩ => ⟨S2816x1024, .bf16⟩
  | _, _ => ⟨S11x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S2816x1024 : Shape := ⟨2, ![2816, 1024]⟩
abbrev S11x4096x256 : Shape := ⟨3, ![11, 4096, 256]⟩
abbrev S512x1024 : Shape := ⟨2, ![512, 1024]⟩
abbrev S11x512x256 : Shape := ⟨3, ![11, 512, 256]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S1x512x256 : Shape := ⟨3, ![1, 512, 256]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S4096x1024, .f32⟩
  | .hbm, ⟨6, _⟩ => ⟨S11x4096x256, .bf16⟩
  | .hbm, ⟨7, _⟩ => ⟨S11x4096x256, .bf16⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S11x512x256, .bf16⟩
  | .local _ .vmem, ⟨9, _⟩ => ⟨S11x512x256, .bf16⟩
  | .local _ .vmem, ⟨10, _⟩ => ⟨S11x512x256, .bf16⟩
  | .local _ .vmem, ⟨11, _⟩ => ⟨S11x512x256, .bf16⟩
  | .local _ .vmem, ⟨12, _⟩ => ⟨S512x1024, .bf16⟩
  | .local _ .vmem, ⟨13, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c256_i32 : BitVec 32 := 256#32
  let v17 : BitVec 32 := Scalar.muli c0_i32 c256_i32
  v17
def k0_off1 (c0_i32 : BitVec 32) : Fin 2 → Nat :=
  let c256_i32 : BitVec 32 := 256#32
  let v17 : BitVec 32 := Scalar.muli c0_i32 c256_i32
  let v18 : BitVec 32 := v17
  let v19 : Index := Scalar.indexCast v18
  let c0_9 : Index := 0#32
  ![v19.toNat, 0]
def k0_mult2 : BitVec 32 :=
  let c1_i32 : BitVec 32 := 1#32
  let c256_i32_24 : BitVec 32 := 256#32
  let v48 : BitVec 32 := Scalar.muli c1_i32 c256_i32_24
  v48
def k0_mult3 : BitVec 32 :=
  let c2_i32 : BitVec 32 := 2#32
  let c256_i32_40 : BitVec 32 := 256#32
  let v79 : BitVec 32 := Scalar.muli c2_i32 c256_i32_40
  v79
def k0_mult4 : BitVec 32 :=
  let c3_i32 : BitVec 32 := 3#32
  let c256_i32_56 : BitVec 32 := 256#32
  let v110 : BitVec 32 := Scalar.muli c3_i32 c256_i32_56
  v110
def k0_mult5 : BitVec 32 :=
  let c4_i32 : BitVec 32 := 4#32
  let c256_i32_72 : BitVec 32 := 256#32
  let v141 : BitVec 32 := Scalar.muli c4_i32 c256_i32_72
  v141
def k0_mult6 : BitVec 32 :=
  let c5_i32 : BitVec 32 := 5#32
  let c256_i32_88 : BitVec 32 := 256#32
  let v172 : BitVec 32 := Scalar.muli c5_i32 c256_i32_88
  v172
def k0_mult7 : BitVec 32 :=
  let c6_i32 : BitVec 32 := 6#32
  let c256_i32_104 : BitVec 32 := 256#32
  let v203 : BitVec 32 := Scalar.muli c6_i32 c256_i32_104
  v203
def k0_mult8 : BitVec 32 :=
  let c7_i32 : BitVec 32 := 7#32
  let c256_i32_120 : BitVec 32 := 256#32
  let v234 : BitVec 32 := Scalar.muli c7_i32 c256_i32_120
  v234
def k0_mult9 : BitVec 32 :=
  let c8_i32 : BitVec 32 := 8#32
  let c256_i32_136 : BitVec 32 := 256#32
  let v265 : BitVec 32 := Scalar.muli c8_i32 c256_i32_136
  v265
def k0_mult10 : BitVec 32 :=
  let c9_i32 : BitVec 32 := 9#32
  let c256_i32_152 : BitVec 32 := 256#32
  let v296 : BitVec 32 := Scalar.muli c9_i32 c256_i32_152
  v296
def k0_mult11 : BitVec 32 :=
  let c10_i32 : BitVec 32 := 10#32
  let c256_i32_168 : BitVec 32 := 256#32
  let v327 : BitVec 32 := Scalar.muli c10_i32 c256_i32_168
  v327
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S11x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S11x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S4096x1024 : Shape := ⟨2, ![4096, 1024]⟩
abbrev S1x1024 : Shape := ⟨2, ![1, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S4096x11x256 : Shape := ⟨3, ![4096, 11, 256]⟩
abbrev S11x4096x256 : Shape := ⟨3, ![11, 4096, 256]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S2816x1024, .f32⟩
  | .hbm, ⟨21, _⟩ => ⟨S1024x2816, .f32⟩
  | .hbm, ⟨22, _⟩ => ⟨S4096x2816, .f32⟩
  | .hbm, ⟨23, _⟩ => ⟨S2816x1024, .f32⟩
  | .hbm, ⟨24, _⟩ => ⟨S1024x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S2816x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x11x256, .f32⟩
  | .hbm, ⟨43, _⟩ => ⟨S11x4096x256, .f32⟩
  | .hbm, ⟨44, _⟩ => ⟨S11x4096x256, .bf16⟩
  | .hbm, ⟨45, _⟩ => ⟨S4096x11x256, .f32⟩
  | .hbm, ⟨46, _⟩ => ⟨S11x4096x256, .f32⟩
  | .hbm, ⟨47, _⟩ => ⟨S11x4096x256, .bf16⟩
  | .hbm, ⟨48, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S4096x11x256 : Shape := ⟨3, ![4096, 11, 256]⟩
abbrev S11x4096x256 : Shape := ⟨3, ![11, 4096, 256]⟩
abbrev S256x1024 : Shape := ⟨2, ![256, 1024]⟩
abbrev S11x256x256 : Shape := ⟨3, ![11, 256, 256]⟩
abbrev S256 : Shape := ⟨1, ![256]⟩
abbrev S256x1 : Shape := ⟨2, ![256, 1]⟩
abbrev S1x256x256 : Shape := ⟨3, ![1, 256, 256]⟩
abbrev S256x256 : Shape := ⟨2, ![256, 256]⟩
abbrev S1024 : Shape := ⟨1, ![1024]⟩

abbrev nBuf : Space → Nat
  | .hbm => 39
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S2816x1024, .f32⟩
  | .hbm, ⟨22, _⟩ => ⟨S1024x2816, .f32⟩
  | .hbm, ⟨23, _⟩ => ⟨S4096x2816, .f32⟩
  | .hbm, ⟨24, _⟩ => ⟨S4096x11x256, .f32⟩
  | .hbm, ⟨25, _⟩ => ⟨S11x4096x256, .f32⟩
  | .hbm, ⟨26, _⟩ => ⟨S11x4096x256, .bf16⟩
  | .hbm, ⟨27, _⟩ => ⟨S2816x1024, .f32⟩
  | .hbm, ⟨28, _⟩ => ⟨S1024x2816, .f32⟩
  | .hbm, ⟨29, _⟩ => ⟨S4096x2816, .f32⟩
  | .hbm, ⟨30, _⟩ => ⟨S4096x11x256, .f32⟩
  | .hbm, ⟨31, _⟩ => ⟨S11x4096x256, .f32⟩
  | .hbm, ⟨32, _⟩ => ⟨S11x4096x256, .bf16⟩
  | .hbm, ⟨33, _⟩ => ⟨S4096x1024, .f32⟩
  | .hbm, ⟨34, _⟩ => ⟨S1x1024, .f32⟩
  | .hbm, ⟨35, _⟩ => ⟨S11x4096x256, .bf16⟩
  | .hbm, ⟨36, _⟩ => ⟨S11x4096x256, .bf16⟩
  | .hbm, ⟨37, _⟩ => ⟨S11x4096x256, .bf16⟩
  | .hbm, ⟨38, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S11x256x256, .bf16⟩
  | .local _ .vmem, ⟨6, _⟩ => ⟨S11x256x256, .bf16⟩
  | .local _ .vmem, ⟨7, _⟩ => ⟨S11x256x256, .bf16⟩
  | .local _ .vmem, ⟨8, _⟩ => ⟨S11x256x256, .bf16⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S11x256x256, .bf16⟩
  | .local _ .vmem, ⟨16, _⟩ => ⟨S11x256x256, .bf16⟩
  | .local _ .vmem, ⟨17, _⟩ => ⟨S11x256x256, .bf16⟩
  | .local _ .vmem, ⟨18, _⟩ => ⟨S11x256x256, .bf16⟩
  | .local _ .vmem, ⟨19, _⟩ => ⟨S11x256x256, .bf16⟩
  | .local _ .vmem, ⟨20, _⟩ => ⟨S11x256x256, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev main_v24_2 : Ref sig .tc := ⟨.hbm, 35, rfl⟩
abbrev main_v24_3 : Ref sig .tc := ⟨.hbm, 36, rfl⟩
abbrev main_v24_4 : Ref sig .tc := ⟨.hbm, 37, rfl⟩
abbrev main_v24_5 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S11x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S11x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S11x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S11x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S11x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S4096x1024 : Shape := ⟨2, ![4096, 1024]⟩
abbrev S1x1024 : Shape := ⟨2, ![1, 1024]⟩
abbrev S2816x1024 : Shape := ⟨2, ![2816, 1024]⟩
abbrev S1024x2816 : Shape := ⟨2, ![1024, 2816]⟩
abbrev S_ : Shape := ⟨0, ![]⟩
abbrev S4096x2816 : Shape := ⟨2, ![4096, 2816]⟩
abbrev S4096 : Shape := ⟨1, ![4096]⟩
abbrev S4096x1 : Shape := ⟨2, ![4096, 1]⟩
abbrev S1024 : Shape := ⟨1, ![1024]⟩
abbrev S4096x11x256 : Shape := ⟨3, ![4096, 11, 256]⟩
abbrev S11x4096x256 : Shape := ⟨3, ![11, 4096, 256]⟩

abbrev nBuf : Space → Nat
  | .hbm => 106
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S4096x1024, .f32⟩
  | .hbm, ⟨6, _⟩ => ⟨S2816x1024, .f32⟩
  | .hbm, ⟨7, _⟩ => ⟨S1024x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S_, .f32⟩
  | .hbm, ⟨12, _⟩ => ⟨S4096x2816, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S_, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S4096x2816, .f32⟩
  | .hbm, ⟨63, _⟩ => ⟨S4096x2816, .f32⟩
  | .hbm, ⟨64, _⟩ => ⟨S4096x2816, .f32⟩
  | .hbm, ⟨65, _⟩ => ⟨S4096x1024, .f32⟩
  | .hbm, ⟨66, _⟩ => ⟨S4096x2816, .f32⟩
  | .hbm, ⟨67, _⟩ => ⟨S4096x2816, .f32⟩
  | .hbm, ⟨68, _⟩ => ⟨S4096x2816, .f32⟩
  | .hbm, ⟨69, _⟩ => ⟨S4096x2816, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x11x256, .f32⟩
  | .hbm, ⟨97, _⟩ => ⟨S11x4096x256, .f32⟩
  | .hbm, ⟨98, _⟩ => ⟨S11x4096x256, .bf16⟩
  | .hbm, ⟨99, _⟩ => ⟨S4096x11x256, .f32⟩
  | .hbm, ⟨100, _⟩ => ⟨S11x4096x256, .f32⟩
  | .hbm, ⟨101, _⟩ => ⟨S11x4096x256, .bf16⟩
  | .hbm, ⟨102, _⟩ => ⟨S4096x11x256, .f32⟩
  | .hbm, ⟨103, _⟩ => ⟨S11x4096x256, .f32⟩
  | .hbm, ⟨104, _⟩ => ⟨S11x4096x256, .bf16⟩
  | .hbm, ⟨105, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v24_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v24_1 : Ref sig .tc := ⟨.hbm, 47, rfl⟩
abbrev main_v24_0 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_6 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_7 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_8 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_cst_10 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S2816x1024 : Shape := ⟨2, ![2816, 1024]⟩
abbrev S1x1 : Shape := ⟨2, ![1, 1]⟩
abbrev S11x4096x256 : Shape := ⟨3, ![11, 4096, 256]⟩
abbrev S512x1024 : Shape := ⟨2, ![512, 1024]⟩
abbrev S11x512x256 : Shape := ⟨3, ![11, 512, 256]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S1x512x256 : Shape := ⟨3, ![1, 512, 256]⟩
abbrev S1024 : Shape := ⟨1, ![1024]⟩
abbrev S1 : Shape := ⟨1, ![1]⟩

abbrev nBuf : Space → Nat
  | .hbm => 13
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S1x1024, .f32⟩
  | .hbm, ⟨6, _⟩ => ⟨S4096x1024, .f32⟩
  | .hbm, ⟨7, _⟩ => ⟨S1x1, .f32⟩
  | .hbm, ⟨8, _⟩ => ⟨S4096x1024, .f32⟩
  | .hbm, ⟨9, _⟩ => ⟨S1x1024, .f32⟩
  | .hbm, ⟨10, _⟩ => ⟨S11x4096x256, .bf16⟩
  | .hbm, ⟨11, _⟩ => ⟨S11x4096x256, .bf16⟩
  | .hbm, ⟨12, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S11x512x256, .bf16⟩
  | .local _ .vmem, ⟨14, _⟩ => ⟨S11x512x256, .bf16⟩
  | .local _ .vmem, ⟨15, _⟩ => ⟨S11x512x256, .bf16⟩
  | .local _ .vmem, ⟨16, _⟩ => ⟨S11x512x256, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c256_i32 : BitVec 32 := 256#32
  let v19 : BitVec 32 := Scalar.muli c0_i32 c256_i32
  v19
def k0_off1 (c0_i32 : BitVec 32) : Fin 2 → Nat :=
  let c256_i32 : BitVec 32 := 256#32
  let v19 : BitVec 32 := Scalar.muli c0_i32 c256_i32
  let v20 : BitVec 32 := v19
  let v21 : Index := Scalar.indexCast v20
  let c0_9 : Index := 0#32
  ![v21.toNat, 0]
def k0_mult2 : BitVec 32 :=
  let c1_i32 : BitVec 32 := 1#32
  let c256_i32_24 : BitVec 32 := 256#32
  let v51 : BitVec 32 := Scalar.muli c1_i32 c256_i32_24
  v51
def k0_mult3 : BitVec 32 :=
  let c2_i32 : BitVec 32 := 2#32
  let c256_i32_40 : BitVec 32 := 256#32
  let v83 : BitVec 32 := Scalar.muli c2_i32 c256_i32_40
  v83
def k0_mult4 : BitVec 32 :=
  let c3_i32 : BitVec 32 := 3#32
  let c256_i32_56 : BitVec 32 := 256#32
  let v115 : BitVec 32 := Scalar.muli c3_i32 c256_i32_56
  v115
def k0_mult5 : BitVec 32 :=
  let c4_i32 : BitVec 32 := 4#32
  let c256_i32_72 : BitVec 32 := 256#32
  let v147 : BitVec 32 := Scalar.muli c4_i32 c256_i32_72
  v147
def k0_mult6 : BitVec 32 :=
  let c5_i32 : BitVec 32 := 5#32
  let c256_i32_88 : BitVec 32 := 256#32
  let v179 : BitVec 32 := Scalar.muli c5_i32 c256_i32_88
  v179
def k0_mult7 : BitVec 32 :=
  let c6_i32 : BitVec 32 := 6#32
  let c256_i32_104 : BitVec 32 := 256#32
  let v211 : BitVec 32 := Scalar.muli c6_i32 c256_i32_104
  v211
def k0_mult8 : BitVec 32 :=
  let c7_i32 : BitVec 32 := 7#32
  let c256_i32_120 : BitVec 32 := 256#32
  let v243 : BitVec 32 := Scalar.muli c7_i32 c256_i32_120
  v243
def k0_mult9 : BitVec 32 :=
  let c8_i32 : BitVec 32 := 8#32
  let c256_i32_136 : BitVec 32 := 256#32
  let v275 : BitVec 32 := Scalar.muli c8_i32 c256_i32_136
  v275
def k0_mult10 : BitVec 32 :=
  let c9_i32 : BitVec 32 := 9#32
  let c256_i32_152 : BitVec 32 := 256#32
  let v307 : BitVec 32 := Scalar.muli c9_i32 c256_i32_152
  v307
def k0_mult11 : BitVec 32 :=
  let c10_i32 : BitVec 32 := 10#32
  let c256_i32_168 : BitVec 32 := 256#32
  let v339 : BitVec 32 := Scalar.muli c10_i32 c256_i32_168
  v339
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S11x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S11x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference5Ideal.lean ====
abbrev S4096x1024 : Shape := ⟨2, ![4096, 1024]⟩
abbrev S1x1024 : Shape := ⟨2, ![1, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S1024 : Shape := ⟨1, ![1024]⟩
abbrev S1x1 : Shape := ⟨2, ![1, 1]⟩
abbrev S4096x11x256 : Shape := ⟨3, ![4096, 11, 256]⟩
abbrev S11x4096x256 : Shape := ⟨3, ![11, 4096, 256]⟩

abbrev nBuf : Space → Nat
  | .hbm => 117
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S2816x1024, .f32⟩
  | .hbm, ⟨23, _⟩ => ⟨S1024x2816, .f32⟩
  | .hbm, ⟨24, _⟩ => ⟨S4096x2816, .f32⟩
  | .hbm, ⟨25, _⟩ => ⟨S2816x1024, .f32⟩
  | .hbm, ⟨26, _⟩ => ⟨S1024x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S2816x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S_, .f32⟩
  | .hbm, ⟨71, _⟩ => ⟨S4096, .f32⟩
  | .hbm, ⟨72, _⟩ => ⟨S4096, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S4096, .f32⟩
  | .hbm, ⟨81, _⟩ => ⟨S_, .f32⟩
  | .hbm, ⟨82, _⟩ => ⟨S4096, .f32⟩
  | .hbm, ⟨83, _⟩ => ⟨S4096, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S_, .f32⟩
  | .hbm, ⟨94, _⟩ => ⟨S4096, .f32⟩
  | .hbm, ⟨95, _⟩ => ⟨S4096x1, .f32⟩
  | .hbm, ⟨96, _⟩ => ⟨S4096x1024, .f32⟩
  | .hbm, ⟨97, _⟩ => ⟨S4096x1024, .f32⟩
  | .hbm, ⟨98, _⟩ => ⟨S4096x1, .f32⟩
  | .hbm, ⟨99, _⟩ => ⟨S_, .f32⟩
  | .hbm, ⟨100, _⟩ => ⟨S4096x1, .f32⟩
  | .hbm, ⟨101, _⟩ => ⟨S4096x1, .f32⟩
  | .hbm, ⟨102, _⟩ => ⟨S_, .f32⟩
  | .hbm, ⟨103, _⟩ => ⟨S4096, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S4096x1024, .f32⟩
  | .hbm, ⟨108, _⟩ => ⟨S4096x1024, .f32⟩
  | .hbm, ⟨109, _⟩ => ⟨S1x1, .f32⟩
  | .hbm, ⟨110, _⟩ => ⟨S4096x11x256, .f32⟩
  | .hbm, ⟨111, _⟩ => ⟨S11x4096x256, .f32⟩
  | .hbm, ⟨112, _⟩ => ⟨S11x4096x256, .bf16⟩
  | .hbm, ⟨113, _⟩ => ⟨S4096x11x256, .f32⟩
  | .hbm, ⟨114, _⟩ => ⟨S11x4096x256, .f32⟩
  | .hbm, ⟨115, _⟩ => ⟨S11x4096x256, .bf16⟩
  | .hbm, ⟨116, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_cst_11 : Ref sig .tc := ⟨.hbm, 75, rfl⟩
abbrev main_v48 : Ref sig .tc := ⟨.hbm, 76, rfl⟩
abbrev main_cst_12 : Ref sig .tc := ⟨.hbm, 77, rfl⟩
abbrev main_cst_13 : Ref sig .tc := ⟨.hbm, 78, rfl⟩
abbrev main_v49 : Ref sig .tc := ⟨.hbm, 79, rfl⟩
abbrev main_v50 : Ref sig .tc := ⟨.hbm, 80, rfl⟩
abbrev main_cst_14 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_15 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_16 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_17 : Ref sig .tc := ⟨.hbm, 99, rfl⟩
abbrev main_v66 : Ref sig .tc := ⟨.hbm, 100, rfl⟩
abbrev main_v67 : Ref sig .tc := ⟨.hbm, 101, rfl⟩
abbrev main_cst_18 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S4112x1024 : Shape := ⟨2, ![4112, 1024]⟩
abbrev S4096x512 : Shape := ⟨2, ![4096, 512]⟩
abbrev S4096x256 : Shape := ⟨2, ![4096, 256]⟩
abbrev S4096x16 : Shape := ⟨2, ![4096, 16]⟩
abbrev S512x1024 : Shape := ⟨2, ![512, 1024]⟩
abbrev S512x512 : Shape := ⟨2, ![512, 512]⟩
abbrev S512x256 : Shape := ⟨2, ![512, 256]⟩
abbrev S512x16 : Shape := ⟨2, ![512, 16]⟩
abbrev S512 : Shape := ⟨1, ![512]⟩
abbrev S512x1 : Shape := ⟨2, ![512, 1]⟩
abbrev S256x1024 : Shape := ⟨2, ![256, 1024]⟩
abbrev S16x1024 : Shape := ⟨2, ![16, 1024]⟩
abbrev S1024x1024 : Shape := ⟨2, ![1024, 1024]⟩

abbrev nBuf : Space → Nat
  | .hbm => 12
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4112x1024, .bf16⟩
  | .hbm, ⟨3, _⟩ => ⟨S4096x1024, .bf16⟩
  | .hbm, ⟨4, _⟩ => ⟨S4096x512, .f32⟩
  | .hbm, ⟨5, _⟩ => ⟨S4096x256, .f32⟩
  | .hbm, ⟨6, _⟩ => ⟨S4096x256, .f32⟩
  | .hbm, ⟨7, _⟩ => ⟨S4096x512, .f32⟩
  | .hbm, ⟨8, _⟩ => ⟨S4096x512, .f32⟩
  | .hbm, ⟨9, _⟩ => ⟨S4096x16, .f32⟩
  | .hbm, ⟨10, _⟩ => ⟨S4096x1024, .f32⟩
  | .hbm, ⟨11, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4112x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .f32⟩
  | .local _ .vmem, ⟨7, _⟩ => ⟨S512x512, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x16, .f32⟩
  | .local _ .vmem, ⟨17, _⟩ => ⟨S512x16, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v0_7 : Ref sig .tc := ⟨.hbm, 10, rfl⟩
abbrev main_v0_8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4112x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference6Ideal.lean ====
abbrev S4096x1024 : Shape := ⟨2, ![4096, 1024]⟩
abbrev S1x1024 : Shape := ⟨2, ![1, 1024]⟩
abbrev S4112x1024 : Shape := ⟨2, ![4112, 1024]⟩
abbrev S_ : Shape := ⟨0, ![]⟩
abbrev S4096 : Shape := ⟨1, ![4096]⟩
abbrev S4096x1 : Shape := ⟨2, ![4096, 1]⟩
abbrev S1024x4112 : Shape := ⟨2, ![1024, 4112]⟩
abbrev S4096x4112 : Shape := ⟨2, ![4096, 4112]⟩
abbrev S4096x512 : Shape := ⟨2, ![4096, 512]⟩
abbrev S4096x256 : Shape := ⟨2, ![4096, 256]⟩
abbrev S4096x16 : Shape := ⟨2, ![4096, 16]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4112x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4112x1024, .f32⟩
  | .hbm, ⟨20, _⟩ => ⟨S1024x4112, .f32⟩
  | .hbm, ⟨21, _⟩ => ⟨S4096x4112, .f32⟩
  | .hbm, ⟨22, _⟩ => ⟨S4096x512, .f32⟩
  | .hbm, ⟨23, _⟩ => ⟨S4096x256, .f32⟩
  | .hbm, ⟨24, _⟩ => ⟨S4096x256, .f32⟩
  | .hbm, ⟨25, _⟩ => ⟨S4096x512, .f32⟩
  | .hbm, ⟨26, _⟩ => ⟨S4096x512, .f32⟩
  | .hbm, ⟨27, _⟩ => ⟨S4096x16, .f32⟩
  | .hbm, ⟨28, _⟩ => ⟨S4096x1024, .f32⟩
  | .hbm, ⟨29, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel7.lean ====
abbrev S4096x1024 : Shape := ⟨2, ![4096, 1024]⟩
abbrev S1x1024 : Shape := ⟨2, ![1, 1024]⟩
abbrev S4112x1024 : Shape := ⟨2, ![4112, 1024]⟩
abbrev S4096x512 : Shape := ⟨2, ![4096, 512]⟩
abbrev S4096x256 : Shape := ⟨2, ![4096, 256]⟩
abbrev S4096x16 : Shape := ⟨2, ![4096, 16]⟩
abbrev S512x1024 : Shape := ⟨2, ![512, 1024]⟩
abbrev S512x512 : Shape := ⟨2, ![512, 512]⟩
abbrev S512x256 : Shape := ⟨2, ![512, 256]⟩
abbrev S512x16 : Shape := ⟨2, ![512, 16]⟩
abbrev S512 : Shape := ⟨1, ![512]⟩
abbrev S512x1 : Shape := ⟨2, ![512, 1]⟩
abbrev S256x1024 : Shape := ⟨2, ![256, 1024]⟩
abbrev S16x1024 : Shape := ⟨2, ![16, 1024]⟩
abbrev S1024x1024 : Shape := ⟨2, ![1024, 1024]⟩
abbrev S1024 : Shape := ⟨1, ![1024]⟩

abbrev nBuf : Space → Nat
  | .hbm => 14
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4112x1024, .bf16⟩
  | .hbm, ⟨3, _⟩ => ⟨S4096x1024, .f32⟩
  | .hbm, ⟨4, _⟩ => ⟨S4096x512, .f32⟩
  | .hbm, ⟨5, _⟩ => ⟨S4096x256, .f32⟩
  | .hbm, ⟨6, _⟩ => ⟨S4096x256, .f32⟩
  | .hbm, ⟨7, _⟩ => ⟨S4096x512, .f32⟩
  | .hbm, ⟨8, _⟩ => ⟨S4096x512, .f32⟩
  | .hbm, ⟨9, _⟩ => ⟨S4096x16, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4112x1024, .bf16⟩
  | .local _ .vmem, ⟨4, _⟩ => ⟨S512x1024, .f32⟩
  | .local _ .vmem, ⟨5, _⟩ => ⟨S512x1024, .f32⟩
  | .local _ .vmem, ⟨6, _⟩ => ⟨S512x512, .f32⟩
  | .local _ .vmem, ⟨7, _⟩ => ⟨S512x512, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x16, .f32⟩
  | .local _ .vmem, ⟨17, _⟩ => ⟨S512x16, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4112x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference7Ideal.lean ====
abbrev S4096x1024 : Shape := ⟨2, ![4096, 1024]⟩
abbrev S1x1024 : Shape := ⟨2, ![1, 1024]⟩
abbrev S4112x1024 : Shape := ⟨2, ![4112, 1024]⟩
abbrev S4096x512 : Shape := ⟨2, ![4096, 512]⟩
abbrev S4096x256 : Shape := ⟨2, ![4096, 256]⟩
abbrev S4096x16 : Shape := ⟨2, ![4096, 16]⟩
abbrev S_ : Shape := ⟨0, ![]⟩
abbrev S4096 : Shape := ⟨1, ![4096]⟩
abbrev S4096x1 : Shape := ⟨2, ![4096, 1]⟩
abbrev S512x1024 : Shape := ⟨2, ![512, 1024]⟩
abbrev S1024x512 : Shape := ⟨2, ![1024, 512]⟩
abbrev S256x1024 : Shape := ⟨2, ![256, 1024]⟩
abbrev S1024x256 : Shape := ⟨2, ![1024, 256]⟩
abbrev S16x1024 : Shape := ⟨2, ![16, 1024]⟩
abbrev S1024x16 : Shape := ⟨2, ![1024, 16]⟩
abbrev S1024x1024 : Shape := ⟨2, ![1024, 1024]⟩
abbrev S1024 : Shape := ⟨1, ![1024]⟩

abbrev nBuf : Space → Nat
  | .hbm => 102
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4112x1024, .bf16⟩
  | .hbm, ⟨3, _⟩ => ⟨S4096x1024, .f32⟩
  | .hbm, ⟨4, _⟩ => ⟨S4096x512, .f32⟩
  | .hbm, ⟨5, _⟩ => ⟨S4096x256, .f32⟩
  | .hbm, ⟨6, _⟩ => ⟨S4096x256, .f32⟩
  | .hbm, ⟨7, _⟩ => ⟨S4096x512, .f32⟩
  | .hbm, ⟨8, _⟩ => ⟨S4096x512, .f32⟩
  | .hbm, ⟨9, _⟩ => ⟨S4096x16, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S512x1024, .bf16⟩
  | .hbm, ⟨32, _⟩ => ⟨S512x1024, .f32⟩
  | .hbm, ⟨33, _⟩ => ⟨S1024x512, .f32⟩
  | .hbm, ⟨34, _⟩ => ⟨S4096x512, .f32⟩
  | .hbm, ⟨35, _⟩ => ⟨S256x1024, .bf16⟩
  | .hbm, ⟨36, _⟩ => ⟨S256x1024, .f32⟩
  | .hbm, ⟨37, _⟩ => ⟨S1024x256, .f32⟩
  | .hbm, ⟨38, _⟩ => ⟨S4096x256, .f32⟩
  | .hbm, ⟨39, _⟩ => ⟨S256x1024, .bf16⟩
  | .hbm, ⟨40, _⟩ => ⟨S256x1024, .f32⟩
  | .hbm, ⟨41, _⟩ => ⟨S1024x256, .f32⟩
  | .hbm, ⟨42, _⟩ => ⟨S4096x256, .f32⟩
  | .hbm, ⟨43, _⟩ => ⟨S512x1024, .bf16⟩
  | .hbm, ⟨44, _⟩ => ⟨S512x1024, .f32⟩
  | .hbm, ⟨45, _⟩ => ⟨S1024x512, .f32⟩
  | .hbm, ⟨46, _⟩ => ⟨S4096x512, .f32⟩
  | .hbm, ⟨47, _⟩ => ⟨S512x1024, .bf16⟩
  | .hbm, ⟨48, _⟩ => ⟨S512x1024, .f32⟩
  | .hbm, ⟨49, _⟩ => ⟨S1024x512, .f32⟩
  | .hbm, ⟨50, _⟩ => ⟨S4096x512, .f32⟩
  | .hbm, ⟨51, _⟩ => ⟨S16x1024, .bf16⟩
  | .hbm, ⟨52, _⟩ => ⟨S16x1024, .f32⟩
  | .hbm, ⟨53, _⟩ => ⟨S1024x16, .f32⟩
  | .hbm, ⟨54, _⟩ => ⟨S4096x16, .f32⟩
  | .hbm, ⟨55, _⟩ => ⟨S1024x1024, .bf16⟩
  | .hbm, ⟨56, _⟩ => ⟨S1024x1024, .f32⟩
  | .hbm, ⟨57, _⟩ => ⟨S1024x1024, .f32⟩
  | .hbm, ⟨58, _⟩ => ⟨S4096x1024, .f32⟩
  | .hbm, ⟨59, _⟩ => ⟨S1024x1024, .bf16⟩
  | .hbm, ⟨60, _⟩ => ⟨S1024x1024, .f32⟩
  | .hbm, ⟨61, _⟩ => ⟨S1024x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1, .f32⟩
  | .hbm, ⟨92, _⟩ => ⟨S_, .f32⟩
  | .hbm, ⟨93, _⟩ => ⟨S4096x1, .f32⟩
  | .hbm, ⟨94, _⟩ => ⟨S4096x1, .f32⟩
  | .hbm, ⟨95, _⟩ => ⟨S_, .f32⟩
  | .hbm, ⟨96, _⟩ => ⟨S4096, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_3 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_4 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_5 : Ref sig .tc := ⟨.hbm, 92, rfl⟩
abbrev main_v74 : Ref sig .tc := ⟨.hbm, 93, rfl⟩
abbrev main_v75 : Ref sig .tc := ⟨.hbm, 94, rfl⟩
abbrev main_cst_6 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S4096x256 : Shape := ⟨2, ![4096, 256]⟩
abbrev S256x1024 : Shape := ⟨2, ![256, 1024]⟩
abbrev S512x256 : Shape := ⟨2, ![512, 256]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def k0_mult1 : BitVec 32 :=
  let c0_i32 : BitVec 32 := 0#32
  let c512_i32 : BitVec 32 := 512#32
  let v4 : BitVec 32 := Scalar.muli c0_i32 c512_i32
  v4
def k0_off1 (c0_i32 : BitVec 32) : Fin 2 → Nat :=
  let c512_i32 : BitVec 32 := 512#32
  let v4 : BitVec 32 := Scalar.muli c0_i32 c512_i32
  let v5 : BitVec 32 := v4
  let v6 : Index := Scalar.indexCast v5
  let c0_1 : Index := 0#32
  ![v6.toNat, 0]
def k0_off2 (c0_i32 : BitVec 32) : Fin 2 → Nat :=
  let c512_i32 : BitVec 32 := 512#32
  let v4 : BitVec 32 := Scalar.muli c0_i32 c512_i32
  let v5 : BitVec 32 := v4
  let v9 : Index := Scalar.indexCast v5
  let c0_4 : Index := 0#32
  ![v9.toNat, 0]
def k0_mult2 : BitVec 32 :=
  let c1_i32 : BitVec 32 := 1#32
  let c512_i32_8 : BitVec 32 := 512#32
  let v16 : BitVec 32 := Scalar.muli c1_i32 c512_i32_8
  v16
def k0_mult3 : BitVec 32 :=
  let c2_i32 : BitVec 32 := 2#32
  let c512_i32_16 : BitVec 32 := 512#32
  let v28 : BitVec 32 := Scalar.muli c2_i32 c512_i32_16
  v28
def k0_mult4 : BitVec 32 :=
  let c3_i32 : BitVec 32 := 3#32
  let c512_i32_24 : BitVec 32 := 512#32
  let v40 : BitVec 32 := Scalar.muli c3_i32 c512_i32_24
  v40
def k0_mult5 : BitVec 32 :=
  let c4_i32 : BitVec 32 := 4#32
  let c512_i32_32 : BitVec 32 := 512#32
  let v52 : BitVec 32 := Scalar.muli c4_i32 c512_i32_32
  v52
def k0_mult6 : BitVec 32 :=
  let c5_i32 : BitVec 32 := 5#32
  let c512_i32_40 : BitVec 32 := 512#32
  let v64 : BitVec 32 := Scalar.muli c5_i32 c512_i32_40
  v64
def k0_mult7 : BitVec 32 :=
  let c6_i32 : BitVec 32 := 6#32
  let c512_i32_48 : BitVec 32 := 512#32
  let v76 : BitVec 32 := Scalar.muli c6_i32 c512_i32_48
  v76
def k0_mult8 : BitVec 32 :=
  let c7_i32 : BitVec 32 := 7#32
  let c512_i32_56 : BitVec 32 := 512#32
  let v88 : BitVec 32 := Scalar.muli c7_i32 c512_i32_56
  v88
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x512 : Shape := ⟨2, ![4096, 512]⟩
abbrev S4096x1024 : Shape := ⟨2, ![4096, 1024]⟩
abbrev S512x512 : Shape := ⟨2, ![512, 512]⟩
abbrev S1x512 : Shape := ⟨2, ![1, 512]⟩
abbrev S1024x512 : Shape := ⟨2, ![1024, 512]⟩
abbrev S1024x1024 : Shape := ⟨2, ![1024, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 13
  | .vmem => 20
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S512x512, .bf16⟩
  | .hbm, ⟨7, _⟩ => ⟨S1x512, .f32⟩
  | .hbm, ⟨8, _⟩ => ⟨S1x512, .f32⟩
  | .hbm, ⟨9, _⟩ => ⟨S1024x512, .bf16⟩
  | .hbm, ⟨10, _⟩ => ⟨S1024x512, .bf16⟩
  | .hbm, ⟨11, _⟩ => ⟨S1024x1024, .bf16⟩
  | .hbm, ⟨12, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x512, .bf16⟩
  | .local _ .vmem, ⟨13, _⟩ => ⟨S1x512, .f32⟩
  | .local _ .vmem, ⟨14, _⟩ => ⟨S1x512, .f32⟩
  | .local _ .vmem, ⟨15, _⟩ => ⟨S1024x512, .bf16⟩
  | .local _ .vmem, ⟨16, _⟩ => ⟨S1024x512, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference9Ideal.lean ====
abbrev S4096x512 : Shape := ⟨2, ![4096, 512]⟩
abbrev S4096x1024 : Shape := ⟨2, ![4096, 1024]⟩
abbrev S512x512 : Shape := ⟨2, ![512, 512]⟩
abbrev S1x512 : Shape := ⟨2, ![1, 512]⟩
abbrev S1024x512 : Shape := ⟨2, ![1024, 512]⟩
abbrev S1024x1024 : Shape := ⟨2, ![1024, 1024]⟩
abbrev S_ : Shape := ⟨0, ![]⟩
abbrev S4096x4x128 : Shape := ⟨3, ![4096, 4, 128]⟩
abbrev S4096x4 : Shape := ⟨2, ![4096, 4]⟩
abbrev S4096x4x1 : Shape := ⟨3, ![4096, 4, 1]⟩
abbrev S512x1024 : Shape := ⟨2, ![512, 1024]⟩

abbrev nBuf : Space → Nat
  | .hbm => 97
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S512x512, .bf16⟩
  | .hbm, ⟨7, _⟩ => ⟨S1x512, .f32⟩
  | .hbm, ⟨8, _⟩ => ⟨S1x512, .f32⟩
  | .hbm, ⟨9, _⟩ => ⟨S1024x512, .bf16⟩
  | .hbm, ⟨10, _⟩ => ⟨S1024x512, .bf16⟩
  | .hbm, ⟨11, _⟩ => ⟨S1024x1024, .bf16⟩
  | .hbm, ⟨12, _⟩ => ⟨S512x512, .f32⟩
  | .hbm, ⟨13, _⟩ => ⟨S1024x512, .f32⟩
  | .hbm, ⟨14, _⟩ => ⟨S1024x512, .f32⟩
  | .hbm, ⟨15, _⟩ => ⟨S1024x1024, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S_, .f32⟩
  | .hbm, ⟨39, _⟩ => ⟨S4096x512, .f32⟩
  | .hbm, ⟨40, _⟩ => ⟨S4096x512, .f32⟩
  | .hbm, ⟨41, _⟩ => ⟨S_, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x4x128, .f32⟩
  | .hbm, ⟨46, _⟩ => ⟨S4096x4x128, .f32⟩
  | .hbm, ⟨47, _⟩ => ⟨S_, .f32⟩
  | .hbm, ⟨48, _⟩ => ⟨S4096x4, .f32⟩
  | .hbm, ⟨49, _⟩ => ⟨S4096x4x1, .f32⟩
  | .hbm, ⟨50, _⟩ => ⟨S_, .f32⟩
  | .hbm, ⟨51, _⟩ => ⟨S4096x4x1, .f32⟩
  | .hbm, ⟨52, _⟩ => ⟨S4096x4x1, .f32⟩
  | .hbm, ⟨53, _⟩ => ⟨S_, .f32⟩
  | .hbm, ⟨54, _⟩ => ⟨S4096x4x1, .f32⟩
  | .hbm, ⟨55, _⟩ => ⟨S4096x4x1, .f32⟩
  | .hbm, ⟨56, _⟩ => ⟨S4096x4x1, .f32⟩
  | .hbm, ⟨57, _⟩ => ⟨S4096x4x128, .f32⟩
  | .hbm, ⟨58, _⟩ => ⟨S4096x4x128, .f32⟩
  | .hbm, ⟨59, _⟩ => ⟨S4096x512, .f32⟩
  | .hbm, ⟨60, _⟩ => ⟨S4096x512, .f32⟩
  | .hbm, ⟨61, _⟩ => ⟨S4096x512, .f32⟩
  | .hbm, ⟨62, _⟩ => ⟨S4096x512, .f32⟩
  | .hbm, ⟨63, _⟩ => ⟨S4096x512, .f32⟩
  | .hbm, ⟨64, _⟩ => ⟨S_, .f32⟩
  | .hbm, ⟨65, _⟩ => ⟨S4096x512, .f32⟩
  | .hbm, ⟨66, _⟩ => ⟨S4096x512, .f32⟩
  | .hbm, ⟨67, _⟩ => ⟨S_, .f32⟩
  | .hbm, ⟨68, _⟩ => ⟨S4096x512, .f32⟩
  | .hbm, ⟨69, _⟩ => ⟨S4096x512, .f32⟩
  | .hbm, ⟨70, _⟩ => ⟨S4096x512, .f32⟩
  | .hbm, ⟨71, _⟩ => ⟨S4096x512, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S4096x1024, .f32⟩
  | .hbm, ⟨79, _⟩ => ⟨S4096x1024, .f32⟩
  | .hbm, ⟨80, _⟩ => ⟨S512x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S4096x1024, .f32⟩
  | .hbm, ⟨90, _⟩ => ⟨S4096x1024, .f32⟩
  | .hbm, ⟨91, _⟩ => ⟨S512x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_8 : Ref sig .tc := ⟨.hbm, 74, rfl⟩
abbrev main_v45 : Ref sig .tc := ⟨.hbm, 75, rfl⟩
abbrev main_v46 : Ref sig .tc := ⟨.hbm, 76, rfl⟩
abbrev main_cst_9 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_10 : Ref sig .tc := ⟨.hbm, 85, rfl⟩
abbrev main_v54 : Ref sig .tc := ⟨.hbm, 86, rfl⟩
abbrev main_v55 : Ref sig .tc := ⟨.hbm, 87, rfl⟩
abbrev main_cst_11 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩

abbrev nD : Nat := 1
abbrev τ : Topo := Topo.v7x

variable {F : FTy → Type} [FloatOps F]
-- ==== Kernel10.lean ====
abbrev S4096x1024 : Shape := ⟨2, ![4096, 1024]⟩
abbrev S4096x512 : Shape := ⟨2, ![4096, 512]⟩
abbrev S4096x256 : Shape := ⟨2, ![4096, 256]⟩
abbrev S256x1024 : Shape := ⟨2, ![256, 1024]⟩
abbrev S512x256 : Shape := ⟨2, ![512, 256]⟩
abbrev S512x1024 : Shape := ⟨2, ![512, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x512, .f32⟩
  | .hbm, ⟨2, _⟩ => ⟨S4096x256, .bf16⟩
  | .hbm, ⟨3, _⟩ => ⟨S4096x256, .bf16⟩
  | .hbm, ⟨4, _⟩ => ⟨S4096x512, .bf16⟩
  | .hbm, ⟨5, _⟩ => ⟨S4096x512, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .local _ .vmem, ⟨0, _⟩ => ⟨S4096x256, .f32⟩
  | .local _ .vmem, ⟨1, _⟩ => ⟨S4096x256, .f32⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | .local _ .vmem, ⟨12, _⟩ => ⟨S4096x256, .bf16⟩
  | .local _ .vmem, ⟨13, _⟩ => ⟨S4096x256, .bf16⟩
  | .local _ .vmem, ⟨14, _⟩ => ⟨S4096x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_mult1 : BitVec 32 :=
  let c0_i32_14 : BitVec 32 := 0#32
  let c512_i32 : BitVec 32 := 512#32
  let v39 : BitVec 32 := Scalar.muli c0_i32_14 c512_i32
  v39
def k0_off1 (c0_i32_14 : BitVec 32) : Fin 2 → Nat :=
  let c512_i32 : BitVec 32 := 512#32
  let v39 : BitVec 32 := Scalar.muli c0_i32_14 c512_i32
  let v40 : BitVec 32 := v39
  let v42 : Index := Scalar.indexCast v40
  let c0_17 : Index := 0#32
  ![v42.toNat, 0]
def k0_off2 (c0_i32_14 : BitVec 32) : Fin 2 → Nat :=
  let c512_i32 : BitVec 32 := 512#32
  let v39 : BitVec 32 := Scalar.muli c0_i32_14 c512_i32
  let v40 : BitVec 32 := v39
  let v45 : Index := Scalar.indexCast v40
  let c0_18 : Index := 0#32
  ![v45.toNat, 0]
def k0_mult2 : BitVec 32 :=
  let c1_i32 : BitVec 32 := 1#32
  let c512_i32_22 : BitVec 32 := 512#32
  let v52 : BitVec 32 := Scalar.muli c1_i32 c512_i32_22
  v52
def k0_mult3 : BitVec 32 :=
  let c2_i32_30 : BitVec 32 := 2#32
  let c512_i32_31 : BitVec 32 := 512#32
  let v65 : BitVec 32 := Scalar.muli c2_i32_30 c512_i32_31
  v65
def k0_mult4 : BitVec 32 :=
  let c3_i32_39 : BitVec 32 := 3#32
  let c512_i32_40 : BitVec 32 := 512#32
  let v78 : BitVec 32 := Scalar.muli c3_i32_39 c512_i32_40
  v78
def k0_mult5 : BitVec 32 :=
  let c4_i32_48 : BitVec 32 := 4#32
  let c512_i32_49 : BitVec 32 := 512#32
  let v91 : BitVec 32 := Scalar.muli c4_i32_48 c512_i32_49
  v91
def k0_mult6 : BitVec 32 :=
  let c5_i32 : BitVec 32 := 5#32
  let c512_i32_57 : BitVec 32 := 512#32
  let v104 : BitVec 32 := Scalar.muli c5_i32 c512_i32_57
  v104
def k0_mult7 : BitVec 32 :=
  let c6_i32_65 : BitVec 32 := 6#32
  let c512_i32_66 : BitVec 32 := 512#32
  let v117 : BitVec 32 := Scalar.muli c6_i32_65 c512_i32_66
  v117
def k0_mult8 : BitVec 32 :=
  let c7_i32 : BitVec 32 := 7#32
  let c512_i32_74 : BitVec 32 := 512#32
  let v130 : BitVec 32 := Scalar.muli c7_i32 c512_i32_74
  v130
def k0_cond2 (i : grid0.Coords) : BitVec 1 :=
  let arg0 : BitVec 32 := BitVec.ofNat 32 (i 0).val
  let c2_i32_1 : BitVec 32 := 2#32
  let v5 : BitVec 1 := Scalar.cmpi .sge arg0 c2_i32_1
  let c3_i32 : BitVec 32 := 3#32
  let v6 : BitVec 1 := Scalar.cmpi .slt arg0 c3_i32
  let v7 : BitVec 1 := Scalar.andi v5 v6
  let v8 : BitVec 32 := Scalar.extui v7
  let c0_i32_2 : BitVec 32 := 0#32
  let v9 : BitVec 1 := Scalar.cmpi .ne v8 c0_i32_2
  v9

def k0_mult9 : BitVec 32 :=
  let c0_i32_14 : BitVec 32 := 0#32
  let c512_i32 : BitVec 32 := 512#32
  let v39 : BitVec 32 := Scalar.muli c0_i32_14 c512_i32
  v39
def k0_off3 (c0_i32_14 : BitVec 32) : Fin 2 → Nat :=
  let c512_i32 : BitVec 32 := 512#32
  let v39 : BitVec 32 := Scalar.muli c0_i32_14 c512_i32
  let v40 : BitVec 32 := v39
  let v42 : Index := Scalar.indexCast v40
  let c0_17 : Index := 0#32
  ![v42.toNat, 0]
def k0_off4 (c0_i32_14 : BitVec 32) : Fin 2 → Nat :=
  let c512_i32 : BitVec 32 := 512#32
  let v39 : BitVec 32 := Scalar.muli c0_i32_14 c512_i32
  let v40 : BitVec 32 := v39
  let v44 : Index := Scalar.indexCast v40
  let c0_18 : Index := 0#32
  ![v44.toNat, 0]
def k0_mult10 : BitVec 32 :=
  let c1_i32 : BitVec 32 := 1#32
  let c512_i32_22 : BitVec 32 := 512#32
  let v51 : BitVec 32 := Scalar.muli c1_i32 c512_i32_22
  v51
def k0_mult11 : BitVec 32 :=
  let c2_i32_30 : BitVec 32 := 2#32
  let c512_i32_31 : BitVec 32 := 512#32
  let v63 : BitVec 32 := Scalar.muli c2_i32_30 c512_i32_31
  v63
def k0_mult12 : BitVec 32 :=
  let c3_i32_39 : BitVec 32 := 3#32
  let c512_i32_40 : BitVec 32 := 512#32
  let v75 : BitVec 32 := Scalar.muli c3_i32_39 c512_i32_40
  v75
def k0_mult13 : BitVec 32 :=
  let c4_i32_48 : BitVec 32 := 4#32
  let c512_i32_49 : BitVec 32 := 512#32
  let v87 : BitVec 32 := Scalar.muli c4_i32_48 c512_i32_49
  v87
def k0_mult14 : BitVec 32 :=
  let c5_i32 : BitVec 32 := 5#32
  let c512_i32_57 : BitVec 32 := 512#32
  let v99 : BitVec 32 := Scalar.muli c5_i32 c512_i32_57
  v99
def k0_mult15 : BitVec 32 :=
  let c6_i32_65 : BitVec 32 := 6#32
  let c512_i32_66 : BitVec 32 := 512#32
  let v111 : BitVec 32 := Scalar.muli c6_i32_65 c512_i32_66
  v111
def k0_mult16 : BitVec 32 :=
  let c7_i32 : BitVec 32 := 7#32
  let c512_i32_74 : BitVec 32 := 512#32
  let v123 : BitVec 32 := Scalar.muli c7_i32 c512_i32_74
  v123
def k0_cond3 (i : grid0.Coords) : BitVec 1 :=
  let arg0 : BitVec 32 := BitVec.ofNat 32 (i 0).val
  let c3_i32_3 : BitVec 32 := 3#32
  let v10 : BitVec 1 := Scalar.cmpi .sge arg0 c3_i32_3
  let c4_i32 : BitVec 32 := 4#32
  let v11 : BitVec 1 := Scalar.cmpi .slt arg0 c4_i32
  let v12 : BitVec 1 := Scalar.andi v10 v11
  let v13 : BitVec 32 := Scalar.extui v12
  let c0_i32_4 : BitVec 32 := 0#32
  let v14 : BitVec 1 := Scalar.cmpi .ne v13 c0_i32_4
  v14

def k0_mult17 : BitVec 32 :=
  let c0_i32_14 : BitVec 32 := 0#32
  let c512_i32 : BitVec 32 := 512#32
  let v39 : BitVec 32 := Scalar.muli c0_i32_14 c512_i32
  v39
def k0_off5 (c0_i32_14 : BitVec 32) : Fin 2 → Nat :=
  let c512_i32 : BitVec 32 := 512#32
  let v39 : BitVec 32 := Scalar.muli c0_i32_14 c512_i32
  let v40 : BitVec 32 := v39
  let v42 : Index := Scalar.indexCast v40
  let c0_17 : Index := 0#32
  ![v42.toNat, 0]
def k0_off6 (c0_i32_14 : BitVec 32) : Fin 2 → Nat :=
  let c512_i32 : BitVec 32 := 512#32
  let v39 : BitVec 32 := Scalar.muli c0_i32_14 c512_i32
  let v40 : BitVec 32 := v39
  let v44 : Index := Scalar.indexCast v40
  let c0_18 : Index := 0#32
  ![v44.toNat, 0]
def k0_mult18 : BitVec 32 :=
  let c1_i32 : BitVec 32 := 1#32
  let c512_i32_22 : BitVec 32 := 512#32
  let v51 : BitVec 32 := Scalar.muli c1_i32 c512_i32_22
  v51
def k0_mult19 : BitVec 32 :=
  let c2_i32_30 : BitVec 32 := 2#32
  let c512_i32_31 : BitVec 32 := 512#32
  let v63 : BitVec 32 := Scalar.muli c2_i32_30 c512_i32_31
  v63
def k0_mult20 : BitVec 32 :=
  let c3_i32_39 : BitVec 32 := 3#32
  let c512_i32_40 : BitVec 32 := 512#32
  let v75 : BitVec 32 := Scalar.muli c3_i32_39 c512_i32_40
  v75
def k0_mult21 : BitVec 32 :=
  let c4_i32_48 : BitVec 32 := 4#32
  let c512_i32_49 : BitVec 32 := 512#32
  let v87 : BitVec 32 := Scalar.muli c4_i32_48 c512_i32_49
  v87
def k0_mult22 : BitVec 32 :=
  let c5_i32 : BitVec 32 := 5#32
  let c512_i32_57 : BitVec 32 := 512#32
  let v99 : BitVec 32 := Scalar.muli c5_i32 c512_i32_57
  v99
def k0_mult23 : BitVec 32 :=
  let c6_i32_65 : BitVec 32 := 6#32
  let c512_i32_66 : BitVec 32 := 512#32
  let v111 : BitVec 32 := Scalar.muli c6_i32_65 c512_i32_66
  v111
def k0_mult24 : BitVec 32 :=
  let c7_i32 : BitVec 32 := 7#32
  let c512_i32_74 : BitVec 32 := 512#32
  let v123 : BitVec 32 := Scalar.muli c7_i32 c512_i32_74
  v123
def k0_cond4 (i : grid0.Coords) : BitVec 1 :=
  let arg0 : BitVec 32 := BitVec.ofNat 32 (i 0).val
  let c4_i32_5 : BitVec 32 := 4#32
  let v15 : BitVec 1 := Scalar.cmpi .sge arg0 c4_i32_5
  let c6_i32 : BitVec 32 := 6#32
  let v16 : BitVec 1 := Scalar.cmpi .slt arg0 c6_i32
  let v17 : BitVec 1 := Scalar.andi v15 v16
  let v18 : BitVec 32 := Scalar.extui v17
  let c0_i32_6 : BitVec 32 := 0#32
  let v19 : BitVec 1 := Scalar.cmpi .ne v18 c0_i32_6
  v19

def k0_mult25 : BitVec 32 :=
  let c0_i32_14 : BitVec 32 := 0#32
  let c512_i32 : BitVec 32 := 512#32
  let v39 : BitVec 32 := Scalar.muli c0_i32_14 c512_i32
  v39
def k0_off7 (c0_i32_14 : BitVec 32) : Fin 2 → Nat :=
  let c512_i32 : BitVec 32 := 512#32
  let v39 : BitVec 32 := Scalar.muli c0_i32_14 c512_i32
  let v40 : BitVec 32 := v39
  let v42 : Index := Scalar.indexCast v40
  let c0_17 : Index := 0#32
  ![v42.toNat, 0]
def k0_off8 (c0_i32_14 : BitVec 32) : Fin 2 → Nat :=
  let c512_i32 : BitVec 32 := 512#32
  let v39 : BitVec 32 := Scalar.muli c0_i32_14 c512_i32
  let v40 : BitVec 32 := v39
  let v44 : Index := Scalar.indexCast v40
  let c0_18 : Index := 0#32
  ![v44.toNat, 0]
def k0_mult26 : BitVec 32 :=
  let c1_i32 : BitVec 32 := 1#32
  let c512_i32_22 : BitVec 32 := 512#32
  let v51 : BitVec 32 := Scalar.muli c1_i32 c512_i32_22
  v51
def k0_mult27 : BitVec 32 :=
  let c2_i32_30 : BitVec 32 := 2#32
  let c512_i32_31 : BitVec 32 := 512#32
  let v63 : BitVec 32 := Scalar.muli c2_i32_30 c512_i32_31
  v63
def k0_mult28 : BitVec 32 :=
  let c3_i32_39 : BitVec 32 := 3#32
  let c512_i32_40 : BitVec 32 := 512#32
  let v75 : BitVec 32 := Scalar.muli c3_i32_39 c512_i32_40
  v75
def k0_mult29 : BitVec 32 :=
  let c4_i32_48 : BitVec 32 := 4#32
  let c512_i32_49 : BitVec 32 := 512#32
  let v87 : BitVec 32 := Scalar.muli c4_i32_48 c512_i32_49
  v87
def k0_mult30 : BitVec 32 :=
  let c5_i32 : BitVec 32 := 5#32
  let c512_i32_57 : BitVec 32 := 512#32
  let v99 : BitVec 32 := Scalar.muli c5_i32 c512_i32_57
  v99
def k0_mult31 : BitVec 32 :=
  let c6_i32_65 : BitVec 32 := 6#32
  let c512_i32_66 : BitVec 32 := 512#32
  let v111 : BitVec 32 := Scalar.muli c6_i32_65 c512_i32_66
  v111
def k0_mult32 : BitVec 32 :=
  let c7_i32 : BitVec 32 := 7#32
  let c512_i32_74 : BitVec 32 := 512#32
  let v123 : BitVec 32 := Scalar.muli c7_i32 c512_i32_74
  v123
def k0_cond5 (i : grid0.Coords) : BitVec 1 :=
  let arg0 : BitVec 32 := BitVec.ofNat 32 (i 0).val
  let c6_i32_7 : BitVec 32 := 6#32
  let v20 : BitVec 1 := Scalar.cmpi .sge arg0 c6_i32_7
  let c8_i32 : BitVec 32 := 8#32
  let v21 : BitVec 1 := Scalar.cmpi .slt arg0 c8_i32
  let v22 : BitVec 1 := Scalar.andi v20 v21
  let v23 : BitVec 32 := Scalar.extui v22
  let c0_i32_8 : BitVec 32 := 0#32
  let v24 : BitVec 1 := Scalar.cmpi .ne v23 c0_i32_8
  v24

def k0_mult33 : BitVec 32 :=
  let c0_i32_14 : BitVec 32 := 0#32
  let c512_i32 : BitVec 32 := 512#32
  let v39 : BitVec 32 := Scalar.muli c0_i32_14 c512_i32
  v39
def k0_off9 (c0_i32_14 : BitVec 32) : Fin 2 → Nat :=
  let c512_i32 : BitVec 32 := 512#32
  let v39 : BitVec 32 := Scalar.muli c0_i32_14 c512_i32
  let v40 : BitVec 32 := v39
  let v42 : Index := Scalar.indexCast v40
  let c0_17 : Index := 0#32
  ![v42.toNat, 0]
def k0_off10 (c0_i32_14 : BitVec 32) : Fin 2 → Nat :=
  let c512_i32 : BitVec 32 := 512#32
  let v39 : BitVec 32 := Scalar.muli c0_i32_14 c512_i32
  let v40 : BitVec 32 := v39
  let v44 : Index := Scalar.indexCast v40
  let c0_18 : Index := 0#32
  ![v44.toNat, 0]
def k0_mult34 : BitVec 32 :=
  let c1_i32 : BitVec 32 := 1#32
  let c512_i32_22 : BitVec 32 := 512#32
  let v51 : BitVec 32 := Scalar.muli c1_i32 c512_i32_22
  v51
def k0_mult35 : BitVec 32 :=
  let c2_i32_30 : BitVec 32 := 2#32
  let c512_i32_31 : BitVec 32 := 512#32
  let v63 : BitVec 32 := Scalar.muli c2_i32_30 c512_i32_31
  v63
def k0_mult36 : BitVec 32 :=
  let c3_i32_39 : BitVec 32 := 3#32
  let c512_i32_40 : BitVec 32 := 512#32
  let v75 : BitVec 32 := Scalar.muli c3_i32_39 c512_i32_40
  v75
def k0_mult37 : BitVec 32 :=
  let c4_i32_48 : BitVec 32 := 4#32
  let c512_i32_49 : BitVec 32 := 512#32
  let v87 : BitVec 32 := Scalar.muli c4_i32_48 c512_i32_49
  v87
def k0_mult38 : BitVec 32 :=
  let c5_i32 : BitVec 32 := 5#32
  let c512_i32_57 : BitVec 32 := 512#32
  let v99 : BitVec 32 := Scalar.muli c5_i32 c512_i32_57
  v99
def k0_mult39 : BitVec 32 :=
  let c6_i32_65 : BitVec 32 := 6#32
  let c512_i32_66 : BitVec 32 := 512#32
  let v111 : BitVec 32 := Scalar.muli c6_i32_65 c512_i32_66
  v111
def k0_mult40 : BitVec 32 :=
  let c7_i32 : BitVec 32 := 7#32
  let c512_i32_74 : BitVec 32 := 512#32
  let v123 : BitVec 32 := Scalar.muli c7_i32 c512_i32_74
  v123
def k0_cond6 (i : grid0.Coords) : BitVec 1 :=
  let arg0 : BitVec 32 := BitVec.ofNat 32 (i 0).val
  let c8_i32_9 : BitVec 32 := 8#32
  let v25 : BitVec 1 := Scalar.cmpi .sge arg0 c8_i32_9
  let c12_i32 : BitVec 32 := 12#32
  let v26 : BitVec 1 := Scalar.cmpi .slt arg0 c12_i32
  let v27 : BitVec 1 := Scalar.andi v25 v26
  let v28 : BitVec 32 := Scalar.extui v27
  let c0_i32_10 : BitVec 32 := 0#32
  let v29 : BitVec 1 := Scalar.cmpi .ne v28 c0_i32_10
  v29

def k0_mult41 : BitVec 32 :=
  let c0_i32_14 : BitVec 32 := 0#32
  let c512_i32 : BitVec 32 := 512#32
  let v39 : BitVec 32 := Scalar.muli c0_i32_14 c512_i32
  v39
def k0_off11 (c0_i32_14 : BitVec 32) : Fin 2 → Nat :=
  let c512_i32 : BitVec 32 := 512#32
  let v39 : BitVec 32 := Scalar.muli c0_i32_14 c512_i32
  let v40 : BitVec 32 := v39
  let v42 : Index := Scalar.indexCast v40
  let c0_17 : Index := 0#32
  ![v42.toNat, 0]
def k0_off12 (c0_i32_14 : BitVec 32) : Fin 2 → Nat :=
  let c512_i32 : BitVec 32 := 512#32
  let v39 : BitVec 32 := Scalar.muli c0_i32_14 c512_i32
  let v40 : BitVec 32 := v39
  let v44 : Index := Scalar.indexCast v40
  let c0_18 : Index := 0#32
  ![v44.toNat, 0]
def k0_mult42 : BitVec 32 :=
  let c1_i32 : BitVec 32 := 1#32
  let c512_i32_22 : BitVec 32 := 512#32
  let v51 : BitVec 32 := Scalar.muli c1_i32 c512_i32_22
  v51
def k0_mult43 : BitVec 32 :=
  let c2_i32_30 : BitVec 32 := 2#32
  let c512_i32_31 : BitVec 32 := 512#32
  let v63 : BitVec 32 := Scalar.muli c2_i32_30 c512_i32_31
  v63
def k0_mult44 : BitVec 32 :=
  let c3_i32_39 : BitVec 32 := 3#32
  let c512_i32_40 : BitVec 32 := 512#32
  let v75 : BitVec 32 := Scalar.muli c3_i32_39 c512_i32_40
  v75
def k0_mult45 : BitVec 32 :=
  let c4_i32_48 : BitVec 32 := 4#32
  let c512_i32_49 : BitVec 32 := 512#32
  let v87 : BitVec 32 := Scalar.muli c4_i32_48 c512_i32_49
  v87
def k0_mult46 : BitVec 32 :=
  let c5_i32 : BitVec 32 := 5#32
  let c512_i32_57 : BitVec 32 := 512#32
  let v99 : BitVec 32 := Scalar.muli c5_i32 c512_i32_57
  v99
def k0_mult47 : BitVec 32 :=
  let c6_i32_65 : BitVec 32 := 6#32
  let c512_i32_66 : BitVec 32 := 512#32
  let v111 : BitVec 32 := Scalar.muli c6_i32_65 c512_i32_66
  v111
def k0_mult48 : BitVec 32 :=
  let c7_i32 : BitVec 32 := 7#32
  let c512_i32_74 : BitVec 32 := 512#32
  let v123 : BitVec 32 := Scalar.muli c7_i32 c512_i32_74
  v123
def k0_cond7 (i : grid0.Coords) : BitVec 1 :=
  let arg0 : BitVec 32 := BitVec.ofNat 32 (i 0).val
  let c12_i32_11 : BitVec 32 := 12#32
  let v30 : BitVec 1 := Scalar.cmpi .sge arg0 c12_i32_11
  let c16_i32 : BitVec 32 := 16#32
  let v31 : BitVec 1 := Scalar.cmpi .slt arg0 c16_i32
  let v32 : BitVec 1 := Scalar.andi v30 v31
  let v33 : BitVec 32 := Scalar.extui v32
  let c0_i32_12 : BitVec 32 := 0#32
  let v34 : BitVec 1 := Scalar.cmpi .ne v33 c0_i32_12
  v34

def k0_mult49 : BitVec 32 :=
  let c0_i32_14 : BitVec 32 := 0#32
  let c512_i32 : BitVec 32 := 512#32
  let v39 : BitVec 32 := Scalar.muli c0_i32_14 c512_i32
  v39
def k0_off13 (c0_i32_14 : BitVec 32) : Fin 2 → Nat :=
  let c512_i32 : BitVec 32 := 512#32
  let v39 : BitVec 32 := Scalar.muli c0_i32_14 c512_i32
  let v40 : BitVec 32 := v39
  let v42 : Index := Scalar.indexCast v40
  let c0_17 : Index := 0#32
  ![v42.toNat, 0]
def k0_off14 (c0_i32_14 : BitVec 32) : Fin 2 → Nat :=
  let c512_i32 : BitVec 32 := 512#32
  let v39 : BitVec 32 := Scalar.muli c0_i32_14 c512_i32
  let v40 : BitVec 32 := v39
  let v44 : Index := Scalar.indexCast v40
  let c0_18 : Index := 0#32
  ![v44.toNat, 0]
def k0_mult50 : BitVec 32 :=
  let c1_i32 : BitVec 32 := 1#32
  let c512_i32_22 : BitVec 32 := 512#32
  let v51 : BitVec 32 := Scalar.muli c1_i32 c512_i32_22
  v51
def k0_mult51 : BitVec 32 :=
  let c2_i32_30 : BitVec 32 := 2#32
  let c512_i32_31 : BitVec 32 := 512#32
  let v63 : BitVec 32 := Scalar.muli c2_i32_30 c512_i32_31
  v63
def k0_mult52 : BitVec 32 :=
  let c3_i32_39 : BitVec 32 := 3#32
  let c512_i32_40 : BitVec 32 := 512#32
  let v75 : BitVec 32 := Scalar.muli c3_i32_39 c512_i32_40
  v75
def k0_mult53 : BitVec 32 :=
  let c4_i32_48 : BitVec 32 := 4#32
  let c512_i32_49 : BitVec 32 := 512#32
  let v87 : BitVec 32 := Scalar.muli c4_i32_48 c512_i32_49
  v87
def k0_mult54 : BitVec 32 :=
  let c5_i32 : BitVec 32 := 5#32
  let c512_i32_57 : BitVec 32 := 512#32
  let v99 : BitVec 32 := Scalar.muli c5_i32 c512_i32_57
  v99
def k0_mult55 : BitVec 32 :=
  let c6_i32_65 : BitVec 32 := 6#32
  let c512_i32_66 : BitVec 32 := 512#32
  let v111 : BitVec 32 := Scalar.muli c6_i32_65 c512_i32_66
  v111
def k0_mult56 : BitVec 32 :=
  let c7_i32 : BitVec 32 := 7#32
  let c512_i32_74 : BitVec 32 := 512#32
  let v123 : BitVec 32 := Scalar.muli c7_i32 c512_i32_74
  v123
def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat]

def cc0_transform_3 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c6_i32 : BitVec 32 := 6#32
  let v0 : BitVec 32 := Scalar.subi arg0 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let c12_i32 : BitVec 32 := 12#32
  let v0 : BitVec 32 := Scalar.subi arg0 c12_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S4096x1024 : Shape := ⟨2, ![4096, 1024]⟩
abbrev S4096x512 : Shape := ⟨2, ![4096, 512]⟩
abbrev S4096x256 : Shape := ⟨2, ![4096, 256]⟩
abbrev S_ : Shape := ⟨0, ![]⟩
abbrev S512x1024 : Shape := ⟨2, ![512, 1024]⟩
abbrev S256x1024 : Shape := ⟨2, ![256, 1024]⟩
abbrev S1024x1024 : Shape := ⟨2, ![1024, 1024]⟩
abbrev S1024x512 : Shape := ⟨2, ![1024, 512]⟩
abbrev S1024x256 : Shape := ⟨2, ![1024, 256]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .f32⟩
  | .hbm, ⟨2, _⟩ => ⟨S4096x256, .bf16⟩
  | .hbm, ⟨3, _⟩ => ⟨S4096x256, .bf16⟩
  | .hbm, ⟨4, _⟩ => ⟨S4096x512, .bf16⟩
  | .hbm, ⟨5, _⟩ => ⟨S4096x512, .bf16⟩
  | .hbm, ⟨6, _⟩ => ⟨S4096x1024, .bf16⟩
  | .hbm, ⟨7, _⟩ => ⟨S4096x1024, .bf16⟩
  | .hbm, ⟨8, _⟩ => ⟨S4096x1024, .f32⟩
  | .hbm, ⟨9, _⟩ => ⟨S_, .f32⟩
  | .hbm, ⟨10, _⟩ => ⟨S512x1024, .f32⟩
  | .hbm, ⟨11, _⟩ => ⟨S_, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S_, .f32⟩
  | .hbm, ⟨16, _⟩ => ⟨S512x1024, .f32⟩
  | .hbm, ⟨17, _⟩ => ⟨S_, .f32⟩
  | .hbm, ⟨18, _⟩ => ⟨S512x1024, .f32⟩
  | .hbm, ⟨19, _⟩ => ⟨S_, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x512, .f32⟩
  | .hbm, ⟨24, _⟩ => ⟨S4096x512, .f32⟩
  | .hbm, ⟨25, _⟩ => ⟨S1024x256, .f32⟩
  | .hbm, ⟨26, _⟩ => ⟨S4096x256, .f32⟩
  | .hbm, ⟨27, _⟩ => ⟨S1024x256, .f32⟩
  | .hbm, ⟨28, _⟩ => ⟨S4096x256, .f32⟩
  | .hbm, ⟨29, _⟩ => ⟨S1024x512, .f32⟩
  | .hbm, ⟨30, _⟩ => ⟨S4096x512, .f32⟩
  | .hbm, ⟨31, _⟩ => ⟨S1024x512, .f32⟩
  | .hbm, ⟨32, _⟩ => ⟨S4096x512, .f32⟩
  | .hbm, ⟨33, _⟩ => ⟨S1024x1024, .f32⟩
  | .hbm, ⟨34, _⟩ => ⟨S4096x1024, .f32⟩
  | .hbm, ⟨35, _⟩ => ⟨S1024x1024, .f32⟩
  | .hbm, ⟨36, _⟩ => ⟨S4096x1024, .f32⟩
  | .hbm, ⟨37, _⟩ => ⟨S4096x256, .f32⟩
  | .hbm, ⟨38, _⟩ => ⟨S4096x256, .f32⟩
  | .hbm, ⟨39, _⟩ => ⟨S4096x512, .f32⟩
  | .hbm, ⟨40, _⟩ => ⟨S4096x512, .f32⟩
  | .hbm, ⟨41, _⟩ => ⟨S4096x1024, .f32⟩
  | .hbm, ⟨42, _⟩ => ⟨S4096x1024, .f32⟩
  | .hbm, ⟨43, _⟩ => ⟨S1024x1024, .f32⟩
  | .hbm, ⟨44, _⟩ => ⟨S1024x1024, .f32⟩
  | .hbm, ⟨45, _⟩ => ⟨S1024x1024, .f32⟩
  | .hbm, ⟨46, _⟩ => ⟨S1024x1024, .f32⟩
  | .hbm, ⟨47, _⟩ => ⟨S1024x1024, .f32⟩
  | .hbm, ⟨48, _⟩ => ⟨S1024x1024, .f32⟩
  | .hbm, ⟨49, _⟩ => ⟨S512x1024, .f32⟩
  | .hbm, ⟨50, _⟩ => ⟨S1024x512, .f32⟩
  | .hbm, ⟨51, _⟩ => ⟨S512x1024, .f32⟩
  | .hbm, ⟨52, _⟩ => ⟨S512x1024, .f32⟩
  | .hbm, ⟨53, _⟩ => ⟨S1024x512, .f32⟩
  | .hbm, ⟨54, _⟩ => ⟨S512x1024, .f32⟩
  | .hbm, ⟨55, _⟩ => ⟨S256x1024, .f32⟩
  | .hbm, ⟨56, _⟩ => ⟨S1024x256, .f32⟩
  | .hbm, ⟨57, _⟩ => ⟨S256x1024, .f32⟩
  | .hbm, ⟨58, _⟩ => ⟨S256x1024, .f32⟩
  | .hbm, ⟨59, _⟩ => ⟨S1024x256, .f32⟩
  | .hbm, ⟨60, _⟩ => ⟨S256x1024, .f32⟩
  | .hbm, ⟨61, _⟩ => ⟨S512x1024, .f32⟩
  | .hbm, ⟨62, _⟩ => ⟨S1024x512, .f32⟩
  | .hbm, ⟨63, _⟩ => ⟨S512x1024, .f32⟩
  | .hbm, ⟨64, _⟩ => ⟨S4096x1024, .f32⟩
  | .hbm, ⟨65, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_cst_3 : Ref sig .tc := ⟨.hbm, 17, rfl⟩
abbrev main_v5 : Ref sig .tc := ⟨.hbm, 18, rfl⟩
abbrev main_cst_4 : Ref sig .tc := ⟨.hbm, 19, rfl⟩
abbrev main_v6 : Ref sig .tc := ⟨.hbm, 20, rfl⟩
abbrev main_cst_5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== Kernel11.lean ====
abbrev S4096x1024 : Shape := ⟨2, ![4096, 1024]⟩
abbrev S4096x512 : Shape := ⟨2, ![4096, 512]⟩
abbrev S1024x512 : Shape := ⟨2, ![1024, 512]⟩
abbrev S4096x256 : Shape := ⟨2, ![4096, 256]⟩
abbrev S256x512 : Shape := ⟨2, ![256, 512]⟩
abbrev S512x256 : Shape := ⟨2, ![512, 256]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x512, .bf16⟩
  | .local _ .vmem, ⟨0, _⟩ => ⟨S4096x256, .bf16⟩
  | .local _ .vmem, ⟨1, _⟩ => ⟨S4096x256, .bf16⟩
  | .local _ .vmem, ⟨2, _⟩ => ⟨S4096x512, .bf16⟩
  | .local _ .vmem, ⟨3, _⟩ => ⟨S256x512, .bf16⟩
  | .local _ .vmem, ⟨4, _⟩ => ⟨S256x512, .bf16⟩
  | .local _ .vmem, ⟨5, _⟩ => ⟨S256x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def k0_mult1 : BitVec 32 :=
  let c0_i32 : BitVec 32 := 0#32
  let c512_i32 : BitVec 32 := 512#32
  let v4 : BitVec 32 := Scalar.muli c0_i32 c512_i32
  v4
def k0_off1 (c0_i32 : BitVec 32) : Fin 2 → Nat :=
  let c512_i32 : BitVec 32 := 512#32
  let v4 : BitVec 32 := Scalar.muli c0_i32 c512_i32
  let v5 : BitVec 32 := v4
  let v6 : Index := Scalar.indexCast v5
  let c0_1 : Index := 0#32
  ![v6.toNat, 0]
def k0_off2 (c0_i32 : BitVec 32) : Fin 2 → Nat :=
  let c512_i32 : BitVec 32 := 512#32
  let v4 : BitVec 32 := Scalar.muli c0_i32 c512_i32
  let v5 : BitVec 32 := v4
  let v9 : Index := Scalar.indexCast v5
  let c0_4 : Index := 0#32
  ![v9.toNat, 0]
def k0_mult2 : BitVec 32 :=
  let c1_i32 : BitVec 32 := 1#32
  let c512_i32_8 : BitVec 32 := 512#32
  let v16 : BitVec 32 := Scalar.muli c1_i32 c512_i32_8
  v16
def k0_mult3 : BitVec 32 :=
  let c2_i32 : BitVec 32 := 2#32
  let c512_i32_16 : BitVec 32 := 512#32
  let v28 : BitVec 32 := Scalar.muli c2_i32 c512_i32_16
  v28
def k0_mult4 : BitVec 32 :=
  let c3_i32 : BitVec 32 := 3#32
  let c512_i32_24 : BitVec 32 := 512#32
  let v40 : BitVec 32 := Scalar.muli c3_i32 c512_i32_24
  v40
def k0_mult5 : BitVec 32 :=
  let c4_i32 : BitVec 32 := 4#32
  let c512_i32_32 : BitVec 32 := 512#32
  let v52 : BitVec 32 := Scalar.muli c4_i32 c512_i32_32
  v52
def k0_mult6 : BitVec 32 :=
  let c5_i32 : BitVec 32 := 5#32
  let c512_i32_40 : BitVec 32 := 512#32
  let v64 : BitVec 32 := Scalar.muli c5_i32 c512_i32_40
  v64
def k0_mult7 : BitVec 32 :=
  let c6_i32 : BitVec 32 := 6#32
  let c512_i32_48 : BitVec 32 := 512#32
  let v76 : BitVec 32 := Scalar.muli c6_i32 c512_i32_48
  v76
def k0_mult8 : BitVec 32 :=
  let c7_i32 : BitVec 32 := 7#32
  let c512_i32_56 : BitVec 32 := 512#32
  let v88 : BitVec 32 := Scalar.muli c7_i32 c512_i32_56
  v88
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S4096x1024 : Shape := ⟨2, ![4096, 1024]⟩
abbrev S4096x512 : Shape := ⟨2, ![4096, 512]⟩
abbrev S_ : Shape := ⟨0, ![]⟩
abbrev S1024x512 : Shape := ⟨2, ![1024, 512]⟩
abbrev S512x1024 : Shape := ⟨2, ![512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S_, .f32⟩
  | .hbm, ⟨3, _⟩ => ⟨S1024x512, .f32⟩
  | .hbm, ⟨4, _⟩ => ⟨S4096x512, .f32⟩
  | .hbm, ⟨5, _⟩ => ⟨S512x1024, .f32⟩
  | .hbm, ⟨6, _⟩ => ⟨S4096x1024, .f32⟩
  | .hbm, ⟨7, _⟩ => ⟨S4096x1024, .f32⟩
  | .hbm, ⟨8, _⟩ => ⟨S1024x512, .f32⟩
  | .hbm, ⟨9, _⟩ => ⟨S512x1024, .f32⟩
  | .hbm, ⟨10, _⟩ => ⟨S1024x512, .f32⟩
  | .hbm, ⟨11, _⟩ => ⟨S1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Rest.lean ====
module

public import proofs.«01_k».proof.Proof.Gen.KernelIdeal.Launch

@[expose] public section

noncomputable section

namespace Cert.KernelIdeal.Gla

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- While the forward call runs, the scoped buffers that are not its staging buffers, each whole at some contents. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f) ∗ (∃ f : Buf Val ((c : Thread nD τ).loc cc1_stg0_0), ((c : Thread nD τ).loc cc1_stg0_0) ↦{fullShare} f) ∗ (∃ f : Buf Val ((c : Thread nD τ).loc cc1_stg0_1), ((c : Thread nD τ).loc cc1_stg0_1) ↦{fullShare} f) ∗ (∃ f : Buf Val ((c : Thread nD τ).loc cc1_stg1_0), ((c : Thread nD τ).loc cc1_stg1_0) ↦{fullShare} f) ∗ (∃ f : Buf Val ((c : Thread nD τ).loc cc1_stg1_1), ((c : Thread nD τ).loc cc1_stg1_1) ↦{fullShare} f) ∗ (∃ f : Buf Val ((c : Thread nD τ).loc cc1_stg2_0), ((c : Thread nD τ).loc cc1_stg2_0) ↦{fullShare} f) ∗ (∃ f : Buf Val ((c : Thread nD τ).loc cc1_stg2_1), ((c : Thread nD τ).loc cc1_stg2_1) ↦{fullShare} f) ∗ (∃ f : Buf Val ((c : Thread nD τ).loc cc1_stg3_0), ((c : Thread nD τ).loc cc1_stg3_0) ↦{fullShare} f) ∗ (∃ f : Buf Val ((c : Thread nD τ).loc cc1_stg3_1), ((c : Thread nD τ).loc cc1_stg3_1) ↦{fullShare} f) ∗ (∃ f : Buf Val ((c : Thread nD τ).loc cc1_stg4_0), ((c : Thread nD τ).loc cc1_stg4_0) ↦{fullShare} f) ∗ (∃ f : Buf Val ((c : Thread nD τ).loc cc1_stg5_0), ((c : Thread nD τ).loc cc1_stg5_0) ↦{fullShare} f) ∗ (∃ f : Buf Val ((c : Thread nD τ).loc cc1_stg6_0), ((c : Thread nD τ).loc cc1_stg6_0) ↦{fullShare} f) ∗ (∃ f : Buf Val ((c : Thread nD τ).loc cc1_stg6_1), ((c : Thread nD τ).loc cc1_stg6_1) ↦{fullShare} f) ∗ (∃ f : Buf Val ((c : Thread nD τ).loc cc1_stg7_0), ((c : Thread nD τ).loc cc1_stg7_0) ↦{fullShare} f) ∗ (∃ f : Buf Val ((c : Thread nD τ).loc cc1_stg7_1), ((c : Thread nD τ).loc cc1_stg7_1) ↦{fullShare} f) ∗ (∃ f : Buf Val ((c : Thread nD τ).loc cc1_stg8_0), ((c : Thread nD τ).loc cc1_stg8_0) ↦{fullShare} f) ∗ (∃ f : Buf Val ((c : Thread nD τ).loc cc1_stg8_1), ((c : Thread nD τ).loc cc1_stg8_1) ↦{fullShare} f) ∗ (∃ f : Buf Val ((c : Thread nD τ).loc cc1_stg9_0), ((c : Thread nD τ).loc cc1_stg9_0) ↦{fullShare} f) ∗ (∃ f : Buf Val ((c : Thread nD τ).loc cc1_stg9_1), ((c : Thread nD τ).loc cc1_stg9_1) ↦{fullShare} f) ∗ (∃ f : Buf Val ((c : Thread nD τ).loc cc1_stg10_0), ((c : Thread nD τ).loc cc1_stg10_0) ↦{fullShare} f) ∗ (∃ f : Buf Val ((c : Thread nD τ).loc cc1_stg10_1), ((c : Thread nD τ).loc cc1_stg10_1) ↦{fullShare} f) ∗ (∃ f : Buf Val ((c : Thread nD τ).loc cc1_stg11_0), ((c : Thread nD τ).loc cc1_stg11_0) ↦{fullShare} f) ∗ (∃ f : Buf Val ((c : Thread nD τ).loc cc1_stg11_1), ((c : Thread nD τ).loc cc1_stg11_1) ↦{fullShare} f) ∗ (∃ f : Buf Val ((c : Thread nD τ).loc cc1_stg12_0), ((c : Thread nD τ).loc cc1_stg12_0) ↦{fullShare} f) ∗ (∃ f : Buf Val ((c : Thread nD τ).loc cc1_stg13_0), ((c : Thread nD τ).loc cc1_stg13_0) ↦{fullShare} f) ∗ (∃ f : Buf Val ((c : Thread nD τ).loc cc1_scratch0), ((c : Thread nD τ).loc cc1_scratch0) ↦{fullShare} f)) :=
  Pipeline.scopedRest_eq_of_list spec0 c [cc0_scratch0, cc1_stg0_0, cc1_stg0_1, cc1_stg1_0, cc1_stg1_1, cc1_stg2_0, cc1_stg2_1, cc1_stg3_0, cc1_stg3_1, cc1_stg4_0, cc1_stg5_0, cc1_stg6_0, cc1_stg6_1, cc1_stg7_0, cc1_stg7_1, cc1_stg8_0, cc1_stg8_1, cc1_stg9_0, cc1_stg9_1, cc1_stg10_0, cc1_stg10_1, cc1_stg11_0, cc1_stg11_1, cc1_stg12_0, cc1_stg13_0, cc1_scratch0] (by decide) (by decide)

end Cert.KernelIdeal.Gla

end
-- ==== Proof.Region0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

public import proofs.«01_k».proof.Proof.Rest

@[expose] public section

set_option maxRecDepth 16384

noncomputable section

namespace Cert.KernelIdeal.Gla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

abbrev VO0_6 : View sig .tc .vmem S256x512 .f32 := (Memref.whole cc0_stg6_0 : Memref sig .tc .vmem S256x512 .f32).view
abbrev VO0_7 : View sig .tc .vmem S4x128x256 .f32 := (Memref.whole cc0_stg7_0 : Memref sig .tc .vmem S4x128x256 .f32).view
abbrev ms0_0 (t : Fin cfg0.N) : Memref sig .tc .vmem S256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x128x256 .f32 := win0_7.stage (cfg0.slots t 7)
abbrev hs0_7 (t : Fin cfg0.N) : (ms0_7 t).IsWhole := hstage0_7 ((cfg0.slots t 7).cast nbuf0_7)
abbrev scM0_0 : Memref sig .tc .vmem S128x256 .f32 := Memref.whole cc0_scratch0
abbrev VS0_0 : View sig .tc .vmem S128x256 .f32 := scM0_0.view

theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg10_1), ((c : Thread nD τ).loc cc1_stg10_1) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg11_1), ((c : Thread nD τ).loc cc1_stg11_1) ↦{fullShare} f) ∗ (∃ f : Buf (Elt F) ((c : Thread nD τ).loc cc1_stg12_0), ((c : Thread nD τ).loc cc1_stg12_0) ↦{fullShare} f) ∗ (∃ f : Buf (Elt F) ((c : Thread nD τ).loc cc1_stg13_0), ((c : Thread nD τ).loc cc1_stg13_0) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0_0, owns_whole]; try rfl
set_option maxHeartbeats 1000000 in
noncomputable def kernelRun0_A (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S256x512 .f32) (harg7 : arg7.IsWhole) (arg8 : Memref sig .tc .vmem S4x128x256 .f32) (harg8 : arg8.IsWhole) (arg9 : Memref sig .tc .vmem S128x256 .f32) (harg9 : arg9.IsWhole) (hc0 : cond0_0 i)
    (x0 : Vec F S256x256 .f32) (x1 : Vec F S256x256 .f32) (x2 : Vec F S256x512 .f32) (x3 : Vec F S256x16 .f32) (x4 : Vec F S16x256 .f32) (x5 : Vec F S1x256 .f32) :
    Σ' (L6 : List (View.Piece (Elt F) S256x512 .f32)), Σ' (L7 : List (View.Piece (Elt F) S4x128x256 .f32)), { LS0 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_gla_fwd i arg1 harg1 arg2 harg2 arg3 harg3 arg4 harg4 arg5 harg5 arg6 harg6 arg7 harg7 arg8 harg8 arg9 harg9) K } := by
  refine ⟨?_, ?_, ?_, fun E K => ?run⟩
  case run =>
    simp only [cc0_gla_fwd_eq_skeleton]; unfold cc0_gla_fwd_skel
    simp only [k0_part18_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

theorem cover0_A_6 (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S256x512 .f32) (harg7 : arg7.IsWhole) (arg8 : Memref sig .tc .vmem S4x128x256 .f32) (harg8 : arg8.IsWhole) (arg9 : Memref sig .tc .vmem S128x256 .f32) (harg9 : arg9.IsWhole) (hc0 : cond0_0 i)
    (x0 : Vec F S256x256 .f32) (x1 : Vec F S256x256 .f32) (x2 : Vec F S256x512 .f32) (x3 : Vec F S256x16 .f32) (x4 : Vec F S16x256 .f32) (x5 : Vec F S1x256 .f32) (y : S256x512.Idx) :
    ∃ pc ∈ (kernelRun0_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).1 S64x128.size (by sl_kernel_rfl) y

def out0_A_6 (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S256x512 .f32) (harg7 : arg7.IsWhole) (arg8 : Memref sig .tc .vmem S4x128x256 .f32) (harg8 : arg8.IsWhole) (arg9 : Memref sig .tc .vmem S128x256 .f32) (harg9 : arg9.IsWhole) (hc0 : cond0_0 i)
    (x0 : Vec F S256x256 .f32) (x1 : Vec F S256x256 .f32) (x2 : Vec F S256x512 .f32) (x3 : Vec F S256x16 .f32) (x4 : Vec F S16x256 .f32) (x5 : Vec F S1x256 .f32) : Vec F S256x512 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 x0 x1 x2 x3 x4 x5).1)

theorem cover0_A_7 (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S256x512 .f32) (harg7 : arg7.IsWhole) (arg8 : Memref sig .tc .vmem S4x128x256 .f32) (harg8 : arg8.IsWhole) (arg9 : Memref sig .tc .vmem S128x256 .f32) (harg9 : arg9.IsWhole) (hc0 : cond0_0 i)
    (x0 : Vec F S256x256 .f32) (x1 : Vec F S256x256 .f32) (x2 : Vec F S256x512 .f32) (x3 : Vec F S256x16 .f32) (x4 : Vec F S16x256 .f32) (x5 : Vec F S1x256 .f32) (y : S4x128x256.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).2.1 S1x128x256.size (by sl_kernel_rfl) y

def out0_A_7 (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S256x512 .f32) (harg7 : arg7.IsWhole) (arg8 : Memref sig .tc .vmem S4x128x256 .f32) (harg8 : arg8.IsWhole) (arg9 : Memref sig .tc .vmem S128x256 .f32) (harg9 : arg9.IsWhole) (hc0 : cond0_0 i)
    (x0 : Vec F S256x256 .f32) (x1 : Vec F S256x256 .f32) (x2 : Vec F S256x512 .f32) (x3 : Vec F S256x16 .f32) (x4 : Vec F S16x256 .f32) (x5 : Vec F S1x256 .f32) : Vec F S4x128x256 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 x0 x1 x2 x3 x4 x5).2.1)

theorem scover0_A_0 (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S256x512 .f32) (harg7 : arg7.IsWhole) (arg8 : Memref sig .tc .vmem S4x128x256 .f32) (harg8 : arg8.IsWhole) (arg9 : Memref sig .tc .vmem S128x256 .f32) (harg9 : arg9.IsWhole) (hc0 : cond0_0 i)
    (x0 : Vec F S256x256 .f32) (x1 : Vec F S256x256 .f32) (x2 : Vec F S256x512 .f32) (x3 : Vec F S256x16 .f32) (x4 : Vec F S16x256 .f32) (x5 : Vec F S1x256 .f32) (y : S128x256.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).2.2.1 S128x256.size (by sl_kernel_rfl) y

def sout0_A_0 (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S256x512 .f32) (harg7 : arg7.IsWhole) (arg8 : Memref sig .tc .vmem S4x128x256 .f32) (harg8 : arg8.IsWhole) (arg9 : Memref sig .tc .vmem S128x256 .f32) (harg9 : arg9.IsWhole) (hc0 : cond0_0 i)
    (x0 : Vec F S256x256 .f32) (x1 : Vec F S256x256 .f32) (x2 : Vec F S256x512 .f32) (x3 : Vec F S256x16 .f32) (x4 : Vec F S16x256 .f32) (x5 : Vec F S1x256 .f32) : Vec F S128x256 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 x0 x1 x2 x3 x4 x5).2.2.1)
set_option maxHeartbeats 1000000 in
noncomputable def kernelRun0_B (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S256x512 .f32) (harg7 : arg7.IsWhole) (arg8 : Memref sig .tc .vmem S4x128x256 .f32) (harg8 : arg8.IsWhole) (arg9 : Memref sig .tc .vmem S128x256 .f32) (harg9 : arg9.IsWhole) (hc0 : ¬cond0_0 i)
    (x0 : Vec F S256x256 .f32) (x1 : Vec F S256x256 .f32) (x2 : Vec F S256x512 .f32) (x3 : Vec F S256x16 .f32) (x4 : Vec F S16x256 .f32) (x5 : Vec F S1x256 .f32) (xs0 : Vec F S128x256 .f32) :
    Σ' (L6 : List (View.Piece (Elt F) S256x512 .f32)), Σ' (L7 : List (View.Piece (Elt F) S4x128x256 .f32)), { LS0 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_gla_fwd i arg1 harg1 arg2 harg2 arg3 harg3 arg4 harg4 arg5 harg5 arg6 harg6 arg7 harg7 arg8 harg8 arg9 harg9) K } := by
  refine ⟨?_, ?_, ?_, fun E K => ?run⟩
  case run =>
    simp only [cc0_gla_fwd_eq_skeleton]; unfold cc0_gla_fwd_skel
    simp only [k0_part18_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

theorem cover0_B_6 (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S256x512 .f32) (harg7 : arg7.IsWhole) (arg8 : Memref sig .tc .vmem S4x128x256 .f32) (harg8 : arg8.IsWhole) (arg9 : Memref sig .tc .vmem S128x256 .f32) (harg9 : arg9.IsWhole) (hc0 : ¬cond0_0 i)
    (x0 : Vec F S256x256 .f32) (x1 : Vec F S256x256 .f32) (x2 : Vec F S256x512 .f32) (x3 : Vec F S256x16 .f32) (x4 : Vec F S16x256 .f32) (x5 : Vec F S1x256 .f32) (xs0 : Vec F S128x256 .f32) (y : S256x512.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs0).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xs0).1 S64x128.size (by sl_kernel_rfl) y

def out0_B_6 (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S256x512 .f32) (harg7 : arg7.IsWhole) (arg8 : Memref sig .tc .vmem S4x128x256 .f32) (harg8 : arg8.IsWhole) (arg9 : Memref sig .tc .vmem S128x256 .f32) (harg9 : arg9.IsWhole) (hc0 : ¬cond0_0 i)
    (x0 : Vec F S256x256 .f32) (x1 : Vec F S256x256 .f32) (x2 : Vec F S256x512 .f32) (x3 : Vec F S256x16 .f32) (x4 : Vec F S16x256 .f32) (x5 : Vec F S1x256 .f32) (xs0 : Vec F S128x256 .f32) : Vec F S256x512 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 x0 x1 x2 x3 x4 x5 xs0).1)

theorem cover0_B_7 (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S256x512 .f32) (harg7 : arg7.IsWhole) (arg8 : Memref sig .tc .vmem S4x128x256 .f32) (harg8 : arg8.IsWhole) (arg9 : Memref sig .tc .vmem S128x256 .f32) (harg9 : arg9.IsWhole) (hc0 : ¬cond0_0 i)
    (x0 : Vec F S256x256 .f32) (x1 : Vec F S256x256 .f32) (x2 : Vec F S256x512 .f32) (x3 : Vec F S256x16 .f32) (x4 : Vec F S16x256 .f32) (x5 : Vec F S1x256 .f32) (xs0 : Vec F S128x256 .f32) (y : S4x128x256.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs0).2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xs0).2.1 S1x128x256.size (by sl_kernel_rfl) y

def out0_B_7 (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S256x512 .f32) (harg7 : arg7.IsWhole) (arg8 : Memref sig .tc .vmem S4x128x256 .f32) (harg8 : arg8.IsWhole) (arg9 : Memref sig .tc .vmem S128x256 .f32) (harg9 : arg9.IsWhole) (hc0 : ¬cond0_0 i)
    (x0 : Vec F S256x256 .f32) (x1 : Vec F S256x256 .f32) (x2 : Vec F S256x512 .f32) (x3 : Vec F S256x16 .f32) (x4 : Vec F S16x256 .f32) (x5 : Vec F S1x256 .f32) (xs0 : Vec F S128x256 .f32) : Vec F S4x128x256 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 hc0 x0 x1 x2 x3 x4 x5 xs0).2.1)

theorem scover0_B_0 (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S256x512 .f32) (harg7 : arg7.IsWhole) (arg8 : Memref sig .tc .vmem S4x128x256 .f32) (harg8 : arg8.IsWhole) (arg9 : Memref sig .tc .vmem S128x256 .f32) (harg9 : arg9.IsWhole) (hc0 : ¬cond0_0 i)
    (x0 : Vec F S256x256 .f32) (x1 : Vec F S256x256 .f32) (x2 : Vec F S256x512 .f32) (x3 : Vec F S256x16 .f32) (x4 : Vec F S16x256 .f32) (x5 : Vec F S1x256 .f32) (xs0 : Vec F S128x256 .f32) (y : S128x256.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs0).2.2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xs0).2.2.1 S128x256.size (by sl_kernel_rfl) y

def sout0_B_0 (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S256x512 .f32) (harg7 : arg7.IsWhole) (arg8 : Memref sig .tc .vmem S4x128x256 .f32) (harg8 : arg8.IsWhole) (arg9 : Memref sig .tc .vmem S128x256 .f32) (harg9 : arg9.IsWhole) (hc0 : ¬cond0_0 i)
    (x0 : Vec F S256x256 .f32) (x1 : Vec F S256x256 .f32) (x2 : Vec F S256x512 .f32) (x3 : Vec F S256x16 .f32) (x4 : Vec F S16x256 .f32) (x5 : Vec F S1x256 .f32) (xs0 : Vec F S128x256 .f32) : Vec F S128x256 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 x0 x1 x2 x3 x4 x5 xs0).2.2.1)

def outsAt0 (c : Dev nD) : (n : ℕ) → n < cfg0.N → Vec F S256x512 .f32 × Vec F S4x128x256 .f32 × Vec F S128x256 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 16 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2)

theorem outsAt0_A (c : Dev nD) (t : Fin cfg0.N) (h0 : t.val % 16 = 0) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk0 V c 0 t) (iblk0 V c 1 t) (iblk0 V c 2 t) (iblk0 V c 3 t) (iblk0 V c 4 t) (iblk0 V c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk0 V c 0 t) (iblk0 V c 1 t) (iblk0 V c 2 t) (iblk0 V c 3 t) (iblk0 V c 4 t) (iblk0 V c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans rfl

theorem outsAt0_B (c : Dev nD) (t : Fin cfg0.N) (h0 : ¬t.val % 16 = 0) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg10_1), ((c : Thread nD τ).loc cc1_stg10_1) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg11_1), ((c : Thread nD τ).loc cc1_stg11_1) ↦{fullShare} f) ∗ (∃ f : Buf (Elt F) ((c : Thread nD τ).loc cc1_stg12_0), ((c : Thread nD τ).loc cc1_stg12_0) ↦{fullShare} f) ∗ (∃ f : Buf (Elt F) ((c : Thread nD τ).loc cc1_stg13_0), ((c : Thread nD τ).loc cc1_stg13_0) ↦{fullShare} f) ∗ (∃ f : Buf (Elt F) ((c : Thread nD τ).loc cc1_scratch0), ((c : Thread nD τ).loc cc1_scratch0) ↦{fullShare} f)) ∗ (∃ r, prngReg c r))

theorem PhiS_zero0 (c : Dev nD) (n : ℕ) (h : n ≤ cfg0.N) (hz : n = 0) : PhiS0 V c n h = Pipeline.ΦA spec0 c := by
  subst hz; rfl

theorem PhiS_succ0 (c : Dev nD) (n : ℕ) (hn : n < cfg0.N) :
    PhiS0 V c (n + 1) hn = iprop(iprop(owns (c : Thread nD τ) scM0_0 fullShare ((outsAt0 V c n hn).2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg10_1), ((c : Thread nD τ).loc cc1_stg10_1) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg11_1), ((c : Thread nD τ).loc cc1_stg11_1) ↦{fullShare} f) ∗ (∃ f : Buf (Elt F) ((c : Thread nD τ).loc cc1_stg12_0), ((c : Thread nD τ).loc cc1_stg12_0) ↦{fullShare} f) ∗ (∃ f : Buf (Elt F) ((c : Thread nD τ).loc cc1_stg13_0), ((c : Thread nD τ).loc cc1_stg13_0) ↦{fullShare} f) ∗ (∃ f : Buf (Elt F) ((c : Thread nD τ).loc cc1_scratch0), ((c : Thread nD τ).loc cc1_scratch0) ↦{fullShare} f)) ∗ (∃ r, prngReg c r)) := rfl

theorem PhiS_pos0 (c : Dev nD) (n : ℕ) (h : n ≤ cfg0.N) (hz : n ≠ 0) :
    PhiS0 V c n h = iprop(iprop(owns (c : Thread nD τ) scM0_0 fullShare ((outsAt0 V c (n - 1) (by omega)).2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg10_1), ((c : Thread nD τ).loc cc1_stg10_1) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg11_1), ((c : Thread nD τ).loc cc1_stg11_1) ↦{fullShare} f) ∗ (∃ f : Buf (Elt F) ((c : Thread nD τ).loc cc1_stg12_0), ((c : Thread nD τ).loc cc1_stg12_0) ↦{fullShare} f) ∗ (∃ f : Buf (Elt F) ((c : Thread nD τ).loc cc1_stg13_0), ((c : Thread nD τ).loc cc1_stg13_0) ↦{fullShare} f) ∗ (∃ f : Buf (Elt F) ((c : Thread nD τ).loc cc1_scratch0), ((c : Thread nD τ).loc cc1_scratch0) ↦{fullShare} f)) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc0 (c : Dev nD) (t : Fin cfg0.N) :
    (dat0 V c).Φ t.castSucc = PhiS0 V c t.val (Nat.le_of_lt t.isLt) := by
  dsimp only [dat0]; exact Pipeline.Dat.Φ_castSucc (PhiS0 V c) t

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 6400000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl,
    after0_0, after0_1, after0_2, after0_3, after0_4, after0_5, after0_6, after0_7]
  rw [show (dat0 V c).Φ t.succ = PhiS0 V c (t.val + 1) t.isLt from rfl, PhiS_succ0]
  have hN : t.val < 16 := lt_of_lt_of_eq t.isLt (show cfg0.N = 16 from N_0)
  by_cases h0 : t.val % 16 = 0
  · by_cases hz : t.val = 0
    · rw [PhiS_castSucc0 V c t, PhiS_zero0 V c _ _ hz, PhiA0_eq]
      rw [outsAt0_A V c t h0]
      unfold out0_A_6 out0_A_7 sout0_A_0; (try dsimp only)
      iintro ⟨⟨⟨HS0, HR1, HR2, HR3, HR4, HR5, HR6, HR7, HR8, HR9, HR10, HR11, HR12, HR13, HR14, HR15, HR16, HR17, HR18, HR19, HR20, HR21, HR22, HR23, HR24, HR25⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HR1 HR2 HR3 HR4 HR5 HR6 HR7 HR8 HR9 HR10 HR11 HR12 HR13 HR14 HR15 HR16 HR17 HR18 HR19 HR20 HR21 HR22 HR23 HR24 HR25 Hg]
      · isplitl [HS0 HR1 HR2 HR3 HR4 HR5 HR6 HR7 HR8 HR9 HR10 HR11 HR12 HR13 HR14 HR15 HR16 HR17 HR18 HR19 HR20 HR21 HR22 HR23 HR24 HR25]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          isplitl [HR11]
          · iexact HR11
          isplitl [HR12]
          · iexact HR12
          isplitl [HR13]
          · iexact HR13
          isplitl [HR14]
          · iexact HR14
          isplitl [HR15]
          · iexact HR15
          isplitl [HR16]
          · iexact HR16
          isplitl [HR17]
          · iexact HR17
          isplitl [HR18]
          · iexact HR18
          isplitl [HR19]
          · iexact HR19
          isplitl [HR20]
          · iexact HR20
          isplitl [HR21]
          · iexact HR21
          isplitl [HR22]
          · iexact HR22
          isplitl [HR23]
          · iexact HR23
          isplitl [HR24]
          · iexact HR24
          iexact HR25
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc0 V c t, PhiS_pos0 V c _ _ hz]
      rw [outsAt0_B V c t h0]
      unfold out0_B_6 out0_B_7 sout0_B_0; (try dsimp only)
      iintro ⟨⟨⟨HS0, HR1, HR2, HR3, HR4, HR5, HR6, HR7, HR8, HR9, HR10, HR11, HR12, HR13, HR14, HR15, HR16, HR17, HR18, HR19, HR20, HR21, HR22, HR23, HR24, HR25⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HR1 HR2 HR3 HR4 HR5 HR6 HR7 HR8 HR9 HR10 HR11 HR12 HR13 HR14 HR15 HR16 HR17 HR18 HR19 HR20 HR21 HR22 HR23 HR24 HR25 Hg]
      · isplitl [HS0 HR1 HR2 HR3 HR4 HR5 HR6 HR7 HR8 HR9 HR10 HR11 HR12 HR13 HR14 HR15 HR16 HR17 HR18 HR19 HR20 HR21 HR22 HR23 HR24 HR25]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _)
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          isplitl [HR11]
          · iexact HR11
          isplitl [HR12]
          · iexact HR12
          isplitl [HR13]
          · iexact HR13
          isplitl [HR14]
          · iexact HR14
          isplitl [HR15]
          · iexact HR15
          isplitl [HR16]
          · iexact HR16
          isplitl [HR17]
          · iexact HR17
          isplitl [HR18]
          · iexact HR18
          isplitl [HR19]
          · iexact HR19
          isplitl [HR20]
          · iexact HR20
          isplitl [HR21]
          · iexact HR21
          isplitl [HR22]
          · iexact HR22
          isplitl [HR23]
          · iexact HR23
          isplitl [HR24]
          · iexact HR24
          iexact HR25
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

theorem hin0 (c : Dev nD) : Pipeline.ΦA spec0 c ⊢ (dat0 V c).Φ 0 := by
  rw [show (dat0 V c).Φ 0 = PhiS0 V c 0 (Nat.zero_le _) from rfl, PhiS_zero0 V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS_pos0 V c _ _ ht, PhiA0_eq]
  iintro ⟨⟨HS0, HR1, HR2, HR3, HR4, HR5, HR6, HR7, HR8, HR9, HR10, HR11, HR12, HR13, HR14, HR15, HR16, HR17, HR18, HR19, HR20, HR21, HR22, HR23, HR24, HR25⟩, Hg⟩
  isplitl [HS0 HR1 HR2 HR3 HR4 HR5 HR6 HR7 HR8 HR9 HR10 HR11 HR12 HR13 HR14 HR15 HR16 HR17 HR18 HR19 HR20 HR21 HR22 HR23 HR24 HR25]
  · isplitl [HS0]
    · iexists _; iexact HS0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HR15]
    · iexact HR15
    isplitl [HR16]
    · iexact HR16
    isplitl [HR17]
    · iexact HR17
    isplitl [HR18]
    · iexact HR18
    isplitl [HR19]
    · iexact HR19
    isplitl [HR20]
    · iexact HR20
    isplitl [HR21]
    · iexact HR21
    isplitl [HR22]
    · iexact HR22
    isplitl [HR23]
    · iexact HR23
    isplitl [HR24]
    · iexact HR24
    iexact HR25
  iexact Hg

theorem hout0 (c : Dev nD) : (dat0 V c).Φ (Fin.last cfg0.N) ⊢ Pipeline.ΦA spec0 c :=
  Phi_out0 V c _ (by rw [Fin.val_last]; have : cfg0.N = 16 := N_0; omega)

end Regions

end Cert.KernelIdeal.Gla

end
-- ==== Proof.Region1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 16 = 0 :=
  (fun t => by
    have ht : t.val < 16 := Nat.lt_of_lt_of_eq t.isLt N_1
    have e0 : (grid1.coords t 0).val = t.val / 1 % 16 := Pipeline.Grid.coords_val t 0 (by decide) rfl
    simp only [cond1_0, e0]
    word_cmp
   : ∀ t : Fin grid1.N, cond1_0 (grid1.coords t) ↔ t.val % 16 = 0)

abbrev VO1_8 : View sig .tc .vmem S256x256 .bf16 := (Memref.whole cc1_stg8_0 : Memref sig .tc .vmem S256x256 .bf16).view
abbrev VO1_9 : View sig .tc .vmem S256x256 .bf16 := (Memref.whole cc1_stg9_0 : Memref sig .tc .vmem S256x256 .bf16).view
abbrev VO1_10 : View sig .tc .vmem S256x512 .bf16 := (Memref.whole cc1_stg10_0 : Memref sig .tc .vmem S256x512 .bf16).view
abbrev VO1_11 : View sig .tc .vmem S256x16 .bf16 := (Memref.whole cc1_stg11_0 : Memref sig .tc .vmem S256x16 .bf16).view
abbrev VO1_12 : View sig .tc .vmem S16x256 .f32 := (Memref.whole cc1_stg12_0 : Memref sig .tc .vmem S16x256 .f32).view
abbrev VO1_13 : View sig .tc .vmem S1x256 .f32 := (Memref.whole cc1_stg13_0 : Memref sig .tc .vmem S1x256 .f32).view
abbrev ms1_0 (t : Fin cfg1.N) : Memref sig .tc .vmem S256x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x16 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S16x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S4x128x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x512 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S256x256 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S256x256 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S256x512 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S256x16 .bf16 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S16x256 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x256 .f32 := win1_13.stage (cfg1.slots t 13)
abbrev hs1_13 (t : Fin cfg1.N) : (ms1_13 t).IsWhole := hstage1_13 ((cfg1.slots t 13).cast nbuf1_13)
abbrev scM1_0 : Memref sig .tc .vmem S128x256 .f32 := Memref.whole cc1_scratch0
abbrev VS1_0 : View sig .tc .vmem S128x256 .f32 := scM1_0.view

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl
set_option maxHeartbeats 1000000 in
noncomputable def kernelRun1_A (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : cond1_0 i)
    (x0 : Vec F S256x256 .f32) (x1 : Vec F S256x256 .f32) (x2 : Vec F S256x512 .f32) (x3 : Vec F S256x16 .f32) (x4 : Vec F S16x256 .f32) (x5 : Vec F S1x256 .f32) (x6 : Vec F S4x128x256 .f32) (x7 : Vec F S256x512 .bf16) :
    Σ' (L8 : List (View.Piece (Elt F) S256x256 .bf16)), Σ' (L9 : List (View.Piece (Elt F) S256x256 .bf16)), Σ' (L10 : List (View.Piece (Elt F) S256x512 .bf16)), Σ' (L11 : List (View.Piece (Elt F) S256x16 .bf16)), Σ' (L12 : List (View.Piece (Elt F) S16x256 .f32)), Σ' (L13 : List (View.Piece (Elt F) S1x256 .f32)), { LS0 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0)) -∗ K ⟨⟩))
          ⊢ wp frame (wpE (defs₀ (F := F)) Variants.none c none) E (cc1_gla_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun E K => ?run⟩
  case run =>
    simp only [cc1_gla_bwd_eq_skeleton]; unfold cc1_gla_bwd_skel
    simp only [k1_part34_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS0

theorem cover1_A_8 (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : cond1_0 i)
    (x0 : Vec F S256x256 .f32) (x1 : Vec F S256x256 .f32) (x2 : Vec F S256x512 .f32) (x3 : Vec F S256x16 .f32) (x4 : Vec F S16x256 .f32) (x5 : Vec F S1x256 .f32) (x6 : Vec F S4x128x256 .f32) (x7 : Vec F S256x512 .bf16) (y : S256x256.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1 S64x256.size (by sl_kernel_rfl) y

def out1_A_8 (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : cond1_0 i)
    (x0 : Vec F S256x256 .f32) (x1 : Vec F S256x256 .f32) (x2 : Vec F S256x512 .f32) (x3 : Vec F S256x16 .f32) (x4 : Vec F S16x256 .f32) (x5 : Vec F S1x256 .f32) (x6 : Vec F S4x128x256 .f32) (x7 : Vec F S256x512 .bf16) : Vec F S256x256 .bf16 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1)

theorem cover1_A_9 (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : cond1_0 i)
    (x0 : Vec F S256x256 .f32) (x1 : Vec F S256x256 .f32) (x2 : Vec F S256x512 .f32) (x3 : Vec F S256x16 .f32) (x4 : Vec F S16x256 .f32) (x5 : Vec F S1x256 .f32) (x6 : Vec F S4x128x256 .f32) (x7 : Vec F S256x512 .bf16) (y : S256x256.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1 S64x256.size (by sl_kernel_rfl) y

def out1_A_9 (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : cond1_0 i)
    (x0 : Vec F S256x256 .f32) (x1 : Vec F S256x256 .f32) (x2 : Vec F S256x512 .f32) (x3 : Vec F S256x16 .f32) (x4 : Vec F S16x256 .f32) (x5 : Vec F S1x256 .f32) (x6 : Vec F S4x128x256 .f32) (x7 : Vec F S256x512 .bf16) : Vec F S256x256 .bf16 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1)

theorem cover1_A_10 (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : cond1_0 i)
    (x0 : Vec F S256x256 .f32) (x1 : Vec F S256x256 .f32) (x2 : Vec F S256x512 .f32) (x3 : Vec F S256x16 .f32) (x4 : Vec F S16x256 .f32) (x5 : Vec F S1x256 .f32) (x6 : Vec F S4x128x256 .f32) (x7 : Vec F S256x512 .bf16) (y : S256x512.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1 S64x128.size (by sl_kernel_rfl) y

def out1_A_10 (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : cond1_0 i)
    (x0 : Vec F S256x256 .f32) (x1 : Vec F S256x256 .f32) (x2 : Vec F S256x512 .f32) (x3 : Vec F S256x16 .f32) (x4 : Vec F S16x256 .f32) (x5 : Vec F S1x256 .f32) (x6 : Vec F S4x128x256 .f32) (x7 : Vec F S256x512 .bf16) : Vec F S256x512 .bf16 :=
  VO1_10.read (Elt F) (VO1_10.writes (Elt F) VO1_10.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1)

theorem cover1_A_11 (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : cond1_0 i)
    (x0 : Vec F S256x256 .f32) (x1 : Vec F S256x256 .f32) (x2 : Vec F S256x512 .f32) (x3 : Vec F S256x16 .f32) (x4 : Vec F S16x256 .f32) (x5 : Vec F S1x256 .f32) (x6 : Vec F S4x128x256 .f32) (x7 : Vec F S256x512 .bf16) (y : S256x16.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1 S64x16.size (by sl_kernel_rfl) y

def out1_A_11 (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : cond1_0 i)
    (x0 : Vec F S256x256 .f32) (x1 : Vec F S256x256 .f32) (x2 : Vec F S256x512 .f32) (x3 : Vec F S256x16 .f32) (x4 : Vec F S16x256 .f32) (x5 : Vec F S1x256 .f32) (x6 : Vec F S4x128x256 .f32) (x7 : Vec F S256x512 .bf16) : Vec F S256x16 .bf16 :=
  VO1_11.read (Elt F) (VO1_11.writes (Elt F) VO1_11.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1)

theorem cover1_A_12 (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : cond1_0 i)
    (x0 : Vec F S256x256 .f32) (x1 : Vec F S256x256 .f32) (x2 : Vec F S256x512 .f32) (x3 : Vec F S256x16 .f32) (x4 : Vec F S16x256 .f32) (x5 : Vec F S1x256 .f32) (x6 : Vec F S4x128x256 .f32) (x7 : Vec F S256x512 .bf16) (y : S16x256.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1 S16x256.size (by sl_kernel_rfl) y

def out1_A_12 (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : cond1_0 i)
    (x0 : Vec F S256x256 .f32) (x1 : Vec F S256x256 .f32) (x2 : Vec F S256x512 .f32) (x3 : Vec F S256x16 .f32) (x4 : Vec F S16x256 .f32) (x5 : Vec F S1x256 .f32) (x6 : Vec F S4x128x256 .f32) (x7 : Vec F S256x512 .bf16) : Vec F S16x256 .f32 :=
  VO1_12.read (Elt F) (VO1_12.writes (Elt F) VO1_12.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1)

theorem cover1_A_13 (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : cond1_0 i)
    (x0 : Vec F S256x256 .f32) (x1 : Vec F S256x256 .f32) (x2 : Vec F S256x512 .f32) (x3 : Vec F S256x16 .f32) (x4 : Vec F S16x256 .f32) (x5 : Vec F S1x256 .f32) (x6 : Vec F S4x128x256 .f32) (x7 : Vec F S256x512 .bf16) (y : S1x256.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1 S1x256.size (by sl_kernel_rfl) y

def out1_A_13 (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : cond1_0 i)
    (x0 : Vec F S256x256 .f32) (x1 : Vec F S256x256 .f32) (x2 : Vec F S256x512 .f32) (x3 : Vec F S256x16 .f32) (x4 : Vec F S16x256 .f32) (x5 : Vec F S1x256 .f32) (x6 : Vec F S4x128x256 .f32) (x7 : Vec F S256x512 .bf16) : Vec F S1x256 .f32 :=
  VO1_13.read (Elt F) (VO1_13.writes (Elt F) VO1_13.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1)

theorem scover1_A_0 (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : cond1_0 i)
    (x0 : Vec F S256x256 .f32) (x1 : Vec F S256x256 .f32) (x2 : Vec F S256x512 .f32) (x3 : Vec F S256x16 .f32) (x4 : Vec F S16x256 .f32) (x5 : Vec F S1x256 .f32) (x6 : Vec F S4x128x256 .f32) (x7 : Vec F S256x512 .bf16) (y : S128x256.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.2.1 S128x256.size (by sl_kernel_rfl) y

def sout1_A_0 (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : cond1_0 i)
    (x0 : Vec F S256x256 .f32) (x1 : Vec F S256x256 .f32) (x2 : Vec F S256x512 .f32) (x3 : Vec F S256x16 .f32) (x4 : Vec F S16x256 .f32) (x5 : Vec F S1x256 .f32) (x6 : Vec F S4x128x256 .f32) (x7 : Vec F S256x512 .bf16) : Vec F S128x256 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.2.1)
set_option maxHeartbeats 1000000 in
noncomputable def kernelRun1_B (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : ¬cond1_0 i)
    (x0 : Vec F S256x256 .f32) (x1 : Vec F S256x256 .f32) (x2 : Vec F S256x512 .f32) (x3 : Vec F S256x16 .f32) (x4 : Vec F S16x256 .f32) (x5 : Vec F S1x256 .f32) (x6 : Vec F S4x128x256 .f32) (x7 : Vec F S256x512 .bf16) (xo12 : Vec F S16x256 .f32) (xo13 : Vec F S1x256 .f32) (xs0 : Vec F S128x256 .f32) :
    Σ' (L8 : List (View.Piece (Elt F) S256x256 .bf16)), Σ' (L9 : List (View.Piece (Elt F) S256x256 .bf16)), Σ' (L10 : List (View.Piece (Elt F) S256x512 .bf16)), Σ' (L11 : List (View.Piece (Elt F) S256x16 .bf16)), Σ' (L12 : List (View.Piece (Elt F) S16x256 .f32)), Σ' (L13 : List (View.Piece (Elt F) S1x256 .f32)), { LS0 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xo12 ∗ owns (c : Thread nD τ) arg14 fullShare xo13 ∗ owns (c : Thread nD τ) arg15 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0)) -∗ K ⟨⟩))
          ⊢ wp frame (wpE (defs₀ (F := F)) Variants.none c none) E (cc1_gla_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun E K => ?run⟩
  case run =>
    simp only [cc1_gla_bwd_eq_skeleton]; unfold cc1_gla_bwd_skel
    simp only [k1_part34_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%f12, %hf12, H12⟩, ⟨%f13, %hf13, H13⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg13.eq_unread hf12; obtain rfl := harg14.eq_unread hf13; obtain rfl := harg15.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS0

theorem cover1_B_8 (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : ¬cond1_0 i)
    (x0 : Vec F S256x256 .f32) (x1 : Vec F S256x256 .f32) (x2 : Vec F S256x512 .f32) (x3 : Vec F S256x16 .f32) (x4 : Vec F S16x256 .f32) (x5 : Vec F S1x256 .f32) (x6 : Vec F S4x128x256 .f32) (x7 : Vec F S256x512 .bf16) (xo12 : Vec F S16x256 .f32) (xo13 : Vec F S1x256 .f32) (xs0 : Vec F S128x256 .f32) (y : S256x256.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0).1 S64x256.size (by sl_kernel_rfl) y

def out1_B_8 (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : ¬cond1_0 i)
    (x0 : Vec F S256x256 .f32) (x1 : Vec F S256x256 .f32) (x2 : Vec F S256x512 .f32) (x3 : Vec F S256x16 .f32) (x4 : Vec F S16x256 .f32) (x5 : Vec F S1x256 .f32) (x6 : Vec F S4x128x256 .f32) (x7 : Vec F S256x512 .bf16) (xo12 : Vec F S16x256 .f32) (xo13 : Vec F S1x256 .f32) (xs0 : Vec F S128x256 .f32) : Vec F S256x256 .bf16 :=
  VO1_8.read (Elt F) (VO1_8.writes (Elt F) VO1_8.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0).1)

theorem cover1_B_9 (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : ¬cond1_0 i)
    (x0 : Vec F S256x256 .f32) (x1 : Vec F S256x256 .f32) (x2 : Vec F S256x512 .f32) (x3 : Vec F S256x16 .f32) (x4 : Vec F S16x256 .f32) (x5 : Vec F S1x256 .f32) (x6 : Vec F S4x128x256 .f32) (x7 : Vec F S256x512 .bf16) (xo12 : Vec F S16x256 .f32) (xo13 : Vec F S1x256 .f32) (xs0 : Vec F S128x256 .f32) (y : S256x256.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0).2.1 S64x256.size (by sl_kernel_rfl) y

def out1_B_9 (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : ¬cond1_0 i)
    (x0 : Vec F S256x256 .f32) (x1 : Vec F S256x256 .f32) (x2 : Vec F S256x512 .f32) (x3 : Vec F S256x16 .f32) (x4 : Vec F S16x256 .f32) (x5 : Vec F S1x256 .f32) (x6 : Vec F S4x128x256 .f32) (x7 : Vec F S256x512 .bf16) (xo12 : Vec F S16x256 .f32) (xo13 : Vec F S1x256 .f32) (xs0 : Vec F S128x256 .f32) : Vec F S256x256 .bf16 :=
  VO1_9.read (Elt F) (VO1_9.writes (Elt F) VO1_9.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0).2.1)

theorem cover1_B_10 (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : ¬cond1_0 i)
    (x0 : Vec F S256x256 .f32) (x1 : Vec F S256x256 .f32) (x2 : Vec F S256x512 .f32) (x3 : Vec F S256x16 .f32) (x4 : Vec F S16x256 .f32) (x5 : Vec F S1x256 .f32) (x6 : Vec F S4x128x256 .f32) (x7 : Vec F S256x512 .bf16) (xo12 : Vec F S16x256 .f32) (xo13 : Vec F S1x256 .f32) (xs0 : Vec F S128x256 .f32) (y : S256x512.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0).2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0).2.2.1 S64x128.size (by sl_kernel_rfl) y

def out1_B_10 (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : ¬cond1_0 i)
    (x0 : Vec F S256x256 .f32) (x1 : Vec F S256x256 .f32) (x2 : Vec F S256x512 .f32) (x3 : Vec F S256x16 .f32) (x4 : Vec F S16x256 .f32) (x5 : Vec F S1x256 .f32) (x6 : Vec F S4x128x256 .f32) (x7 : Vec F S256x512 .bf16) (xo12 : Vec F S16x256 .f32) (xo13 : Vec F S1x256 .f32) (xs0 : Vec F S128x256 .f32) : Vec F S256x512 .bf16 :=
  VO1_10.read (Elt F) (VO1_10.writes (Elt F) VO1_10.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0).2.2.1)

theorem cover1_B_11 (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : ¬cond1_0 i)
    (x0 : Vec F S256x256 .f32) (x1 : Vec F S256x256 .f32) (x2 : Vec F S256x512 .f32) (x3 : Vec F S256x16 .f32) (x4 : Vec F S16x256 .f32) (x5 : Vec F S1x256 .f32) (x6 : Vec F S4x128x256 .f32) (x7 : Vec F S256x512 .bf16) (xo12 : Vec F S16x256 .f32) (xo13 : Vec F S1x256 .f32) (xs0 : Vec F S128x256 .f32) (y : S256x16.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0).2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0).2.2.2.1 S64x16.size (by sl_kernel_rfl) y

def out1_B_11 (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : ¬cond1_0 i)
    (x0 : Vec F S256x256 .f32) (x1 : Vec F S256x256 .f32) (x2 : Vec F S256x512 .f32) (x3 : Vec F S256x16 .f32) (x4 : Vec F S16x256 .f32) (x5 : Vec F S1x256 .f32) (x6 : Vec F S4x128x256 .f32) (x7 : Vec F S256x512 .bf16) (xo12 : Vec F S16x256 .f32) (xo13 : Vec F S1x256 .f32) (xs0 : Vec F S128x256 .f32) : Vec F S256x16 .bf16 :=
  VO1_11.read (Elt F) (VO1_11.writes (Elt F) VO1_11.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0).2.2.2.1)

theorem cover1_B_12 (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : ¬cond1_0 i)
    (x0 : Vec F S256x256 .f32) (x1 : Vec F S256x256 .f32) (x2 : Vec F S256x512 .f32) (x3 : Vec F S256x16 .f32) (x4 : Vec F S16x256 .f32) (x5 : Vec F S1x256 .f32) (x6 : Vec F S4x128x256 .f32) (x7 : Vec F S256x512 .bf16) (xo12 : Vec F S16x256 .f32) (xo13 : Vec F S1x256 .f32) (xs0 : Vec F S128x256 .f32) (y : S16x256.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0).2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0).2.2.2.2.1 S16x256.size (by sl_kernel_rfl) y

def out1_B_12 (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : ¬cond1_0 i)
    (x0 : Vec F S256x256 .f32) (x1 : Vec F S256x256 .f32) (x2 : Vec F S256x512 .f32) (x3 : Vec F S256x16 .f32) (x4 : Vec F S16x256 .f32) (x5 : Vec F S1x256 .f32) (x6 : Vec F S4x128x256 .f32) (x7 : Vec F S256x512 .bf16) (xo12 : Vec F S16x256 .f32) (xo13 : Vec F S1x256 .f32) (xs0 : Vec F S128x256 .f32) : Vec F S16x256 .f32 :=
  VO1_12.read (Elt F) (VO1_12.writes (Elt F) VO1_12.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0).2.2.2.2.1)

theorem cover1_B_13 (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : ¬cond1_0 i)
    (x0 : Vec F S256x256 .f32) (x1 : Vec F S256x256 .f32) (x2 : Vec F S256x512 .f32) (x3 : Vec F S256x16 .f32) (x4 : Vec F S16x256 .f32) (x5 : Vec F S1x256 .f32) (x6 : Vec F S4x128x256 .f32) (x7 : Vec F S256x512 .bf16) (xo12 : Vec F S16x256 .f32) (xo13 : Vec F S1x256 .f32) (xs0 : Vec F S128x256 .f32) (y : S1x256.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0).2.2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0).2.2.2.2.2.1 S1x256.size (by sl_kernel_rfl) y

def out1_B_13 (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : ¬cond1_0 i)
    (x0 : Vec F S256x256 .f32) (x1 : Vec F S256x256 .f32) (x2 : Vec F S256x512 .f32) (x3 : Vec F S256x16 .f32) (x4 : Vec F S16x256 .f32) (x5 : Vec F S1x256 .f32) (x6 : Vec F S4x128x256 .f32) (x7 : Vec F S256x512 .bf16) (xo12 : Vec F S16x256 .f32) (xo13 : Vec F S1x256 .f32) (xs0 : Vec F S128x256 .f32) : Vec F S1x256 .f32 :=
  VO1_13.read (Elt F) (VO1_13.writes (Elt F) VO1_13.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0).2.2.2.2.2.1)

theorem scover1_B_0 (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : ¬cond1_0 i)
    (x0 : Vec F S256x256 .f32) (x1 : Vec F S256x256 .f32) (x2 : Vec F S256x512 .f32) (x3 : Vec F S256x16 .f32) (x4 : Vec F S16x256 .f32) (x5 : Vec F S1x256 .f32) (x6 : Vec F S4x128x256 .f32) (x7 : Vec F S256x512 .bf16) (xo12 : Vec F S16x256 .f32) (xo13 : Vec F S1x256 .f32) (xs0 : Vec F S128x256 .f32) (y : S128x256.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0).2.2.2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0).2.2.2.2.2.2.1 S128x256.size (by sl_kernel_rfl) y

def sout1_B_0 (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : ¬cond1_0 i)
    (x0 : Vec F S256x256 .f32) (x1 : Vec F S256x256 .f32) (x2 : Vec F S256x512 .f32) (x3 : Vec F S256x16 .f32) (x4 : Vec F S16x256 .f32) (x5 : Vec F S1x256 .f32) (x6 : Vec F S4x128x256 .f32) (x7 : Vec F S256x512 .bf16) (xo12 : Vec F S16x256 .f32) (xo13 : Vec F S1x256 .f32) (xs0 : Vec F S128x256 .f32) : Vec F S128x256 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0).2.2.2.2.2.2.1)

def outsAt1 (c : Dev nD) : (n : ℕ) → n < cfg1.N → Vec F S256x256 .bf16 × Vec F S256x256 .bf16 × Vec F S256x512 .bf16 × Vec F S256x16 .bf16 × Vec F S16x256 .f32 × Vec F S1x256 .f32 × Vec F S128x256 .f32
  | 0, hn => (out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩), out1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩), out1_A_10 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩), out1_A_11 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩), out1_A_12 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩), out1_A_13 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩))
  | n + 1, hn =>
    if h0 : (n + 1) % 16 = 0 then
      (out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩), out1_A_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩), out1_A_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩), out1_A_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩), out1_A_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩), out1_A_13 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩))
    else
      (out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.2.2.2.1 (outsAt1 c n (Nat.lt_of_succ_lt hn)).2.2.2.2.2.1 (outsAt1 c n (Nat.lt_of_succ_lt hn)).2.2.2.2.2.2, out1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.2.2.2.1 (outsAt1 c n (Nat.lt_of_succ_lt hn)).2.2.2.2.2.1 (outsAt1 c n (Nat.lt_of_succ_lt hn)).2.2.2.2.2.2, out1_B_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.2.2.2.1 (outsAt1 c n (Nat.lt_of_succ_lt hn)).2.2.2.2.2.1 (outsAt1 c n (Nat.lt_of_succ_lt hn)).2.2.2.2.2.2, out1_B_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.2.2.2.1 (outsAt1 c n (Nat.lt_of_succ_lt hn)).2.2.2.2.2.1 (outsAt1 c n (Nat.lt_of_succ_lt hn)).2.2.2.2.2.2, out1_B_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.2.2.2.1 (outsAt1 c n (Nat.lt_of_succ_lt hn)).2.2.2.2.2.1 (outsAt1 c n (Nat.lt_of_succ_lt hn)).2.2.2.2.2.2, out1_B_13 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.2.2.2.1 (outsAt1 c n (Nat.lt_of_succ_lt hn)).2.2.2.2.2.1 (outsAt1 c n (Nat.lt_of_succ_lt hn)).2.2.2.2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.2.2.2.1 (outsAt1 c n (Nat.lt_of_succ_lt hn)).2.2.2.2.2.1 (outsAt1 c n (Nat.lt_of_succ_lt hn)).2.2.2.2.2.2)

theorem outsAt1_A (c : Dev nD) (t : Fin cfg1.N) (h0 : t.val % 16 = 0) :
    outsAt1 V c t.val t.isLt = (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t), out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t), out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t), out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t), out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t), out1_A_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t)) := by
  obtain ⟨n, hn⟩ := t
  cases n with
  | zero => exact rfl
  | succ n => exact (dif_pos h0).trans rfl

theorem outsAt1_B (c : Dev nD) (t : Fin cfg1.N) (h0 : ¬t.val % 16 = 0) :
    outsAt1 V c t.val t.isLt = (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2, out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2, out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2, out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2, out1_B_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2, out1_B_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans rfl

def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2.2.2.2.2.2)) ∗ (∃ r, prngReg c r))

theorem PhiS_zero1 (c : Dev nD) (n : ℕ) (h : n ≤ cfg1.N) (hz : n = 0) : PhiS1 V c n h = Pipeline.ΦA spec1 c := by
  subst hz; rfl

theorem PhiS_succ1 (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2.2.2.2.2.2)) ∗ (∃ r, prngReg c r)) := rfl

theorem PhiS_pos1 (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2.2.2.2.2.2)) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
    | ⟨9, _⟩ => (outsAt1 V c t.val t.isLt).2.1
    | ⟨10, _⟩ => (outsAt1 V c t.val t.isLt).2.2.1
    | ⟨11, _⟩ => (outsAt1 V c t.val t.isLt).2.2.2.1
    | ⟨12, _⟩ => (outsAt1 V c t.val t.isLt).2.2.2.2.1
    | ⟨13, _⟩ => (outsAt1 V c t.val t.isLt).2.2.2.2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc1 (c : Dev nD) (t : Fin cfg1.N) :
    (dat1 V c).Φ t.castSucc = PhiS1 V c t.val (Nat.le_of_lt t.isLt) := by
  dsimp only [dat1]; exact Pipeline.Dat.Φ_castSucc (PhiS1 V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]
theorem after1_9 (c : Dev nD) (t : Fin cfg1.N) : (dat1 V c).after 9 t = (outsAt1 V c t.val t.isLt).2.1 := by dsimp only [dat1]
theorem after1_10 (c : Dev nD) (t : Fin cfg1.N) : (dat1 V c).after 10 t = (outsAt1 V c t.val t.isLt).2.2.1 := by dsimp only [dat1]
theorem after1_11 (c : Dev nD) (t : Fin cfg1.N) : (dat1 V c).after 11 t = (outsAt1 V c t.val t.isLt).2.2.2.1 := by dsimp only [dat1]
theorem after1_12 (c : Dev nD) (t : Fin cfg1.N) : (dat1 V c).after 12 t = (outsAt1 V c t.val t.isLt).2.2.2.2.1 := by dsimp only [dat1]
theorem after1_13 (c : Dev nD) (t : Fin cfg1.N) : (dat1 V c).after 13 t = (outsAt1 V c t.val t.isLt).2.2.2.2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_12_B (c : Dev nD) (t : Fin cfg1.N) (h0 : ¬t.val % 16 = 0) (d) :
    (dat1 V c).before 12 t d = (outsAt1 V c (t.val - 1) (Nat.lt_of_le_of_lt (Nat.sub_le _ _) t.isLt)).2.2.2.2.1 := by
  have hN : t.val < 16 := lt_of_lt_of_eq t.isLt (show cfg1.N = 16 from N_1)
  rw [Dat.before_out_kept _ 12 rfl t (by omega) (Bool.eq_false_iff.mpr fun h => by have := (flush1_12 _).mp h; dsimp only at this; omega)
    (fun _ => rfl) (fun _ _ => rfl)]
  dsimp only [dat1]
theorem before1_13_B (c : Dev nD) (t : Fin cfg1.N) (h0 : ¬t.val % 16 = 0) (d) :
    (dat1 V c).before 13 t d = (outsAt1 V c (t.val - 1) (Nat.lt_of_le_of_lt (Nat.sub_le _ _) t.isLt)).2.2.2.2.2.1 := by
  have hN : t.val < 16 := lt_of_lt_of_eq t.isLt (show cfg1.N = 16 from N_1)
  rw [Dat.before_out_kept _ 13 rfl t (by omega) (Bool.eq_false_iff.mpr fun h => by have := (flush1_13 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t))

set_option maxHeartbeats 9600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl,
    after1_0, after1_1, after1_2, after1_3, after1_4, after1_5, after1_6, after1_7, after1_8, after1_9, after1_10, after1_11, after1_12, after1_13]
  rw [show (dat1 V c).Φ t.succ = PhiS1 V c (t.val + 1) t.isLt from rfl, PhiS_succ1]
  have hN : t.val < 16 := lt_of_lt_of_eq t.isLt (show cfg1.N = 16 from N_1)
  by_cases h0 : t.val % 16 = 0
  · by_cases hz : t.val = 0
    · rw [PhiS_castSucc1 V c t, PhiS_zero1 V c _ _ hz, PhiA1_eq]
      rw [outsAt1_A V c t h0]
      unfold out1_A_8 out1_A_9 out1_A_10 out1_A_11 out1_A_12 out1_A_13 sout1_A_0; (try dsimp only)
      iintro ⟨⟨⟨HR0, HR1, HR2, HR3, HR4, HR5, HR6, HR7, HR8, HR9, HR10, HR11, HR12, HR13, HR14, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun1_A c (grid1.coords t) _ _ _ _ _ _ _ _ _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t)).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      iintro ⟨H0, H1, H2, H3, H4, H5, H6, H7, ⟨%e8, H8⟩, ⟨%e9, H9⟩, ⟨%e10, H10⟩, ⟨%e11, H11⟩, ⟨%e12, H12⟩, ⟨%e13, H13⟩, ⟨%es0, HS0⟩⟩
      isplitl [HR0 HR1 HR2 HR3 HR4 HR5 HR6 HR7 HR8 HR9 HR10 HR11 HR12 HR13 HR14 HS0 Hg]
      · isplitl [HR0 HR1 HR2 HR3 HR4 HR5 HR6 HR7 HR8 HR9 HR10 HR11 HR12 HR13 HR14 HS0]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          isplitl [HR11]
          · iexact HR11
          isplitl [HR12]
          · iexact HR12
          isplitl [HR13]
          · iexact HR13
          isplitl [HR14]
          · iexact HR14
          unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover1_A_8 c _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover1_A_9 c _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover1_A_10 c _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover1_A_11 c _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover1_A_12 c _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover1_A_13 c _ _ _ _ _ _ _ _ _ _ _ _ _ _ _ _ _ _ _ _ _ _ _ _ _ _ _ _ _ _ _ _ _ _ _ _ _ _ _ _)
    · exfalso; have hN : t.val < 16 := lt_of_lt_of_eq t.isLt (show cfg1.N = 16 from N_1); omega
  · by_cases hz : t.val = 0
    · exfalso; have hN : t.val < 16 := lt_of_lt_of_eq t.isLt (show cfg1.N = 16 from N_1); omega
    · rw [PhiS_castSucc1 V c t, PhiS_pos1 V c _ _ hz]
      rw [outsAt1_B V c t h0]
      simp only [before1_12_B V c t h0, before1_13_B V c t h0]
      unfold out1_B_8 out1_B_9 out1_B_10 out1_B_11 out1_B_12 out1_B_13 sout1_B_0; (try dsimp only)
      iintro ⟨⟨⟨HR0, HR1, HR2, HR3, HR4, HR5, HR6, HR7, HR8, HR9, HR10, HR11, HR12, HR13, HR14, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun1_B c (grid1.coords t) _ _ _ _ _ _ _ _ _ _ _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) _ _ _).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexact H12
      isplitl [H13]; · iexact H13
      isplitl [HS0]; · iexact HS0
      iintro ⟨H0, H1, H2, H3, H4, H5, H6, H7, ⟨%e8, H8⟩, ⟨%e9, H9⟩, ⟨%e10, H10⟩, ⟨%e11, H11⟩, ⟨%e12, H12⟩, ⟨%e13, H13⟩, ⟨%es0, HS0⟩⟩
      isplitl [HR0 HR1 HR2 HR3 HR4 HR5 HR6 HR7 HR8 HR9 HR10 HR11 HR12 HR13 HR14 HS0 Hg]
      · isplitl [HR0 HR1 HR2 HR3 HR4 HR5 HR6 HR7 HR8 HR9 HR10 HR11 HR12 HR13 HR14 HS0]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          isplitl [HR11]
          · iexact HR11
          isplitl [HR12]
          · iexact HR12
          isplitl [HR13]
          · iexact HR13
          isplitl [HR14]
          · iexact HR14
          unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover1_B_8 c _ _ _ _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover1_B_9 c _ _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover1_B_10 c _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover1_B_11 c _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover1_B_12 c _ _ _ _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover1_B_13 c _ _ _ _ _ _ _ _ _ _ _ _ _ _ _ _ _ _ _ _ _ _ _ _ _ _ _ _ _ _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

theorem hin1 (c : Dev nD) : Pipeline.ΦA spec1 c ⊢ (dat1 V c).Φ 0 := by
  rw [show (dat1 V c).Φ 0 = PhiS1 V c 0 (Nat.zero_le _) from rfl, PhiS_zero1 V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS_pos1 V c _ _ ht, PhiA1_eq]
  iintro ⟨⟨HR0, HR1, HR2, HR3, HR4, HR5, HR6, HR7, HR8, HR9, HR10, HR11, HR12, HR13, HR14, HS0⟩, Hg⟩
  isplitl [HR0 HR1 HR2 HR3 HR4 HR5 HR6 HR7 HR8 HR9 HR10 HR11 HR12 HR13 HR14 HS0]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    iexists _; iexact HS0
  iexact Hg

theorem hout1 (c : Dev nD) : (dat1 V c).Φ (Fin.last cfg1.N) ⊢ Pipeline.ΦA spec1 c :=
  Phi_out1 V c _ (by rw [Fin.val_last]; have : cfg1.N = 16 := N_1; omega)

end Regions

end Cert.KernelIdeal.Gla

end
-- ==== Proof.Hosts0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6]

end Cert.KernelIdeal.Gla

end
-- ==== Proof.Fold0.lean ====
module

public import proofs.«01_k».proof.Proof.Region0
public import proofs.«01_k».proof.Proof.Region1
public import proofs.«01_k».proof.Proof.Hosts0

@[expose] public section

set_option maxRecDepth 16384

noncomputable section

namespace Cert.KernelIdeal.Gla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev V0 : (c : Dev nD) → (b : Ref sig .tc) → Buf (Elt F) ((c : Thread nD τ).loc b) := fun c b => W0 m ρ c b
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

theorem W2_main_arg0 (c : Dev nD) : W2 m ρ c (Proc.devRef .tc main_arg0) = m ((c : Thread nD τ).loc main_arg0) :=
  W2_args m ρ c main_arg0 (by decide)
theorem W2_main_arg1 (c : Dev nD) : W2 m ρ c (Proc.devRef .tc main_arg1) = m ((c : Thread nD τ).loc main_arg1) :=
  W2_args m ρ c main_arg1 (by decide)
theorem W2_main_arg2 (c : Dev nD) : W2 m ρ c (Proc.devRef .tc main_arg2) = m ((c : Thread nD τ).loc main_arg2) :=
  W2_args m ρ c main_arg2 (by decide)
theorem W2_main_arg3 (c : Dev nD) : W2 m ρ c (Proc.devRef .tc main_arg3) = m ((c : Thread nD τ).loc main_arg3) :=
  W2_args m ρ c main_arg3 (by decide)
theorem W2_main_arg4 (c : Dev nD) : W2 m ρ c (Proc.devRef .tc main_arg4) = m ((c : Thread nD τ).loc main_arg4) :=
  W2_args m ρ c main_arg4 (by decide)
theorem W2_main_arg5 (c : Dev nD) : W2 m ρ c (Proc.devRef .tc main_arg5) = m ((c : Thread nD τ).loc main_arg5) :=
  W2_args m ρ c main_arg5 (by decide)
theorem W2_main_arg6 (c : Dev nD) : W2 m ρ c (Proc.devRef .tc main_arg6) = m ((c : Thread nD τ).loc main_arg6) :=
  W2_args m ρ c main_arg6 (by decide)
end Cert.KernelIdeal.Gla

end
-- ==== Proof.State.lean ====
module

public import proofs.«01_k».proof.Proof.Fold0

@[expose] public section

set_option maxRecDepth 16384

noncomputable section

namespace Cert.KernelIdeal.Gla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

end Cert.KernelIdeal.Gla

end
-- ==== Proof.Record0.lean ====
module

public import proofs.«01_k».proof.Proof.State

@[expose] public section

set_option maxRecDepth 16384

noncomputable section

namespace Cert.KernelIdeal.Gla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0 m ρ) c)
    unfold Pipeline.ΦA
    iintro ⟨Hp, -, Hr⟩
    isplitl [Hr]; · iexact Hr
    iexact Hp
  hout c := by
    rw [Pipeline.ownSems0_none]
    refine BIBase.Entails.trans (hout0 (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gla

end
-- ==== Proof.Record1.lean ====
module

public import proofs.«01_k».proof.Proof.State

@[expose] public section

set_option maxRecDepth 16384

noncomputable section

namespace Cert.KernelIdeal.Gla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V1 m ρ) c)
    unfold Pipeline.ΦA
    iintro ⟨Hp, -, Hr⟩
    isplitl [Hr]; · iexact Hr
    iexact Hp
  hout c := by
    rw [Pipeline.ownSems0_none]
    refine BIBase.Entails.trans (hout1 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Gla

end
-- ==== Proof.Run.lean ====
module

public import proofs.«01_k».proof.Proof.Record0
public import proofs.«01_k».proof.Proof.Record1

@[expose] public section

set_option maxRecDepth 16384

noncomputable section

namespace Cert.KernelIdeal.Gla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .region (reg0 m ρ),
    .region (reg1 m ρ) ]
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
/-- THE RUN: from any memory with zero counters every weakly fair execution of the two calls terminates, every buffer that holds
    a tensor value at `W2` and every counter zero. -/
theorem run : θ_run defs (onTc (τ := τ) (main (F := F))) ⟨m, fun _ => 0, ρ⟩ (fun r =>
      (∀ (c : Dev nD), ∀ b ∈ Pipeline.ucRefs τ sig, r.2.mem (((c : Thread nD τ)).1, b) = W2 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨h, funext fun g => hz g (.inr (no_unscoped g.2))⟩)

/-- The arguments are as they were, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨(h.1 c _ (mem_uc main_arg0 (by decide))).trans (W2_main_arg0 m ρ c),
     (h.1 c _ (mem_uc main_arg1 (by decide))).trans (W2_main_arg1 m ρ c),
     (h.1 c _ (mem_uc main_arg2 (by decide))).trans (W2_main_arg2 m ρ c),
     (h.1 c _ (mem_uc main_arg3 (by decide))).trans (W2_main_arg3 m ρ c),
     (h.1 c _ (mem_uc main_arg4 (by decide))).trans (W2_main_arg4 m ρ c),
     (h.1 c _ (mem_uc main_arg5 (by decide))).trans (W2_main_arg5 m ρ c),
     (h.1 c _ (mem_uc main_arg6 (by decide))).trans (W2_main_arg6 m ρ c)⟩, h.2⟩) (run m ρ)

end Cert.KernelIdeal.Gla

end
-- ==== Proof.RefOps.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 1780

noncomputable section

namespace Cert.ReferenceIdeal.Ops

open Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

abbrev main_part0_ops0 : List (HloOp τ sig (Elt F)) :=
  [ StableHlo.unary main_arg0 main_v0 (broadcastInDim S1x4096x256 ![1, 2] bcast_S4096x256_S1x4096x256_1_2 : (⟨S4096x256, .f32⟩ : BufTy).Contents (Elt F) → (⟨S1x4096x256, .f32⟩ : BufTy).Contents (Elt F)),
    StableHlo.unary main_arg1 main_v1 (broadcastInDim S1x4096x256 ![1, 2] bcast_S4096x256_S1x4096x256_1_2 : (⟨S4096x256, .f32⟩ : BufTy).Contents (Elt F) → (⟨S1x4096x256, .f32⟩ : BufTy).Contents (Elt F)),
    StableHlo.unary main_arg2 main_v2 (broadcastInDim S1x4096x512 ![1, 2] bcast_S4096x512_S1x4096x512_1_2 : (⟨S4096x512, .f32⟩ : BufTy).Contents (Elt F) → (⟨S1x4096x512, .f32⟩ : BufTy).Contents (Elt F)),
    StableHlo.unary main_arg3 main_v3 (broadcastInDim S1x4096x16 ![1, 2] bcast_S4096x16_S1x4096x16_1_2 : (⟨S4096x16, .f32⟩ : BufTy).Contents (Elt F) → (⟨S1x4096x16, .f32⟩ : BufTy).Contents (Elt F)),
    StableHlo.reshape main_v0 main_v4 (rfl : (.f32 : EltTy) = .f32) shapeCasts_S1x4096x256_S1x64x64x4x64,
    StableHlo.nullary main_cst (constant S_ .f32 0x3E000000#32),
    StableHlo.unary main_cst main_v5 (broadcastInDim S1x64x64x4x64 ![] bcast_S_S1x64x64x4x64 : (⟨S_, .f32⟩ : BufTy).Contents (Elt F) → (⟨S1x64x64x4x64, .f32⟩ : BufTy).Contents (Elt F)),
    StableHlo.binary main_v4 main_v5 main_v6 (mulf : (⟨S1x64x64x4x64, .f32⟩ : BufTy).Contents (Elt F) → (⟨S1x64x64x4x64, .f32⟩ : BufTy).Contents (Elt F) → (⟨S1x64x64x4x64, .f32⟩ : BufTy).Contents (Elt F)),
    StableHlo.reshape main_v1 main_v7 (rfl : (.f32 : EltTy) = .f32) shapeCasts_S1x4096x256_S1x64x64x4x64,
    StableHlo.reshape main_v2 main_v8 (rfl : (.f32 : EltTy) = .f32) shapeCasts_S1x4096x512_S1x64x64x4x128,
    StableHlo.binary main_v3 main_arg4 main_v9 ((fun l r => Host.dotGeneral dot_S1x4096x16_S16x256_S1x4096x256_2_0_01_1_n_n none l r) : (⟨S1x4096x16, .f32⟩ : BufTy).Contents (Elt F) → (⟨S16x256, .f32⟩ : BufTy).Contents (Elt F) → (⟨S1x4096x256, .f32⟩ : BufTy).Contents (Elt F)),
    StableHlo.unary main_arg5 main_v10 (broadcastInDim S1x1x256 ![1, 2] bcast_S1x256_S1x1x256_1_2 : (⟨S1x256, .f32⟩ : BufTy).Contents (Elt F) → (⟨S1x1x256, .f32⟩ : BufTy).Contents (Elt F)),
    StableHlo.unary main_v10 main_v11 (broadcastInDim S1x4096x256 ![0, 1, 2] bcast_S1x1x256_S1x4096x256_0_1_2 : (⟨S1x1x256, .f32⟩ : BufTy).Contents (Elt F) → (⟨S1x4096x256, .f32⟩ : BufTy).Contents (Elt F)),
    StableHlo.binary main_v9 main_v11 main_v12 (addf : (⟨S1x4096x256, .f32⟩ : BufTy).Contents (Elt F) → (⟨S1x4096x256, .f32⟩ : BufTy).Contents (Elt F) → (⟨S1x4096x256, .f32⟩ : BufTy).Contents (Elt F)) ]
theorem main_part0_ops0_sub : (main_part0_ops0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.reshape_bufs_sub .., StableHlo.nullary_bufs_sub .., StableHlo.unary_bufs_sub .., StableHlo.binary_bufs_sub .., StableHlo.reshape_bufs_sub .., StableHlo.reshape_bufs_sub .., StableHlo.binary_bufs_sub .., StableHlo.unary_bufs_sub .., StableHlo.unary_bufs_sub .., StableHlo.binary_bufs_sub ..⟩
abbrev main_part0_ops1 : List (HloOp τ sig (Elt F)) :=
  ( StableHlo.TRef.unary (.of main_v12 : StableHlo.TRef sig ⟨S1x4096x256, .f32⟩) (.of main_call0_v0 : StableHlo.TRef sig ⟨S1x4096x256, .f32⟩) Host.negf
  :: StableHlo.TRef.nullary (.of main_call0_call0_cst : StableHlo.TRef sig ⟨S_, .f32⟩) (constant S_ .f32 0x00000000#32)
  :: StableHlo.TRef.unary (.of main_call0_call0_cst : StableHlo.TRef sig ⟨S_, .f32⟩) (.of main_call0_call0_v0 : StableHlo.TRef sig ⟨S1x4096x256, .f32⟩) (broadcastInDim S1x4096x256 ![] bcast_S_S1x4096x256)
  :: StableHlo.TRef.binary (.of main_call0_v0 : StableHlo.TRef sig ⟨S1x4096x256, .f32⟩) (.of main_call0_call0_v0 : StableHlo.TRef sig ⟨S1x4096x256, .f32⟩) (.of main_call0_call0_v1 : StableHlo.TRef sig ⟨S1x4096x256, .f32⟩) maximumf
  :: StableHlo.TRef.unary (.of main_call0_call0_cst : StableHlo.TRef sig ⟨S_, .f32⟩) (.of main_call0_call0_v2 : StableHlo.TRef sig ⟨S1x4096x256, .f32⟩) (broadcastInDim S1x4096x256 ![] bcast_S_S1x4096x256)
  :: StableHlo.TRef.binary (.of main_call0_v0 : StableHlo.TRef sig ⟨S1x4096x256, .f32⟩) (.of main_call0_call0_v2 : StableHlo.TRef sig ⟨S1x4096x256, .f32⟩) (.of main_call0_call0_v3 : StableHlo.TRef sig ⟨S1x4096x256, .f32⟩) subf
  :: StableHlo.TRef.binary (.of main_call0_call0_v3 : StableHlo.TRef sig ⟨S1x4096x256, .f32⟩) (.of main_call0_call0_v3 : StableHlo.TRef sig ⟨S1x4096x256, .f32⟩) (.of main_call0_call0_v4 : StableHlo.TRef sig ⟨S1x4096x256, .i1⟩) (cmpf .une)
  :: StableHlo.TRef.unary (.of main_call0_call0_cst : StableHlo.TRef sig ⟨S_, .f32⟩) (.of main_call0_call0_v5 : StableHlo.TRef sig ⟨S1x4096x256, .f32⟩) (broadcastInDim S1x4096x256 ![] bcast_S_S1x4096x256)
  :: StableHlo.TRef.binary (.of main_call0_v0 : StableHlo.TRef sig ⟨S1x4096x256, .f32⟩) (.of main_call0_call0_v5 : StableHlo.TRef sig ⟨S1x4096x256, .f32⟩) (.of main_call0_call0_v6 : StableHlo.TRef sig ⟨S1x4096x256, .f32⟩) addf
  :: StableHlo.TRef.unary (.of main_call0_call0_v3 : StableHlo.TRef sig ⟨S1x4096x256, .f32⟩) (.of main_call0_call0_v7 : StableHlo.TRef sig ⟨S1x4096x256, .f32⟩) Host.absf
  :: StableHlo.TRef.unary (.of main_call0_call0_v7 : StableHlo.TRef sig ⟨S1x4096x256, .f32⟩) (.of main_call0_call0_v8 : StableHlo.TRef sig ⟨S1x4096x256, .f32⟩) Host.negf
  :: StableHlo.TRef.unary (.of main_call0_call0_v8 : StableHlo.TRef sig ⟨S1x4096x256, .f32⟩) (.of main_call0_call0_v9 : StableHlo.TRef sig ⟨S1x4096x256, .f32⟩) Host.exp
  :: StableHlo.TRef.unary (.of main_call0_call0_v9 : StableHlo.TRef sig ⟨S1x4096x256, .f32⟩) (.of main_call0_call0_v10 : StableHlo.TRef sig ⟨S1x4096x256, .f32⟩) Host.log1p
  :: StableHlo.TRef.binary (.of main_call0_call0_v1 : StableHlo.TRef sig ⟨S1x4096x256, .f32⟩) (.of main_call0_call0_v10 : StableHlo.TRef sig ⟨S1x4096x256, .f32⟩) (.of main_call0_call0_v11 : StableHlo.TRef sig ⟨S1x4096x256, .f32⟩) addf
  :: StableHlo.TRef.ternary (.of main_call0_call0_v4 : StableHlo.TRef sig ⟨S1x4096x256, .i1⟩) (.of main_call0_call0_v6 : StableHlo.TRef sig ⟨S1x4096x256, .f32⟩) (.of main_call0_call0_v11 : StableHlo.TRef sig ⟨S1x4096x256, .f32⟩) (.of main_call0_v1_0 : StableHlo.TRef sig ⟨S1x4096x256, .f32⟩) select
  :: StableHlo.TRef.nullary (.of main_call0_call0_cst_0 : StableHlo.TRef sig ⟨S_, .f32⟩) (constant S_ .f32 0x7F800000#32)
  :: StableHlo.TRef.unary (.of main_call0_call0_cst_0 : StableHlo.TRef sig ⟨S_, .f32⟩) (.of main_call0_call0_v13 : StableHlo.TRef sig ⟨S1x4096x256, .f32⟩) (broadcastInDim S1x4096x256 ![] bcast_S_S1x4096x256)
  :: StableHlo.TRef.binary (.of main_call0_v0 : StableHlo.TRef sig ⟨S1x4096x256, .f32⟩) (.of main_call0_call0_v13 : StableHlo.TRef sig ⟨S1x4096x256, .f32⟩) (.of main_call0_call0_v14 : StableHlo.TRef sig ⟨S1x4096x256, .i1⟩) (cmpf .oeq)
  :: StableHlo.TRef.nullary (.of main_call0_call0_cst_1 : StableHlo.TRef sig ⟨S_, .f32⟩) (constant S_ .f32 0x00000000#32)
  :: StableHlo.TRef.unary (.of main_call0_call0_cst_1 : StableHlo.TRef sig ⟨S_, .f32⟩) (.of main_call0_call0_v15 : StableHlo.TRef sig ⟨S1x4096x256, .f32⟩) (broadcastInDim S1x4096x256 ![] bcast_S_S1x4096x256)
  :: StableHlo.TRef.ternary (.of main_call0_call0_v14 : StableHlo.TRef sig ⟨S1x4096x256, .i1⟩) (.of main_call0_call0_v15 : StableHlo.TRef sig ⟨S1x4096x256, .f32⟩) (.of main_call0_v0 : StableHlo.TRef sig ⟨S1x4096x256, .f32⟩) (.of main_call0_call0_v16 : StableHlo.TRef sig ⟨S1x4096x256, .f32⟩) select
  :: StableHlo.TRef.nullary (.of main_call0_call0_cst_2 : StableHlo.TRef sig ⟨S_, .f32⟩) (constant S_ .f32 0x7F800000#32)
  :: StableHlo.TRef.unary (.of main_call0_call0_cst_2 : StableHlo.TRef sig ⟨S_, .f32⟩) (.of main_call0_call0_v17 : StableHlo.TRef sig ⟨S1x4096x256, .f32⟩) (broadcastInDim S1x4096x256 ![] bcast_S_S1x4096x256)
  :: StableHlo.TRef.binary (.of main_call0_v1_0 : StableHlo.TRef sig ⟨S1x4096x256, .f32⟩) (.of main_call0_call0_v17 : StableHlo.TRef sig ⟨S1x4096x256, .f32⟩) (.of main_call0_call0_v18 : StableHlo.TRef sig ⟨S1x4096x256, .i1⟩) (cmpf .oeq)
  :: StableHlo.TRef.nullary (.of main_call0_call0_cst_3 : StableHlo.TRef sig ⟨S_, .f32⟩) (constant S_ .f32 0x00000000#32)
  :: StableHlo.TRef.unary (.of main_call0_call0_cst_3 : StableHlo.TRef sig ⟨S_, .f32⟩) (.of main_call0_call0_v19 : StableHlo.TRef sig ⟨S1x4096x256, .f32⟩) (broadcastInDim S1x4096x256 ![] bcast_S_S1x4096x256)
  :: StableHlo.TRef.ternary (.of main_call0_call0_v18 : StableHlo.TRef sig ⟨S1x4096x256, .i1⟩) (.of main_call0_call0_v19 : StableHlo.TRef sig ⟨S1x4096x256, .f32⟩) (.of main_call0_v1_0 : StableHlo.TRef sig ⟨S1x4096x256, .f32⟩) (.of main_call0_call0_v20 : StableHlo.TRef sig ⟨S1x4096x256, .f32⟩) select
  :: StableHlo.TRef.binary (.of main_call0_call0_v16 : StableHlo.TRef sig ⟨S1x4096x256, .f32⟩) (.of main_call0_call0_v20 : StableHlo.TRef sig ⟨S1x4096x256, .f32⟩) (.of main_call0_call0_v21 : StableHlo.TRef sig ⟨S1x4096x256, .f32⟩) subf
  :: StableHlo.TRef.unary (.of main_call0_call0_v21 : StableHlo.TRef sig ⟨S1x4096x256, .f32⟩) (.of main_v13_1 : StableHlo.TRef sig ⟨S1x4096x256, .f32⟩) Host.exp
  :: StableHlo.TRef.nullary (.of main_call0_call0_cst_4 : StableHlo.TRef sig ⟨S_, .f32⟩) (constant S_ .f32 0x00000000#32)
  :: StableHlo.TRef.nullary (.of main_call0_call0_cst_5 : StableHlo.TRef sig ⟨S_, .f32⟩) (constant S_ .f32 0x7F800000#32)
  :: StableHlo.TRef.binary (.of main_call0_call0_cst_4 : StableHlo.TRef sig ⟨S_, .f32⟩) (.of main_call0_call0_cst_5 : StableHlo.TRef sig ⟨S_, .f32⟩) (.of main_call0_call0_v23 : StableHlo.TRef sig ⟨S_, .i1⟩) (cmpf .oeq)
  :: StableHlo.TRef.nullary (.of main_call0_call0_cst_6 : StableHlo.TRef sig ⟨S_, .f32⟩) (constant S_ .f32 0x00000000#32)
  :: StableHlo.TRef.nullary (.of main_call0_call0_cst_7 : StableHlo.TRef sig ⟨S_, .f32⟩) (constant S_ .f32 0x00000000#32)
  :: StableHlo.TRef.ternary (.of main_call0_call0_v23 : StableHlo.TRef sig ⟨S_, .i1⟩) (.of main_call0_call0_cst_7 : StableHlo.TRef sig ⟨S_, .f32⟩) (.of main_call0_call0_cst_6 : StableHlo.TRef sig ⟨S_, .f32⟩) (.of main_call0_call0_v24 : StableHlo.TRef sig ⟨S_, .f32⟩) select
  :: StableHlo.TRef.nullary (.of main_call0_call0_cst_8 : StableHlo.TRef sig ⟨S_, .f32⟩) (constant S_ .f32 0x7F800000#32)
  :: StableHlo.TRef.unary (.of main_call0_call0_cst_8 : StableHlo.TRef sig ⟨S_, .f32⟩) (.of main_call0_call0_v25 : StableHlo.TRef sig ⟨S1x4096x256, .f32⟩) (broadcastInDim S1x4096x256 ![] bcast_S_S1x4096x256)
  :: StableHlo.TRef.binary (.of main_call0_v1_0 : StableHlo.TRef sig ⟨S1x4096x256, .f32⟩) (.of main_call0_call0_v25 : StableHlo.TRef sig ⟨S1x4096x256, .f32⟩) (.of main_call0_call0_v26 : StableHlo.TRef sig ⟨S1x4096x256, .i1⟩) (cmpf .oeq)
  :: StableHlo.TRef.nullary (.of main_call0_call0_cst_9 : StableHlo.TRef sig ⟨S_, .f32⟩) (constant S_ .f32 0x00000000#32)
  :: StableHlo.TRef.unary (.of main_call0_call0_cst_9 : StableHlo.TRef sig ⟨S_, .f32⟩) (.of main_call0_call0_v27 : StableHlo.TRef sig ⟨S1x4096x256, .f32⟩) (broadcastInDim S1x4096x256 ![] bcast_S_S1x4096x256)
  :: StableHlo.TRef.ternary (.of main_call0_call0_v26 : StableHlo.TRef sig ⟨S1x4096x256, .i1⟩) (.of main_call0_call0_v27 : StableHlo.TRef sig ⟨S1x4096x256, .f32⟩) (.of main_call0_v1_0 : StableHlo.TRef sig ⟨S1x4096x256, .f32⟩) (.of main_call0_call0_v28 : StableHlo.TRef sig ⟨S1x4096x256, .f32⟩) select
  :: StableHlo.TRef.unary (.of main_call0_call0_v24 : StableHlo.TRef sig ⟨S_, .f32⟩) (.of main_call0_call0_v29 : StableHlo.TRef sig ⟨S1x4096x256, .f32⟩) (broadcastInDim S1x4096x256 ![] bcast_S_S1x4096x256)
  :: StableHlo.TRef.binary (.of main_call0_call0_v29 : StableHlo.TRef sig ⟨S1x4096x256, .f32⟩) (.of main_call0_call0_v28 : StableHlo.TRef sig ⟨S1x4096x256, .f32⟩) (.of main_call0_call0_v30 : StableHlo.TRef sig ⟨S1x4096x256, .f32⟩) subf
  :: StableHlo.TRef.unary (.of main_call0_call0_v30 : StableHlo.TRef sig ⟨S1x4096x256, .f32⟩) (.of main_call0_call0_v31 : StableHlo.TRef sig ⟨S1x4096x256, .f32⟩) Host.exp
  :: StableHlo.TRef.nullary (.of main_call0_call0_cst_10 : StableHlo.TRef sig ⟨S_, .f32⟩) (constant S_ .f32 0x00000000#32)
  :: StableHlo.TRef.unary (.of main_call0_call0_cst_10 : StableHlo.TRef sig ⟨S_, .f32⟩) (.of main_call0_call0_v32 : StableHlo.TRef sig ⟨S1x4096x256, .f32⟩) (broadcastInDim S1x4096x256 ![] bcast_S_S1x4096x256)
  :: StableHlo.TRef.binary (.of main_call0_call0_v32 : StableHlo.TRef sig ⟨S1x4096x256, .f32⟩) (.of main_call0_call0_v31 : StableHlo.TRef sig ⟨S1x4096x256, .f32⟩) (.of main_v13_2 : StableHlo.TRef sig ⟨S1x4096x256, .f32⟩) mulf
  :: StableHlo.TRef.unary main_call0_call0.v12 (.of main_v13_0 : StableHlo.TRef sig ⟨S1x4096x256, .f32⟩) Host.negf
  :: [] )
theorem main_part0_ops1_sub : (main_part0_ops1 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.binary_bufs_sub .., StableHlo.unary_bufs_sub .., StableHlo.nullary_bufs_sub .., StableHlo.nullary_bufs_sub .., StableHlo.binary_bufs_sub .., StableHlo.nullary_bufs_sub .., StableHlo.nullary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub ..⟩
abbrev main_part0_ops2 : List (HloOp τ sig (Elt F)) :=
  [ StableHlo.nullary main_cst_0 (constant S_ .f32 0x41800000#32),
    StableHlo.unary main_cst_0 main_v14 (broadcastInDim S1x4096x256 ![] bcast_S_S1x4096x256 : (⟨S_, .f32⟩ : BufTy).Contents (Elt F) → (⟨S1x4096x256, .f32⟩ : BufTy).Contents (Elt F)),
    StableHlo.binary main_v13_0 main_v14 main_v15 (Host.divf : (⟨S1x4096x256, .f32⟩ : BufTy).Contents (Elt F) → (⟨S1x4096x256, .f32⟩ : BufTy).Contents (Elt F) → (⟨S1x4096x256, .f32⟩ : BufTy).Contents (Elt F)),
    StableHlo.reshape main_v15 main_v16 (rfl : (.f32 : EltTy) = .f32) shapeCasts_S1x4096x256_S1x64x64x4x64 ]
theorem main_part0_ops2_sub : (main_part0_ops2 : List (HloOp τ sig (Elt F))).Forall fun op => op.bufs ⊆ StableHlo.tcRefs τ sig :=
  ⟨StableHlo.nullary_bufs_sub .., StableHlo.unary_bufs_sub .., StableHlo.binary_bufs_sub .., StableHlo.reshape_bufs_sub ..⟩
abbrev main_part0_ops3 : List (HloOp τ sig (Elt F)) :=
  [ StableHlo.TRef.nullary (.of main_call1_call0_cst : StableHlo.TRef sig ⟨S_, .f32⟩) (constant S_ .f32 0x00000000#32),
    StableHlo.TRef.unary (.of main_call1_call0_cst : StableHlo.TRef sig ⟨S_, .f32⟩) (.of main_call1_call0_v0 : StableHlo.TRef sig ⟨S_, .f32⟩) (broadcastInDim S_ ![] bcast_S_S_),
    StableHlo.TRef.binary (.of main_v16 : StableHlo.TRef sig ⟨S1x64x64x4x64, .f32⟩) (.of main_call1_call0_v0 : StableHlo.TRef sig ⟨S_, .f32⟩) (.of main_v17 : StableHlo.TRef sig ⟨S1x64x64x4x64, .f32⟩) (fun x v => Host.reduceWindowAdd ![1, 1, 64, 1, 1] ![1, 1, 1, 1, 1] ![0, 0, 63, 0, 0] ![0, 0, 0, 0, 0] x v reduceWindows_S1x64x64x4x64_S1x64x64x4x64_w1s1p0_0_w1s1p0_0_w64s1p63_0_w1s1p0_0_w1s1p0_0 h_S_) ]
theorem main_part0_ops3_sub : (main_part0_ops3 : List (HloOp τ sig (Elt F))).Forall fun op => op.bufs ⊆ StableHlo.tcRefs τ sig :=
  ⟨StableHlo.nullary_bufs_sub .., StableHlo.unary_bufs_sub .., StableHlo.binary_bufs_sub ..⟩
abbrev main_part0_ops4 : List (HloOp τ sig (Elt F)) :=
  [ StableHlo.unary main_v17 main_v18 ((extractStridedSlice S1x64x1x4x64 ![0, 0, 63, 0, 0] · slices_S1x64x64x4x64_S1x64x1x4x64_0_0_63_0_0) : (⟨S1x64x64x4x64, .f32⟩ : BufTy).Contents (Elt F) → (⟨S1x64x1x4x64, .f32⟩ : BufTy).Contents (Elt F)),
    StableHlo.reshape main_v18 main_v19 (rfl : (.f32 : EltTy) = .f32) shapeCasts_S1x64x1x4x64_S1x64x4x64,
    StableHlo.unary main_v17 main_v20 (Host.exp : (⟨S1x64x64x4x64, .f32⟩ : BufTy).Contents (Elt F) → (⟨S1x64x64x4x64, .f32⟩ : BufTy).Contents (Elt F)),
    StableHlo.binary main_v6 main_v20 main_v21 (mulf : (⟨S1x64x64x4x64, .f32⟩ : BufTy).Contents (Elt F) → (⟨S1x64x64x4x64, .f32⟩ : BufTy).Contents (Elt F) → (⟨S1x64x64x4x64, .f32⟩ : BufTy).Contents (Elt F)),
    StableHlo.unary main_v17 main_v22 (Host.negf : (⟨S1x64x64x4x64, .f32⟩ : BufTy).Contents (Elt F) → (⟨S1x64x64x4x64, .f32⟩ : BufTy).Contents (Elt F)),
    StableHlo.unary main_v22 main_v23 (Host.exp : (⟨S1x64x64x4x64, .f32⟩ : BufTy).Contents (Elt F) → (⟨S1x64x64x4x64, .f32⟩ : BufTy).Contents (Elt F)),
    StableHlo.binary main_v7 main_v23 main_v24 (mulf : (⟨S1x64x64x4x64, .f32⟩ : BufTy).Contents (Elt F) → (⟨S1x64x64x4x64, .f32⟩ : BufTy).Contents (Elt F) → (⟨S1x64x64x4x64, .f32⟩ : BufTy).Contents (Elt F)),
    StableHlo.binary main_v21 main_v24 main_v25 ((fun l r => Host.dotGeneral dot_S1x64x64x4x64_S1x64x64x4x64_S1x64x4x64x64_4_4_2_2_013_013 none l r) : (⟨S1x64x64x4x64, .f32⟩ : BufTy).Contents (Elt F) → (⟨S1x64x64x4x64, .f32⟩ : BufTy).Contents (Elt F) → (⟨S1x64x4x64x64, .f32⟩ : BufTy).Contents (Elt F)),
    StableHlo.nullary main_c (constantI S_ 1 1#1),
    StableHlo.unary main_c main_v26 (broadcastInDim S64x64 ![] bcast_S_S64x64 : (⟨S_, .i1⟩ : BufTy).Contents (Elt F) → (⟨S64x64, .i1⟩ : BufTy).Contents (Elt F)) ]
theorem main_part0_ops4_sub : (main_part0_ops4 : List (HloOp τ sig (Elt F))).Forall fun op => op.bufs ⊆ StableHlo.tcRefs τ sig :=
  ⟨StableHlo.unary_bufs_sub .., StableHlo.reshape_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub ..⟩
abbrev main_part0_ops5 : List (HloOp τ sig (Elt F)) :=
  [ StableHlo.TRef.nullary (.of main_call2_v0 : StableHlo.TRef sig ⟨S64x64, .i32⟩) (iotaInDim S64x64 32 0),
    StableHlo.TRef.nullary (.of main_call2_c : StableHlo.TRef sig ⟨S_, .i32⟩) (constantI S_ 32 0#32),
    StableHlo.TRef.unary (.of main_call2_c : StableHlo.TRef sig ⟨S_, .i32⟩) (.of main_call2_v1 : StableHlo.TRef sig ⟨S64x64, .i32⟩) (broadcastInDim S64x64 ![] bcast_S_S64x64),
    StableHlo.TRef.binary (.of main_call2_v0 : StableHlo.TRef sig ⟨S64x64, .i32⟩) (.of main_call2_v1 : StableHlo.TRef sig ⟨S64x64, .i32⟩) (.of main_call2_v2 : StableHlo.TRef sig ⟨S64x64, .i32⟩) addi,
    StableHlo.TRef.nullary (.of main_call2_v3 : StableHlo.TRef sig ⟨S64x64, .i32⟩) (iotaInDim S64x64 32 1),
    StableHlo.TRef.binary (.of main_call2_v2 : StableHlo.TRef sig ⟨S64x64, .i32⟩) (.of main_call2_v3 : StableHlo.TRef sig ⟨S64x64, .i32⟩) (.of main_call2_v4 : StableHlo.TRef sig ⟨S64x64, .i1⟩) (cmpi .sge),
    StableHlo.TRef.nullary (.of main_call2_c_0 : StableHlo.TRef sig ⟨S_, .i1⟩) (constantI S_ 1 0#1),
    StableHlo.TRef.unary (.of main_call2_c_0 : StableHlo.TRef sig ⟨S_, .i1⟩) (.of main_call2_v5 : StableHlo.TRef sig ⟨S64x64, .i1⟩) (broadcastInDim S64x64 ![] bcast_S_S64x64),
    StableHlo.TRef.ternary (.of main_call2_v4 : StableHlo.TRef sig ⟨S64x64, .i1⟩) (.of main_v26 : StableHlo.TRef sig ⟨S64x64, .i1⟩) (.of main_call2_v5 : StableHlo.TRef sig ⟨S64x64, .i1⟩) (.of main_v27 : StableHlo.TRef sig ⟨S64x64, .i1⟩) select ]
theorem main_part0_ops5_sub : (main_part0_ops5 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub ..⟩
abbrev main_part0_ops6 : List (HloOp τ sig (Elt F)) :=
  [ StableHlo.nullary main_cst_1 (constant S_ .f32 0x00000000#32) ]
theorem main_part0_ops6_sub : (main_part0_ops6 : List (HloOp τ sig (Elt F))).Forall fun op => op.bufs ⊆ StableHlo.tcRefs τ sig :=
  StableHlo.nullary_bufs_sub ..
abbrev main_part0_ops7 : List (HloOp τ sig (Elt F)) :=
  [ StableHlo.TRef.unary (.of main_cst_1 : StableHlo.TRef sig ⟨S_, .f32⟩) (.of main_call3_v0 : StableHlo.TRef sig ⟨S_, .f32⟩) id,
    StableHlo.TRef.unary (.of main_v27 : StableHlo.TRef sig ⟨S64x64, .i1⟩) (.of main_v28_1 : StableHlo.TRef sig ⟨S1x64x4x64x64, .i1⟩) (broadcastInDim S1x64x4x64x64 ![3, 4] bcast_S64x64_S1x64x4x64x64_3_4),
    StableHlo.TRef.unary (.of main_call3_v0 : StableHlo.TRef sig ⟨S_, .f32⟩) (.of main_call3_v2 : StableHlo.TRef sig ⟨S1x64x4x64x64, .f32⟩) (broadcastInDim S1x64x4x64x64 ![] bcast_S_S1x64x4x64x64),
    StableHlo.TRef.ternary (.of main_v28_1 : StableHlo.TRef sig ⟨S1x64x4x64x64, .i1⟩) (.of main_v25 : StableHlo.TRef sig ⟨S1x64x4x64x64, .f32⟩) (.of main_call3_v2 : StableHlo.TRef sig ⟨S1x64x4x64x64, .f32⟩) (.of main_v28_0 : StableHlo.TRef sig ⟨S1x64x4x64x64, .f32⟩) select,
    StableHlo.TRef.nullary (.of main_call3_cst : StableHlo.TRef sig ⟨S_, .f32⟩) (constant S_ .f32 0x00000000#32),
    StableHlo.TRef.unary (.of main_call3_cst : StableHlo.TRef sig ⟨S_, .f32⟩) (.of main_v28_2 : StableHlo.TRef sig ⟨S1x64x4x64x64, .f32⟩) (broadcastInDim S1x64x4x64x64 ![] bcast_S_S1x64x4x64x64) ]
theorem main_part0_ops7_sub : (main_part0_ops7 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub .., StableHlo.nullary_bufs_sub .., StableHlo.unary_bufs_sub ..⟩
abbrev main_part0_ops8 : List (HloOp τ sig (Elt F)) :=
  [ StableHlo.binary main_v8 main_v28_0 main_v29 ((fun l r => Host.dotGeneral dot_S1x64x64x4x128_S1x64x4x64x64_S1x64x4x128x64_2_4_4_3_013_012 none l r) : (⟨S1x64x64x4x128, .f32⟩ : BufTy).Contents (Elt F) → (⟨S1x64x4x64x64, .f32⟩ : BufTy).Contents (Elt F) → (⟨S1x64x4x128x64, .f32⟩ : BufTy).Contents (Elt F)),
    StableHlo.unary main_v29 main_v30 ((transpose S1x64x64x4x128 [0, 1, 4, 2, 3] · transposes_S1x64x4x128x64_S1x64x64x4x128_0_1_4_2_3) : (⟨S1x64x4x128x64, .f32⟩ : BufTy).Contents (Elt F) → (⟨S1x64x64x4x128, .f32⟩ : BufTy).Contents (Elt F)),
    StableHlo.unary main_v19 main_v31 (broadcastInDim S1x64x1x4x64 ![0, 1, 3, 4] bcast_S1x64x4x64_S1x64x1x4x64_0_1_3_4 : (⟨S1x64x4x64, .f32⟩ : BufTy).Contents (Elt F) → (⟨S1x64x1x4x64, .f32⟩ : BufTy).Contents (Elt F)),
    StableHlo.unary main_v31 main_v32 (broadcastInDim S1x64x64x4x64 ![0, 1, 2, 3, 4] bcast_S1x64x1x4x64_S1x64x64x4x64_0_1_2_3_4 : (⟨S1x64x1x4x64, .f32⟩ : BufTy).Contents (Elt F) → (⟨S1x64x64x4x64, .f32⟩ : BufTy).Contents (Elt F)),
    StableHlo.binary main_v32 main_v17 main_v33 (subf : (⟨S1x64x64x4x64, .f32⟩ : BufTy).Contents (Elt F) → (⟨S1x64x64x4x64, .f32⟩ : BufTy).Contents (Elt F) → (⟨S1x64x64x4x64, .f32⟩ : BufTy).Contents (Elt F)),
    StableHlo.unary main_v33 main_v34 (Host.exp : (⟨S1x64x64x4x64, .f32⟩ : BufTy).Contents (Elt F) → (⟨S1x64x64x4x64, .f32⟩ : BufTy).Contents (Elt F)),
    StableHlo.binary main_v7 main_v34 main_v35 (mulf : (⟨S1x64x64x4x64, .f32⟩ : BufTy).Contents (Elt F) → (⟨S1x64x64x4x64, .f32⟩ : BufTy).Contents (Elt F) → (⟨S1x64x64x4x64, .f32⟩ : BufTy).Contents (Elt F)),
    StableHlo.binary main_v35 main_v8 main_v36 ((fun l r => Host.dotGeneral dot_S1x64x64x4x64_S1x64x64x4x128_S1x64x4x64x128_2_2_4_4_013_013 none l r) : (⟨S1x64x64x4x64, .f32⟩ : BufTy).Contents (Elt F) → (⟨S1x64x64x4x128, .f32⟩ : BufTy).Contents (Elt F) → (⟨S1x64x4x64x128, .f32⟩ : BufTy).Contents (Elt F)),
    StableHlo.unary main_v19 main_v37 (Host.exp : (⟨S1x64x4x64, .f32⟩ : BufTy).Contents (Elt F) → (⟨S1x64x4x64, .f32⟩ : BufTy).Contents (Elt F)),
    StableHlo.nullary main_cst_2 (constant S_ .f32 0x00000000#32),
    StableHlo.unary main_cst_2 main_v38 (broadcastInDim S1x4x64x128 ![] bcast_S_S1x4x64x128 : (⟨S_, .f32⟩ : BufTy).Contents (Elt F) → (⟨S1x4x64x128, .f32⟩ : BufTy).Contents (Elt F)),
    StableHlo.unary main_v37 main_v39 ((transpose S64x1x4x64 [1, 0, 2, 3] · transposes_S1x64x4x64_S64x1x4x64_1_0_2_3) : (⟨S1x64x4x64, .f32⟩ : BufTy).Contents (Elt F) → (⟨S64x1x4x64, .f32⟩ : BufTy).Contents (Elt F)),
    StableHlo.unary main_v36 main_v40 ((transpose S64x1x4x64x128 [1, 0, 2, 3, 4] · transposes_S1x64x4x64x128_S64x1x4x64x128_1_0_2_3_4) : (⟨S1x64x4x64x128, .f32⟩ : BufTy).Contents (Elt F) → (⟨S64x1x4x64x128, .f32⟩ : BufTy).Contents (Elt F)),
    StableHlo.nullary main_cst_3 (constant S_ .f32 0x00000000#32),
    StableHlo.unary main_cst_3 main_v41 (broadcastInDim S64x1x4x64x128 ![] bcast_S_S64x1x4x64x128 : (⟨S_, .f32⟩ : BufTy).Contents (Elt F) → (⟨S64x1x4x64x128, .f32⟩ : BufTy).Contents (Elt F)),
    StableHlo.nullary main_cst_4 (constant S_ .f32 0x00000000#32),
    StableHlo.unary main_cst_4 main_v42 (broadcastInDim S64x1x4x64x1 ![] bcast_S_S64x1x4x64x1 : (⟨S_, .f32⟩ : BufTy).Contents (Elt F) → (⟨S64x1x4x64x1, .f32⟩ : BufTy).Contents (Elt F)),
    StableHlo.nullary main_c_5 (constantI S_ 32 0#32),
    StableHlo.unary main_v39 main_v43_0 id,
    StableHlo.unary main_v40 main_v43_1 id,
    StableHlo.unary main_c_5 main_v43_2 id,
    StableHlo.unary main_v38 main_v43_3 id,
    StableHlo.unary main_v41 main_v43_4 id,
    StableHlo.unary main_v42 main_v43_5 id ]
theorem main_part0_ops8_sub : (main_part0_ops8 : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
abbrev main_part0_ops9 : List (HloOp τ sig (Elt F)) :=
  [ StableHlo.unary main_v43_4 main_v44 ((transpose S1x64x4x64x128 [1, 0, 2, 3, 4] · transposes_S64x1x4x64x128_S1x64x4x64x128_1_0_2_3_4) : (⟨S64x1x4x64x128, .f32⟩ : BufTy).Contents (Elt F) → (⟨S1x64x4x64x128, .f32⟩ : BufTy).Contents (Elt F)),
    StableHlo.binary main_v44 main_v21 main_v45 ((fun l r => Host.dotGeneral dot_S1x64x4x64x128_S1x64x64x4x64_S1x64x4x128x64_3_4_4_2_012_013 none l r) : (⟨S1x64x4x64x128, .f32⟩ : BufTy).Contents (Elt F) → (⟨S1x64x64x4x64, .f32⟩ : BufTy).Contents (Elt F) → (⟨S1x64x4x128x64, .f32⟩ : BufTy).Contents (Elt F)) ]
theorem main_part0_ops9_sub : (main_part0_ops9 : List (HloOp τ sig (Elt F))).Forall fun op => op.bufs ⊆ StableHlo.tcRefs τ sig :=
  ⟨StableHlo.unary_bufs_sub .., StableHlo.binary_bufs_sub ..⟩
theorem main_part0_chain (c : Dev nD) : main_part0 (F := F) c = (Pipeline.chainK
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7,
    StableHlo.seq main_part0_ops8,
    HostLoop.enter 0 ]
  (StableHlo.seq main_part0_ops9) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons]
  chain_rfl

abbrev main_part1_ops0 : List (HloOp τ sig (Elt F)) :=
  [ StableHlo.unary main_v45 main_v46 ((transpose S1x64x64x4x128 [0, 1, 4, 2, 3] · transposes_S1x64x4x128x64_S1x64x64x4x128_0_1_4_2_3) : (⟨S1x64x4x128x64, .f32⟩ : BufTy).Contents (Elt F) → (⟨S1x64x64x4x128, .f32⟩ : BufTy).Contents (Elt F)),
    StableHlo.binary main_v30 main_v46 main_v47 (addf : (⟨S1x64x64x4x128, .f32⟩ : BufTy).Contents (Elt F) → (⟨S1x64x64x4x128, .f32⟩ : BufTy).Contents (Elt F) → (⟨S1x64x64x4x128, .f32⟩ : BufTy).Contents (Elt F)),
    StableHlo.reshape main_v47 main_v48 (rfl : (.f32 : EltTy) = .f32) shapeCasts_S1x64x64x4x128_S1x4096x512,
    StableHlo.reshape main_v48 main_v49 (rfl : (.f32 : EltTy) = .f32) shapeCasts_S1x4096x512_S4096x512,
    StableHlo.unary main_arg6 main_v50 ((extf .f32 · bitsLt_bf16_f32) : (⟨S4096x512, .bf16⟩ : BufTy).Contents (Elt F) → (⟨S4096x512, .f32⟩ : BufTy).Contents (Elt F)),
    StableHlo.nullary main_cst_6 (constant S_ .f32 0x00000000#32),
    StableHlo.unary main_cst_6 main_v51 (broadcastInDim S1x4x64x128 ![] bcast_S_S1x4x64x128 : (⟨S_, .f32⟩ : BufTy).Contents (Elt F) → (⟨S1x4x64x128, .f32⟩ : BufTy).Contents (Elt F)),
    StableHlo.unary main_v50 main_v52 (broadcastInDim S1x4096x512 ![1, 2] bcast_S4096x512_S1x4096x512_1_2 : (⟨S4096x512, .f32⟩ : BufTy).Contents (Elt F) → (⟨S1x4096x512, .f32⟩ : BufTy).Contents (Elt F)),
    StableHlo.reshape main_v52 main_v53 (rfl : (.f32 : EltTy) = .f32) shapeCasts_S1x4096x512_S1x64x64x4x128,
    StableHlo.unary main_v53 main_v54 ((transpose S1x64x4x128x64 [0, 1, 3, 4, 2] · transposes_S1x64x64x4x128_S1x64x4x128x64_0_1_3_4_2) : (⟨S1x64x64x4x128, .f32⟩ : BufTy).Contents (Elt F) → (⟨S1x64x4x128x64, .f32⟩ : BufTy).Contents (Elt F)),
    StableHlo.binary main_v54 main_v44 main_v55 ((fun l r => Host.dotGeneral dot_S1x64x4x128x64_S1x64x4x64x128_S1x64x4x64x64_3_4_4_3_012_012 none l r) : (⟨S1x64x4x128x64, .f32⟩ : BufTy).Contents (Elt F) → (⟨S1x64x4x64x128, .f32⟩ : BufTy).Contents (Elt F) → (⟨S1x64x4x64x64, .f32⟩ : BufTy).Contents (Elt F)),
    StableHlo.unary main_v55 main_v56 ((transpose S1x64x64x4x64 [0, 1, 3, 2, 4] · transposes_S1x64x4x64x64_S1x64x64x4x64_0_1_3_2_4) : (⟨S1x64x4x64x64, .f32⟩ : BufTy).Contents (Elt F) → (⟨S1x64x64x4x64, .f32⟩ : BufTy).Contents (Elt F)),
    StableHlo.binary main_v54 main_v21 main_v57 ((fun l r => Host.dotGeneral dot_S1x64x4x128x64_S1x64x64x4x64_S1x64x4x128x64_4_2_3_4_012_013 none l r) : (⟨S1x64x4x128x64, .f32⟩ : BufTy).Contents (Elt F) → (⟨S1x64x64x4x64, .f32⟩ : BufTy).Contents (Elt F) → (⟨S1x64x4x128x64, .f32⟩ : BufTy).Contents (Elt F)),
    StableHlo.unary main_v57 main_v58 ((transpose S1x64x4x64x128 [0, 1, 2, 4, 3] · transposes_S1x64x4x128x64_S1x64x4x64x128_0_1_2_4_3) : (⟨S1x64x4x128x64, .f32⟩ : BufTy).Contents (Elt F) → (⟨S1x64x4x64x128, .f32⟩ : BufTy).Contents (Elt F)),
    StableHlo.unary main_v58 main_v59 ((transpose S64x1x4x64x128 [1, 0, 2, 3, 4] · transposes_S1x64x4x64x128_S64x1x4x64x128_1_0_2_3_4) : (⟨S1x64x4x64x128, .f32⟩ : BufTy).Contents (Elt F) → (⟨S64x1x4x64x128, .f32⟩ : BufTy).Contents (Elt F)),
    StableHlo.nullary main_cst_7 (constant S_ .f32 0x00000000#32),
    StableHlo.unary main_cst_7 main_v60 (broadcastInDim S1x4x64x128 ![] bcast_S_S1x4x64x128 : (⟨S_, .f32⟩ : BufTy).Contents (Elt F) → (⟨S1x4x64x128, .f32⟩ : BufTy).Contents (Elt F)),
    StableHlo.nullary main_cst_8 (constant S_ .f32 0x00000000#32),
    StableHlo.unary main_cst_8 main_v61 (broadcastInDim S64x1x4x64 ![] bcast_S_S64x1x4x64 : (⟨S_, .f32⟩ : BufTy).Contents (Elt F) → (⟨S64x1x4x64, .f32⟩ : BufTy).Contents (Elt F)),
    StableHlo.nullary main_cst_9 (constant S_ .f32 0x00000000#32),
    StableHlo.unary main_cst_9 main_v62 (broadcastInDim S64x1x4x64x128 ![] bcast_S_S64x1x4x64x128 : (⟨S_, .f32⟩ : BufTy).Contents (Elt F) → (⟨S64x1x4x64x128, .f32⟩ : BufTy).Contents (Elt F)),
    StableHlo.nullary main_c_10 (constantI S_ 32 0#32),
    StableHlo.unary main_v59 main_v63_0 id,
    StableHlo.unary main_v43_4 main_v63_1 id,
    StableHlo.unary main_v43_5 main_v63_2 id,
    StableHlo.unary main_c_10 main_v63_3 id,
    StableHlo.unary main_v60 main_v63_4 id,
    StableHlo.unary main_v61 main_v63_5 id,
    StableHlo.unary main_v62 main_v63_6 id ]
theorem main_part1_ops0_sub : (main_part1_ops0 : List (HloOp τ sig (Elt F))).Forall fun op => op.bufs ⊆ StableHlo.tcRefs τ sig :=
  ⟨StableHlo.unary_bufs_sub .., StableHlo.binary_bufs_sub .., StableHlo.reshape_bufs_sub .., StableHlo.reshape_bufs_sub .., StableHlo.unary_bufs_sub .., StableHlo.nullary_bufs_sub .., StableHlo.unary_bufs_sub .., StableHlo.unary_bufs_sub .., StableHlo.reshape_bufs_sub .., StableHlo.unary_bufs_sub .., StableHlo.binary_bufs_sub .., StableHlo.unary_bufs_sub .., StableHlo.binary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
abbrev main_part1_ops1 : List (HloOp τ sig (Elt F)) :=
  [ StableHlo.unary main_v63_6 main_v64 ((transpose S1x64x4x64x128 [1, 0, 2, 3, 4] · transposes_S64x1x4x64x128_S1x64x4x64x128_1_0_2_3_4) : (⟨S64x1x4x64x128, .f32⟩ : BufTy).Contents (Elt F) → (⟨S1x64x4x64x128, .f32⟩ : BufTy).Contents (Elt F)),
    StableHlo.unary main_v63_5 main_v65 ((transpose S1x64x4x64 [1, 0, 2, 3] · transposes_S64x1x4x64_S1x64x4x64_1_0_2_3) : (⟨S64x1x4x64, .f32⟩ : BufTy).Contents (Elt F) → (⟨S1x64x4x64, .f32⟩ : BufTy).Contents (Elt F)),
    StableHlo.binary main_v65 main_v37 main_v66 (mulf : (⟨S1x64x4x64, .f32⟩ : BufTy).Contents (Elt F) → (⟨S1x64x4x64, .f32⟩ : BufTy).Contents (Elt F) → (⟨S1x64x4x64, .f32⟩ : BufTy).Contents (Elt F)),
    StableHlo.binary main_v64 main_v35 main_v67 ((fun l r => Host.dotGeneral dot_S1x64x4x64x128_S1x64x64x4x64_S1x64x4x128x64_3_4_4_2_012_013 none l r) : (⟨S1x64x4x64x128, .f32⟩ : BufTy).Contents (Elt F) → (⟨S1x64x64x4x64, .f32⟩ : BufTy).Contents (Elt F) → (⟨S1x64x4x128x64, .f32⟩ : BufTy).Contents (Elt F)),
    StableHlo.unary main_v67 main_v68 ((transpose S1x64x64x4x128 [0, 1, 4, 2, 3] · transposes_S1x64x4x128x64_S1x64x64x4x128_0_1_4_2_3) : (⟨S1x64x4x128x64, .f32⟩ : BufTy).Contents (Elt F) → (⟨S1x64x64x4x128, .f32⟩ : BufTy).Contents (Elt F)),
    StableHlo.binary main_v64 main_v8 main_v69 ((fun l r => Host.dotGeneral dot_S1x64x4x64x128_S1x64x64x4x128_S1x64x4x64x64_4_4_3_2_012_013 none l r) : (⟨S1x64x4x64x128, .f32⟩ : BufTy).Contents (Elt F) → (⟨S1x64x64x4x128, .f32⟩ : BufTy).Contents (Elt F) → (⟨S1x64x4x64x64, .f32⟩ : BufTy).Contents (Elt F)),
    StableHlo.unary main_v69 main_v70 ((transpose S1x64x64x4x64 [0, 1, 4, 2, 3] · transposes_S1x64x4x64x64_S1x64x64x4x64_0_1_4_2_3) : (⟨S1x64x4x64x64, .f32⟩ : BufTy).Contents (Elt F) → (⟨S1x64x64x4x64, .f32⟩ : BufTy).Contents (Elt F)),
    StableHlo.binary main_v7 main_v70 main_v71 (mulf : (⟨S1x64x64x4x64, .f32⟩ : BufTy).Contents (Elt F) → (⟨S1x64x64x4x64, .f32⟩ : BufTy).Contents (Elt F) → (⟨S1x64x64x4x64, .f32⟩ : BufTy).Contents (Elt F)),
    StableHlo.binary main_v70 main_v34 main_v72 (mulf : (⟨S1x64x64x4x64, .f32⟩ : BufTy).Contents (Elt F) → (⟨S1x64x64x4x64, .f32⟩ : BufTy).Contents (Elt F) → (⟨S1x64x64x4x64, .f32⟩ : BufTy).Contents (Elt F)),
    StableHlo.binary main_v71 main_v34 main_v73 (mulf : (⟨S1x64x64x4x64, .f32⟩ : BufTy).Contents (Elt F) → (⟨S1x64x64x4x64, .f32⟩ : BufTy).Contents (Elt F) → (⟨S1x64x64x4x64, .f32⟩ : BufTy).Contents (Elt F)),
    StableHlo.nullary main_cst_11 (constant S_ .f32 0x00000000#32),
    StableHlo.binary main_v73 main_cst_11 main_v74 ((fun x v => Host.reduceAdd x v reducesTo_S1x64x64x4x64_S1x64x4x64_d2 h_S_) : (⟨S1x64x64x4x64, .f32⟩ : BufTy).Contents (Elt F) → (⟨S_, .f32⟩ : BufTy).Contents (Elt F) → (⟨S1x64x4x64, .f32⟩ : BufTy).Contents (Elt F)),
    StableHlo.reshape main_v74 main_v75 (rfl : (.f32 : EltTy) = .f32) shapeCasts_S1x64x4x64_S1x64x1x4x64,
    StableHlo.unary main_v73 main_v76 (Host.negf : (⟨S1x64x64x4x64, .f32⟩ : BufTy).Contents (Elt F) → (⟨S1x64x64x4x64, .f32⟩ : BufTy).Contents (Elt F)),
    StableHlo.nullary main_cst_12 (constant S_ .f32 0x00000000#32),
    StableHlo.binary main_v75 main_cst_12 main_v77 ((fun x v => Host.reduceAdd x v reducesTo_S1x64x1x4x64_S64x4x64_d0_2 h_S_) : (⟨S1x64x1x4x64, .f32⟩ : BufTy).Contents (Elt F) → (⟨S_, .f32⟩ : BufTy).Contents (Elt F) → (⟨S64x4x64, .f32⟩ : BufTy).Contents (Elt F)),
    StableHlo.unary main_v77 main_v78 (broadcastInDim S1x64x4x64 ![1, 2, 3] bcast_S64x4x64_S1x64x4x64_1_2_3 : (⟨S64x4x64, .f32⟩ : BufTy).Contents (Elt F) → (⟨S1x64x4x64, .f32⟩ : BufTy).Contents (Elt F)),
    StableHlo.binary main_v66 main_v78 main_v79 (addf : (⟨S1x64x4x64, .f32⟩ : BufTy).Contents (Elt F) → (⟨S1x64x4x64, .f32⟩ : BufTy).Contents (Elt F) → (⟨S1x64x4x64, .f32⟩ : BufTy).Contents (Elt F)),
    StableHlo.unary main_v53 main_v80 ((transpose S1x64x4x128x64 [0, 1, 3, 4, 2] · transposes_S1x64x64x4x128_S1x64x4x128x64_0_1_3_4_2) : (⟨S1x64x64x4x128, .f32⟩ : BufTy).Contents (Elt F) → (⟨S1x64x4x128x64, .f32⟩ : BufTy).Contents (Elt F)),
    StableHlo.binary main_v80 main_v8 main_v81 ((fun l r => Host.dotGeneral dot_S1x64x4x128x64_S1x64x64x4x128_S1x64x4x64x64_3_4_4_2_012_013 none l r) : (⟨S1x64x4x128x64, .f32⟩ : BufTy).Contents (Elt F) → (⟨S1x64x64x4x128, .f32⟩ : BufTy).Contents (Elt F) → (⟨S1x64x4x64x64, .f32⟩ : BufTy).Contents (Elt F)),
    StableHlo.binary main_v80 main_v28_0 main_v82 ((fun l r => Host.dotGeneral dot_S1x64x4x128x64_S1x64x4x64x64_S1x64x4x128x64_4_3_3_4_012_012 none l r) : (⟨S1x64x4x128x64, .f32⟩ : BufTy).Contents (Elt F) → (⟨S1x64x4x64x64, .f32⟩ : BufTy).Contents (Elt F) → (⟨S1x64x4x128x64, .f32⟩ : BufTy).Contents (Elt F)),
    StableHlo.unary main_v82 main_v83 ((transpose S1x64x64x4x128 [0, 1, 4, 2, 3] · transposes_S1x64x4x128x64_S1x64x64x4x128_0_1_4_2_3) : (⟨S1x64x4x128x64, .f32⟩ : BufTy).Contents (Elt F) → (⟨S1x64x64x4x128, .f32⟩ : BufTy).Contents (Elt F)),
    StableHlo.binary main_v68 main_v83 main_v84 (addf : (⟨S1x64x64x4x128, .f32⟩ : BufTy).Contents (Elt F) → (⟨S1x64x64x4x128, .f32⟩ : BufTy).Contents (Elt F) → (⟨S1x64x64x4x128, .f32⟩ : BufTy).Contents (Elt F)) ]
theorem main_part1_ops1_sub : (main_part1_ops1 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub .., StableHlo.binary_bufs_sub .., StableHlo.nullary_bufs_sub .., StableHlo.binary_bufs_sub .., StableHlo.reshape_bufs_sub .., StableHlo.unary_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub ..⟩
abbrev main_part1_ops2 : List (HloOp τ sig (Elt F)) :=
  [ StableHlo.TRef.nullary (.of main_call13_cst : StableHlo.TRef sig ⟨S_, .f32⟩) (constant S_ .f32 0x00000000#32),
    StableHlo.TRef.unary (.of main_call13_cst : StableHlo.TRef sig ⟨S_, .f32⟩) (.of main_call13_v0 : StableHlo.TRef sig ⟨S1x64x4x64x64, .f32⟩) (broadcastInDim S1x64x4x64x64 ![] bcast_S_S1x64x4x64x64),
    StableHlo.TRef.ternary (.of main_v28_1 : StableHlo.TRef sig ⟨S1x64x4x64x64, .i1⟩) (.of main_v81 : StableHlo.TRef sig ⟨S1x64x4x64x64, .f32⟩) (.of main_call13_v0 : StableHlo.TRef sig ⟨S1x64x4x64x64, .f32⟩) (.of main_v85 : StableHlo.TRef sig ⟨S1x64x4x64x64, .f32⟩) select ]
theorem main_part1_ops2_sub : (main_part1_ops2 : List (HloOp τ sig (Elt F))).Forall fun op => op.bufs ⊆ StableHlo.tcRefs τ sig :=
  ⟨StableHlo.nullary_bufs_sub .., StableHlo.unary_bufs_sub .., StableHlo.ternary_bufs_sub ..⟩
abbrev main_part1_ops3 : List (HloOp τ sig (Elt F)) :=
  [ StableHlo.binary main_v85 main_v21 main_v86 ((fun l r => Host.dotGeneral dot_S1x64x4x64x64_S1x64x64x4x64_S1x64x4x64x64_3_2_4_4_012_013 none l r) : (⟨S1x64x4x64x64, .f32⟩ : BufTy).Contents (Elt F) → (⟨S1x64x64x4x64, .f32⟩ : BufTy).Contents (Elt F) → (⟨S1x64x4x64x64, .f32⟩ : BufTy).Contents (Elt F)),
    StableHlo.unary main_v86 main_v87 ((transpose S1x64x64x4x64 [0, 1, 3, 2, 4] · transposes_S1x64x4x64x64_S1x64x64x4x64_0_1_3_2_4) : (⟨S1x64x4x64x64, .f32⟩ : BufTy).Contents (Elt F) → (⟨S1x64x64x4x64, .f32⟩ : BufTy).Contents (Elt F)),
    StableHlo.binary main_v85 main_v24 main_v88 ((fun l r => Host.dotGeneral dot_S1x64x4x64x64_S1x64x64x4x64_S1x64x4x64x64_4_2_3_4_012_013 none l r) : (⟨S1x64x4x64x64, .f32⟩ : BufTy).Contents (Elt F) → (⟨S1x64x64x4x64, .f32⟩ : BufTy).Contents (Elt F) → (⟨S1x64x4x64x64, .f32⟩ : BufTy).Contents (Elt F)),
    StableHlo.unary main_v88 main_v89 ((transpose S1x64x64x4x64 [0, 1, 3, 2, 4] · transposes_S1x64x4x64x64_S1x64x64x4x64_0_1_3_2_4) : (⟨S1x64x4x64x64, .f32⟩ : BufTy).Contents (Elt F) → (⟨S1x64x64x4x64, .f32⟩ : BufTy).Contents (Elt F)),
    StableHlo.binary main_v56 main_v89 main_v90 (addf : (⟨S1x64x64x4x64, .f32⟩ : BufTy).Contents (Elt F) → (⟨S1x64x64x4x64, .f32⟩ : BufTy).Contents (Elt F) → (⟨S1x64x64x4x64, .f32⟩ : BufTy).Contents (Elt F)),
    StableHlo.binary main_v7 main_v87 main_v91 (mulf : (⟨S1x64x64x4x64, .f32⟩ : BufTy).Contents (Elt F) → (⟨S1x64x64x4x64, .f32⟩ : BufTy).Contents (Elt F) → (⟨S1x64x64x4x64, .f32⟩ : BufTy).Contents (Elt F)) ]
theorem main_part1_ops3_sub : (main_part1_ops3 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.binary_bufs_sub .., StableHlo.binary_bufs_sub ..⟩
theorem main_part1_chain (c : Dev nD) : main_part1 (F := F) c = (Pipeline.chainK
  [ StableHlo.seq main_part1_ops0,
    HostLoop.enter 1,
    StableHlo.seq main_part1_ops1,
    StableHlo.seq main_part1_ops2 ]
  (StableHlo.seq main_part1_ops3) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons]
  chain_rfl

abbrev main_part2_ops0 : List (HloOp τ sig (Elt F)) :=
  [ StableHlo.binary main_v87 main_v23 main_v92 (mulf : (⟨S1x64x64x4x64, .f32⟩ : BufTy).Contents (Elt F) → (⟨S1x64x64x4x64, .f32⟩ : BufTy).Contents (Elt F) → (⟨S1x64x64x4x64, .f32⟩ : BufTy).Contents (Elt F)),
    StableHlo.binary main_v72 main_v92 main_v93 (addf : (⟨S1x64x64x4x64, .f32⟩ : BufTy).Contents (Elt F) → (⟨S1x64x64x4x64, .f32⟩ : BufTy).Contents (Elt F) → (⟨S1x64x64x4x64, .f32⟩ : BufTy).Contents (Elt F)),
    StableHlo.binary main_v91 main_v23 main_v94 (mulf : (⟨S1x64x64x4x64, .f32⟩ : BufTy).Contents (Elt F) → (⟨S1x64x64x4x64, .f32⟩ : BufTy).Contents (Elt F) → (⟨S1x64x64x4x64, .f32⟩ : BufTy).Contents (Elt F)),
    StableHlo.unary main_v94 main_v95 (Host.negf : (⟨S1x64x64x4x64, .f32⟩ : BufTy).Contents (Elt F) → (⟨S1x64x64x4x64, .f32⟩ : BufTy).Contents (Elt F)),
    StableHlo.binary main_v76 main_v95 main_v96 (addf : (⟨S1x64x64x4x64, .f32⟩ : BufTy).Contents (Elt F) → (⟨S1x64x64x4x64, .f32⟩ : BufTy).Contents (Elt F) → (⟨S1x64x64x4x64, .f32⟩ : BufTy).Contents (Elt F)),
    StableHlo.binary main_v6 main_v90 main_v97 (mulf : (⟨S1x64x64x4x64, .f32⟩ : BufTy).Contents (Elt F) → (⟨S1x64x64x4x64, .f32⟩ : BufTy).Contents (Elt F) → (⟨S1x64x64x4x64, .f32⟩ : BufTy).Contents (Elt F)),
    StableHlo.binary main_v90 main_v20 main_v98 (mulf : (⟨S1x64x64x4x64, .f32⟩ : BufTy).Contents (Elt F) → (⟨S1x64x64x4x64, .f32⟩ : BufTy).Contents (Elt F) → (⟨S1x64x64x4x64, .f32⟩ : BufTy).Contents (Elt F)),
    StableHlo.binary main_v97 main_v20 main_v99 (mulf : (⟨S1x64x64x4x64, .f32⟩ : BufTy).Contents (Elt F) → (⟨S1x64x64x4x64, .f32⟩ : BufTy).Contents (Elt F) → (⟨S1x64x64x4x64, .f32⟩ : BufTy).Contents (Elt F)),
    StableHlo.binary main_v96 main_v99 main_v100 (addf : (⟨S1x64x64x4x64, .f32⟩ : BufTy).Contents (Elt F) → (⟨S1x64x64x4x64, .f32⟩ : BufTy).Contents (Elt F) → (⟨S1x64x64x4x64, .f32⟩ : BufTy).Contents (Elt F)),
    StableHlo.unary main_v79 main_v101 (broadcastInDim S1x64x1x4x64 ![0, 1, 3, 4] bcast_S1x64x4x64_S1x64x1x4x64_0_1_3_4 : (⟨S1x64x4x64, .f32⟩ : BufTy).Contents (Elt F) → (⟨S1x64x1x4x64, .f32⟩ : BufTy).Contents (Elt F)),
    StableHlo.nullary main_cst_13 (constant S_ .f32 0x00000000#32),
    StableHlo.binary main_v101 main_cst_13 main_v102 ((fun x v => pad S1x64x64x4x64 ![0, 0, 63, 0, 0] ![0, 0, 0, 0, 0] ![0, 0, 0, 0, 0] x v pads_S1x64x1x4x64_S1x64x64x4x64_000_000_6300_000_000 h_S_) : (⟨S1x64x1x4x64, .f32⟩ : BufTy).Contents (Elt F) → (⟨S_, .f32⟩ : BufTy).Contents (Elt F) → (⟨S1x64x64x4x64, .f32⟩ : BufTy).Contents (Elt F)),
    StableHlo.binary main_v100 main_v102 main_v103 (addf : (⟨S1x64x64x4x64, .f32⟩ : BufTy).Contents (Elt F) → (⟨S1x64x64x4x64, .f32⟩ : BufTy).Contents (Elt F) → (⟨S1x64x64x4x64, .f32⟩ : BufTy).Contents (Elt F)) ]
theorem main_part2_ops0_sub : (main_part2_ops0 : List (HloOp τ sig (Elt F))).Forall fun op => op.bufs ⊆ StableHlo.tcRefs τ sig :=
  ⟨StableHlo.binary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.unary_bufs_sub .., StableHlo.nullary_bufs_sub .., StableHlo.binary_bufs_sub .., StableHlo.binary_bufs_sub ..⟩
abbrev main_part2_ops1 : List (HloOp τ sig (Elt F)) :=
  [ StableHlo.TRef.nullary (.of main_call14_call0_cst : StableHlo.TRef sig ⟨S_, .f32⟩) (constant S_ .f32 0x00000000#32),
    StableHlo.TRef.unary (.of main_call14_call0_cst : StableHlo.TRef sig ⟨S_, .f32⟩) (.of main_call14_call0_v0 : StableHlo.TRef sig ⟨S_, .f32⟩) (broadcastInDim S_ ![] bcast_S_S_),
    StableHlo.TRef.binary (.of main_v103 : StableHlo.TRef sig ⟨S1x64x64x4x64, .f32⟩) (.of main_call14_call0_v0 : StableHlo.TRef sig ⟨S_, .f32⟩) (.of main_v104 : StableHlo.TRef sig ⟨S1x64x64x4x64, .f32⟩) (fun x v => Host.reduceWindowAdd ![1, 1, 64, 1, 1] ![1, 1, 1, 1, 1] ![0, 0, 0, 0, 0] ![0, 0, 63, 0, 0] x v reduceWindows_S1x64x64x4x64_S1x64x64x4x64_w1s1p0_0_w1s1p0_0_w64s1p0_63_w1s1p0_0_w1s1p0_0 h_S_) ]
theorem main_part2_ops1_sub : (main_part2_ops1 : List (HloOp τ sig (Elt F))).Forall fun op => op.bufs ⊆ StableHlo.tcRefs τ sig :=
  ⟨StableHlo.nullary_bufs_sub .., StableHlo.unary_bufs_sub .., StableHlo.binary_bufs_sub ..⟩
abbrev main_part2_ops2 : List (HloOp τ sig (Elt F)) :=
  [ StableHlo.reshape main_v104 main_v105 (rfl : (.f32 : EltTy) = .f32) shapeCasts_S1x64x64x4x64_S1x4096x256,
    StableHlo.nullary main_cst_14 (constant S_ .f32 0x41800000#32),
    StableHlo.unary main_cst_14 main_v106 (broadcastInDim S1x4096x256 ![] bcast_S_S1x4096x256 : (⟨S_, .f32⟩ : BufTy).Contents (Elt F) → (⟨S1x4096x256, .f32⟩ : BufTy).Contents (Elt F)),
    StableHlo.binary main_v105 main_v106 main_v107 (Host.divf : (⟨S1x4096x256, .f32⟩ : BufTy).Contents (Elt F) → (⟨S1x4096x256, .f32⟩ : BufTy).Contents (Elt F) → (⟨S1x4096x256, .f32⟩ : BufTy).Contents (Elt F)) ]
theorem main_part2_ops2_sub : (main_part2_ops2 : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub ..⟩
abbrev main_part2_ops3 : List (HloOp τ sig (Elt F)) :=
  [ StableHlo.TRef.unary (.of main_v107 : StableHlo.TRef sig ⟨S1x4096x256, .f32⟩) (.of main_call15_v0 : StableHlo.TRef sig ⟨S1x4096x256, .f32⟩) Host.negf,
    StableHlo.TRef.binary (.of main_call15_v0 : StableHlo.TRef sig ⟨S1x4096x256, .f32⟩) (.of main_v13_1 : StableHlo.TRef sig ⟨S1x4096x256, .f32⟩) (.of main_call15_v1 : StableHlo.TRef sig ⟨S1x4096x256, .f32⟩) mulf,
    StableHlo.TRef.unary main_call15_call0.v0 (.of main_v108 : StableHlo.TRef sig ⟨S1x4096x256, .f32⟩) Host.negf ]
theorem main_part2_ops3_sub : (main_part2_ops3 : List (HloOp τ sig (Elt F))).Forall fun op => op.bufs ⊆ StableHlo.tcRefs τ sig :=
  ⟨StableHlo.unary_bufs_sub .., StableHlo.binary_bufs_sub .., StableHlo.unary_bufs_sub ..⟩
abbrev main_part2_ops4 : List (HloOp τ sig (Elt F)) :=
  [ StableHlo.nullary main_cst_15 (constant S_ .f32 0x00000000#32),
    StableHlo.binary main_v108 main_cst_15 main_v109 ((fun x v => Host.reduceAdd x v reducesTo_S1x4096x256_S1x256_d1 h_S_) : (⟨S1x4096x256, .f32⟩ : BufTy).Contents (Elt F) → (⟨S_, .f32⟩ : BufTy).Contents (Elt F) → (⟨S1x256, .f32⟩ : BufTy).Contents (Elt F)),
    StableHlo.reshape main_v109 main_v110 (rfl : (.f32 : EltTy) = .f32) shapeCasts_S1x256_S1x1x256,
    StableHlo.nullary main_cst_16 (constant S_ .f32 0x00000000#32),
    StableHlo.binary main_v110 main_cst_16 main_v111 ((fun x v => Host.reduceAdd x v reducesTo_S1x1x256_S256_d0_1 h_S_) : (⟨S1x1x256, .f32⟩ : BufTy).Contents (Elt F) → (⟨S_, .f32⟩ : BufTy).Contents (Elt F) → (⟨S256, .f32⟩ : BufTy).Contents (Elt F)),
    StableHlo.unary main_v111 main_v112 (broadcastInDim S1x256 ![1] bcast_S256_S1x256_1 : (⟨S256, .f32⟩ : BufTy).Contents (Elt F) → (⟨S1x256, .f32⟩ : BufTy).Contents (Elt F)),
    StableHlo.binary main_v108 main_v3 main_v113 ((fun l r => Host.dotGeneral dot_S1x4096x256_S1x4096x16_S256x16_01_01_2_2_n_n none l r) : (⟨S1x4096x256, .f32⟩ : BufTy).Contents (Elt F) → (⟨S1x4096x16, .f32⟩ : BufTy).Contents (Elt F) → (⟨S256x16, .f32⟩ : BufTy).Contents (Elt F)),
    StableHlo.unary main_v113 main_v114 ((transpose S16x256 [1, 0] · transposes_S256x16_S16x256_1_0) : (⟨S256x16, .f32⟩ : BufTy).Contents (Elt F) → (⟨S16x256, .f32⟩ : BufTy).Contents (Elt F)),
    StableHlo.binary main_v108 main_arg4 main_v115 ((fun l r => Host.dotGeneral dot_S1x4096x256_S16x256_S1x4096x16_2_1_01_0_n_n none l r) : (⟨S1x4096x256, .f32⟩ : BufTy).Contents (Elt F) → (⟨S16x256, .f32⟩ : BufTy).Contents (Elt F) → (⟨S1x4096x16, .f32⟩ : BufTy).Contents (Elt F)),
    StableHlo.reshape main_v84 main_v116 (rfl : (.f32 : EltTy) = .f32) shapeCasts_S1x64x64x4x128_S1x4096x512,
    StableHlo.reshape main_v93 main_v117 (rfl : (.f32 : EltTy) = .f32) shapeCasts_S1x64x64x4x64_S1x4096x256,
    StableHlo.nullary main_cst_17 (constant S_ .f32 0x3E000000#32),
    StableHlo.unary main_cst_17 main_v118 (broadcastInDim S1x64x64x4x64 ![] bcast_S_S1x64x64x4x64 : (⟨S_, .f32⟩ : BufTy).Contents (Elt F) → (⟨S1x64x64x4x64, .f32⟩ : BufTy).Contents (Elt F)),
    StableHlo.binary main_v98 main_v118 main_v119 (mulf : (⟨S1x64x64x4x64, .f32⟩ : BufTy).Contents (Elt F) → (⟨S1x64x64x4x64, .f32⟩ : BufTy).Contents (Elt F) → (⟨S1x64x64x4x64, .f32⟩ : BufTy).Contents (Elt F)),
    StableHlo.reshape main_v119 main_v120 (rfl : (.f32 : EltTy) = .f32) shapeCasts_S1x64x64x4x64_S1x4096x256,
    StableHlo.nullary main_cst_18 (constant S_ .f32 0x00000000#32),
    StableHlo.binary main_v115 main_cst_18 main_v121 ((fun x v => Host.reduceAdd x v reducesTo_S1x4096x16_S4096x16_d0 h_S_) : (⟨S1x4096x16, .f32⟩ : BufTy).Contents (Elt F) → (⟨S_, .f32⟩ : BufTy).Contents (Elt F) → (⟨S4096x16, .f32⟩ : BufTy).Contents (Elt F)),
    StableHlo.nullary main_cst_19 (constant S_ .f32 0x00000000#32),
    StableHlo.binary main_v116 main_cst_19 main_v122 ((fun x v => Host.reduceAdd x v reducesTo_S1x4096x512_S4096x512_d0 h_S_) : (⟨S1x4096x512, .f32⟩ : BufTy).Contents (Elt F) → (⟨S_, .f32⟩ : BufTy).Contents (Elt F) → (⟨S4096x512, .f32⟩ : BufTy).Contents (Elt F)),
    StableHlo.nullary main_cst_20 (constant S_ .f32 0x00000000#32),
    StableHlo.binary main_v117 main_cst_20 main_v123 ((fun x v => Host.reduceAdd x v reducesTo_S1x4096x256_S4096x256_d0 h_S_) : (⟨S1x4096x256, .f32⟩ : BufTy).Contents (Elt F) → (⟨S_, .f32⟩ : BufTy).Contents (Elt F) → (⟨S4096x256, .f32⟩ : BufTy).Contents (Elt F)),
    StableHlo.nullary main_cst_21 (constant S_ .f32 0x00000000#32),
    StableHlo.binary main_v120 main_cst_21 main_v124 ((fun x v => Host.reduceAdd x v reducesTo_S1x4096x256_S4096x256_d0 h_S_) : (⟨S1x4096x256, .f32⟩ : BufTy).Contents (Elt F) → (⟨S_, .f32⟩ : BufTy).Contents (Elt F) → (⟨S4096x256, .f32⟩ : BufTy).Contents (Elt F)),
    StableHlo.unary main_v124 main_v125 ((truncf .bf16 · bitsLt_bf16_f32) : (⟨S4096x256, .f32⟩ : BufTy).Contents (Elt F) → (⟨S4096x256, .bf16⟩ : BufTy).Contents (Elt F)),
    StableHlo.unary main_v123 main_v126 ((truncf .bf16 · bitsLt_bf16_f32) : (⟨S4096x256, .f32⟩ : BufTy).Contents (Elt F) → (⟨S4096x256, .bf16⟩ : BufTy).Contents (Elt F)),
    StableHlo.unary main_v122 main_v127 ((truncf .bf16 · bitsLt_bf16_f32) : (⟨S4096x512, .f32⟩ : BufTy).Contents (Elt F) → (⟨S4096x512, .bf16⟩ : BufTy).Contents (Elt F)),
    StableHlo.unary main_v121 main_v128 ((truncf .bf16 · bitsLt_bf16_f32) : (⟨S4096x16, .f32⟩ : BufTy).Contents (Elt F) → (⟨S4096x16, .bf16⟩ : BufTy).Contents (Elt F)) ]
theorem main_part2_ops4_sub : (main_part2_ops4 : List (HloOp τ sig (Elt F))).Forall fun op => op.bufs ⊆ StableHlo.tcRefs τ sig :=
  ⟨StableHlo.nullary_bufs_sub .., StableHlo.binary_bufs_sub .., StableHlo.reshape_bufs_sub .., StableHlo.nullary_bufs_sub .., StableHlo.binary_bufs_sub .., StableHlo.unary_bufs_sub .., StableHlo.binary_bufs_sub .., StableHlo.unary_bufs_sub .., StableHlo.binary_bufs_sub .., StableHlo.reshape_bufs_sub .., StableHlo.reshape_bufs_sub .., StableHlo.nullary_bufs_sub .., StableHlo.unary_bufs_sub .., StableHlo.binary_bufs_sub .., StableHlo.reshape_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.unary_bufs_sub .., StableHlo.unary_bufs_sub .., StableHlo.unary_bufs_sub .., StableHlo.unary_bufs_sub ..⟩
theorem main_part2_chain (c : Dev nD) : main_part2 (F := F) c = (Pipeline.chain
  [ StableHlo.seq main_part2_ops0,
    StableHlo.seq main_part2_ops1,
    StableHlo.seq main_part2_ops2,
    StableHlo.seq main_part2_ops3,
    StableHlo.seq main_part2_ops4 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons]
  chain_rfl

theorem main_chain_windows (c : Dev nD) : main (F := F) c = (Pipeline.chain
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7,
    StableHlo.seq main_part0_ops8,
    HostLoop.enter 0,
    StableHlo.seq main_part0_ops9,
    StableHlo.seq main_part1_ops0,
    HostLoop.enter 1,
    StableHlo.seq main_part1_ops1,
    StableHlo.seq main_part1_ops2,
    StableHlo.seq main_part1_ops3,
    StableHlo.seq main_part2_ops0,
    StableHlo.seq main_part2_ops1,
    StableHlo.seq main_part2_ops2,
    StableHlo.seq main_part2_ops3,
    StableHlo.seq main_part2_ops4 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

abbrev while0Ops0 : List (HloOp τ sig (Elt F)) :=
  [ StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.nullary (.of main_while0b_call4_c_1 : StableHlo.TRef sig ⟨S_, .i32⟩) (constantI S_ 32 0#32),
    StableHlo.TRef.unaryIndexed (.of main_v43_0 : StableHlo.TRef sig ⟨S64x1x4x64, .f32⟩) ![(.of main_v43_2 : StableHlo.TRef sig ⟨S_, .i32⟩), (.of main_while0b_call4_c : StableHlo.TRef sig ⟨S_, .i32⟩), (.of main_while0b_call4_c_0 : StableHlo.TRef sig ⟨S_, .i32⟩), (.of main_while0b_call4_c_1 : StableHlo.TRef sig ⟨S_, .i32⟩)] (.of main_while0b_call4_v0 : StableHlo.TRef sig ⟨S1x1x4x64, .f32⟩) (fun x i => Host.dynamicSlice S1x1x4x64 x (fun k => (i k (Shape.Idx.first h_S_)).toInt) sliceFits_S64x1x4x64_S1x1x4x64),
    StableHlo.TRef.reshape (.of main_while0b_call4_v0 : StableHlo.TRef sig ⟨S1x1x4x64, .f32⟩) (.of main_while0b_v129 : StableHlo.TRef sig ⟨S1x4x64, .f32⟩) (rfl : (.f32 : EltTy) = .f32) shapeCasts_S1x1x4x64_S1x4x64 ]
theorem while0Ops0_sub : (while0Ops0 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
abbrev while0Ops0_1 : List (HloOp τ sig (Elt F)) :=
  [ StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.nullary (.of main_while0b_call5_c_1 : StableHlo.TRef sig ⟨S_, .i32⟩) (constantI S_ 32 0#32),
    StableHlo.TRef.nullary (.of main_while0b_call5_c_2 : StableHlo.TRef sig ⟨S_, .i32⟩) (constantI S_ 32 0#32),
    StableHlo.TRef.unaryIndexed (.of main_v43_1 : StableHlo.TRef sig ⟨S64x1x4x64x128, .f32⟩) ![(.of main_v43_2 : StableHlo.TRef sig ⟨S_, .i32⟩), (.of main_while0b_call5_c : StableHlo.TRef sig ⟨S_, .i32⟩), (.of main_while0b_call5_c_0 : StableHlo.TRef sig ⟨S_, .i32⟩), (.of main_while0b_call5_c_1 : StableHlo.TRef sig ⟨S_, .i32⟩), (.of main_while0b_call5_c_2 : StableHlo.TRef sig ⟨S_, .i32⟩)] (.of main_while0b_call5_v0 : StableHlo.TRef sig ⟨S1x1x4x64x128, .f32⟩) (fun x i => Host.dynamicSlice S1x1x4x64x128 x (fun k => (i k (Shape.Idx.first h_S_)).toInt) sliceFits_S64x1x4x64x128_S1x1x4x64x128),
    StableHlo.TRef.reshape (.of main_while0b_call5_v0 : StableHlo.TRef sig ⟨S1x1x4x64x128, .f32⟩) (.of main_while0b_v130 : StableHlo.TRef sig ⟨S1x4x64x128, .f32⟩) (rfl : (.f32 : EltTy) = .f32) shapeCasts_S1x1x4x64x128_S1x4x64x128 ]
theorem while0Ops0_1_sub : (while0Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
abbrev while0Ops0_2 : List (HloOp τ sig (Elt F)) :=
  [ StableHlo.unary main_while0b_v129 main_while0b_v131 (broadcastInDim S1x4x64x1 ![0, 1, 2] bcast_S1x4x64_S1x4x64x1_0_1_2 : (⟨S1x4x64, .f32⟩ : BufTy).Contents (Elt F) → (⟨S1x4x64x1, .f32⟩ : BufTy).Contents (Elt F)),
    StableHlo.unary main_while0b_v131 main_while0b_v132 (broadcastInDim S1x4x64x128 ![0, 1, 2, 3] bcast_S1x4x64x1_S1x4x64x128_0_1_2_3 : (⟨S1x4x64x1, .f32⟩ : BufTy).Contents (Elt F) → (⟨S1x4x64x128, .f32⟩ : BufTy).Contents (Elt F)),
    StableHlo.binary main_while0b_v132 main_v43_3 main_while0b_v133 (mulf : (⟨S1x4x64x128, .f32⟩ : BufTy).Contents (Elt F) → (⟨S1x4x64x128, .f32⟩ : BufTy).Contents (Elt F) → (⟨S1x4x64x128, .f32⟩ : BufTy).Contents (Elt F)),
    StableHlo.binary main_while0b_v133 main_while0b_v130 main_while0b_v134 (addf : (⟨S1x4x64x128, .f32⟩ : BufTy).Contents (Elt F) → (⟨S1x4x64x128, .f32⟩ : BufTy).Contents (Elt F) → (⟨S1x4x64x128, .f32⟩ : BufTy).Contents (Elt F)) ]
theorem while0Ops0_2_sub : (while0Ops0_2 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub ..⟩
abbrev while0Ops0_3 : List (HloOp τ sig (Elt F)) :=
  [ StableHlo.TRef.unary (.of main_v43_3 : StableHlo.TRef sig ⟨S1x4x64x128, .f32⟩) (.of main_while0b_call6_v0 : StableHlo.TRef sig ⟨S1x1x4x64x128, .f32⟩) (broadcastInDim S1x1x4x64x128 ![1, 2, 3, 4] bcast_S1x4x64x128_S1x1x4x64x128_1_2_3_4),
    StableHlo.TRef.nullary (.of main_while0b_call6_c : StableHlo.TRef sig ⟨S_, .i32⟩) (constantI S_ 32 0#32),
    StableHlo.TRef.nullary (.of main_while0b_call6_c_0 : StableHlo.TRef sig ⟨S_, .i32⟩) (constantI S_ 32 0#32),
    StableHlo.TRef.nullary (.of main_while0b_call6_c_1 : StableHlo.TRef sig ⟨S_, .i32⟩) (constantI S_ 32 0#32),
    StableHlo.TRef.nullary (.of main_while0b_call6_c_2 : StableHlo.TRef sig ⟨S_, .i32⟩) (constantI S_ 32 0#32),
    StableHlo.TRef.binaryIndexed (.of main_v43_4 : StableHlo.TRef sig ⟨S64x1x4x64x128, .f32⟩) (.of main_while0b_call6_v0 : StableHlo.TRef sig ⟨S1x1x4x64x128, .f32⟩) ![(.of main_v43_2 : StableHlo.TRef sig ⟨S_, .i32⟩), (.of main_while0b_call6_c : StableHlo.TRef sig ⟨S_, .i32⟩), (.of main_while0b_call6_c_0 : StableHlo.TRef sig ⟨S_, .i32⟩), (.of main_while0b_call6_c_1 : StableHlo.TRef sig ⟨S_, .i32⟩), (.of main_while0b_call6_c_2 : StableHlo.TRef sig ⟨S_, .i32⟩)] (.of main_while0b_v135 : StableHlo.TRef sig ⟨S64x1x4x64x128, .f32⟩) (fun x u i => Host.dynamicUpdateSlice x u (fun k => (i k (Shape.Idx.first h_S_)).toInt) updateFits_S64x1x4x64x128_S1x1x4x64x128) ]
theorem while0Ops0_3_sub : (while0Ops0_3 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
abbrev while0Ops0_4 : List (HloOp τ sig (Elt F)) :=
  [ StableHlo.TRef.unary (.of main_while0b_v131 : StableHlo.TRef sig ⟨S1x4x64x1, .f32⟩) (.of main_while0b_call7_v0 : StableHlo.TRef sig ⟨S1x1x4x64x1, .f32⟩) (broadcastInDim S1x1x4x64x1 ![1, 2, 3, 4] bcast_S1x4x64x1_S1x1x4x64x1_1_2_3_4),
    StableHlo.TRef.nullary (.of main_while0b_call7_c : StableHlo.TRef sig ⟨S_, .i32⟩) (constantI S_ 32 0#32),
    StableHlo.TRef.nullary (.of main_while0b_call7_c_0 : StableHlo.TRef sig ⟨S_, .i32⟩) (constantI S_ 32 0#32),
    StableHlo.TRef.nullary (.of main_while0b_call7_c_1 : StableHlo.TRef sig ⟨S_, .i32⟩) (constantI S_ 32 0#32),
    StableHlo.TRef.nullary (.of main_while0b_call7_c_2 : StableHlo.TRef sig ⟨S_, .i32⟩) (constantI S_ 32 0#32),
    StableHlo.TRef.binaryIndexed (.of main_v43_5 : StableHlo.TRef sig ⟨S64x1x4x64x1, .f32⟩) (.of main_while0b_call7_v0 : StableHlo.TRef sig ⟨S1x1x4x64x1, .f32⟩) ![(.of main_v43_2 : StableHlo.TRef sig ⟨S_, .i32⟩), (.of main_while0b_call7_c : StableHlo.TRef sig ⟨S_, .i32⟩), (.of main_while0b_call7_c_0 : StableHlo.TRef sig ⟨S_, .i32⟩), (.of main_while0b_call7_c_1 : StableHlo.TRef sig ⟨S_, .i32⟩), (.of main_while0b_call7_c_2 : StableHlo.TRef sig ⟨S_, .i32⟩)] (.of main_while0b_v136 : StableHlo.TRef sig ⟨S64x1x4x64x1, .f32⟩) (fun x u i => Host.dynamicUpdateSlice x u (fun k => (i k (Shape.Idx.first h_S_)).toInt) updateFits_S64x1x4x64x1_S1x1x4x64x1) ]
theorem while0Ops0_4_sub : (while0Ops0_4 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
abbrev while0Ops0_5 : List (HloOp τ sig (Elt F)) :=
  [ StableHlo.nullary main_while0b_c_27 (constantI S_ 32 1#32),
    StableHlo.binary main_v43_2 main_while0b_c_27 main_while0b_v137 (addi : (⟨S_, .i32⟩ : BufTy).Contents (Elt F) → (⟨S_, .i32⟩ : BufTy).Contents (Elt F) → (⟨S_, .i32⟩ : BufTy).Contents (Elt F)),
    StableHlo.unary main_while0b_v137 main_v43_2 id,
    StableHlo.unary main_while0b_v134 main_v43_3 id,
    StableHlo.unary main_while0b_v135 main_v43_4 id,
    StableHlo.unary main_while0b_v136 main_v43_5 id ]
theorem while0Ops0_5_sub : (while0Ops0_5 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5 ] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, Pipeline.chain_cons, StableHlo.chain_seq_cons]
  chain_rfl

abbrev while1Ops0 : List (HloOp τ sig (Elt F)) :=
  [ StableHlo.nullary main_while1b_c_28 (constantI S_ 32 64#32),
    StableHlo.binary main_while1b_c_28 main_v63_3 main_while1b_v129 (subi : (⟨S_, .i32⟩ : BufTy).Contents (Elt F) → (⟨S_, .i32⟩ : BufTy).Contents (Elt F) → (⟨S_, .i32⟩ : BufTy).Contents (Elt F)),
    StableHlo.nullary main_while1b_c_29 (constantI S_ 32 1#32),
    StableHlo.binary main_while1b_v129 main_while1b_c_29 main_while1b_v130 (subi : (⟨S_, .i32⟩ : BufTy).Contents (Elt F) → (⟨S_, .i32⟩ : BufTy).Contents (Elt F) → (⟨S_, .i32⟩ : BufTy).Contents (Elt F)) ]
theorem while1Ops0_sub : (while1Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
abbrev while1Ops0_1 : List (HloOp τ sig (Elt F)) :=
  [ StableHlo.TRef.nullary (.of main_while1b_call8_c : StableHlo.TRef sig ⟨S_, .i32⟩) (constantI S_ 32 0#32),
    StableHlo.TRef.nullary (.of main_while1b_call8_c_0 : StableHlo.TRef sig ⟨S_, .i32⟩) (constantI S_ 32 0#32),
    StableHlo.TRef.nullary (.of main_while1b_call8_c_1 : StableHlo.TRef sig ⟨S_, .i32⟩) (constantI S_ 32 0#32),
    StableHlo.TRef.nullary (.of main_while1b_call8_c_2 : StableHlo.TRef sig ⟨S_, .i32⟩) (constantI S_ 32 0#32),
    StableHlo.TRef.unaryIndexed (.of main_v63_0 : StableHlo.TRef sig ⟨S64x1x4x64x128, .f32⟩) ![(.of main_while1b_v130 : StableHlo.TRef sig ⟨S_, .i32⟩), (.of main_while1b_call8_c : StableHlo.TRef sig ⟨S_, .i32⟩), (.of main_while1b_call8_c_0 : StableHlo.TRef sig ⟨S_, .i32⟩), (.of main_while1b_call8_c_1 : StableHlo.TRef sig ⟨S_, .i32⟩), (.of main_while1b_call8_c_2 : StableHlo.TRef sig ⟨S_, .i32⟩)] (.of main_while1b_call8_v0 : StableHlo.TRef sig ⟨S1x1x4x64x128, .f32⟩) (fun x i => Host.dynamicSlice S1x1x4x64x128 x (fun k => (i k (Shape.Idx.first h_S_)).toInt) sliceFits_S64x1x4x64x128_S1x1x4x64x128),
    StableHlo.TRef.reshape (.of main_while1b_call8_v0 : StableHlo.TRef sig ⟨S1x1x4x64x128, .f32⟩) (.of main_while1b_v131 : StableHlo.TRef sig ⟨S1x4x64x128, .f32⟩) (rfl : (.f32 : EltTy) = .f32) shapeCasts_S1x1x4x64x128_S1x4x64x128 ]
theorem while1Ops0_1_sub : (while1Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
abbrev while1Ops0_2 : List (HloOp τ sig (Elt F)) :=
  [ StableHlo.TRef.nullary (.of main_while1b_call9_c : StableHlo.TRef sig ⟨S_, .i32⟩) (constantI S_ 32 0#32),
    StableHlo.TRef.nullary (.of main_while1b_call9_c_0 : StableHlo.TRef sig ⟨S_, .i32⟩) (constantI S_ 32 0#32),
    StableHlo.TRef.nullary (.of main_while1b_call9_c_1 : StableHlo.TRef sig ⟨S_, .i32⟩) (constantI S_ 32 0#32),
    StableHlo.TRef.nullary (.of main_while1b_call9_c_2 : StableHlo.TRef sig ⟨S_, .i32⟩) (constantI S_ 32 0#32),
    StableHlo.TRef.unaryIndexed (.of main_v63_1 : StableHlo.TRef sig ⟨S64x1x4x64x128, .f32⟩) ![(.of main_while1b_v130 : StableHlo.TRef sig ⟨S_, .i32⟩), (.of main_while1b_call9_c : StableHlo.TRef sig ⟨S_, .i32⟩), (.of main_while1b_call9_c_0 : StableHlo.TRef sig ⟨S_, .i32⟩), (.of main_while1b_call9_c_1 : StableHlo.TRef sig ⟨S_, .i32⟩), (.of main_while1b_call9_c_2 : StableHlo.TRef sig ⟨S_, .i32⟩)] (.of main_while1b_call9_v0 : StableHlo.TRef sig ⟨S1x1x4x64x128, .f32⟩) (fun x i => Host.dynamicSlice S1x1x4x64x128 x (fun k => (i k (Shape.Idx.first h_S_)).toInt) sliceFits_S64x1x4x64x128_S1x1x4x64x128),
    StableHlo.TRef.reshape (.of main_while1b_call9_v0 : StableHlo.TRef sig ⟨S1x1x4x64x128, .f32⟩) (.of main_while1b_v132 : StableHlo.TRef sig ⟨S1x4x64x128, .f32⟩) (rfl : (.f32 : EltTy) = .f32) shapeCasts_S1x1x4x64x128_S1x4x64x128 ]
theorem while1Ops0_2_sub : (while1Ops0_2 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
abbrev while1Ops0_3 : List (HloOp τ sig (Elt F)) :=
  [ StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.nullary (.of main_while1b_call10_c_1 : StableHlo.TRef sig ⟨S_, .i32⟩) (constantI S_ 32 0#32),
    StableHlo.TRef.nullary (.of main_while1b_call10_c_2 : StableHlo.TRef sig ⟨S_, .i32⟩) (constantI S_ 32 0#32),
    StableHlo.TRef.unaryIndexed (.of main_v63_2 : StableHlo.TRef sig ⟨S64x1x4x64x1, .f32⟩) ![(.of main_while1b_v130 : StableHlo.TRef sig ⟨S_, .i32⟩), (.of main_while1b_call10_c : StableHlo.TRef sig ⟨S_, .i32⟩), (.of main_while1b_call10_c_0 : StableHlo.TRef sig ⟨S_, .i32⟩), (.of main_while1b_call10_c_1 : StableHlo.TRef sig ⟨S_, .i32⟩), (.of main_while1b_call10_c_2 : StableHlo.TRef sig ⟨S_, .i32⟩)] (.of main_while1b_call10_v0 : StableHlo.TRef sig ⟨S1x1x4x64x1, .f32⟩) (fun x i => Host.dynamicSlice S1x1x4x64x1 x (fun k => (i k (Shape.Idx.first h_S_)).toInt) sliceFits_S64x1x4x64x1_S1x1x4x64x1),
    StableHlo.TRef.reshape (.of main_while1b_call10_v0 : StableHlo.TRef sig ⟨S1x1x4x64x1, .f32⟩) (.of main_while1b_v133 : StableHlo.TRef sig ⟨S1x4x64x1, .f32⟩) (rfl : (.f32 : EltTy) = .f32) shapeCasts_S1x1x4x64x1_S1x4x64x1 ]
theorem while1Ops0_3_sub : (while1Ops0_3 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
abbrev while1Ops0_4 : List (HloOp τ sig (Elt F)) :=
  [ StableHlo.unary main_while1b_v133 main_while1b_v134 (broadcastInDim S1x4x64x128 ![0, 1, 2, 3] bcast_S1x4x64x1_S1x4x64x128_0_1_2_3 : (⟨S1x4x64x1, .f32⟩ : BufTy).Contents (Elt F) → (⟨S1x4x64x128, .f32⟩ : BufTy).Contents (Elt F)),
    StableHlo.binary main_while1b_v134 main_v63_4 main_while1b_v135 (mulf : (⟨S1x4x64x128, .f32⟩ : BufTy).Contents (Elt F) → (⟨S1x4x64x128, .f32⟩ : BufTy).Contents (Elt F) → (⟨S1x4x64x128, .f32⟩ : BufTy).Contents (Elt F)),
    StableHlo.binary main_while1b_v131 main_while1b_v135 main_while1b_v136 (addf : (⟨S1x4x64x128, .f32⟩ : BufTy).Contents (Elt F) → (⟨S1x4x64x128, .f32⟩ : BufTy).Contents (Elt F) → (⟨S1x4x64x128, .f32⟩ : BufTy).Contents (Elt F)),
    StableHlo.binary main_v63_4 main_while1b_v132 main_while1b_v137 (mulf : (⟨S1x4x64x128, .f32⟩ : BufTy).Contents (Elt F) → (⟨S1x4x64x128, .f32⟩ : BufTy).Contents (Elt F) → (⟨S1x4x64x128, .f32⟩ : BufTy).Contents (Elt F)),
    StableHlo.nullary main_while1b_cst_30 (constant S_ .f32 0x00000000#32),
    StableHlo.binary main_while1b_v137 main_while1b_cst_30 main_while1b_v138 ((fun x v => Host.reduceAdd x v reducesTo_S1x4x64x128_S1x4x64_d3 h_S_) : (⟨S1x4x64x128, .f32⟩ : BufTy).Contents (Elt F) → (⟨S_, .f32⟩ : BufTy).Contents (Elt F) → (⟨S1x4x64, .f32⟩ : BufTy).Contents (Elt F)),
    StableHlo.reshape main_while1b_v138 main_while1b_v139 (rfl : (.f32 : EltTy) = .f32) shapeCasts_S1x4x64_S1x4x64x1,
    StableHlo.nullary main_while1b_cst_31 (constant S_ .f32 0x00000000#32),
    StableHlo.binary main_while1b_v139 main_while1b_cst_31 main_while1b_v140 ((fun x v => Host.reduceAdd x v reducesTo_S1x4x64x1_S4x64_d0_3 h_S_) : (⟨S1x4x64x1, .f32⟩ : BufTy).Contents (Elt F) → (⟨S_, .f32⟩ : BufTy).Contents (Elt F) → (⟨S4x64, .f32⟩ : BufTy).Contents (Elt F)),
    StableHlo.unary main_while1b_v140 main_while1b_v141 (broadcastInDim S1x4x64 ![1, 2] bcast_S4x64_S1x4x64_1_2 : (⟨S4x64, .f32⟩ : BufTy).Contents (Elt F) → (⟨S1x4x64, .f32⟩ : BufTy).Contents (Elt F)) ]
theorem while1Ops0_4_sub : (while1Ops0_4 : List (HloOp τ sig (Elt F))).Forall fun op => op.bufs ⊆ StableHlo.tcRefs τ sig :=
  ⟨StableHlo.unary_bufs_sub .., StableHlo.binary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.unary_bufs_sub ..⟩
abbrev while1Ops0_5 : List (HloOp τ sig (Elt F)) :=
  [ StableHlo.TRef.unary (.of main_while1b_v141 : StableHlo.TRef sig ⟨S1x4x64, .f32⟩) (.of main_while1b_call11_v0 : StableHlo.TRef sig ⟨S1x1x4x64, .f32⟩) (broadcastInDim S1x1x4x64 ![1, 2, 3] bcast_S1x4x64_S1x1x4x64_1_2_3),
    StableHlo.TRef.nullary (.of main_while1b_call11_c : StableHlo.TRef sig ⟨S_, .i32⟩) (constantI S_ 32 0#32),
    StableHlo.TRef.nullary (.of main_while1b_call11_c_0 : StableHlo.TRef sig ⟨S_, .i32⟩) (constantI S_ 32 0#32),
    StableHlo.TRef.nullary (.of main_while1b_call11_c_1 : StableHlo.TRef sig ⟨S_, .i32⟩) (constantI S_ 32 0#32),
    StableHlo.TRef.binaryIndexed (.of main_v63_5 : StableHlo.TRef sig ⟨S64x1x4x64, .f32⟩) (.of main_while1b_call11_v0 : StableHlo.TRef sig ⟨S1x1x4x64, .f32⟩) ![(.of main_while1b_v130 : StableHlo.TRef sig ⟨S_, .i32⟩), (.of main_while1b_call11_c : StableHlo.TRef sig ⟨S_, .i32⟩), (.of main_while1b_call11_c_0 : StableHlo.TRef sig ⟨S_, .i32⟩), (.of main_while1b_call11_c_1 : StableHlo.TRef sig ⟨S_, .i32⟩)] (.of main_while1b_v142 : StableHlo.TRef sig ⟨S64x1x4x64, .f32⟩) (fun x u i => Host.dynamicUpdateSlice x u (fun k => (i k (Shape.Idx.first h_S_)).toInt) updateFits_S64x1x4x64_S1x1x4x64) ]
theorem while1Ops0_5_sub : (while1Ops0_5 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
abbrev while1Ops0_6 : List (HloOp τ sig (Elt F)) :=
  [ StableHlo.TRef.unary (.of main_v63_4 : StableHlo.TRef sig ⟨S1x4x64x128, .f32⟩) (.of main_while1b_call12_v0 : StableHlo.TRef sig ⟨S1x1x4x64x128, .f32⟩) (broadcastInDim S1x1x4x64x128 ![1, 2, 3, 4] bcast_S1x4x64x128_S1x1x4x64x128_1_2_3_4),
    StableHlo.TRef.nullary (.of main_while1b_call12_c : StableHlo.TRef sig ⟨S_, .i32⟩) (constantI S_ 32 0#32),
    StableHlo.TRef.nullary (.of main_while1b_call12_c_0 : StableHlo.TRef sig ⟨S_, .i32⟩) (constantI S_ 32 0#32),
    StableHlo.TRef.nullary (.of main_while1b_call12_c_1 : StableHlo.TRef sig ⟨S_, .i32⟩) (constantI S_ 32 0#32),
    StableHlo.TRef.nullary (.of main_while1b_call12_c_2 : StableHlo.TRef sig ⟨S_, .i32⟩) (constantI S_ 32 0#32),
    StableHlo.TRef.binaryIndexed (.of main_v63_6 : StableHlo.TRef sig ⟨S64x1x4x64x128, .f32⟩) (.of main_while1b_call12_v0 : StableHlo.TRef sig ⟨S1x1x4x64x128, .f32⟩) ![(.of main_while1b_v130 : StableHlo.TRef sig ⟨S_, .i32⟩), (.of main_while1b_call12_c : StableHlo.TRef sig ⟨S_, .i32⟩), (.of main_while1b_call12_c_0 : StableHlo.TRef sig ⟨S_, .i32⟩), (.of main_while1b_call12_c_1 : StableHlo.TRef sig ⟨S_, .i32⟩), (.of main_while1b_call12_c_2 : StableHlo.TRef sig ⟨S_, .i32⟩)] (.of main_while1b_v143 : StableHlo.TRef sig ⟨S64x1x4x64x128, .f32⟩) (fun x u i => Host.dynamicUpdateSlice x u (fun k => (i k (Shape.Idx.first h_S_)).toInt) updateFits_S64x1x4x64x128_S1x1x4x64x128) ]
theorem while1Ops0_6_sub : (while1Ops0_6 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
abbrev while1Ops0_7 : List (HloOp τ sig (Elt F)) :=
  [ StableHlo.nullary main_while1b_c_32 (constantI S_ 32 1#32),
    StableHlo.binary main_v63_3 main_while1b_c_32 main_while1b_v144 (addi : (⟨S_, .i32⟩ : BufTy).Contents (Elt F) → (⟨S_, .i32⟩ : BufTy).Contents (Elt F) → (⟨S_, .i32⟩ : BufTy).Contents (Elt F)),
    StableHlo.unary main_while1b_v144 main_v63_3 id,
    StableHlo.unary main_while1b_v136 main_v63_4 id,
    StableHlo.unary main_while1b_v142 main_v63_5 id,
    StableHlo.unary main_while1b_v143 main_v63_6 id ]
theorem while1Ops0_7_sub : (while1Ops0_7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
theorem while1_body_chain : main_while1_body (F := F) = (Pipeline.chain
  [ StableHlo.seq while1Ops0,
    StableHlo.seq while1Ops0_1,
    StableHlo.seq while1Ops0_2,
    StableHlo.seq while1Ops0_3,
    StableHlo.seq while1Ops0_4,
    StableHlo.seq while1Ops0_5,
    StableHlo.seq while1Ops0_6,
    StableHlo.seq while1Ops0_7 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, StableHlo.chain_seq_cons, Pipeline.chain_cons, Pipeline.chain_cons, StableHlo.chain_seq_cons]
  chain_rfl

theorem main_part0_ops0_fresh : (main_part0_ops0 : List (HloOp τ sig (Elt F))).Forall fun op => op.fresh = ∅ :=
  StableHlo.forall_fresh_of_map rfl
abbrev main_part0_ops0_W : List (Ref sig .tc) := [main_v0, main_v1, main_v2, main_v3, main_v4, main_cst, main_v5, main_v6, main_v7, main_v8, main_v9, main_v10, main_v11, main_v12]
theorem main_part0_ops0_writes : (main_part0_ops0 : List (HloOp τ sig (Elt F))).Forall fun op => op.writes ⊆ (main_part0_ops0_W.map (Proc.devRef (τ := τ) .tc)).toFinset :=
  StableHlo.forall_writes_sub_of_map rfl

theorem main_part0_ops1_fresh : (main_part0_ops1 : List (HloOp τ sig (Elt F))).Forall fun op => op.fresh = ∅ :=
  StableHlo.forall_fresh_of_map rfl
abbrev main_part0_ops1_W : List (Ref sig .tc) := [main_call0_v0, main_call0_call0_cst, main_call0_call0_v0, main_call0_call0_v1, main_call0_call0_v2, main_call0_call0_v3, main_call0_call0_v4, main_call0_call0_v5, main_call0_call0_v6, main_call0_call0_v7, main_call0_call0_v8, main_call0_call0_v9, main_call0_call0_v10, main_call0_call0_v11, main_call0_v1_0, main_call0_call0_cst_0, main_call0_call0_v13, main_call0_call0_v14, main_call0_call0_cst_1, main_call0_call0_v15, main_call0_call0_v16, main_call0_call0_cst_2, main_call0_call0_v17, main_call0_call0_v18, main_call0_call0_cst_3, main_call0_call0_v19, main_call0_call0_v20, main_call0_call0_v21, main_v13_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v13_2, main_v13_0]
theorem main_part0_ops1_writes : (main_part0_ops1 : List (HloOp τ sig (Elt F))).Forall fun op => op.writes ⊆ (main_part0_ops1_W.map (Proc.devRef (τ := τ) .tc)).toFinset :=
  StableHlo.forall_writes_sub_of_map rfl

theorem main_part0_ops2_fresh : (main_part0_ops2 : List (HloOp τ sig (Elt F))).Forall fun op => op.fresh = ∅ :=
  StableHlo.forall_fresh_of_map rfl
abbrev main_part0_ops2_W : List (Ref sig .tc) := [main_cst_0, main_v14, main_v15, main_v16]
theorem main_part0_ops2_writes : (main_part0_ops2 : List (HloOp τ sig (Elt F))).Forall fun op => op.writes ⊆ (main_part0_ops2_W.map (Proc.devRef (τ := τ) .tc)).toFinset :=
  StableHlo.forall_writes_sub_of_map rfl

theorem main_part0_ops3_fresh : (main_part0_ops3 : List (HloOp τ sig (Elt F))).Forall fun op => op.fresh = ∅ :=
  StableHlo.forall_fresh_of_map rfl
abbrev main_part0_ops3_W : List (Ref sig .tc) := [main_call1_call0_cst, main_call1_call0_v0, main_v17]
theorem main_part0_ops3_writes : (main_part0_ops3 : List (HloOp τ sig (Elt F))).Forall fun op => op.writes ⊆ (main_part0_ops3_W.map (Proc.devRef (τ := τ) .tc)).toFinset :=
  StableHlo.forall_writes_sub_of_map rfl

theorem main_part0_ops4_fresh : (main_part0_ops4 : List (HloOp τ sig (Elt F))).Forall fun op => op.fresh = ∅ :=
  StableHlo.forall_fresh_of_map rfl
abbrev main_part0_ops4_W : List (Ref sig .tc) := [main_v18, main_v19, main_v20, main_v21, main_v22, main_v23, main_v24, main_v25, main_c, main_v26]
theorem main_part0_ops4_writes : (main_part0_ops4 : List (HloOp τ sig (Elt F))).Forall fun op => op.writes ⊆ (main_part0_ops4_W.map (Proc.devRef (τ := τ) .tc)).toFinset :=
  StableHlo.forall_writes_sub_of_map rfl

theorem main_part0_ops5_fresh : (main_part0_ops5 : List (HloOp τ sig (Elt F))).Forall fun op => op.fresh = ∅ :=
  StableHlo.forall_fresh_of_map rfl
abbrev main_part0_ops5_W : List (Ref sig .tc) := [main_call2_v0, main_call2_c, main_call2_v1, main_call2_v2, main_call2_v3, main_call2_v4, main_call2_c_0, main_call2_v5, main_v27]
theorem main_part0_ops5_writes : (main_part0_ops5 : List (HloOp τ sig (Elt F))).Forall fun op => op.writes ⊆ (main_part0_ops5_W.map (Proc.devRef (τ := τ) .tc)).toFinset :=
  StableHlo.forall_writes_sub_of_map rfl

theorem main_part0_ops6_fresh : (main_part0_ops6 : List (HloOp τ sig (Elt F))).Forall fun op => op.fresh = ∅ :=
  StableHlo.forall_fresh_of_map rfl
abbrev main_part0_ops6_W : List (Ref sig .tc) := [main_cst_1]
theorem main_part0_ops6_writes : (main_part0_ops6 : List (HloOp τ sig (Elt F))).Forall fun op => op.writes ⊆ (main_part0_ops6_W.map (Proc.devRef (τ := τ) .tc)).toFinset :=
  StableHlo.forall_writes_sub_of_map rfl

theorem main_part0_ops7_fresh : (main_part0_ops7 : List (HloOp τ sig (Elt F))).Forall fun op => op.fresh = ∅ :=
  StableHlo.forall_fresh_of_map rfl
abbrev main_part0_ops7_W : List (Ref sig .tc) := [main_call3_v0, main_v28_1, main_call3_v2, main_v28_0, main_call3_cst, main_v28_2]
theorem main_part0_ops7_writes : (main_part0_ops7 : List (HloOp τ sig (Elt F))).Forall fun op => op.writes ⊆ (main_part0_ops7_W.map (Proc.devRef (τ := τ) .tc)).toFinset :=
  StableHlo.forall_writes_sub_of_map rfl

theorem main_part0_ops8_fresh : (main_part0_ops8 : List (HloOp τ sig (Elt F))).Forall fun op => op.fresh = ∅ :=
  StableHlo.forall_fresh_of_map rfl
abbrev main_part0_ops8_W : List (Ref sig .tc) := [main_v29, main_v30, main_v31, main_v32, main_v33, main_v34, main_v35, main_v36, main_v37, main_cst_2, main_v38, main_v39, main_v40, main_cst_3, main_v41, main_cst_4, main_v42, main_c_5, main_v43_0, main_v43_1, main_v43_2, main_v43_3, main_v43_4, main_v43_5]
theorem main_part0_ops8_writes : (main_part0_ops8 : List (HloOp τ sig (Elt F))).Forall fun op => op.writes ⊆ (main_part0_ops8_W.map (Proc.devRef (τ := τ) .tc)).toFinset :=
  StableHlo.forall_writes_sub_of_map rfl

theorem main_part0_ops9_fresh : (main_part0_ops9 : List (HloOp τ sig (Elt F))).Forall fun op => op.fresh = ∅ :=
  StableHlo.forall_fresh_of_map rfl
abbrev main_part0_ops9_W : List (Ref sig .tc) := [main_v44, main_v45]
theorem main_part0_ops9_writes : (main_part0_ops9 : List (HloOp τ sig (Elt F))).Forall fun op => op.writes ⊆ (main_part0_ops9_W.map (Proc.devRef (τ := τ) .tc)).toFinset :=
  StableHlo.forall_writes_sub_of_map rfl

theorem main_part1_ops0_fresh : (main_part1_ops0 : List (HloOp τ sig (Elt F))).Forall fun op => op.fresh = ∅ :=
  StableHlo.forall_fresh_of_map rfl
abbrev main_part1_ops0_W : List (Ref sig .tc) := [main_v46, main_v47, main_v48, main_v49, main_v50, main_cst_6, main_v51, main_v52, main_v53, main_v54, main_v55, main_v56, main_v57, main_v58, main_v59, main_cst_7, main_v60, main_cst_8, main_v61, main_cst_9, main_v62, main_c_10, main_v63_0, main_v63_1, main_v63_2, main_v63_3, main_v63_4, main_v63_5, main_v63_6]
theorem main_part1_ops0_writes : (main_part1_ops0 : List (HloOp τ sig (Elt F))).Forall fun op => op.writes ⊆ (main_part1_ops0_W.map (Proc.devRef (τ := τ) .tc)).toFinset :=
  StableHlo.forall_writes_sub_of_map rfl

theorem main_part1_ops1_fresh : (main_part1_ops1 : List (HloOp τ sig (Elt F))).Forall fun op => op.fresh = ∅ :=
  StableHlo.forall_fresh_of_map rfl
abbrev main_part1_ops1_W : List (Ref sig .tc) := [main_v64, main_v65, main_v66, main_v67, main_v68, main_v69, main_v70, main_v71, main_v72, main_v73, main_cst_11, main_v74, main_v75, main_v76, main_cst_12, main_v77, main_v78, main_v79, main_v80, main_v81, main_v82, main_v83, main_v84]
theorem main_part1_ops1_writes : (main_part1_ops1 : List (HloOp τ sig (Elt F))).Forall fun op => op.writes ⊆ (main_part1_ops1_W.map (Proc.devRef (τ := τ) .tc)).toFinset :=
  StableHlo.forall_writes_sub_of_map rfl

theorem main_part1_ops2_fresh : (main_part1_ops2 : List (HloOp τ sig (Elt F))).Forall fun op => op.fresh = ∅ :=
  StableHlo.forall_fresh_of_map rfl
abbrev main_part1_ops2_W : List (Ref sig .tc) := [main_call13_cst, main_call13_v0, main_v85]
theorem main_part1_ops2_writes : (main_part1_ops2 : List (HloOp τ sig (Elt F))).Forall fun op => op.writes ⊆ (main_part1_ops2_W.map (Proc.devRef (τ := τ) .tc)).toFinset :=
  StableHlo.forall_writes_sub_of_map rfl

theorem main_part1_ops3_fresh : (main_part1_ops3 : List (HloOp τ sig (Elt F))).Forall fun op => op.fresh = ∅ :=
  StableHlo.forall_fresh_of_map rfl
abbrev main_part1_ops3_W : List (Ref sig .tc) := [main_v86, main_v87, main_v88, main_v89, main_v90, main_v91]
theorem main_part1_ops3_writes : (main_part1_ops3 : List (HloOp τ sig (Elt F))).Forall fun op => op.writes ⊆ (main_part1_ops3_W.map (Proc.devRef (τ := τ) .tc)).toFinset :=
  StableHlo.forall_writes_sub_of_map rfl

theorem main_part2_ops0_fresh : (main_part2_ops0 : List (HloOp τ sig (Elt F))).Forall fun op => op.fresh = ∅ :=
  StableHlo.forall_fresh_of_map rfl
abbrev main_part2_ops0_W : List (Ref sig .tc) := [main_v92, main_v93, main_v94, main_v95, main_v96, main_v97, main_v98, main_v99, main_v100, main_v101, main_cst_13, main_v102, main_v103]
theorem main_part2_ops0_writes : (main_part2_ops0 : List (HloOp τ sig (Elt F))).Forall fun op => op.writes ⊆ (main_part2_ops0_W.map (Proc.devRef (τ := τ) .tc)).toFinset :=
  StableHlo.forall_writes_sub_of_map rfl

theorem main_part2_ops1_fresh : (main_part2_ops1 : List (HloOp τ sig (Elt F))).Forall fun op => op.fresh = ∅ :=
  StableHlo.forall_fresh_of_map rfl
abbrev main_part2_ops1_W : List (Ref sig .tc) := [main_call14_call0_cst, main_call14_call0_v0, main_v104]
theorem main_part2_ops1_writes : (main_part2_ops1 : List (HloOp τ sig (Elt F))).Forall fun op => op.writes ⊆ (main_part2_ops1_W.map (Proc.devRef (τ := τ) .tc)).toFinset :=
  StableHlo.forall_writes_sub_of_map rfl

theorem main_part2_ops2_fresh : (main_part2_ops2 : List (HloOp τ sig (Elt F))).Forall fun op => op.fresh = ∅ :=
  StableHlo.forall_fresh_of_map rfl
abbrev main_part2_ops2_W : List (Ref sig .tc) := [main_v105, main_cst_14, main_v106, main_v107]
theorem main_part2_ops2_writes : (main_part2_ops2 : List (HloOp τ sig (Elt F))).Forall fun op => op.writes ⊆ (main_part2_ops2_W.map (Proc.devRef (τ := τ) .tc)).toFinset :=
  StableHlo.forall_writes_sub_of_map rfl

theorem main_part2_ops3_fresh : (main_part2_ops3 : List (HloOp τ sig (Elt F))).Forall fun op => op.fresh = ∅ :=
  StableHlo.forall_fresh_of_map rfl
abbrev main_part2_ops3_W : List (Ref sig .tc) := [main_call15_v0, main_call15_v1, main_v108]
theorem main_part2_ops3_writes : (main_part2_ops3 : List (HloOp τ sig (Elt F))).Forall fun op => op.writes ⊆ (main_part2_ops3_W.map (Proc.devRef (τ := τ) .tc)).toFinset :=
  StableHlo.forall_writes_sub_of_map rfl

theorem main_part2_ops4_fresh : (main_part2_ops4 : List (HloOp τ sig (Elt F))).Forall fun op => op.fresh = ∅ :=
  StableHlo.forall_fresh_of_map rfl
abbrev main_part2_ops4_W : List (Ref sig .tc) := [main_cst_15, main_v109, main_v110, main_cst_16, main_v111, main_v112, main_v113, main_v114, main_v115, main_v116, main_v117, main_cst_17, main_v118, main_v119, main_v120, main_cst_18, main_v121, main_cst_19, main_v122, main_cst_20, main_v123, main_cst_21, main_v124, main_v125, main_v126, main_v127, main_v128]
theorem main_part2_ops4_writes : (main_part2_ops4 : List (HloOp τ sig (Elt F))).Forall fun op => op.writes ⊆ (main_part2_ops4_W.map (Proc.devRef (τ := τ) .tc)).toFinset :=
  StableHlo.forall_writes_sub_of_map rfl

end Cert.ReferenceIdeal.Ops

end
-- ==== Proof.RefLoop0.lean ====
module

public import proofs.«01_k».proof.Proof.RefOps
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 1780

noncomputable section

namespace Cert.ReferenceIdeal.Loop0

open Cert.ReferenceIdeal Cert.ReferenceIdeal.Gen Cert.ReferenceIdeal.Ops
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

theorem while0Ops0_fresh : (while0Ops0 : List (HloOp τ sig (Elt F))).Forall fun op => op.fresh = ∅ :=
  StableHlo.forall_fresh_of_map rfl
abbrev while0Ops0_W : List (Ref sig .tc) := [main_while0b_call4_c, main_while0b_call4_c_0, main_while0b_call4_c_1, main_while0b_call4_v0, main_while0b_v129]
theorem while0Ops0_writes : (while0Ops0 : List (HloOp τ sig (Elt F))).Forall fun op => op.writes ⊆ (while0Ops0_W.map (Proc.devRef (τ := τ) .tc)).toFinset :=
  StableHlo.forall_writes_sub_of_map rfl
theorem while0Ops0_1_fresh : (while0Ops0_1 : List (HloOp τ sig (Elt F))).Forall fun op => op.fresh = ∅ :=
  StableHlo.forall_fresh_of_map rfl
abbrev while0Ops0_1_W : List (Ref sig .tc) := [main_while0b_call5_c, main_while0b_call5_c_0, main_while0b_call5_c_1, main_while0b_call5_c_2, main_while0b_call5_v0, main_while0b_v130]
theorem while0Ops0_1_writes : (while0Ops0_1 : List (HloOp τ sig (Elt F))).Forall fun op => op.writes ⊆ (while0Ops0_1_W.map (Proc.devRef (τ := τ) .tc)).toFinset :=
  StableHlo.forall_writes_sub_of_map rfl
theorem while0Ops0_2_fresh : (while0Ops0_2 : List (HloOp τ sig (Elt F))).Forall fun op => op.fresh = ∅ :=
  StableHlo.forall_fresh_of_map rfl
abbrev while0Ops0_2_W : List (Ref sig .tc) := [main_while0b_v131, main_while0b_v132, main_while0b_v133, main_while0b_v134]
theorem while0Ops0_2_writes : (while0Ops0_2 : List (HloOp τ sig (Elt F))).Forall fun op => op.writes ⊆ (while0Ops0_2_W.map (Proc.devRef (τ := τ) .tc)).toFinset :=
  StableHlo.forall_writes_sub_of_map rfl
theorem while0Ops0_3_fresh : (while0Ops0_3 : List (HloOp τ sig (Elt F))).Forall fun op => op.fresh = ∅ :=
  StableHlo.forall_fresh_of_map rfl
abbrev while0Ops0_3_W : List (Ref sig .tc) := [main_while0b_call6_v0, main_while0b_call6_c, main_while0b_call6_c_0, main_while0b_call6_c_1, main_while0b_call6_c_2, main_while0b_v135]
theorem while0Ops0_3_writes : (while0Ops0_3 : List (HloOp τ sig (Elt F))).Forall fun op => op.writes ⊆ (while0Ops0_3_W.map (Proc.devRef (τ := τ) .tc)).toFinset :=
  StableHlo.forall_writes_sub_of_map rfl
theorem while0Ops0_4_fresh : (while0Ops0_4 : List (HloOp τ sig (Elt F))).Forall fun op => op.fresh = ∅ :=
  StableHlo.forall_fresh_of_map rfl
abbrev while0Ops0_4_W : List (Ref sig .tc) := [main_while0b_call7_v0, main_while0b_call7_c, main_while0b_call7_c_0, main_while0b_call7_c_1, main_while0b_call7_c_2, main_while0b_v136]
theorem while0Ops0_4_writes : (while0Ops0_4 : List (HloOp τ sig (Elt F))).Forall fun op => op.writes ⊆ (while0Ops0_4_W.map (Proc.devRef (τ := τ) .tc)).toFinset :=
  StableHlo.forall_writes_sub_of_map rfl
theorem while0Ops0_5_fresh : (while0Ops0_5 : List (HloOp τ sig (Elt F))).Forall fun op => op.fresh = ∅ :=
  StableHlo.forall_fresh_of_map rfl
abbrev while0Ops0_5_W : List (Ref sig .tc) := [main_while0b_c_27, main_while0b_v137, main_v43_2, main_v43_3, main_v43_4, main_v43_5]
theorem while0Ops0_5_writes : (while0Ops0_5 : List (HloOp τ sig (Elt F))).Forall fun op => op.writes ⊆ (while0Ops0_5_W.map (Proc.devRef (τ := τ) .tc)).toFinset :=
  StableHlo.forall_writes_sub_of_map rfl

abbrev condOps : List (HloOp τ sig (Elt F)) :=
  [ StableHlo.nullary main_while0c_c_27 (constantI S_ 32 64#32),
    StableHlo.binary main_v43_2 main_while0c_c_27 main_while0c_v129 (cmpi .slt) ]

abbrev preI : List (List (HloOp τ sig (Elt F))) := [main_part0_ops0, main_part0_ops1, main_part0_ops2, main_part0_ops3, main_part0_ops4, main_part0_ops5, main_part0_ops6, main_part0_ops7, main_part0_ops8]
abbrev bodyI : List (List (HloOp τ sig (Elt F))) := [while0Ops0, while0Ops0_1, while0Ops0_2, while0Ops0_3, while0Ops0_4, while0Ops0_5]

theorem hpre : Plain (preI (F := F)) := .cons main_part0_ops0_sub (hf := List.forall_iff_forall_mem.mp main_part0_ops0_fresh) (.cons main_part0_ops1_sub (hf := List.forall_iff_forall_mem.mp main_part0_ops1_fresh) (.cons main_part0_ops2_sub (hf := List.forall_iff_forall_mem.mp main_part0_ops2_fresh) (.cons main_part0_ops3_sub (hf := List.forall_iff_forall_mem.mp main_part0_ops3_fresh) (.cons main_part0_ops4_sub (hf := List.forall_iff_forall_mem.mp main_part0_ops4_fresh) (.cons main_part0_ops5_sub (hf := List.forall_iff_forall_mem.mp main_part0_ops5_fresh) (.cons main_part0_ops6_sub (hf := List.forall_iff_forall_mem.mp main_part0_ops6_fresh) (.cons main_part0_ops7_sub (hf := List.forall_iff_forall_mem.mp main_part0_ops7_fresh) (.cons main_part0_ops8_sub (hf := List.forall_iff_forall_mem.mp main_part0_ops8_fresh) (.nil)))))))))
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.nil))))))

abbrev condOps_W : List (Ref sig .tc) := [main_while0c_c_27, main_while0c_v129]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

abbrev atK (k : ℕ) (c : Dev nD) : Valuation τ sig (Elt F) := atTrip condOps bodyI (entryContents preI m) k c

theorem ctr_cond (V : Valuation τ sig (Elt F)) : after condOps V (Proc.devRef .tc main_v43_2) = V (Proc.devRef .tc main_v43_2) :=
  after_of_writes_sub condOps V condOps_writes (by decide +kernel)
theorem ctr_while0Ops0 (V : Valuation τ sig (Elt F)) : after while0Ops0 V (Proc.devRef .tc main_v43_2) = V (Proc.devRef .tc main_v43_2) :=
  after_of_writes_sub while0Ops0 V while0Ops0_writes (by decide +kernel)
theorem ctr_while0Ops0_1 (V : Valuation τ sig (Elt F)) : after while0Ops0_1 V (Proc.devRef .tc main_v43_2) = V (Proc.devRef .tc main_v43_2) :=
  after_of_writes_sub while0Ops0_1 V while0Ops0_1_writes (by decide +kernel)
theorem ctr_while0Ops0_2 (V : Valuation τ sig (Elt F)) : after while0Ops0_2 V (Proc.devRef .tc main_v43_2) = V (Proc.devRef .tc main_v43_2) :=
  after_of_writes_sub while0Ops0_2 V while0Ops0_2_writes (by decide +kernel)
theorem ctr_while0Ops0_3 (V : Valuation τ sig (Elt F)) : after while0Ops0_3 V (Proc.devRef .tc main_v43_2) = V (Proc.devRef .tc main_v43_2) :=
  after_of_writes_sub while0Ops0_3 V while0Ops0_3_writes (by decide +kernel)
theorem ctr_while0Ops0_4 (V : Valuation τ sig (Elt F)) : after while0Ops0_4 V (Proc.devRef .tc main_v43_2) = V (Proc.devRef .tc main_v43_2) :=
  after_of_writes_sub while0Ops0_4 V while0Ops0_4_writes (by decide +kernel)

set_option maxRecDepth 100000 in
theorem ctr_step (X : Valuation τ sig (Elt F)) :
    after while0Ops0_5 X (Proc.devRef .tc main_v43_2) = addi (X (Proc.devRef .tc main_v43_2)) (constantI S_ 32 1#32) := by
  after_results
  rfl

theorem ctr_entry (c : Dev nD) : entryContents preI m c (Proc.devRef .tc main_v43_2) = fun _ => (0#32 : BitVec 32) := by
  simp only [entryContents, afterL_cons, afterL_nil]
  after_reads_simp
  rfl

theorem atK_ctr (c : Dev nD) : ∀ k, atK m k c (Proc.devRef .tc main_v43_2) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_4, ctr_while0Ops0_3, ctr_while0Ops0_2, ctr_while0Ops0_1, ctr_while0Ops0, ctr_cond, atK_ctr c k, Scf.iv_succ]
    rfl
set_option backward.isDefEq.respectTransparency.types false in
theorem cond_spec : CondSpec (pcfgs (F := F)) defs₀ loops (main_while0_cond (F := F)) condOps bodyI (entryContents preI m) 64 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v43_2 HostLoop.idx0)
        (HloOp.result _ (atK m k c) main_while0c_c_27 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  rw [after_cons, after_cons, after_nil]; iexact Hh

abbrev trip_w0 : List (HloOp τ sig (Elt F)) :=
  [ StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.nullary (.of main_while0b_call4_c_1 : StableHlo.TRef sig ⟨S_, .i32⟩) (constantI S_ 32 0#32),
    StableHlo.TRef.unaryIndexed (.of main_v43_0 : StableHlo.TRef sig ⟨S64x1x4x64, .f32⟩) ![(.of main_v43_2 : StableHlo.TRef sig ⟨S_, .i32⟩), (.of main_while0b_call4_c : StableHlo.TRef sig ⟨S_, .i32⟩), (.of main_while0b_call4_c_0 : StableHlo.TRef sig ⟨S_, .i32⟩), (.of main_while0b_call4_c_1 : StableHlo.TRef sig ⟨S_, .i32⟩)] (.of main_while0b_call4_v0 : StableHlo.TRef sig ⟨S1x1x4x64, .f32⟩) (fun x i => Host.dynamicSlice S1x1x4x64 x (fun k => (i k (Shape.Idx.first h_S_)).toInt) sliceFits_S64x1x4x64_S1x1x4x64) ]

abbrev trip_w1 : List (HloOp τ sig (Elt F)) :=
  [ StableHlo.TRef.reshape (.of main_while0b_call4_v0 : StableHlo.TRef sig ⟨S1x1x4x64, .f32⟩) (.of main_while0b_v129 : StableHlo.TRef sig ⟨S1x4x64, .f32⟩) (rfl : (.f32 : EltTy) = .f32) shapeCasts_S1x1x4x64_S1x4x64 ]

abbrev trip_w2 : List (HloOp τ sig (Elt F)) :=
  [ StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.nullary (.of main_while0b_call5_c_1 : StableHlo.TRef sig ⟨S_, .i32⟩) (constantI S_ 32 0#32),
    StableHlo.TRef.nullary (.of main_while0b_call5_c_2 : StableHlo.TRef sig ⟨S_, .i32⟩) (constantI S_ 32 0#32),
    StableHlo.TRef.unaryIndexed (.of main_v43_1 : StableHlo.TRef sig ⟨S64x1x4x64x128, .f32⟩) ![(.of main_v43_2 : StableHlo.TRef sig ⟨S_, .i32⟩), (.of main_while0b_call5_c : StableHlo.TRef sig ⟨S_, .i32⟩), (.of main_while0b_call5_c_0 : StableHlo.TRef sig ⟨S_, .i32⟩), (.of main_while0b_call5_c_1 : StableHlo.TRef sig ⟨S_, .i32⟩), (.of main_while0b_call5_c_2 : StableHlo.TRef sig ⟨S_, .i32⟩)] (.of main_while0b_call5_v0 : StableHlo.TRef sig ⟨S1x1x4x64x128, .f32⟩) (fun x i => Host.dynamicSlice S1x1x4x64x128 x (fun k => (i k (Shape.Idx.first h_S_)).toInt) sliceFits_S64x1x4x64x128_S1x1x4x64x128) ]

abbrev trip_w3 : List (HloOp τ sig (Elt F)) :=
  [ StableHlo.TRef.reshape (.of main_while0b_call5_v0 : StableHlo.TRef sig ⟨S1x1x4x64x128, .f32⟩) (.of main_while0b_v130 : StableHlo.TRef sig ⟨S1x4x64x128, .f32⟩) (rfl : (.f32 : EltTy) = .f32) shapeCasts_S1x1x4x64x128_S1x4x64x128 ]

abbrev trip_w4 : List (HloOp τ sig (Elt F)) :=
  [ StableHlo.unary main_while0b_v129 main_while0b_v131 (broadcastInDim S1x4x64x1 ![0, 1, 2] bcast_S1x4x64_S1x4x64x1_0_1_2 : (⟨S1x4x64, .f32⟩ : BufTy).Contents (Elt F) → (⟨S1x4x64x1, .f32⟩ : BufTy).Contents (Elt F)),
    StableHlo.unary main_while0b_v131 main_while0b_v132 (broadcastInDim S1x4x64x128 ![0, 1, 2, 3] bcast_S1x4x64x1_S1x4x64x128_0_1_2_3 : (⟨S1x4x64x1, .f32⟩ : BufTy).Contents (Elt F) → (⟨S1x4x64x128, .f32⟩ : BufTy).Contents (Elt F)),
    StableHlo.binary main_while0b_v132 main_v43_3 main_while0b_v133 (mulf : (⟨S1x4x64x128, .f32⟩ : BufTy).Contents (Elt F) → (⟨S1x4x64x128, .f32⟩ : BufTy).Contents (Elt F) → (⟨S1x4x64x128, .f32⟩ : BufTy).Contents (Elt F)),
    StableHlo.binary main_while0b_v133 main_while0b_v130 main_while0b_v134 (addf : (⟨S1x4x64x128, .f32⟩ : BufTy).Contents (Elt F) → (⟨S1x4x64x128, .f32⟩ : BufTy).Contents (Elt F) → (⟨S1x4x64x128, .f32⟩ : BufTy).Contents (Elt F)) ]

abbrev trip_w5 : List (HloOp τ sig (Elt F)) :=
  [ StableHlo.TRef.unary (.of main_v43_3 : StableHlo.TRef sig ⟨S1x4x64x128, .f32⟩) (.of main_while0b_call6_v0 : StableHlo.TRef sig ⟨S1x1x4x64x128, .f32⟩) (broadcastInDim S1x1x4x64x128 ![1, 2, 3, 4] bcast_S1x4x64x128_S1x1x4x64x128_1_2_3_4),
    StableHlo.TRef.nullary (.of main_while0b_call6_c : StableHlo.TRef sig ⟨S_, .i32⟩) (constantI S_ 32 0#32),
    StableHlo.TRef.nullary (.of main_while0b_call6_c_0 : StableHlo.TRef sig ⟨S_, .i32⟩) (constantI S_ 32 0#32),
    StableHlo.TRef.nullary (.of main_while0b_call6_c_1 : StableHlo.TRef sig ⟨S_, .i32⟩) (constantI S_ 32 0#32),
    StableHlo.TRef.nullary (.of main_while0b_call6_c_2 : StableHlo.TRef sig ⟨S_, .i32⟩) (constantI S_ 32 0#32),
    StableHlo.TRef.binaryIndexed (.of main_v43_4 : StableHlo.TRef sig ⟨S64x1x4x64x128, .f32⟩) (.of main_while0b_call6_v0 : StableHlo.TRef sig ⟨S1x1x4x64x128, .f32⟩) ![(.of main_v43_2 : StableHlo.TRef sig ⟨S_, .i32⟩), (.of main_while0b_call6_c : StableHlo.TRef sig ⟨S_, .i32⟩), (.of main_while0b_call6_c_0 : StableHlo.TRef sig ⟨S_, .i32⟩), (.of main_while0b_call6_c_1 : StableHlo.TRef sig ⟨S_, .i32⟩), (.of main_while0b_call6_c_2 : StableHlo.TRef sig ⟨S_, .i32⟩)] (.of main_while0b_v135 : StableHlo.TRef sig ⟨S64x1x4x64x128, .f32⟩) (fun x u i => Host.dynamicUpdateSlice x u (fun k => (i k (Shape.Idx.first h_S_)).toInt) updateFits_S64x1x4x64x128_S1x1x4x64x128) ]

abbrev trip_w6 : List (HloOp τ sig (Elt F)) :=
  [ StableHlo.TRef.unary (.of main_while0b_v131 : StableHlo.TRef sig ⟨S1x4x64x1, .f32⟩) (.of main_while0b_call7_v0 : StableHlo.TRef sig ⟨S1x1x4x64x1, .f32⟩) (broadcastInDim S1x1x4x64x1 ![1, 2, 3, 4] bcast_S1x4x64x1_S1x1x4x64x1_1_2_3_4),
    StableHlo.TRef.nullary (.of main_while0b_call7_c : StableHlo.TRef sig ⟨S_, .i32⟩) (constantI S_ 32 0#32),
    StableHlo.TRef.nullary (.of main_while0b_call7_c_0 : StableHlo.TRef sig ⟨S_, .i32⟩) (constantI S_ 32 0#32),
    StableHlo.TRef.nullary (.of main_while0b_call7_c_1 : StableHlo.TRef sig ⟨S_, .i32⟩) (constantI S_ 32 0#32),
    StableHlo.TRef.nullary (.of main_while0b_call7_c_2 : StableHlo.TRef sig ⟨S_, .i32⟩) (constantI S_ 32 0#32),
    StableHlo.TRef.binaryIndexed (.of main_v43_5 : StableHlo.TRef sig ⟨S64x1x4x64x1, .f32⟩) (.of main_while0b_call7_v0 : StableHlo.TRef sig ⟨S1x1x4x64x1, .f32⟩) ![(.of main_v43_2 : StableHlo.TRef sig ⟨S_, .i32⟩), (.of main_while0b_call7_c : StableHlo.TRef sig ⟨S_, .i32⟩), (.of main_while0b_call7_c_0 : StableHlo.TRef sig ⟨S_, .i32⟩), (.of main_while0b_call7_c_1 : StableHlo.TRef sig ⟨S_, .i32⟩), (.of main_while0b_call7_c_2 : StableHlo.TRef sig ⟨S_, .i32⟩)] (.of main_while0b_v136 : StableHlo.TRef sig ⟨S64x1x4x64x1, .f32⟩) (fun x u i => Host.dynamicUpdateSlice x u (fun k => (i k (Shape.Idx.first h_S_)).toInt) updateFits_S64x1x4x64x1_S1x1x4x64x1) ]

set_option maxRecDepth 5000 in
theorem while0Ops0_cut : (while0Ops0 : List (HloOp τ sig (Elt F))) = trip_w0 ++ (trip_w1) := rfl
set_option maxRecDepth 5000 in
theorem while0Ops0_1_cut : (while0Ops0_1 : List (HloOp τ sig (Elt F))) = trip_w2 ++ (trip_w3) := rfl
set_option maxRecDepth 5000 in
theorem while0Ops0_2_cut : (while0Ops0_2 : List (HloOp τ sig (Elt F))) = trip_w4 := rfl
set_option maxRecDepth 5000 in
theorem while0Ops0_3_cut : (while0Ops0_3 : List (HloOp τ sig (Elt F))) = trip_w5 := rfl
set_option maxRecDepth 5000 in
theorem while0Ops0_4_cut : (while0Ops0_4 : List (HloOp τ sig (Elt F))) = trip_w6 := rfl

set_option maxRecDepth 8192 in
def res_main_while0b_v131 (V0 : Valuation τ sig (Elt F)) : (Proc.devRef .tc main_while0b_v131 : DevRef τ sig).ty.Contents (Elt F) :=
  broadcastInDim S1x4x64x1 ![0, 1, 2] bcast_S1x4x64_S1x4x64x1_0_1_2 (shapeCast S1x4x64 (Host.dynamicSlice S1x1x4x64 (V0 (Proc.devRef .tc main_v43_0)) (fun k => (((![V0 (Proc.devRef .tc main_v43_2), constantI S_ 32 0#32, constantI S_ 32 0#32, constantI S_ 32 0#32] : Fin 4 → (⟨S_, .i32⟩ : BufTy).Contents (Elt F))) k (Shape.Idx.first h_S_)).toInt) sliceFits_S64x1x4x64_S1x1x4x64) shapeCasts_S1x1x4x64_S1x4x64)

def val0 (V0 : Valuation τ sig (Elt F)) : Valuation τ sig (Elt F) := V0
theorem val0_main_v43_0 (V0 : Valuation τ sig (Elt F)) : val0 V0 (no_index (Proc.devRef .tc main_v43_0)) = V0 (Proc.devRef .tc main_v43_0) := rfl
theorem val0_main_v43_2 (V0 : Valuation τ sig (Elt F)) : val0 V0 (no_index (Proc.devRef .tc main_v43_2)) = V0 (Proc.devRef .tc main_v43_2) := rfl
theorem val0_main_v43_1 (V0 : Valuation τ sig (Elt F)) : val0 V0 (no_index (Proc.devRef .tc main_v43_1)) = V0 (Proc.devRef .tc main_v43_1) := rfl
theorem val0_main_v43_3 (V0 : Valuation τ sig (Elt F)) : val0 V0 (no_index (Proc.devRef .tc main_v43_3)) = V0 (Proc.devRef .tc main_v43_3) := rfl
theorem val0_main_v43_4 (V0 : Valuation τ sig (Elt F)) : val0 V0 (no_index (Proc.devRef .tc main_v43_4)) = V0 (Proc.devRef .tc main_v43_4) := rfl
theorem val0_main_v43_5 (V0 : Valuation τ sig (Elt F)) : val0 V0 (no_index (Proc.devRef .tc main_v43_5)) = V0 (Proc.devRef .tc main_v43_5) := rfl

def val1 (V0 : Valuation τ sig (Elt F)) : Valuation τ sig (Elt F) := after trip_w0 (val0 V0)
abbrev trip_w0_W : List (Ref sig .tc) := [main_while0b_call4_c, main_while0b_call4_c_0, main_while0b_call4_c_1, main_while0b_call4_v0]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v43_0 (V0 : Valuation τ sig (Elt F)) : val1 V0 (no_index (Proc.devRef .tc main_v43_0)) = V0 (Proc.devRef .tc main_v43_0) :=
  (val1_keep V0 main_v43_0 (by decide)).trans (val0_main_v43_0 V0)
theorem val1_main_v43_2 (V0 : Valuation τ sig (Elt F)) : val1 V0 (no_index (Proc.devRef .tc main_v43_2)) = V0 (Proc.devRef .tc main_v43_2) :=
  (val1_keep V0 main_v43_2 (by decide)).trans (val0_main_v43_2 V0)
theorem val1_main_v43_1 (V0 : Valuation τ sig (Elt F)) : val1 V0 (no_index (Proc.devRef .tc main_v43_1)) = V0 (Proc.devRef .tc main_v43_1) :=
  (val1_keep V0 main_v43_1 (by decide)).trans (val0_main_v43_1 V0)
theorem val1_main_v43_3 (V0 : Valuation τ sig (Elt F)) : val1 V0 (no_index (Proc.devRef .tc main_v43_3)) = V0 (Proc.devRef .tc main_v43_3) :=
  (val1_keep V0 main_v43_3 (by decide)).trans (val0_main_v43_3 V0)
theorem val1_main_v43_4 (V0 : Valuation τ sig (Elt F)) : val1 V0 (no_index (Proc.devRef .tc main_v43_4)) = V0 (Proc.devRef .tc main_v43_4) :=
  (val1_keep V0 main_v43_4 (by decide)).trans (val0_main_v43_4 V0)
theorem val1_main_v43_5 (V0 : Valuation τ sig (Elt F)) : val1 V0 (no_index (Proc.devRef .tc main_v43_5)) = V0 (Proc.devRef .tc main_v43_5) :=
  (val1_keep V0 main_v43_5 (by decide)).trans (val0_main_v43_5 V0)
set_option maxRecDepth 8192 in
theorem val1_main_while0b_call4_v0 (V0 : Valuation τ sig (Elt F)) : val1 V0 (no_index (Proc.devRef .tc main_while0b_call4_v0)) = Host.dynamicSlice S1x1x4x64 (V0 (Proc.devRef .tc main_v43_0)) (fun k => (((![V0 (Proc.devRef .tc main_v43_2), constantI S_ 32 0#32, constantI S_ 32 0#32, constantI S_ 32 0#32] : Fin 4 → (⟨S_, .i32⟩ : BufTy).Contents (Elt F))) k (Shape.Idx.first h_S_)).toInt) sliceFits_S64x1x4x64_S1x1x4x64 := by
  unfold val1
  simp only [trip_w0]
  after_results_entrywise [val0_main_v43_2, val0_main_v43_0, cast_eq]

def val2 (V0 : Valuation τ sig (Elt F)) : Valuation τ sig (Elt F) := after trip_w1 (val1 V0)
abbrev trip_w1_W : List (Ref sig .tc) := [main_while0b_v129]
set_option maxRecDepth 8192 in
theorem trip_w1_writes : (trip_w1 : List (HloOp τ sig (Elt F))).Forall fun op => op.writes ⊆ (trip_w1_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v43_0 (V0 : Valuation τ sig (Elt F)) : val2 V0 (no_index (Proc.devRef .tc main_v43_0)) = V0 (Proc.devRef .tc main_v43_0) :=
  (val2_keep V0 main_v43_0 (by decide)).trans (val1_main_v43_0 V0)
theorem val2_main_v43_2 (V0 : Valuation τ sig (Elt F)) : val2 V0 (no_index (Proc.devRef .tc main_v43_2)) = V0 (Proc.devRef .tc main_v43_2) :=
  (val2_keep V0 main_v43_2 (by decide)).trans (val1_main_v43_2 V0)
theorem val2_main_v43_1 (V0 : Valuation τ sig (Elt F)) : val2 V0 (no_index (Proc.devRef .tc main_v43_1)) = V0 (Proc.devRef .tc main_v43_1) :=
  (val2_keep V0 main_v43_1 (by decide)).trans (val1_main_v43_1 V0)
theorem val2_main_v43_3 (V0 : Valuation τ sig (Elt F)) : val2 V0 (no_index (Proc.devRef .tc main_v43_3)) = V0 (Proc.devRef .tc main_v43_3) :=
  (val2_keep V0 main_v43_3 (by decide)).trans (val1_main_v43_3 V0)
theorem val2_main_v43_4 (V0 : Valuation τ sig (Elt F)) : val2 V0 (no_index (Proc.devRef .tc main_v43_4)) = V0 (Proc.devRef .tc main_v43_4) :=
  (val2_keep V0 main_v43_4 (by decide)).trans (val1_main_v43_4 V0)
theorem val2_main_v43_5 (V0 : Valuation τ sig (Elt F)) : val2 V0 (no_index (Proc.devRef .tc main_v43_5)) = V0 (Proc.devRef .tc main_v43_5) :=
  (val2_keep V0 main_v43_5 (by decide)).trans (val1_main_v43_5 V0)
set_option maxRecDepth 8192 in
theorem val2_main_while0b_v129 (V0 : Valuation τ sig (Elt F)) : val2 V0 (no_index (Proc.devRef .tc main_while0b_v129)) = shapeCast S1x4x64 (Host.dynamicSlice S1x1x4x64 (V0 (Proc.devRef .tc main_v43_0)) (fun k => (((![V0 (Proc.devRef .tc main_v43_2), constantI S_ 32 0#32, constantI S_ 32 0#32, constantI S_ 32 0#32] : Fin 4 → (⟨S_, .i32⟩ : BufTy).Contents (Elt F))) k (Shape.Idx.first h_S_)).toInt) sliceFits_S64x1x4x64_S1x1x4x64) shapeCasts_S1x1x4x64_S1x4x64 := by
  unfold val2
  simp only [trip_w1]
  after_results_entrywise [val1_main_while0b_call4_v0, cast_eq]

def val3 (V0 : Valuation τ sig (Elt F)) : Valuation τ sig (Elt F) := after trip_w2 (val2 V0)
abbrev trip_w2_W : List (Ref sig .tc) := [main_while0b_call5_c, main_while0b_call5_c_0, main_while0b_call5_c_1, main_while0b_call5_c_2, main_while0b_call5_v0]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v43_0 (V0 : Valuation τ sig (Elt F)) : val3 V0 (no_index (Proc.devRef .tc main_v43_0)) = V0 (Proc.devRef .tc main_v43_0) :=
  (val3_keep V0 main_v43_0 (by decide)).trans (val2_main_v43_0 V0)
theorem val3_main_v43_2 (V0 : Valuation τ sig (Elt F)) : val3 V0 (no_index (Proc.devRef .tc main_v43_2)) = V0 (Proc.devRef .tc main_v43_2) :=
  (val3_keep V0 main_v43_2 (by decide)).trans (val2_main_v43_2 V0)
theorem val3_main_v43_1 (V0 : Valuation τ sig (Elt F)) : val3 V0 (no_index (Proc.devRef .tc main_v43_1)) = V0 (Proc.devRef .tc main_v43_1) :=
  (val3_keep V0 main_v43_1 (by decide)).trans (val2_main_v43_1 V0)
theorem val3_main_v43_3 (V0 : Valuation τ sig (Elt F)) : val3 V0 (no_index (Proc.devRef .tc main_v43_3)) = V0 (Proc.devRef .tc main_v43_3) :=
  (val3_keep V0 main_v43_3 (by decide)).trans (val2_main_v43_3 V0)
theorem val3_main_v43_4 (V0 : Valuation τ sig (Elt F)) : val3 V0 (no_index (Proc.devRef .tc main_v43_4)) = V0 (Proc.devRef .tc main_v43_4) :=
  (val3_keep V0 main_v43_4 (by decide)).trans (val2_main_v43_4 V0)
theorem val3_main_v43_5 (V0 : Valuation τ sig (Elt F)) : val3 V0 (no_index (Proc.devRef .tc main_v43_5)) = V0 (Proc.devRef .tc main_v43_5) :=
  (val3_keep V0 main_v43_5 (by decide)).trans (val2_main_v43_5 V0)
theorem val3_main_while0b_v129 (V0 : Valuation τ sig (Elt F)) : val3 V0 (no_index (Proc.devRef .tc main_while0b_v129)) = shapeCast S1x4x64 (Host.dynamicSlice S1x1x4x64 (V0 (Proc.devRef .tc main_v43_0)) (fun k => (((![V0 (Proc.devRef .tc main_v43_2), constantI S_ 32 0#32, constantI S_ 32 0#32, constantI S_ 32 0#32] : Fin 4 → (⟨S_, .i32⟩ : BufTy).Contents (Elt F))) k (Shape.Idx.first h_S_)).toInt) sliceFits_S64x1x4x64_S1x1x4x64) shapeCasts_S1x1x4x64_S1x4x64 :=
  (val3_keep V0 main_while0b_v129 (by decide)).trans (val2_main_while0b_v129 V0)
set_option maxRecDepth 8192 in
theorem val3_main_while0b_call5_v0 (V0 : Valuation τ sig (Elt F)) : val3 V0 (no_index (Proc.devRef .tc main_while0b_call5_v0)) = Host.dynamicSlice S1x1x4x64x128 (V0 (Proc.devRef .tc main_v43_1)) (fun k => (((![V0 (Proc.devRef .tc main_v43_2), constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128 := by
  unfold val3
  simp only [trip_w2]
  after_results_entrywise [val2_main_v43_2, val2_main_v43_1, cast_eq]

def val4 (V0 : Valuation τ sig (Elt F)) : Valuation τ sig (Elt F) := after trip_w3 (val3 V0)
abbrev trip_w3_W : List (Ref sig .tc) := [main_while0b_v130]
set_option maxRecDepth 8192 in
theorem trip_w3_writes : (trip_w3 : List (HloOp τ sig (Elt F))).Forall fun op => op.writes ⊆ (trip_w3_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v43_0 (V0 : Valuation τ sig (Elt F)) : val4 V0 (no_index (Proc.devRef .tc main_v43_0)) = V0 (Proc.devRef .tc main_v43_0) :=
  (val4_keep V0 main_v43_0 (by decide)).trans (val3_main_v43_0 V0)
theorem val4_main_v43_2 (V0 : Valuation τ sig (Elt F)) : val4 V0 (no_index (Proc.devRef .tc main_v43_2)) = V0 (Proc.devRef .tc main_v43_2) :=
  (val4_keep V0 main_v43_2 (by decide)).trans (val3_main_v43_2 V0)
theorem val4_main_v43_1 (V0 : Valuation τ sig (Elt F)) : val4 V0 (no_index (Proc.devRef .tc main_v43_1)) = V0 (Proc.devRef .tc main_v43_1) :=
  (val4_keep V0 main_v43_1 (by decide)).trans (val3_main_v43_1 V0)
theorem val4_main_v43_3 (V0 : Valuation τ sig (Elt F)) : val4 V0 (no_index (Proc.devRef .tc main_v43_3)) = V0 (Proc.devRef .tc main_v43_3) :=
  (val4_keep V0 main_v43_3 (by decide)).trans (val3_main_v43_3 V0)
theorem val4_main_v43_4 (V0 : Valuation τ sig (Elt F)) : val4 V0 (no_index (Proc.devRef .tc main_v43_4)) = V0 (Proc.devRef .tc main_v43_4) :=
  (val4_keep V0 main_v43_4 (by decide)).trans (val3_main_v43_4 V0)
theorem val4_main_v43_5 (V0 : Valuation τ sig (Elt F)) : val4 V0 (no_index (Proc.devRef .tc main_v43_5)) = V0 (Proc.devRef .tc main_v43_5) :=
  (val4_keep V0 main_v43_5 (by decide)).trans (val3_main_v43_5 V0)
theorem val4_main_while0b_v129 (V0 : Valuation τ sig (Elt F)) : val4 V0 (no_index (Proc.devRef .tc main_while0b_v129)) = shapeCast S1x4x64 (Host.dynamicSlice S1x1x4x64 (V0 (Proc.devRef .tc main_v43_0)) (fun k => (((![V0 (Proc.devRef .tc main_v43_2), constantI S_ 32 0#32, constantI S_ 32 0#32, constantI S_ 32 0#32] : Fin 4 → (⟨S_, .i32⟩ : BufTy).Contents (Elt F))) k (Shape.Idx.first h_S_)).toInt) sliceFits_S64x1x4x64_S1x1x4x64) shapeCasts_S1x1x4x64_S1x4x64 :=
  (val4_keep V0 main_while0b_v129 (by decide)).trans (val3_main_while0b_v129 V0)
set_option maxRecDepth 8192 in
theorem val4_main_while0b_v130 (V0 : Valuation τ sig (Elt F)) : val4 V0 (no_index (Proc.devRef .tc main_while0b_v130)) = shapeCast S1x4x64x128 (Host.dynamicSlice S1x1x4x64x128 (V0 (Proc.devRef .tc main_v43_1)) (fun k => (((![V0 (Proc.devRef .tc main_v43_2), constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128) shapeCasts_S1x1x4x64x128_S1x4x64x128 := by
  unfold val4
  simp only [trip_w3]
  after_results_entrywise [val3_main_while0b_call5_v0, cast_eq]

def val5 (V0 : Valuation τ sig (Elt F)) : Valuation τ sig (Elt F) := after trip_w4 (val4 V0)
abbrev trip_w4_W : List (Ref sig .tc) := [main_while0b_v131, main_while0b_v132, main_while0b_v133, main_while0b_v134]
set_option maxRecDepth 8192 in
theorem trip_w4_writes : (trip_w4 : List (HloOp τ sig (Elt F))).Forall fun op => op.writes ⊆ (trip_w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v43_0 (V0 : Valuation τ sig (Elt F)) : val5 V0 (no_index (Proc.devRef .tc main_v43_0)) = V0 (Proc.devRef .tc main_v43_0) :=
  (val5_keep V0 main_v43_0 (by decide)).trans (val4_main_v43_0 V0)
theorem val5_main_v43_2 (V0 : Valuation τ sig (Elt F)) : val5 V0 (no_index (Proc.devRef .tc main_v43_2)) = V0 (Proc.devRef .tc main_v43_2) :=
  (val5_keep V0 main_v43_2 (by decide)).trans (val4_main_v43_2 V0)
theorem val5_main_v43_1 (V0 : Valuation τ sig (Elt F)) : val5 V0 (no_index (Proc.devRef .tc main_v43_1)) = V0 (Proc.devRef .tc main_v43_1) :=
  (val5_keep V0 main_v43_1 (by decide)).trans (val4_main_v43_1 V0)
theorem val5_main_v43_3 (V0 : Valuation τ sig (Elt F)) : val5 V0 (no_index (Proc.devRef .tc main_v43_3)) = V0 (Proc.devRef .tc main_v43_3) :=
  (val5_keep V0 main_v43_3 (by decide)).trans (val4_main_v43_3 V0)
theorem val5_main_v43_4 (V0 : Valuation τ sig (Elt F)) : val5 V0 (no_index (Proc.devRef .tc main_v43_4)) = V0 (Proc.devRef .tc main_v43_4) :=
  (val5_keep V0 main_v43_4 (by decide)).trans (val4_main_v43_4 V0)
theorem val5_main_v43_5 (V0 : Valuation τ sig (Elt F)) : val5 V0 (no_index (Proc.devRef .tc main_v43_5)) = V0 (Proc.devRef .tc main_v43_5) :=
  (val5_keep V0 main_v43_5 (by decide)).trans (val4_main_v43_5 V0)
set_option maxRecDepth 8192 in
theorem val5_main_while0b_v131 (V0 : Valuation τ sig (Elt F)) : val5 V0 (no_index (Proc.devRef .tc main_while0b_v131)) = res_main_while0b_v131 V0 := by
  unfold val5
  simp only [trip_w4]
  after_results_entrywise [val4_main_while0b_v129, res_main_while0b_v131, cast_eq]
set_option maxRecDepth 8192 in
theorem val5_main_while0b_v134 (V0 : Valuation τ sig (Elt F)) : val5 V0 (no_index (Proc.devRef .tc main_while0b_v134)) = addf (mulf (broadcastInDim S1x4x64x128 ![0, 1, 2, 3] bcast_S1x4x64x1_S1x4x64x128_0_1_2_3 (res_main_while0b_v131 V0)) (V0 (Proc.devRef .tc main_v43_3))) (shapeCast S1x4x64x128 (Host.dynamicSlice S1x1x4x64x128 (V0 (Proc.devRef .tc main_v43_1)) (fun k => (((![V0 (Proc.devRef .tc main_v43_2), constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128) shapeCasts_S1x1x4x64x128_S1x4x64x128) := by
  unfold val5
  simp only [trip_w4]
  after_results_entrywise [val4_main_while0b_v130, val4_main_v43_3, val4_main_while0b_v129, res_main_while0b_v131, cast_eq]

def val6 (V0 : Valuation τ sig (Elt F)) : Valuation τ sig (Elt F) := after trip_w5 (val5 V0)
abbrev trip_w5_W : List (Ref sig .tc) := [main_while0b_call6_v0, main_while0b_call6_c, main_while0b_call6_c_0, main_while0b_call6_c_1, main_while0b_call6_c_2, main_while0b_v135]
set_option maxRecDepth 8192 in
theorem trip_w5_writes : (trip_w5 : List (HloOp τ sig (Elt F))).Forall fun op => op.writes ⊆ (trip_w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v43_0 (V0 : Valuation τ sig (Elt F)) : val6 V0 (no_index (Proc.devRef .tc main_v43_0)) = V0 (Proc.devRef .tc main_v43_0) :=
  (val6_keep V0 main_v43_0 (by decide)).trans (val5_main_v43_0 V0)
theorem val6_main_v43_2 (V0 : Valuation τ sig (Elt F)) : val6 V0 (no_index (Proc.devRef .tc main_v43_2)) = V0 (Proc.devRef .tc main_v43_2) :=
  (val6_keep V0 main_v43_2 (by decide)).trans (val5_main_v43_2 V0)
theorem val6_main_v43_1 (V0 : Valuation τ sig (Elt F)) : val6 V0 (no_index (Proc.devRef .tc main_v43_1)) = V0 (Proc.devRef .tc main_v43_1) :=
  (val6_keep V0 main_v43_1 (by decide)).trans (val5_main_v43_1 V0)
theorem val6_main_v43_3 (V0 : Valuation τ sig (Elt F)) : val6 V0 (no_index (Proc.devRef .tc main_v43_3)) = V0 (Proc.devRef .tc main_v43_3) :=
  (val6_keep V0 main_v43_3 (by decide)).trans (val5_main_v43_3 V0)
theorem val6_main_v43_4 (V0 : Valuation τ sig (Elt F)) : val6 V0 (no_index (Proc.devRef .tc main_v43_4)) = V0 (Proc.devRef .tc main_v43_4) :=
  (val6_keep V0 main_v43_4 (by decide)).trans (val5_main_v43_4 V0)
theorem val6_main_v43_5 (V0 : Valuation τ sig (Elt F)) : val6 V0 (no_index (Proc.devRef .tc main_v43_5)) = V0 (Proc.devRef .tc main_v43_5) :=
  (val6_keep V0 main_v43_5 (by decide)).trans (val5_main_v43_5 V0)
theorem val6_main_while0b_v131 (V0 : Valuation τ sig (Elt F)) : val6 V0 (no_index (Proc.devRef .tc main_while0b_v131)) = res_main_while0b_v131 V0 :=
  (val6_keep V0 main_while0b_v131 (by decide)).trans (val5_main_while0b_v131 V0)
theorem val6_main_while0b_v134 (V0 : Valuation τ sig (Elt F)) : val6 V0 (no_index (Proc.devRef .tc main_while0b_v134)) = addf (mulf (broadcastInDim S1x4x64x128 ![0, 1, 2, 3] bcast_S1x4x64x1_S1x4x64x128_0_1_2_3 (res_main_while0b_v131 V0)) (V0 (Proc.devRef .tc main_v43_3))) (shapeCast S1x4x64x128 (Host.dynamicSlice S1x1x4x64x128 (V0 (Proc.devRef .tc main_v43_1)) (fun k => (((![V0 (Proc.devRef .tc main_v43_2), constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128) shapeCasts_S1x1x4x64x128_S1x4x64x128) :=
  (val6_keep V0 main_while0b_v134 (by decide)).trans (val5_main_while0b_v134 V0)
set_option maxRecDepth 8192 in
theorem val6_main_while0b_v135 (V0 : Valuation τ sig (Elt F)) : val6 V0 (no_index (Proc.devRef .tc main_while0b_v135)) = Host.dynamicUpdateSlice (V0 (Proc.devRef .tc main_v43_4)) (broadcastInDim S1x1x4x64x128 ![1, 2, 3, 4] bcast_S1x4x64x128_S1x1x4x64x128_1_2_3_4 (V0 (Proc.devRef .tc main_v43_3))) (fun k => (((![V0 (Proc.devRef .tc main_v43_2), constantI S_ 32 0#32, constantI S_ 32 0#32, constantI S_ 32 0#32, constantI S_ 32 0#32] : Fin 5 → (⟨S_, .i32⟩ : BufTy).Contents (Elt F))) k (Shape.Idx.first h_S_)).toInt) updateFits_S64x1x4x64x128_S1x1x4x64x128 := by
  unfold val6
  simp only [trip_w5]
  after_results_entrywise [val5_main_v43_2, val5_main_v43_3, val5_main_v43_4, cast_eq]

def val7 (V0 : Valuation τ sig (Elt F)) : Valuation τ sig (Elt F) := after trip_w6 (val6 V0)
abbrev trip_w6_W : List (Ref sig .tc) := [main_while0b_call7_v0, main_while0b_call7_c, main_while0b_call7_c_0, main_while0b_call7_c_1, main_while0b_call7_c_2, main_while0b_v136]
set_option maxRecDepth 8192 in
theorem trip_w6_writes : (trip_w6 : List (HloOp τ sig (Elt F))).Forall fun op => op.writes ⊆ (trip_w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val7_keep (V0 : Valuation τ sig (Elt F)) (r : Ref sig .tc) (h : r ∉ trip_w6_W) :
    val7 V0 (Proc.devRef .tc r) = val6 V0 (Proc.devRef .tc r) :=
  after_of_writes_sub trip_w6 _ trip_w6_writes h
theorem val7_main_v43_0 (V0 : Valuation τ sig (Elt F)) : val7 V0 (no_index (Proc.devRef .tc main_v43_0)) = V0 (Proc.devRef .tc main_v43_0) :=
  (val7_keep V0 main_v43_0 (by decide)).trans (val6_main_v43_0 V0)
theorem val7_main_v43_2 (V0 : Valuation τ sig (Elt F)) : val7 V0 (no_index (Proc.devRef .tc main_v43_2)) = V0 (Proc.devRef .tc main_v43_2) :=
  (val7_keep V0 main_v43_2 (by decide)).trans (val6_main_v43_2 V0)
theorem val7_main_v43_1 (V0 : Valuation τ sig (Elt F)) : val7 V0 (no_index (Proc.devRef .tc main_v43_1)) = V0 (Proc.devRef .tc main_v43_1) :=
  (val7_keep V0 main_v43_1 (by decide)).trans (val6_main_v43_1 V0)
theorem val7_main_v43_3 (V0 : Valuation τ sig (Elt F)) : val7 V0 (no_index (Proc.devRef .tc main_v43_3)) = V0 (Proc.devRef .tc main_v43_3) :=
  (val7_keep V0 main_v43_3 (by decide)).trans (val6_main_v43_3 V0)
theorem val7_main_v43_4 (V0 : Valuation τ sig (Elt F)) : val7 V0 (no_index (Proc.devRef .tc main_v43_4)) = V0 (Proc.devRef .tc main_v43_4) :=
  (val7_keep V0 main_v43_4 (by decide)).trans (val6_main_v43_4 V0)
theorem val7_main_v43_5 (V0 : Valuation τ sig (Elt F)) : val7 V0 (no_index (Proc.devRef .tc main_v43_5)) = V0 (Proc.devRef .tc main_v43_5) :=
  (val7_keep V0 main_v43_5 (by decide)).trans (val6_main_v43_5 V0)
theorem val7_main_while0b_v134 (V0 : Valuation τ sig (Elt F)) : val7 V0 (no_index (Proc.devRef .tc main_while0b_v134)) = addf (mulf (broadcastInDim S1x4x64x128 ![0, 1, 2, 3] bcast_S1x4x64x1_S1x4x64x128_0_1_2_3 (res_main_while0b_v131 V0)) (V0 (Proc.devRef .tc main_v43_3))) (shapeCast S1x4x64x128 (Host.dynamicSlice S1x1x4x64x128 (V0 (Proc.devRef .tc main_v43_1)) (fun k => (((![V0 (Proc.devRef .tc main_v43_2), constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128) shapeCasts_S1x1x4x64x128_S1x4x64x128) :=
  (val7_keep V0 main_while0b_v134 (by decide)).trans (val6_main_while0b_v134 V0)
theorem val7_main_while0b_v135 (V0 : Valuation τ sig (Elt F)) : val7 V0 (no_index (Proc.devRef .tc main_while0b_v135)) = Host.dynamicUpdateSlice (V0 (Proc.devRef .tc main_v43_4)) (broadcastInDim S1x1x4x64x128 ![1, 2, 3, 4] bcast_S1x4x64x128_S1x1x4x64x128_1_2_3_4 (V0 (Proc.devRef .tc main_v43_3))) (fun k => (((![V0 (Proc.devRef .tc main_v43_2), constantI S_ 32 0#32, constantI S_ 32 0#32, constantI S_ 32 0#32, constantI S_ 32 0#32] : Fin 5 → (⟨S_, .i32⟩ : BufTy).Contents (Elt F))) k (Shape.Idx.first h_S_)).toInt) updateFits_S64x1x4x64x128_S1x1x4x64x128 :=
  (val7_keep V0 main_while0b_v135 (by decide)).trans (val6_main_while0b_v135 V0)
set_option maxRecDepth 8192 in
theorem val7_main_while0b_v136 (V0 : Valuation τ sig (Elt F)) : val7 V0 (no_index (Proc.devRef .tc main_while0b_v136)) = Host.dynamicUpdateSlice (V0 (Proc.devRef .tc main_v43_5)) (broadcastInDim S1x1x4x64x1 ![1, 2, 3, 4] bcast_S1x4x64x1_S1x1x4x64x1_1_2_3_4 (res_main_while0b_v131 V0)) (fun k => (((![V0 (Proc.devRef .tc main_v43_2), constantI S_ 32 0#32, constantI S_ 32 0#32, constantI S_ 32 0#32, constantI S_ 32 0#32] : Fin 5 → (⟨S_, .i32⟩ : BufTy).Contents (Elt F))) k (Shape.Idx.first h_S_)).toInt) updateFits_S64x1x4x64x1_S1x1x4x64x1 := by
  unfold val7
  simp only [trip_w6]
  after_results_entrywise [val6_main_v43_2, val6_main_while0b_v131, val6_main_v43_5, cast_eq]

set_option maxRecDepth 8192 in
theorem trip_windows (V0 : Valuation τ sig (Elt F)) : after while0Ops0_4 (after while0Ops0_3 (after while0Ops0_2 (after while0Ops0_1 (after while0Ops0 (V0))))) = val7 V0 := by
  simp only [while0Ops0_cut, while0Ops0_1_cut, while0Ops0_2_cut, while0Ops0_3_cut, while0Ops0_4_cut, after_append]
  rfl

set_option maxRecDepth 8192 in
set_option maxHeartbeats 2000000 in
theorem trip_main_v43_0 (V0 : Valuation τ sig (Elt F)) : afterL bodyI V0 (no_index (Proc.devRef .tc main_v43_0)) = V0 (Proc.devRef .tc main_v43_0) := by
  simp only [bodyI, afterL_cons, afterL_nil, trip_windows]
  after_results
  all_goals (try simp only [val7_main_while0b_v134, val7_main_while0b_v135, val7_main_while0b_v136, val7_main_v43_0, val7_main_v43_1, val7_main_v43_2, val7_main_v43_3, val7_main_v43_4, val7_main_v43_5]) <;> rfl
set_option maxRecDepth 8192 in
set_option maxHeartbeats 2000000 in
theorem trip_main_v43_1 (V0 : Valuation τ sig (Elt F)) : afterL bodyI V0 (no_index (Proc.devRef .tc main_v43_1)) = V0 (Proc.devRef .tc main_v43_1) := by
  simp only [bodyI, afterL_cons, afterL_nil, trip_windows]
  after_results
  all_goals (try simp only [val7_main_while0b_v134, val7_main_while0b_v135, val7_main_while0b_v136, val7_main_v43_0, val7_main_v43_1, val7_main_v43_2, val7_main_v43_3, val7_main_v43_4, val7_main_v43_5]) <;> rfl
set_option maxRecDepth 8192 in
set_option maxHeartbeats 2000000 in
theorem trip_main_v43_2 (V0 : Valuation τ sig (Elt F)) : afterL bodyI V0 (no_index (Proc.devRef .tc main_v43_2)) = id (addi (V0 (Proc.devRef .tc main_v43_2)) (constantI S_ 32 1#32)) := by
  simp only [bodyI, afterL_cons, afterL_nil, trip_windows]
  after_results
  all_goals (try simp only [val7_main_while0b_v134, val7_main_while0b_v135, val7_main_while0b_v136, val7_main_v43_0, val7_main_v43_1, val7_main_v43_2, val7_main_v43_3, val7_main_v43_4, val7_main_v43_5]) <;> rfl
set_option maxRecDepth 8192 in
set_option maxHeartbeats 2000000 in
theorem trip_main_v43_3 (V0 : Valuation τ sig (Elt F)) : afterL bodyI V0 (no_index (Proc.devRef .tc main_v43_3)) = id (addf (mulf (broadcastInDim S1x4x64x128 ![0, 1, 2, 3] bcast_S1x4x64x1_S1x4x64x128_0_1_2_3 (res_main_while0b_v131 V0)) (V0 (Proc.devRef .tc main_v43_3))) (shapeCast S1x4x64x128 (Host.dynamicSlice S1x1x4x64x128 (V0 (Proc.devRef .tc main_v43_1)) (fun k => (((![V0 (Proc.devRef .tc main_v43_2), constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128) shapeCasts_S1x1x4x64x128_S1x4x64x128)) := by
  simp only [bodyI, afterL_cons, afterL_nil, trip_windows]
  after_results
  all_goals (try simp only [val7_main_while0b_v134, val7_main_while0b_v135, val7_main_while0b_v136, val7_main_v43_0, val7_main_v43_1, val7_main_v43_2, val7_main_v43_3, val7_main_v43_4, val7_main_v43_5]) <;> rfl
set_option maxRecDepth 8192 in
set_option maxHeartbeats 2000000 in
theorem trip_main_v43_4 (V0 : Valuation τ sig (Elt F)) : afterL bodyI V0 (no_index (Proc.devRef .tc main_v43_4)) = id (Host.dynamicUpdateSlice (V0 (Proc.devRef .tc main_v43_4)) (broadcastInDim S1x1x4x64x128 ![1, 2, 3, 4] bcast_S1x4x64x128_S1x1x4x64x128_1_2_3_4 (V0 (Proc.devRef .tc main_v43_3))) (fun k => (((![V0 (Proc.devRef .tc main_v43_2), constantI S_ 32 0#32, constantI S_ 32 0#32, constantI S_ 32 0#32, constantI S_ 32 0#32] : Fin 5 → (⟨S_, .i32⟩ : BufTy).Contents (Elt F))) k (Shape.Idx.first h_S_)).toInt) updateFits_S64x1x4x64x128_S1x1x4x64x128) := by
  simp only [bodyI, afterL_cons, afterL_nil, trip_windows]
  after_results
  all_goals (try simp only [val7_main_while0b_v134, val7_main_while0b_v135, val7_main_while0b_v136, val7_main_v43_0, val7_main_v43_1, val7_main_v43_2, val7_main_v43_3, val7_main_v43_4, val7_main_v43_5]) <;> rfl
set_option maxRecDepth 8192 in
set_option maxHeartbeats 2000000 in
theorem trip_main_v43_5 (V0 : Valuation τ sig (Elt F)) : afterL bodyI V0 (no_index (Proc.devRef .tc main_v43_5)) = id (Host.dynamicUpdateSlice (V0 (Proc.devRef .tc main_v43_5)) (broadcastInDim S1x1x4x64x1 ![1, 2, 3, 4] bcast_S1x4x64x1_S1x1x4x64x1_1_2_3_4 (res_main_while0b_v131 V0)) (fun k => (((![V0 (Proc.devRef .tc main_v43_2), constantI S_ 32 0#32, constantI S_ 32 0#32, constantI S_ 32 0#32, constantI S_ 32 0#32] : Fin 5 → (⟨S_, .i32⟩ : BufTy).Contents (Elt F))) k (Shape.Idx.first h_S_)).toInt) updateFits_S64x1x4x64x1_S1x1x4x64x1) := by
  simp only [bodyI, afterL_cons, afterL_nil, trip_windows]
  after_results
  all_goals (try simp only [val7_main_while0b_v134, val7_main_while0b_v135, val7_main_while0b_v136, val7_main_v43_0, val7_main_v43_1, val7_main_v43_2, val7_main_v43_3, val7_main_v43_4, val7_main_v43_5]) <;> rfl

abbrev carriedRefs : List (Ref sig .tc) := [main_v43_0, main_v43_1, main_v43_2, main_v43_3, main_v43_4, main_v43_5]
def Agree (V V' : Valuation τ sig (Elt F)) : Prop := ∀ j ∈ carriedRefs, V (Proc.devRef .tc j) = V' (Proc.devRef .tc j)

set_option maxRecDepth 8192 in
theorem res_main_while0b_v131_congr {V0 V0' : Valuation τ sig (Elt F)} (h : Agree V0 V0') : res_main_while0b_v131 V0 = res_main_while0b_v131 V0' := by
  unfold res_main_while0b_v131
  rw [h main_v43_0 (by decide), h main_v43_2 (by decide)]

set_option maxRecDepth 8192 in
def step_main_v43_2 (V0 : Valuation τ sig (Elt F)) : (Proc.devRef .tc main_v43_2 : DevRef τ sig).ty.Contents (Elt F) :=
  id (addi (V0 (Proc.devRef .tc main_v43_2)) (constantI S_ 32 1#32))
set_option maxRecDepth 8192 in
theorem step_main_v43_2_congr {V0 V0' : Valuation τ sig (Elt F)} (h : Agree V0 V0') : step_main_v43_2 V0 = step_main_v43_2 V0' := by
  unfold step_main_v43_2
  rw [h main_v43_2 (by decide)]
set_option maxRecDepth 8192 in
def step_main_v43_3 (V0 : Valuation τ sig (Elt F)) : (Proc.devRef .tc main_v43_3 : DevRef τ sig).ty.Contents (Elt F) :=
  id (addf (mulf (broadcastInDim S1x4x64x128 ![0, 1, 2, 3] bcast_S1x4x64x1_S1x4x64x128_0_1_2_3 (res_main_while0b_v131 V0)) (V0 (Proc.devRef .tc main_v43_3))) (shapeCast S1x4x64x128 (Host.dynamicSlice S1x1x4x64x128 (V0 (Proc.devRef .tc main_v43_1)) (fun k => (((![V0 (Proc.devRef .tc main_v43_2), constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128) shapeCasts_S1x1x4x64x128_S1x4x64x128))
set_option maxRecDepth 8192 in
theorem step_main_v43_3_congr {V0 V0' : Valuation τ sig (Elt F)} (h : Agree V0 V0') : step_main_v43_3 V0 = step_main_v43_3 V0' := by
  unfold step_main_v43_3
  rw [res_main_while0b_v131_congr h, h main_v43_3 (by decide), h main_v43_1 (by decide), h main_v43_2 (by decide)]
set_option maxRecDepth 8192 in
def step_main_v43_4 (V0 : Valuation τ sig (Elt F)) : (Proc.devRef .tc main_v43_4 : DevRef τ sig).ty.Contents (Elt F) :=
  id (Host.dynamicUpdateSlice (V0 (Proc.devRef .tc main_v43_4)) (broadcastInDim S1x1x4x64x128 ![1, 2, 3, 4] bcast_S1x4x64x128_S1x1x4x64x128_1_2_3_4 (V0 (Proc.devRef .tc main_v43_3))) (fun k => (((![V0 (Proc.devRef .tc main_v43_2), constantI S_ 32 0#32, constantI S_ 32 0#32, constantI S_ 32 0#32, constantI S_ 32 0#32] : Fin 5 → (⟨S_, .i32⟩ : BufTy).Contents (Elt F))) k (Shape.Idx.first h_S_)).toInt) updateFits_S64x1x4x64x128_S1x1x4x64x128)
set_option maxRecDepth 8192 in
theorem step_main_v43_4_congr {V0 V0' : Valuation τ sig (Elt F)} (h : Agree V0 V0') : step_main_v43_4 V0 = step_main_v43_4 V0' := by
  unfold step_main_v43_4
  rw [h main_v43_4 (by decide), h main_v43_3 (by decide), h main_v43_2 (by decide)]
set_option maxRecDepth 8192 in
def step_main_v43_5 (V0 : Valuation τ sig (Elt F)) : (Proc.devRef .tc main_v43_5 : DevRef τ sig).ty.Contents (Elt F) :=
  id (Host.dynamicUpdateSlice (V0 (Proc.devRef .tc main_v43_5)) (broadcastInDim S1x1x4x64x1 ![1, 2, 3, 4] bcast_S1x4x64x1_S1x1x4x64x1_1_2_3_4 (res_main_while0b_v131 V0)) (fun k => (((![V0 (Proc.devRef .tc main_v43_2), constantI S_ 32 0#32, constantI S_ 32 0#32, constantI S_ 32 0#32, constantI S_ 32 0#32] : Fin 5 → (⟨S_, .i32⟩ : BufTy).Contents (Elt F))) k (Shape.Idx.first h_S_)).toInt) updateFits_S64x1x4x64x1_S1x1x4x64x1)
set_option maxRecDepth 8192 in
theorem step_main_v43_5_congr {V0 V0' : Valuation τ sig (Elt F)} (h : Agree V0 V0') : step_main_v43_5 V0 = step_main_v43_5 V0' := by
  unfold step_main_v43_5
  rw [res_main_while0b_v131_congr h, h main_v43_5 (by decide), h main_v43_2 (by decide)]

def STEP (V0 : Valuation τ sig (Elt F)) : Valuation τ sig (Elt F) :=
  Function.update (Function.update (Function.update (Function.update (V0) (Proc.devRef .tc main_v43_2) (step_main_v43_2 V0)) (Proc.devRef .tc main_v43_3) (step_main_v43_3 V0)) (Proc.devRef .tc main_v43_4) (step_main_v43_4 V0)) (Proc.devRef .tc main_v43_5) (step_main_v43_5 V0)

theorem STEP_main_v43_0 (V0 : Valuation τ sig (Elt F)) : STEP V0 (Proc.devRef .tc main_v43_0) = V0 (Proc.devRef .tc main_v43_0) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v43_1 (V0 : Valuation τ sig (Elt F)) : STEP V0 (Proc.devRef .tc main_v43_1) = V0 (Proc.devRef .tc main_v43_1) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v43_2 (V0 : Valuation τ sig (Elt F)) : STEP V0 (Proc.devRef .tc main_v43_2) = step_main_v43_2 V0 := by
  unfold STEP; rw [Function.update_of_ne (devRef_ne_of_ne (by decide))]; rw [Function.update_of_ne (devRef_ne_of_ne (by decide))]; rw [Function.update_of_ne (devRef_ne_of_ne (by decide))]; rw [Function.update_self]
theorem STEP_main_v43_3 (V0 : Valuation τ sig (Elt F)) : STEP V0 (Proc.devRef .tc main_v43_3) = step_main_v43_3 V0 := by
  unfold STEP; rw [Function.update_of_ne (devRef_ne_of_ne (by decide))]; rw [Function.update_of_ne (devRef_ne_of_ne (by decide))]; rw [Function.update_self]
theorem STEP_main_v43_4 (V0 : Valuation τ sig (Elt F)) : STEP V0 (Proc.devRef .tc main_v43_4) = step_main_v43_4 V0 := by
  unfold STEP; rw [Function.update_of_ne (devRef_ne_of_ne (by decide))]; rw [Function.update_self]
theorem STEP_main_v43_5 (V0 : Valuation τ sig (Elt F)) : STEP V0 (Proc.devRef .tc main_v43_5) = step_main_v43_5 V0 := by
  unfold STEP; rw [Function.update_self]

theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
theorem trip_agree (X : Valuation τ sig (Elt F)) : Agree (afterL bodyI (after condOps X)) (STEP X) := by
  have hc := cond_keeps X
  intro j hj
  fin_cases hj
  · exact (trip_main_v43_0 (after condOps X)).trans ((hc main_v43_0 (by decide)).trans (STEP_main_v43_0 X).symm)
  · exact (trip_main_v43_1 (after condOps X)).trans ((hc main_v43_1 (by decide)).trans (STEP_main_v43_1 X).symm)
  · exact (trip_main_v43_2 (after condOps X)).trans ((step_main_v43_2_congr hc).trans (STEP_main_v43_2 X).symm)
  · exact (trip_main_v43_3 (after condOps X)).trans ((step_main_v43_3_congr hc).trans (STEP_main_v43_3 X).symm)
  · exact (trip_main_v43_4 (after condOps X)).trans ((step_main_v43_4_congr hc).trans (STEP_main_v43_4 X).symm)
  · exact (trip_main_v43_5 (after condOps X)).trans ((step_main_v43_5_congr hc).trans (STEP_main_v43_5 X).symm)

set_option maxRecDepth 8192 in
theorem STEP_congr {V V' : Valuation τ sig (Elt F)} (h : Agree V V') : Agree (STEP V) (STEP V') := by
  intro j hj
  fin_cases hj
  · rw [STEP_main_v43_0, STEP_main_v43_0]; exact h main_v43_0 (by decide)
  · rw [STEP_main_v43_1, STEP_main_v43_1]; exact h main_v43_1 (by decide)
  · rw [STEP_main_v43_2, STEP_main_v43_2]; exact step_main_v43_2_congr h
  · rw [STEP_main_v43_3, STEP_main_v43_3]; exact step_main_v43_3_congr h
  · rw [STEP_main_v43_4, STEP_main_v43_4]; exact step_main_v43_4_congr h
  · rw [STEP_main_v43_5, STEP_main_v43_5]; exact step_main_v43_5_congr h

theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

end Cert.ReferenceIdeal.Loop0

end
-- ==== Proof.RefLoop1.lean ====
module

public import proofs.«01_k».proof.Proof.RefLoop0
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 1780

noncomputable section

namespace Cert.ReferenceIdeal.Loop1

open Cert.ReferenceIdeal Cert.ReferenceIdeal.Gen Cert.ReferenceIdeal.Ops
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

theorem while1Ops0_fresh : (while1Ops0 : List (HloOp τ sig (Elt F))).Forall fun op => op.fresh = ∅ :=
  StableHlo.forall_fresh_of_map rfl
abbrev while1Ops0_W : List (Ref sig .tc) := [main_while1b_c_28, main_while1b_v129, main_while1b_c_29, main_while1b_v130]
theorem while1Ops0_writes : (while1Ops0 : List (HloOp τ sig (Elt F))).Forall fun op => op.writes ⊆ (while1Ops0_W.map (Proc.devRef (τ := τ) .tc)).toFinset :=
  StableHlo.forall_writes_sub_of_map rfl
theorem while1Ops0_1_fresh : (while1Ops0_1 : List (HloOp τ sig (Elt F))).Forall fun op => op.fresh = ∅ :=
  StableHlo.forall_fresh_of_map rfl
abbrev while1Ops0_1_W : List (Ref sig .tc) := [main_while1b_call8_c, main_while1b_call8_c_0, main_while1b_call8_c_1, main_while1b_call8_c_2, main_while1b_call8_v0, main_while1b_v131]
theorem while1Ops0_1_writes : (while1Ops0_1 : List (HloOp τ sig (Elt F))).Forall fun op => op.writes ⊆ (while1Ops0_1_W.map (Proc.devRef (τ := τ) .tc)).toFinset :=
  StableHlo.forall_writes_sub_of_map rfl
theorem while1Ops0_2_fresh : (while1Ops0_2 : List (HloOp τ sig (Elt F))).Forall fun op => op.fresh = ∅ :=
  StableHlo.forall_fresh_of_map rfl
abbrev while1Ops0_2_W : List (Ref sig .tc) := [main_while1b_call9_c, main_while1b_call9_c_0, main_while1b_call9_c_1, main_while1b_call9_c_2, main_while1b_call9_v0, main_while1b_v132]
theorem while1Ops0_2_writes : (while1Ops0_2 : List (HloOp τ sig (Elt F))).Forall fun op => op.writes ⊆ (while1Ops0_2_W.map (Proc.devRef (τ := τ) .tc)).toFinset :=
  StableHlo.forall_writes_sub_of_map rfl
theorem while1Ops0_3_fresh : (while1Ops0_3 : List (HloOp τ sig (Elt F))).Forall fun op => op.fresh = ∅ :=
  StableHlo.forall_fresh_of_map rfl
abbrev while1Ops0_3_W : List (Ref sig .tc) := [main_while1b_call10_c, main_while1b_call10_c_0, main_while1b_call10_c_1, main_while1b_call10_c_2, main_while1b_call10_v0, main_while1b_v133]
theorem while1Ops0_3_writes : (while1Ops0_3 : List (HloOp τ sig (Elt F))).Forall fun op => op.writes ⊆ (while1Ops0_3_W.map (Proc.devRef (τ := τ) .tc)).toFinset :=
  StableHlo.forall_writes_sub_of_map rfl
theorem while1Ops0_4_fresh : (while1Ops0_4 : List (HloOp τ sig (Elt F))).Forall fun op => op.fresh = ∅ :=
  StableHlo.forall_fresh_of_map rfl
abbrev while1Ops0_4_W : List (Ref sig .tc) := [main_while1b_v134, main_while1b_v135, main_while1b_v136, main_while1b_v137, main_while1b_cst_30, main_while1b_v138, main_while1b_v139, main_while1b_cst_31, main_while1b_v140, main_while1b_v141]
theorem while1Ops0_4_writes : (while1Ops0_4 : List (HloOp τ sig (Elt F))).Forall fun op => op.writes ⊆ (while1Ops0_4_W.map (Proc.devRef (τ := τ) .tc)).toFinset :=
  StableHlo.forall_writes_sub_of_map rfl
theorem while1Ops0_5_fresh : (while1Ops0_5 : List (HloOp τ sig (Elt F))).Forall fun op => op.fresh = ∅ :=
  StableHlo.forall_fresh_of_map rfl
abbrev while1Ops0_5_W : List (Ref sig .tc) := [main_while1b_call11_v0, main_while1b_call11_c, main_while1b_call11_c_0, main_while1b_call11_c_1, main_while1b_v142]
theorem while1Ops0_5_writes : (while1Ops0_5 : List (HloOp τ sig (Elt F))).Forall fun op => op.writes ⊆ (while1Ops0_5_W.map (Proc.devRef (τ := τ) .tc)).toFinset :=
  StableHlo.forall_writes_sub_of_map rfl
theorem while1Ops0_6_fresh : (while1Ops0_6 : List (HloOp τ sig (Elt F))).Forall fun op => op.fresh = ∅ :=
  StableHlo.forall_fresh_of_map rfl
abbrev while1Ops0_6_W : List (Ref sig .tc) := [main_while1b_call12_v0, main_while1b_call12_c, main_while1b_call12_c_0, main_while1b_call12_c_1, main_while1b_call12_c_2, main_while1b_v143]
theorem while1Ops0_6_writes : (while1Ops0_6 : List (HloOp τ sig (Elt F))).Forall fun op => op.writes ⊆ (while1Ops0_6_W.map (Proc.devRef (τ := τ) .tc)).toFinset :=
  StableHlo.forall_writes_sub_of_map rfl
theorem while1Ops0_7_fresh : (while1Ops0_7 : List (HloOp τ sig (Elt F))).Forall fun op => op.fresh = ∅ :=
  StableHlo.forall_fresh_of_map rfl
abbrev while1Ops0_7_W : List (Ref sig .tc) := [main_while1b_c_32, main_while1b_v144, main_v63_3, main_v63_4, main_v63_5, main_v63_6]
theorem while1Ops0_7_writes : (while1Ops0_7 : List (HloOp τ sig (Elt F))).Forall fun op => op.writes ⊆ (while1Ops0_7_W.map (Proc.devRef (τ := τ) .tc)).toFinset :=
  StableHlo.forall_writes_sub_of_map rfl

abbrev condOps : List (HloOp τ sig (Elt F)) :=
  [ StableHlo.nullary main_while1c_c_28 (constantI S_ 32 64#32),
    StableHlo.binary main_v63_3 main_while1c_c_28 main_while1c_v129 (cmpi .slt) ]

abbrev preI : List (List (HloOp τ sig (Elt F))) := [main_part0_ops9, main_part1_ops0]
abbrev bodyI : List (List (HloOp τ sig (Elt F))) := [while1Ops0, while1Ops0_1, while1Ops0_2, while1Ops0_3, while1Ops0_4, while1Ops0_5, while1Ops0_6, while1Ops0_7]

theorem hpre : Plain (preI (F := F)) := .cons main_part0_ops9_sub (hf := List.forall_iff_forall_mem.mp main_part0_ops9_fresh) (.cons main_part1_ops0_sub (hf := List.forall_iff_forall_mem.mp main_part1_ops0_fresh) (.nil))
theorem hbodyI : Plain (bodyI (F := F)) := .cons while1Ops0_sub (hf := List.forall_iff_forall_mem.mp while1Ops0_fresh) (.cons while1Ops0_1_sub (hf := List.forall_iff_forall_mem.mp while1Ops0_1_fresh) (.cons while1Ops0_2_sub (hf := List.forall_iff_forall_mem.mp while1Ops0_2_fresh) (.cons while1Ops0_3_sub (hf := List.forall_iff_forall_mem.mp while1Ops0_3_fresh) (.cons while1Ops0_4_sub (hf := List.forall_iff_forall_mem.mp while1Ops0_4_fresh) (.cons while1Ops0_5_sub (hf := List.forall_iff_forall_mem.mp while1Ops0_5_fresh) (.cons while1Ops0_6_sub (hf := List.forall_iff_forall_mem.mp while1Ops0_6_fresh) (.cons while1Ops0_7_sub (hf := List.forall_iff_forall_mem.mp while1Ops0_7_fresh) (.nil))))))))

abbrev condOps_W : List (Ref sig .tc) := [main_while1c_c_28, main_while1c_v129]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

abbrev entry (c : Dev nD) : Valuation τ sig (Elt F) := afterL preI (after Loop0.condOps (Loop0.atK m 64 c))

abbrev atK (k : ℕ) (c : Dev nD) : Valuation τ sig (Elt F) := atTrip condOps bodyI (entry m) k c

theorem ctr_cond (V : Valuation τ sig (Elt F)) : after condOps V (Proc.devRef .tc main_v63_3) = V (Proc.devRef .tc main_v63_3) :=
  after_of_writes_sub condOps V condOps_writes (by decide +kernel)
theorem ctr_while1Ops0 (V : Valuation τ sig (Elt F)) : after while1Ops0 V (Proc.devRef .tc main_v63_3) = V (Proc.devRef .tc main_v63_3) :=
  after_of_writes_sub while1Ops0 V while1Ops0_writes (by decide +kernel)
theorem ctr_while1Ops0_1 (V : Valuation τ sig (Elt F)) : after while1Ops0_1 V (Proc.devRef .tc main_v63_3) = V (Proc.devRef .tc main_v63_3) :=
  after_of_writes_sub while1Ops0_1 V while1Ops0_1_writes (by decide +kernel)
theorem ctr_while1Ops0_2 (V : Valuation τ sig (Elt F)) : after while1Ops0_2 V (Proc.devRef .tc main_v63_3) = V (Proc.devRef .tc main_v63_3) :=
  after_of_writes_sub while1Ops0_2 V while1Ops0_2_writes (by decide +kernel)
theorem ctr_while1Ops0_3 (V : Valuation τ sig (Elt F)) : after while1Ops0_3 V (Proc.devRef .tc main_v63_3) = V (Proc.devRef .tc main_v63_3) :=
  after_of_writes_sub while1Ops0_3 V while1Ops0_3_writes (by decide +kernel)
theorem ctr_while1Ops0_4 (V : Valuation τ sig (Elt F)) : after while1Ops0_4 V (Proc.devRef .tc main_v63_3) = V (Proc.devRef .tc main_v63_3) :=
  after_of_writes_sub while1Ops0_4 V while1Ops0_4_writes (by decide +kernel)
theorem ctr_while1Ops0_5 (V : Valuation τ sig (Elt F)) : after while1Ops0_5 V (Proc.devRef .tc main_v63_3) = V (Proc.devRef .tc main_v63_3) :=
  after_of_writes_sub while1Ops0_5 V while1Ops0_5_writes (by decide +kernel)
theorem ctr_while1Ops0_6 (V : Valuation τ sig (Elt F)) : after while1Ops0_6 V (Proc.devRef .tc main_v63_3) = V (Proc.devRef .tc main_v63_3) :=
  after_of_writes_sub while1Ops0_6 V while1Ops0_6_writes (by decide +kernel)

set_option maxRecDepth 100000 in
theorem ctr_step (X : Valuation τ sig (Elt F)) :
    after while1Ops0_7 X (Proc.devRef .tc main_v63_3) = addi (X (Proc.devRef .tc main_v63_3)) (constantI S_ 32 1#32) := by
  after_results
  rfl

theorem ctr_preI (X : Valuation τ sig (Elt F)) : afterL preI X (Proc.devRef .tc main_v63_3) = fun _ => (0#32 : BitVec 32) := by
  simp only [afterL_cons, afterL_nil]
  after_reads_simp
  rfl

theorem ctr_entry (c : Dev nD) : entry m c (Proc.devRef .tc main_v63_3) = fun _ => (0#32 : BitVec 32) := ctr_preI _

theorem atK_ctr (c : Dev nD) : ∀ k, atK m k c (Proc.devRef .tc main_v63_3) = fun _ => Scf.iv 0#32 1#32 k
  | 0 => by rw [show atK m 0 c = entry m c from rfl, ctr_entry, Scf.iv_zero]
  | k + 1 => by
    rw [show atK m (k + 1) c = afterL bodyI (after condOps (atK m k c)) from rfl]
    simp only [afterL_cons, afterL_nil]
    rw [ctr_step, ctr_while1Ops0_6, ctr_while1Ops0_5, ctr_while1Ops0_4, ctr_while1Ops0_3, ctr_while1Ops0_2, ctr_while1Ops0_1, ctr_while1Ops0, ctr_cond, atK_ctr c k, Scf.iv_succ]
    rfl
set_option backward.isDefEq.respectTransparency.types false in
theorem cond_spec : CondSpec (pcfgs (F := F)) defs₀ loops (main_while1_cond (F := F)) condOps bodyI (entry m) 64 := by
  intro k hk c bd
  have hctr := atK_ctr m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v63_3 HostLoop.idx0)
        (HloOp.result _ (atK m k c) main_while1c_c_28 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  rw [after_cons, after_cons, after_nil]; iexact Hh

abbrev trip_w0 : List (HloOp τ sig (Elt F)) :=
  [ StableHlo.nullary main_while1b_c_28 (constantI S_ 32 64#32),
    StableHlo.binary main_while1b_c_28 main_v63_3 main_while1b_v129 (subi : (⟨S_, .i32⟩ : BufTy).Contents (Elt F) → (⟨S_, .i32⟩ : BufTy).Contents (Elt F) → (⟨S_, .i32⟩ : BufTy).Contents (Elt F)),
    StableHlo.nullary main_while1b_c_29 (constantI S_ 32 1#32),
    StableHlo.binary main_while1b_v129 main_while1b_c_29 main_while1b_v130 (subi : (⟨S_, .i32⟩ : BufTy).Contents (Elt F) → (⟨S_, .i32⟩ : BufTy).Contents (Elt F) → (⟨S_, .i32⟩ : BufTy).Contents (Elt F)) ]

abbrev trip_w1 : List (HloOp τ sig (Elt F)) :=
  [ StableHlo.TRef.nullary (.of main_while1b_call8_c : StableHlo.TRef sig ⟨S_, .i32⟩) (constantI S_ 32 0#32),
    StableHlo.TRef.nullary (.of main_while1b_call8_c_0 : StableHlo.TRef sig ⟨S_, .i32⟩) (constantI S_ 32 0#32),
    StableHlo.TRef.nullary (.of main_while1b_call8_c_1 : StableHlo.TRef sig ⟨S_, .i32⟩) (constantI S_ 32 0#32),
    StableHlo.TRef.nullary (.of main_while1b_call8_c_2 : StableHlo.TRef sig ⟨S_, .i32⟩) (constantI S_ 32 0#32),
    StableHlo.TRef.unaryIndexed (.of main_v63_0 : StableHlo.TRef sig ⟨S64x1x4x64x128, .f32⟩) ![(.of main_while1b_v130 : StableHlo.TRef sig ⟨S_, .i32⟩), (.of main_while1b_call8_c : StableHlo.TRef sig ⟨S_, .i32⟩), (.of main_while1b_call8_c_0 : StableHlo.TRef sig ⟨S_, .i32⟩), (.of main_while1b_call8_c_1 : StableHlo.TRef sig ⟨S_, .i32⟩), (.of main_while1b_call8_c_2 : StableHlo.TRef sig ⟨S_, .i32⟩)] (.of main_while1b_call8_v0 : StableHlo.TRef sig ⟨S1x1x4x64x128, .f32⟩) (fun x i => Host.dynamicSlice S1x1x4x64x128 x (fun k => (i k (Shape.Idx.first h_S_)).toInt) sliceFits_S64x1x4x64x128_S1x1x4x64x128) ]

abbrev trip_w2 : List (HloOp τ sig (Elt F)) :=
  [ StableHlo.TRef.reshape (.of main_while1b_call8_v0 : StableHlo.TRef sig ⟨S1x1x4x64x128, .f32⟩) (.of main_while1b_v131 : StableHlo.TRef sig ⟨S1x4x64x128, .f32⟩) (rfl : (.f32 : EltTy) = .f32) shapeCasts_S1x1x4x64x128_S1x4x64x128 ]

abbrev trip_w3 : List (HloOp τ sig (Elt F)) :=
  [ StableHlo.TRef.nullary (.of main_while1b_call9_c : StableHlo.TRef sig ⟨S_, .i32⟩) (constantI S_ 32 0#32),
    StableHlo.TRef.nullary (.of main_while1b_call9_c_0 : StableHlo.TRef sig ⟨S_, .i32⟩) (constantI S_ 32 0#32),
    StableHlo.TRef.nullary (.of main_while1b_call9_c_1 : StableHlo.TRef sig ⟨S_, .i32⟩) (constantI S_ 32 0#32),
    StableHlo.TRef.nullary (.of main_while1b_call9_c_2 : StableHlo.TRef sig ⟨S_, .i32⟩) (constantI S_ 32 0#32),
    StableHlo.TRef.unaryIndexed (.of main_v63_1 : StableHlo.TRef sig ⟨S64x1x4x64x128, .f32⟩) ![(.of main_while1b_v130 : StableHlo.TRef sig ⟨S_, .i32⟩), (.of main_while1b_call9_c : StableHlo.TRef sig ⟨S_, .i32⟩), (.of main_while1b_call9_c_0 : StableHlo.TRef sig ⟨S_, .i32⟩), (.of main_while1b_call9_c_1 : StableHlo.TRef sig ⟨S_, .i32⟩), (.of main_while1b_call9_c_2 : StableHlo.TRef sig ⟨S_, .i32⟩)] (.of main_while1b_call9_v0 : StableHlo.TRef sig ⟨S1x1x4x64x128, .f32⟩) (fun x i => Host.dynamicSlice S1x1x4x64x128 x (fun k => (i k (Shape.Idx.first h_S_)).toInt) sliceFits_S64x1x4x64x128_S1x1x4x64x128) ]

abbrev trip_w4 : List (HloOp τ sig (Elt F)) :=
  [ StableHlo.TRef.reshape (.of main_while1b_call9_v0 : StableHlo.TRef sig ⟨S1x1x4x64x128, .f32⟩) (.of main_while1b_v132 : StableHlo.TRef sig ⟨S1x4x64x128, .f32⟩) (rfl : (.f32 : EltTy) = .f32) shapeCasts_S1x1x4x64x128_S1x4x64x128 ]

abbrev trip_w5 : List (HloOp τ sig (Elt F)) :=
  [ StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.nullary (.of main_while1b_call10_c_1 : StableHlo.TRef sig ⟨S_, .i32⟩) (constantI S_ 32 0#32),
    StableHlo.TRef.nullary (.of main_while1b_call10_c_2 : StableHlo.TRef sig ⟨S_, .i32⟩) (constantI S_ 32 0#32),
    StableHlo.TRef.unaryIndexed (.of main_v63_2 : StableHlo.TRef sig ⟨S64x1x4x64x1, .f32⟩) ![(.of main_while1b_v130 : StableHlo.TRef sig ⟨S_, .i32⟩), (.of main_while1b_call10_c : StableHlo.TRef sig ⟨S_, .i32⟩), (.of main_while1b_call10_c_0 : StableHlo.TRef sig ⟨S_, .i32⟩), (.of main_while1b_call10_c_1 : StableHlo.TRef sig ⟨S_, .i32⟩), (.of main_while1b_call10_c_2 : StableHlo.TRef sig ⟨S_, .i32⟩)] (.of main_while1b_call10_v0 : StableHlo.TRef sig ⟨S1x1x4x64x1, .f32⟩) (fun x i => Host.dynamicSlice S1x1x4x64x1 x (fun k => (i k (Shape.Idx.first h_S_)).toInt) sliceFits_S64x1x4x64x1_S1x1x4x64x1) ]

abbrev trip_w6 : List (HloOp τ sig (Elt F)) :=
  [ StableHlo.TRef.reshape (.of main_while1b_call10_v0 : StableHlo.TRef sig ⟨S1x1x4x64x1, .f32⟩) (.of main_while1b_v133 : StableHlo.TRef sig ⟨S1x4x64x1, .f32⟩) (rfl : (.f32 : EltTy) = .f32) shapeCasts_S1x1x4x64x1_S1x4x64x1 ]

abbrev trip_w7 : List (HloOp τ sig (Elt F)) :=
  [ StableHlo.unary main_while1b_v133 main_while1b_v134 (broadcastInDim S1x4x64x128 ![0, 1, 2, 3] bcast_S1x4x64x1_S1x4x64x128_0_1_2_3 : (⟨S1x4x64x1, .f32⟩ : BufTy).Contents (Elt F) → (⟨S1x4x64x128, .f32⟩ : BufTy).Contents (Elt F)),
    StableHlo.binary main_while1b_v134 main_v63_4 main_while1b_v135 (mulf : (⟨S1x4x64x128, .f32⟩ : BufTy).Contents (Elt F) → (⟨S1x4x64x128, .f32⟩ : BufTy).Contents (Elt F) → (⟨S1x4x64x128, .f32⟩ : BufTy).Contents (Elt F)),
    StableHlo.binary main_while1b_v131 main_while1b_v135 main_while1b_v136 (addf : (⟨S1x4x64x128, .f32⟩ : BufTy).Contents (Elt F) → (⟨S1x4x64x128, .f32⟩ : BufTy).Contents (Elt F) → (⟨S1x4x64x128, .f32⟩ : BufTy).Contents (Elt F)),
    StableHlo.binary main_v63_4 main_while1b_v132 main_while1b_v137 (mulf : (⟨S1x4x64x128, .f32⟩ : BufTy).Contents (Elt F) → (⟨S1x4x64x128, .f32⟩ : BufTy).Contents (Elt F) → (⟨S1x4x64x128, .f32⟩ : BufTy).Contents (Elt F)),
    StableHlo.nullary main_while1b_cst_30 (constant S_ .f32 0x00000000#32),
    StableHlo.binary main_while1b_v137 main_while1b_cst_30 main_while1b_v138 ((fun x v => Host.reduceAdd x v reducesTo_S1x4x64x128_S1x4x64_d3 h_S_) : (⟨S1x4x64x128, .f32⟩ : BufTy).Contents (Elt F) → (⟨S_, .f32⟩ : BufTy).Contents (Elt F) → (⟨S1x4x64, .f32⟩ : BufTy).Contents (Elt F)),
    StableHlo.reshape main_while1b_v138 main_while1b_v139 (rfl : (.f32 : EltTy) = .f32) shapeCasts_S1x4x64_S1x4x64x1,
    StableHlo.nullary main_while1b_cst_31 (constant S_ .f32 0x00000000#32),
    StableHlo.binary main_while1b_v139 main_while1b_cst_31 main_while1b_v140 ((fun x v => Host.reduceAdd x v reducesTo_S1x4x64x1_S4x64_d0_3 h_S_) : (⟨S1x4x64x1, .f32⟩ : BufTy).Contents (Elt F) → (⟨S_, .f32⟩ : BufTy).Contents (Elt F) → (⟨S4x64, .f32⟩ : BufTy).Contents (Elt F)),
    StableHlo.unary main_while1b_v140 main_while1b_v141 (broadcastInDim S1x4x64 ![1, 2] bcast_S4x64_S1x4x64_1_2 : (⟨S4x64, .f32⟩ : BufTy).Contents (Elt F) → (⟨S1x4x64, .f32⟩ : BufTy).Contents (Elt F)) ]

abbrev trip_w8 : List (HloOp τ sig (Elt F)) :=
  [ StableHlo.TRef.unary (.of main_while1b_v141 : StableHlo.TRef sig ⟨S1x4x64, .f32⟩) (.of main_while1b_call11_v0 : StableHlo.TRef sig ⟨S1x1x4x64, .f32⟩) (broadcastInDim S1x1x4x64 ![1, 2, 3] bcast_S1x4x64_S1x1x4x64_1_2_3),
    StableHlo.TRef.nullary (.of main_while1b_call11_c : StableHlo.TRef sig ⟨S_, .i32⟩) (constantI S_ 32 0#32),
    StableHlo.TRef.nullary (.of main_while1b_call11_c_0 : StableHlo.TRef sig ⟨S_, .i32⟩) (constantI S_ 32 0#32),
    StableHlo.TRef.nullary (.of main_while1b_call11_c_1 : StableHlo.TRef sig ⟨S_, .i32⟩) (constantI S_ 32 0#32),
    StableHlo.TRef.binaryIndexed (.of main_v63_5 : StableHlo.TRef sig ⟨S64x1x4x64, .f32⟩) (.of main_while1b_call11_v0 : StableHlo.TRef sig ⟨S1x1x4x64, .f32⟩) ![(.of main_while1b_v130 : StableHlo.TRef sig ⟨S_, .i32⟩), (.of main_while1b_call11_c : StableHlo.TRef sig ⟨S_, .i32⟩), (.of main_while1b_call11_c_0 : StableHlo.TRef sig ⟨S_, .i32⟩), (.of main_while1b_call11_c_1 : StableHlo.TRef sig ⟨S_, .i32⟩)] (.of main_while1b_v142 : StableHlo.TRef sig ⟨S64x1x4x64, .f32⟩) (fun x u i => Host.dynamicUpdateSlice x u (fun k => (i k (Shape.Idx.first h_S_)).toInt) updateFits_S64x1x4x64_S1x1x4x64) ]

abbrev trip_w9 : List (HloOp τ sig (Elt F)) :=
  [ StableHlo.TRef.unary (.of main_v63_4 : StableHlo.TRef sig ⟨S1x4x64x128, .f32⟩) (.of main_while1b_call12_v0 : StableHlo.TRef sig ⟨S1x1x4x64x128, .f32⟩) (broadcastInDim S1x1x4x64x128 ![1, 2, 3, 4] bcast_S1x4x64x128_S1x1x4x64x128_1_2_3_4),
    StableHlo.TRef.nullary (.of main_while1b_call12_c : StableHlo.TRef sig ⟨S_, .i32⟩) (constantI S_ 32 0#32),
    StableHlo.TRef.nullary (.of main_while1b_call12_c_0 : StableHlo.TRef sig ⟨S_, .i32⟩) (constantI S_ 32 0#32),
    StableHlo.TRef.nullary (.of main_while1b_call12_c_1 : StableHlo.TRef sig ⟨S_, .i32⟩) (constantI S_ 32 0#32),
    StableHlo.TRef.nullary (.of main_while1b_call12_c_2 : StableHlo.TRef sig ⟨S_, .i32⟩) (constantI S_ 32 0#32),
    StableHlo.TRef.binaryIndexed (.of main_v63_6 : StableHlo.TRef sig ⟨S64x1x4x64x128, .f32⟩) (.of main_while1b_call12_v0 : StableHlo.TRef sig ⟨S1x1x4x64x128, .f32⟩) ![(.of main_while1b_v130 : StableHlo.TRef sig ⟨S_, .i32⟩), (.of main_while1b_call12_c : StableHlo.TRef sig ⟨S_, .i32⟩), (.of main_while1b_call12_c_0 : StableHlo.TRef sig ⟨S_, .i32⟩), (.of main_while1b_call12_c_1 : StableHlo.TRef sig ⟨S_, .i32⟩), (.of main_while1b_call12_c_2 : StableHlo.TRef sig ⟨S_, .i32⟩)] (.of main_while1b_v143 : StableHlo.TRef sig ⟨S64x1x4x64x128, .f32⟩) (fun x u i => Host.dynamicUpdateSlice x u (fun k => (i k (Shape.Idx.first h_S_)).toInt) updateFits_S64x1x4x64x128_S1x1x4x64x128) ]

set_option maxRecDepth 5000 in
theorem while1Ops0_cut : (while1Ops0 : List (HloOp τ sig (Elt F))) = trip_w0 := rfl
set_option maxRecDepth 5000 in
theorem while1Ops0_1_cut : (while1Ops0_1 : List (HloOp τ sig (Elt F))) = trip_w1 ++ (trip_w2) := rfl
set_option maxRecDepth 5000 in
theorem while1Ops0_2_cut : (while1Ops0_2 : List (HloOp τ sig (Elt F))) = trip_w3 ++ (trip_w4) := rfl
set_option maxRecDepth 5000 in
theorem while1Ops0_3_cut : (while1Ops0_3 : List (HloOp τ sig (Elt F))) = trip_w5 ++ (trip_w6) := rfl
set_option maxRecDepth 5000 in
theorem while1Ops0_4_cut : (while1Ops0_4 : List (HloOp τ sig (Elt F))) = trip_w7 := rfl
set_option maxRecDepth 5000 in
theorem while1Ops0_5_cut : (while1Ops0_5 : List (HloOp τ sig (Elt F))) = trip_w8 := rfl
set_option maxRecDepth 5000 in
theorem while1Ops0_6_cut : (while1Ops0_6 : List (HloOp τ sig (Elt F))) = trip_w9 := rfl

set_option maxRecDepth 8192 in
def res_main_while1b_v130 (V0 : Valuation τ sig (Elt F)) : (Proc.devRef .tc main_while1b_v130 : DevRef τ sig).ty.Contents (Elt F) :=
  subi (subi (constantI S_ 32 64#32) (V0 (Proc.devRef .tc main_v63_3))) (constantI S_ 32 1#32)

def val0 (V0 : Valuation τ sig (Elt F)) : Valuation τ sig (Elt F) := V0
theorem val0_main_v63_3 (V0 : Valuation τ sig (Elt F)) : val0 V0 (no_index (Proc.devRef .tc main_v63_3)) = V0 (Proc.devRef .tc main_v63_3) := rfl
theorem val0_main_v63_0 (V0 : Valuation τ sig (Elt F)) : val0 V0 (no_index (Proc.devRef .tc main_v63_0)) = V0 (Proc.devRef .tc main_v63_0) := rfl
theorem val0_main_v63_1 (V0 : Valuation τ sig (Elt F)) : val0 V0 (no_index (Proc.devRef .tc main_v63_1)) = V0 (Proc.devRef .tc main_v63_1) := rfl
theorem val0_main_v63_2 (V0 : Valuation τ sig (Elt F)) : val0 V0 (no_index (Proc.devRef .tc main_v63_2)) = V0 (Proc.devRef .tc main_v63_2) := rfl
theorem val0_main_v63_4 (V0 : Valuation τ sig (Elt F)) : val0 V0 (no_index (Proc.devRef .tc main_v63_4)) = V0 (Proc.devRef .tc main_v63_4) := rfl
theorem val0_main_v63_5 (V0 : Valuation τ sig (Elt F)) : val0 V0 (no_index (Proc.devRef .tc main_v63_5)) = V0 (Proc.devRef .tc main_v63_5) := rfl
theorem val0_main_v63_6 (V0 : Valuation τ sig (Elt F)) : val0 V0 (no_index (Proc.devRef .tc main_v63_6)) = V0 (Proc.devRef .tc main_v63_6) := rfl

def val1 (V0 : Valuation τ sig (Elt F)) : Valuation τ sig (Elt F) := after trip_w0 (val0 V0)
abbrev trip_w0_W : List (Ref sig .tc) := [main_while1b_c_28, main_while1b_v129, main_while1b_c_29, main_while1b_v130]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v63_3 (V0 : Valuation τ sig (Elt F)) : val1 V0 (no_index (Proc.devRef .tc main_v63_3)) = V0 (Proc.devRef .tc main_v63_3) :=
  (val1_keep V0 main_v63_3 (by decide)).trans (val0_main_v63_3 V0)
theorem val1_main_v63_0 (V0 : Valuation τ sig (Elt F)) : val1 V0 (no_index (Proc.devRef .tc main_v63_0)) = V0 (Proc.devRef .tc main_v63_0) :=
  (val1_keep V0 main_v63_0 (by decide)).trans (val0_main_v63_0 V0)
theorem val1_main_v63_1 (V0 : Valuation τ sig (Elt F)) : val1 V0 (no_index (Proc.devRef .tc main_v63_1)) = V0 (Proc.devRef .tc main_v63_1) :=
  (val1_keep V0 main_v63_1 (by decide)).trans (val0_main_v63_1 V0)
theorem val1_main_v63_2 (V0 : Valuation τ sig (Elt F)) : val1 V0 (no_index (Proc.devRef .tc main_v63_2)) = V0 (Proc.devRef .tc main_v63_2) :=
  (val1_keep V0 main_v63_2 (by decide)).trans (val0_main_v63_2 V0)
theorem val1_main_v63_4 (V0 : Valuation τ sig (Elt F)) : val1 V0 (no_index (Proc.devRef .tc main_v63_4)) = V0 (Proc.devRef .tc main_v63_4) :=
  (val1_keep V0 main_v63_4 (by decide)).trans (val0_main_v63_4 V0)
theorem val1_main_v63_5 (V0 : Valuation τ sig (Elt F)) : val1 V0 (no_index (Proc.devRef .tc main_v63_5)) = V0 (Proc.devRef .tc main_v63_5) :=
  (val1_keep V0 main_v63_5 (by decide)).trans (val0_main_v63_5 V0)
theorem val1_main_v63_6 (V0 : Valuation τ sig (Elt F)) : val1 V0 (no_index (Proc.devRef .tc main_v63_6)) = V0 (Proc.devRef .tc main_v63_6) :=
  (val1_keep V0 main_v63_6 (by decide)).trans (val0_main_v63_6 V0)
set_option maxRecDepth 8192 in
theorem val1_main_while1b_v130 (V0 : Valuation τ sig (Elt F)) : val1 V0 (no_index (Proc.devRef .tc main_while1b_v130)) = res_main_while1b_v130 V0 := by
  unfold val1
  simp only [trip_w0]
  after_results_entrywise [val0_main_v63_3, res_main_while1b_v130, cast_eq]

def val2 (V0 : Valuation τ sig (Elt F)) : Valuation τ sig (Elt F) := after trip_w1 (val1 V0)
abbrev trip_w1_W : List (Ref sig .tc) := [main_while1b_call8_c, main_while1b_call8_c_0, main_while1b_call8_c_1, main_while1b_call8_c_2, main_while1b_call8_v0]
set_option maxRecDepth 8192 in
theorem trip_w1_writes : (trip_w1 : List (HloOp τ sig (Elt F))).Forall fun op => op.writes ⊆ (trip_w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v63_3 (V0 : Valuation τ sig (Elt F)) : val2 V0 (no_index (Proc.devRef .tc main_v63_3)) = V0 (Proc.devRef .tc main_v63_3) :=
  (val2_keep V0 main_v63_3 (by decide)).trans (val1_main_v63_3 V0)
theorem val2_main_v63_0 (V0 : Valuation τ sig (Elt F)) : val2 V0 (no_index (Proc.devRef .tc main_v63_0)) = V0 (Proc.devRef .tc main_v63_0) :=
  (val2_keep V0 main_v63_0 (by decide)).trans (val1_main_v63_0 V0)
theorem val2_main_v63_1 (V0 : Valuation τ sig (Elt F)) : val2 V0 (no_index (Proc.devRef .tc main_v63_1)) = V0 (Proc.devRef .tc main_v63_1) :=
  (val2_keep V0 main_v63_1 (by decide)).trans (val1_main_v63_1 V0)
theorem val2_main_v63_2 (V0 : Valuation τ sig (Elt F)) : val2 V0 (no_index (Proc.devRef .tc main_v63_2)) = V0 (Proc.devRef .tc main_v63_2) :=
  (val2_keep V0 main_v63_2 (by decide)).trans (val1_main_v63_2 V0)
theorem val2_main_v63_4 (V0 : Valuation τ sig (Elt F)) : val2 V0 (no_index (Proc.devRef .tc main_v63_4)) = V0 (Proc.devRef .tc main_v63_4) :=
  (val2_keep V0 main_v63_4 (by decide)).trans (val1_main_v63_4 V0)
theorem val2_main_v63_5 (V0 : Valuation τ sig (Elt F)) : val2 V0 (no_index (Proc.devRef .tc main_v63_5)) = V0 (Proc.devRef .tc main_v63_5) :=
  (val2_keep V0 main_v63_5 (by decide)).trans (val1_main_v63_5 V0)
theorem val2_main_v63_6 (V0 : Valuation τ sig (Elt F)) : val2 V0 (no_index (Proc.devRef .tc main_v63_6)) = V0 (Proc.devRef .tc main_v63_6) :=
  (val2_keep V0 main_v63_6 (by decide)).trans (val1_main_v63_6 V0)
theorem val2_main_while1b_v130 (V0 : Valuation τ sig (Elt F)) : val2 V0 (no_index (Proc.devRef .tc main_while1b_v130)) = res_main_while1b_v130 V0 :=
  (val2_keep V0 main_while1b_v130 (by decide)).trans (val1_main_while1b_v130 V0)
set_option maxRecDepth 8192 in
theorem val2_main_while1b_call8_v0 (V0 : Valuation τ sig (Elt F)) : val2 V0 (no_index (Proc.devRef .tc main_while1b_call8_v0)) = Host.dynamicSlice S1x1x4x64x128 (V0 (Proc.devRef .tc main_v63_0)) (fun k => (((![res_main_while1b_v130 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128 := by
  unfold val2
  simp only [trip_w1]
  after_results_entrywise [val1_main_while1b_v130, val1_main_v63_0, cast_eq]

def val3 (V0 : Valuation τ sig (Elt F)) : Valuation τ sig (Elt F) := after trip_w2 (val2 V0)
abbrev trip_w2_W : List (Ref sig .tc) := [main_while1b_v131]
set_option maxRecDepth 8192 in
theorem trip_w2_writes : (trip_w2 : List (HloOp τ sig (Elt F))).Forall fun op => op.writes ⊆ (trip_w2_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v63_3 (V0 : Valuation τ sig (Elt F)) : val3 V0 (no_index (Proc.devRef .tc main_v63_3)) = V0 (Proc.devRef .tc main_v63_3) :=
  (val3_keep V0 main_v63_3 (by decide)).trans (val2_main_v63_3 V0)
theorem val3_main_v63_0 (V0 : Valuation τ sig (Elt F)) : val3 V0 (no_index (Proc.devRef .tc main_v63_0)) = V0 (Proc.devRef .tc main_v63_0) :=
  (val3_keep V0 main_v63_0 (by decide)).trans (val2_main_v63_0 V0)
theorem val3_main_v63_1 (V0 : Valuation τ sig (Elt F)) : val3 V0 (no_index (Proc.devRef .tc main_v63_1)) = V0 (Proc.devRef .tc main_v63_1) :=
  (val3_keep V0 main_v63_1 (by decide)).trans (val2_main_v63_1 V0)
theorem val3_main_v63_2 (V0 : Valuation τ sig (Elt F)) : val3 V0 (no_index (Proc.devRef .tc main_v63_2)) = V0 (Proc.devRef .tc main_v63_2) :=
  (val3_keep V0 main_v63_2 (by decide)).trans (val2_main_v63_2 V0)
theorem val3_main_v63_4 (V0 : Valuation τ sig (Elt F)) : val3 V0 (no_index (Proc.devRef .tc main_v63_4)) = V0 (Proc.devRef .tc main_v63_4) :=
  (val3_keep V0 main_v63_4 (by decide)).trans (val2_main_v63_4 V0)
theorem val3_main_v63_5 (V0 : Valuation τ sig (Elt F)) : val3 V0 (no_index (Proc.devRef .tc main_v63_5)) = V0 (Proc.devRef .tc main_v63_5) :=
  (val3_keep V0 main_v63_5 (by decide)).trans (val2_main_v63_5 V0)
theorem val3_main_v63_6 (V0 : Valuation τ sig (Elt F)) : val3 V0 (no_index (Proc.devRef .tc main_v63_6)) = V0 (Proc.devRef .tc main_v63_6) :=
  (val3_keep V0 main_v63_6 (by decide)).trans (val2_main_v63_6 V0)
theorem val3_main_while1b_v130 (V0 : Valuation τ sig (Elt F)) : val3 V0 (no_index (Proc.devRef .tc main_while1b_v130)) = res_main_while1b_v130 V0 :=
  (val3_keep V0 main_while1b_v130 (by decide)).trans (val2_main_while1b_v130 V0)
set_option maxRecDepth 8192 in
theorem val3_main_while1b_v131 (V0 : Valuation τ sig (Elt F)) : val3 V0 (no_index (Proc.devRef .tc main_while1b_v131)) = shapeCast S1x4x64x128 (Host.dynamicSlice S1x1x4x64x128 (V0 (Proc.devRef .tc main_v63_0)) (fun k => (((![res_main_while1b_v130 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128) shapeCasts_S1x1x4x64x128_S1x4x64x128 := by
  unfold val3
  simp only [trip_w2]
  after_results_entrywise [val2_main_while1b_call8_v0, cast_eq]

def val4 (V0 : Valuation τ sig (Elt F)) : Valuation τ sig (Elt F) := after trip_w3 (val3 V0)
abbrev trip_w3_W : List (Ref sig .tc) := [main_while1b_call9_c, main_while1b_call9_c_0, main_while1b_call9_c_1, main_while1b_call9_c_2, main_while1b_call9_v0]
set_option maxRecDepth 8192 in
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v63_3 (V0 : Valuation τ sig (Elt F)) : val4 V0 (no_index (Proc.devRef .tc main_v63_3)) = V0 (Proc.devRef .tc main_v63_3) :=
  (val4_keep V0 main_v63_3 (by decide)).trans (val3_main_v63_3 V0)
theorem val4_main_v63_0 (V0 : Valuation τ sig (Elt F)) : val4 V0 (no_index (Proc.devRef .tc main_v63_0)) = V0 (Proc.devRef .tc main_v63_0) :=
  (val4_keep V0 main_v63_0 (by decide)).trans (val3_main_v63_0 V0)
theorem val4_main_v63_1 (V0 : Valuation τ sig (Elt F)) : val4 V0 (no_index (Proc.devRef .tc main_v63_1)) = V0 (Proc.devRef .tc main_v63_1) :=
  (val4_keep V0 main_v63_1 (by decide)).trans (val3_main_v63_1 V0)
theorem val4_main_v63_2 (V0 : Valuation τ sig (Elt F)) : val4 V0 (no_index (Proc.devRef .tc main_v63_2)) = V0 (Proc.devRef .tc main_v63_2) :=
  (val4_keep V0 main_v63_2 (by decide)).trans (val3_main_v63_2 V0)
theorem val4_main_v63_4 (V0 : Valuation τ sig (Elt F)) : val4 V0 (no_index (Proc.devRef .tc main_v63_4)) = V0 (Proc.devRef .tc main_v63_4) :=
  (val4_keep V0 main_v63_4 (by decide)).trans (val3_main_v63_4 V0)
theorem val4_main_v63_5 (V0 : Valuation τ sig (Elt F)) : val4 V0 (no_index (Proc.devRef .tc main_v63_5)) = V0 (Proc.devRef .tc main_v63_5) :=
  (val4_keep V0 main_v63_5 (by decide)).trans (val3_main_v63_5 V0)
theorem val4_main_v63_6 (V0 : Valuation τ sig (Elt F)) : val4 V0 (no_index (Proc.devRef .tc main_v63_6)) = V0 (Proc.devRef .tc main_v63_6) :=
  (val4_keep V0 main_v63_6 (by decide)).trans (val3_main_v63_6 V0)
theorem val4_main_while1b_v130 (V0 : Valuation τ sig (Elt F)) : val4 V0 (no_index (Proc.devRef .tc main_while1b_v130)) = res_main_while1b_v130 V0 :=
  (val4_keep V0 main_while1b_v130 (by decide)).trans (val3_main_while1b_v130 V0)
theorem val4_main_while1b_v131 (V0 : Valuation τ sig (Elt F)) : val4 V0 (no_index (Proc.devRef .tc main_while1b_v131)) = shapeCast S1x4x64x128 (Host.dynamicSlice S1x1x4x64x128 (V0 (Proc.devRef .tc main_v63_0)) (fun k => (((![res_main_while1b_v130 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128) shapeCasts_S1x1x4x64x128_S1x4x64x128 :=
  (val4_keep V0 main_while1b_v131 (by decide)).trans (val3_main_while1b_v131 V0)
set_option maxRecDepth 8192 in
theorem val4_main_while1b_call9_v0 (V0 : Valuation τ sig (Elt F)) : val4 V0 (no_index (Proc.devRef .tc main_while1b_call9_v0)) = Host.dynamicSlice S1x1x4x64x128 (V0 (Proc.devRef .tc main_v63_1)) (fun k => (((![res_main_while1b_v130 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128 := by
  unfold val4
  simp only [trip_w3]
  after_results_entrywise [val3_main_while1b_v130, val3_main_v63_1, cast_eq]

def val5 (V0 : Valuation τ sig (Elt F)) : Valuation τ sig (Elt F) := after trip_w4 (val4 V0)
abbrev trip_w4_W : List (Ref sig .tc) := [main_while1b_v132]
set_option maxRecDepth 8192 in
theorem trip_w4_writes : (trip_w4 : List (HloOp τ sig (Elt F))).Forall fun op => op.writes ⊆ (trip_w4_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v63_3 (V0 : Valuation τ sig (Elt F)) : val5 V0 (no_index (Proc.devRef .tc main_v63_3)) = V0 (Proc.devRef .tc main_v63_3) :=
  (val5_keep V0 main_v63_3 (by decide)).trans (val4_main_v63_3 V0)
theorem val5_main_v63_0 (V0 : Valuation τ sig (Elt F)) : val5 V0 (no_index (Proc.devRef .tc main_v63_0)) = V0 (Proc.devRef .tc main_v63_0) :=
  (val5_keep V0 main_v63_0 (by decide)).trans (val4_main_v63_0 V0)
theorem val5_main_v63_1 (V0 : Valuation τ sig (Elt F)) : val5 V0 (no_index (Proc.devRef .tc main_v63_1)) = V0 (Proc.devRef .tc main_v63_1) :=
  (val5_keep V0 main_v63_1 (by decide)).trans (val4_main_v63_1 V0)
theorem val5_main_v63_2 (V0 : Valuation τ sig (Elt F)) : val5 V0 (no_index (Proc.devRef .tc main_v63_2)) = V0 (Proc.devRef .tc main_v63_2) :=
  (val5_keep V0 main_v63_2 (by decide)).trans (val4_main_v63_2 V0)
theorem val5_main_v63_4 (V0 : Valuation τ sig (Elt F)) : val5 V0 (no_index (Proc.devRef .tc main_v63_4)) = V0 (Proc.devRef .tc main_v63_4) :=
  (val5_keep V0 main_v63_4 (by decide)).trans (val4_main_v63_4 V0)
theorem val5_main_v63_5 (V0 : Valuation τ sig (Elt F)) : val5 V0 (no_index (Proc.devRef .tc main_v63_5)) = V0 (Proc.devRef .tc main_v63_5) :=
  (val5_keep V0 main_v63_5 (by decide)).trans (val4_main_v63_5 V0)
theorem val5_main_v63_6 (V0 : Valuation τ sig (Elt F)) : val5 V0 (no_index (Proc.devRef .tc main_v63_6)) = V0 (Proc.devRef .tc main_v63_6) :=
  (val5_keep V0 main_v63_6 (by decide)).trans (val4_main_v63_6 V0)
theorem val5_main_while1b_v130 (V0 : Valuation τ sig (Elt F)) : val5 V0 (no_index (Proc.devRef .tc main_while1b_v130)) = res_main_while1b_v130 V0 :=
  (val5_keep V0 main_while1b_v130 (by decide)).trans (val4_main_while1b_v130 V0)
theorem val5_main_while1b_v131 (V0 : Valuation τ sig (Elt F)) : val5 V0 (no_index (Proc.devRef .tc main_while1b_v131)) = shapeCast S1x4x64x128 (Host.dynamicSlice S1x1x4x64x128 (V0 (Proc.devRef .tc main_v63_0)) (fun k => (((![res_main_while1b_v130 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128) shapeCasts_S1x1x4x64x128_S1x4x64x128 :=
  (val5_keep V0 main_while1b_v131 (by decide)).trans (val4_main_while1b_v131 V0)
set_option maxRecDepth 8192 in
theorem val5_main_while1b_v132 (V0 : Valuation τ sig (Elt F)) : val5 V0 (no_index (Proc.devRef .tc main_while1b_v132)) = shapeCast S1x4x64x128 (Host.dynamicSlice S1x1x4x64x128 (V0 (Proc.devRef .tc main_v63_1)) (fun k => (((![res_main_while1b_v130 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128) shapeCasts_S1x1x4x64x128_S1x4x64x128 := by
  unfold val5
  simp only [trip_w4]
  after_results_entrywise [val4_main_while1b_call9_v0, cast_eq]

def val6 (V0 : Valuation τ sig (Elt F)) : Valuation τ sig (Elt F) := after trip_w5 (val5 V0)
abbrev trip_w5_W : List (Ref sig .tc) := [main_while1b_call10_c, main_while1b_call10_c_0, main_while1b_call10_c_1, main_while1b_call10_c_2, main_while1b_call10_v0]
set_option maxRecDepth 8192 in
theorem trip_w5_writes : (trip_w5 : List (HloOp τ sig (Elt F))).Forall fun op => op.writes ⊆ (trip_w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v63_3 (V0 : Valuation τ sig (Elt F)) : val6 V0 (no_index (Proc.devRef .tc main_v63_3)) = V0 (Proc.devRef .tc main_v63_3) :=
  (val6_keep V0 main_v63_3 (by decide)).trans (val5_main_v63_3 V0)
theorem val6_main_v63_0 (V0 : Valuation τ sig (Elt F)) : val6 V0 (no_index (Proc.devRef .tc main_v63_0)) = V0 (Proc.devRef .tc main_v63_0) :=
  (val6_keep V0 main_v63_0 (by decide)).trans (val5_main_v63_0 V0)
theorem val6_main_v63_1 (V0 : Valuation τ sig (Elt F)) : val6 V0 (no_index (Proc.devRef .tc main_v63_1)) = V0 (Proc.devRef .tc main_v63_1) :=
  (val6_keep V0 main_v63_1 (by decide)).trans (val5_main_v63_1 V0)
theorem val6_main_v63_2 (V0 : Valuation τ sig (Elt F)) : val6 V0 (no_index (Proc.devRef .tc main_v63_2)) = V0 (Proc.devRef .tc main_v63_2) :=
  (val6_keep V0 main_v63_2 (by decide)).trans (val5_main_v63_2 V0)
theorem val6_main_v63_4 (V0 : Valuation τ sig (Elt F)) : val6 V0 (no_index (Proc.devRef .tc main_v63_4)) = V0 (Proc.devRef .tc main_v63_4) :=
  (val6_keep V0 main_v63_4 (by decide)).trans (val5_main_v63_4 V0)
theorem val6_main_v63_5 (V0 : Valuation τ sig (Elt F)) : val6 V0 (no_index (Proc.devRef .tc main_v63_5)) = V0 (Proc.devRef .tc main_v63_5) :=
  (val6_keep V0 main_v63_5 (by decide)).trans (val5_main_v63_5 V0)
theorem val6_main_v63_6 (V0 : Valuation τ sig (Elt F)) : val6 V0 (no_index (Proc.devRef .tc main_v63_6)) = V0 (Proc.devRef .tc main_v63_6) :=
  (val6_keep V0 main_v63_6 (by decide)).trans (val5_main_v63_6 V0)
theorem val6_main_while1b_v130 (V0 : Valuation τ sig (Elt F)) : val6 V0 (no_index (Proc.devRef .tc main_while1b_v130)) = res_main_while1b_v130 V0 :=
  (val6_keep V0 main_while1b_v130 (by decide)).trans (val5_main_while1b_v130 V0)
theorem val6_main_while1b_v131 (V0 : Valuation τ sig (Elt F)) : val6 V0 (no_index (Proc.devRef .tc main_while1b_v131)) = shapeCast S1x4x64x128 (Host.dynamicSlice S1x1x4x64x128 (V0 (Proc.devRef .tc main_v63_0)) (fun k => (((![res_main_while1b_v130 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128) shapeCasts_S1x1x4x64x128_S1x4x64x128 :=
  (val6_keep V0 main_while1b_v131 (by decide)).trans (val5_main_while1b_v131 V0)
theorem val6_main_while1b_v132 (V0 : Valuation τ sig (Elt F)) : val6 V0 (no_index (Proc.devRef .tc main_while1b_v132)) = shapeCast S1x4x64x128 (Host.dynamicSlice S1x1x4x64x128 (V0 (Proc.devRef .tc main_v63_1)) (fun k => (((![res_main_while1b_v130 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128) shapeCasts_S1x1x4x64x128_S1x4x64x128 :=
  (val6_keep V0 main_while1b_v132 (by decide)).trans (val5_main_while1b_v132 V0)
set_option maxRecDepth 8192 in
theorem val6_main_while1b_call10_v0 (V0 : Valuation τ sig (Elt F)) : val6 V0 (no_index (Proc.devRef .tc main_while1b_call10_v0)) = Host.dynamicSlice S1x1x4x64x1 (V0 (Proc.devRef .tc main_v63_2)) (fun k => (((![res_main_while1b_v130 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x1_S1x1x4x64x1 := by
  unfold val6
  simp only [trip_w5]
  after_results_entrywise [val5_main_while1b_v130, val5_main_v63_2, cast_eq]

def val7 (V0 : Valuation τ sig (Elt F)) : Valuation τ sig (Elt F) := after trip_w6 (val6 V0)
abbrev trip_w6_W : List (Ref sig .tc) := [main_while1b_v133]
set_option maxRecDepth 8192 in
theorem trip_w6_writes : (trip_w6 : List (HloOp τ sig (Elt F))).Forall fun op => op.writes ⊆ (trip_w6_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
theorem val7_keep (V0 : Valuation τ sig (Elt F)) (r : Ref sig .tc) (h : r ∉ trip_w6_W) :
    val7 V0 (Proc.devRef .tc r) = val6 V0 (Proc.devRef .tc r) :=
  after_of_writes_sub trip_w6 _ trip_w6_writes h
theorem val7_main_v63_3 (V0 : Valuation τ sig (Elt F)) : val7 V0 (no_index (Proc.devRef .tc main_v63_3)) = V0 (Proc.devRef .tc main_v63_3) :=
  (val7_keep V0 main_v63_3 (by decide)).trans (val6_main_v63_3 V0)
theorem val7_main_v63_0 (V0 : Valuation τ sig (Elt F)) : val7 V0 (no_index (Proc.devRef .tc main_v63_0)) = V0 (Proc.devRef .tc main_v63_0) :=
  (val7_keep V0 main_v63_0 (by decide)).trans (val6_main_v63_0 V0)
theorem val7_main_v63_1 (V0 : Valuation τ sig (Elt F)) : val7 V0 (no_index (Proc.devRef .tc main_v63_1)) = V0 (Proc.devRef .tc main_v63_1) :=
  (val7_keep V0 main_v63_1 (by decide)).trans (val6_main_v63_1 V0)
theorem val7_main_v63_2 (V0 : Valuation τ sig (Elt F)) : val7 V0 (no_index (Proc.devRef .tc main_v63_2)) = V0 (Proc.devRef .tc main_v63_2) :=
  (val7_keep V0 main_v63_2 (by decide)).trans (val6_main_v63_2 V0)
theorem val7_main_v63_4 (V0 : Valuation τ sig (Elt F)) : val7 V0 (no_index (Proc.devRef .tc main_v63_4)) = V0 (Proc.devRef .tc main_v63_4) :=
  (val7_keep V0 main_v63_4 (by decide)).trans (val6_main_v63_4 V0)
theorem val7_main_v63_5 (V0 : Valuation τ sig (Elt F)) : val7 V0 (no_index (Proc.devRef .tc main_v63_5)) = V0 (Proc.devRef .tc main_v63_5) :=
  (val7_keep V0 main_v63_5 (by decide)).trans (val6_main_v63_5 V0)
theorem val7_main_v63_6 (V0 : Valuation τ sig (Elt F)) : val7 V0 (no_index (Proc.devRef .tc main_v63_6)) = V0 (Proc.devRef .tc main_v63_6) :=
  (val7_keep V0 main_v63_6 (by decide)).trans (val6_main_v63_6 V0)
theorem val7_main_while1b_v130 (V0 : Valuation τ sig (Elt F)) : val7 V0 (no_index (Proc.devRef .tc main_while1b_v130)) = res_main_while1b_v130 V0 :=
  (val7_keep V0 main_while1b_v130 (by decide)).trans (val6_main_while1b_v130 V0)
theorem val7_main_while1b_v131 (V0 : Valuation τ sig (Elt F)) : val7 V0 (no_index (Proc.devRef .tc main_while1b_v131)) = shapeCast S1x4x64x128 (Host.dynamicSlice S1x1x4x64x128 (V0 (Proc.devRef .tc main_v63_0)) (fun k => (((![res_main_while1b_v130 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128) shapeCasts_S1x1x4x64x128_S1x4x64x128 :=
  (val7_keep V0 main_while1b_v131 (by decide)).trans (val6_main_while1b_v131 V0)
theorem val7_main_while1b_v132 (V0 : Valuation τ sig (Elt F)) : val7 V0 (no_index (Proc.devRef .tc main_while1b_v132)) = shapeCast S1x4x64x128 (Host.dynamicSlice S1x1x4x64x128 (V0 (Proc.devRef .tc main_v63_1)) (fun k => (((![res_main_while1b_v130 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128) shapeCasts_S1x1x4x64x128_S1x4x64x128 :=
  (val7_keep V0 main_while1b_v132 (by decide)).trans (val6_main_while1b_v132 V0)
set_option maxRecDepth 8192 in
theorem val7_main_while1b_v133 (V0 : Valuation τ sig (Elt F)) : val7 V0 (no_index (Proc.devRef .tc main_while1b_v133)) = shapeCast S1x4x64x1 (Host.dynamicSlice S1x1x4x64x1 (V0 (Proc.devRef .tc main_v63_2)) (fun k => (((![res_main_while1b_v130 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x1_S1x1x4x64x1) shapeCasts_S1x1x4x64x1_S1x4x64x1 := by
  unfold val7
  simp only [trip_w6]
  after_results_entrywise [val6_main_while1b_call10_v0, cast_eq]

def val8 (V0 : Valuation τ sig (Elt F)) : Valuation τ sig (Elt F) := after trip_w7 (val7 V0)
abbrev trip_w7_W : List (Ref sig .tc) := [main_while1b_v134, main_while1b_v135, main_while1b_v136, main_while1b_v137, main_while1b_cst_30, main_while1b_v138, main_while1b_v139, main_while1b_cst_31, main_while1b_v140, main_while1b_v141]
set_option maxRecDepth 8192 in
theorem trip_w7_writes : (trip_w7 : List (HloOp τ sig (Elt F))).Forall fun op => op.writes ⊆ (trip_w7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val8_keep (V0 : Valuation τ sig (Elt F)) (r : Ref sig .tc) (h : r ∉ trip_w7_W) :
    val8 V0 (Proc.devRef .tc r) = val7 V0 (Proc.devRef .tc r) :=
  after_of_writes_sub trip_w7 _ trip_w7_writes h
theorem val8_main_v63_3 (V0 : Valuation τ sig (Elt F)) : val8 V0 (no_index (Proc.devRef .tc main_v63_3)) = V0 (Proc.devRef .tc main_v63_3) :=
  (val8_keep V0 main_v63_3 (by decide)).trans (val7_main_v63_3 V0)
theorem val8_main_v63_0 (V0 : Valuation τ sig (Elt F)) : val8 V0 (no_index (Proc.devRef .tc main_v63_0)) = V0 (Proc.devRef .tc main_v63_0) :=
  (val8_keep V0 main_v63_0 (by decide)).trans (val7_main_v63_0 V0)
theorem val8_main_v63_1 (V0 : Valuation τ sig (Elt F)) : val8 V0 (no_index (Proc.devRef .tc main_v63_1)) = V0 (Proc.devRef .tc main_v63_1) :=
  (val8_keep V0 main_v63_1 (by decide)).trans (val7_main_v63_1 V0)
theorem val8_main_v63_2 (V0 : Valuation τ sig (Elt F)) : val8 V0 (no_index (Proc.devRef .tc main_v63_2)) = V0 (Proc.devRef .tc main_v63_2) :=
  (val8_keep V0 main_v63_2 (by decide)).trans (val7_main_v63_2 V0)
theorem val8_main_v63_4 (V0 : Valuation τ sig (Elt F)) : val8 V0 (no_index (Proc.devRef .tc main_v63_4)) = V0 (Proc.devRef .tc main_v63_4) :=
  (val8_keep V0 main_v63_4 (by decide)).trans (val7_main_v63_4 V0)
theorem val8_main_v63_5 (V0 : Valuation τ sig (Elt F)) : val8 V0 (no_index (Proc.devRef .tc main_v63_5)) = V0 (Proc.devRef .tc main_v63_5) :=
  (val8_keep V0 main_v63_5 (by decide)).trans (val7_main_v63_5 V0)
theorem val8_main_v63_6 (V0 : Valuation τ sig (Elt F)) : val8 V0 (no_index (Proc.devRef .tc main_v63_6)) = V0 (Proc.devRef .tc main_v63_6) :=
  (val8_keep V0 main_v63_6 (by decide)).trans (val7_main_v63_6 V0)
theorem val8_main_while1b_v130 (V0 : Valuation τ sig (Elt F)) : val8 V0 (no_index (Proc.devRef .tc main_while1b_v130)) = res_main_while1b_v130 V0 :=
  (val8_keep V0 main_while1b_v130 (by decide)).trans (val7_main_while1b_v130 V0)
set_option maxRecDepth 8192 in
set_option maxHeartbeats 1000000 in
theorem val8_main_while1b_v136 (V0 : Valuation τ sig (Elt F)) : val8 V0 (no_index (Proc.devRef .tc main_while1b_v136)) = addf (shapeCast S1x4x64x128 (Host.dynamicSlice S1x1x4x64x128 (V0 (Proc.devRef .tc main_v63_0)) (fun k => (((![res_main_while1b_v130 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128) shapeCasts_S1x1x4x64x128_S1x4x64x128) (mulf (broadcastInDim S1x4x64x128 ![0, 1, 2, 3] bcast_S1x4x64x1_S1x4x64x128_0_1_2_3 (shapeCast S1x4x64x1 (Host.dynamicSlice S1x1x4x64x1 (V0 (Proc.devRef .tc main_v63_2)) (fun k => (((![res_main_while1b_v130 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x1_S1x1x4x64x1) shapeCasts_S1x1x4x64x1_S1x4x64x1)) (V0 (Proc.devRef .tc main_v63_4))) := by
  unfold val8
  simp only [trip_w7]
  after_results_entrywise [val7_main_v63_4, val7_main_while1b_v133, val7_main_while1b_v131, cast_eq]
set_option maxRecDepth 8192 in
set_option maxHeartbeats 1000000 in
theorem val8_main_while1b_v141 (V0 : Valuation τ sig (Elt F)) : val8 V0 (no_index (Proc.devRef .tc main_while1b_v141)) = broadcastInDim S1x4x64 ![1, 2] bcast_S4x64_S1x4x64_1_2 (Host.reduceAdd (shapeCast S1x4x64x1 (Host.reduceAdd (mulf (V0 (Proc.devRef .tc main_v63_4)) (shapeCast S1x4x64x128 (Host.dynamicSlice S1x1x4x64x128 (V0 (Proc.devRef .tc main_v63_1)) (fun k => (((![res_main_while1b_v130 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128) shapeCasts_S1x1x4x64x128_S1x4x64x128)) (constant S_ .f32 0x00000000#32) reducesTo_S1x4x64x128_S1x4x64_d3 h_S_) shapeCasts_S1x4x64_S1x4x64x1) (constant S_ .f32 0x00000000#32) reducesTo_S1x4x64x1_S4x64_d0_3 h_S_) := by
  unfold val8
  simp only [trip_w7]
  after_results_entrywise [val7_main_while1b_v132, val7_main_v63_4, cast_eq]

def val9 (V0 : Valuation τ sig (Elt F)) : Valuation τ sig (Elt F) := after trip_w8 (val8 V0)
abbrev trip_w8_W : List (Ref sig .tc) := [main_while1b_call11_v0, main_while1b_call11_c, main_while1b_call11_c_0, main_while1b_call11_c_1, main_while1b_v142]
set_option maxRecDepth 8192 in
theorem trip_w8_writes : (trip_w8 : List (HloOp τ sig (Elt F))).Forall fun op => op.writes ⊆ (trip_w8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val9_keep (V0 : Valuation τ sig (Elt F)) (r : Ref sig .tc) (h : r ∉ trip_w8_W) :
    val9 V0 (Proc.devRef .tc r) = val8 V0 (Proc.devRef .tc r) :=
  after_of_writes_sub trip_w8 _ trip_w8_writes h
theorem val9_main_v63_3 (V0 : Valuation τ sig (Elt F)) : val9 V0 (no_index (Proc.devRef .tc main_v63_3)) = V0 (Proc.devRef .tc main_v63_3) :=
  (val9_keep V0 main_v63_3 (by decide)).trans (val8_main_v63_3 V0)
theorem val9_main_v63_0 (V0 : Valuation τ sig (Elt F)) : val9 V0 (no_index (Proc.devRef .tc main_v63_0)) = V0 (Proc.devRef .tc main_v63_0) :=
  (val9_keep V0 main_v63_0 (by decide)).trans (val8_main_v63_0 V0)
theorem val9_main_v63_1 (V0 : Valuation τ sig (Elt F)) : val9 V0 (no_index (Proc.devRef .tc main_v63_1)) = V0 (Proc.devRef .tc main_v63_1) :=
  (val9_keep V0 main_v63_1 (by decide)).trans (val8_main_v63_1 V0)
theorem val9_main_v63_2 (V0 : Valuation τ sig (Elt F)) : val9 V0 (no_index (Proc.devRef .tc main_v63_2)) = V0 (Proc.devRef .tc main_v63_2) :=
  (val9_keep V0 main_v63_2 (by decide)).trans (val8_main_v63_2 V0)
theorem val9_main_v63_4 (V0 : Valuation τ sig (Elt F)) : val9 V0 (no_index (Proc.devRef .tc main_v63_4)) = V0 (Proc.devRef .tc main_v63_4) :=
  (val9_keep V0 main_v63_4 (by decide)).trans (val8_main_v63_4 V0)
theorem val9_main_v63_5 (V0 : Valuation τ sig (Elt F)) : val9 V0 (no_index (Proc.devRef .tc main_v63_5)) = V0 (Proc.devRef .tc main_v63_5) :=
  (val9_keep V0 main_v63_5 (by decide)).trans (val8_main_v63_5 V0)
theorem val9_main_v63_6 (V0 : Valuation τ sig (Elt F)) : val9 V0 (no_index (Proc.devRef .tc main_v63_6)) = V0 (Proc.devRef .tc main_v63_6) :=
  (val9_keep V0 main_v63_6 (by decide)).trans (val8_main_v63_6 V0)
theorem val9_main_while1b_v130 (V0 : Valuation τ sig (Elt F)) : val9 V0 (no_index (Proc.devRef .tc main_while1b_v130)) = res_main_while1b_v130 V0 :=
  (val9_keep V0 main_while1b_v130 (by decide)).trans (val8_main_while1b_v130 V0)
theorem val9_main_while1b_v136 (V0 : Valuation τ sig (Elt F)) : val9 V0 (no_index (Proc.devRef .tc main_while1b_v136)) = addf (shapeCast S1x4x64x128 (Host.dynamicSlice S1x1x4x64x128 (V0 (Proc.devRef .tc main_v63_0)) (fun k => (((![res_main_while1b_v130 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128) shapeCasts_S1x1x4x64x128_S1x4x64x128) (mulf (broadcastInDim S1x4x64x128 ![0, 1, 2, 3] bcast_S1x4x64x1_S1x4x64x128_0_1_2_3 (shapeCast S1x4x64x1 (Host.dynamicSlice S1x1x4x64x1 (V0 (Proc.devRef .tc main_v63_2)) (fun k => (((![res_main_while1b_v130 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x1_S1x1x4x64x1) shapeCasts_S1x1x4x64x1_S1x4x64x1)) (V0 (Proc.devRef .tc main_v63_4))) :=
  (val9_keep V0 main_while1b_v136 (by decide)).trans (val8_main_while1b_v136 V0)
set_option maxRecDepth 8192 in
theorem val9_main_while1b_v142 (V0 : Valuation τ sig (Elt F)) : val9 V0 (no_index (Proc.devRef .tc main_while1b_v142)) = Host.dynamicUpdateSlice (V0 (Proc.devRef .tc main_v63_5)) (broadcastInDim S1x1x4x64 ![1, 2, 3] bcast_S1x4x64_S1x1x4x64_1_2_3 (broadcastInDim S1x4x64 ![1, 2] bcast_S4x64_S1x4x64_1_2 (Host.reduceAdd (shapeCast S1x4x64x1 (Host.reduceAdd (mulf (V0 (Proc.devRef .tc main_v63_4)) (shapeCast S1x4x64x128 (Host.dynamicSlice S1x1x4x64x128 (V0 (Proc.devRef .tc main_v63_1)) (fun k => (((![res_main_while1b_v130 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128) shapeCasts_S1x1x4x64x128_S1x4x64x128)) (constant S_ .f32 0x00000000#32) reducesTo_S1x4x64x128_S1x4x64_d3 h_S_) shapeCasts_S1x4x64_S1x4x64x1) (constant S_ .f32 0x00000000#32) reducesTo_S1x4x64x1_S4x64_d0_3 h_S_))) (fun k => (((![res_main_while1b_v130 V0, constantI S_ 32 0#32, constantI S_ 32 0#32, constantI S_ 32 0#32] : Fin 4 → (⟨S_, .i32⟩ : BufTy).Contents (Elt F))) k (Shape.Idx.first h_S_)).toInt) updateFits_S64x1x4x64_S1x1x4x64 := by
  unfold val9
  simp only [trip_w8]
  after_results_entrywise [val8_main_while1b_v130, val8_main_while1b_v141, val8_main_v63_5, cast_eq]

def val10 (V0 : Valuation τ sig (Elt F)) : Valuation τ sig (Elt F) := after trip_w9 (val9 V0)
abbrev trip_w9_W : List (Ref sig .tc) := [main_while1b_call12_v0, main_while1b_call12_c, main_while1b_call12_c_0, main_while1b_call12_c_1, main_while1b_call12_c_2, main_while1b_v143]
set_option maxRecDepth 8192 in
theorem trip_w9_writes : (trip_w9 : List (HloOp τ sig (Elt F))).Forall fun op => op.writes ⊆ (trip_w9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val10_keep (V0 : Valuation τ sig (Elt F)) (r : Ref sig .tc) (h : r ∉ trip_w9_W) :
    val10 V0 (Proc.devRef .tc r) = val9 V0 (Proc.devRef .tc r) :=
  after_of_writes_sub trip_w9 _ trip_w9_writes h
theorem val10_main_v63_3 (V0 : Valuation τ sig (Elt F)) : val10 V0 (no_index (Proc.devRef .tc main_v63_3)) = V0 (Proc.devRef .tc main_v63_3) :=
  (val10_keep V0 main_v63_3 (by decide)).trans (val9_main_v63_3 V0)
theorem val10_main_v63_0 (V0 : Valuation τ sig (Elt F)) : val10 V0 (no_index (Proc.devRef .tc main_v63_0)) = V0 (Proc.devRef .tc main_v63_0) :=
  (val10_keep V0 main_v63_0 (by decide)).trans (val9_main_v63_0 V0)
theorem val10_main_v63_1 (V0 : Valuation τ sig (Elt F)) : val10 V0 (no_index (Proc.devRef .tc main_v63_1)) = V0 (Proc.devRef .tc main_v63_1) :=
  (val10_keep V0 main_v63_1 (by decide)).trans (val9_main_v63_1 V0)
theorem val10_main_v63_2 (V0 : Valuation τ sig (Elt F)) : val10 V0 (no_index (Proc.devRef .tc main_v63_2)) = V0 (Proc.devRef .tc main_v63_2) :=
  (val10_keep V0 main_v63_2 (by decide)).trans (val9_main_v63_2 V0)
theorem val10_main_v63_4 (V0 : Valuation τ sig (Elt F)) : val10 V0 (no_index (Proc.devRef .tc main_v63_4)) = V0 (Proc.devRef .tc main_v63_4) :=
  (val10_keep V0 main_v63_4 (by decide)).trans (val9_main_v63_4 V0)
theorem val10_main_v63_5 (V0 : Valuation τ sig (Elt F)) : val10 V0 (no_index (Proc.devRef .tc main_v63_5)) = V0 (Proc.devRef .tc main_v63_5) :=
  (val10_keep V0 main_v63_5 (by decide)).trans (val9_main_v63_5 V0)
theorem val10_main_v63_6 (V0 : Valuation τ sig (Elt F)) : val10 V0 (no_index (Proc.devRef .tc main_v63_6)) = V0 (Proc.devRef .tc main_v63_6) :=
  (val10_keep V0 main_v63_6 (by decide)).trans (val9_main_v63_6 V0)
theorem val10_main_while1b_v136 (V0 : Valuation τ sig (Elt F)) : val10 V0 (no_index (Proc.devRef .tc main_while1b_v136)) = addf (shapeCast S1x4x64x128 (Host.dynamicSlice S1x1x4x64x128 (V0 (Proc.devRef .tc main_v63_0)) (fun k => (((![res_main_while1b_v130 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128) shapeCasts_S1x1x4x64x128_S1x4x64x128) (mulf (broadcastInDim S1x4x64x128 ![0, 1, 2, 3] bcast_S1x4x64x1_S1x4x64x128_0_1_2_3 (shapeCast S1x4x64x1 (Host.dynamicSlice S1x1x4x64x1 (V0 (Proc.devRef .tc main_v63_2)) (fun k => (((![res_main_while1b_v130 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x1_S1x1x4x64x1) shapeCasts_S1x1x4x64x1_S1x4x64x1)) (V0 (Proc.devRef .tc main_v63_4))) :=
  (val10_keep V0 main_while1b_v136 (by decide)).trans (val9_main_while1b_v136 V0)
theorem val10_main_while1b_v142 (V0 : Valuation τ sig (Elt F)) : val10 V0 (no_index (Proc.devRef .tc main_while1b_v142)) = Host.dynamicUpdateSlice (V0 (Proc.devRef .tc main_v63_5)) (broadcastInDim S1x1x4x64 ![1, 2, 3] bcast_S1x4x64_S1x1x4x64_1_2_3 (broadcastInDim S1x4x64 ![1, 2] bcast_S4x64_S1x4x64_1_2 (Host.reduceAdd (shapeCast S1x4x64x1 (Host.reduceAdd (mulf (V0 (Proc.devRef .tc main_v63_4)) (shapeCast S1x4x64x128 (Host.dynamicSlice S1x1x4x64x128 (V0 (Proc.devRef .tc main_v63_1)) (fun k => (((![res_main_while1b_v130 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128) shapeCasts_S1x1x4x64x128_S1x4x64x128)) (constant S_ .f32 0x00000000#32) reducesTo_S1x4x64x128_S1x4x64_d3 h_S_) shapeCasts_S1x4x64_S1x4x64x1) (constant S_ .f32 0x00000000#32) reducesTo_S1x4x64x1_S4x64_d0_3 h_S_))) (fun k => (((![res_main_while1b_v130 V0, constantI S_ 32 0#32, constantI S_ 32 0#32, constantI S_ 32 0#32] : Fin 4 → (⟨S_, .i32⟩ : BufTy).Contents (Elt F))) k (Shape.Idx.first h_S_)).toInt) updateFits_S64x1x4x64_S1x1x4x64 :=
  (val10_keep V0 main_while1b_v142 (by decide)).trans (val9_main_while1b_v142 V0)
set_option maxRecDepth 8192 in
theorem val10_main_while1b_v143 (V0 : Valuation τ sig (Elt F)) : val10 V0 (no_index (Proc.devRef .tc main_while1b_v143)) = Host.dynamicUpdateSlice (V0 (Proc.devRef .tc main_v63_6)) (broadcastInDim S1x1x4x64x128 ![1, 2, 3, 4] bcast_S1x4x64x128_S1x1x4x64x128_1_2_3_4 (V0 (Proc.devRef .tc main_v63_4))) (fun k => (((![res_main_while1b_v130 V0, constantI S_ 32 0#32, constantI S_ 32 0#32, constantI S_ 32 0#32, constantI S_ 32 0#32] : Fin 5 → (⟨S_, .i32⟩ : BufTy).Contents (Elt F))) k (Shape.Idx.first h_S_)).toInt) updateFits_S64x1x4x64x128_S1x1x4x64x128 := by
  unfold val10
  simp only [trip_w9]
  after_results_entrywise [val9_main_while1b_v130, val9_main_v63_4, val9_main_v63_6, cast_eq]

set_option maxRecDepth 8192 in
theorem trip_windows (V0 : Valuation τ sig (Elt F)) : after while1Ops0_6 (after while1Ops0_5 (after while1Ops0_4 (after while1Ops0_3 (after while1Ops0_2 (after while1Ops0_1 (after while1Ops0 (V0))))))) = val10 V0 := by
  simp only [while1Ops0_cut, while1Ops0_1_cut, while1Ops0_2_cut, while1Ops0_3_cut, while1Ops0_4_cut, while1Ops0_5_cut, while1Ops0_6_cut, after_append]
  rfl

set_option maxRecDepth 8192 in
set_option maxHeartbeats 2000000 in
theorem trip_main_v63_0 (V0 : Valuation τ sig (Elt F)) : afterL bodyI V0 (no_index (Proc.devRef .tc main_v63_0)) = V0 (Proc.devRef .tc main_v63_0) := by
  simp only [bodyI, afterL_cons, afterL_nil, trip_windows]
  after_results
  all_goals (try simp only [val10_main_while1b_v136, val10_main_while1b_v142, val10_main_while1b_v143, val10_main_v63_0, val10_main_v63_1, val10_main_v63_2, val10_main_v63_3, val10_main_v63_4, val10_main_v63_5, val10_main_v63_6]) <;> rfl
set_option maxRecDepth 8192 in
set_option maxHeartbeats 2000000 in
theorem trip_main_v63_1 (V0 : Valuation τ sig (Elt F)) : afterL bodyI V0 (no_index (Proc.devRef .tc main_v63_1)) = V0 (Proc.devRef .tc main_v63_1) := by
  simp only [bodyI, afterL_cons, afterL_nil, trip_windows]
  after_results
  all_goals (try simp only [val10_main_while1b_v136, val10_main_while1b_v142, val10_main_while1b_v143, val10_main_v63_0, val10_main_v63_1, val10_main_v63_2, val10_main_v63_3, val10_main_v63_4, val10_main_v63_5, val10_main_v63_6]) <;> rfl
set_option maxRecDepth 8192 in
set_option maxHeartbeats 2000000 in
theorem trip_main_v63_2 (V0 : Valuation τ sig (Elt F)) : afterL bodyI V0 (no_index (Proc.devRef .tc main_v63_2)) = V0 (Proc.devRef .tc main_v63_2) := by
  simp only [bodyI, afterL_cons, afterL_nil, trip_windows]
  after_results
  all_goals (try simp only [val10_main_while1b_v136, val10_main_while1b_v142, val10_main_while1b_v143, val10_main_v63_0, val10_main_v63_1, val10_main_v63_2, val10_main_v63_3, val10_main_v63_4, val10_main_v63_5, val10_main_v63_6]) <;> rfl
set_option maxRecDepth 8192 in
set_option maxHeartbeats 2000000 in
theorem trip_main_v63_3 (V0 : Valuation τ sig (Elt F)) : afterL bodyI V0 (no_index (Proc.devRef .tc main_v63_3)) = id (addi (V0 (Proc.devRef .tc main_v63_3)) (constantI S_ 32 1#32)) := by
  simp only [bodyI, afterL_cons, afterL_nil, trip_windows]
  after_results
  all_goals (try simp only [val10_main_while1b_v136, val10_main_while1b_v142, val10_main_while1b_v143, val10_main_v63_0, val10_main_v63_1, val10_main_v63_2, val10_main_v63_3, val10_main_v63_4, val10_main_v63_5, val10_main_v63_6]) <;> rfl
set_option maxRecDepth 8192 in
set_option maxHeartbeats 2000000 in
theorem trip_main_v63_4 (V0 : Valuation τ sig (Elt F)) : afterL bodyI V0 (no_index (Proc.devRef .tc main_v63_4)) = id (addf (shapeCast S1x4x64x128 (Host.dynamicSlice S1x1x4x64x128 (V0 (Proc.devRef .tc main_v63_0)) (fun k => (((![res_main_while1b_v130 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128) shapeCasts_S1x1x4x64x128_S1x4x64x128) (mulf (broadcastInDim S1x4x64x128 ![0, 1, 2, 3] bcast_S1x4x64x1_S1x4x64x128_0_1_2_3 (shapeCast S1x4x64x1 (Host.dynamicSlice S1x1x4x64x1 (V0 (Proc.devRef .tc main_v63_2)) (fun k => (((![res_main_while1b_v130 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x1_S1x1x4x64x1) shapeCasts_S1x1x4x64x1_S1x4x64x1)) (V0 (Proc.devRef .tc main_v63_4)))) := by
  simp only [bodyI, afterL_cons, afterL_nil, trip_windows]
  after_results
  all_goals (try simp only [val10_main_while1b_v136, val10_main_while1b_v142, val10_main_while1b_v143, val10_main_v63_0, val10_main_v63_1, val10_main_v63_2, val10_main_v63_3, val10_main_v63_4, val10_main_v63_5, val10_main_v63_6]) <;> rfl
set_option maxRecDepth 8192 in
set_option maxHeartbeats 2000000 in
theorem trip_main_v63_5 (V0 : Valuation τ sig (Elt F)) : afterL bodyI V0 (no_index (Proc.devRef .tc main_v63_5)) = id (Host.dynamicUpdateSlice (V0 (Proc.devRef .tc main_v63_5)) (broadcastInDim S1x1x4x64 ![1, 2, 3] bcast_S1x4x64_S1x1x4x64_1_2_3 (broadcastInDim S1x4x64 ![1, 2] bcast_S4x64_S1x4x64_1_2 (Host.reduceAdd (shapeCast S1x4x64x1 (Host.reduceAdd (mulf (V0 (Proc.devRef .tc main_v63_4)) (shapeCast S1x4x64x128 (Host.dynamicSlice S1x1x4x64x128 (V0 (Proc.devRef .tc main_v63_1)) (fun k => (((![res_main_while1b_v130 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128) shapeCasts_S1x1x4x64x128_S1x4x64x128)) (constant S_ .f32 0x00000000#32) reducesTo_S1x4x64x128_S1x4x64_d3 h_S_) shapeCasts_S1x4x64_S1x4x64x1) (constant S_ .f32 0x00000000#32) reducesTo_S1x4x64x1_S4x64_d0_3 h_S_))) (fun k => (((![res_main_while1b_v130 V0, constantI S_ 32 0#32, constantI S_ 32 0#32, constantI S_ 32 0#32] : Fin 4 → (⟨S_, .i32⟩ : BufTy).Contents (Elt F))) k (Shape.Idx.first h_S_)).toInt) updateFits_S64x1x4x64_S1x1x4x64) := by
  simp only [bodyI, afterL_cons, afterL_nil, trip_windows]
  after_results
  all_goals (try simp only [val10_main_while1b_v136, val10_main_while1b_v142, val10_main_while1b_v143, val10_main_v63_0, val10_main_v63_1, val10_main_v63_2, val10_main_v63_3, val10_main_v63_4, val10_main_v63_5, val10_main_v63_6]) <;> rfl
set_option maxRecDepth 8192 in
set_option maxHeartbeats 2000000 in
theorem trip_main_v63_6 (V0 : Valuation τ sig (Elt F)) : afterL bodyI V0 (no_index (Proc.devRef .tc main_v63_6)) = id (Host.dynamicUpdateSlice (V0 (Proc.devRef .tc main_v63_6)) (broadcastInDim S1x1x4x64x128 ![1, 2, 3, 4] bcast_S1x4x64x128_S1x1x4x64x128_1_2_3_4 (V0 (Proc.devRef .tc main_v63_4))) (fun k => (((![res_main_while1b_v130 V0, constantI S_ 32 0#32, constantI S_ 32 0#32, constantI S_ 32 0#32, constantI S_ 32 0#32] : Fin 5 → (⟨S_, .i32⟩ : BufTy).Contents (Elt F))) k (Shape.Idx.first h_S_)).toInt) updateFits_S64x1x4x64x128_S1x1x4x64x128) := by
  simp only [bodyI, afterL_cons, afterL_nil, trip_windows]
  after_results
  all_goals (try simp only [val10_main_while1b_v136, val10_main_while1b_v142, val10_main_while1b_v143, val10_main_v63_0, val10_main_v63_1, val10_main_v63_2, val10_main_v63_3, val10_main_v63_4, val10_main_v63_5, val10_main_v63_6]) <;> rfl

abbrev carriedRefs : List (Ref sig .tc) := [main_v63_0, main_v63_1, main_v63_2, main_v63_3, main_v63_4, main_v63_5, main_v63_6]
def Agree (V V' : Valuation τ sig (Elt F)) : Prop := ∀ j ∈ carriedRefs, V (Proc.devRef .tc j) = V' (Proc.devRef .tc j)

set_option maxRecDepth 8192 in
theorem res_main_while1b_v130_congr {V0 V0' : Valuation τ sig (Elt F)} (h : Agree V0 V0') : res_main_while1b_v130 V0 = res_main_while1b_v130 V0' := by
  unfold res_main_while1b_v130
  rw [h main_v63_3 (by decide)]

set_option maxRecDepth 8192 in
def step_main_v63_3 (V0 : Valuation τ sig (Elt F)) : (Proc.devRef .tc main_v63_3 : DevRef τ sig).ty.Contents (Elt F) :=
  id (addi (V0 (Proc.devRef .tc main_v63_3)) (constantI S_ 32 1#32))
set_option maxRecDepth 8192 in
theorem step_main_v63_3_congr {V0 V0' : Valuation τ sig (Elt F)} (h : Agree V0 V0') : step_main_v63_3 V0 = step_main_v63_3 V0' := by
  unfold step_main_v63_3
  rw [h main_v63_3 (by decide)]
set_option maxRecDepth 8192 in
def step_main_v63_4 (V0 : Valuation τ sig (Elt F)) : (Proc.devRef .tc main_v63_4 : DevRef τ sig).ty.Contents (Elt F) :=
  id (addf (shapeCast S1x4x64x128 (Host.dynamicSlice S1x1x4x64x128 (V0 (Proc.devRef .tc main_v63_0)) (fun k => (((![res_main_while1b_v130 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128) shapeCasts_S1x1x4x64x128_S1x4x64x128) (mulf (broadcastInDim S1x4x64x128 ![0, 1, 2, 3] bcast_S1x4x64x1_S1x4x64x128_0_1_2_3 (shapeCast S1x4x64x1 (Host.dynamicSlice S1x1x4x64x1 (V0 (Proc.devRef .tc main_v63_2)) (fun k => (((![res_main_while1b_v130 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x1_S1x1x4x64x1) shapeCasts_S1x1x4x64x1_S1x4x64x1)) (V0 (Proc.devRef .tc main_v63_4))))
set_option maxRecDepth 8192 in
theorem step_main_v63_4_congr {V0 V0' : Valuation τ sig (Elt F)} (h : Agree V0 V0') : step_main_v63_4 V0 = step_main_v63_4 V0' := by
  unfold step_main_v63_4
  rw [res_main_while1b_v130_congr h, h main_v63_0 (by decide), h main_v63_2 (by decide), h main_v63_4 (by decide)]
set_option maxRecDepth 8192 in
def step_main_v63_5 (V0 : Valuation τ sig (Elt F)) : (Proc.devRef .tc main_v63_5 : DevRef τ sig).ty.Contents (Elt F) :=
  id (Host.dynamicUpdateSlice (V0 (Proc.devRef .tc main_v63_5)) (broadcastInDim S1x1x4x64 ![1, 2, 3] bcast_S1x4x64_S1x1x4x64_1_2_3 (broadcastInDim S1x4x64 ![1, 2] bcast_S4x64_S1x4x64_1_2 (Host.reduceAdd (shapeCast S1x4x64x1 (Host.reduceAdd (mulf (V0 (Proc.devRef .tc main_v63_4)) (shapeCast S1x4x64x128 (Host.dynamicSlice S1x1x4x64x128 (V0 (Proc.devRef .tc main_v63_1)) (fun k => (((![res_main_while1b_v130 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128) shapeCasts_S1x1x4x64x128_S1x4x64x128)) (constant S_ .f32 0x00000000#32) reducesTo_S1x4x64x128_S1x4x64_d3 h_S_) shapeCasts_S1x4x64_S1x4x64x1) (constant S_ .f32 0x00000000#32) reducesTo_S1x4x64x1_S4x64_d0_3 h_S_))) (fun k => (((![res_main_while1b_v130 V0, constantI S_ 32 0#32, constantI S_ 32 0#32, constantI S_ 32 0#32] : Fin 4 → (⟨S_, .i32⟩ : BufTy).Contents (Elt F))) k (Shape.Idx.first h_S_)).toInt) updateFits_S64x1x4x64_S1x1x4x64)
set_option maxRecDepth 8192 in
theorem step_main_v63_5_congr {V0 V0' : Valuation τ sig (Elt F)} (h : Agree V0 V0') : step_main_v63_5 V0 = step_main_v63_5 V0' := by
  unfold step_main_v63_5
  rw [res_main_while1b_v130_congr h, h main_v63_5 (by decide), h main_v63_4 (by decide), h main_v63_1 (by decide)]
set_option maxRecDepth 8192 in
def step_main_v63_6 (V0 : Valuation τ sig (Elt F)) : (Proc.devRef .tc main_v63_6 : DevRef τ sig).ty.Contents (Elt F) :=
  id (Host.dynamicUpdateSlice (V0 (Proc.devRef .tc main_v63_6)) (broadcastInDim S1x1x4x64x128 ![1, 2, 3, 4] bcast_S1x4x64x128_S1x1x4x64x128_1_2_3_4 (V0 (Proc.devRef .tc main_v63_4))) (fun k => (((![res_main_while1b_v130 V0, constantI S_ 32 0#32, constantI S_ 32 0#32, constantI S_ 32 0#32, constantI S_ 32 0#32] : Fin 5 → (⟨S_, .i32⟩ : BufTy).Contents (Elt F))) k (Shape.Idx.first h_S_)).toInt) updateFits_S64x1x4x64x128_S1x1x4x64x128)
set_option maxRecDepth 8192 in
theorem step_main_v63_6_congr {V0 V0' : Valuation τ sig (Elt F)} (h : Agree V0 V0') : step_main_v63_6 V0 = step_main_v63_6 V0' := by
  unfold step_main_v63_6
  rw [res_main_while1b_v130_congr h, h main_v63_6 (by decide), h main_v63_4 (by decide)]

def STEP (V0 : Valuation τ sig (Elt F)) : Valuation τ sig (Elt F) :=
  Function.update (Function.update (Function.update (Function.update (V0) (Proc.devRef .tc main_v63_3) (step_main_v63_3 V0)) (Proc.devRef .tc main_v63_4) (step_main_v63_4 V0)) (Proc.devRef .tc main_v63_5) (step_main_v63_5 V0)) (Proc.devRef .tc main_v63_6) (step_main_v63_6 V0)

theorem STEP_main_v63_0 (V0 : Valuation τ sig (Elt F)) : STEP V0 (Proc.devRef .tc main_v63_0) = V0 (Proc.devRef .tc main_v63_0) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v63_1 (V0 : Valuation τ sig (Elt F)) : STEP V0 (Proc.devRef .tc main_v63_1) = V0 (Proc.devRef .tc main_v63_1) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v63_2 (V0 : Valuation τ sig (Elt F)) : STEP V0 (Proc.devRef .tc main_v63_2) = V0 (Proc.devRef .tc main_v63_2) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v63_3 (V0 : Valuation τ sig (Elt F)) : STEP V0 (Proc.devRef .tc main_v63_3) = step_main_v63_3 V0 := by
  unfold STEP; rw [Function.update_of_ne (devRef_ne_of_ne (by decide))]; rw [Function.update_of_ne (devRef_ne_of_ne (by decide))]; rw [Function.update_of_ne (devRef_ne_of_ne (by decide))]; rw [Function.update_self]
theorem STEP_main_v63_4 (V0 : Valuation τ sig (Elt F)) : STEP V0 (Proc.devRef .tc main_v63_4) = step_main_v63_4 V0 := by
  unfold STEP; rw [Function.update_of_ne (devRef_ne_of_ne (by decide))]; rw [Function.update_of_ne (devRef_ne_of_ne (by decide))]; rw [Function.update_self]
theorem STEP_main_v63_5 (V0 : Valuation τ sig (Elt F)) : STEP V0 (Proc.devRef .tc main_v63_5) = step_main_v63_5 V0 := by
  unfold STEP; rw [Function.update_of_ne (devRef_ne_of_ne (by decide))]; rw [Function.update_self]
theorem STEP_main_v63_6 (V0 : Valuation τ sig (Elt F)) : STEP V0 (Proc.devRef .tc main_v63_6) = step_main_v63_6 V0 := by
  unfold STEP; rw [Function.update_self]

theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
theorem trip_agree (X : Valuation τ sig (Elt F)) : Agree (afterL bodyI (after condOps X)) (STEP X) := by
  have hc := cond_keeps X
  intro j hj
  fin_cases hj
  · exact (trip_main_v63_0 (after condOps X)).trans ((hc main_v63_0 (by decide)).trans (STEP_main_v63_0 X).symm)
  · exact (trip_main_v63_1 (after condOps X)).trans ((hc main_v63_1 (by decide)).trans (STEP_main_v63_1 X).symm)
  · exact (trip_main_v63_2 (after condOps X)).trans ((hc main_v63_2 (by decide)).trans (STEP_main_v63_2 X).symm)
  · exact (trip_main_v63_3 (after condOps X)).trans ((step_main_v63_3_congr hc).trans (STEP_main_v63_3 X).symm)
  · exact (trip_main_v63_4 (after condOps X)).trans ((step_main_v63_4_congr hc).trans (STEP_main_v63_4 X).symm)
  · exact (trip_main_v63_5 (after condOps X)).trans ((step_main_v63_5_congr hc).trans (STEP_main_v63_5 X).symm)
  · exact (trip_main_v63_6 (after condOps X)).trans ((step_main_v63_6_congr hc).trans (STEP_main_v63_6 X).symm)

set_option maxRecDepth 8192 in
theorem STEP_congr {V V' : Valuation τ sig (Elt F)} (h : Agree V V') : Agree (STEP V) (STEP V') := by
  intro j hj
  fin_cases hj
  · rw [STEP_main_v63_0, STEP_main_v63_0]; exact h main_v63_0 (by decide)
  · rw [STEP_main_v63_1, STEP_main_v63_1]; exact h main_v63_1 (by decide)
  · rw [STEP_main_v63_2, STEP_main_v63_2]; exact h main_v63_2 (by decide)
  · rw [STEP_main_v63_3, STEP_main_v63_3]; exact step_main_v63_3_congr h
  · rw [STEP_main_v63_4, STEP_main_v63_4]; exact step_main_v63_4_congr h
  · rw [STEP_main_v63_5, STEP_main_v63_5]; exact step_main_v63_5_congr h
  · rw [STEP_main_v63_6, STEP_main_v63_6]; exact step_main_v63_6_congr h

theorem atK_agree (c : Dev nD) : ∀ k, Agree (atK m k c) (STEP^[k] (entry m c))
  | 0 => fun _ _ => rfl
  | k + 1 => fun j hj => by
    rw [Function.iterate_succ_apply']
    exact (trip_agree (atK m k c) j hj).trans (STEP_congr (atK_agree c k) j hj)

end Cert.ReferenceIdeal.Loop1

end
-- ==== Proof.RefRun.lean ====
module

public import proofs.«01_k».proof.Proof.RefLoop1
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 1780

noncomputable section

namespace Cert.ReferenceIdeal.Run

open Cert.ReferenceIdeal Cert.ReferenceIdeal.Gen Cert.ReferenceIdeal.Ops
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg Ticket)

variable {F : FTy → Type} [FloatOps F]

local notation "𝕄" => MT nD τ sig Unit (Elt F) ℕ (Option PUnit) ℕ

abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0

/-- Carried beside the buffers: what the core owes, which is nothing throughout. -/
abbrev Rw (c : Dev nD) : sProp 𝕄 := iprop(∃ W, owes (c : Thread nD τ) (0 : CellTallies nD τ sig Unit) W)

/-- The stretches after the second loop. -/
abbrev postI : List (List (HloOp τ sig (Elt F))) := [main_part1_ops1, main_part1_ops2, main_part1_ops3, main_part2_ops0, main_part2_ops1, main_part2_ops2, main_part2_ops3, main_part2_ops4]
theorem hpost : Plain (postI (F := F)) := .cons main_part1_ops1_sub (hf := List.forall_iff_forall_mem.mp main_part1_ops1_fresh) (.cons main_part1_ops2_sub (hf := List.forall_iff_forall_mem.mp main_part1_ops2_fresh) (.cons main_part1_ops3_sub (hf := List.forall_iff_forall_mem.mp main_part1_ops3_fresh) (.cons main_part2_ops0_sub (hf := List.forall_iff_forall_mem.mp main_part2_ops0_fresh) (.cons main_part2_ops1_sub (hf := List.forall_iff_forall_mem.mp main_part2_ops1_fresh) (.cons main_part2_ops2_sub (hf := List.forall_iff_forall_mem.mp main_part2_ops2_fresh) (.cons main_part2_ops3_sub (hf := List.forall_iff_forall_mem.mp main_part2_ops3_fresh) (.cons main_part2_ops4_sub (hf := List.forall_iff_forall_mem.mp main_part2_ops4_fresh) (.nil))))))))

/-- What a loop's condition does, with what the core owes carried across it. -/
theorem loopCond {cond : Prog (TpuEff nD τ sig (Elt F) (HostLoop.Sig (Pipeline.Sig Λ₀ (Fin 0) fun p => (pcfgs (F := F) p).Adm) 2) .tc) (Elt F .i1)}
    {condOps : List (HloOp τ sig (Elt F))} {bodyI : List (List (HloOp τ sig (Elt F)))} {W₀ : Dev nD → Valuation τ sig (Elt F)} {n : ℕ}
    (hcond : CondSpec (pcfgs (F := F)) defs₀ loops cond condOps bodyI W₀ n) :
    LoopCond (pcfgs (F := F)) defs₀ Variants.none loops Rw cond condOps bodyI W₀ n := fun k hk c bd => by
  have hpost : ∀ v : Elt F .i1,
      iprop(iprop(⌜v = 1#1 ↔ k < n⌝ ∗ boundary (c : Thread nD τ) ∗ held (c : Thread nD τ) (ucRefs τ sig) (after condOps (atTrip condOps bodyI W₀ k c))) ∗ Rw c)
        ⊢ iprop(⌜v = 1#1 ↔ k < n⌝ ∗ boundary (c : Thread nD τ) ∗ held (c : Thread nD τ) (ucRefs τ sig) (after condOps (atTrip condOps bodyI W₀ k c)) ∗ Rw c) := fun v => by
    iintro ⟨⟨%hv, Hbd, Hh⟩, HR⟩
    isplitr; · ipureintro; exact hv
    isplitl [Hbd]; · iexact Hbd
    isplitl [Hh] <;> iassumption
  refine BIBase.Entails.trans ?_ (((sep_mono_left (hcond k hk c bd)).trans (wp_frame_r _ _ _)).trans (wp_mono _ _ _ hpost))
  iintro ⟨Hbd, Hh, HR⟩
  isplitl [Hbd Hh]; · isplitl [Hbd] <;> iassumption
  iexact HR

variable (m : (ℓ : Loc nD τ sig) → Buf (Elt F) ℓ) (ρ : Dev nD → PrngReg)

/-- Every buffer where the second loop ends: its trips, and its condition's failing run. -/
abbrev exit1 (c : Dev nD) : Valuation τ sig (Elt F) := after Loop1.condOps (Loop1.atK m 64 c)

/-- Every buffer at the end. -/
abbrev last (c : Dev nD) : Valuation τ sig (Elt F) := afterL postI (exit1 m c)

/-- The program's items: stretches, the first loop, stretches, the second loop, stretches. -/
def runSegs : List (CSeg (pcfgs (F := F)) adm defs₀ Variants.none L lv loops tk) :=
  segsOf _ _ _ _ _ _ _ _ Rw Loop0.preI Loop0.hpre (launchContents m)
    ++ (loopSeg _ _ _ _ _ _ _ _ 0 main_while0_cond main_while0_body rfl Loop0.condOps Loop0.bodyI Loop0.hbodyI
          (by rw [while0_body_chain]; rfl) 64 (entryContents Loop0.preI m) Rw (loopCond (Loop0.cond_spec m))
      :: (segsOf _ _ _ _ _ _ _ _ Rw Loop1.preI Loop1.hpre (fun c => after Loop0.condOps (Loop0.atK m 64 c))
        ++ (loopSeg _ _ _ _ _ _ _ _ 1 main_while1_cond main_while1_body rfl Loop1.condOps Loop1.bodyI Loop1.hbodyI
              (by rw [while1_body_chain]; rfl) 64 (Loop1.entry m) Rw (loopCond (Loop1.cond_spec m))
          :: segsOf _ _ _ _ _ _ _ _ Rw postI hpost (exit1 m))))

theorem runSegs_prog :
    (runSegs m).map CSeg.prog
      = (Loop0.preI.map fun ops => (seq ops : Prog _ PUnit)) ++ (HostLoop.enter 0 :: ((Loop1.preI.map fun ops => (seq ops : Prog _ PUnit))
        ++ (HostLoop.enter 1 :: postI.map fun ops => (seq ops : Prog _ PUnit)))) := by
  unfold runSegs
  rw [List.map_append, List.map_cons, List.map_append, List.map_cons, segsOf_prog, segsOf_prog, segsOf_prog]
  rfl

theorem runSegs_chains :
    CSeg.Chains (fun c => iprop(held (c : Thread nD τ) (ucRefs τ sig) (launchContents m c) ∗ Rw c)) (runSegs m)
      (fun c => iprop(iprop(held (c : Thread nD τ) (ucRefs τ sig) (last m c)) ∗ ∃ W, owes (c : Thread nD τ) (0 : CellTallies nD τ sig Unit) W)) := by
  unfold runSegs
  exact CSeg.Chains.append (segsOf_chains _ _ _ _ _ _ _ _ Rw Loop0.preI Loop0.hpre _)
    ⟨fun _ => .rfl, CSeg.Chains.append (segsOf_chains _ _ _ _ _ _ _ _ Rw Loop1.preI Loop1.hpre _)
      ⟨fun _ => .rfl, segsOf_chains _ _ _ _ _ _ _ _ Rw postI hpost _⟩⟩

theorem main_items (c : Dev nD) : main (F := F) c = Pipeline.chain ((runSegs m).map CSeg.prog) := by
  rw [runSegs_prog, main_chain_windows]
  rfl

theorem cellOf_injective : Function.Injective (Pipeline.cellOf (nD := nD) (τ := τ) (Pipeline.pin (pcfgs (F := F)) adm)) :=
  fun k => k.1.elim0

/-- THE RUN: from any memory with zero counters every weakly fair execution of @main terminates, with every buffer that holds
    a tensor value at `last`. -/
theorem run : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = last m c (Proc.devRef .tc b)) :=
  Pipeline.θ_run_regions_loop_kit (Ix := Unit) (Name := ℕ) (U := Option PUnit) (Lvl := ℕ) (J := Fin 0) (P := Fin 0) (Val := Elt F)
    (pcfgs (F := F)) adm cellOf_injective defs₀ Variants.none L lv loops tk m ρ main (runSegs m)
    (fun c Q => by
      rw [main_items m c]
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (last m c)))
    (hch := runSegs_chains m)
    (hinit := by
      refine Pipeline.initEach L lv fun c => ?_
      rw [show unscopedBufs c (fun b => m ((c : Thread nD τ).loc b)) = held (c : Thread nD τ) (ucRefs τ sig) (launchContents m c)
        from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = last m c b)
    (hfin := fun c s' => by
      unfold held
      iintro ⟨Hh, HSI⟩
      ihave Hr := (pointsTo_read_all (ucRefs τ sig) (fun b => ((c : Dev nD), b)) (fun b => last m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

/-- Stretches of operations leave a buffer as it was when none of them writes it. -/
theorem afterL_keep (b : Ref sig .tc) : ∀ (items : List (List (HloOp τ sig (Elt F))))
    (_ : ∀ ops ∈ items, ∃ W : List (Ref sig .tc), (ops.Forall fun op => op.writes ⊆ (W.map (Proc.devRef (τ := τ) .tc)).toFinset) ∧ b ∉ W)
    (V : Valuation τ sig (Elt F)), afterL items V (Proc.devRef .tc b) = V (Proc.devRef .tc b)
  | [], _, _ => rfl
  | ops :: rest, h, V => by
    obtain ⟨W, hW, hb⟩ := h ops List.mem_cons_self
    rw [afterL_cons, afterL_keep b rest (fun o ho => h o (List.mem_cons_of_mem _ ho)), after_of_writes_sub ops V hW hb]

/-- A loop's trips leave a buffer as it was when neither the condition nor the body writes it. -/
theorem atTrip_keep (b : Ref sig .tc) {condOps : List (HloOp τ sig (Elt F))} {bodyI : List (List (HloOp τ sig (Elt F)))}
    {W₀ : Dev nD → Valuation τ sig (Elt F)} {c : Dev nD} (hc : ∀ V : Valuation τ sig (Elt F), after condOps V (Proc.devRef .tc b) = V (Proc.devRef .tc b))
    (hb : ∀ V : Valuation τ sig (Elt F), afterL bodyI V (Proc.devRef .tc b) = V (Proc.devRef .tc b)) :
    ∀ k, atTrip condOps bodyI W₀ k c (Proc.devRef .tc b) = W₀ c (Proc.devRef .tc b)
  | 0 => rfl
  | k + 1 => by rw [atTrip_succ, hb, hc, atTrip_keep b hc hb k]

/-- What these stretches write. -/
abbrev pre0_W : List (Ref sig .tc) := main_part0_ops0_W ++ main_part0_ops1_W ++ main_part0_ops2_W ++ main_part0_ops3_W ++ main_part0_ops4_W ++ main_part0_ops5_W ++ main_part0_ops6_W ++ main_part0_ops7_W ++ main_part0_ops8_W
theorem pre0_keep (b : Ref sig .tc) (h : b ∉ pre0_W) (V : Valuation τ sig (Elt F)) : afterL (Loop0.preI (F := F)) V (Proc.devRef .tc b) = V (Proc.devRef .tc b) := by
  simp only [pre0_W, List.mem_append, not_or] at h
  refine afterL_keep b _ ?_ V
  simp only [List.forall_mem_cons, List.not_mem_nil, IsEmpty.forall_iff, implies_true, and_true]
  exact ⟨⟨_, main_part0_ops0_writes, h.1.1.1.1.1.1.1.1⟩, ⟨_, main_part0_ops1_writes, h.1.1.1.1.1.1.1.2⟩, ⟨_, main_part0_ops2_writes, h.1.1.1.1.1.1.2⟩, ⟨_, main_part0_ops3_writes, h.1.1.1.1.1.2⟩, ⟨_, main_part0_ops4_writes, h.1.1.1.1.2⟩, ⟨_, main_part0_ops5_writes, h.1.1.1.2⟩, ⟨_, main_part0_ops6_writes, h.1.1.2⟩, ⟨_, main_part0_ops7_writes, h.1.2⟩, ⟨_, main_part0_ops8_writes, h.2⟩⟩

/-- What these stretches write. -/
abbrev body0_W : List (Ref sig .tc) := Loop0.while0Ops0_W ++ Loop0.while0Ops0_1_W ++ Loop0.while0Ops0_2_W ++ Loop0.while0Ops0_3_W ++ Loop0.while0Ops0_4_W ++ Loop0.while0Ops0_5_W
theorem body0_keep (b : Ref sig .tc) (h : b ∉ body0_W) (V : Valuation τ sig (Elt F)) : afterL (Loop0.bodyI (F := F)) V (Proc.devRef .tc b) = V (Proc.devRef .tc b) := by
  simp only [body0_W, List.mem_append, not_or] at h
  refine afterL_keep b _ ?_ V
  simp only [List.forall_mem_cons, List.not_mem_nil, IsEmpty.forall_iff, implies_true, and_true]
  exact ⟨⟨_, Loop0.while0Ops0_writes, h.1.1.1.1.1⟩, ⟨_, Loop0.while0Ops0_1_writes, h.1.1.1.1.2⟩, ⟨_, Loop0.while0Ops0_2_writes, h.1.1.1.2⟩, ⟨_, Loop0.while0Ops0_3_writes, h.1.1.2⟩, ⟨_, Loop0.while0Ops0_4_writes, h.1.2⟩, ⟨_, Loop0.while0Ops0_5_writes, h.2⟩⟩

/-- What these stretches write. -/
abbrev pre1_W : List (Ref sig .tc) := main_part0_ops9_W ++ main_part1_ops0_W
theorem pre1_keep (b : Ref sig .tc) (h : b ∉ pre1_W) (V : Valuation τ sig (Elt F)) : afterL (Loop1.preI (F := F)) V (Proc.devRef .tc b) = V (Proc.devRef .tc b) := by
  simp only [pre1_W, List.mem_append, not_or] at h
  refine afterL_keep b _ ?_ V
  simp only [List.forall_mem_cons, List.not_mem_nil, IsEmpty.forall_iff, implies_true, and_true]
  exact ⟨⟨_, main_part0_ops9_writes, h.1⟩, ⟨_, main_part1_ops0_writes, h.2⟩⟩

/-- What these stretches write. -/
abbrev body1_W : List (Ref sig .tc) := Loop1.while1Ops0_W ++ Loop1.while1Ops0_1_W ++ Loop1.while1Ops0_2_W ++ Loop1.while1Ops0_3_W ++ Loop1.while1Ops0_4_W ++ Loop1.while1Ops0_5_W ++ Loop1.while1Ops0_6_W ++ Loop1.while1Ops0_7_W
theorem body1_keep (b : Ref sig .tc) (h : b ∉ body1_W) (V : Valuation τ sig (Elt F)) : afterL (Loop1.bodyI (F := F)) V (Proc.devRef .tc b) = V (Proc.devRef .tc b) := by
  simp only [body1_W, List.mem_append, not_or] at h
  refine afterL_keep b _ ?_ V
  simp only [List.forall_mem_cons, List.not_mem_nil, IsEmpty.forall_iff, implies_true, and_true]
  exact ⟨⟨_, Loop1.while1Ops0_writes, h.1.1.1.1.1.1.1⟩, ⟨_, Loop1.while1Ops0_1_writes, h.1.1.1.1.1.1.2⟩, ⟨_, Loop1.while1Ops0_2_writes, h.1.1.1.1.1.2⟩, ⟨_, Loop1.while1Ops0_3_writes, h.1.1.1.1.2⟩, ⟨_, Loop1.while1Ops0_4_writes, h.1.1.1.2⟩, ⟨_, Loop1.while1Ops0_5_writes, h.1.1.2⟩, ⟨_, Loop1.while1Ops0_6_writes, h.1.2⟩, ⟨_, Loop1.while1Ops0_7_writes, h.2⟩⟩

/-- What these stretches write. -/
abbrev post_W : List (Ref sig .tc) := main_part1_ops1_W ++ main_part1_ops2_W ++ main_part1_ops3_W ++ main_part2_ops0_W ++ main_part2_ops1_W ++ main_part2_ops2_W ++ main_part2_ops3_W ++ main_part2_ops4_W
theorem post_keep (b : Ref sig .tc) (h : b ∉ post_W) (V : Valuation τ sig (Elt F)) : afterL (postI (F := F)) V (Proc.devRef .tc b) = V (Proc.devRef .tc b) := by
  simp only [post_W, List.mem_append, not_or] at h
  refine afterL_keep b _ ?_ V
  simp only [List.forall_mem_cons, List.not_mem_nil, IsEmpty.forall_iff, implies_true, and_true]
  exact ⟨⟨_, main_part1_ops1_writes, h.1.1.1.1.1.1.1⟩, ⟨_, main_part1_ops2_writes, h.1.1.1.1.1.1.2⟩, ⟨_, main_part1_ops3_writes, h.1.1.1.1.1.2⟩, ⟨_, main_part2_ops0_writes, h.1.1.1.1.2⟩, ⟨_, main_part2_ops1_writes, h.1.1.1.2⟩, ⟨_, main_part2_ops2_writes, h.1.1.2⟩, ⟨_, main_part2_ops3_writes, h.1.2⟩, ⟨_, main_part2_ops4_writes, h.2⟩⟩

/-- A buffer that no operation of the program writes ends as it was launched. -/
theorem last_keep (b : Ref sig .tc) (h0 : b ∉ pre0_W) (h1 : b ∉ body0_W) (h2 : b ∉ pre1_W) (h3 : b ∉ body1_W) (h4 : b ∉ post_W)
    (h5 : b ∉ Loop0.condOps_W) (h6 : b ∉ Loop1.condOps_W) (c : Dev nD) :
    last m c (Proc.devRef .tc b) = m ((c.tc : Thread nD τ).loc b) := by
  have e5 : ∀ V : Valuation τ sig (Elt F), after Loop0.condOps V (Proc.devRef .tc b) = V (Proc.devRef .tc b) := fun V => after_of_writes_sub _ V Loop0.condOps_writes h5
  have e6 : ∀ V : Valuation τ sig (Elt F), after Loop1.condOps V (Proc.devRef .tc b) = V (Proc.devRef .tc b) := fun V => after_of_writes_sub _ V Loop1.condOps_writes h6
  rw [last, post_keep b h4, exit1, e6, Loop1.atK, atTrip_keep b e6 (body1_keep b h3), Loop1.entry, pre1_keep b h2, e5, Loop0.atK,
    atTrip_keep b e5 (body0_keep b h1), entryContents, pre0_keep b h0]

/-- The arguments are among them. -/
theorem arg_keep (b : Ref sig .tc) (h : b ∈ [main_arg0, main_arg1, main_arg2, main_arg3, main_arg4, main_arg5, main_arg6]) (c : Dev nD) :
    last m c (Proc.devRef .tc b) = m ((c.tc : Thread nD τ).loc b) := by
  have h' : ∀ b ∈ [main_arg0, main_arg1, main_arg2, main_arg3, main_arg4, main_arg5, main_arg6], b ∉ pre0_W ∧ b ∉ body0_W ∧ b ∉ pre1_W ∧ b ∉ body1_W ∧ b ∉ post_W
      ∧ b ∉ Loop0.condOps_W ∧ b ∉ Loop1.condOps_W := by decide +kernel
  obtain ⟨h0, h1, h2, h3, h4, h5, h6⟩ := h' b h
  exact last_keep m b h0 h1 h2 h3 h4 h5 h6 c

/-- The arguments end as they were launched, and every counter is zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    ⟨(h c main_arg0 rfl).trans (arg_keep m main_arg0 (by decide) c),
     (h c main_arg1 rfl).trans (arg_keep m main_arg1 (by decide) c),
     (h c main_arg2 rfl).trans (arg_keep m main_arg2 (by decide) c),
     (h c main_arg3 rfl).trans (arg_keep m main_arg3 (by decide) c),
     (h c main_arg4 rfl).trans (arg_keep m main_arg4 (by decide) c),
     (h c main_arg5 rfl).trans (arg_keep m main_arg5 (by decide) c),
     (h c main_arg6 rfl).trans (arg_keep m main_arg6 (by decide) c)⟩, sem_eq_zero_of_no_sems (by decide) r.2⟩) (run m ρ)

end Cert.ReferenceIdeal.Run

end
-- ==== Proof.Frames.lean ====
module

public import proofs.«01_k».proof.Defs
public import proofs.«01_k».proof.Proof.Gen.Kernel
public import proofs.«01_k».proof.Proof.Run
public import proofs.«01_k».proof.Proof.RefRun

/-! The three frames. The kernel's run is proved once, over any float values, and read here at the machine's words and at the
extended reals. The printed kernel and its reading over the extended reals are two copies of one program: their tables of bodies
are compared label by label. -/

@[expose] public section

set_option maxHeartbeats 0
set_option maxRecDepth 65536

noncomputable section

namespace Cert.Proof

open Idealize.ShloMosaic Idealize.ShloMosaic.TcCoe Idealize.SL.Sem

section
variable [Cert.Kernel.Facts] [Cert.KernelIdeal.Facts]

/-- The two copies of the kernels' bodies agree. -/
theorem bodies_eq : Cert.Kernel.defs₀ (F := Bits) = Cert.KernelIdeal.defs₀ (F := Bits) := by
  unfold Cert.Kernel.defs₀ Cert.KernelIdeal.defs₀
  refine congrArg Defs.onTc (funext fun ℓ => funext fun a => ?_)
  match ℓ, a with
  | 0, (t, s) => rfl
  | 1, (t, s) => rfl

/-- So do the tables the two copies of `main` run under. -/
theorem tables_eq : Cert.Kernel.defs (F := Bits) = Cert.KernelIdeal.defs (F := Bits) := by
  unfold Cert.Kernel.defs Cert.KernelIdeal.defs
  exact congrArg (Pipeline.defs _) bodies_eq

end

theorem frame_kernel : Cert.quiescent_Kernel := fun m ρ _ => by
  rw [tables_eq]
  exact (θ_run Cert.KernelIdeal.defs _ _).mono (fun _ h => h) (Cert.KernelIdeal.Gla.frame (F := Bits) m ρ)

theorem frame_ideal : Cert.quiescent_KernelIdeal := fun m ρ _ => Cert.KernelIdeal.Gla.frame (F := Ideal) m ρ

theorem frame_reference : Cert.quiescent_ReferenceIdeal := fun m ρ _ => Cert.ReferenceIdeal.Run.frame (F := Ideal) m ρ

end Cert.Proof

end
-- ==== Proof.Chunk.lean ====
module

public import proofs.«01_k».proof.Proof.Gen.KernelIdeal.Skeleton
public import Idealize.ShloMosaic.Lib.Pointwise
public import Idealize.ShloMosaic.Lib.Pipeline.ValueKit
public import Idealize.ShloMosaic.Lib.Pipeline.ReadBack

/-!
  The vectors one chunk of 64 tokens computes, forward and backward, and the four chunks of one grid step: the rows each
  chunk reads and the state before and after it.
-/

@[expose] public section

set_option maxRecDepth 16384
set_option maxHeartbeats 0

noncomputable section

namespace Cert.KernelIdeal.Gla

open Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

/-! ## One chunk of 64 tokens, as vectors -/

abbrev c0 (S : Shape) : FVec Ideal S .f32 := broadcast S (Scalar.ofBits (F := Ideal) .f32 0x00000000#32)

/-- The gate before the logistic: the low-rank input times its weights, and the bias. -/
def cPre (wu : Vec Ideal S16x256 .f32) (bu : Vec Ideal S1x256 .f32) (al : Vec Ideal S64x16 .f32) : FVec Ideal S64x256 .f32 :=
  addf (matmul dot_S64x16_S16x256_S64x256_1_0_0_1_n_n none (truncf .bf16 al bitsLt_bf16_f32) (truncf .bf16 wu bitsLt_bf16_f32)
    (constant S64x256 .f32 0x00000000#32)) (broadcastTo S64x256 bu broadcasts_S1x256_S64x256)

/-- A sixteenth of the logarithm of the logistic. -/
def cLa (pre : FVec Ideal S64x256 .f32) : FVec Ideal S64x256 .f32 :=
  mulf (subf (minimumf pre (c0 _)) (log (addf (broadcast S64x256 (Scalar.ofBits (F := Ideal) .f32 0x3F800000#32))
    (exp (subf (c0 _) (absf pre)))))) (broadcast S64x256 (Scalar.ofBits (F := Ideal) .f32 0x3D800000#32))

/-- One step of the running sum: every row from `d` on gains the row `d` above it. -/
def cUp (d : BitVec 32) (x : FVec Ideal S64x256 .f32) : FVec Ideal S64x256 .f32 :=
  addf x (select (cmpi .sge (iota .tc S64x256 32 [0] iota_S64x256_d0_w32) (broadcast S64x256 d))
    (dynamicRotate 0 d none x rotates_S64x256_d0) (c0 _))

/-- The running sum down the 64 rows. -/
def cSum (x : FVec Ideal S64x256 .f32) : FVec Ideal S64x256 .f32 :=
  cUp 32#32 (cUp 16#32 (cUp 8#32 (cUp 4#32 (cUp 2#32 (cUp 1#32 x)))))

/-- The last row. -/
def cLast (bc : FVec Ideal S64x256 .f32) : FVec Ideal S1x256 .f32 :=
  extractStridedSlice S1x256 ![63, 0] bc slices_S64x256_o63_0_S1x256

def cQt (q bc : FVec Ideal S64x256 .f32) : FVec Ideal S64x256 .f32 :=
  mulf (mulf q (broadcast S64x256 (Scalar.ofBits (F := Ideal) .f32 0x3E000000#32))) (exp bc)

def cNeg (bc : FVec Ideal S64x256 .f32) : FVec Ideal S64x256 .f32 := exp (subf (c0 _) bc)

def cEnd (bc : FVec Ideal S64x256 .f32) : FVec Ideal S64x256 .f32 :=
  exp (subf (broadcastTo S64x256 (cLast bc) broadcasts_S1x256_S64x256) bc)

def cKt (k bc : FVec Ideal S64x256 .f32) : FVec Ideal S64x256 .f32 := mulf k (cNeg bc)

def cKe (k bc : FVec Ideal S64x256 .f32) : FVec Ideal S64x256 .f32 := mulf k (cEnd bc)

def cDec (bc : FVec Ideal S64x256 .f32) : FVec Ideal S1x256 .f32 := exp (cLast bc)

/-- The 0/1 row of the lanes from `lo` to before `hi`. -/
def cMask (lo hi : BitVec 32) : FVec Ideal S1x256 .f32 :=
  sitofp .f32 (extui 32 (andi (cmpi .sge (iota .tc S1x256 32 [1] iota_S1x256_d1_w32) (broadcast S1x256 lo))
    (cmpi .slt (iota .tc S1x256 32 [1] iota_S1x256_d1_w32) (broadcast S1x256 hi))) natLt_1_32)

/-- A block kept on one head's lanes. -/
def cOn (x : FVec Ideal S64x256 .f32) (mk : FVec Ideal S1x256 .f32) : FVec Ideal S64x256 .bf16 :=
  truncf .bf16 (mulf x (broadcastTo S64x256 mk broadcasts_S1x256_S64x256)) bitsLt_bf16_f32

/-- The 0/1 lower triangle. -/
def cTril : FVec Ideal S64x64 .f32 :=
  sitofp .f32 (extui 32 (cmpi .sge (iota .tc S64x64 32 [0] iota_S64x64_d0_w32) (iota .tc S64x64 32 [1] iota_S64x64_d1_w32)) natLt_1_32)

/-- The scores of one head, lower triangle. -/
def cP (qm kt : FVec Ideal S64x256 .bf16) : FVec Ideal S64x64 .bf16 :=
  truncf .bf16 (mulf cTril (matmul dot_S64x256_S64x256_S64x64_1_1_0_0_n_n none qm kt (constant S64x64 .f32 0x00000000#32))) bitsLt_bf16_f32

/-- One head's output rows. -/
def cO (q k bc : FVec Ideal S64x256 .f32) (s : FVec Ideal S128x256 .f32) (mk : FVec Ideal S1x256 .f32) (v : FVec Ideal S64x128 .f32) :
    FVec Ideal S64x128 .f32 :=
  addf (matmul dot_S64x64_S64x128_S64x128_1_0_0_1_n_n none (cP (cOn (cQt q bc) mk) (truncf .bf16 (cKt k bc) bitsLt_bf16_f32))
      (truncf .bf16 v bitsLt_bf16_f32) (constant S64x128 .f32 0x00000000#32))
    (matmul dot_S64x256_S128x256_S64x128_1_1_0_0_n_n none (cOn (cQt q bc) mk) (truncf .bf16 s bitsLt_bf16_f32)
      (constant S64x128 .f32 0x00000000#32))

/-- One head's addition to the state. -/
def cU (ke : FVec Ideal S64x256 .f32) (mk : FVec Ideal S1x256 .f32) (v : FVec Ideal S64x128 .bf16) : FVec Ideal S128x256 .f32 :=
  matmul dot_S64x128_S64x256_S128x256_0_0_1_1_n_n none v (cOn ke mk) (constant S128x256 .f32 0x00000000#32)

abbrev tb (v : FVec Ideal S64x128 .f32) : FVec Ideal S64x128 .bf16 := truncf .bf16 v bitsLt_bf16_f32

/-- The state after a chunk. -/
def cS (k bc : FVec Ideal S64x256 .f32) (s : FVec Ideal S128x256 .f32) (v0 v1 v2 v3 : FVec Ideal S64x128 .f32) : FVec Ideal S128x256 .f32 :=
  addf (mulf (broadcastTo S128x256 (cDec bc) broadcasts_S1x256_S128x256) s)
    (addf (addf (addf (addf (c0 _) (cU (cKe k bc) (cMask 0#32 64#32) (tb v0))) (cU (cKe k bc) (cMask 64#32 128#32) (tb v1)))
      (cU (cKe k bc) (cMask 128#32 192#32) (tb v2))) (cU (cKe k bc) (cMask 192#32 256#32) (tb v3)))

/-! ## One chunk of the backward call -/

/-- One step of the running sum from below: every row before `d` gains the row `64 - d` under it. -/
def cDn (d : BitVec 32) (x : FVec Ideal S64x256 .f32) : FVec Ideal S64x256 .f32 :=
  addf x (select (cmpi .slt (iota .tc S64x256 32 [0] iota_S64x256_d0_w32) (broadcast S64x256 d))
    (dynamicRotate 0 d none x rotates_S64x256_d0) (c0 _))

/-- The running sum up the 64 rows. -/
def cRev (x : FVec Ideal S64x256 .f32) : FVec Ideal S64x256 .f32 :=
  cDn 32#32 (cDn 48#32 (cDn 56#32 (cDn 60#32 (cDn 62#32 (cDn 63#32 x)))))

abbrev tk (v : FVec Ideal S64x256 .f32) : FVec Ideal S64x256 .bf16 := truncf .bf16 v bitsLt_bf16_f32
abbrev ts (v : FVec Ideal S128x256 .f32) : FVec Ideal S128x256 .bf16 := truncf .bf16 v bitsLt_bf16_f32

/-- The gradient of one head's scores, lower triangle. -/
def cDp (dd v : FVec Ideal S64x128 .bf16) : FVec Ideal S64x64 .bf16 :=
  truncf .bf16 (mulf cTril (matmul dot_S64x128_S64x128_S64x64_1_1_0_0_n_n none dd v (constant S64x64 .f32 0x00000000#32))) bitsLt_bf16_f32

/-- The gradient of one head's value rows. -/
def cDv (q k bc : FVec Ideal S64x256 .f32) (ds : FVec Ideal S128x256 .f32) (mk : FVec Ideal S1x256 .f32) (dd : FVec Ideal S64x128 .bf16) :
    FVec Ideal S64x128 .bf16 :=
  truncf .bf16 (addf (matmul dot_S64x64_S64x128_S64x128_0_0_1_1_n_n none (cP (cOn (cQt q bc) mk) (tk (cKt k bc))) dd
      (constant S64x128 .f32 0x00000000#32))
    (matmul dot_S64x256_S128x256_S64x128_1_1_0_0_n_n none (cOn (cKe k bc) mk) (ts ds) (constant S64x128 .f32 0x00000000#32))) bitsLt_bf16_f32

/-- One head's addition to the gradient of the scaled queries. -/
def aQt (k bc : FVec Ideal S64x256 .f32) (s : FVec Ideal S128x256 .f32) (mk : FVec Ideal S1x256 .f32) (v : FVec Ideal S64x128 .f32)
    (dd : FVec Ideal S64x128 .bf16) (acc : FVec Ideal S64x256 .f32) : FVec Ideal S64x256 .f32 :=
  addf (addf acc (matmul dot_S64x64_S64x256_S64x256_1_0_0_1_n_n none (cDp dd (tb v)) (cOn (cKt k bc) mk) (constant S64x256 .f32 0x00000000#32)))
    (mulf (matmul dot_S64x128_S128x256_S64x256_1_0_0_1_n_n none dd (ts s) (constant S64x256 .f32 0x00000000#32))
      (broadcastTo S64x256 mk broadcasts_S1x256_S64x256))

/-- One head's addition to the gradient of the scaled keys. -/
def aKt (q bc : FVec Ideal S64x256 .f32) (mk : FVec Ideal S1x256 .f32) (v : FVec Ideal S64x128 .f32)
    (dd : FVec Ideal S64x128 .bf16) (acc : FVec Ideal S64x256 .f32) : FVec Ideal S64x256 .f32 :=
  addf acc (matmul dot_S64x64_S64x256_S64x256_0_0_1_1_n_n none (cDp dd (tb v)) (cOn (cQt q bc) mk) (constant S64x256 .f32 0x00000000#32))

/-- One head's addition to the gradient of the keys that enter the state. -/
def aKe (ds : FVec Ideal S128x256 .f32) (mk : FVec Ideal S1x256 .f32) (v : FVec Ideal S64x128 .f32) (acc : FVec Ideal S64x256 .f32) :
    FVec Ideal S64x256 .f32 :=
  addf acc (mulf (matmul dot_S64x128_S128x256_S64x256_1_0_0_1_n_n none (tb v) (ts ds) (constant S64x256 .f32 0x00000000#32))
    (broadcastTo S64x256 mk broadcasts_S1x256_S64x256))

def cDqt (k bc : FVec Ideal S64x256 .f32) (s : FVec Ideal S128x256 .f32) (v0 v1 v2 v3 : FVec Ideal S64x128 .f32)
    (d0 d1 d2 d3 : FVec Ideal S64x128 .bf16) : FVec Ideal S64x256 .f32 :=
  aQt k bc s (cMask 192#32 256#32) v3 d3 (aQt k bc s (cMask 128#32 192#32) v2 d2
    (aQt k bc s (cMask 64#32 128#32) v1 d1 (aQt k bc s (cMask 0#32 64#32) v0 d0 (c0 _))))

def cDkt (q bc : FVec Ideal S64x256 .f32) (v0 v1 v2 v3 : FVec Ideal S64x128 .f32)
    (d0 d1 d2 d3 : FVec Ideal S64x128 .bf16) : FVec Ideal S64x256 .f32 :=
  aKt q bc (cMask 192#32 256#32) v3 d3 (aKt q bc (cMask 128#32 192#32) v2 d2
    (aKt q bc (cMask 64#32 128#32) v1 d1 (aKt q bc (cMask 0#32 64#32) v0 d0 (c0 _))))

def cDke (ds : FVec Ideal S128x256 .f32) (v0 v1 v2 v3 : FVec Ideal S64x128 .f32) : FVec Ideal S64x256 .f32 :=
  aKe ds (cMask 192#32 256#32) v3 (aKe ds (cMask 128#32 192#32) v2 (aKe ds (cMask 64#32 128#32) v1 (aKe ds (cMask 0#32 64#32) v0 (c0 _))))

/-- The state's gradient after a chunk. -/
def cH (q bc : FVec Ideal S64x256 .f32) (ds : FVec Ideal S128x256 .f32) (d0 d1 d2 d3 : FVec Ideal S64x128 .bf16) : FVec Ideal S128x256 .f32 :=
  addf (mulf (broadcastTo S128x256 (cDec bc) broadcasts_S1x256_S128x256) ds)
    (addf (addf (addf (addf (c0 _) (cU (cQt q bc) (cMask 0#32 64#32) d0)) (cU (cQt q bc) (cMask 64#32 128#32) d1))
      (cU (cQt q bc) (cMask 128#32 192#32) d2)) (cU (cQt q bc) (cMask 192#32 256#32) d3))

def cDq (bc dqt : FVec Ideal S64x256 .f32) : FVec Ideal S64x256 .bf16 :=
  tk (mulf (mulf dqt (exp bc)) (broadcast S64x256 (Scalar.ofBits (F := Ideal) .f32 0x3E000000#32)))

def cDk (bc dkt dke : FVec Ideal S64x256 .f32) : FVec Ideal S64x256 .bf16 :=
  tk (addf (mulf dkt (cNeg bc)) (mulf dke (cEnd bc)))

/-- The sum of a block's rows. -/
def cCol (x : FVec Ideal S64x256 .f32) : FVec Ideal S1x256 .f32 :=
  shapeCast S1x256 (multiReduction .add [0] S256 x 0x00000000#32 reduces_S64x256_S256 (.inl rfl) rfl) shapeCasts_S256_S1x256

/-- What the last row's running sum receives besides its own terms. -/
def cDbl (bc dkeke : FVec Ideal S64x256 .f32) (s ds : FVec Ideal S128x256 .f32) : FVec Ideal S1x256 .f32 :=
  addf (cCol dkeke) (mulf (shapeCast S1x256 (multiReduction .add [0] S256 (mulf ds s) 0x00000000#32 reduces_S128x256_S256 (.inl rfl) rfl)
    shapeCasts_S256_S1x256) (cDec bc))

/-- The 0/1 column of the last row. -/
def cEl : FVec Ideal S64x1 .f32 :=
  sitofp .f32 (extui 32 (cmpi .eq (iota .tc S64x1 32 [0] iota_S64x1_d0_w32) (broadcast S64x1 63#32)) natLt_1_32)

/-- The gradient of the running sum, before it is summed back. -/
def cDb (q k bc dqt dkt dke : FVec Ideal S64x256 .f32) (s ds : FVec Ideal S128x256 .f32) : FVec Ideal S64x256 .f32 :=
  addf (subf (subf (mulf dqt (cQt q bc)) (mulf dkt (cKt k bc))) (mulf dke (cKe k bc)))
    (mulf (broadcastTo S64x256 cEl broadcasts_S64x1_S64x256)
      (broadcastTo S64x256 (cDbl bc (mulf dke (cKe k bc)) s ds) broadcasts_S1x256_S64x256))

/-- The gradient before the logistic. -/
def cDpre (pre db : FVec Ideal S64x256 .f32) : FVec Ideal S64x256 .f32 :=
  mulf (mulf (cRev db) (broadcast S64x256 (Scalar.ofBits (F := Ideal) .f32 0x3D800000#32))) (logistic (subf (c0 _) pre))

def cDal (wu : Vec Ideal S16x256 .f32) (dpre : FVec Ideal S64x256 .f32) : FVec Ideal S64x16 .bf16 :=
  truncf .bf16 (matmul dot_S64x256_S16x256_S64x16_1_1_0_0_n_n none (tk dpre) (truncf .bf16 wu bitsLt_bf16_f32)
    (constant S64x16 .f32 0x00000000#32)) bitsLt_bf16_f32

def cWu (al : Vec Ideal S64x16 .f32) (dpre : FVec Ideal S64x256 .f32) (acc : FVec Ideal S16x256 .f32) : FVec Ideal S16x256 .f32 :=
  addf acc (matmul dot_S64x16_S64x256_S16x256_0_0_1_1_n_n none (truncf .bf16 al bitsLt_bf16_f32) (tk dpre)
    (constant S16x256 .f32 0x00000000#32))

/-! ## The four chunks of a grid step -/

/-- The rows of chunk `j` of a block of queries or keys. -/
def rK (x : Vec Ideal S256x256 .f32) : Fin 4 → FVec Ideal S64x256 .f32 :=
  ![View.ld x (Rect.unit ![0, 0] ![64, 256] inb_S256x256_S64x256_0_0),
    View.ld x (Rect.unit ![64, 0] ![64, 256] inb_S256x256_S64x256_64_0),
    View.ld x (Rect.unit ![128, 0] ![64, 256] inb_S256x256_S64x256_128_0),
    View.ld x (Rect.unit ![192, 0] ![64, 256] inb_S256x256_S64x256_192_0)]

/-- The rows of chunk `j` of the low-rank gate input. -/
def rA (x : Vec Ideal S256x16 .f32) : Fin 4 → FVec Ideal S64x16 .f32 :=
  ![View.ld x (Rect.unit ![0, 0] ![64, 16] inb_S256x16_S64x16_0_0),
    View.ld x (Rect.unit ![64, 0] ![64, 16] inb_S256x16_S64x16_64_0),
    View.ld x (Rect.unit ![128, 0] ![64, 16] inb_S256x16_S64x16_128_0),
    View.ld x (Rect.unit ![192, 0] ![64, 16] inb_S256x16_S64x16_192_0)]

/-- The rows of chunk `j` of head `h` of a block of values. -/
def rV (x : Vec Ideal S256x512 .f32) (h : Fin 4) : Fin 4 → FVec Ideal S64x128 .f32 :=
  (![![View.ld x (Rect.unit ![0, 0] ![64, 128] inb_S256x512_S64x128_0_0),
    View.ld x (Rect.unit ![64, 0] ![64, 128] inb_S256x512_S64x128_64_0),
    View.ld x (Rect.unit ![128, 0] ![64, 128] inb_S256x512_S64x128_128_0),
    View.ld x (Rect.unit ![192, 0] ![64, 128] inb_S256x512_S64x128_192_0)], ![View.ld x (Rect.unit ![0, 128] ![64, 128] inb_S256x512_S64x128_0_128),
    View.ld x (Rect.unit ![64, 128] ![64, 128] inb_S256x512_S64x128_64_128),
    View.ld x (Rect.unit ![128, 128] ![64, 128] inb_S256x512_S64x128_128_128),
    View.ld x (Rect.unit ![192, 128] ![64, 128] inb_S256x512_S64x128_192_128)], ![View.ld x (Rect.unit ![0, 256] ![64, 128] inb_S256x512_S64x128_0_256),
    View.ld x (Rect.unit ![64, 256] ![64, 128] inb_S256x512_S64x128_64_256),
    View.ld x (Rect.unit ![128, 256] ![64, 128] inb_S256x512_S64x128_128_256),
    View.ld x (Rect.unit ![192, 256] ![64, 128] inb_S256x512_S64x128_192_256)], ![View.ld x (Rect.unit ![0, 384] ![64, 128] inb_S256x512_S64x128_0_384),
    View.ld x (Rect.unit ![64, 384] ![64, 128] inb_S256x512_S64x128_64_384),
    View.ld x (Rect.unit ![128, 384] ![64, 128] inb_S256x512_S64x128_128_384),
    View.ld x (Rect.unit ![192, 384] ![64, 128] inb_S256x512_S64x128_192_384)]] : Fin 4 → Fin 4 → FVec Ideal S64x128 .f32) h

/-- The rows of chunk `j` of head `h` of a block of output gradients. -/
def rD (x : Vec Ideal S256x512 .bf16) (h : Fin 4) : Fin 4 → FVec Ideal S64x128 .bf16 :=
  (![![View.ld x (Rect.unit ![0, 0] ![64, 128] inb_S256x512_S64x128_0_0),
    View.ld x (Rect.unit ![64, 0] ![64, 128] inb_S256x512_S64x128_64_0),
    View.ld x (Rect.unit ![128, 0] ![64, 128] inb_S256x512_S64x128_128_0),
    View.ld x (Rect.unit ![192, 0] ![64, 128] inb_S256x512_S64x128_192_0)], ![View.ld x (Rect.unit ![0, 128] ![64, 128] inb_S256x512_S64x128_0_128),
    View.ld x (Rect.unit ![64, 128] ![64, 128] inb_S256x512_S64x128_64_128),
    View.ld x (Rect.unit ![128, 128] ![64, 128] inb_S256x512_S64x128_128_128),
    View.ld x (Rect.unit ![192, 128] ![64, 128] inb_S256x512_S64x128_192_128)], ![View.ld x (Rect.unit ![0, 256] ![64, 128] inb_S256x512_S64x128_0_256),
    View.ld x (Rect.unit ![64, 256] ![64, 128] inb_S256x512_S64x128_64_256),
    View.ld x (Rect.unit ![128, 256] ![64, 128] inb_S256x512_S64x128_128_256),
    View.ld x (Rect.unit ![192, 256] ![64, 128] inb_S256x512_S64x128_192_256)], ![View.ld x (Rect.unit ![0, 384] ![64, 128] inb_S256x512_S64x128_0_384),
    View.ld x (Rect.unit ![64, 384] ![64, 128] inb_S256x512_S64x128_64_384),
    View.ld x (Rect.unit ![128, 384] ![64, 128] inb_S256x512_S64x128_128_384),
    View.ld x (Rect.unit ![192, 384] ![64, 128] inb_S256x512_S64x128_192_384)]] : Fin 4 → Fin 4 → FVec Ideal S64x128 .bf16) h

/-- The state before chunk `j`. -/
def rS (x : Vec Ideal S4x128x256 .f32) : Fin 4 → FVec Ideal S128x256 .f32 :=
  ![shapeCast S128x256 (View.ld x (Rect.unit ![0, 0, 0] ![1, 128, 256] inb_S4x128x256_S1x128x256_0_0_0)) shapeCasts_S1x128x256_S128x256,
    shapeCast S128x256 (View.ld x (Rect.unit ![1, 0, 0] ![1, 128, 256] inb_S4x128x256_S1x128x256_1_0_0)) shapeCasts_S1x128x256_S128x256,
    shapeCast S128x256 (View.ld x (Rect.unit ![2, 0, 0] ![1, 128, 256] inb_S4x128x256_S1x128x256_2_0_0)) shapeCasts_S1x128x256_S128x256,
    shapeCast S128x256 (View.ld x (Rect.unit ![3, 0, 0] ![1, 128, 256] inb_S4x128x256_S1x128x256_3_0_0)) shapeCasts_S1x128x256_S128x256]

/-- The lanes of head `h`. -/
def mkH : Fin 4 → FVec Ideal S1x256 .f32 := ![cMask 0#32 64#32, cMask 64#32 128#32, cMask 128#32 192#32, cMask 192#32 256#32]

def fPre (x3 : Vec Ideal S256x16 .f32) (x4 : Vec Ideal S16x256 .f32) (x5 : Vec Ideal S1x256 .f32) (j : Fin 4) : FVec Ideal S64x256 .f32 :=
  cPre x4 x5 (rA x3 j)

def fBc (x3 : Vec Ideal S256x16 .f32) (x4 : Vec Ideal S16x256 .f32) (x5 : Vec Ideal S1x256 .f32) (j : Fin 4) : FVec Ideal S64x256 .f32 :=
  cSum (cLa (fPre x3 x4 x5 j))

/-- The state after chunk `j`, from the one before it. -/
def fStep (x1 : Vec Ideal S256x256 .f32) (x2 : Vec Ideal S256x512 .f32) (x3 : Vec Ideal S256x16 .f32) (x4 : Vec Ideal S16x256 .f32)
    (x5 : Vec Ideal S1x256 .f32) (j : Fin 4) (s : FVec Ideal S128x256 .f32) : FVec Ideal S128x256 .f32 :=
  cS (rK x1 j) (fBc x3 x4 x5 j) s (rV x2 0 j) (rV x2 1 j) (rV x2 2 j) (rV x2 3 j)

/-- The states before each of the four chunks, and after the last. -/
def fSt (x1 : Vec Ideal S256x256 .f32) (x2 : Vec Ideal S256x512 .f32) (x3 : Vec Ideal S256x16 .f32) (x4 : Vec Ideal S16x256 .f32)
    (x5 : Vec Ideal S1x256 .f32) (s : FVec Ideal S128x256 .f32) : Fin 5 → FVec Ideal S128x256 .f32 :=
  ![s, fStep x1 x2 x3 x4 x5 0 s, fStep x1 x2 x3 x4 x5 1 (fStep x1 x2 x3 x4 x5 0 s),
    fStep x1 x2 x3 x4 x5 2 (fStep x1 x2 x3 x4 x5 1 (fStep x1 x2 x3 x4 x5 0 s)),
    fStep x1 x2 x3 x4 x5 3 (fStep x1 x2 x3 x4 x5 2 (fStep x1 x2 x3 x4 x5 1 (fStep x1 x2 x3 x4 x5 0 s)))]

/-- Head `h` of chunk `j` of the outputs. -/
def fO (x0 x1 : Vec Ideal S256x256 .f32) (x2 : Vec Ideal S256x512 .f32) (x3 : Vec Ideal S256x16 .f32) (x4 : Vec Ideal S16x256 .f32)
    (x5 : Vec Ideal S1x256 .f32) (s : FVec Ideal S128x256 .f32) (j : Fin 4) (h : Fin 4) : FVec Ideal S64x128 .f32 :=
  cO (rK x0 j) (rK x1 j) (fBc x3 x4 x5 j) (fSt x1 x2 x3 x4 x5 s j.castSucc) (mkH h) (rV x2 h j)

/-- The state's gradient before chunk `j`, from the one after it. -/
def bStep (x0 : Vec Ideal S256x256 .f32) (x3 : Vec Ideal S256x16 .f32) (x4 : Vec Ideal S16x256 .f32)
    (x5 : Vec Ideal S1x256 .f32) (x7 : Vec Ideal S256x512 .bf16) (j : Fin 4) (s : FVec Ideal S128x256 .f32) : FVec Ideal S128x256 .f32 :=
  cH (rK x0 j) (fBc x3 x4 x5 j) s (rD x7 0 j) (rD x7 1 j) (rD x7 2 j) (rD x7 3 j)

/-- The state's gradients before the first chunk and after each of the four. -/
def bSt (x0 : Vec Ideal S256x256 .f32) (x3 : Vec Ideal S256x16 .f32) (x4 : Vec Ideal S16x256 .f32)
    (x5 : Vec Ideal S1x256 .f32) (x7 : Vec Ideal S256x512 .bf16) (s : FVec Ideal S128x256 .f32) : Fin 5 → FVec Ideal S128x256 .f32 :=
  ![bStep x0 x3 x4 x5 x7 0 (bStep x0 x3 x4 x5 x7 1 (bStep x0 x3 x4 x5 x7 2 (bStep x0 x3 x4 x5 x7 3 s))),
    bStep x0 x3 x4 x5 x7 1 (bStep x0 x3 x4 x5 x7 2 (bStep x0 x3 x4 x5 x7 3 s)),
    bStep x0 x3 x4 x5 x7 2 (bStep x0 x3 x4 x5 x7 3 s), bStep x0 x3 x4 x5 x7 3 s, s]

/-- The blocks a backward step reads. -/
structure Blk where
  x0 : Vec Ideal S256x256 .f32
  x1 : Vec Ideal S256x256 .f32
  x2 : Vec Ideal S256x512 .f32
  x3 : Vec Ideal S256x16 .f32
  x4 : Vec Ideal S16x256 .f32
  x5 : Vec Ideal S1x256 .f32
  x6 : Vec Ideal S4x128x256 .f32
  x7 : Vec Ideal S256x512 .bf16

variable (B : Blk) (s : FVec Ideal S128x256 .f32) (j h : Fin 4)

/-- The gradient of the state after chunk `j`. -/
def bG : FVec Ideal S128x256 .f32 := bSt B.x0 B.x3 B.x4 B.x5 B.x7 s j.succ
def bDqt : FVec Ideal S64x256 .f32 :=
  cDqt (rK B.x1 j) (fBc B.x3 B.x4 B.x5 j) (rS B.x6 j) (rV B.x2 0 j) (rV B.x2 1 j) (rV B.x2 2 j) (rV B.x2 3 j)
    (rD B.x7 0 j) (rD B.x7 1 j) (rD B.x7 2 j) (rD B.x7 3 j)
def bDkt : FVec Ideal S64x256 .f32 :=
  cDkt (rK B.x0 j) (fBc B.x3 B.x4 B.x5 j) (rV B.x2 0 j) (rV B.x2 1 j) (rV B.x2 2 j) (rV B.x2 3 j)
    (rD B.x7 0 j) (rD B.x7 1 j) (rD B.x7 2 j) (rD B.x7 3 j)
def bDke : FVec Ideal S64x256 .f32 := cDke (bG B s j) (rV B.x2 0 j) (rV B.x2 1 j) (rV B.x2 2 j) (rV B.x2 3 j)
def bDq : FVec Ideal S64x256 .bf16 := cDq (fBc B.x3 B.x4 B.x5 j) (bDqt B j)
def bDk : FVec Ideal S64x256 .bf16 := cDk (fBc B.x3 B.x4 B.x5 j) (bDkt B j) (bDke B s j)
def bDv : FVec Ideal S64x128 .bf16 := cDv (rK B.x0 j) (rK B.x1 j) (fBc B.x3 B.x4 B.x5 j) (bG B s j) (mkH h) (rD B.x7 h j)
def bDpre : FVec Ideal S64x256 .f32 :=
  cDpre (fPre B.x3 B.x4 B.x5 j) (cDb (rK B.x0 j) (rK B.x1 j) (fBc B.x3 B.x4 B.x5 j) (bDqt B j) (bDkt B j) (bDke B s j) (rS B.x6 j) (bG B s j))
def bDal : FVec Ideal S64x16 .bf16 := cDal B.x4 (bDpre B s j)
def bWu : FVec Ideal S16x256 .f32 :=
  cWu (rA B.x3 0) (bDpre B s 0) (cWu (rA B.x3 1) (bDpre B s 1) (cWu (rA B.x3 2) (bDpre B s 2) (cWu (rA B.x3 3) (bDpre B s 3) (c0 S16x256))))
def bBu : FVec Ideal S1x256 .f32 :=
  addf (addf (addf (addf (c0 S1x256) (cCol (bDpre B s 3))) (cCol (bDpre B s 2))) (cCol (bDpre B s 1))) (cCol (bDpre B s 0))

end Cert.KernelIdeal.Gla
-- ==== Proof.Spec.lean ====
module

public import Idealize.ShloMosaic.Lib.Pointwise

/-!
  What the gated linear attention and its gradients are, element by element over the extended reals: functions of natural
  numbers (a token, a lane, a chunk of 64 tokens, a head), read from the seven inputs. Both programs are shown to return these.
-/

@[expose] public section

noncomputable section

namespace Cert.Gla

open Idealize.ShloMosaic
open Finset (range Ico)

/-- The inputs, as functions of their coordinates. -/
structure Data where
  q : ℕ → ℕ → EReal
  k : ℕ → ℕ → EReal
  v : ℕ → ℕ → EReal
  al : ℕ → ℕ → EReal
  wu : ℕ → ℕ → EReal
  bu : ℕ → EReal
  g : ℕ → ℕ → EReal

/-- One eighth and one sixteenth, as the program writes them. -/
def c8 : EReal := Ideal.ofBits .f32 0x3E000000#32
def c16 : EReal := Ideal.ofBits .f32 0x3D800000#32

/-- A sixteenth of the logarithm of the logistic. -/
def lsig (x : EReal) : EReal := (min x 0 - Ideal.log (1 + Ideal.exp (0 - FloatOps.absf (F := Ideal) (φ := .f32) x))) * c16

namespace Data

variable (D : Data)

def pre (t κ : ℕ) : EReal := ∑ i ∈ range 16, D.al t i * D.wu i κ + D.bu κ
def la (t κ : ℕ) : EReal := lsig (D.pre t κ)
def bc (n r κ : ℕ) : EReal := ∑ s ∈ range (r + 1), D.la (64 * n + s) κ
def qt (n r κ : ℕ) : EReal := D.q (64 * n + r) κ * c8 * Ideal.exp (D.bc n r κ)
def ng (n r κ : ℕ) : EReal := Ideal.exp (0 - D.bc n r κ)
def en (n r κ : ℕ) : EReal := Ideal.exp (D.bc n 63 κ - D.bc n r κ)
def kt (n r κ : ℕ) : EReal := D.k (64 * n + r) κ * D.ng n r κ
def ke (n r κ : ℕ) : EReal := D.k (64 * n + r) κ * D.en n r κ
def dec (n κ : ℕ) : EReal := Ideal.exp (D.bc n 63 κ)

/-- The state before chunk `n`. -/
def S : ℕ → ℕ → ℕ → EReal
  | 0, _, _ => 0
  | n + 1, w, κ => D.dec n κ * S n w κ + ∑ r ∈ range 64, D.v (64 * n + r) (128 * (κ / 64) + w) * D.ke n r κ

/-- The scores within a chunk, lower triangle. -/
def sc (n h r s : ℕ) : EReal := if s ≤ r then ∑ d ∈ range 64, D.qt n r (64 * h + d) * D.kt n s (64 * h + d) else 0

/-- The head outputs. -/
def o (n h r w : ℕ) : EReal :=
  ∑ s ∈ range 64, D.sc n h r s * D.v (64 * n + s) (128 * h + w) + ∑ d ∈ range 64, D.qt n r (64 * h + d) * D.S n w (64 * h + d)

/-- The state's gradient after `i` chunks from the last. -/
def H : ℕ → ℕ → ℕ → EReal
  | 0, _, _ => 0
  | i + 1, w, κ => D.dec (63 - i) κ * H i w κ + ∑ r ∈ range 64, D.g (64 * (63 - i) + r) (128 * (κ / 64) + w) * D.qt (63 - i) r κ

/-- The gradient of the scores, lower triangle. -/
def dp (n h r s : ℕ) : EReal := if s ≤ r then ∑ w ∈ range 128, D.g (64 * n + r) (128 * h + w) * D.v (64 * n + s) (128 * h + w) else 0

def dv (n h s w : ℕ) : EReal :=
  ∑ r ∈ range 64, D.sc n h r s * D.g (64 * n + r) (128 * h + w) + ∑ d ∈ range 64, D.ke n s (64 * h + d) * D.H (63 - n) w (64 * h + d)

def dqt (n r κ : ℕ) : EReal :=
  ∑ s ∈ range 64, D.dp n (κ / 64) r s * D.kt n s κ + ∑ w ∈ range 128, D.g (64 * n + r) (128 * (κ / 64) + w) * D.S n w κ
def dkt (n s κ : ℕ) : EReal := ∑ r ∈ range 64, D.dp n (κ / 64) r s * D.qt n r κ
def dke (n r κ : ℕ) : EReal := ∑ w ∈ range 128, D.v (64 * n + r) (128 * (κ / 64) + w) * D.H (63 - n) w κ
def dq (n r κ : ℕ) : EReal := D.dqt n r κ * Ideal.exp (D.bc n r κ) * c8
def dk (n r κ : ℕ) : EReal := D.dkt n r κ * D.ng n r κ + D.dke n r κ * D.en n r κ

/-- What a chunk's last running sum receives besides its own terms. -/
def dbl (n κ : ℕ) : EReal :=
  ∑ r ∈ range 64, D.dke n r κ * D.ke n r κ + (∑ w ∈ range 128, D.H (63 - n) w κ * D.S n w κ) * D.dec n κ

/-- The gradient of the running sum. -/
def db (n r κ : ℕ) : EReal :=
  D.dqt n r κ * D.qt n r κ - D.dkt n r κ * D.kt n r κ - D.dke n r κ * D.ke n r κ + (if r = 63 then D.dbl n κ else 0)
def dla (n r κ : ℕ) : EReal := ∑ s ∈ Ico r 64, D.db n s κ
def dpre (n r κ : ℕ) : EReal := D.dla n r κ * c16 * FloatOps.logistic (F := Ideal) (φ := .f32) (0 - D.pre (64 * n + r) κ)
def dal (n r i : ℕ) : EReal := ∑ κ ∈ range 256, D.dpre n r κ * D.wu i κ
/-- A chunk's part of the gradient of the gate's weights. -/
def dwuC (n i κ : ℕ) : EReal := ∑ r ∈ range 64, D.al (64 * n + r) i * D.dpre n r κ
def dbuC (n κ : ℕ) : EReal := ∑ r ∈ range 64, D.dpre n r κ
def dwu (i κ : ℕ) : EReal := ∑ n ∈ range 64, D.dwuC n i κ
def dbu (κ : ℕ) : EReal := ∑ n ∈ range 64, D.dbuC n κ

end Data

/-! ## Sums -/

/-- A sum over all lanes of what is kept on one head's lanes. -/
theorem sum_head (h : ℕ) (hh : h < 4) (f : ℕ → EReal) :
    ∑ κ ∈ range 256, (if κ / 64 = h then f κ else 0) = ∑ d ∈ range 64, f (64 * h + d) := by
  rw [← Finset.sum_filter]
  refine Finset.sum_nbij' (fun κ => κ - 64 * h) (fun d => 64 * h + d) ?_ ?_ ?_ ?_ ?_
  · intro κ hκ; simp only [Finset.mem_filter, Finset.mem_range] at hκ ⊢; omega
  · intro d hd; simp only [Finset.mem_filter, Finset.mem_range] at hd ⊢; omega
  · intro κ hκ; simp only [Finset.mem_filter, Finset.mem_range] at hκ; omega
  · intro d hd; simp only [Finset.mem_range] at hd; omega
  · intro κ hκ
    simp only [Finset.mem_filter, Finset.mem_range] at hκ
    congr 1; omega

theorem mask_mul (p : Prop) [Decidable p] (a b : EReal) : a * (if p then 1 else 0) * b = if p then a * b else 0 := by
  split <;> simp

theorem mul_mask (p : Prop) [Decidable p] (a b : EReal) : a * (b * (if p then 1 else 0)) = if p then a * b else 0 := by
  split <;> simp

/-- The running sum by doubling: a window of `2 ^ m` rows and the one above it make a window of twice the rows. -/
theorem up_window (f : ℕ → EReal) (d r : ℕ) :
    (∑ s ∈ Ico (r + 1 - d) (r + 1), f s) + (if d ≤ r then ∑ s ∈ Ico (r - d + 1 - d) (r - d + 1), f s else 0)
      = ∑ s ∈ Ico (r + 1 - (d + d)) (r + 1), f s := by
  split
  · rename_i h
    rw [add_comm, show r + 1 - (d + d) = r - d + 1 - d by omega, show r - d + 1 = r + 1 - d by omega]
    exact Finset.sum_Ico_consecutive f (by omega) (by omega)
  · rw [add_zero, show r + 1 - d = 0 by omega, show r + 1 - (d + d) = 0 by omega]

theorem dn_window (f : ℕ → EReal) (d r : ℕ) (hr : r < 64) (hd : d ≤ 64) :
    (∑ s ∈ Ico r (min 64 (r + d)), f s) + (if r < 64 - d then ∑ s ∈ Ico (r + d) (min 64 (r + d + d)), f s else 0)
      = ∑ s ∈ Ico r (min 64 (r + (d + d))), f s := by
  split
  · rename_i h
    rw [show min 64 (r + d) = r + d by omega, show r + (d + d) = r + d + d by omega]
    exact Finset.sum_Ico_consecutive f (by omega) (by omega)
  · rw [add_zero, show min 64 (r + d) = 64 by omega, show min 64 (r + (d + d)) = 64 by omega]

end Cert.Gla
-- ==== Proof.Words.lean ====
module

public import Idealize.ShloMosaic.Lib.Pointwise

/-! Comparisons of small row and lane numbers, as propositions, and the 0/1 numbers made of them. -/

@[expose] public section

noncomputable section

namespace Cert.Gla

open Idealize.ShloMosaic

theorem toInt_small (n : ℕ) (h : n < 1024) : (BitVec.ofNat 32 n).toInt = n := by
  rw [BitVec.toInt_eq_toNat_of_lt (by rw [BitVec.toNat_ofNat]; omega), BitVec.toNat_ofNat]
  omega

theorem sge_small (a b : ℕ) (ha : a < 1024) (hb : b < 1024) :
    IntOp.cmpi .sge (BitVec.ofNat 32 a) (BitVec.ofNat 32 b) = BitVec.ofBool (decide (b ≤ a)) := by
  simp [IntOp.cmpi, BitVec.sle, toInt_small, ha, hb]

theorem slt_small (a b : ℕ) (ha : a < 1024) (hb : b < 1024) :
    IntOp.cmpi .slt (BitVec.ofNat 32 a) (BitVec.ofNat 32 b) = BitVec.ofBool (decide (a < b)) := by
  simp [IntOp.cmpi, BitVec.slt, toInt_small, ha, hb]

theorem eq_small (a b : ℕ) (ha : a < 1024) (hb : b < 1024) :
    IntOp.cmpi .eq (BitVec.ofNat 32 a) (BitVec.ofNat 32 b) = BitVec.ofBool (decide (a = b)) := by
  have : (BitVec.ofNat 32 a = BitVec.ofNat 32 b) ↔ a = b := by
    constructor
    · intro h
      have := congrArg BitVec.toNat h
      simp only [BitVec.toNat_ofNat] at this
      omega
    · rintro rfl; rfl
  by_cases h : a = b
  · subst h; simp [IntOp.cmpi]
  · have h' := mt this.1 h
    simp [IntOp.cmpi, h, beq_false_of_ne h']

theorem select_bool {α : Type} (p : Prop) [Decidable p] (a b : α) :
    Scalar.select (BitVec.ofBool (decide p)) a b = if p then a else b := by
  by_cases h : p <;> simp [Scalar.select, h]

theorem sitofp_bool (p : Prop) [Decidable p] :
    FloatOps.sitofp (F := Ideal) .f32 (BitVec.setWidth 32 (BitVec.ofBool (decide p))) = if p then (1 : EReal) else 0 := by
  by_cases h : p <;> simp [h, FloatOps.sitofp]

theorem andi_bool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

end Cert.Gla
-- ==== Proof.ChunkAt.lean ====
module

public import proofs.«01_k».proof.Proof.Chunk
public import proofs.«01_k».proof.Proof.Spec
public import proofs.«01_k».proof.Proof.Words

/-! A chunk of the forward pass, element by element. -/

@[expose] public section

set_option maxRecDepth 16384
set_option maxHeartbeats 0

noncomputable section

namespace Cert.KernelIdeal.Gla

open Cert.KernelIdeal.Gen Cert.Gla
open Idealize.ShloMosaic Idealize.ShloMosaic.TcCoe Idealize.ShloMosaic.Tactic
open Finset (range Ico)

/-- A matrix whose entries are a function's values at the row and the column. -/
def Is {a b : ℕ} {φ : FTy} (X : FVec Ideal ⟨2, ![a, b]⟩ φ) (f : ℕ → ℕ → EReal) : Prop := ∀ (i : Fin a) (j : Fin b), X (ix2 i j) = f i j

theorem Is.idx {a b : ℕ} {φ : FTy} {X : FVec Ideal ⟨2, ![a, b]⟩ φ} {f : ℕ → ℕ → EReal} (h : Is X f) (x : (⟨2, ![a, b]⟩ : Shape).Idx) :
    X x = f (x 0) (x 1) := (congrArg X (eq_ix2 x)).trans (h (x 0) (x 1))

/-- A sum over the numbers below `n` from one whose terms are known. -/
theorem fsum {n : ℕ} (F : Fin n → EReal) (f : ℕ → EReal) (h : ∀ i : Fin n, F i = f i) : ∑ i, F i = ∑ i ∈ range n, f i := by
  rw [Finset.sum_range]
  exact Finset.sum_congr rfl fun i _ => h i

theorem is_c0 {a b : ℕ} : Is (c0 ⟨2, ![a, b]⟩) fun _ _ => 0 := fun i j => by pointwise

section
variable {D : Data} {n : ℕ}

theorem pre_at {wu : Vec Ideal S16x256 .f32} {bu : Vec Ideal S1x256 .f32} {al : Vec Ideal S64x16 .f32} (hw : Is (φ := .f32) wu D.wu)
    (hb : Is (φ := .f32) bu fun _ => D.bu) (ha : Is (φ := .f32) al fun r => D.al (64 * n + r)) : Is (cPre wu bu al) fun r => D.pre (64 * n + r) := fun r κ => by
  pointwise [cPre]
  rw [fsum _ (fun i => D.al (64 * n + r) i * D.wu i κ) fun i => by rw [ha, hw], hb]
  rfl

theorem la_at {pre : FVec Ideal S64x256 .f32} {f : ℕ → ℕ → EReal} (h : Is pre f) : Is (cLa pre) fun r κ => lsig (f r κ) := fun r κ => by
  pointwise [cLa]
  rw [h]
  rfl

theorem up_at (d : ℕ) (hd : d < 64) {x : FVec Ideal S64x256 .f32} {f : ℕ → ℕ → EReal} (h : Is x f) :
    Is (cUp (BitVec.ofNat 32 d) x) fun r κ => f r κ + if d ≤ r then f (r - d) κ else 0 := fun r κ => by
  pointwise [cUp]
  rw [sge_small _ _ (by omega) (by omega), select_bool, h, h]
  congr 1
  split
  · congr 1
    have := r.isLt
    simp only [BitVec.toNat_ofNat]
    omega
  · rfl

theorem bc_at {x : FVec Ideal S64x256 .f32} {f : ℕ → ℕ → EReal} (h : Is x f) :
    Is (cSum x) fun r κ => ∑ s ∈ range (r + 1), f s κ := by
  have step : ∀ (d : ℕ) (_ : d < 64) (y : FVec Ideal S64x256 .f32), (Is y fun r κ => ∑ s ∈ Ico (r + 1 - d) (r + 1), f s κ) →
      Is (cUp (BitVec.ofNat 32 d) y) fun r κ => ∑ s ∈ Ico (r + 1 - (d + d)) (r + 1), f s κ := fun d hd y hy r κ => by
    rw [up_at d hd hy r κ]
    exact up_window (fun s => f s κ) d r
  have h0 : Is x fun r κ => ∑ s ∈ Ico (r + 1 - 1) (r + 1), f s κ := fun r κ => by rw [h]; simp
  have h6 := step 32 (by omega) _ (step 16 (by omega) _ (step 8 (by omega) _ (step 4 (by omega) _ (step 2 (by omega) _ (step 1 (by omega) _ h0)))))
  intro r κ
  refine (h6 r κ).trans ?_
  dsimp only
  rw [show (r : ℕ) + 1 - (32 + 32) = 0 by omega, Finset.range_eq_Ico]

theorem qt_at {q bc : FVec Ideal S64x256 .f32} (hq : Is q fun r => D.q (64 * n + r)) (hc : Is bc (D.bc n)) : Is (cQt q bc) (D.qt n) :=
  fun r κ => by
  pointwise [cQt]
  rw [hq, hc]
  rfl

theorem ng_at {bc : FVec Ideal S64x256 .f32} (hc : Is bc (D.bc n)) : Is (cNeg bc) (D.ng n) := fun r κ => by
  pointwise [cNeg]
  rw [hc]
  simp only [Data.ng, zero_sub]

theorem en_at {bc : FVec Ideal S64x256 .f32} (hc : Is bc (D.bc n)) : Is (cEnd bc) (D.en n) := fun r κ => by
  pointwise [cEnd, cLast]
  rw [hc, hc]
  rfl

theorem kt_at {k bc : FVec Ideal S64x256 .f32} (hk : Is k fun r => D.k (64 * n + r)) (hc : Is bc (D.bc n)) : Is (cKt k bc) (D.kt n) :=
  fun r κ => by
  pointwise [cKt]
  rw [hk, ng_at hc]
  rfl

theorem ke_at {k bc : FVec Ideal S64x256 .f32} (hk : Is k fun r => D.k (64 * n + r)) (hc : Is bc (D.bc n)) : Is (cKe k bc) (D.ke n) :=
  fun r κ => by
  pointwise [cKe]
  rw [hk, en_at hc]
  rfl

theorem dec_at {bc : FVec Ideal S64x256 .f32} (hc : Is bc (D.bc n)) : Is (cDec bc) fun _ => D.dec n := fun r κ => by
  pointwise [cDec, cLast]
  rw [hc]
  rfl

theorem mask_at (lo hi : ℕ) (h1 : lo < 1024) (h2 : hi < 1024) (i : Fin 1) (κ : Fin 256) :
    cMask (BitVec.ofNat 32 lo) (BitVec.ofNat 32 hi) (ix2 i κ) = if lo ≤ (κ : ℕ) ∧ (κ : ℕ) < hi then (1 : EReal) else 0 := by
  pointwise [cMask]
  rw [sge_small _ _ (by omega) h1, slt_small _ _ (by omega) h2, andi_bool, sitofp_bool]

/-- The row of the lanes of head `h`. -/
def Mk (h : ℕ) (mk : FVec Ideal S1x256 .f32) : Prop := ∀ (i : Fin 1) (κ : Fin 256), mk (ix2 i κ) = if (κ : ℕ) / 64 = h then (1 : EReal) else 0

theorem mk_at (h : Fin 4) : Mk h (mkH h) := by
  have key : ∀ h : ℕ, h < 4 → ∀ (i : Fin 1) (κ : Fin 256), cMask (BitVec.ofNat 32 (64 * h)) (BitVec.ofNat 32 (64 * h + 64)) (ix2 i κ)
      = if (κ : ℕ) / 64 = h then (1 : EReal) else 0 := fun h hh i κ => by
    rw [mask_at _ _ (by omega) (by omega)]
    congr 1
    exact propext ⟨fun _ => by omega, fun _ => by omega⟩
  fin_cases h
  · exact key 0 (by omega)
  · exact key 1 (by omega)
  · exact key 2 (by omega)
  · exact key 3 (by omega)

theorem tril_at : Is cTril fun r s => if s ≤ r then 1 else 0 := fun r s => by
  pointwise [cTril]
  rw [sge_small _ _ (by omega) (by omega), sitofp_bool]

/-- A product over all lanes of a block kept on one head's lanes is the product over that head's lanes. -/
theorem lane_sum {h : ℕ} (hh : h < 4) {mk : FVec Ideal S1x256 .f32} (hm : Mk h mk) (A B : Fin 256 → EReal) (a b : ℕ → EReal)
    (hA : ∀ κ, A κ = a κ) (hB : ∀ κ, B κ = b κ) :
    ∑ κ : Fin 256, A κ * mk (ix2 0 κ) * B κ = ∑ d ∈ range 64, a (64 * h + d) * b (64 * h + d) := by
  rw [fsum _ (fun κ => if κ / 64 = h then a κ * b κ else 0) fun κ => by rw [hA, hB, hm, mask_mul]]
  exact sum_head h hh fun κ => a κ * b κ

theorem sc_at {h : ℕ} (hh : h < 4) {mk : FVec Ideal S1x256 .f32} (hm : Mk h mk) {qt kt : FVec Ideal S64x256 .f32} (hq : Is qt (D.qt n)) (hk : Is kt (D.kt n)) :
    Is (cP (cOn qt mk) (tk kt)) (D.sc n h) := fun r s => by
  have ht : cTril (ix2 r s) = if (s : ℕ) ≤ r then (1 : EReal) else 0 := tril_at r s
  pointwise [cP, cOn]
  rw [ht, lane_sum hh hm _ _ (D.qt n r) (D.kt n s) (fun κ => hq _ _) (fun κ => hk _ _), Data.sc]
  split
  · rw [one_mul]
  · rw [zero_mul]

theorem o_at {h : ℕ} (hh : h < 4) {mk : FVec Ideal S1x256 .f32} (hm : Mk h mk) {q k bc : FVec Ideal S64x256 .f32} {s : FVec Ideal S128x256 .f32}
    {v : FVec Ideal S64x128 .f32} (hq : Is q fun r => D.q (64 * n + r)) (hk : Is k fun r => D.k (64 * n + r)) (hc : Is bc (D.bc n))
    (hv : Is v fun r w => D.v (64 * n + r) (128 * h + w)) (hs : Is s (D.S n)) :
    Is (cO q k bc s mk v) (D.o n h) := fun r w => by
  have hP := sc_at hh hm (qt_at hq hc) (kt_at hk hc)
  pointwise [cO]
  rw [fsum _ (fun s => D.sc n h r s * D.v (64 * n + s) (128 * h + w)) fun s => by rw [hP, hv]]
  pointwise [cOn]
  rw [lane_sum hh hm _ _ (D.qt n r) (D.S n w) (fun κ => qt_at hq hc _ _) (fun κ => hs _ _)]
  rfl

/-- What a head adds to a state whose lanes are all heads': the sum over the chunk's rows on the head's lanes, nothing elsewhere. -/
theorem u_at {h : ℕ} {mk : FVec Ideal S1x256 .f32} (hm : Mk h mk) {x : FVec Ideal S64x256 .f32} {v : FVec Ideal S64x128 .bf16} {f g : ℕ → ℕ → EReal}
    (hx : Is x f) (hv : Is v fun r w => g r (128 * h + w)) :
    Is (cU x mk v) fun w κ => if κ / 64 = h then ∑ r ∈ range 64, g r (128 * (κ / 64) + w) * f r κ else 0 := fun w κ => by
  pointwise [cU, cOn]
  rw [fsum _ (fun r => if (κ : ℕ) / 64 = h then g r (128 * h + w) * f r κ else 0) fun r => by rw [hv, hx, hm, mul_mask]]
  split
  · rename_i e; rw [e]
  · simp

/-- Of the four heads' parts one is there. -/
theorem heads (κ : Fin 256) (f : EReal) :
    (if (κ : ℕ) / 64 = 0 then f else 0) + (if (κ : ℕ) / 64 = 1 then f else 0) + (if (κ : ℕ) / 64 = 2 then f else 0)
      + (if (κ : ℕ) / 64 = 3 then f else 0) = f := by
  have : (κ : ℕ) / 64 = 0 ∨ (κ : ℕ) / 64 = 1 ∨ (κ : ℕ) / 64 = 2 ∨ (κ : ℕ) / 64 = 3 := by omega
  rcases this with h | h | h | h <;> simp [h]

theorem state_at {x bc : FVec Ideal S64x256 .f32} {s : FVec Ideal S128x256 .f32} {v0 v1 v2 v3 : FVec Ideal S64x128 .bf16} {f g : ℕ → ℕ → EReal} {S : ℕ → ℕ → EReal}
    (hc : Is bc (D.bc n)) (hx : Is x f) (h0 : Is v0 fun r w => g r (128 * 0 + w)) (h1 : Is v1 fun r w => g r (128 * 1 + w))
    (h2 : Is v2 fun r w => g r (128 * 2 + w)) (h3 : Is v3 fun r w => g r (128 * 3 + w)) (hs : Is s S) :
    Is (addf (mulf (broadcastTo S128x256 (cDec bc) broadcasts_S1x256_S128x256) s)
      (addf (addf (addf (addf (c0 _) (cU x (mkH 0) v0)) (cU x (mkH 1) v1)) (cU x (mkH 2) v2)) (cU x (mkH 3) v3)))
      fun w κ => D.dec n κ * S w κ + ∑ r ∈ range 64, g r (128 * (κ / 64) + w) * f r κ := fun w κ => by
  pointwise
  rw [u_at (mk_at 0) hx h0, u_at (mk_at 1) hx h1, u_at (mk_at 2) hx h2, u_at (mk_at 3) hx h3, dec_at hc, hs]
  exact congrArg _ (heads κ _)

theorem S_at {k bc : FVec Ideal S64x256 .f32} {s : FVec Ideal S128x256 .f32} {v0 v1 v2 v3 : FVec Ideal S64x128 .f32}
    (hk : Is k fun r => D.k (64 * n + r)) (hc : Is bc (D.bc n)) (h0 : Is v0 fun r w => D.v (64 * n + r) (128 * 0 + w))
    (h1 : Is v1 fun r w => D.v (64 * n + r) (128 * 1 + w)) (h2 : Is v2 fun r w => D.v (64 * n + r) (128 * 2 + w))
    (h3 : Is v3 fun r w => D.v (64 * n + r) (128 * 3 + w)) (hs : Is s (D.S n)) : Is (cS k bc s v0 v1 v2 v3) (D.S (n + 1)) :=
  state_at (v0 := tb v0) (v1 := tb v1) (v2 := tb v2) (v3 := tb v3) (g := fun r => D.v (64 * n + r)) hc (ke_at hk hc) h0 h1 h2 h3 hs

end

end Cert.KernelIdeal.Gla
-- ==== Proof.ChunkAt2.lean ====
module

public import proofs.«01_k».proof.Proof.ChunkAt
public import proofs.«01_k».proof.Proof.Spec
public import proofs.«01_k».proof.Proof.Words

/-! A chunk of the backward pass, element by element. -/

@[expose] public section

set_option maxRecDepth 16384
set_option maxHeartbeats 0

noncomputable section

namespace Cert.KernelIdeal.Gla

open Cert.KernelIdeal.Gen Cert.Gla
open Idealize.ShloMosaic Idealize.ShloMosaic.TcCoe Idealize.ShloMosaic.Tactic
open Finset (range Ico)

section
variable {D : Data} {n : ℕ}

theorem dn_at (d : ℕ) (hd : d < 64) (hd0 : 0 < d) {x : FVec Ideal S64x256 .f32} {f : ℕ → ℕ → EReal} (h : Is x f) :
    Is (cDn (BitVec.ofNat 32 (64 - d)) x) fun r κ => f r κ + if r < 64 - d then f (r + d) κ else 0 := fun r κ => by
  pointwise [cDn]
  rw [slt_small _ _ (by omega) (by omega), select_bool, h, h]
  congr 1
  split
  · congr 1
    have := r.isLt
    simp only [BitVec.toNat_ofNat]
    omega
  · rfl

theorem rev_at {x : FVec Ideal S64x256 .f32} {f : ℕ → ℕ → EReal} (h : Is x f) :
    Is (cRev x) fun r κ => ∑ s ∈ Ico r 64, f s κ := by
  have step : ∀ (d : ℕ) (_ : d < 64) (_ : 0 < d) (y : FVec Ideal S64x256 .f32), (Is y fun r κ => ∑ s ∈ Ico r (min 64 (r + d)), f s κ) →
      Is (cDn (BitVec.ofNat 32 (64 - d)) y) fun r κ => ∑ s ∈ Ico r (min 64 (r + (d + d))), f s κ := fun d hd h0 y hy r κ => by
    rw [dn_at d hd h0 hy r κ]
    exact dn_window (fun s => f s κ) d r r.isLt (by omega)
  have h0 : Is x fun r κ => ∑ s ∈ Ico r (min 64 (r + 1)), f s κ := fun r κ => by
    rw [h]
    dsimp only
    rw [show min 64 ((r : ℕ) + 1) = r + 1 by omega]
    simp
  have h6 := step 32 (by omega) (by omega) _ (step 16 (by omega) (by omega) _ (step 8 (by omega) (by omega) _
    (step 4 (by omega) (by omega) _ (step 2 (by omega) (by omega) _ (step 1 (by omega) (by omega) _ h0)))))
  intro r κ
  refine (h6 r κ).trans ?_
  dsimp only
  rw [show min 64 ((r : ℕ) + (32 + 32)) = 64 by omega]

theorem dp_at {h : ℕ} {dd v : FVec Ideal S64x128 .bf16} (hd : Is dd fun r w => D.g (64 * n + r) (128 * h + w))
    (hv : Is v fun r w => D.v (64 * n + r) (128 * h + w)) : Is (cDp dd v) (D.dp n h) := fun r s => by
  have ht : cTril (ix2 r s) = if (s : ℕ) ≤ r then (1 : EReal) else 0 := tril_at r s
  pointwise [cDp]
  rw [ht, fsum _ (fun w => D.g (64 * n + r) (128 * h + w) * D.v (64 * n + s) (128 * h + w)) fun w => by rw [hd, hv], Data.dp]
  split
  · rw [one_mul]
  · rw [zero_mul]

theorem dv_at {h : ℕ} (hh : h < 4) {mk : FVec Ideal S1x256 .f32} (hm : Mk h mk) {q k bc : FVec Ideal S64x256 .f32} {s : FVec Ideal S128x256 .f32}
    {dd : FVec Ideal S64x128 .bf16} (hq : Is q fun r => D.q (64 * n + r)) (hk : Is k fun r => D.k (64 * n + r)) (hc : Is bc (D.bc n))
    (hd : Is dd fun r w => D.g (64 * n + r) (128 * h + w)) (hs : Is s (D.H (63 - n))) :
    Is (cDv q k bc s mk dd) (D.dv n h) := fun r w => by
  have hP := sc_at hh hm (qt_at hq hc) (kt_at hk hc)
  pointwise [cDv]
  rw [fsum _ (fun t => D.sc n h t r * D.g (64 * n + t) (128 * h + w)) fun t => by rw [hP, hd]]
  pointwise [cOn]
  rw [lane_sum hh hm _ _ (D.ke n r) (D.H (63 - n) w) (fun κ => ke_at hk hc _ _) (fun κ => hs _ _)]
  rfl

theorem aQt_at {h : ℕ} {mk : FVec Ideal S1x256 .f32} (hm : Mk h mk) {k bc acc : FVec Ideal S64x256 .f32} {s : FVec Ideal S128x256 .f32}
    {v : FVec Ideal S64x128 .f32} {dd : FVec Ideal S64x128 .bf16} {f : ℕ → ℕ → EReal}
    (hk : Is k fun r => D.k (64 * n + r)) (hc : Is bc (D.bc n)) (hs : Is s (D.S n)) (hv : Is v fun r w => D.v (64 * n + r) (128 * h + w))
    (hd : Is dd fun r w => D.g (64 * n + r) (128 * h + w)) (ha : Is acc f) :
    Is (aQt k bc s mk v dd acc) fun r κ => f r κ + (if κ / 64 = h then ∑ t ∈ range 64, D.dp n (κ / 64) r t * D.kt n t κ else 0)
      + (if κ / 64 = h then ∑ w ∈ range 128, D.g (64 * n + r) (128 * (κ / 64) + w) * D.S n w κ else 0) := fun r κ => by
  have hP : Is (cDp dd (tb v)) (D.dp n h) := dp_at hd (v := tb v) hv
  have hK := kt_at hk hc
  pointwise [aQt, cOn]
  rw [fsum _ (fun t => if (κ : ℕ) / 64 = h then D.dp n h r t * D.kt n t κ else 0) fun t => by rw [hP, hK, hm, mul_mask],
    fsum _ (fun w => D.g (64 * n + r) (128 * h + w) * D.S n w κ) fun w => by rw [hd, hs], hm, ha]
  split
  · rename_i e; rw [e, mul_one]
  · simp

theorem aKt_at {h : ℕ} {mk : FVec Ideal S1x256 .f32} (hm : Mk h mk) {q bc acc : FVec Ideal S64x256 .f32}
    {v : FVec Ideal S64x128 .f32} {dd : FVec Ideal S64x128 .bf16} {f : ℕ → ℕ → EReal}
    (hq : Is q fun r => D.q (64 * n + r)) (hc : Is bc (D.bc n)) (hv : Is v fun r w => D.v (64 * n + r) (128 * h + w))
    (hd : Is dd fun r w => D.g (64 * n + r) (128 * h + w)) (ha : Is acc f) :
    Is (aKt q bc mk v dd acc) fun r κ => f r κ + if κ / 64 = h then ∑ t ∈ range 64, D.dp n (κ / 64) t r * D.qt n t κ else 0 := fun r κ => by
  have hP : Is (cDp dd (tb v)) (D.dp n h) := dp_at hd (v := tb v) hv
  have hQ := qt_at hq hc
  pointwise [aKt, cOn]
  rw [fsum _ (fun t => if (κ : ℕ) / 64 = h then D.dp n h t r * D.qt n t κ else 0) fun t => by rw [hP, hQ, hm, mul_mask], ha]
  split
  · rename_i e; rw [e]
  · simp

theorem aKe_at {h : ℕ} {mk : FVec Ideal S1x256 .f32} (hm : Mk h mk) {acc : FVec Ideal S64x256 .f32} {s : FVec Ideal S128x256 .f32}
    {v : FVec Ideal S64x128 .f32} {f : ℕ → ℕ → EReal} (hs : Is s (D.H (63 - n)))
    (hv : Is v fun r w => D.v (64 * n + r) (128 * h + w)) (ha : Is acc f) :
    Is (aKe s mk v acc) fun r κ => f r κ
      + if κ / 64 = h then ∑ w ∈ range 128, D.v (64 * n + r) (128 * (κ / 64) + w) * D.H (63 - n) w κ else 0 := fun r κ => by
  pointwise [aKe]
  rw [fsum _ (fun w => D.v (64 * n + r) (128 * h + w) * D.H (63 - n) w κ) fun w => by rw [hv, hs], hm, ha]
  split
  · rename_i e; rw [e, mul_one]
  · simp

theorem heads0 (κ : Fin 256) (f : EReal) :
    0 + (if (κ : ℕ) / 64 = 0 then f else 0) + (if (κ : ℕ) / 64 = 1 then f else 0) + (if (κ : ℕ) / 64 = 2 then f else 0)
      + (if (κ : ℕ) / 64 = 3 then f else 0) = f := by
  rw [zero_add]
  exact heads κ f

/-- Of the four heads' two parts one pair is there. -/
theorem heads2 (κ : Fin 256) (f g : EReal) :
    0 + (if (κ : ℕ) / 64 = 0 then f else 0) + (if (κ : ℕ) / 64 = 0 then g else 0)
      + (if (κ : ℕ) / 64 = 1 then f else 0) + (if (κ : ℕ) / 64 = 1 then g else 0)
      + (if (κ : ℕ) / 64 = 2 then f else 0) + (if (κ : ℕ) / 64 = 2 then g else 0)
      + (if (κ : ℕ) / 64 = 3 then f else 0) + (if (κ : ℕ) / 64 = 3 then g else 0) = f + g := by
  have : (κ : ℕ) / 64 = 0 ∨ (κ : ℕ) / 64 = 1 ∨ (κ : ℕ) / 64 = 2 ∨ (κ : ℕ) / 64 = 3 := by omega
  rcases this with h | h | h | h <;> simp [h]

variable {q k bc : FVec Ideal S64x256 .f32} {s ds : FVec Ideal S128x256 .f32} {v : Fin 4 → FVec Ideal S64x128 .f32}
  {dd : Fin 4 → FVec Ideal S64x128 .bf16}

/-- The rows of head `h` of chunk `n` of a function of the token and the column. -/
def Is4 {φ : FTy} (n : ℕ) (v : Fin 4 → FVec Ideal S64x128 φ) (g : ℕ → ℕ → EReal) : Prop :=
  ∀ h : Fin 4, Is (v h) fun r w => g (64 * n + r) (128 * h + w)

theorem dqt_at (hk : Is k fun r => D.k (64 * n + r)) (hc : Is bc (D.bc n)) (hs : Is s (D.S n)) (hv : Is4 n v D.v) (hd : Is4 n dd D.g) :
    Is (cDqt k bc s (v 0) (v 1) (v 2) (v 3) (dd 0) (dd 1) (dd 2) (dd 3)) (D.dqt n) := fun r κ =>
  (aQt_at (mk_at 3) hk hc hs (hv 3) (hd 3) (aQt_at (mk_at 2) hk hc hs (hv 2) (hd 2) (aQt_at (mk_at 1) hk hc hs (hv 1) (hd 1)
    (aQt_at (mk_at 0) hk hc hs (hv 0) (hd 0) is_c0))) r κ).trans (heads2 κ _ _)

theorem dkt_at (hq : Is q fun r => D.q (64 * n + r)) (hc : Is bc (D.bc n)) (hv : Is4 n v D.v) (hd : Is4 n dd D.g) :
    Is (cDkt q bc (v 0) (v 1) (v 2) (v 3) (dd 0) (dd 1) (dd 2) (dd 3)) (D.dkt n) := fun r κ =>
  ((aKt_at (mk_at 3) hq hc (hv 3) (hd 3) (aKt_at (mk_at 2) hq hc (hv 2) (hd 2) (aKt_at (mk_at 1) hq hc (hv 1) (hd 1)
    (aKt_at (mk_at 0) hq hc (hv 0) (hd 0) is_c0))) r κ)).trans (heads0 κ _)

theorem dke_at (hs : Is ds (D.H (63 - n))) (hv : Is4 n v D.v) : Is (cDke ds (v 0) (v 1) (v 2) (v 3)) (D.dke n) := fun r κ =>
  ((aKe_at (mk_at 3) hs (hv 3) (aKe_at (mk_at 2) hs (hv 2) (aKe_at (mk_at 1) hs (hv 1)
    (aKe_at (mk_at 0) hs (hv 0) is_c0))) r κ)).trans (heads0 κ _)

theorem H_at (hn : n ≤ 63) (hq : Is q fun r => D.q (64 * n + r)) (hc : Is bc (D.bc n)) (hd : Is4 n dd D.g) (hs : Is ds (D.H (63 - n))) :
    Is (cH q bc ds (dd 0) (dd 1) (dd 2) (dd 3)) (D.H (63 - n + 1)) := fun w κ => by
  refine (state_at (g := fun r => D.g (64 * n + r)) hc (qt_at hq hc) (hd 0) (hd 1) (hd 2) (hd 3) hs w κ).trans ?_
  rw [Data.H, show 63 - (63 - n) = n by omega]

theorem dq_at (hc : Is bc (D.bc n)) {x : FVec Ideal S64x256 .f32} (hx : Is x (D.dqt n)) : Is (cDq bc x) (D.dq n) := fun r κ => by
  pointwise [cDq]
  rw [hx, hc]
  rfl

theorem dk_at (hc : Is bc (D.bc n)) {x y : FVec Ideal S64x256 .f32} (hx : Is x (D.dkt n)) (hy : Is y (D.dke n)) : Is (cDk bc x y) (D.dk n) :=
  fun r κ => by
  pointwise [cDk]
  rw [hx, hy, ng_at hc, en_at hc]
  rfl

theorem col_at {x : FVec Ideal S64x256 .f32} {f : ℕ → ℕ → EReal} (hx : Is x f) : Is (cCol x) fun _ κ => ∑ r ∈ range 64, f r κ := fun i κ => by
  pointwise [cCol]
  exact fsum _ _ fun r => hx _ _

theorem dbl_at (hc : Is bc (D.bc n)) {x : FVec Ideal S64x256 .f32} (hx : Is x fun r κ => D.dke n r κ * D.ke n r κ) (hs : Is s (D.S n))
    (hd : Is ds (D.H (63 - n))) : Is (cDbl bc x s ds) fun _ => D.dbl n := fun i κ => by
  pointwise [cDbl]
  rw [col_at hx, dec_at hc, fsum _ (fun w => D.H (63 - n) w κ * D.S n w κ) fun w => by rw [hs, hd]]
  rfl

theorem el_at : Is cEl fun r _ => if r = 63 then 1 else 0 := fun r i => by
  pointwise [cEl]
  rw [eq_small _ _ (by omega) (by omega), sitofp_bool]

theorem db_at (hq : Is q fun r => D.q (64 * n + r)) (hk : Is k fun r => D.k (64 * n + r)) (hc : Is bc (D.bc n)) (hs : Is s (D.S n))
    (hds : Is ds (D.H (63 - n))) {x y z : FVec Ideal S64x256 .f32} (hx : Is x (D.dqt n)) (hy : Is y (D.dkt n)) (hz : Is z (D.dke n)) :
    Is (cDb q k bc x y z s ds) (D.db n) := fun r κ => by
  have he : ∀ i : Fin 1, cEl (ix2 r i) = if (r : ℕ) = 63 then (1 : EReal) else 0 := fun i => el_at r i
  have hm : Is (mulf z (cKe k bc)) fun r κ => D.dke n r κ * D.ke n r κ := fun r κ => by pointwise; rw [hz, ke_at hk hc]
  have hb := dbl_at hc hm hs hds
  pointwise [cDb]
  rw [hx, hy, hz, qt_at hq hc, kt_at hk hc, ke_at hk hc, he, hb, Data.db]
  congr 1
  split
  · rw [one_mul]
  · rw [zero_mul]

theorem dpre_at {pre db : FVec Ideal S64x256 .f32} (hp : Is pre fun r => D.pre (64 * n + r)) (hd : Is db (D.db n)) : Is (cDpre pre db) (D.dpre n) :=
  fun r κ => by
  pointwise [cDpre]
  rw [rev_at hd, hp]
  simp only [Data.dpre, zero_sub]
  rfl

theorem dal_at {wu : Vec Ideal S16x256 .f32} {x : FVec Ideal S64x256 .f32} (hw : Is (φ := .f32) wu D.wu) (hx : Is x (D.dpre n)) : Is (cDal wu x) (D.dal n) :=
  fun r i => by
  pointwise [cDal]
  exact fsum _ (fun κ => D.dpre n r κ * D.wu i κ) fun κ => by rw [hx, hw]

theorem wu_at {al : Vec Ideal S64x16 .f32} {x : FVec Ideal S64x256 .f32} {acc : FVec Ideal S16x256 .f32} {f : ℕ → ℕ → EReal}
    (ha : Is (φ := .f32) al fun r => D.al (64 * n + r)) (hx : Is x (D.dpre n)) (hf : Is acc f) : Is (cWu al x acc) fun i κ => f i κ + D.dwuC n i κ := fun i κ => by
  pointwise [cWu]
  rw [hf, fsum _ (fun r => D.al (64 * n + r) i * D.dpre n r κ) fun r => by rw [ha, hx]]
  rfl

end

end Cert.KernelIdeal.Gla
-- ==== Proof.Block.lean ====
module

public import proofs.«01_k».proof.Proof.ChunkAt2
public import Idealize.ShloMosaic.Lib.Ring
public import proofs.«01_k».proof.Proof.Spec
public import proofs.«01_k».proof.Proof.Words

/-! What one grid step stores, forward and backward: the blocks as lists of stored pieces, and each block element by element. -/

@[expose] public section

set_option maxRecDepth 16384
set_option maxHeartbeats 0

noncomputable section

namespace Cert.KernelIdeal.Gla

open Cert.KernelIdeal.Gen Cert.Gla
open Idealize.ShloMosaic Idealize.ShloMosaic.TcCoe Idealize.ShloMosaic.Tactic
open Finset (range Ico)

/-! ## Pieces -/

section
variable {T : ℕ}

theorem piece_rows {W : ℕ} {φ : FTy} {o : ℕ} (j : Fin 4) (ho : o = 64 * (j : ℕ)) (F : ℕ → ℕ → ℕ → EReal) (P : FVec Ideal ⟨2, ![64, W]⟩ φ)
    (hP : Is P (F (4 * T + j))) (inb) (x : (⟨2, ![64, W]⟩ : Shape).Idx) :
    P x = (fun y : (⟨2, ![256, W]⟩ : Shape).Idx => F (4 * T + (y 0 : ℕ) / 64) ((y 0 : ℕ) % 64) (y 1))
      ((Rect.unit (s := ⟨2, ![256, W]⟩) ![o, 0] ![64, W] inb).emb x) := by
  subst ho
  rw [hP.idx]
  have h0 : (((Rect.unit (s := ⟨2, ![256, W]⟩) ![64 * (j : ℕ), 0] ![64, W] inb).emb x) 0 : ℕ) = 64 * (j : ℕ) + (x 0 : ℕ) := Rect.idx_unit_val _ _ inb x 0
  have h1 : (((Rect.unit (s := ⟨2, ![256, W]⟩) ![64 * (j : ℕ), 0] ![64, W] inb).emb x) 1 : ℕ) = 0 + (x 1 : ℕ) := Rect.idx_unit_val _ _ inb x 1
  have hx : (x 0 : ℕ) < 64 := (x 0).isLt
  dsimp only
  rw [h0, h1, show (64 * (j : ℕ) + (x 0 : ℕ)) / 64 = (j : ℕ) by omega, show (64 * (j : ℕ) + (x 0 : ℕ)) % 64 = (x 0 : ℕ) by omega, zero_add]

theorem piece_head {φ : FTy} {o p : ℕ} (j h : Fin 4) (ho : o = 64 * (j : ℕ)) (hp : p = 128 * (h : ℕ)) (F : ℕ → ℕ → ℕ → ℕ → EReal)
    (P : FVec Ideal S64x128 φ) (hP : Is P (F (4 * T + j) h)) (inb) (x : S64x128.Idx) :
    P x = (fun y : S256x512.Idx => F (4 * T + (y 0 : ℕ) / 64) ((y 1 : ℕ) / 128) ((y 0 : ℕ) % 64) ((y 1 : ℕ) % 128))
      ((Rect.unit (s := S256x512) ![o, p] ![64, 128] inb).emb x) := by
  subst ho hp
  rw [hP.idx]
  have h0 : (((Rect.unit (s := S256x512) ![64 * (j : ℕ), 128 * (h : ℕ)] ![64, 128] inb).emb x) 0 : ℕ) = 64 * (j : ℕ) + (x 0 : ℕ) := Rect.idx_unit_val _ _ inb x 0
  have h1 : (((Rect.unit (s := S256x512) ![64 * (j : ℕ), 128 * (h : ℕ)] ![64, 128] inb).emb x) 1 : ℕ) = 128 * (h : ℕ) + (x 1 : ℕ) := Rect.idx_unit_val _ _ inb x 1
  have hx : (x 0 : ℕ) < 64 := (x 0).isLt
  have hy : (x 1 : ℕ) < 128 := (x 1).isLt
  dsimp only
  rw [h0, h1, show (64 * (j : ℕ) + (x 0 : ℕ)) / 64 = (j : ℕ) by omega, show (64 * (j : ℕ) + (x 0 : ℕ)) % 64 = (x 0 : ℕ) by omega,
    show (128 * (h : ℕ) + (x 1 : ℕ)) / 128 = (h : ℕ) by omega, show (128 * (h : ℕ) + (x 1 : ℕ)) % 128 = (x 1 : ℕ) by omega]

theorem piece_state {o : ℕ} (j : Fin 4) (ho : o = (j : ℕ)) (F : ℕ → ℕ → ℕ → EReal) (P : FVec Ideal S128x256 .f32) (hP : Is P (F (4 * T + j))) (inb) (x : S1x128x256.Idx) :
    shapeCast S1x128x256 P shapeCasts_S128x256_S1x128x256 x = (fun y : S4x128x256.Idx => F (4 * T + (y 0 : ℕ)) (y 1) (y 2))
      ((Rect.unit (s := S4x128x256) ![o, 0, 0] ![1, 128, 256] inb).emb x) := by
  subst ho
  have h0 : (((Rect.unit (s := S4x128x256) ![(j : ℕ), 0, 0] ![1, 128, 256] inb).emb x) 0 : ℕ) = (j : ℕ) + (x 0 : ℕ) := Rect.idx_unit_val _ _ inb x 0
  have h1 : (((Rect.unit (s := S4x128x256) ![(j : ℕ), 0, 0] ![1, 128, 256] inb).emb x) 1 : ℕ) = 0 + (x 1 : ℕ) := Rect.idx_unit_val _ _ inb x 1
  have h2 : (((Rect.unit (s := S4x128x256) ![(j : ℕ), 0, 0] ![1, 128, 256] inb).emb x) 2 : ℕ) = 0 + (x 2 : ℕ) := Rect.idx_unit_val _ _ inb x 2
  have hx : (x 0 : ℕ) < 1 := (x 0).isLt
  dsimp only
  rw [h0, h1, h2, show (j : ℕ) + (x 0 : ℕ) = j by omega, zero_add, zero_add]
  obtain ⟨a, b, c, rfl⟩ : ∃ (a : Fin 1) (b : Fin 128) (c : Fin 256), x = ix3 a b c := ⟨x 0, x 1, x 2, eq_ix3 x⟩
  pointwise
  exact hP b c

/-! ## The blocks a step reads, and the chunks of them -/

/-- The blocks of step `T`: 256 tokens of the queries, keys, values and low-rank gate input; the gate's weights and bias. -/
structure IsIn (D : Data) (T : ℕ) (x0 x1 : Vec Ideal S256x256 .f32) (x2 : Vec Ideal S256x512 .f32) (x3 : Vec Ideal S256x16 .f32)
    (x4 : Vec Ideal S16x256 .f32) (x5 : Vec Ideal S1x256 .f32) : Prop where
  q : Is (φ := .f32) x0 fun r => D.q (256 * T + r)
  k : Is (φ := .f32) x1 fun r => D.k (256 * T + r)
  v : Is (φ := .f32) x2 fun r => D.v (256 * T + r)
  al : Is (φ := .f32) x3 fun r => D.al (256 * T + r)
  wu : Is (φ := .f32) x4 D.wu
  bu : Is (φ := .f32) x5 fun _ => D.bu

/-- Sixty-four rows of a block, from row `64 j` and column `c`. -/
theorem ld_idx {W V : ℕ} {e : EltTy} (x : (⟨2, ![256, W]⟩ : Shape).Idx → Elt Ideal e) (j c : ℕ) (inb) (r : Fin 64) (κ : Fin V) :
    ∃ (a : Fin 256) (b : Fin W), (a : ℕ) = 64 * j + r ∧ (b : ℕ) = c + κ
      ∧ View.ld x (Rect.unit (s := ⟨2, ![256, W]⟩) ![64 * j, c] ![64, V] inb) (ix2 r κ) = x (ix2 a b) :=
  ⟨((Rect.unit (s := ⟨2, ![256, W]⟩) ![64 * j, c] ![64, V] inb).idx (ix2 r κ)) 0,
    ((Rect.unit (s := ⟨2, ![256, W]⟩) ![64 * j, c] ![64, V] inb).idx (ix2 r κ)) 1,
    Rect.idx_unit_val _ _ inb _ 0, Rect.idx_unit_val _ _ inb _ 1, congrArg x (eq_ix2 _)⟩

theorem ld_at {W V : ℕ} {x : Vec Ideal ⟨2, ![256, W]⟩ .f32} {f : ℕ → ℕ → EReal} (h : Is (φ := .f32) x fun r => f (256 * T + r)) (j c : ℕ) (inb) :
    Is (a := 64) (b := V) (φ := .f32) (View.ld x (Rect.unit (s := ⟨2, ![256, W]⟩) ![64 * j, c] ![64, V] inb))
      fun r w => f (64 * (4 * T + j) + r) (c + w) := fun r κ => by
  obtain ⟨a, b, ha, hb, e⟩ := ld_idx x j c inb r κ
  refine e.trans ((h a b).trans ?_)
  dsimp only
  rw [ha, hb, show 256 * T + (64 * j + (r : ℕ)) = 64 * (4 * T + j) + r by omega]

theorem ldb_at {W V : ℕ} {x : Vec Ideal ⟨2, ![256, W]⟩ .bf16} {f : ℕ → ℕ → EReal} (h : Is (φ := .bf16) x fun r => f (256 * T + r)) (j c : ℕ) (inb) :
    Is (a := 64) (b := V) (φ := .bf16) (View.ld x (Rect.unit (s := ⟨2, ![256, W]⟩) ![64 * j, c] ![64, V] inb))
      fun r w => f (64 * (4 * T + j) + r) (c + w) := fun r κ => by
  obtain ⟨a, b, ha, hb, e⟩ := ld_idx x j c inb r κ
  refine e.trans ((h a b).trans ?_)
  dsimp only
  rw [ha, hb, show 256 * T + (64 * j + (r : ℕ)) = 64 * (4 * T + j) + r by omega]

theorem rK_at {x : Vec Ideal S256x256 .f32} {f : ℕ → ℕ → EReal} (h : Is (φ := .f32) x fun r => f (256 * T + r)) (j : Fin 4) :
    Is (rK x j) fun r => f (64 * (4 * T + j) + r) := by
  have key : Is (rK x j) fun r w => f (64 * (4 * T + j) + r) (0 + w) := by
    fin_cases j
    exacts [ld_at h 0 0 _, ld_at h 1 0 _, ld_at h 2 0 _, ld_at h 3 0 _]
  simpa only [zero_add] using key

theorem rA_at {x : Vec Ideal S256x16 .f32} {f : ℕ → ℕ → EReal} (h : Is (φ := .f32) x fun r => f (256 * T + r)) (j : Fin 4) :
    Is (rA x j) fun r => f (64 * (4 * T + j) + r) := by
  have key : Is (rA x j) fun r w => f (64 * (4 * T + j) + r) (0 + w) := by
    fin_cases j
    exacts [ld_at h 0 0 _, ld_at h 1 0 _, ld_at h 2 0 _, ld_at h 3 0 _]
  simpa only [zero_add] using key

theorem rV_at {x : Vec Ideal S256x512 .f32} {f : ℕ → ℕ → EReal} (h : Is (φ := .f32) x fun r => f (256 * T + r)) (j : Fin 4) :
    Is4 (4 * T + j) (fun h => rV x h j) f := fun g => by
  fin_cases j <;> fin_cases g
  exacts [ld_at h 0 0 _, ld_at h 0 128 _, ld_at h 0 256 _, ld_at h 0 384 _, ld_at h 1 0 _, ld_at h 1 128 _, ld_at h 1 256 _, ld_at h 1 384 _, ld_at h 2 0 _, ld_at h 2 128 _, ld_at h 2 256 _, ld_at h 2 384 _, ld_at h 3 0 _, ld_at h 3 128 _, ld_at h 3 256 _, ld_at h 3 384 _]

theorem rD_at {x : Vec Ideal S256x512 .bf16} {f : ℕ → ℕ → EReal} (h : Is (φ := .bf16) x fun r => f (256 * T + r)) (j : Fin 4) :
    Is4 (4 * T + j) (fun h => rD x h j) f := fun g => by
  fin_cases j <;> fin_cases g
  exacts [ldb_at h 0 0 _, ldb_at h 0 128 _, ldb_at h 0 256 _, ldb_at h 0 384 _, ldb_at h 1 0 _, ldb_at h 1 128 _, ldb_at h 1 256 _, ldb_at h 1 384 _, ldb_at h 2 0 _, ldb_at h 2 128 _, ldb_at h 2 256 _, ldb_at h 2 384 _, ldb_at h 3 0 _, ldb_at h 3 128 _, ldb_at h 3 256 _, ldb_at h 3 384 _]

variable {D : Data} {x0 x1 : Vec Ideal S256x256 .f32} {x2 : Vec Ideal S256x512 .f32} {x3 : Vec Ideal S256x16 .f32} {x4 : Vec Ideal S16x256 .f32}
  {x5 : Vec Ideal S1x256 .f32} {s : FVec Ideal S128x256 .f32}

theorem fPre_at (h : IsIn D T x0 x1 x2 x3 x4 x5) (j : Fin 4) : Is (fPre x3 x4 x5 j) fun r => D.pre (64 * (4 * T + j) + r) :=
  pre_at h.wu h.bu (rA_at h.al j)

theorem fBc_at (h : IsIn D T x0 x1 x2 x3 x4 x5) (j : Fin 4) : Is (fBc x3 x4 x5 j) (D.bc (4 * T + j)) := bc_at (la_at (fPre_at h j))

theorem fStep_at (h : IsIn D T x0 x1 x2 x3 x4 x5) (j : Fin 4) (hs : Is s (D.S (4 * T + j))) :
    Is (fStep x1 x2 x3 x4 x5 j s) (D.S (4 * T + j + 1)) :=
  S_at (rK_at h.k j) (fBc_at h j) (rV_at h.v j 0) (rV_at h.v j 1) (rV_at h.v j 2) (rV_at h.v j 3) hs

theorem fSt_at (h : IsIn D T x0 x1 x2 x3 x4 x5) (hs : Is s (D.S (4 * T))) (j : Fin 5) : Is (fSt x1 x2 x3 x4 x5 s j) (D.S (4 * T + j)) := by
  have h1 := fStep_at h 0 hs
  have h2 := fStep_at h 1 h1
  have h3 := fStep_at h 2 h2
  have h4 := fStep_at h 3 h3
  fin_cases j
  exacts [hs, h1, h2, h3, h4]

theorem fO_at (h : IsIn D T x0 x1 x2 x3 x4 x5) (hs : Is s (D.S (4 * T))) (j g : Fin 4) :
    Is (fO x0 x1 x2 x3 x4 x5 s j g) (D.o (4 * T + j) g) :=
  o_at g.isLt (mk_at g) (rK_at h.q j) (rK_at h.k j) (fBc_at h j) (rV_at h.v j g) (fSt_at h hs j.castSucc)

end

/-! ## The forward blocks -/

/-- The outputs' block. -/
def oBlkL (x0 x1 : Vec Ideal S256x256 .f32) (x2 : Vec Ideal S256x512 .f32) (x3 : Vec Ideal S256x16 .f32) (x4 : Vec Ideal S16x256 .f32)
    (x5 : Vec Ideal S1x256 .f32) (s : FVec Ideal S128x256 .f32) : List (View.Piece (Elt Ideal) S256x512 .f32) :=
  [⟨Rect.unit ![192, 384] ![64, 128] inb_S256x512_S64x128_192_384, fO x0 x1 x2 x3 x4 x5 s 3 3⟩,
    ⟨Rect.unit ![192, 256] ![64, 128] inb_S256x512_S64x128_192_256, fO x0 x1 x2 x3 x4 x5 s 3 2⟩,
    ⟨Rect.unit ![192, 128] ![64, 128] inb_S256x512_S64x128_192_128, fO x0 x1 x2 x3 x4 x5 s 3 1⟩,
    ⟨Rect.unit ![192, 0] ![64, 128] inb_S256x512_S64x128_192_0, fO x0 x1 x2 x3 x4 x5 s 3 0⟩,
    ⟨Rect.unit ![128, 384] ![64, 128] inb_S256x512_S64x128_128_384, fO x0 x1 x2 x3 x4 x5 s 2 3⟩,
    ⟨Rect.unit ![128, 256] ![64, 128] inb_S256x512_S64x128_128_256, fO x0 x1 x2 x3 x4 x5 s 2 2⟩,
    ⟨Rect.unit ![128, 128] ![64, 128] inb_S256x512_S64x128_128_128, fO x0 x1 x2 x3 x4 x5 s 2 1⟩,
    ⟨Rect.unit ![128, 0] ![64, 128] inb_S256x512_S64x128_128_0, fO x0 x1 x2 x3 x4 x5 s 2 0⟩,
    ⟨Rect.unit ![64, 384] ![64, 128] inb_S256x512_S64x128_64_384, fO x0 x1 x2 x3 x4 x5 s 1 3⟩,
    ⟨Rect.unit ![64, 256] ![64, 128] inb_S256x512_S64x128_64_256, fO x0 x1 x2 x3 x4 x5 s 1 2⟩,
    ⟨Rect.unit ![64, 128] ![64, 128] inb_S256x512_S64x128_64_128, fO x0 x1 x2 x3 x4 x5 s 1 1⟩,
    ⟨Rect.unit ![64, 0] ![64, 128] inb_S256x512_S64x128_64_0, fO x0 x1 x2 x3 x4 x5 s 1 0⟩,
    ⟨Rect.unit ![0, 384] ![64, 128] inb_S256x512_S64x128_0_384, fO x0 x1 x2 x3 x4 x5 s 0 3⟩,
    ⟨Rect.unit ![0, 256] ![64, 128] inb_S256x512_S64x128_0_256, fO x0 x1 x2 x3 x4 x5 s 0 2⟩,
    ⟨Rect.unit ![0, 128] ![64, 128] inb_S256x512_S64x128_0_128, fO x0 x1 x2 x3 x4 x5 s 0 1⟩,
    ⟨Rect.unit ![0, 0] ![64, 128] inb_S256x512_S64x128_0_0, fO x0 x1 x2 x3 x4 x5 s 0 0⟩]

def oBlk (x0 x1 : Vec Ideal S256x256 .f32) (x2 : Vec Ideal S256x512 .f32) (x3 : Vec Ideal S256x16 .f32) (x4 : Vec Ideal S16x256 .f32)
    (x5 : Vec Ideal S1x256 .f32) (s : FVec Ideal S128x256 .f32) : Vec Ideal S256x512 .f32 := View.canon (oBlkL x0 x1 x2 x3 x4 x5 s)

/-- The states' block. -/
def sBlkL (x1 : Vec Ideal S256x256 .f32) (x2 : Vec Ideal S256x512 .f32) (x3 : Vec Ideal S256x16 .f32) (x4 : Vec Ideal S16x256 .f32)
    (x5 : Vec Ideal S1x256 .f32) (s : FVec Ideal S128x256 .f32) : List (View.Piece (Elt Ideal) S4x128x256 .f32) :=
  [⟨Rect.unit ![3, 0, 0] ![1, 128, 256] inb_S4x128x256_S1x128x256_3_0_0, shapeCast S1x128x256 (fSt x1 x2 x3 x4 x5 s (Fin.castSucc 3)) shapeCasts_S128x256_S1x128x256⟩,
    ⟨Rect.unit ![2, 0, 0] ![1, 128, 256] inb_S4x128x256_S1x128x256_2_0_0, shapeCast S1x128x256 (fSt x1 x2 x3 x4 x5 s (Fin.castSucc 2)) shapeCasts_S128x256_S1x128x256⟩,
    ⟨Rect.unit ![1, 0, 0] ![1, 128, 256] inb_S4x128x256_S1x128x256_1_0_0, shapeCast S1x128x256 (fSt x1 x2 x3 x4 x5 s (Fin.castSucc 1)) shapeCasts_S128x256_S1x128x256⟩,
    ⟨Rect.unit ![0, 0, 0] ![1, 128, 256] inb_S4x128x256_S1x128x256_0_0_0, shapeCast S1x128x256 (fSt x1 x2 x3 x4 x5 s (Fin.castSucc 0)) shapeCasts_S128x256_S1x128x256⟩]

def sBlk (x1 : Vec Ideal S256x256 .f32) (x2 : Vec Ideal S256x512 .f32) (x3 : Vec Ideal S256x16 .f32) (x4 : Vec Ideal S16x256 .f32)
    (x5 : Vec Ideal S1x256 .f32) (s : FVec Ideal S128x256 .f32) : Vec Ideal S4x128x256 .f32 := View.canon (sBlkL x1 x2 x3 x4 x5 s)

section
variable {T : ℕ} {D : Data} {x0 x1 : Vec Ideal S256x256 .f32} {x2 : Vec Ideal S256x512 .f32} {x3 : Vec Ideal S256x16 .f32} {x4 : Vec Ideal S16x256 .f32}
  {x5 : Vec Ideal S1x256 .f32} {s : FVec Ideal S128x256 .f32}

theorem oBlk_pieces  (h : IsIn D T x0 x1 x2 x3 x4 x5) (hs : Is s (D.S (4 * T))) : View.PiecesOf (fun y : S256x512.Idx => D.o (4 * T + (y 0 : ℕ) / 64) ((y 1 : ℕ) / 128) ((y 0 : ℕ) % 64) ((y 1 : ℕ) % 128)) (oBlkL x0 x1 x2 x3 x4 x5 s) :=
  ⟨piece_head (o := 192) (p := 384) 3 3 rfl rfl D.o _ (fO_at h hs 3 3) inb_S256x512_S64x128_192_384, piece_head (o := 192) (p := 256) 3 2 rfl rfl D.o _ (fO_at h hs 3 2) inb_S256x512_S64x128_192_256, piece_head (o := 192) (p := 128) 3 1 rfl rfl D.o _ (fO_at h hs 3 1) inb_S256x512_S64x128_192_128, piece_head (o := 192) (p := 0) 3 0 rfl rfl D.o _ (fO_at h hs 3 0) inb_S256x512_S64x128_192_0, piece_head (o := 128) (p := 384) 2 3 rfl rfl D.o _ (fO_at h hs 2 3) inb_S256x512_S64x128_128_384, piece_head (o := 128) (p := 256) 2 2 rfl rfl D.o _ (fO_at h hs 2 2) inb_S256x512_S64x128_128_256, piece_head (o := 128) (p := 128) 2 1 rfl rfl D.o _ (fO_at h hs 2 1) inb_S256x512_S64x128_128_128, piece_head (o := 128) (p := 0) 2 0 rfl rfl D.o _ (fO_at h hs 2 0) inb_S256x512_S64x128_128_0, piece_head (o := 64) (p := 384) 1 3 rfl rfl D.o _ (fO_at h hs 1 3) inb_S256x512_S64x128_64_384, piece_head (o := 64) (p := 256) 1 2 rfl rfl D.o _ (fO_at h hs 1 2) inb_S256x512_S64x128_64_256, piece_head (o := 64) (p := 128) 1 1 rfl rfl D.o _ (fO_at h hs 1 1) inb_S256x512_S64x128_64_128, piece_head (o := 64) (p := 0) 1 0 rfl rfl D.o _ (fO_at h hs 1 0) inb_S256x512_S64x128_64_0, piece_head (o := 0) (p := 384) 0 3 rfl rfl D.o _ (fO_at h hs 0 3) inb_S256x512_S64x128_0_384, piece_head (o := 0) (p := 256) 0 2 rfl rfl D.o _ (fO_at h hs 0 2) inb_S256x512_S64x128_0_256, piece_head (o := 0) (p := 128) 0 1 rfl rfl D.o _ (fO_at h hs 0 1) inb_S256x512_S64x128_0_128, piece_head (o := 0) (p := 0) 0 0 rfl rfl D.o _ (fO_at h hs 0 0) inb_S256x512_S64x128_0_0, trivial⟩

theorem oBlk_at (h : IsIn D T x0 x1 x2 x3 x4 x5) (hs : Is s (D.S (4 * T))) (y : S256x512.Idx) :
    oBlk x0 x1 x2 x3 x4 x5 s y = D.o (4 * T + (y 0 : ℕ) / 64) ((y 1 : ℕ) / 128) ((y 0 : ℕ) % 64) ((y 1 : ℕ) % 128) :=
  View.canon_apply_of_pieces (Val := Elt Ideal) (e := .f32) (fun y : S256x512.Idx => D.o (4 * T + (y 0 : ℕ) / 64) ((y 1 : ℕ) / 128) ((y 0 : ℕ) % 64) ((y 1 : ℕ) % 128)) (oBlkL x0 x1 x2 x3 x4 x5 s) (View.PiecesOf.mem (oBlk_pieces h hs)) y (View.cover_of_tiledL (oBlkL x0 x1 x2 x3 x4 x5 s) S64x128.size (by sl_kernel_rfl) y)

theorem sBlk_pieces  (h : IsIn D T x0 x1 x2 x3 x4 x5) (hs : Is s (D.S (4 * T))) : View.PiecesOf (fun y : S4x128x256.Idx => D.S (4 * T + (y 0 : ℕ)) (y 1) (y 2)) (sBlkL x1 x2 x3 x4 x5 s) :=
  ⟨piece_state (o := 3) 3 rfl D.S _ (fSt_at h hs (Fin.castSucc 3)) inb_S4x128x256_S1x128x256_3_0_0, piece_state (o := 2) 2 rfl D.S _ (fSt_at h hs (Fin.castSucc 2)) inb_S4x128x256_S1x128x256_2_0_0, piece_state (o := 1) 1 rfl D.S _ (fSt_at h hs (Fin.castSucc 1)) inb_S4x128x256_S1x128x256_1_0_0, piece_state (o := 0) 0 rfl D.S _ (fSt_at h hs (Fin.castSucc 0)) inb_S4x128x256_S1x128x256_0_0_0, trivial⟩

theorem sBlk_at (h : IsIn D T x0 x1 x2 x3 x4 x5) (hs : Is s (D.S (4 * T))) (y : S4x128x256.Idx) :
    sBlk x1 x2 x3 x4 x5 s y = D.S (4 * T + (y 0 : ℕ)) (y 1) (y 2) :=
  View.canon_apply_of_pieces (Val := Elt Ideal) (e := .f32) (fun y : S4x128x256.Idx => D.S (4 * T + (y 0 : ℕ)) (y 1) (y 2)) (sBlkL x1 x2 x3 x4 x5 s) (View.PiecesOf.mem (sBlk_pieces h hs)) y (View.cover_of_tiledL (sBlkL x1 x2 x3 x4 x5 s) S1x128x256.size (by sl_kernel_rfl) y)

end

/-! ## The backward blocks -/

section
variable {T : ℕ} {D : Data} {B : Blk} {s : FVec Ideal S128x256 .f32}

/-- The blocks of backward step `T`: the forward ones, the states before the four chunks, the output gradients. -/
structure IsBlk (D : Data) (T : ℕ) (B : Blk) : Prop where
  inp : IsIn D T B.x0 B.x1 B.x2 B.x3 B.x4 B.x5
  st : ∀ (j : Fin 4) (w : Fin 128) (κ : Fin 256), B.x6 (ix3 j w κ) = D.S (4 * T + j) w κ
  g : Is (φ := .bf16) B.x7 fun r => D.g (256 * T + r)

theorem drop_at (X : Vec Ideal S1x128x256 .f32) (w : Fin 128) (κ : Fin 256) :
    shapeCast S128x256 X shapeCasts_S1x128x256_S128x256 (ix2 w κ) = X (ix3 0 w κ) := by pointwise

theorem ld_state (h : IsBlk D T B) (j : Fin 4) (inb) :
    Is (φ := .f32) (shapeCast S128x256 (View.ld B.x6 (Rect.unit (s := S4x128x256) ![(j : ℕ), 0, 0] ![1, 128, 256] inb))
      shapeCasts_S1x128x256_S128x256) (D.S (4 * T + j)) := fun w κ => by
  have h0 : (((Rect.unit (s := S4x128x256) ![(j : ℕ), 0, 0] ![1, 128, 256] inb).idx (ix3 0 w κ)) 0 : ℕ) = j + 0 := Rect.idx_unit_val _ _ inb _ 0
  have h1 : (((Rect.unit (s := S4x128x256) ![(j : ℕ), 0, 0] ![1, 128, 256] inb).idx (ix3 0 w κ)) 1 : ℕ) = 0 + w := Rect.idx_unit_val _ _ inb _ 1
  have h2 : (((Rect.unit (s := S4x128x256) ![(j : ℕ), 0, 0] ![1, 128, 256] inb).idx (ix3 0 w κ)) 2 : ℕ) = 0 + κ := Rect.idx_unit_val _ _ inb _ 2
  refine (drop_at _ w κ).trans ((congrArg B.x6 (eq_ix3 _)).trans ((h.st _ _ _).trans ?_))
  rw [h0, h1, h2, add_zero, zero_add, zero_add]

theorem rS_at (h : IsBlk D T B) (j : Fin 4) : Is (rS B.x6 j) (D.S (4 * T + j)) := by
  fin_cases j
  exacts [ld_state h 0 inb_S4x128x256_S1x128x256_0_0_0, ld_state h 1 inb_S4x128x256_S1x128x256_1_0_0, ld_state h 2 inb_S4x128x256_S1x128x256_2_0_0, ld_state h 3 inb_S4x128x256_S1x128x256_3_0_0]

theorem bStep_at (h : IsBlk D T B) (hT : T ≤ 15) (j : Fin 4) (hs : Is s (D.H (63 - (4 * T + j)))) :
    Is (bStep B.x0 B.x3 B.x4 B.x5 B.x7 j s) (D.H (63 - (4 * T + j) + 1)) :=
  H_at (n := 4 * T + (j : ℕ)) (dd := fun h => rD B.x7 h j) (by omega) (rK_at h.inp.q j) (fBc_at h.inp j) (rD_at h.g j) hs

theorem bSt_at (h : IsBlk D T B) (hT : T ≤ 15) (hs : Is s (D.H (60 - 4 * T))) (j : Fin 5) :
    Is (bSt B.x0 B.x3 B.x4 B.x5 B.x7 s j) (D.H (64 - (4 * T + j))) := by
  have h4 : Is s (D.H (63 - (4 * T + (3 : Fin 4)))) := by
    rw [show 63 - (4 * T + ((3 : Fin 4) : ℕ)) = 60 - 4 * T by show 63 - (4 * T + 3) = _; omega]; exact hs
  have e : ∀ j : ℕ, j < 3 → 63 - (4 * T + (j + 1)) + 1 = 63 - (4 * T + j) := fun j hj => by omega
  have h3 := bStep_at h hT 3 h4
  have h3' : Is (bStep B.x0 B.x3 B.x4 B.x5 B.x7 3 s) (D.H (63 - (4 * T + (2 : Fin 4)))) := (e 2 (by omega)) ▸ h3
  have h2 := bStep_at h hT 2 h3'
  have h2' := bStep_at h hT 1 (s := bStep B.x0 B.x3 B.x4 B.x5 B.x7 2 (bStep B.x0 B.x3 B.x4 B.x5 B.x7 3 s)) ((e 1 (by omega)) ▸ h2)
  have h1' := bStep_at h hT 0 (s := bStep B.x0 B.x3 B.x4 B.x5 B.x7 1 (bStep B.x0 B.x3 B.x4 B.x5 B.x7 2 (bStep B.x0 B.x3 B.x4 B.x5 B.x7 3 s))) ((e 0 (by omega)) ▸ h2')
  have f : ∀ j : ℕ, j < 4 → 63 - (4 * T + j) + 1 = 64 - (4 * T + j) := fun j hj => by omega
  fin_cases j
  · exact (f 0 (by omega)) ▸ h1'
  · exact (f 1 (by omega)) ▸ h2'
  · exact (f 2 (by omega)) ▸ h2
  · exact (f 3 (by omega)) ▸ h3
  · exact (show 60 - 4 * T = 64 - (4 * T + 4) by omega) ▸ hs

variable (h : IsBlk D T B) (hT : T ≤ 15) (hs : Is s (D.H (60 - 4 * T)))
include h

theorem bDqt_at (j : Fin 4) : Is (bDqt B j) (D.dqt (4 * T + j)) :=
  dqt_at (v := fun h => rV B.x2 h j) (dd := fun h => rD B.x7 h j) (rK_at h.inp.k j) (fBc_at h.inp j) (rS_at h j) (rV_at h.inp.v j) (rD_at h.g j)

theorem bDkt_at (j : Fin 4) : Is (bDkt B j) (D.dkt (4 * T + j)) :=
  dkt_at (v := fun h => rV B.x2 h j) (dd := fun h => rD B.x7 h j) (rK_at h.inp.q j) (fBc_at h.inp j) (rV_at h.inp.v j) (rD_at h.g j)

theorem bDq_at (j : Fin 4) : Is (bDq B j) (D.dq (4 * T + j)) := dq_at (fBc_at h.inp j) (bDqt_at h j)

include hT hs

theorem bG_at (j : Fin 4) : Is (bG B s j) (D.H (63 - (4 * T + j))) := by
  have := bSt_at h hT hs j.succ
  rwa [show 64 - (4 * T + (j.succ : ℕ)) = 63 - (4 * T + j) by rw [Fin.val_succ]; omega] at this

theorem bDke_at (j : Fin 4) : Is (bDke B s j) (D.dke (4 * T + j)) := dke_at (v := fun h => rV B.x2 h j) (bG_at h hT hs j) (rV_at h.inp.v j)

theorem bDk_at (j : Fin 4) : Is (bDk B s j) (D.dk (4 * T + j)) := dk_at (fBc_at h.inp j) (bDkt_at h j) (bDke_at h hT hs j)

theorem bDv_at (j g : Fin 4) : Is (bDv B s j g) (D.dv (4 * T + j) g) :=
  dv_at g.isLt (mk_at g) (rK_at h.inp.q j) (rK_at h.inp.k j) (fBc_at h.inp j) (rD_at h.g j g) (bG_at h hT hs j)

theorem bDpre_at (j : Fin 4) : Is (bDpre B s j) (D.dpre (4 * T + j)) :=
  dpre_at (fPre_at h.inp j) (db_at (rK_at h.inp.q j) (rK_at h.inp.k j) (fBc_at h.inp j) (rS_at h j) (bG_at h hT hs j) (bDqt_at h j)
    (bDkt_at h j) (bDke_at h hT hs j))

theorem bDal_at (j : Fin 4) : Is (bDal B s j) (D.dal (4 * T + j)) := dal_at h.inp.wu (bDpre_at h hT hs j)

theorem bWu_at : Is (bWu B s) fun i κ => ∑ n ∈ Ico (4 * T) (4 * T + 4), D.dwuC n i κ := fun i κ => by
  refine (wu_at (rA_at h.inp.al 0) (bDpre_at h hT hs 0) (wu_at (rA_at h.inp.al 1) (bDpre_at h hT hs 1)
    (wu_at (rA_at h.inp.al 2) (bDpre_at h hT hs 2) (wu_at (rA_at h.inp.al 3) (bDpre_at h hT hs 3) is_c0))) i κ).trans ?_
  dsimp only
  rw [Finset.sum_Ico_eq_sum_range, show 4 * T + 4 - 4 * T = 4 by omega, Finset.sum_range_succ, Finset.sum_range_succ, Finset.sum_range_succ,
    Finset.sum_range_succ, Finset.sum_range_zero]
  simp only [zero_add]
  show D.dwuC (4 * T + 3) i κ + D.dwuC (4 * T + 2) i κ + D.dwuC (4 * T + 1) i κ + D.dwuC (4 * T + 0) i κ = _
  ac_rfl

theorem bBu_at : Is (bBu B s) fun _ κ => ∑ n ∈ Ico (4 * T) (4 * T + 4), D.dbuC n κ := fun i κ => by
  pointwise [bBu]
  rw [col_at (bDpre_at h hT hs 0), col_at (bDpre_at h hT hs 1), col_at (bDpre_at h hT hs 2), col_at (bDpre_at h hT hs 3),
    Finset.sum_Ico_eq_sum_range, show 4 * T + 4 - 4 * T = 4 by omega, Finset.sum_range_succ, Finset.sum_range_succ, Finset.sum_range_succ,
    Finset.sum_range_succ, Finset.sum_range_zero]
  simp only [zero_add]
  show D.dbuC (4 * T + 3) κ + D.dbuC (4 * T + 2) κ + D.dbuC (4 * T + 1) κ + D.dbuC (4 * T + 0) κ = _
  ac_rfl

end

def dqBlkL (B : Blk) : List (View.Piece (Elt Ideal) S256x256 .bf16) :=
  [⟨Rect.unit ![0, 0] ![64, 256] inb_S256x256_S64x256_0_0, bDq B 0⟩,
    ⟨Rect.unit ![64, 0] ![64, 256] inb_S256x256_S64x256_64_0, bDq B 1⟩,
    ⟨Rect.unit ![128, 0] ![64, 256] inb_S256x256_S64x256_128_0, bDq B 2⟩,
    ⟨Rect.unit ![192, 0] ![64, 256] inb_S256x256_S64x256_192_0, bDq B 3⟩]

def dqBlk (B : Blk) : Vec Ideal S256x256 .bf16 := View.canon (dqBlkL B)

def dkBlkL (B : Blk) (s : FVec Ideal S128x256 .f32) : List (View.Piece (Elt Ideal) S256x256 .bf16) :=
  [⟨Rect.unit ![0, 0] ![64, 256] inb_S256x256_S64x256_0_0, bDk B s 0⟩,
    ⟨Rect.unit ![64, 0] ![64, 256] inb_S256x256_S64x256_64_0, bDk B s 1⟩,
    ⟨Rect.unit ![128, 0] ![64, 256] inb_S256x256_S64x256_128_0, bDk B s 2⟩,
    ⟨Rect.unit ![192, 0] ![64, 256] inb_S256x256_S64x256_192_0, bDk B s 3⟩]

def dkBlk (B : Blk) (s : FVec Ideal S128x256 .f32) : Vec Ideal S256x256 .bf16 := View.canon (dkBlkL B s)

def dvBlkL (B : Blk) (s : FVec Ideal S128x256 .f32) : List (View.Piece (Elt Ideal) S256x512 .bf16) :=
  [⟨Rect.unit ![0, 384] ![64, 128] inb_S256x512_S64x128_0_384, bDv B s 0 3⟩,
    ⟨Rect.unit ![0, 256] ![64, 128] inb_S256x512_S64x128_0_256, bDv B s 0 2⟩,
    ⟨Rect.unit ![0, 128] ![64, 128] inb_S256x512_S64x128_0_128, bDv B s 0 1⟩,
    ⟨Rect.unit ![0, 0] ![64, 128] inb_S256x512_S64x128_0_0, bDv B s 0 0⟩,
    ⟨Rect.unit ![64, 384] ![64, 128] inb_S256x512_S64x128_64_384, bDv B s 1 3⟩,
    ⟨Rect.unit ![64, 256] ![64, 128] inb_S256x512_S64x128_64_256, bDv B s 1 2⟩,
    ⟨Rect.unit ![64, 128] ![64, 128] inb_S256x512_S64x128_64_128, bDv B s 1 1⟩,
    ⟨Rect.unit ![64, 0] ![64, 128] inb_S256x512_S64x128_64_0, bDv B s 1 0⟩,
    ⟨Rect.unit ![128, 384] ![64, 128] inb_S256x512_S64x128_128_384, bDv B s 2 3⟩,
    ⟨Rect.unit ![128, 256] ![64, 128] inb_S256x512_S64x128_128_256, bDv B s 2 2⟩,
    ⟨Rect.unit ![128, 128] ![64, 128] inb_S256x512_S64x128_128_128, bDv B s 2 1⟩,
    ⟨Rect.unit ![128, 0] ![64, 128] inb_S256x512_S64x128_128_0, bDv B s 2 0⟩,
    ⟨Rect.unit ![192, 384] ![64, 128] inb_S256x512_S64x128_192_384, bDv B s 3 3⟩,
    ⟨Rect.unit ![192, 256] ![64, 128] inb_S256x512_S64x128_192_256, bDv B s 3 2⟩,
    ⟨Rect.unit ![192, 128] ![64, 128] inb_S256x512_S64x128_192_128, bDv B s 3 1⟩,
    ⟨Rect.unit ![192, 0] ![64, 128] inb_S256x512_S64x128_192_0, bDv B s 3 0⟩]

def dvBlk (B : Blk) (s : FVec Ideal S128x256 .f32) : Vec Ideal S256x512 .bf16 := View.canon (dvBlkL B s)

def dalBlkL (B : Blk) (s : FVec Ideal S128x256 .f32) : List (View.Piece (Elt Ideal) S256x16 .bf16) :=
  [⟨Rect.unit ![0, 0] ![64, 16] inb_S256x16_S64x16_0_0, bDal B s 0⟩,
    ⟨Rect.unit ![64, 0] ![64, 16] inb_S256x16_S64x16_64_0, bDal B s 1⟩,
    ⟨Rect.unit ![128, 0] ![64, 16] inb_S256x16_S64x16_128_0, bDal B s 2⟩,
    ⟨Rect.unit ![192, 0] ![64, 16] inb_S256x16_S64x16_192_0, bDal B s 3⟩]

def dalBlk (B : Blk) (s : FVec Ideal S128x256 .f32) : Vec Ideal S256x16 .bf16 := View.canon (dalBlkL B s)

section
variable {T : ℕ} {D : Data} {B : Blk} {s : FVec Ideal S128x256 .f32} (h : IsBlk D T B) (hT : T ≤ 15) (hs : Is s (D.H (60 - 4 * T)))
include h

theorem dqBlk_pieces  : View.PiecesOf (fun y : S256x256.Idx => D.dq (4 * T + (y 0 : ℕ) / 64) ((y 0 : ℕ) % 64) (y 1)) (dqBlkL B) :=
  ⟨piece_rows (o := 0) 0 rfl D.dq _ (bDq_at h 0) inb_S256x256_S64x256_0_0, piece_rows (o := 64) 1 rfl D.dq _ (bDq_at h 1) inb_S256x256_S64x256_64_0, piece_rows (o := 128) 2 rfl D.dq _ (bDq_at h 2) inb_S256x256_S64x256_128_0, piece_rows (o := 192) 3 rfl D.dq _ (bDq_at h 3) inb_S256x256_S64x256_192_0, trivial⟩

theorem dqBlk_at (y : S256x256.Idx) : dqBlk B y = D.dq (4 * T + (y 0 : ℕ) / 64) ((y 0 : ℕ) % 64) (y 1) :=
  View.canon_apply_of_pieces (Val := Elt Ideal) (e := .bf16) (fun y : S256x256.Idx => D.dq (4 * T + (y 0 : ℕ) / 64) ((y 0 : ℕ) % 64) (y 1)) (dqBlkL B) (View.PiecesOf.mem (dqBlk_pieces h)) y (View.cover_of_tiledL (dqBlkL B) S64x256.size (by sl_kernel_rfl) y)

include hT hs

theorem dkBlk_pieces  : View.PiecesOf (fun y : S256x256.Idx => D.dk (4 * T + (y 0 : ℕ) / 64) ((y 0 : ℕ) % 64) (y 1)) (dkBlkL B s) :=
  ⟨piece_rows (o := 0) 0 rfl D.dk _ (bDk_at h hT hs 0) inb_S256x256_S64x256_0_0, piece_rows (o := 64) 1 rfl D.dk _ (bDk_at h hT hs 1) inb_S256x256_S64x256_64_0, piece_rows (o := 128) 2 rfl D.dk _ (bDk_at h hT hs 2) inb_S256x256_S64x256_128_0, piece_rows (o := 192) 3 rfl D.dk _ (bDk_at h hT hs 3) inb_S256x256_S64x256_192_0, trivial⟩

theorem dkBlk_at (y : S256x256.Idx) : dkBlk B s y = D.dk (4 * T + (y 0 : ℕ) / 64) ((y 0 : ℕ) % 64) (y 1) :=
  View.canon_apply_of_pieces (Val := Elt Ideal) (e := .bf16) (fun y : S256x256.Idx => D.dk (4 * T + (y 0 : ℕ) / 64) ((y 0 : ℕ) % 64) (y 1)) (dkBlkL B s) (View.PiecesOf.mem (dkBlk_pieces h hT hs)) y (View.cover_of_tiledL (dkBlkL B s) S64x256.size (by sl_kernel_rfl) y)

theorem dalBlk_pieces  : View.PiecesOf (fun y : S256x16.Idx => D.dal (4 * T + (y 0 : ℕ) / 64) ((y 0 : ℕ) % 64) (y 1)) (dalBlkL B s) :=
  ⟨piece_rows (o := 0) 0 rfl D.dal _ (bDal_at h hT hs 0) inb_S256x16_S64x16_0_0, piece_rows (o := 64) 1 rfl D.dal _ (bDal_at h hT hs 1) inb_S256x16_S64x16_64_0, piece_rows (o := 128) 2 rfl D.dal _ (bDal_at h hT hs 2) inb_S256x16_S64x16_128_0, piece_rows (o := 192) 3 rfl D.dal _ (bDal_at h hT hs 3) inb_S256x16_S64x16_192_0, trivial⟩

theorem dalBlk_at (y : S256x16.Idx) : dalBlk B s y = D.dal (4 * T + (y 0 : ℕ) / 64) ((y 0 : ℕ) % 64) (y 1) :=
  View.canon_apply_of_pieces (Val := Elt Ideal) (e := .bf16) (fun y : S256x16.Idx => D.dal (4 * T + (y 0 : ℕ) / 64) ((y 0 : ℕ) % 64) (y 1)) (dalBlkL B s) (View.PiecesOf.mem (dalBlk_pieces h hT hs)) y (View.cover_of_tiledL (dalBlkL B s) S64x16.size (by sl_kernel_rfl) y)

theorem dvBlk_pieces  : View.PiecesOf (fun y : S256x512.Idx => D.dv (4 * T + (y 0 : ℕ) / 64) ((y 1 : ℕ) / 128) ((y 0 : ℕ) % 64) ((y 1 : ℕ) % 128)) (dvBlkL B s) :=
  ⟨piece_head (o := 0) (p := 384) 0 3 rfl rfl D.dv _ (bDv_at h hT hs 0 3) inb_S256x512_S64x128_0_384, piece_head (o := 0) (p := 256) 0 2 rfl rfl D.dv _ (bDv_at h hT hs 0 2) inb_S256x512_S64x128_0_256, piece_head (o := 0) (p := 128) 0 1 rfl rfl D.dv _ (bDv_at h hT hs 0 1) inb_S256x512_S64x128_0_128, piece_head (o := 0) (p := 0) 0 0 rfl rfl D.dv _ (bDv_at h hT hs 0 0) inb_S256x512_S64x128_0_0, piece_head (o := 64) (p := 384) 1 3 rfl rfl D.dv _ (bDv_at h hT hs 1 3) inb_S256x512_S64x128_64_384, piece_head (o := 64) (p := 256) 1 2 rfl rfl D.dv _ (bDv_at h hT hs 1 2) inb_S256x512_S64x128_64_256, piece_head (o := 64) (p := 128) 1 1 rfl rfl D.dv _ (bDv_at h hT hs 1 1) inb_S256x512_S64x128_64_128, piece_head (o := 64) (p := 0) 1 0 rfl rfl D.dv _ (bDv_at h hT hs 1 0) inb_S256x512_S64x128_64_0, piece_head (o := 128) (p := 384) 2 3 rfl rfl D.dv _ (bDv_at h hT hs 2 3) inb_S256x512_S64x128_128_384, piece_head (o := 128) (p := 256) 2 2 rfl rfl D.dv _ (bDv_at h hT hs 2 2) inb_S256x512_S64x128_128_256, piece_head (o := 128) (p := 128) 2 1 rfl rfl D.dv _ (bDv_at h hT hs 2 1) inb_S256x512_S64x128_128_128, piece_head (o := 128) (p := 0) 2 0 rfl rfl D.dv _ (bDv_at h hT hs 2 0) inb_S256x512_S64x128_128_0, piece_head (o := 192) (p := 384) 3 3 rfl rfl D.dv _ (bDv_at h hT hs 3 3) inb_S256x512_S64x128_192_384, piece_head (o := 192) (p := 256) 3 2 rfl rfl D.dv _ (bDv_at h hT hs 3 2) inb_S256x512_S64x128_192_256, piece_head (o := 192) (p := 128) 3 1 rfl rfl D.dv _ (bDv_at h hT hs 3 1) inb_S256x512_S64x128_192_128, piece_head (o := 192) (p := 0) 3 0 rfl rfl D.dv _ (bDv_at h hT hs 3 0) inb_S256x512_S64x128_192_0, trivial⟩

theorem dvBlk_at (y : S256x512.Idx) :
    dvBlk B s y = D.dv (4 * T + (y 0 : ℕ) / 64) ((y 1 : ℕ) / 128) ((y 0 : ℕ) % 64) ((y 1 : ℕ) % 128) :=
  View.canon_apply_of_pieces (Val := Elt Ideal) (e := .bf16) (fun y : S256x512.Idx => D.dv (4 * T + (y 0 : ℕ) / 64) ((y 1 : ℕ) / 128) ((y 0 : ℕ) % 64) ((y 1 : ℕ) % 128)) (dvBlkL B s) (View.PiecesOf.mem (dvBlk_pieces h hT hs)) y (View.cover_of_tiledL (dvBlkL B s) S64x128.size (by sl_kernel_rfl) y)

end

end Cert.KernelIdeal.Gla
-- ==== Proof.Ident1.lean ====
module

public import proofs.«01_k».proof.Proof.Region1
public import proofs.«01_k».proof.Proof.Block
public import Idealize.ShloMosaic.Lib.Pointwise
public import Idealize.ShloMosaic.Lib.Pipeline.ValueKit
public import Idealize.ShloMosaic.Lib.Pipeline.ReadBack

/-! What the backward body stores in one grid step is the blocks of the four chunks. -/

@[expose] public section

set_option maxRecDepth 16384
set_option maxHeartbeats 0

noncomputable section

namespace Cert.KernelIdeal.Gla

open Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

theorem out1_A_8_eq  (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : cond1_0 i)
    (x0 : Vec Ideal S256x256 .f32) (x1 : Vec Ideal S256x256 .f32) (x2 : Vec Ideal S256x512 .f32) (x3 : Vec Ideal S256x16 .f32) (x4 : Vec Ideal S16x256 .f32) (x5 : Vec Ideal S1x256 .f32) (x6 : Vec Ideal S4x128x256 .f32) (x7 : Vec Ideal S256x512 .bf16)  :
    out1_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = dqBlk ⟨x0, x1, x2, x3, x4, x5, x6, x7⟩ := by
  frame_out
  try simp (disch := decide) only [↓ View.readCov_skip, ↓ View.readCov_cons_toLoadRect, ↓ View.readCov_fill]
  rfl

theorem out1_A_9_eq  (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : cond1_0 i)
    (x0 : Vec Ideal S256x256 .f32) (x1 : Vec Ideal S256x256 .f32) (x2 : Vec Ideal S256x512 .f32) (x3 : Vec Ideal S256x16 .f32) (x4 : Vec Ideal S16x256 .f32) (x5 : Vec Ideal S1x256 .f32) (x6 : Vec Ideal S4x128x256 .f32) (x7 : Vec Ideal S256x512 .bf16)  :
    out1_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = dkBlk ⟨x0, x1, x2, x3, x4, x5, x6, x7⟩ (c0 S128x256) := by
  frame_out
  try simp (disch := decide) only [↓ View.readCov_skip, ↓ View.readCov_cons_toLoadRect, ↓ View.readCov_fill]
  rfl

theorem out1_A_10_eq  (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : cond1_0 i)
    (x0 : Vec Ideal S256x256 .f32) (x1 : Vec Ideal S256x256 .f32) (x2 : Vec Ideal S256x512 .f32) (x3 : Vec Ideal S256x16 .f32) (x4 : Vec Ideal S16x256 .f32) (x5 : Vec Ideal S1x256 .f32) (x6 : Vec Ideal S4x128x256 .f32) (x7 : Vec Ideal S256x512 .bf16)  :
    out1_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = dvBlk ⟨x0, x1, x2, x3, x4, x5, x6, x7⟩ (c0 S128x256) := by
  frame_out
  try simp (disch := decide) only [↓ View.readCov_skip, ↓ View.readCov_cons_toLoadRect, ↓ View.readCov_fill]
  rfl

theorem out1_A_11_eq  (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : cond1_0 i)
    (x0 : Vec Ideal S256x256 .f32) (x1 : Vec Ideal S256x256 .f32) (x2 : Vec Ideal S256x512 .f32) (x3 : Vec Ideal S256x16 .f32) (x4 : Vec Ideal S16x256 .f32) (x5 : Vec Ideal S1x256 .f32) (x6 : Vec Ideal S4x128x256 .f32) (x7 : Vec Ideal S256x512 .bf16)  :
    out1_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = dalBlk ⟨x0, x1, x2, x3, x4, x5, x6, x7⟩ (c0 S128x256) := by
  frame_out
  try simp (disch := decide) only [↓ View.readCov_skip, ↓ View.readCov_cons_toLoadRect, ↓ View.readCov_fill]
  rfl

theorem out1_A_12_eq  (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : cond1_0 i)
    (x0 : Vec Ideal S256x256 .f32) (x1 : Vec Ideal S256x256 .f32) (x2 : Vec Ideal S256x512 .f32) (x3 : Vec Ideal S256x16 .f32) (x4 : Vec Ideal S16x256 .f32) (x5 : Vec Ideal S1x256 .f32) (x6 : Vec Ideal S4x128x256 .f32) (x7 : Vec Ideal S256x512 .bf16)  :
    out1_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = addf (shapeCast S16x256 (c0 S16x256) shapeCasts_S16x256_S16x256) (bWu ⟨x0, x1, x2, x3, x4, x5, x6, x7⟩ (c0 S128x256)) := by
  frame_out
  try simp (disch := decide) only [↓ View.readCov_skip, ↓ View.readCov_cons_toLoadRect, ↓ View.readCov_fill]
  rfl

theorem out1_A_13_eq  (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : cond1_0 i)
    (x0 : Vec Ideal S256x256 .f32) (x1 : Vec Ideal S256x256 .f32) (x2 : Vec Ideal S256x512 .f32) (x3 : Vec Ideal S256x16 .f32) (x4 : Vec Ideal S16x256 .f32) (x5 : Vec Ideal S1x256 .f32) (x6 : Vec Ideal S4x128x256 .f32) (x7 : Vec Ideal S256x512 .bf16)  :
    out1_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = addf (shapeCast S1x256 (c0 S1x256) shapeCasts_S1x256_S1x256) (bBu ⟨x0, x1, x2, x3, x4, x5, x6, x7⟩ (c0 S128x256)) := by
  frame_out
  try simp (disch := decide) only [↓ View.readCov_skip, ↓ View.readCov_cons_toLoadRect, ↓ View.readCov_fill]
  rfl

theorem sout1_A_0_eq  (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : cond1_0 i)
    (x0 : Vec Ideal S256x256 .f32) (x1 : Vec Ideal S256x256 .f32) (x2 : Vec Ideal S256x512 .f32) (x3 : Vec Ideal S256x16 .f32) (x4 : Vec Ideal S16x256 .f32) (x5 : Vec Ideal S1x256 .f32) (x6 : Vec Ideal S4x128x256 .f32) (x7 : Vec Ideal S256x512 .bf16)  :
    sout1_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = shapeCast S128x256 (bSt x0 x3 x4 x5 x7 (c0 S128x256) 0) shapeCasts_S128x256_S128x256 := by
  frame_out
  try simp (disch := decide) only [↓ View.readCov_skip, ↓ View.readCov_cons_toLoadRect, ↓ View.readCov_fill]
  rfl

theorem out1_B_8_eq  (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : ¬cond1_0 i)
    (x0 : Vec Ideal S256x256 .f32) (x1 : Vec Ideal S256x256 .f32) (x2 : Vec Ideal S256x512 .f32) (x3 : Vec Ideal S256x16 .f32) (x4 : Vec Ideal S16x256 .f32) (x5 : Vec Ideal S1x256 .f32) (x6 : Vec Ideal S4x128x256 .f32) (x7 : Vec Ideal S256x512 .bf16) (xo12 : Vec Ideal S16x256 .f32) (xo13 : Vec Ideal S1x256 .f32) (xs0 : Vec Ideal S128x256 .f32)  :
    out1_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0 = dqBlk ⟨x0, x1, x2, x3, x4, x5, x6, x7⟩ := by
  frame_out
  rfl

theorem out1_B_9_eq  (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : ¬cond1_0 i)
    (x0 : Vec Ideal S256x256 .f32) (x1 : Vec Ideal S256x256 .f32) (x2 : Vec Ideal S256x512 .f32) (x3 : Vec Ideal S256x16 .f32) (x4 : Vec Ideal S16x256 .f32) (x5 : Vec Ideal S1x256 .f32) (x6 : Vec Ideal S4x128x256 .f32) (x7 : Vec Ideal S256x512 .bf16) (xo12 : Vec Ideal S16x256 .f32) (xo13 : Vec Ideal S1x256 .f32) (xs0 : Vec Ideal S128x256 .f32)  :
    out1_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0 = dkBlk ⟨x0, x1, x2, x3, x4, x5, x6, x7⟩ xs0 := by
  frame_out
  rfl

theorem out1_B_10_eq  (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : ¬cond1_0 i)
    (x0 : Vec Ideal S256x256 .f32) (x1 : Vec Ideal S256x256 .f32) (x2 : Vec Ideal S256x512 .f32) (x3 : Vec Ideal S256x16 .f32) (x4 : Vec Ideal S16x256 .f32) (x5 : Vec Ideal S1x256 .f32) (x6 : Vec Ideal S4x128x256 .f32) (x7 : Vec Ideal S256x512 .bf16) (xo12 : Vec Ideal S16x256 .f32) (xo13 : Vec Ideal S1x256 .f32) (xs0 : Vec Ideal S128x256 .f32)  :
    out1_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0 = dvBlk ⟨x0, x1, x2, x3, x4, x5, x6, x7⟩ xs0 := by
  frame_out
  rfl

theorem out1_B_11_eq  (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : ¬cond1_0 i)
    (x0 : Vec Ideal S256x256 .f32) (x1 : Vec Ideal S256x256 .f32) (x2 : Vec Ideal S256x512 .f32) (x3 : Vec Ideal S256x16 .f32) (x4 : Vec Ideal S16x256 .f32) (x5 : Vec Ideal S1x256 .f32) (x6 : Vec Ideal S4x128x256 .f32) (x7 : Vec Ideal S256x512 .bf16) (xo12 : Vec Ideal S16x256 .f32) (xo13 : Vec Ideal S1x256 .f32) (xs0 : Vec Ideal S128x256 .f32)  :
    out1_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0 = dalBlk ⟨x0, x1, x2, x3, x4, x5, x6, x7⟩ xs0 := by
  frame_out
  rfl

theorem out1_B_12_eq  (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : ¬cond1_0 i)
    (x0 : Vec Ideal S256x256 .f32) (x1 : Vec Ideal S256x256 .f32) (x2 : Vec Ideal S256x512 .f32) (x3 : Vec Ideal S256x16 .f32) (x4 : Vec Ideal S16x256 .f32) (x5 : Vec Ideal S1x256 .f32) (x6 : Vec Ideal S4x128x256 .f32) (x7 : Vec Ideal S256x512 .bf16) (xo12 : Vec Ideal S16x256 .f32) (xo13 : Vec Ideal S1x256 .f32) (xs0 : Vec Ideal S128x256 .f32)  :
    out1_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0 = addf (shapeCast S16x256 xo12 shapeCasts_S16x256_S16x256) (bWu ⟨x0, x1, x2, x3, x4, x5, x6, x7⟩ xs0) := by
  frame_out
  try simp (disch := decide) only [↓ View.readCov_skip, ↓ View.readCov_cons_toLoadRect, ↓ View.readCov_fill]
  rfl

theorem out1_B_13_eq  (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : ¬cond1_0 i)
    (x0 : Vec Ideal S256x256 .f32) (x1 : Vec Ideal S256x256 .f32) (x2 : Vec Ideal S256x512 .f32) (x3 : Vec Ideal S256x16 .f32) (x4 : Vec Ideal S16x256 .f32) (x5 : Vec Ideal S1x256 .f32) (x6 : Vec Ideal S4x128x256 .f32) (x7 : Vec Ideal S256x512 .bf16) (xo12 : Vec Ideal S16x256 .f32) (xo13 : Vec Ideal S1x256 .f32) (xs0 : Vec Ideal S128x256 .f32)  :
    out1_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0 = addf (shapeCast S1x256 xo13 shapeCasts_S1x256_S1x256) (bBu ⟨x0, x1, x2, x3, x4, x5, x6, x7⟩ xs0) := by
  frame_out
  try simp (disch := decide) only [↓ View.readCov_skip, ↓ View.readCov_cons_toLoadRect, ↓ View.readCov_fill]
  rfl

theorem sout1_B_0_eq  (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S4x128x256 .f32) (harg7 : arg7.IsWhole) (arg8 : Memref sig .tc .vmem S256x512 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x512 .bf16) (harg11 : arg11.IsWhole) (arg12 : Memref sig .tc .vmem S256x16 .bf16) (harg12 : arg12.IsWhole) (arg13 : Memref sig .tc .vmem S16x256 .f32) (harg13 : arg13.IsWhole) (arg14 : Memref sig .tc .vmem S1x256 .f32) (harg14 : arg14.IsWhole) (arg15 : Memref sig .tc .vmem S128x256 .f32) (harg15 : arg15.IsWhole) (hc0 : ¬cond1_0 i)
    (x0 : Vec Ideal S256x256 .f32) (x1 : Vec Ideal S256x256 .f32) (x2 : Vec Ideal S256x512 .f32) (x3 : Vec Ideal S256x16 .f32) (x4 : Vec Ideal S16x256 .f32) (x5 : Vec Ideal S1x256 .f32) (x6 : Vec Ideal S4x128x256 .f32) (x7 : Vec Ideal S256x512 .bf16) (xo12 : Vec Ideal S16x256 .f32) (xo13 : Vec Ideal S1x256 .f32) (xs0 : Vec Ideal S128x256 .f32)  :
    sout1_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0 = shapeCast S128x256 (bSt x0 x3 x4 x5 x7 xs0 0) shapeCasts_S128x256_S128x256 := by
  frame_out
  rfl

end Cert.KernelIdeal.Gla
-- ==== Proof.Ident0.lean ====
module

public import proofs.«01_k».proof.Proof.Region0
public import proofs.«01_k».proof.Proof.Block
public import Idealize.ShloMosaic.Lib.Pointwise
public import Idealize.ShloMosaic.Lib.Pipeline.ValueKit
public import Idealize.ShloMosaic.Lib.Pipeline.ReadBack

/-! What the forward body stores in one grid step is the blocks of the four chunks. -/

@[expose] public section

set_option maxRecDepth 16384
set_option maxHeartbeats 0

noncomputable section

namespace Cert.KernelIdeal.Gla

open Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

theorem out0_A_6_eq  (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S256x512 .f32) (harg7 : arg7.IsWhole) (arg8 : Memref sig .tc .vmem S4x128x256 .f32) (harg8 : arg8.IsWhole) (arg9 : Memref sig .tc .vmem S128x256 .f32) (harg9 : arg9.IsWhole) (hc0 : cond0_0 i)
    (x0 : Vec Ideal S256x256 .f32) (x1 : Vec Ideal S256x256 .f32) (x2 : Vec Ideal S256x512 .f32) (x3 : Vec Ideal S256x16 .f32) (x4 : Vec Ideal S16x256 .f32) (x5 : Vec Ideal S1x256 .f32)  :
    out0_A_6 (F := Ideal) c i arg1 harg1 arg2 harg2 arg3 harg3 arg4 harg4 arg5 harg5 arg6 harg6 arg7 harg7 arg8 harg8 arg9 harg9 hc0 x0 x1 x2 x3 x4 x5 = oBlk x0 x1 x2 x3 x4 x5 (c0 S128x256) := by
  frame_out
  try simp (disch := decide) only [↓ View.readCov_skip, ↓ View.readCov_cons_toLoadRect, ↓ View.readCov_fill]
  rfl

theorem out0_A_7_eq  (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S256x512 .f32) (harg7 : arg7.IsWhole) (arg8 : Memref sig .tc .vmem S4x128x256 .f32) (harg8 : arg8.IsWhole) (arg9 : Memref sig .tc .vmem S128x256 .f32) (harg9 : arg9.IsWhole) (hc0 : cond0_0 i)
    (x0 : Vec Ideal S256x256 .f32) (x1 : Vec Ideal S256x256 .f32) (x2 : Vec Ideal S256x512 .f32) (x3 : Vec Ideal S256x16 .f32) (x4 : Vec Ideal S16x256 .f32) (x5 : Vec Ideal S1x256 .f32)  :
    out0_A_7 (F := Ideal) c i arg1 harg1 arg2 harg2 arg3 harg3 arg4 harg4 arg5 harg5 arg6 harg6 arg7 harg7 arg8 harg8 arg9 harg9 hc0 x0 x1 x2 x3 x4 x5 = sBlk x1 x2 x3 x4 x5 (c0 S128x256) := by
  frame_out
  try simp (disch := decide) only [↓ View.readCov_skip, ↓ View.readCov_cons_toLoadRect, ↓ View.readCov_fill]
  rfl

theorem sout0_A_0_eq  (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S256x512 .f32) (harg7 : arg7.IsWhole) (arg8 : Memref sig .tc .vmem S4x128x256 .f32) (harg8 : arg8.IsWhole) (arg9 : Memref sig .tc .vmem S128x256 .f32) (harg9 : arg9.IsWhole) (hc0 : cond0_0 i)
    (x0 : Vec Ideal S256x256 .f32) (x1 : Vec Ideal S256x256 .f32) (x2 : Vec Ideal S256x512 .f32) (x3 : Vec Ideal S256x16 .f32) (x4 : Vec Ideal S16x256 .f32) (x5 : Vec Ideal S1x256 .f32)  :
    sout0_A_0 (F := Ideal) c i arg1 harg1 arg2 harg2 arg3 harg3 arg4 harg4 arg5 harg5 arg6 harg6 arg7 harg7 arg8 harg8 arg9 harg9 hc0 x0 x1 x2 x3 x4 x5 = shapeCast S128x256 (fSt x1 x2 x3 x4 x5 (c0 S128x256) 4) shapeCasts_S128x256_S128x256 := by
  frame_out
  try simp (disch := decide) only [↓ View.readCov_skip, ↓ View.readCov_cons_toLoadRect, ↓ View.readCov_fill]
  rfl

theorem out0_B_6_eq  (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S256x512 .f32) (harg7 : arg7.IsWhole) (arg8 : Memref sig .tc .vmem S4x128x256 .f32) (harg8 : arg8.IsWhole) (arg9 : Memref sig .tc .vmem S128x256 .f32) (harg9 : arg9.IsWhole) (hc0 : ¬cond0_0 i)
    (x0 : Vec Ideal S256x256 .f32) (x1 : Vec Ideal S256x256 .f32) (x2 : Vec Ideal S256x512 .f32) (x3 : Vec Ideal S256x16 .f32) (x4 : Vec Ideal S16x256 .f32) (x5 : Vec Ideal S1x256 .f32) (xs0 : Vec Ideal S128x256 .f32)  :
    out0_B_6 (F := Ideal) c i arg1 harg1 arg2 harg2 arg3 harg3 arg4 harg4 arg5 harg5 arg6 harg6 arg7 harg7 arg8 harg8 arg9 harg9 hc0 x0 x1 x2 x3 x4 x5 xs0 = oBlk x0 x1 x2 x3 x4 x5 xs0 := by
  frame_out
  rfl

theorem out0_B_7_eq  (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S256x512 .f32) (harg7 : arg7.IsWhole) (arg8 : Memref sig .tc .vmem S4x128x256 .f32) (harg8 : arg8.IsWhole) (arg9 : Memref sig .tc .vmem S128x256 .f32) (harg9 : arg9.IsWhole) (hc0 : ¬cond0_0 i)
    (x0 : Vec Ideal S256x256 .f32) (x1 : Vec Ideal S256x256 .f32) (x2 : Vec Ideal S256x512 .f32) (x3 : Vec Ideal S256x16 .f32) (x4 : Vec Ideal S16x256 .f32) (x5 : Vec Ideal S1x256 .f32) (xs0 : Vec Ideal S128x256 .f32)  :
    out0_B_7 (F := Ideal) c i arg1 harg1 arg2 harg2 arg3 harg3 arg4 harg4 arg5 harg5 arg6 harg6 arg7 harg7 arg8 harg8 arg9 harg9 hc0 x0 x1 x2 x3 x4 x5 xs0 = sBlk x1 x2 x3 x4 x5 xs0 := by
  frame_out
  rfl

theorem sout0_B_0_eq  (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x16 .f32) (harg4 : arg4.IsWhole) (arg5 : Memref sig .tc .vmem S16x256 .f32) (harg5 : arg5.IsWhole) (arg6 : Memref sig .tc .vmem S1x256 .f32) (harg6 : arg6.IsWhole) (arg7 : Memref sig .tc .vmem S256x512 .f32) (harg7 : arg7.IsWhole) (arg8 : Memref sig .tc .vmem S4x128x256 .f32) (harg8 : arg8.IsWhole) (arg9 : Memref sig .tc .vmem S128x256 .f32) (harg9 : arg9.IsWhole) (hc0 : ¬cond0_0 i)
    (x0 : Vec Ideal S256x256 .f32) (x1 : Vec Ideal S256x256 .f32) (x2 : Vec Ideal S256x512 .f32) (x3 : Vec Ideal S256x16 .f32) (x4 : Vec Ideal S16x256 .f32) (x5 : Vec Ideal S1x256 .f32) (xs0 : Vec Ideal S128x256 .f32)  :
    sout0_B_0 (F := Ideal) c i arg1 harg1 arg2 harg2 arg3 harg3 arg4 harg4 arg5 harg5 arg6 harg6 arg7 harg7 arg8 harg8 arg9 harg9 hc0 x0 x1 x2 x3 x4 x5 xs0 = shapeCast S128x256 (fSt x1 x2 x3 x4 x5 xs0 4) shapeCasts_S128x256_S128x256 := by
  frame_out
  rfl

end Cert.KernelIdeal.Gla
-- ==== Proof.Val0.lean ====
module

public import proofs.«01_k».proof.Proof.Ident0
public import Idealize.ShloMosaic.Lib.Pipeline.Value

/-! The two arrays the forward call writes. -/

@[expose] public section

set_option maxRecDepth 16384
set_option maxHeartbeats 0

noncomputable section

namespace Cert.KernelIdeal.Gla

open Cert.KernelIdeal.Gen Cert.Gla
open Idealize.ShloMosaic Idealize.ShloMosaic.TcCoe Idealize.ShloMosaic.Tactic
open Idealize.ShloMosaic.Pipeline (Dat Cfg Window)
open Finset (range Ico)

variable (V : (c : Dev nD) → (b : Ref sig .tc) → Buf (Elt Ideal) ((c : Thread nD τ).loc b))

/-- The seven arguments' arrays are the data's. -/
structure ArgsAt (D : Data) (c : Dev nD) : Prop where
  q : Is (a := 4096) (b := 256) (φ := .f32) (V c main_arg0) D.q
  k : Is (a := 4096) (b := 256) (φ := .f32) (V c main_arg1) D.k
  v : Is (a := 4096) (b := 512) (φ := .f32) (V c main_arg2) D.v
  al : Is (a := 4096) (b := 16) (φ := .f32) (V c main_arg3) D.al
  wu : Is (a := 16) (b := 256) (φ := .f32) (V c main_arg4) D.wu
  bu : Is (a := 1) (b := 256) (φ := .f32) (V c main_arg5) fun _ => D.bu
  g : Is (a := 4096) (b := 512) (φ := .bf16) (V c main_arg6) D.g

variable {D : Data} {c : Dev nD}

theorem win_row0 : ∀ t : Fin cfg0.N, (cfg0.win 0).index t 0 = t.val ∧ (cfg0.win 0).index t 1 = 0 ∧ (cfg0.win 1).index t 0 = t.val ∧ (cfg0.win 1).index t 1 = 0
    ∧ (cfg0.win 2).index t 0 = t.val ∧ (cfg0.win 2).index t 1 = 0 ∧ (cfg0.win 3).index t 0 = t.val ∧ (cfg0.win 3).index t 1 = 0
    ∧ (cfg0.win 4).index t 0 = 0 ∧ (cfg0.win 4).index t 1 = 0 ∧ (cfg0.win 5).index t 0 = 0 ∧ (cfg0.win 5).index t 1 = 0
    ∧ (cfg0.win 6).index t 0 = t.val ∧ (cfg0.win 6).index t 1 = 0
    ∧ (cfg0.win 7).index t 0 = t.val ∧ (cfg0.win 7).index t 1 = 0 ∧ (cfg0.win 7).index t 2 = 0 := by decide +kernel

theorem in0 (h : ArgsAt V D c) (t : Fin cfg0.N) : IsIn D t.val (iblk0 V c 0 t) (iblk0 V c 1 t) (iblk0 V c 2 t) (iblk0 V c 3 t) (iblk0 V c 4 t) (iblk0 V c 5 t) := by
  obtain ⟨a0, a1, b0, b1, c0, c1, d0, d1, e0, e1, f0, f1, -⟩ := win_row0 t
  have hk : t.val < 16 := t.isLt
  refine ⟨fun r κ => ?_, fun r κ => ?_, fun r κ => ?_, fun r κ => ?_, fun r κ => ?_, fun r κ => ?_⟩
  · have e : iblk0 V c 0 t (ix2 r κ) = V c main_arg0 (ix2 (⟨256 * t.val + r, by omega⟩ : Fin 4096) κ) := by blk_ext [iblk0, a0, a1]
    exact e.trans (h.q _ _)
  · have e : iblk0 V c 1 t (ix2 r κ) = V c main_arg1 (ix2 (⟨256 * t.val + r, by omega⟩ : Fin 4096) κ) := by blk_ext [iblk0, b0, b1]
    exact e.trans (h.k _ _)
  · have e : iblk0 V c 2 t (ix2 r κ) = V c main_arg2 (ix2 (⟨256 * t.val + r, by omega⟩ : Fin 4096) κ) := by blk_ext [iblk0, c0, c1]
    exact e.trans (h.v _ _)
  · have e : iblk0 V c 3 t (ix2 r κ) = V c main_arg3 (ix2 (⟨256 * t.val + r, by omega⟩ : Fin 4096) κ) := by blk_ext [iblk0, d0, d1]
    exact e.trans (h.al _ _)
  · have e : iblk0 V c 4 t (ix2 r κ) = V c main_arg4 (ix2 r κ) := by blk_ext [iblk0, e0, e1]
    exact e.trans (h.wu _ _)
  · have e : iblk0 V c 5 t (ix2 r κ) = V c main_arg5 (ix2 r κ) := by blk_ext [iblk0, f0, f1]
    exact e.trans (h.bu _ _)

theorem cast_at {a b : ℕ} {φ : FTy} {X : FVec Ideal ⟨2, ![a, b]⟩ φ} {f : ℕ → ℕ → EReal} (h : Is X f) (e) : Is (shapeCast ⟨2, ![a, b]⟩ X e) f := by
  rwa [shapeCast_self]

/-- The state the scratch holds after step `n`. -/
theorem scr0 (h : ArgsAt V D c) : ∀ (n : ℕ) (hn : n < cfg0.N), Is (a := 128) (b := 256) (φ := .f32) (outsAt0 V c n hn).2.2 (D.S (4 * n + 4))
  | 0, hn => by
    rw [outsAt0_A V c ⟨0, hn⟩ rfl]
    dsimp only
    rw [sout0_A_0_eq]
    exact cast_at (fSt_at (in0 V h ⟨0, hn⟩) (s := c0 S128x256) is_c0 4) _
  | n + 1, hn => by
    have hN : n + 1 < 16 := hn
    rw [outsAt0_B V c ⟨n + 1, hn⟩ (by dsimp only; omega)]
    dsimp only
    rw [sout0_B_0_eq]
    exact cast_at (fSt_at (in0 V h ⟨n + 1, hn⟩) (scr0 h n (Nat.lt_of_succ_lt hn)) 4) _

theorem o0 (h : ArgsAt V D c) (t : Fin cfg0.N) (y : S256x512.Idx) :
    (outsAt0 V c t.val t.isLt).1 y = D.o (4 * t.val + (y 0 : ℕ) / 64) ((y 1 : ℕ) / 128) ((y 0 : ℕ) % 64) ((y 1 : ℕ) % 128) := by
  have hN : t.val < 16 := t.isLt
  by_cases h0 : t.val % 16 = 0
  · rw [outsAt0_A V c t h0]
    dsimp only
    rw [out0_A_6_eq]
    refine oBlk_at (in0 V h t) (s := c0 S128x256) ?_ y
    rw [show t.val = 0 by omega]
    exact is_c0
  · rw [outsAt0_B V c t h0]
    dsimp only
    rw [out0_B_6_eq]
    refine oBlk_at (in0 V h t) ?_ y
    have := scr0 V h (t.val - 1) (by have := t.isLt; omega)
    rwa [show 4 * (t.val - 1) + 4 = 4 * t.val by omega] at this

theorem s0 (h : ArgsAt V D c) (t : Fin cfg0.N) (y : S4x128x256.Idx) :
    (outsAt0 V c t.val t.isLt).2.1 y = D.S (4 * t.val + (y 0 : ℕ)) (y 1) (y 2) := by
  have hN : t.val < 16 := t.isLt
  by_cases h0 : t.val % 16 = 0
  · rw [outsAt0_A V c t h0]
    dsimp only
    rw [out0_A_7_eq]
    refine sBlk_at (in0 V h t) (s := c0 S128x256) ?_ y
    rw [show t.val = 0 by omega]
    exact is_c0
  · rw [outsAt0_B V c t h0]
    dsimp only
    rw [out0_B_7_eq]
    refine sBlk_at (in0 V h t) ?_ y
    have := scr0 V h (t.val - 1) (by have := t.isLt; omega)
    rwa [show 4 * (t.val - 1) + 4 = 4 * t.val by omega] at this

/-- The forward call's outputs. -/
theorem o_arr (h : ArgsAt V D c) :
    (dat0 V c).arrAt 6 cfg0.N = fun i : S4096x512.Idx => D.o ((i 0 : ℕ) / 64) ((i 1 : ℕ) / 128) ((i 0 : ℕ) % 64) ((i 1 : ℕ) % 128) := by
  refine (dat0 V c).arrAt_eq_of_covers 6 _ (by decide +kernel) fun t hf y => ?_
  obtain ⟨-, -, -, -, -, -, -, -, -, -, -, -, g0, g1, -⟩ := win_row0 t
  blk_simp [g0, g1]
  rw [after0_6, o0 V h]
  congr 1 <;> omega

/-- The states before every chunk. -/
theorem s_arr (h : ArgsAt V D c) :
    (dat0 V c).arrAt 7 cfg0.N = fun i : S64x128x256.Idx => D.S (i 0 : ℕ) (i 1) (i 2) := by
  refine (dat0 V c).arrAt_eq_of_covers 7 _ (by decide +kernel) fun t hf y => ?_
  obtain ⟨-, -, -, -, -, -, -, -, -, -, -, -, -, -, g0, g1, g2⟩ := win_row0 t
  blk_simp [g0, g1, g2]
  rw [after0_7, s0 V h]
  congr 1 <;> omega

end Cert.KernelIdeal.Gla
-- ==== Proof.Val1.lean ====
module

public import proofs.«01_k».proof.Proof.Ident1
public import proofs.«01_k».proof.Proof.Val0
public import Idealize.ShloMosaic.Lib.Pipeline.Value

/-! The six arrays the backward call writes. -/

@[expose] public section

set_option maxRecDepth 16384
set_option maxHeartbeats 0

noncomputable section

namespace Cert.KernelIdeal.Gla

open Cert.KernelIdeal.Gen Cert.Gla
open Idealize.ShloMosaic Idealize.ShloMosaic.TcCoe Idealize.ShloMosaic.Tactic
open Idealize.ShloMosaic.Pipeline (Dat Cfg Window)
open Finset (range Ico)

variable (V : (c : Dev nD) → (b : Ref sig .tc) → Buf (Elt Ideal) ((c : Thread nD τ).loc b))

variable {D : Data} {c : Dev nD}

theorem win_row1 : ∀ t : Fin cfg1.N, ((cfg1.win 0).index t 0 = 15 - t.val ∧ (cfg1.win 0).index t 1 = 0) ∧ ((cfg1.win 1).index t 0 = 15 - t.val ∧ (cfg1.win 1).index t 1 = 0)
    ∧ ((cfg1.win 2).index t 0 = 15 - t.val ∧ (cfg1.win 2).index t 1 = 0) ∧ ((cfg1.win 3).index t 0 = 15 - t.val ∧ (cfg1.win 3).index t 1 = 0)
    ∧ ((cfg1.win 4).index t 0 = 0 ∧ (cfg1.win 4).index t 1 = 0) ∧ ((cfg1.win 5).index t 0 = 0 ∧ (cfg1.win 5).index t 1 = 0)
    ∧ ((cfg1.win 6).index t 0 = 15 - t.val ∧ (cfg1.win 6).index t 1 = 0 ∧ (cfg1.win 6).index t 2 = 0)
    ∧ ((cfg1.win 7).index t 0 = 15 - t.val ∧ (cfg1.win 7).index t 1 = 0) := by decide +kernel

theorem win_out1 : ∀ t : Fin cfg1.N, ((cfg1.win 8).index t 0 = 15 - t.val ∧ (cfg1.win 8).index t 1 = 0) ∧ ((cfg1.win 9).index t 0 = 15 - t.val ∧ (cfg1.win 9).index t 1 = 0)
    ∧ ((cfg1.win 10).index t 0 = 15 - t.val ∧ (cfg1.win 10).index t 1 = 0) ∧ ((cfg1.win 11).index t 0 = 15 - t.val ∧ (cfg1.win 11).index t 1 = 0)
    ∧ ((cfg1.win 12).index t 0 = 0 ∧ (cfg1.win 12).index t 1 = 0) ∧ ((cfg1.win 13).index t 0 = 0 ∧ (cfg1.win 13).index t 1 = 0) := by decide +kernel

/-- The eight arrays the backward call reads are the data's: the arguments and the states before every chunk. -/
structure ReadsAt (D : Data) (c : Dev nD) : Prop extends ArgsAt V D c where
  st : ∀ (n : Fin 64) (w : Fin 128) (κ : Fin 256), V c main_v0_1 (ix3 n w κ) = D.S n w κ

/-- The blocks step `t` reads. -/
abbrev rB (c : Dev nD) (t : Fin cfg1.N) : Blk :=
  ⟨iblk1 V c 0 t, iblk1 V c 1 t, iblk1 V c 2 t, iblk1 V c 3 t, iblk1 V c 4 t, iblk1 V c 5 t, iblk1 V c 6 t, iblk1 V c 7 t⟩

theorem in1 (h : ReadsAt V D c) (t : Fin cfg1.N) : IsBlk D (15 - t.val) (rB V c t) := by
  obtain ⟨⟨a0, a1⟩, ⟨b0, b1⟩, ⟨c0, c1⟩, ⟨d0, d1⟩, ⟨e0, e1⟩, ⟨f0, f1⟩, ⟨g0, g1, g2⟩, ⟨i0, i1⟩⟩ := win_row1 t
  have hk : t.val < 16 := t.isLt
  refine ⟨⟨fun r κ => ?_, fun r κ => ?_, fun r κ => ?_, fun r κ => ?_, fun r κ => ?_, fun r κ => ?_⟩, fun j w κ => ?_, fun r κ => ?_⟩
  · have e : iblk1 V c 0 t (ix2 r κ) = V c main_arg0 (ix2 (⟨256 * (15 - t.val) + r, by omega⟩ : Fin 4096) κ) := by blk_ext [iblk1, a0, a1]
    exact e.trans (h.q _ _)
  · have e : iblk1 V c 1 t (ix2 r κ) = V c main_arg1 (ix2 (⟨256 * (15 - t.val) + r, by omega⟩ : Fin 4096) κ) := by blk_ext [iblk1, b0, b1]
    exact e.trans (h.k _ _)
  · have e : iblk1 V c 2 t (ix2 r κ) = V c main_arg2 (ix2 (⟨256 * (15 - t.val) + r, by omega⟩ : Fin 4096) κ) := by blk_ext [iblk1, c0, c1]
    exact e.trans (h.v _ _)
  · have e : iblk1 V c 3 t (ix2 r κ) = V c main_arg3 (ix2 (⟨256 * (15 - t.val) + r, by omega⟩ : Fin 4096) κ) := by blk_ext [iblk1, d0, d1]
    exact e.trans (h.al _ _)
  · have e : iblk1 V c 4 t (ix2 r κ) = V c main_arg4 (ix2 r κ) := by blk_ext [iblk1, e0, e1]
    exact e.trans (h.wu _ _)
  · have e : iblk1 V c 5 t (ix2 r κ) = V c main_arg5 (ix2 r κ) := by blk_ext [iblk1, f0, f1]
    exact e.trans (h.bu _ _)
  · have e : iblk1 V c 6 t (ix3 j w κ) = V c main_v0_1 (ix3 (⟨4 * (15 - t.val) + j, by omega⟩ : Fin 64) w κ) := by blk_ext [iblk1, g0, g1, g2]
    exact e.trans (h.st _ _ _)
  · have e : iblk1 V c 7 t (ix2 r κ) = V c main_arg6 (ix2 (⟨256 * (15 - t.val) + r, by omega⟩ : Fin 4096) κ) := by blk_ext [iblk1, i0, i1]
    exact e.trans (h.g _ _)

/-- What step `t` starts from: the gradient state after `4 t` chunks from the last. -/
theorem hs1 {s : Vec Ideal S128x256 .f32} {n : ℕ} (hn : n < 16) (h : Is (a := 128) (b := 256) (φ := .f32) s (D.H (4 * n))) : Is (a := 128) (b := 256) (φ := .f32) s (D.H (60 - 4 * (15 - n))) := by
  rwa [show 60 - 4 * (15 - n) = 4 * n by omega]

/-- The gradient state the scratch holds after step `n`. -/
theorem scr1 (h : ReadsAt V D c) : ∀ (n : ℕ) (hn : n < cfg1.N), Is (a := 128) (b := 256) (φ := .f32) (outsAt1 V c n hn).2.2.2.2.2.2 (D.H (4 * (n + 1)))
  | 0, hn => by
    rw [outsAt1_A V c ⟨0, hn⟩ rfl]
    dsimp only
    rw [sout1_A_0_eq]
    exact cast_at (bSt_at (in1 V h ⟨0, hn⟩) (Nat.sub_le _ _) (s := c0 S128x256) is_c0 0) _
  | n + 1, hn => by
    have hN : n + 1 < 16 := hn
    rw [outsAt1_B V c ⟨n + 1, hn⟩ (by dsimp only; omega)]
    dsimp only
    rw [sout1_B_0_eq]
    have := bSt_at (in1 V h ⟨n + 1, hn⟩) (by dsimp only; omega) (hs1 hN (scr1 h n (Nat.lt_of_succ_lt hn))) 0
    rw [show 64 - (4 * (15 - (n + 1)) + ((0 : Fin 5) : ℕ)) = 4 * (n + 1 + 1) by show 64 - (4 * (15 - (n + 1)) + 0) = _; omega] at this
    exact cast_at this _

theorem acc_step {f g : ℕ → EReal} {n : ℕ} (hn : n + 1 < 16) :
    ∑ m ∈ Ico (60 - 4 * n) 64, f m + ∑ m ∈ Ico (4 * (15 - (n + 1))) (4 * (15 - (n + 1)) + 4), f m = ∑ m ∈ Ico (60 - 4 * (n + 1)) 64, f m := by
  rw [add_comm, show 4 * (15 - (n + 1)) = 60 - 4 * (n + 1) by omega, show 60 - 4 * (n + 1) + 4 = 60 - 4 * n by omega,
    Finset.sum_Ico_consecutive _ (by omega) (by omega)]

/-- The weights' gradient after step `n`. -/
theorem wu1 (h : ReadsAt V D c) : ∀ (n : ℕ) (hn : n < cfg1.N), Is (a := 16) (b := 256) (φ := .f32) (outsAt1 V c n hn).2.2.2.2.1 fun i κ => ∑ m ∈ Ico (60 - 4 * n) 64, D.dwuC m i κ
  | 0, hn => by
    rw [outsAt1_A V c ⟨0, hn⟩ rfl]
    dsimp only
    rw [out1_A_12_eq]
    intro i κ
    have := bWu_at (in1 V h ⟨0, hn⟩) (Nat.sub_le _ _) (s := c0 S128x256) is_c0 i κ
    refine (congrArg₂ (· + ·) (cast_at (is_c0 (a := 16) (b := 256)) _ i κ) this).trans ?_
    exact zero_add _
  | n + 1, hn => by
    have hN : n + 1 < 16 := hn
    rw [outsAt1_B V c ⟨n + 1, hn⟩ (by dsimp only; omega)]
    dsimp only
    rw [out1_B_12_eq]
    intro i κ
    have := bWu_at (in1 V h ⟨n + 1, hn⟩) (by dsimp only; omega) (hs1 hN (scr1 V h n (Nat.lt_of_succ_lt hn))) i κ
    refine (congrArg₂ (· + ·) (cast_at (wu1 h n (Nat.lt_of_succ_lt hn)) _ i κ) this).trans ?_
    exact acc_step (f := fun m => D.dwuC m i κ) (g := 0) hN

/-- The bias's gradient after step `n`. -/
theorem bu1 (h : ReadsAt V D c) : ∀ (n : ℕ) (hn : n < cfg1.N), Is (a := 1) (b := 256) (φ := .f32) (outsAt1 V c n hn).2.2.2.2.2.1 fun _ κ => ∑ m ∈ Ico (60 - 4 * n) 64, D.dbuC m κ
  | 0, hn => by
    rw [outsAt1_A V c ⟨0, hn⟩ rfl]
    dsimp only
    rw [out1_A_13_eq]
    intro i κ
    have := bBu_at (in1 V h ⟨0, hn⟩) (Nat.sub_le _ _) (s := c0 S128x256) is_c0 i κ
    refine (congrArg₂ (· + ·) (cast_at (is_c0 (a := 1) (b := 256)) _ i κ) this).trans ?_
    exact zero_add _
  | n + 1, hn => by
    have hN : n + 1 < 16 := hn
    rw [outsAt1_B V c ⟨n + 1, hn⟩ (by dsimp only; omega)]
    dsimp only
    rw [out1_B_13_eq]
    intro i κ
    have := bBu_at (in1 V h ⟨n + 1, hn⟩) (by dsimp only; omega) (hs1 hN (scr1 V h n (Nat.lt_of_succ_lt hn))) i κ
    refine (congrArg₂ (· + ·) (cast_at (bu1 h n (Nat.lt_of_succ_lt hn)) _ i κ) this).trans ?_
    exact acc_step (f := fun m => D.dbuC m κ) (g := 0) hN

/-- The four row blocks step `t` writes. -/
theorem rows1 (h : ReadsAt V D c) (t : Fin cfg1.N) :
    (∀ y : S256x256.Idx, (outsAt1 V c t.val t.isLt).1 y = D.dq (4 * (15 - t.val) + (y 0 : ℕ) / 64) ((y 0 : ℕ) % 64) (y 1))
    ∧ (∀ y : S256x256.Idx, (outsAt1 V c t.val t.isLt).2.1 y = D.dk (4 * (15 - t.val) + (y 0 : ℕ) / 64) ((y 0 : ℕ) % 64) (y 1))
    ∧ (∀ y : S256x512.Idx, (outsAt1 V c t.val t.isLt).2.2.1 y = D.dv (4 * (15 - t.val) + (y 0 : ℕ) / 64) ((y 1 : ℕ) / 128) ((y 0 : ℕ) % 64) ((y 1 : ℕ) % 128))
    ∧ (∀ y : S256x16.Idx, (outsAt1 V c t.val t.isLt).2.2.2.1 y = D.dal (4 * (15 - t.val) + (y 0 : ℕ) / 64) ((y 0 : ℕ) % 64) (y 1)) := by
  have hN : t.val < 16 := t.isLt
  have hT : 15 - t.val ≤ 15 := by omega
  by_cases h0 : t.val % 16 = 0
  · have hs : Is (a := 128) (b := 256) (φ := .f32) (c0 S128x256) (D.H (60 - 4 * (15 - t.val))) := by
      rw [show t.val = 0 by omega]
      exact is_c0
    rw [outsAt1_A V c t h0]
    dsimp only
    rw [out1_A_8_eq, out1_A_9_eq, out1_A_10_eq, out1_A_11_eq]
    exact ⟨dqBlk_at (in1 V h t), dkBlk_at (in1 V h t) hT hs, dvBlk_at (in1 V h t) hT hs, dalBlk_at (in1 V h t) hT hs⟩
  · have hs := scr1 V h (t.val - 1) (by have := t.isLt; omega)
    rw [show 4 * (t.val - 1 + 1) = 4 * t.val by omega] at hs
    have hs := hs1 hN hs
    rw [outsAt1_B V c t h0]
    dsimp only
    rw [out1_B_8_eq, out1_B_9_eq, out1_B_10_eq, out1_B_11_eq]
    exact ⟨dqBlk_at (in1 V h t), dkBlk_at (in1 V h t) hT hs, dvBlk_at (in1 V h t) hT hs, dalBlk_at (in1 V h t) hT hs⟩

/-- The arrays the backward call writes. -/
theorem dq_arr (h : ReadsAt V D c) :
    (dat1 V c).arrAt 8 cfg1.N = fun i : S4096x256.Idx => D.dq ((i 0 : ℕ) / 64) ((i 0 : ℕ) % 64) (i 1) := by
  refine (dat1 V c).arrAt_eq_of_covers 8 _ (by decide +kernel) fun t hf y => ?_
  obtain ⟨⟨g0, g1⟩, -⟩ := win_out1 t
  blk_simp [g0, g1]
  rw [after1_8, (rows1 V h t).1]
  congr 1 <;> omega

theorem dk_arr (h : ReadsAt V D c) :
    (dat1 V c).arrAt 9 cfg1.N = fun i : S4096x256.Idx => D.dk ((i 0 : ℕ) / 64) ((i 0 : ℕ) % 64) (i 1) := by
  refine (dat1 V c).arrAt_eq_of_covers 9 _ (by decide +kernel) fun t hf y => ?_
  obtain ⟨-, ⟨g0, g1⟩, -⟩ := win_out1 t
  blk_simp [g0, g1]
  rw [after1_9, (rows1 V h t).2.1]
  congr 1 <;> omega

theorem dv_arr (h : ReadsAt V D c) :
    (dat1 V c).arrAt 10 cfg1.N = fun i : S4096x512.Idx => D.dv ((i 0 : ℕ) / 64) ((i 1 : ℕ) / 128) ((i 0 : ℕ) % 64) ((i 1 : ℕ) % 128) := by
  refine (dat1 V c).arrAt_eq_of_covers 10 _ (by decide +kernel) fun t hf y => ?_
  obtain ⟨-, -, ⟨g0, g1⟩, -⟩ := win_out1 t
  blk_simp [g0, g1]
  rw [after1_10, (rows1 V h t).2.2.1]
  congr 1 <;> omega

theorem dal_arr (h : ReadsAt V D c) :
    (dat1 V c).arrAt 11 cfg1.N = fun i : S4096x16.Idx => D.dal ((i 0 : ℕ) / 64) ((i 0 : ℕ) % 64) (i 1) := by
  refine (dat1 V c).arrAt_eq_of_covers 11 _ (by decide +kernel) fun t hf y => ?_
  obtain ⟨-, -, -, ⟨g0, g1⟩, -⟩ := win_out1 t
  blk_simp [g0, g1]
  rw [after1_11, (rows1 V h t).2.2.2]
  congr 1 <;> omega

theorem fin_sum {f : ℕ → EReal} : ∑ m ∈ Ico (60 - 4 * 15) 64, f m = ∑ m ∈ range 64, f m := by
  rw [show 60 - 4 * 15 = 0 by norm_num, Finset.range_eq_Ico]

/-- The last step. -/
def tLast : Fin cfg1.N := ⟨15, by decide⟩

theorem wu_arr (h : ReadsAt V D c) :
    (dat1 V c).arrAt 12 cfg1.N = fun i : S16x256.Idx => D.dwu (i 0) (i 1) := by
  refine (dat1 V c).arrAt_eq_of_after_last 12 tLast (by decide +kernel) _ fun j => ?_
  blk_simp
  rw [after1_12]
  idx_vars j
  exact (wu1 V h 15 (by decide) _ _).trans fin_sum

theorem bu_arr (h : ReadsAt V D c) :
    (dat1 V c).arrAt 13 cfg1.N = fun i : S1x256.Idx => D.dbu (i 1) := by
  refine (dat1 V c).arrAt_eq_of_after_last 13 tLast (by decide +kernel) _ fun j => ?_
  blk_simp
  rw [after1_13]
  idx_vars j
  exact (bu1 V h 15 (by decide) _ _).trans fin_sum

end Cert.KernelIdeal.Gla
-- ==== Proof.RefAt.lean ====
module

public import proofs.«01_k».proof.Proof.RefRun
public import Idealize.ShloMosaic.Lib.Pointwise

/-! What the reference leaves in every buffer its straight-line stretches write: each equals the operation that writes it, of the buffers that
operation reads, all as the program leaves them, since none is written twice. -/

@[expose] public section

set_option maxRecDepth 16384
set_option maxHeartbeats 0

noncomputable section

namespace Cert.ReferenceIdeal.Run

open Cert.ReferenceIdeal Cert.ReferenceIdeal.Gen Cert.ReferenceIdeal.Ops
open Idealize.ShloMosaic Idealize.ShloMosaic.TcCoe Idealize.ShloMosaic.Tactic
open Idealize.ShloMosaic.StableHlo
open Idealize.SL.Sem

variable {F : FTy → Type} [FloatOps F] (m : (ℓ : Loc nD τ sig) → Buf (Elt F) ℓ)

theorem off {b : Ref sig .tc} {A B : List (Ref sig .tc)} (h : b ∉ A ++ B) : b ∉ A ∧ b ∉ B := not_or.mp fun e => h (List.mem_append.mpr e)

abbrev st0 (c : Dev nD) : Valuation τ sig (Elt F) := launchContents m c
abbrev st1 (c : Dev nD) : Valuation τ sig (Elt F) := after main_part0_ops0 (st0 m c)
abbrev st2 (c : Dev nD) : Valuation τ sig (Elt F) := after main_part0_ops1 (st1 m c)
abbrev st3 (c : Dev nD) : Valuation τ sig (Elt F) := after main_part0_ops2 (st2 m c)
abbrev st4 (c : Dev nD) : Valuation τ sig (Elt F) := after main_part0_ops3 (st3 m c)
abbrev st5 (c : Dev nD) : Valuation τ sig (Elt F) := after main_part0_ops4 (st4 m c)
abbrev st6 (c : Dev nD) : Valuation τ sig (Elt F) := after main_part0_ops5 (st5 m c)
abbrev st7 (c : Dev nD) : Valuation τ sig (Elt F) := after main_part0_ops6 (st6 m c)
abbrev st8 (c : Dev nD) : Valuation τ sig (Elt F) := after main_part0_ops7 (st7 m c)
abbrev st9 (c : Dev nD) : Valuation τ sig (Elt F) := after Loop0.condOps (Loop0.atK m 64 c)
abbrev st10 (c : Dev nD) : Valuation τ sig (Elt F) := after main_part0_ops9 (st9 m c)
abbrev st11 (c : Dev nD) : Valuation τ sig (Elt F) := exit1 m c
abbrev st12 (c : Dev nD) : Valuation τ sig (Elt F) := after main_part1_ops1 (st11 m c)
abbrev st13 (c : Dev nD) : Valuation τ sig (Elt F) := after main_part1_ops2 (st12 m c)
abbrev st14 (c : Dev nD) : Valuation τ sig (Elt F) := after main_part1_ops3 (st13 m c)
abbrev st15 (c : Dev nD) : Valuation τ sig (Elt F) := after main_part2_ops0 (st14 m c)
abbrev st16 (c : Dev nD) : Valuation τ sig (Elt F) := after main_part2_ops1 (st15 m c)
abbrev st17 (c : Dev nD) : Valuation τ sig (Elt F) := after main_part2_ops2 (st16 m c)
abbrev st18 (c : Dev nD) : Valuation τ sig (Elt F) := after main_part2_ops3 (st17 m c)

/-- What is written after stretch 18. -/
abbrev later18 : List (Ref sig .tc) := []
theorem at18 (c : Dev nD) (b : Ref sig .tc) (h : b ∉ later18) : last m c (Proc.devRef .tc b) = after main_part2_ops4 (st18 m c) (Proc.devRef .tc b) := rfl
/-- What is written after stretch 17. -/
abbrev later17 : List (Ref sig .tc) := main_part2_ops4_W ++ later18
theorem at17 (c : Dev nD) (b : Ref sig .tc) (h : b ∉ later17) : last m c (Proc.devRef .tc b) = after main_part2_ops3 (st17 m c) (Proc.devRef .tc b) := by
  rw [at18 m c b (off h).2, after_of_writes_sub main_part2_ops4 _ main_part2_ops4_writes (off h).1]
/-- What is written after stretch 16. -/
abbrev later16 : List (Ref sig .tc) := main_part2_ops3_W ++ later17
theorem at16 (c : Dev nD) (b : Ref sig .tc) (h : b ∉ later16) : last m c (Proc.devRef .tc b) = after main_part2_ops2 (st16 m c) (Proc.devRef .tc b) := by
  rw [at17 m c b (off h).2, after_of_writes_sub main_part2_ops3 _ main_part2_ops3_writes (off h).1]
/-- What is written after stretch 15. -/
abbrev later15 : List (Ref sig .tc) := main_part2_ops2_W ++ later16
theorem at15 (c : Dev nD) (b : Ref sig .tc) (h : b ∉ later15) : last m c (Proc.devRef .tc b) = after main_part2_ops1 (st15 m c) (Proc.devRef .tc b) := by
  rw [at16 m c b (off h).2, after_of_writes_sub main_part2_ops2 _ main_part2_ops2_writes (off h).1]
/-- What is written after stretch 14. -/
abbrev later14 : List (Ref sig .tc) := main_part2_ops1_W ++ later15
theorem at14 (c : Dev nD) (b : Ref sig .tc) (h : b ∉ later14) : last m c (Proc.devRef .tc b) = after main_part2_ops0 (st14 m c) (Proc.devRef .tc b) := by
  rw [at15 m c b (off h).2, after_of_writes_sub main_part2_ops1 _ main_part2_ops1_writes (off h).1]
/-- What is written after stretch 13. -/
abbrev later13 : List (Ref sig .tc) := main_part2_ops0_W ++ later14
theorem at13 (c : Dev nD) (b : Ref sig .tc) (h : b ∉ later13) : last m c (Proc.devRef .tc b) = after main_part1_ops3 (st13 m c) (Proc.devRef .tc b) := by
  rw [at14 m c b (off h).2, after_of_writes_sub main_part2_ops0 _ main_part2_ops0_writes (off h).1]
/-- What is written after stretch 12. -/
abbrev later12 : List (Ref sig .tc) := main_part1_ops3_W ++ later13
theorem at12 (c : Dev nD) (b : Ref sig .tc) (h : b ∉ later12) : last m c (Proc.devRef .tc b) = after main_part1_ops2 (st12 m c) (Proc.devRef .tc b) := by
  rw [at13 m c b (off h).2, after_of_writes_sub main_part1_ops3 _ main_part1_ops3_writes (off h).1]
/-- What is written after stretch 11. -/
abbrev later11 : List (Ref sig .tc) := main_part1_ops2_W ++ later12
theorem at11 (c : Dev nD) (b : Ref sig .tc) (h : b ∉ later11) : last m c (Proc.devRef .tc b) = after main_part1_ops1 (st11 m c) (Proc.devRef .tc b) := by
  rw [at12 m c b (off h).2, after_of_writes_sub main_part1_ops2 _ main_part1_ops2_writes (off h).1]
/-- What is written after stretch 10. -/
abbrev later10 : List (Ref sig .tc) := Loop1.condOps_W ++ (body1_W ++ (main_part1_ops1_W ++ later11))
theorem at10 (c : Dev nD) (b : Ref sig .tc) (h : b ∉ later10) : last m c (Proc.devRef .tc b) = after main_part1_ops0 (st10 m c) (Proc.devRef .tc b) := by
  obtain ⟨h₁, h⟩ := off h
  obtain ⟨h₂, h⟩ := off h
  have e : ∀ V : Valuation τ sig (Elt F), after Loop1.condOps V (Proc.devRef .tc b) = V (Proc.devRef .tc b) := fun V => after_of_writes_sub _ V Loop1.condOps_writes h₁
  rw [at11 m c b (off h).2, after_of_writes_sub main_part1_ops1 _ main_part1_ops1_writes (off h).1]
  exact (e _).trans (atTrip_keep b e (body1_keep b h₂) 64)
/-- What is written after stretch 9. -/
abbrev later9 : List (Ref sig .tc) := main_part1_ops0_W ++ later10
theorem at9 (c : Dev nD) (b : Ref sig .tc) (h : b ∉ later9) : last m c (Proc.devRef .tc b) = after main_part0_ops9 (st9 m c) (Proc.devRef .tc b) := by
  rw [at10 m c b (off h).2, after_of_writes_sub main_part1_ops0 _ main_part1_ops0_writes (off h).1]
/-- What is written after stretch 8. -/
abbrev later8 : List (Ref sig .tc) := Loop0.condOps_W ++ (body0_W ++ (main_part0_ops9_W ++ later9))
theorem at8 (c : Dev nD) (b : Ref sig .tc) (h : b ∉ later8) : last m c (Proc.devRef .tc b) = after main_part0_ops8 (st8 m c) (Proc.devRef .tc b) := by
  obtain ⟨h₁, h⟩ := off h
  obtain ⟨h₂, h⟩ := off h
  have e : ∀ V : Valuation τ sig (Elt F), after Loop0.condOps V (Proc.devRef .tc b) = V (Proc.devRef .tc b) := fun V => after_of_writes_sub _ V Loop0.condOps_writes h₁
  rw [at9 m c b (off h).2, after_of_writes_sub main_part0_ops9 _ main_part0_ops9_writes (off h).1]
  exact (e _).trans (atTrip_keep b e (body0_keep b h₂) 64)
/-- What is written after stretch 7. -/
abbrev later7 : List (Ref sig .tc) := main_part0_ops8_W ++ later8
theorem at7 (c : Dev nD) (b : Ref sig .tc) (h : b ∉ later7) : last m c (Proc.devRef .tc b) = after main_part0_ops7 (st7 m c) (Proc.devRef .tc b) := by
  rw [at8 m c b (off h).2, after_of_writes_sub main_part0_ops8 _ main_part0_ops8_writes (off h).1]
/-- What is written after stretch 6. -/
abbrev later6 : List (Ref sig .tc) := main_part0_ops7_W ++ later7
theorem at6 (c : Dev nD) (b : Ref sig .tc) (h : b ∉ later6) : last m c (Proc.devRef .tc b) = after main_part0_ops6 (st6 m c) (Proc.devRef .tc b) := by
  rw [at7 m c b (off h).2, after_of_writes_sub main_part0_ops7 _ main_part0_ops7_writes (off h).1]
/-- What is written after stretch 5. -/
abbrev later5 : List (Ref sig .tc) := main_part0_ops6_W ++ later6
theorem at5 (c : Dev nD) (b : Ref sig .tc) (h : b ∉ later5) : last m c (Proc.devRef .tc b) = after main_part0_ops5 (st5 m c) (Proc.devRef .tc b) := by
  rw [at6 m c b (off h).2, after_of_writes_sub main_part0_ops6 _ main_part0_ops6_writes (off h).1]
/-- What is written after stretch 4. -/
abbrev later4 : List (Ref sig .tc) := main_part0_ops5_W ++ later5
theorem at4 (c : Dev nD) (b : Ref sig .tc) (h : b ∉ later4) : last m c (Proc.devRef .tc b) = after main_part0_ops4 (st4 m c) (Proc.devRef .tc b) := by
  rw [at5 m c b (off h).2, after_of_writes_sub main_part0_ops5 _ main_part0_ops5_writes (off h).1]
/-- What is written after stretch 3. -/
abbrev later3 : List (Ref sig .tc) := main_part0_ops4_W ++ later4
theorem at3 (c : Dev nD) (b : Ref sig .tc) (h : b ∉ later3) : last m c (Proc.devRef .tc b) = after main_part0_ops3 (st3 m c) (Proc.devRef .tc b) := by
  rw [at4 m c b (off h).2, after_of_writes_sub main_part0_ops4 _ main_part0_ops4_writes (off h).1]
/-- What is written after stretch 2. -/
abbrev later2 : List (Ref sig .tc) := main_part0_ops3_W ++ later3
theorem at2 (c : Dev nD) (b : Ref sig .tc) (h : b ∉ later2) : last m c (Proc.devRef .tc b) = after main_part0_ops2 (st2 m c) (Proc.devRef .tc b) := by
  rw [at3 m c b (off h).2, after_of_writes_sub main_part0_ops3 _ main_part0_ops3_writes (off h).1]
/-- What is written after stretch 1. -/
abbrev later1 : List (Ref sig .tc) := main_part0_ops2_W ++ later2
theorem at1 (c : Dev nD) (b : Ref sig .tc) (h : b ∉ later1) : last m c (Proc.devRef .tc b) = after main_part0_ops1 (st1 m c) (Proc.devRef .tc b) := by
  rw [at2 m c b (off h).2, after_of_writes_sub main_part0_ops2 _ main_part0_ops2_writes (off h).1]
/-- What is written after stretch 0. -/
abbrev later0 : List (Ref sig .tc) := main_part0_ops1_W ++ later1
theorem at0 (c : Dev nD) (b : Ref sig .tc) (h : b ∉ later0) : last m c (Proc.devRef .tc b) = after main_part0_ops0 (st0 m c) (Proc.devRef .tc b) := by
  rw [at1 m c b (off h).2, after_of_writes_sub main_part0_ops1 _ main_part0_ops1_writes (off h).1]

theorem after_app : ∀ (l l' : List (HloOp τ sig (Elt F))) (V : Valuation τ sig (Elt F)), after (l ++ l') V = after l' (after l V)
  | [], _, _ => rfl
  | _ :: l, l', V => after_app l l' _

section
variable {m} {c : Dev nD} {ops : List (HloOp τ sig (Elt F))} {V : Valuation τ sig (Elt F)} {later : List (Ref sig .tc)}

/-- An operation's result and what it read, at the end of its stretch. -/
theorem raw (i : ℕ) (W : List (Ref sig .tc)) {op : HloOp τ sig (Elt F)} {rest : List (HloOp τ sig (Elt F))} {o : Ref sig .tc}
    (hseg : ops.drop i = op :: rest) (hop : op.writes = {Proc.devRef (τ := τ) .tc o}) (hW : rest.map HloOp.writes = W.map fun w => {Proc.devRef (τ := τ) .tc w}) (ho : o ∉ W) :
    after ops V (Proc.devRef .tc o) = op.result (upto ops V i) (Proc.devRef .tc o)
      ∧ ∀ a : Ref sig .tc, a ∉ o :: W → upto ops V i (Proc.devRef .tc a) = after ops V (Proc.devRef .tc a) := by
  refine ⟨after_last_write W hseg hW ho V, fun a ha => ?_⟩
  have e : after ops V = after (ops.drop i) (upto ops V i) := by
    conv_lhs => rw [← List.take_append_drop i ops]
    exact after_app _ _ V
  rw [e, hseg]
  refine (after_unwritten (o :: W) ?_ ha _).symm
  rw [List.map_cons, List.map_cons, hop, hW]

variable (hat : ∀ b : Ref sig .tc, b ∉ later → last m c (Proc.devRef .tc b) = after ops V (Proc.devRef .tc b)) (i : ℕ) (W : List (Ref sig .tc))
  {rest : List (HloOp τ sig (Elt F))} {a₁ a₂ a₃ o : Ref sig .tc}

include hat

theorem ent1 {f : a₁.ty.Contents (Elt F) → o.ty.Contents (Elt F)} {h₁ h₂} (hseg : ops.drop i = unary a₁ o f h₁ h₂ :: rest) (hW : rest.map HloOp.writes = W.map fun w => {Proc.devRef (τ := τ) .tc w})
    (hn : o ∉ W ∧ a₁ ∉ o :: W ∧ a₁ ∉ later) : after ops V (Proc.devRef .tc o) = f (last m c (Proc.devRef .tc a₁)) := by
  obtain ⟨hr, hk⟩ := raw (V := V) i W hseg rfl hW hn.1
  rw [hr, unary_result', hk _ hn.2.1, hat _ hn.2.2]

theorem eq0 {v : o.ty.Contents (Elt F)} {h₁} (hseg : ops.drop i = nullary o v h₁ :: rest) (hW : rest.map HloOp.writes = W.map fun w => {Proc.devRef (τ := τ) .tc w})
    (hn : o ∉ W ∧ o ∉ later) : last m c (Proc.devRef .tc o) = v := by
  obtain ⟨hr, hk⟩ := raw (V := V) i W hseg rfl hW hn.1
  rw [hat _ hn.2, hr, nullary_result']

theorem eq1 {f : a₁.ty.Contents (Elt F) → o.ty.Contents (Elt F)} {h₁ h₂} (hseg : ops.drop i = unary a₁ o f h₁ h₂ :: rest) (hW : rest.map HloOp.writes = W.map fun w => {Proc.devRef (τ := τ) .tc w})
    (hn : (o ∉ W ∧ a₁ ∉ o :: W ∧ a₁ ∉ later) ∧ o ∉ later) : last m c (Proc.devRef .tc o) = f (last m c (Proc.devRef .tc a₁)) :=
  (hat _ hn.2).trans (ent1 hat i W hseg hW hn.1)

theorem eqR {f : a₁.ty.Contents (Elt F) → o.ty.Contents (Elt F)} {he : a₁.ty.elt = o.ty.elt} {hs : a₁.ty.shape.ShapeCasts o.ty.shape} {h₁ h₂} (hseg : ops.drop i = reshape a₁ o he hs h₁ h₂ :: rest)
    (hW : rest.map HloOp.writes = W.map fun w => {Proc.devRef (τ := τ) .tc w}) (hf : ∀ x j, f x j = he ▸ shapeCast o.ty.shape x hs j)
    (hn : (o ∉ W ∧ a₁ ∉ o :: W ∧ a₁ ∉ later) ∧ o ∉ later) : last m c (Proc.devRef .tc o) = f (last m c (Proc.devRef .tc a₁)) := by
  obtain ⟨hr, hk⟩ := raw (V := V) i W hseg rfl hW hn.1.1
  rw [hat _ hn.2, hr, reshape_result', hk _ hn.1.2.1, hat _ hn.1.2.2]
  exact funext fun j => (hf _ j).symm

theorem eq2 {f : a₁.ty.Contents (Elt F) → a₂.ty.Contents (Elt F) → o.ty.Contents (Elt F)} {h₁ h₂ h₃} (hseg : ops.drop i = binary a₁ a₂ o f h₁ h₂ h₃ :: rest)
    (hW : rest.map HloOp.writes = W.map fun w => {Proc.devRef (τ := τ) .tc w})
    (hn : (o ∉ W ∧ a₁ ∉ o :: W ∧ a₁ ∉ later) ∧ o ∉ later ∧ a₂ ∉ o :: W ∧ a₂ ∉ later) : last m c (Proc.devRef .tc o) = f (last m c (Proc.devRef .tc a₁)) (last m c (Proc.devRef .tc a₂)) := by
  obtain ⟨hr, hk⟩ := raw (V := V) i W hseg rfl hW hn.1.1
  rw [hat _ hn.2.1, hr, binary_result', hk _ hn.1.2.1, hat _ hn.1.2.2, hk _ hn.2.2.1, hat _ hn.2.2.2]

theorem eq3 {f : a₁.ty.Contents (Elt F) → a₂.ty.Contents (Elt F) → a₃.ty.Contents (Elt F) → o.ty.Contents (Elt F)} {h₁ h₂ h₃ h₄} (hseg : ops.drop i = ternary a₁ a₂ a₃ o f h₁ h₂ h₃ h₄ :: rest)
    (hW : rest.map HloOp.writes = W.map fun w => {Proc.devRef (τ := τ) .tc w})
    (hn : (o ∉ W ∧ a₁ ∉ o :: W ∧ a₁ ∉ later) ∧ o ∉ later ∧ (a₂ ∉ o :: W ∧ a₂ ∉ later) ∧ a₃ ∉ o :: W ∧ a₃ ∉ later) :
    last m c (Proc.devRef .tc o) = f (last m c (Proc.devRef .tc a₁)) (last m c (Proc.devRef .tc a₂)) (last m c (Proc.devRef .tc a₃)) := by
  obtain ⟨hr, hk⟩ := raw (V := V) i W hseg rfl hW hn.1.1
  rw [hat _ hn.2.1, hr, ternary_result', hk _ hn.1.2.1, hat _ hn.1.2.2, hk _ hn.2.2.1.1, hat _ hn.2.2.1.2, hk _ hn.2.2.2.1, hat _ hn.2.2.2.2]

end

def arg0 (m : (ℓ : Loc nD τ sig) → Buf (Elt F) ℓ) (c : Dev nD) : FVec F S4096x256 .f32 := last m c (Proc.devRef .tc main_arg0)
def v0 (m : (ℓ : Loc nD τ sig) → Buf (Elt F) ℓ) (c : Dev nD) : FVec F S1x4096x256 .f32 := last m c (Proc.devRef .tc main_v0)
def arg1 (m : (ℓ : Loc nD τ sig) → Buf (Elt F) ℓ) (c : Dev nD) : FVec F S4096x256 .f32 := last m c (Proc.devRef .tc main_arg1)
def v1 (m : (ℓ : Loc nD τ sig) → Buf (Elt F) ℓ) (c : Dev nD) : FVec F S1x4096x256 .f32 := last m c (Proc.devRef .tc main_v1)
def arg2 (m : (ℓ : Loc nD τ sig) → Buf (Elt F) ℓ) (c : Dev nD) : FVec F S4096x512 .f32 := last m c (Proc.devRef .tc main_arg2)
def v2 (m : (ℓ : Loc nD τ sig) → Buf (Elt F) ℓ) (c : Dev nD) : FVec F S1x4096x512 .f32 := last m c (Proc.devRef .tc main_v2)
def arg3 (m : (ℓ : Loc nD τ sig) → Buf (Elt F) ℓ) (c : Dev nD) : FVec F S4096x16 .f32 := last m c (Proc.devRef .tc main_arg3)
def v3 (m : (ℓ : Loc nD τ sig) → Buf (Elt F) ℓ) (c : Dev nD) : FVec F S1x4096x16 .f32 := last m c (Proc.devRef .tc main_v3)
def v4 (m : (ℓ : Loc nD τ sig) → Buf (Elt F) ℓ) (c : Dev nD) : FVec F S1x64x64x4x64 .f32 := last m c (Proc.devRef .tc main_v4)
def cst (m : (ℓ : Loc nD τ sig) → Buf (Elt F) ℓ) (c : Dev nD) : FVec F S_ .f32 := last m c (Proc.devRef .tc main_cst)
def v5 (m : (ℓ : Loc nD τ sig) → Buf (Elt F) ℓ) (c : Dev nD) : FVec F S1x64x64x4x64 .f32 := last m c (Proc.devRef .tc main_v5)
def v6 (m : (ℓ : Loc nD τ sig) → Buf (Elt F) ℓ) (c : Dev nD) : FVec F S1x64x64x4x64 .f32 := last m c (Proc.devRef .tc main_v6)
def v7 (m : (ℓ : Loc nD τ sig) → Buf (Elt F) ℓ) (c : Dev nD) : FVec F S1x64x64x4x64 .f32 := last m c (Proc.devRef .tc main_v7)
def v8 (m : (ℓ : Loc nD τ sig) → Buf (Elt F) ℓ) (c : Dev nD) : FVec F S1x64x64x4x128 .f32 := last m c (Proc.devRef .tc main_v8)
def arg4 (m : (ℓ : Loc nD τ sig) → Buf (Elt F) ℓ) (c : Dev nD) : FVec F S16x256 .f32 := last m c (Proc.devRef .tc main_arg4)
def v9 (m : (ℓ : Loc nD τ sig) → Buf (Elt F) ℓ) (c : Dev nD) : FVec F S1x4096x256 .f32 := last m c (Proc.devRef .tc main_v9)
def arg5 (m : (ℓ : Loc nD τ sig) → Buf (Elt F) ℓ) (c : Dev nD) : FVec F S1x256 .f32 := last m c (Proc.devRef .tc main_arg5)
def v10 (m : (ℓ : Loc nD τ sig) → Buf (Elt F) ℓ) (c : Dev nD) : FVec F S1x1x256 .f32 := last m c (Proc.devRef .tc main_v10)
def v11 (m : (ℓ : Loc nD τ sig) → Buf (Elt F) ℓ) (c : Dev nD) : FVec F S1x4096x256 .f32 := last m c (Proc.devRef .tc main_v11)
def v12 (m : (ℓ : Loc nD τ sig) → Buf (Elt F) ℓ) (c : Dev nD) : FVec F S1x4096x256 .f32 := last m c (Proc.devRef .tc main_v12)
def call0_v0 (m : (ℓ : Loc nD τ sig) → Buf (Elt F) ℓ) (c : Dev nD) : FVec F S1x4096x256 .f32 := last m c (Proc.devRef .tc main_call0_v0)
def call0_call0_cst (m : (ℓ : Loc nD τ sig) → Buf (Elt F) ℓ) (c : Dev nD) : FVec F S_ .f32 := last m c (Proc.devRef .tc main_call0_call0_cst)
def call0_call0_v0 (m : (ℓ : Loc nD τ sig) → Buf (Elt F) ℓ) (c : Dev nD) : FVec F S1x4096x256 .f32 := last m c (Proc.devRef .tc main_call0_call0_v0)
def call0_call0_v1 (m : (ℓ : Loc nD τ sig) → Buf (Elt F) ℓ) (c : Dev nD) : FVec F S1x4096x256 .f32 := last m c (Proc.devRef .tc main_call0_call0_v1)
def call0_call0_v2 (m : (ℓ : Loc nD τ sig) → Buf (Elt F) ℓ) (c : Dev nD) : FVec F S1x4096x256 .f32 := last m c (Proc.devRef .tc main_call0_call0_v2)
def call0_call0_v3 (m : (ℓ : Loc nD τ sig) → Buf (Elt F) ℓ) (c : Dev nD) : FVec F S1x4096x256 .f32 := last m c (Proc.devRef .tc main_call0_call0_v3)
def call0_call0_v4 (m : (ℓ : Loc nD τ sig) → Buf (Elt F) ℓ) (c : Dev nD) : Vec F S1x4096x256 .i1 := last m c (Proc.devRef .tc main_call0_call0_v4)
def call0_call0_v5 (m : (ℓ : Loc nD τ sig) → Buf (Elt F) ℓ) (c : Dev nD) : FVec F S1x4096x256 .f32 := last m c (Proc.devRef .tc main_call0_call0_v5)
def call0_call0_v6 (m : (ℓ : Loc nD τ sig) → Buf (Elt F) ℓ) (c : Dev nD) : FVec F S1x4096x256 .f32 := last m c (Proc.devRef .tc main_call0_call0_v6)
def call0_call0_v7 (m : (ℓ : Loc nD τ sig) → Buf (Elt F) ℓ) (c : Dev nD) : FVec F S1x4096x256 .f32 := last m c (Proc.devRef .tc main_call0_call0_v7)
def call0_call0_v8 (m : (ℓ : Loc nD τ sig) → Buf (Elt F) ℓ) (c : Dev nD) : FVec F S1x4096x256 .f32 := last m c (Proc.devRef .tc main_call0_call0_v8)
def call0_call0_v9 (m : (ℓ : Loc nD τ sig) → Buf (Elt F) ℓ) (c : Dev nD) : FVec F S1x4096x256 .f32 := last m c (Proc.devRef .tc main_call0_call0_v9)
def call0_call0_v10 (m : (ℓ : Loc nD τ sig) → Buf (Elt F) ℓ) (c : Dev nD) : FVec F S1x4096x256 .f32 := last m c (Proc.devRef .tc main_call0_call0_v10)
def call0_call0_v11 (m : (ℓ : Loc nD τ sig) → Buf (Elt F) ℓ) (c : Dev nD) : FVec F S1x4096x256 .f32 := last m c (Proc.devRef .tc main_call0_call0_v11)
def call0_v1_0 (m : (ℓ : Loc nD τ sig) → Buf (Elt F) ℓ) (c : Dev nD) : FVec F S1x4096x256 .f32 := last m c (Proc.devRef .tc main_call0_v1_0)
def call0_call0_cst_0 (m : (ℓ : Loc nD τ sig) → Buf (Elt F) ℓ) (c : Dev nD) : FVec F S_ .f32 := last m c (Proc.devRef .tc main_call0_call0_cst_0)
def call0_call0_v13 (m : (ℓ : Loc nD τ sig) → Buf (Elt F) ℓ) (c : Dev nD) : FVec F S1x4096x256 .f32 := last m c (Proc.devRef .tc main_call0_call0_v13)
def call0_call0_v14 (m : (ℓ : Loc nD τ sig) → Buf (Elt F) ℓ) (c : Dev nD) : Vec F S1x4096x256 .i1 := last m c (Proc.devRef .tc main_call0_call0_v14)
def call0_call0_cst_1 (m : (ℓ : Loc nD τ sig) → Buf (Elt F) ℓ) (c : Dev nD) : FVec F S_ .f32 := last m c (Proc.devRef .tc main_call0_call0_cst_1)
def call0_call0_v15 (m : (ℓ : Loc nD τ sig) → Buf (Elt F) ℓ) (c : Dev nD) : FVec F S1x4096x256 .f32 := last m c (Proc.devRef .tc main_call0_call0_v15)
def call0_call0_v16 (m : (ℓ : Loc nD τ sig) → Buf (Elt F) ℓ) (c : Dev nD) : FVec F S1x4096x256 .f32 := last m c (Proc.devRef .tc main_call0_call0_v16)
def call0_call0_cst_2 (m : (ℓ : Loc nD τ sig) → Buf (Elt F) ℓ) (c : Dev nD) : FVec F S_ .f32 := last m c (Proc.devRef .tc main_call0_call0_cst_2)
def call0_call0_v17 (m : (ℓ : Loc nD τ sig) → Buf (Elt F) ℓ) (c : Dev nD) : FVec F S1x4096x256 .f32 := last m c (Proc.devRef .tc main_call0_call0_v17)
def call0_call0_v18 (m : (ℓ : Loc nD τ sig) → Buf (Elt F) ℓ) (c : Dev nD) : Vec F S1x4096x256 .i1 := last m c (Proc.devRef .tc main_call0_call0_v18)
def call0_call0_cst_3 (m : (ℓ : Loc nD τ sig) → Buf (Elt F) ℓ) (c : Dev nD) : FVec F S_ .f32 := last m c (Proc.devRef .tc main_call0_call0_cst_3)
def call0_call0_v19 (m : (ℓ : Loc nD τ sig) → Buf (Elt F) ℓ) (c : Dev nD) : FVec F S1x4096x256 .f32 := last m c (Proc.devRef .tc main_call0_call0_v19)
def call0_call0_v20 (m : (ℓ : Loc nD τ sig) → Buf (Elt F) ℓ) (c : Dev nD) : FVec F S1x4096x256 .f32 := last m c (Proc.devRef .tc main_call0_call0_v20)
def call0_call0_v21 (m : (ℓ : Loc nD τ sig) → Buf (Elt F) ℓ) (c : Dev nD) : FVec F S1x4096x256 .f32 := last m c (Proc.devRef .tc main_call0_call0_v21)
def v13_1 (m : (ℓ : Loc nD τ sig) → Buf (Elt F) ℓ) (c : Dev nD) : FVec F S1x4096x256 .f32 := last m c (Proc.devRef .tc main_v13_1)
def v13_0 (m : (ℓ : Loc nD τ sig) → Buf (Elt F) ℓ) (c : Dev nD) : FVec F S1x4096x256 .f32 := last m c (Proc.devRef .tc main_v13_0)
def cst_0 (m : (ℓ : Loc nD τ sig) → Buf (Elt F) ℓ) (c : Dev nD) : FVec F S_ .f32 := last m c (Proc.devRef .tc main_cst_0)
def v14 (m : (ℓ : Loc nD τ sig) → Buf (Elt F) ℓ) (c : Dev nD) : FVec F S1x4096x256 .f32 := last m c (Proc.devRef .tc main_v14)
def v15 (m : (ℓ : Loc nD τ sig) → Buf (Elt F) ℓ) (c : Dev nD) : FVec F S1x4096x256 .f32 := last m c (Proc.devRef .tc main_v15)
def v16 (m : (ℓ : Loc nD τ sig) → Buf (Elt F) ℓ) (c : Dev nD) : FVec F S1x64x64x4x64 .f32 := last m c (Proc.devRef .tc main_v16)
def call1_call0_cst (m : (ℓ : Loc nD τ sig) → Buf (Elt F) ℓ) (c : Dev nD) : FVec F S_ .f32 := last m c (Proc.devRef .tc main_call1_call0_cst)
def call1_call0_v0 (m : (ℓ : Loc nD τ sig) → Buf (Elt F) ℓ) (c : Dev nD) : FVec F S_ .f32 := last m c (Proc.devRef .tc main_call1_call0_v0)
def v17 (m : (ℓ : Loc nD τ sig) → Buf (Elt F) ℓ) (c : Dev nD) : FVec F S1x64x64x4x64 .f32 := last m c (Proc.devRef .tc main_v17)
def v18 (m : (ℓ : Loc nD τ sig) → Buf (Elt F) ℓ) (c : Dev nD) : FVec F S1x64x1x4x64 .f32 := last m c (Proc.devRef .tc main_v18)
def v19 (m : (ℓ : Loc nD τ sig) → Buf (Elt F) ℓ) (c : Dev nD) : FVec F S1x64x4x64 .f32 := last m c (Proc.devRef .tc main_v19)
def v20 (m : (ℓ : Loc nD τ sig) → Buf (Elt F) ℓ) (c : Dev nD) : FVec F S1x64x64x4x64 .f32 := last m c (Proc.devRef .tc main_v20)
def v21 (m : (ℓ : Loc nD τ sig) → Buf (Elt F) ℓ) (c : Dev nD) : FVec F S1x64x64x4x64 .f32 := last m c (Proc.devRef .tc main_v21)
def v22 (m : (ℓ : Loc nD τ sig) → Buf (Elt F) ℓ) (c : Dev nD) : FVec F S1x64x64x4x64 .f32 := last m c (Proc.devRef .tc main_v22)
def v23 (m : (ℓ : Loc nD τ sig) → Buf (Elt F) ℓ) (c : Dev nD) : FVec F S1x64x64x4x64 .f32 := last m c (Proc.devRef .tc main_v23)
def v24 (m : (ℓ : Loc nD τ sig) → Buf (Elt F) ℓ) (c : Dev nD) : FVec F S1x64x64x4x64 .f32 := last m c (Proc.devRef .tc main_v24)
def v25 (m : (ℓ : Loc nD τ sig) → Buf (Elt F) ℓ) (c : Dev nD) : FVec F S1x64x4x64x64 .f32 := last m c (Proc.devRef .tc main_v25)
def cTrue (m : (ℓ : Loc nD τ sig) → Buf (Elt F) ℓ) (c : Dev nD) : Vec F S_ .i1 := last m c (Proc.devRef .tc main_c)
def v26 (m : (ℓ : Loc nD τ sig) → Buf (Elt F) ℓ) (c : Dev nD) : Vec F S64x64 .i1 := last m c (Proc.devRef .tc main_v26)
def call2_v0 (m : (ℓ : Loc nD τ sig) → Buf (Elt F) ℓ) (c : Dev nD) : Vec F S64x64 .i32 := last m c (Proc.devRef .tc main_call2_v0)
def call2_c (m : (ℓ : Loc nD τ sig) → Buf (Elt F) ℓ) (c : Dev nD) : Vec F S_ .i32 := last m c (Proc.devRef .tc main_call2_c)
def call2_v1 (m : (ℓ : Loc nD τ sig) → Buf (Elt F) ℓ) (c : Dev nD) : Vec F S64x64 .i32 := last m c (Proc.devRef .tc main_call2_v1)
def call2_v2 (m : (ℓ : Loc nD τ sig) → Buf (Elt F) ℓ) (c : Dev nD) : Vec F S64x64 .i32 := last m c (Proc.devRef .tc main_call2_v2)
def call2_v3 (m : (ℓ : Loc nD τ sig) → Buf (Elt F) ℓ) (c : Dev nD) : Vec F S64x64 .i32 := last m c (Proc.devRef .tc main_call2_v3)
def call2_v4 (m : (ℓ : Loc nD τ sig) → Buf (Elt F) ℓ) (c : Dev nD) : Vec F S64x64 .i1 := last m c (Proc.devRef .tc main_call2_v4)
def call2_c_0 (m : (ℓ : Loc nD τ sig) → Buf (Elt F) ℓ) (c : Dev nD) : Vec F S_ .i1 := last m c (Proc.devRef .tc main_call2_c_0)
def call2_v5 (m : (ℓ : Loc nD τ sig) → Buf (Elt F) ℓ) (c : Dev nD) : Vec F S64x64 .i1 := last m c (Proc.devRef .tc main_call2_v5)
def v27 (m : (ℓ : Loc nD τ sig) → Buf (Elt F) ℓ) (c : Dev nD) : Vec F S64x64 .i1 := last m c (Proc.devRef .tc main_v27)
def cst_1 (m : (ℓ : Loc nD τ sig) → Buf (Elt F) ℓ) (c : Dev nD) : FVec F S_ .f32 := last m c (Proc.devRef .tc main_cst_1)
def call3_v0 (m : (ℓ : Loc nD τ sig) → Buf (Elt F) ℓ) (c : Dev nD) : FVec F S_ .f32 := last m c (Proc.devRef .tc main_call3_v0)
def v28_1 (m : (ℓ : Loc nD τ sig) → Buf (Elt F) ℓ) (c : Dev nD) : Vec F S1x64x4x64x64 .i1 := last m c (Proc.devRef .tc main_v28_1)
def call3_v2 (m : (ℓ : Loc nD τ sig) → Buf (Elt F) ℓ) (c : Dev nD) : FVec F S1x64x4x64x64 .f32 := last m c (Proc.devRef .tc main_call3_v2)
def v28_0 (m : (ℓ : Loc nD τ sig) → Buf (Elt F) ℓ) (c : Dev nD) : FVec F S1x64x4x64x64 .f32 := last m c (Proc.devRef .tc main_v28_0)
def call3_cst (m : (ℓ : Loc nD τ sig) → Buf (Elt F) ℓ) (c : Dev nD) : FVec F S_ .f32 := last m c (Proc.devRef .tc main_call3_cst)
def v29 (m : (ℓ : Loc nD τ sig) → Buf (Elt F) ℓ) (c : Dev nD) : FVec F S1x64x4x128x64 .f32 := last m c (Proc.devRef .tc main_v29)
def v30 (m : (ℓ : Loc nD τ sig) → Buf (Elt F) ℓ) (c : Dev nD) : FVec F S1x64x64x4x128 .f32 := last m c (Proc.devRef .tc main_v30)
def v31 (m : (ℓ : Loc nD τ sig) → Buf (Elt F) ℓ) (c : Dev nD) : FVec F S1x64x1x4x64 .f32 := last m c (Proc.devRef .tc main_v31)
def v32 (m : (ℓ : Loc nD τ sig) → Buf (Elt F) ℓ) (c : Dev nD) : FVec F S1x64x64x4x64 .f32 := last m c (Proc.devRef .tc main_v32)
def v33 (m : (ℓ : Loc nD τ sig) → Buf (Elt F) ℓ) (c : Dev nD) : FVec F S1x64x64x4x64 .f32 := last m c (Proc.devRef .tc main_v33)
def v34 (m : (ℓ : Loc nD τ sig) → Buf (Elt F) ℓ) (c : Dev nD) : FVec F S1x64x64x4x64 .f32 := last m c (Proc.devRef .tc main_v34)
def v35 (m : (ℓ : Loc nD τ sig) → Buf (Elt F) ℓ) (c : Dev nD) : FVec F S1x64x64x4x64 .f32 := last m c (Proc.devRef .tc main_v35)
def v36 (m : (ℓ : Loc nD τ sig) → Buf (Elt F) ℓ) (c : Dev nD) : FVec F S1x64x4x64x128 .f32 := last m c (Proc.devRef .tc main_v36)
def v37 (m : (ℓ : Loc nD τ sig) → Buf (Elt F) ℓ) (c : Dev nD) : FVec F S1x64x4x64 .f32 := last m c (Proc.devRef .tc main_v37)
def cst_2 (m : (ℓ : Loc nD τ sig) → Buf (Elt F) ℓ) (c : Dev nD) : FVec F S_ .f32 := last m c (Proc.devRef .tc main_cst_2)
def v38 (m : (ℓ : Loc nD τ sig) → Buf (Elt F) ℓ) (c : Dev nD) : FVec F S1x4x64x128 .f32 := last m c (Proc.devRef .tc main_v38)
def v39 (m : (ℓ : Loc nD τ sig) → Buf (Elt F) ℓ) (c : Dev nD) : FVec F S64x1x4x64 .f32 := last m c (Proc.devRef .tc main_v39)
def v40 (m : (ℓ : Loc nD τ sig) → Buf (Elt F) ℓ) (c : Dev nD) : FVec F S64x1x4x64x128 .f32 := last m c (Proc.devRef .tc main_v40)
def cst_3 (m : (ℓ : Loc nD τ sig) → Buf (Elt F) ℓ) (c : Dev nD) : FVec F S_ .f32 := last m c (Proc.devRef .tc main_cst_3)
def v41 (m : (ℓ : Loc nD τ sig) → Buf (Elt F) ℓ) (c : Dev nD) : FVec F S64x1x4x64x128 .f32 := last m c (Proc.devRef .tc main_v41)
def cst_4 (m : (ℓ : Loc nD τ sig) → Buf (Elt F) ℓ) (c : Dev nD) : FVec F S_ .f32 := last m c (Proc.devRef .tc main_cst_4)
def v42 (m : (ℓ : Loc nD τ sig) → Buf (Elt F) ℓ) (c : Dev nD) : FVec F S64x1x4x64x1 .f32 := last m c (Proc.devRef .tc main_v42)
def c_5 (m : (ℓ : Loc nD τ sig) → Buf (Elt F) ℓ) (c : Dev nD) : Vec F S_ .i32 := last m c (Proc.devRef .tc main_c_5)
def v43_0 (m : (ℓ : Loc nD τ sig) → Buf (Elt F) ℓ) (c : Dev nD) : FVec F S64x1x4x64 .f32 := last m c (Proc.devRef .tc main_v43_0)
def v43_1 (m : (ℓ : Loc nD τ sig) → Buf (Elt F) ℓ) (c : Dev nD) : FVec F S64x1x4x64x128 .f32 := last m c (Proc.devRef .tc main_v43_1)
def v43_2 (m : (ℓ : Loc nD τ sig) → Buf (Elt F) ℓ) (c : Dev nD) : Vec F S_ .i32 := last m c (Proc.devRef .tc main_v43_2)
def v43_3 (m : (ℓ : Loc nD τ sig) → Buf (Elt F) ℓ) (c : Dev nD) : FVec F S1x4x64x128 .f32 := last m c (Proc.devRef .tc main_v43_3)
def v43_4 (m : (ℓ : Loc nD τ sig) → Buf (Elt F) ℓ) (c : Dev nD) : FVec F S64x1x4x64x128 .f32 := last m c (Proc.devRef .tc main_v43_4)
def v43_5 (m : (ℓ : Loc nD τ sig) → Buf (Elt F) ℓ) (c : Dev nD) : FVec F S64x1x4x64x1 .f32 := last m c (Proc.devRef .tc main_v43_5)
def v44 (m : (ℓ : Loc nD τ sig) → Buf (Elt F) ℓ) (c : Dev nD) : FVec F S1x64x4x64x128 .f32 := last m c (Proc.devRef .tc main_v44)
def v45 (m : (ℓ : Loc nD τ sig) → Buf (Elt F) ℓ) (c : Dev nD) : FVec F S1x64x4x128x64 .f32 := last m c (Proc.devRef .tc main_v45)
def v46 (m : (ℓ : Loc nD τ sig) → Buf (Elt F) ℓ) (c : Dev nD) : FVec F S1x64x64x4x128 .f32 := last m c (Proc.devRef .tc main_v46)
def v47 (m : (ℓ : Loc nD τ sig) → Buf (Elt F) ℓ) (c : Dev nD) : FVec F S1x64x64x4x128 .f32 := last m c (Proc.devRef .tc main_v47)
def v48 (m : (ℓ : Loc nD τ sig) → Buf (Elt F) ℓ) (c : Dev nD) : FVec F S1x4096x512 .f32 := last m c (Proc.devRef .tc main_v48)
def v49 (m : (ℓ : Loc nD τ sig) → Buf (Elt F) ℓ) (c : Dev nD) : FVec F S4096x512 .f32 := last m c (Proc.devRef .tc main_v49)
def arg6 (m : (ℓ : Loc nD τ sig) → Buf (Elt F) ℓ) (c : Dev nD) : FVec F S4096x512 .bf16 := last m c (Proc.devRef .tc main_arg6)
def v50 (m : (ℓ : Loc nD τ sig) → Buf (Elt F) ℓ) (c : Dev nD) : FVec F S4096x512 .f32 := last m c (Proc.devRef .tc main_v50)
def cst_6 (m : (ℓ : Loc nD τ sig) → Buf (Elt F) ℓ) (c : Dev nD) : FVec F S_ .f32 := last m c (Proc.devRef .tc main_cst_6)
def v51 (m : (ℓ : Loc nD τ sig) → Buf (Elt F) ℓ) (c : Dev nD) : FVec F S1x4x64x128 .f32 := last m c (Proc.devRef .tc main_v51)
def v52 (m : (ℓ : Loc nD τ sig) → Buf (Elt F) ℓ) (c : Dev nD) : FVec F S1x4096x512 .f32 := last m c (Proc.devRef .tc main_v52)
def v53 (m : (ℓ : Loc nD τ sig) → Buf (Elt F) ℓ) (c : Dev nD) : FVec F S1x64x64x4x128 .f32 := last m c (Proc.devRef .tc main_v53)
def v54 (m : (ℓ : Loc nD τ sig) → Buf (Elt F) ℓ) (c : Dev nD) : FVec F S1x64x4x128x64 .f32 := last m c (Proc.devRef .tc main_v54)
def v55 (m : (ℓ : Loc nD τ sig) → Buf (Elt F) ℓ) (c : Dev nD) : FVec F S1x64x4x64x64 .f32 := last m c (Proc.devRef .tc main_v55)
def v56 (m : (ℓ : Loc nD τ sig) → Buf (Elt F) ℓ) (c : Dev nD) : FVec F S1x64x64x4x64 .f32 := last m c (Proc.devRef .tc main_v56)
def v57 (m : (ℓ : Loc nD τ sig) → Buf (Elt F) ℓ) (c : Dev nD) : FVec F S1x64x4x128x64 .f32 := last m c (Proc.devRef .tc main_v57)
def v58 (m : (ℓ : Loc nD τ sig) → Buf (Elt F) ℓ) (c : Dev nD) : FVec F S1x64x4x64x128 .f32 := last m c (Proc.devRef .tc main_v58)
def v59 (m : (ℓ : Loc nD τ sig) → Buf (Elt F) ℓ) (c : Dev nD) : FVec F S64x1x4x64x128 .f32 := last m c (Proc.devRef .tc main_v59)
def cst_7 (m : (ℓ : Loc nD τ sig) → Buf (Elt F) ℓ) (c : Dev nD) : FVec F S_ .f32 := last m c (Proc.devRef .tc main_cst_7)
def v60 (m : (ℓ : Loc nD τ sig) → Buf (Elt F) ℓ) (c : Dev nD) : FVec F S1x4x64x128 .f32 := last m c (Proc.devRef .tc main_v60)
def cst_8 (m : (ℓ : Loc nD τ sig) → Buf (Elt F) ℓ) (c : Dev nD) : FVec F S_ .f32 := last m c (Proc.devRef .tc main_cst_8)
def v61 (m : (ℓ : Loc nD τ sig) → Buf (Elt F) ℓ) (c : Dev nD) : FVec F S64x1x4x64 .f32 := last m c (Proc.devRef .tc main_v61)
def cst_9 (m : (ℓ : Loc nD τ sig) → Buf (Elt F) ℓ) (c : Dev nD) : FVec F S_ .f32 := last m c (Proc.devRef .tc main_cst_9)
def v62 (m : (ℓ : Loc nD τ sig) → Buf (Elt F) ℓ) (c : Dev nD) : FVec F S64x1x4x64x128 .f32 := last m c (Proc.devRef .tc main_v62)
def c_10 (m : (ℓ : Loc nD τ sig) → Buf (Elt F) ℓ) (c : Dev nD) : Vec F S_ .i32 := last m c (Proc.devRef .tc main_c_10)
def v63_0 (m : (ℓ : Loc nD τ sig) → Buf (Elt F) ℓ) (c : Dev nD) : FVec F S64x1x4x64x128 .f32 := last m c (Proc.devRef .tc main_v63_0)
def v63_1 (m : (ℓ : Loc nD τ sig) → Buf (Elt F) ℓ) (c : Dev nD) : FVec F S64x1x4x64x128 .f32 := last m c (Proc.devRef .tc main_v63_1)
def v63_2 (m : (ℓ : Loc nD τ sig) → Buf (Elt F) ℓ) (c : Dev nD) : FVec F S64x1x4x64x1 .f32 := last m c (Proc.devRef .tc main_v63_2)
def v63_3 (m : (ℓ : Loc nD τ sig) → Buf (Elt F) ℓ) (c : Dev nD) : Vec F S_ .i32 := last m c (Proc.devRef .tc main_v63_3)
def v63_4 (m : (ℓ : Loc nD τ sig) → Buf (Elt F) ℓ) (c : Dev nD) : FVec F S1x4x64x128 .f32 := last m c (Proc.devRef .tc main_v63_4)
def v63_5 (m : (ℓ : Loc nD τ sig) → Buf (Elt F) ℓ) (c : Dev nD) : FVec F S64x1x4x64 .f32 := last m c (Proc.devRef .tc main_v63_5)
def v63_6 (m : (ℓ : Loc nD τ sig) → Buf (Elt F) ℓ) (c : Dev nD) : FVec F S64x1x4x64x128 .f32 := last m c (Proc.devRef .tc main_v63_6)
def v64 (m : (ℓ : Loc nD τ sig) → Buf (Elt F) ℓ) (c : Dev nD) : FVec F S1x64x4x64x128 .f32 := last m c (Proc.devRef .tc main_v64)
def v65 (m : (ℓ : Loc nD τ sig) → Buf (Elt F) ℓ) (c : Dev nD) : FVec F S1x64x4x64 .f32 := last m c (Proc.devRef .tc main_v65)
def v66 (m : (ℓ : Loc nD τ sig) → Buf (Elt F) ℓ) (c : Dev nD) : FVec F S1x64x4x64 .f32 := last m c (Proc.devRef .tc main_v66)
def v67 (m : (ℓ : Loc nD τ sig) → Buf (Elt F) ℓ) (c : Dev nD) : FVec F S1x64x4x128x64 .f32 := last m c (Proc.devRef .tc main_v67)
def v68 (m : (ℓ : Loc nD τ sig) → Buf (Elt F) ℓ) (c : Dev nD) : FVec F S1x64x64x4x128 .f32 := last m c (Proc.devRef .tc main_v68)
def v69 (m : (ℓ : Loc nD τ sig) → Buf (Elt F) ℓ) (c : Dev nD) : FVec F S1x64x4x64x64 .f32 := last m c (Proc.devRef .tc main_v69)
def v70 (m : (ℓ : Loc nD τ sig) → Buf (Elt F) ℓ) (c : Dev nD) : FVec F S1x64x64x4x64 .f32 := last m c (Proc.devRef .tc main_v70)
def v71 (m : (ℓ : Loc nD τ sig) → Buf (Elt F) ℓ) (c : Dev nD) : FVec F S1x64x64x4x64 .f32 := last m c (Proc.devRef .tc main_v71)
def v72 (m : (ℓ : Loc nD τ sig) → Buf (Elt F) ℓ) (c : Dev nD) : FVec F S1x64x64x4x64 .f32 := last m c (Proc.devRef .tc main_v72)
def v73 (m : (ℓ : Loc nD τ sig) → Buf (Elt F) ℓ) (c : Dev nD) : FVec F S1x64x64x4x64 .f32 := last m c (Proc.devRef .tc main_v73)
def cst_11 (m : (ℓ : Loc nD τ sig) → Buf (Elt F) ℓ) (c : Dev nD) : FVec F S_ .f32 := last m c (Proc.devRef .tc main_cst_11)
def v74 (m : (ℓ : Loc nD τ sig) → Buf (Elt F) ℓ) (c : Dev nD) : FVec F S1x64x4x64 .f32 := last m c (Proc.devRef .tc main_v74)
def v75 (m : (ℓ : Loc nD τ sig) → Buf (Elt F) ℓ) (c : Dev nD) : FVec F S1x64x1x4x64 .f32 := last m c (Proc.devRef .tc main_v75)
def v76 (m : (ℓ : Loc nD τ sig) → Buf (Elt F) ℓ) (c : Dev nD) : FVec F S1x64x64x4x64 .f32 := last m c (Proc.devRef .tc main_v76)
def cst_12 (m : (ℓ : Loc nD τ sig) → Buf (Elt F) ℓ) (c : Dev nD) : FVec F S_ .f32 := last m c (Proc.devRef .tc main_cst_12)
def v77 (m : (ℓ : Loc nD τ sig) → Buf (Elt F) ℓ) (c : Dev nD) : FVec F S64x4x64 .f32 := last m c (Proc.devRef .tc main_v77)
def v78 (m : (ℓ : Loc nD τ sig) → Buf (Elt F) ℓ) (c : Dev nD) : FVec F S1x64x4x64 .f32 := last m c (Proc.devRef .tc main_v78)
def v79 (m : (ℓ : Loc nD τ sig) → Buf (Elt F) ℓ) (c : Dev nD) : FVec F S1x64x4x64 .f32 := last m c (Proc.devRef .tc main_v79)
def v80 (m : (ℓ : Loc nD τ sig) → Buf (Elt F) ℓ) (c : Dev nD) : FVec F S1x64x4x128x64 .f32 := last m c (Proc.devRef .tc main_v80)
def v81 (m : (ℓ : Loc nD τ sig) → Buf (Elt F) ℓ) (c : Dev nD) : FVec F S1x64x4x64x64 .f32 := last m c (Proc.devRef .tc main_v81)
def v82 (m : (ℓ : Loc nD τ sig) → Buf (Elt F) ℓ) (c : Dev nD) : FVec F S1x64x4x128x64 .f32 := last m c (Proc.devRef .tc main_v82)
def v83 (m : (ℓ : Loc nD τ sig) → Buf (Elt F) ℓ) (c : Dev nD) : FVec F S1x64x64x4x128 .f32 := last m c (Proc.devRef .tc main_v83)
def v84 (m : (ℓ : Loc nD τ sig) → Buf (Elt F) ℓ) (c : Dev nD) : FVec F S1x64x64x4x128 .f32 := last m c (Proc.devRef .tc main_v84)
def call13_cst (m : (ℓ : Loc nD τ sig) → Buf (Elt F) ℓ) (c : Dev nD) : FVec F S_ .f32 := last m c (Proc.devRef .tc main_call13_cst)
def call13_v0 (m : (ℓ : Loc nD τ sig) → Buf (Elt F) ℓ) (c : Dev nD) : FVec F S1x64x4x64x64 .f32 := last m c (Proc.devRef .tc main_call13_v0)
def v85 (m : (ℓ : Loc nD τ sig) → Buf (Elt F) ℓ) (c : Dev nD) : FVec F S1x64x4x64x64 .f32 := last m c (Proc.devRef .tc main_v85)
def v86 (m : (ℓ : Loc nD τ sig) → Buf (Elt F) ℓ) (c : Dev nD) : FVec F S1x64x4x64x64 .f32 := last m c (Proc.devRef .tc main_v86)
def v87 (m : (ℓ : Loc nD τ sig) → Buf (Elt F) ℓ) (c : Dev nD) : FVec F S1x64x64x4x64 .f32 := last m c (Proc.devRef .tc main_v87)
def v88 (m : (ℓ : Loc nD τ sig) → Buf (Elt F) ℓ) (c : Dev nD) : FVec F S1x64x4x64x64 .f32 := last m c (Proc.devRef .tc main_v88)
def v89 (m : (ℓ : Loc nD τ sig) → Buf (Elt F) ℓ) (c : Dev nD) : FVec F S1x64x64x4x64 .f32 := last m c (Proc.devRef .tc main_v89)
def v90 (m : (ℓ : Loc nD τ sig) → Buf (Elt F) ℓ) (c : Dev nD) : FVec F S1x64x64x4x64 .f32 := last m c (Proc.devRef .tc main_v90)
def v91 (m : (ℓ : Loc nD τ sig) → Buf (Elt F) ℓ) (c : Dev nD) : FVec F S1x64x64x4x64 .f32 := last m c (Proc.devRef .tc main_v91)
def v92 (m : (ℓ : Loc nD τ sig) → Buf (Elt F) ℓ) (c : Dev nD) : FVec F S1x64x64x4x64 .f32 := last m c (Proc.devRef .tc main_v92)
def v93 (m : (ℓ : Loc nD τ sig) → Buf (Elt F) ℓ) (c : Dev nD) : FVec F S1x64x64x4x64 .f32 := last m c (Proc.devRef .tc main_v93)
def v94 (m : (ℓ : Loc nD τ sig) → Buf (Elt F) ℓ) (c : Dev nD) : FVec F S1x64x64x4x64 .f32 := last m c (Proc.devRef .tc main_v94)
def v95 (m : (ℓ : Loc nD τ sig) → Buf (Elt F) ℓ) (c : Dev nD) : FVec F S1x64x64x4x64 .f32 := last m c (Proc.devRef .tc main_v95)
def v96 (m : (ℓ : Loc nD τ sig) → Buf (Elt F) ℓ) (c : Dev nD) : FVec F S1x64x64x4x64 .f32 := last m c (Proc.devRef .tc main_v96)
def v97 (m : (ℓ : Loc nD τ sig) → Buf (Elt F) ℓ) (c : Dev nD) : FVec F S1x64x64x4x64 .f32 := last m c (Proc.devRef .tc main_v97)
def v98 (m : (ℓ : Loc nD τ sig) → Buf (Elt F) ℓ) (c : Dev nD) : FVec F S1x64x64x4x64 .f32 := last m c (Proc.devRef .tc main_v98)
def v99 (m : (ℓ : Loc nD τ sig) → Buf (Elt F) ℓ) (c : Dev nD) : FVec F S1x64x64x4x64 .f32 := last m c (Proc.devRef .tc main_v99)
def v100 (m : (ℓ : Loc nD τ sig) → Buf (Elt F) ℓ) (c : Dev nD) : FVec F S1x64x64x4x64 .f32 := last m c (Proc.devRef .tc main_v100)
def v101 (m : (ℓ : Loc nD τ sig) → Buf (Elt F) ℓ) (c : Dev nD) : FVec F S1x64x1x4x64 .f32 := last m c (Proc.devRef .tc main_v101)
def cst_13 (m : (ℓ : Loc nD τ sig) → Buf (Elt F) ℓ) (c : Dev nD) : FVec F S_ .f32 := last m c (Proc.devRef .tc main_cst_13)
def v102 (m : (ℓ : Loc nD τ sig) → Buf (Elt F) ℓ) (c : Dev nD) : FVec F S1x64x64x4x64 .f32 := last m c (Proc.devRef .tc main_v102)
def v103 (m : (ℓ : Loc nD τ sig) → Buf (Elt F) ℓ) (c : Dev nD) : FVec F S1x64x64x4x64 .f32 := last m c (Proc.devRef .tc main_v103)
def call14_call0_cst (m : (ℓ : Loc nD τ sig) → Buf (Elt F) ℓ) (c : Dev nD) : FVec F S_ .f32 := last m c (Proc.devRef .tc main_call14_call0_cst)
def call14_call0_v0 (m : (ℓ : Loc nD τ sig) → Buf (Elt F) ℓ) (c : Dev nD) : FVec F S_ .f32 := last m c (Proc.devRef .tc main_call14_call0_v0)
def v104 (m : (ℓ : Loc nD τ sig) → Buf (Elt F) ℓ) (c : Dev nD) : FVec F S1x64x64x4x64 .f32 := last m c (Proc.devRef .tc main_v104)
def v105 (m : (ℓ : Loc nD τ sig) → Buf (Elt F) ℓ) (c : Dev nD) : FVec F S1x4096x256 .f32 := last m c (Proc.devRef .tc main_v105)
def cst_14 (m : (ℓ : Loc nD τ sig) → Buf (Elt F) ℓ) (c : Dev nD) : FVec F S_ .f32 := last m c (Proc.devRef .tc main_cst_14)
def v106 (m : (ℓ : Loc nD τ sig) → Buf (Elt F) ℓ) (c : Dev nD) : FVec F S1x4096x256 .f32 := last m c (Proc.devRef .tc main_v106)
def v107 (m : (ℓ : Loc nD τ sig) → Buf (Elt F) ℓ) (c : Dev nD) : FVec F S1x4096x256 .f32 := last m c (Proc.devRef .tc main_v107)
def call15_v0 (m : (ℓ : Loc nD τ sig) → Buf (Elt F) ℓ) (c : Dev nD) : FVec F S1x4096x256 .f32 := last m c (Proc.devRef .tc main_call15_v0)
def call15_v1 (m : (ℓ : Loc nD τ sig) → Buf (Elt F) ℓ) (c : Dev nD) : FVec F S1x4096x256 .f32 := last m c (Proc.devRef .tc main_call15_v1)
def v108 (m : (ℓ : Loc nD τ sig) → Buf (Elt F) ℓ) (c : Dev nD) : FVec F S1x4096x256 .f32 := last m c (Proc.devRef .tc main_v108)
def cst_15 (m : (ℓ : Loc nD τ sig) → Buf (Elt F) ℓ) (c : Dev nD) : FVec F S_ .f32 := last m c (Proc.devRef .tc main_cst_15)
def v109 (m : (ℓ : Loc nD τ sig) → Buf (Elt F) ℓ) (c : Dev nD) : FVec F S1x256 .f32 := last m c (Proc.devRef .tc main_v109)
def v110 (m : (ℓ : Loc nD τ sig) → Buf (Elt F) ℓ) (c : Dev nD) : FVec F S1x1x256 .f32 := last m c (Proc.devRef .tc main_v110)
def cst_16 (m : (ℓ : Loc nD τ sig) → Buf (Elt F) ℓ) (c : Dev nD) : FVec F S_ .f32 := last m c (Proc.devRef .tc main_cst_16)
def v111 (m : (ℓ : Loc nD τ sig) → Buf (Elt F) ℓ) (c : Dev nD) : FVec F S256 .f32 := last m c (Proc.devRef .tc main_v111)
def v112 (m : (ℓ : Loc nD τ sig) → Buf (Elt F) ℓ) (c : Dev nD) : FVec F S1x256 .f32 := last m c (Proc.devRef .tc main_v112)
def v113 (m : (ℓ : Loc nD τ sig) → Buf (Elt F) ℓ) (c : Dev nD) : FVec F S256x16 .f32 := last m c (Proc.devRef .tc main_v113)
def v114 (m : (ℓ : Loc nD τ sig) → Buf (Elt F) ℓ) (c : Dev nD) : FVec F S16x256 .f32 := last m c (Proc.devRef .tc main_v114)
def v115 (m : (ℓ : Loc nD τ sig) → Buf (Elt F) ℓ) (c : Dev nD) : FVec F S1x4096x16 .f32 := last m c (Proc.devRef .tc main_v115)
def v116 (m : (ℓ : Loc nD τ sig) → Buf (Elt F) ℓ) (c : Dev nD) : FVec F S1x4096x512 .f32 := last m c (Proc.devRef .tc main_v116)
def v117 (m : (ℓ : Loc nD τ sig) → Buf (Elt F) ℓ) (c : Dev nD) : FVec F S1x4096x256 .f32 := last m c (Proc.devRef .tc main_v117)
def cst_17 (m : (ℓ : Loc nD τ sig) → Buf (Elt F) ℓ) (c : Dev nD) : FVec F S_ .f32 := last m c (Proc.devRef .tc main_cst_17)
def v118 (m : (ℓ : Loc nD τ sig) → Buf (Elt F) ℓ) (c : Dev nD) : FVec F S1x64x64x4x64 .f32 := last m c (Proc.devRef .tc main_v118)
def v119 (m : (ℓ : Loc nD τ sig) → Buf (Elt F) ℓ) (c : Dev nD) : FVec F S1x64x64x4x64 .f32 := last m c (Proc.devRef .tc main_v119)
def v120 (m : (ℓ : Loc nD τ sig) → Buf (Elt F) ℓ) (c : Dev nD) : FVec F S1x4096x256 .f32 := last m c (Proc.devRef .tc main_v120)
def cst_18 (m : (ℓ : Loc nD τ sig) → Buf (Elt F) ℓ) (c : Dev nD) : FVec F S_ .f32 := last m c (Proc.devRef .tc main_cst_18)
def v121 (m : (ℓ : Loc nD τ sig) → Buf (Elt F) ℓ) (c : Dev nD) : FVec F S4096x16 .f32 := last m c (Proc.devRef .tc main_v121)
def cst_19 (m : (ℓ : Loc nD τ sig) → Buf (Elt F) ℓ) (c : Dev nD) : FVec F S_ .f32 := last m c (Proc.devRef .tc main_cst_19)
def v122 (m : (ℓ : Loc nD τ sig) → Buf (Elt F) ℓ) (c : Dev nD) : FVec F S4096x512 .f32 := last m c (Proc.devRef .tc main_v122)
def cst_20 (m : (ℓ : Loc nD τ sig) → Buf (Elt F) ℓ) (c : Dev nD) : FVec F S_ .f32 := last m c (Proc.devRef .tc main_cst_20)
def v123 (m : (ℓ : Loc nD τ sig) → Buf (Elt F) ℓ) (c : Dev nD) : FVec F S4096x256 .f32 := last m c (Proc.devRef .tc main_v123)
def cst_21 (m : (ℓ : Loc nD τ sig) → Buf (Elt F) ℓ) (c : Dev nD) : FVec F S_ .f32 := last m c (Proc.devRef .tc main_cst_21)
def v124 (m : (ℓ : Loc nD τ sig) → Buf (Elt F) ℓ) (c : Dev nD) : FVec F S4096x256 .f32 := last m c (Proc.devRef .tc main_v124)
def v125 (m : (ℓ : Loc nD τ sig) → Buf (Elt F) ℓ) (c : Dev nD) : FVec F S4096x256 .bf16 := last m c (Proc.devRef .tc main_v125)
def v126 (m : (ℓ : Loc nD τ sig) → Buf (Elt F) ℓ) (c : Dev nD) : FVec F S4096x256 .bf16 := last m c (Proc.devRef .tc main_v126)
def v127 (m : (ℓ : Loc nD τ sig) → Buf (Elt F) ℓ) (c : Dev nD) : FVec F S4096x512 .bf16 := last m c (Proc.devRef .tc main_v127)
def v128 (m : (ℓ : Loc nD τ sig) → Buf (Elt F) ℓ) (c : Dev nD) : FVec F S4096x16 .bf16 := last m c (Proc.devRef .tc main_v128)

end Cert.ReferenceIdeal.Run
-- ==== Proof.RefEq0.lean ====
module

public import proofs.«01_k».proof.Proof.RefAt
public import Idealize.ShloMosaic.Lib.Pointwise

/-! What the reference leaves in every buffer its straight-line stretches write: each equals the operation that writes it, of the buffers that
operation reads, all as the program leaves them, since none is written twice. -/

@[expose] public section

set_option maxRecDepth 16384
set_option maxHeartbeats 0

noncomputable section

namespace Cert.ReferenceIdeal.Run

open Cert.ReferenceIdeal Cert.ReferenceIdeal.Gen Cert.ReferenceIdeal.Ops
open Idealize.ShloMosaic Idealize.ShloMosaic.TcCoe Idealize.ShloMosaic.Tactic
open Idealize.ShloMosaic.StableHlo
open Idealize.SL.Sem

variable {F : FTy → Type} [FloatOps F] (m : (ℓ : Loc nD τ sig) → Buf (Elt F) ℓ) (c : Dev nD)

theorem e_v0 : v0 m c = broadcastInDim S1x4096x256 ![1, 2] bcast_S4096x256_S1x4096x256_1_2 (arg0 m c) :=
  by have h := eq1 (a₁ := main_arg0) (o := main_v0) (f := (broadcastInDim S1x4096x256 ![1, 2] bcast_S4096x256_S1x4096x256_1_2 : (⟨S4096x256, .f32⟩ : BufTy).Contents (Elt F) → (⟨S1x4096x256, .f32⟩ : BufTy).Contents (Elt F))) (at0 m c) 0 [main_v1, main_v2, main_v3, main_v4, main_cst, main_v5, main_v6, main_v7, main_v8, main_v9, main_v10, main_v11, main_v12] (by exact rfl) (by exact rfl) (by decide +kernel); exact h
theorem e_v1 : v1 m c = broadcastInDim S1x4096x256 ![1, 2] bcast_S4096x256_S1x4096x256_1_2 (arg1 m c) :=
  by have h := eq1 (a₁ := main_arg1) (o := main_v1) (f := (broadcastInDim S1x4096x256 ![1, 2] bcast_S4096x256_S1x4096x256_1_2 : (⟨S4096x256, .f32⟩ : BufTy).Contents (Elt F) → (⟨S1x4096x256, .f32⟩ : BufTy).Contents (Elt F))) (at0 m c) 1 [main_v2, main_v3, main_v4, main_cst, main_v5, main_v6, main_v7, main_v8, main_v9, main_v10, main_v11, main_v12] (by exact rfl) (by exact rfl) (by decide +kernel); exact h
theorem e_v2 : v2 m c = broadcastInDim S1x4096x512 ![1, 2] bcast_S4096x512_S1x4096x512_1_2 (arg2 m c) :=
  by have h := eq1 (a₁ := main_arg2) (o := main_v2) (f := (broadcastInDim S1x4096x512 ![1, 2] bcast_S4096x512_S1x4096x512_1_2 : (⟨S4096x512, .f32⟩ : BufTy).Contents (Elt F) → (⟨S1x4096x512, .f32⟩ : BufTy).Contents (Elt F))) (at0 m c) 2 [main_v3, main_v4, main_cst, main_v5, main_v6, main_v7, main_v8, main_v9, main_v10, main_v11, main_v12] (by exact rfl) (by exact rfl) (by decide +kernel); exact h
theorem e_v3 : v3 m c = broadcastInDim S1x4096x16 ![1, 2] bcast_S4096x16_S1x4096x16_1_2 (arg3 m c) :=
  by have h := eq1 (a₁ := main_arg3) (o := main_v3) (f := (broadcastInDim S1x4096x16 ![1, 2] bcast_S4096x16_S1x4096x16_1_2 : (⟨S4096x16, .f32⟩ : BufTy).Contents (Elt F) → (⟨S1x4096x16, .f32⟩ : BufTy).Contents (Elt F))) (at0 m c) 3 [main_v4, main_cst, main_v5, main_v6, main_v7, main_v8, main_v9, main_v10, main_v11, main_v12] (by exact rfl) (by exact rfl) (by decide +kernel); exact h
theorem e_v4 : v4 m c = shapeCast S1x64x64x4x64 (v0 m c) shapeCasts_S1x4096x256_S1x64x64x4x64 :=
  by have h := eqR (a₁ := main_v0) (o := main_v4) (f := fun x : (⟨S1x4096x256, .f32⟩ : BufTy).Contents (Elt F) => (shapeCast S1x64x64x4x64 x shapeCasts_S1x4096x256_S1x64x64x4x64 : (⟨S1x64x64x4x64, .f32⟩ : BufTy).Contents (Elt F))) (at0 m c) 4 [main_cst, main_v5, main_v6, main_v7, main_v8, main_v9, main_v10, main_v11, main_v12] (by exact rfl) (by exact rfl) (fun _ _ => rfl) (by decide +kernel); exact h
theorem e_cst : cst m c = (constant S_ .f32 0x3E000000#32) :=
  by have h := eq0  (o := main_cst) (at0 m c) 5 [main_v5, main_v6, main_v7, main_v8, main_v9, main_v10, main_v11, main_v12] (by exact rfl) (by exact rfl) (by decide +kernel); exact h
theorem e_v5 : v5 m c = broadcastInDim S1x64x64x4x64 ![] bcast_S_S1x64x64x4x64 (cst m c) :=
  by have h := eq1 (a₁ := main_cst) (o := main_v5) (f := (broadcastInDim S1x64x64x4x64 ![] bcast_S_S1x64x64x4x64 : (⟨S_, .f32⟩ : BufTy).Contents (Elt F) → (⟨S1x64x64x4x64, .f32⟩ : BufTy).Contents (Elt F))) (at0 m c) 6 [main_v6, main_v7, main_v8, main_v9, main_v10, main_v11, main_v12] (by exact rfl) (by exact rfl) (by decide +kernel); exact h
theorem e_v6 : v6 m c = mulf (v4 m c) (v5 m c) :=
  by have h := eq2 (a₁ := main_v4) (a₂ := main_v5) (o := main_v6) (f := (mulf : (⟨S1x64x64x4x64, .f32⟩ : BufTy).Contents (Elt F) → (⟨S1x64x64x4x64, .f32⟩ : BufTy).Contents (Elt F) → (⟨S1x64x64x4x64, .f32⟩ : BufTy).Contents (Elt F))) (at0 m c) 7 [main_v7, main_v8, main_v9, main_v10, main_v11, main_v12] (by exact rfl) (by exact rfl) (by decide +kernel); exact h
theorem e_v7 : v7 m c = shapeCast S1x64x64x4x64 (v1 m c) shapeCasts_S1x4096x256_S1x64x64x4x64 :=
  by have h := eqR (a₁ := main_v1) (o := main_v7) (f := fun x : (⟨S1x4096x256, .f32⟩ : BufTy).Contents (Elt F) => (shapeCast S1x64x64x4x64 x shapeCasts_S1x4096x256_S1x64x64x4x64 : (⟨S1x64x64x4x64, .f32⟩ : BufTy).Contents (Elt F))) (at0 m c) 8 [main_v8, main_v9, main_v10, main_v11, main_v12] (by exact rfl) (by exact rfl) (fun _ _ => rfl) (by decide +kernel); exact h
theorem e_v8 : v8 m c = shapeCast S1x64x64x4x128 (v2 m c) shapeCasts_S1x4096x512_S1x64x64x4x128 :=
  by have h := eqR (a₁ := main_v2) (o := main_v8) (f := fun x : (⟨S1x4096x512, .f32⟩ : BufTy).Contents (Elt F) => (shapeCast S1x64x64x4x128 x shapeCasts_S1x4096x512_S1x64x64x4x128 : (⟨S1x64x64x4x128, .f32⟩ : BufTy).Contents (Elt F))) (at0 m c) 9 [main_v9, main_v10, main_v11, main_v12] (by exact rfl) (by exact rfl) (fun _ _ => rfl) (by decide +kernel); exact h
theorem e_v9 : v9 m c = Host.dotGeneral dot_S1x4096x16_S16x256_S1x4096x256_2_0_01_1_n_n none (v3 m c) (arg4 m c) :=
  by have h := eq2 (a₁ := main_v3) (a₂ := main_arg4) (o := main_v9) (f := ((fun l r => Host.dotGeneral dot_S1x4096x16_S16x256_S1x4096x256_2_0_01_1_n_n none l r) : (⟨S1x4096x16, .f32⟩ : BufTy).Contents (Elt F) → (⟨S16x256, .f32⟩ : BufTy).Contents (Elt F) → (⟨S1x4096x256, .f32⟩ : BufTy).Contents (Elt F))) (at0 m c) 10 [main_v10, main_v11, main_v12] (by exact rfl) (by exact rfl) (by decide +kernel); exact h
theorem e_v10 : v10 m c = broadcastInDim S1x1x256 ![1, 2] bcast_S1x256_S1x1x256_1_2 (arg5 m c) :=
  by have h := eq1 (a₁ := main_arg5) (o := main_v10) (f := (broadcastInDim S1x1x256 ![1, 2] bcast_S1x256_S1x1x256_1_2 : (⟨S1x256, .f32⟩ : BufTy).Contents (Elt F) → (⟨S1x1x256, .f32⟩ : BufTy).Contents (Elt F))) (at0 m c) 11 [main_v11, main_v12] (by exact rfl) (by exact rfl) (by decide +kernel); exact h
theorem e_v11 : v11 m c = broadcastInDim S1x4096x256 ![0, 1, 2] bcast_S1x1x256_S1x4096x256_0_1_2 (v10 m c) :=
  by have h := eq1 (a₁ := main_v10) (o := main_v11) (f := (broadcastInDim S1x4096x256 ![0, 1, 2] bcast_S1x1x256_S1x4096x256_0_1_2 : (⟨S1x1x256, .f32⟩ : BufTy).Contents (Elt F) → (⟨S1x4096x256, .f32⟩ : BufTy).Contents (Elt F))) (at0 m c) 12 [main_v12] (by exact rfl) (by exact rfl) (by decide +kernel); exact h
theorem e_v12 : v12 m c = addf (v9 m c) (v11 m c) :=
  by have h := eq2 (a₁ := main_v9) (a₂ := main_v11) (o := main_v12) (f := (addf : (⟨S1x4096x256, .f32⟩ : BufTy).Contents (Elt F) → (⟨S1x4096x256, .f32⟩ : BufTy).Contents (Elt F) → (⟨S1x4096x256, .f32⟩ : BufTy).Contents (Elt F))) (at0 m c) 13 [] (by exact rfl) (by exact rfl) (by decide +kernel); exact h
theorem e_call0_v0 : call0_v0 m c = Host.negf (v12 m c) :=
  by have h := eq1 (a₁ := main_v12) (o := main_call0_v0) (f := Host.negf) (at1 m c) 0 [main_call0_call0_cst, main_call0_call0_v0, main_call0_call0_v1, main_call0_call0_v2, main_call0_call0_v3, main_call0_call0_v4, main_call0_call0_v5, main_call0_call0_v6, main_call0_call0_v7, main_call0_call0_v8, main_call0_call0_v9, main_call0_call0_v10, main_call0_call0_v11, main_call0_v1_0, main_call0_call0_cst_0, main_call0_call0_v13, main_call0_call0_v14, main_call0_call0_cst_1, main_call0_call0_v15, main_call0_call0_v16, main_call0_call0_cst_2, main_call0_call0_v17, main_call0_call0_v18, main_call0_call0_cst_3, main_call0_call0_v19, main_call0_call0_v20, main_call0_call0_v21, main_v13_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v13_2, main_v13_0] (by exact rfl) (by exact rfl) (by decide +kernel); exact h
theorem e_call0_call0_cst : call0_call0_cst m c = (constant S_ .f32 0x00000000#32) :=
  by have h := eq0  (o := main_call0_call0_cst) (at1 m c) 1 [main_call0_call0_v0, main_call0_call0_v1, main_call0_call0_v2, main_call0_call0_v3, main_call0_call0_v4, main_call0_call0_v5, main_call0_call0_v6, main_call0_call0_v7, main_call0_call0_v8, main_call0_call0_v9, main_call0_call0_v10, main_call0_call0_v11, main_call0_v1_0, main_call0_call0_cst_0, main_call0_call0_v13, main_call0_call0_v14, main_call0_call0_cst_1, main_call0_call0_v15, main_call0_call0_v16, main_call0_call0_cst_2, main_call0_call0_v17, main_call0_call0_v18, main_call0_call0_cst_3, main_call0_call0_v19, main_call0_call0_v20, main_call0_call0_v21, main_v13_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v13_2, main_v13_0] (by exact rfl) (by exact rfl) (by decide +kernel); exact h
theorem e_call0_call0_v0 : call0_call0_v0 m c = (broadcastInDim S1x4096x256 ![] bcast_S_S1x4096x256) (call0_call0_cst m c) :=
  by have h := eq1 (a₁ := main_call0_call0_cst) (o := main_call0_call0_v0) (f := (broadcastInDim S1x4096x256 ![] bcast_S_S1x4096x256)) (at1 m c) 2 [main_call0_call0_v1, main_call0_call0_v2, main_call0_call0_v3, main_call0_call0_v4, main_call0_call0_v5, main_call0_call0_v6, main_call0_call0_v7, main_call0_call0_v8, main_call0_call0_v9, main_call0_call0_v10, main_call0_call0_v11, main_call0_v1_0, main_call0_call0_cst_0, main_call0_call0_v13, main_call0_call0_v14, main_call0_call0_cst_1, main_call0_call0_v15, main_call0_call0_v16, main_call0_call0_cst_2, main_call0_call0_v17, main_call0_call0_v18, main_call0_call0_cst_3, main_call0_call0_v19, main_call0_call0_v20, main_call0_call0_v21, main_v13_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v13_2, main_v13_0] (by exact rfl) (by exact rfl) (by decide +kernel); exact h
theorem e_call0_call0_v1 : call0_call0_v1 m c = maximumf (call0_v0 m c) (call0_call0_v0 m c) :=
  by have h := eq2 (a₁ := main_call0_v0) (a₂ := main_call0_call0_v0) (o := main_call0_call0_v1) (f := maximumf) (at1 m c) 3 [main_call0_call0_v2, main_call0_call0_v3, main_call0_call0_v4, main_call0_call0_v5, main_call0_call0_v6, main_call0_call0_v7, main_call0_call0_v8, main_call0_call0_v9, main_call0_call0_v10, main_call0_call0_v11, main_call0_v1_0, main_call0_call0_cst_0, main_call0_call0_v13, main_call0_call0_v14, main_call0_call0_cst_1, main_call0_call0_v15, main_call0_call0_v16, main_call0_call0_cst_2, main_call0_call0_v17, main_call0_call0_v18, main_call0_call0_cst_3, main_call0_call0_v19, main_call0_call0_v20, main_call0_call0_v21, main_v13_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v13_2, main_v13_0] (by exact rfl) (by exact rfl) (by decide +kernel); exact h
theorem e_call0_call0_v2 : call0_call0_v2 m c = (broadcastInDim S1x4096x256 ![] bcast_S_S1x4096x256) (call0_call0_cst m c) :=
  by have h := eq1 (a₁ := main_call0_call0_cst) (o := main_call0_call0_v2) (f := (broadcastInDim S1x4096x256 ![] bcast_S_S1x4096x256)) (at1 m c) 4 [main_call0_call0_v3, main_call0_call0_v4, main_call0_call0_v5, main_call0_call0_v6, main_call0_call0_v7, main_call0_call0_v8, main_call0_call0_v9, main_call0_call0_v10, main_call0_call0_v11, main_call0_v1_0, main_call0_call0_cst_0, main_call0_call0_v13, main_call0_call0_v14, main_call0_call0_cst_1, main_call0_call0_v15, main_call0_call0_v16, main_call0_call0_cst_2, main_call0_call0_v17, main_call0_call0_v18, main_call0_call0_cst_3, main_call0_call0_v19, main_call0_call0_v20, main_call0_call0_v21, main_v13_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v13_2, main_v13_0] (by exact rfl) (by exact rfl) (by decide +kernel); exact h
theorem e_call0_call0_v3 : call0_call0_v3 m c = subf (call0_v0 m c) (call0_call0_v2 m c) :=
  by have h := eq2 (a₁ := main_call0_v0) (a₂ := main_call0_call0_v2) (o := main_call0_call0_v3) (f := subf) (at1 m c) 5 [main_call0_call0_v4, main_call0_call0_v5, main_call0_call0_v6, main_call0_call0_v7, main_call0_call0_v8, main_call0_call0_v9, main_call0_call0_v10, main_call0_call0_v11, main_call0_v1_0, main_call0_call0_cst_0, main_call0_call0_v13, main_call0_call0_v14, main_call0_call0_cst_1, main_call0_call0_v15, main_call0_call0_v16, main_call0_call0_cst_2, main_call0_call0_v17, main_call0_call0_v18, main_call0_call0_cst_3, main_call0_call0_v19, main_call0_call0_v20, main_call0_call0_v21, main_v13_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v13_2, main_v13_0] (by exact rfl) (by exact rfl) (by decide +kernel); exact h
theorem e_call0_call0_v4 : call0_call0_v4 m c = (cmpf .une) (call0_call0_v3 m c) (call0_call0_v3 m c) :=
  by have h := eq2 (a₁ := main_call0_call0_v3) (a₂ := main_call0_call0_v3) (o := main_call0_call0_v4) (f := (cmpf .une)) (at1 m c) 6 [main_call0_call0_v5, main_call0_call0_v6, main_call0_call0_v7, main_call0_call0_v8, main_call0_call0_v9, main_call0_call0_v10, main_call0_call0_v11, main_call0_v1_0, main_call0_call0_cst_0, main_call0_call0_v13, main_call0_call0_v14, main_call0_call0_cst_1, main_call0_call0_v15, main_call0_call0_v16, main_call0_call0_cst_2, main_call0_call0_v17, main_call0_call0_v18, main_call0_call0_cst_3, main_call0_call0_v19, main_call0_call0_v20, main_call0_call0_v21, main_v13_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v13_2, main_v13_0] (by exact rfl) (by exact rfl) (by decide +kernel); exact h
theorem e_call0_call0_v5 : call0_call0_v5 m c = (broadcastInDim S1x4096x256 ![] bcast_S_S1x4096x256) (call0_call0_cst m c) :=
  by have h := eq1 (a₁ := main_call0_call0_cst) (o := main_call0_call0_v5) (f := (broadcastInDim S1x4096x256 ![] bcast_S_S1x4096x256)) (at1 m c) 7 [main_call0_call0_v6, main_call0_call0_v7, main_call0_call0_v8, main_call0_call0_v9, main_call0_call0_v10, main_call0_call0_v11, main_call0_v1_0, main_call0_call0_cst_0, main_call0_call0_v13, main_call0_call0_v14, main_call0_call0_cst_1, main_call0_call0_v15, main_call0_call0_v16, main_call0_call0_cst_2, main_call0_call0_v17, main_call0_call0_v18, main_call0_call0_cst_3, main_call0_call0_v19, main_call0_call0_v20, main_call0_call0_v21, main_v13_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v13_2, main_v13_0] (by exact rfl) (by exact rfl) (by decide +kernel); exact h
theorem e_call0_call0_v6 : call0_call0_v6 m c = addf (call0_v0 m c) (call0_call0_v5 m c) :=
  by have h := eq2 (a₁ := main_call0_v0) (a₂ := main_call0_call0_v5) (o := main_call0_call0_v6) (f := addf) (at1 m c) 8 [main_call0_call0_v7, main_call0_call0_v8, main_call0_call0_v9, main_call0_call0_v10, main_call0_call0_v11, main_call0_v1_0, main_call0_call0_cst_0, main_call0_call0_v13, main_call0_call0_v14, main_call0_call0_cst_1, main_call0_call0_v15, main_call0_call0_v16, main_call0_call0_cst_2, main_call0_call0_v17, main_call0_call0_v18, main_call0_call0_cst_3, main_call0_call0_v19, main_call0_call0_v20, main_call0_call0_v21, main_v13_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v13_2, main_v13_0] (by exact rfl) (by exact rfl) (by decide +kernel); exact h
theorem e_call0_call0_v7 : call0_call0_v7 m c = Host.absf (call0_call0_v3 m c) :=
  by have h := eq1 (a₁ := main_call0_call0_v3) (o := main_call0_call0_v7) (f := Host.absf) (at1 m c) 9 [main_call0_call0_v8, main_call0_call0_v9, main_call0_call0_v10, main_call0_call0_v11, main_call0_v1_0, main_call0_call0_cst_0, main_call0_call0_v13, main_call0_call0_v14, main_call0_call0_cst_1, main_call0_call0_v15, main_call0_call0_v16, main_call0_call0_cst_2, main_call0_call0_v17, main_call0_call0_v18, main_call0_call0_cst_3, main_call0_call0_v19, main_call0_call0_v20, main_call0_call0_v21, main_v13_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v13_2, main_v13_0] (by exact rfl) (by exact rfl) (by decide +kernel); exact h
theorem e_call0_call0_v8 : call0_call0_v8 m c = Host.negf (call0_call0_v7 m c) :=
  by have h := eq1 (a₁ := main_call0_call0_v7) (o := main_call0_call0_v8) (f := Host.negf) (at1 m c) 10 [main_call0_call0_v9, main_call0_call0_v10, main_call0_call0_v11, main_call0_v1_0, main_call0_call0_cst_0, main_call0_call0_v13, main_call0_call0_v14, main_call0_call0_cst_1, main_call0_call0_v15, main_call0_call0_v16, main_call0_call0_cst_2, main_call0_call0_v17, main_call0_call0_v18, main_call0_call0_cst_3, main_call0_call0_v19, main_call0_call0_v20, main_call0_call0_v21, main_v13_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v13_2, main_v13_0] (by exact rfl) (by exact rfl) (by decide +kernel); exact h
theorem e_call0_call0_v9 : call0_call0_v9 m c = Host.exp (call0_call0_v8 m c) :=
  by have h := eq1 (a₁ := main_call0_call0_v8) (o := main_call0_call0_v9) (f := Host.exp) (at1 m c) 11 [main_call0_call0_v10, main_call0_call0_v11, main_call0_v1_0, main_call0_call0_cst_0, main_call0_call0_v13, main_call0_call0_v14, main_call0_call0_cst_1, main_call0_call0_v15, main_call0_call0_v16, main_call0_call0_cst_2, main_call0_call0_v17, main_call0_call0_v18, main_call0_call0_cst_3, main_call0_call0_v19, main_call0_call0_v20, main_call0_call0_v21, main_v13_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v13_2, main_v13_0] (by exact rfl) (by exact rfl) (by decide +kernel); exact h
theorem e_call0_call0_v10 : call0_call0_v10 m c = Host.log1p (call0_call0_v9 m c) :=
  by have h := eq1 (a₁ := main_call0_call0_v9) (o := main_call0_call0_v10) (f := Host.log1p) (at1 m c) 12 [main_call0_call0_v11, main_call0_v1_0, main_call0_call0_cst_0, main_call0_call0_v13, main_call0_call0_v14, main_call0_call0_cst_1, main_call0_call0_v15, main_call0_call0_v16, main_call0_call0_cst_2, main_call0_call0_v17, main_call0_call0_v18, main_call0_call0_cst_3, main_call0_call0_v19, main_call0_call0_v20, main_call0_call0_v21, main_v13_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v13_2, main_v13_0] (by exact rfl) (by exact rfl) (by decide +kernel); exact h
theorem e_call0_call0_v11 : call0_call0_v11 m c = addf (call0_call0_v1 m c) (call0_call0_v10 m c) :=
  by have h := eq2 (a₁ := main_call0_call0_v1) (a₂ := main_call0_call0_v10) (o := main_call0_call0_v11) (f := addf) (at1 m c) 13 [main_call0_v1_0, main_call0_call0_cst_0, main_call0_call0_v13, main_call0_call0_v14, main_call0_call0_cst_1, main_call0_call0_v15, main_call0_call0_v16, main_call0_call0_cst_2, main_call0_call0_v17, main_call0_call0_v18, main_call0_call0_cst_3, main_call0_call0_v19, main_call0_call0_v20, main_call0_call0_v21, main_v13_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v13_2, main_v13_0] (by exact rfl) (by exact rfl) (by decide +kernel); exact h
theorem e_call0_v1_0 : call0_v1_0 m c = select (call0_call0_v4 m c) (call0_call0_v6 m c) (call0_call0_v11 m c) :=
  by have h := eq3 (a₁ := main_call0_call0_v4) (a₂ := main_call0_call0_v6) (a₃ := main_call0_call0_v11) (o := main_call0_v1_0) (f := select) (at1 m c) 14 [main_call0_call0_cst_0, main_call0_call0_v13, main_call0_call0_v14, main_call0_call0_cst_1, main_call0_call0_v15, main_call0_call0_v16, main_call0_call0_cst_2, main_call0_call0_v17, main_call0_call0_v18, main_call0_call0_cst_3, main_call0_call0_v19, main_call0_call0_v20, main_call0_call0_v21, main_v13_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v13_2, main_v13_0] (by exact rfl) (by exact rfl) (by decide +kernel); exact h
theorem e_call0_call0_cst_0 : call0_call0_cst_0 m c = (constant S_ .f32 0x7F800000#32) :=
  by have h := eq0  (o := main_call0_call0_cst_0) (at1 m c) 15 [main_call0_call0_v13, main_call0_call0_v14, main_call0_call0_cst_1, main_call0_call0_v15, main_call0_call0_v16, main_call0_call0_cst_2, main_call0_call0_v17, main_call0_call0_v18, main_call0_call0_cst_3, main_call0_call0_v19, main_call0_call0_v20, main_call0_call0_v21, main_v13_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v13_2, main_v13_0] (by exact rfl) (by exact rfl) (by decide +kernel); exact h
theorem e_call0_call0_v13 : call0_call0_v13 m c = (broadcastInDim S1x4096x256 ![] bcast_S_S1x4096x256) (call0_call0_cst_0 m c) :=
  by have h := eq1 (a₁ := main_call0_call0_cst_0) (o := main_call0_call0_v13) (f := (broadcastInDim S1x4096x256 ![] bcast_S_S1x4096x256)) (at1 m c) 16 [main_call0_call0_v14, main_call0_call0_cst_1, main_call0_call0_v15, main_call0_call0_v16, main_call0_call0_cst_2, main_call0_call0_v17, main_call0_call0_v18, main_call0_call0_cst_3, main_call0_call0_v19, main_call0_call0_v20, main_call0_call0_v21, main_v13_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v13_2, main_v13_0] (by exact rfl) (by exact rfl) (by decide +kernel); exact h
theorem e_call0_call0_v14 : call0_call0_v14 m c = (cmpf .oeq) (call0_v0 m c) (call0_call0_v13 m c) :=
  by have h := eq2 (a₁ := main_call0_v0) (a₂ := main_call0_call0_v13) (o := main_call0_call0_v14) (f := (cmpf .oeq)) (at1 m c) 17 [main_call0_call0_cst_1, main_call0_call0_v15, main_call0_call0_v16, main_call0_call0_cst_2, main_call0_call0_v17, main_call0_call0_v18, main_call0_call0_cst_3, main_call0_call0_v19, main_call0_call0_v20, main_call0_call0_v21, main_v13_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v13_2, main_v13_0] (by exact rfl) (by exact rfl) (by decide +kernel); exact h
theorem e_call0_call0_cst_1 : call0_call0_cst_1 m c = (constant S_ .f32 0x00000000#32) :=
  by have h := eq0  (o := main_call0_call0_cst_1) (at1 m c) 18 [main_call0_call0_v15, main_call0_call0_v16, main_call0_call0_cst_2, main_call0_call0_v17, main_call0_call0_v18, main_call0_call0_cst_3, main_call0_call0_v19, main_call0_call0_v20, main_call0_call0_v21, main_v13_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v13_2, main_v13_0] (by exact rfl) (by exact rfl) (by decide +kernel); exact h
theorem e_call0_call0_v15 : call0_call0_v15 m c = (broadcastInDim S1x4096x256 ![] bcast_S_S1x4096x256) (call0_call0_cst_1 m c) :=
  by have h := eq1 (a₁ := main_call0_call0_cst_1) (o := main_call0_call0_v15) (f := (broadcastInDim S1x4096x256 ![] bcast_S_S1x4096x256)) (at1 m c) 19 [main_call0_call0_v16, main_call0_call0_cst_2, main_call0_call0_v17, main_call0_call0_v18, main_call0_call0_cst_3, main_call0_call0_v19, main_call0_call0_v20, main_call0_call0_v21, main_v13_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v13_2, main_v13_0] (by exact rfl) (by exact rfl) (by decide +kernel); exact h
theorem e_call0_call0_v16 : call0_call0_v16 m c = select (call0_call0_v14 m c) (call0_call0_v15 m c) (call0_v0 m c) :=
  by have h := eq3 (a₁ := main_call0_call0_v14) (a₂ := main_call0_call0_v15) (a₃ := main_call0_v0) (o := main_call0_call0_v16) (f := select) (at1 m c) 20 [main_call0_call0_cst_2, main_call0_call0_v17, main_call0_call0_v18, main_call0_call0_cst_3, main_call0_call0_v19, main_call0_call0_v20, main_call0_call0_v21, main_v13_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v13_2, main_v13_0] (by exact rfl) (by exact rfl) (by decide +kernel); exact h
theorem e_call0_call0_cst_2 : call0_call0_cst_2 m c = (constant S_ .f32 0x7F800000#32) :=
  by have h := eq0  (o := main_call0_call0_cst_2) (at1 m c) 21 [main_call0_call0_v17, main_call0_call0_v18, main_call0_call0_cst_3, main_call0_call0_v19, main_call0_call0_v20, main_call0_call0_v21, main_v13_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v13_2, main_v13_0] (by exact rfl) (by exact rfl) (by decide +kernel); exact h
theorem e_call0_call0_v17 : call0_call0_v17 m c = (broadcastInDim S1x4096x256 ![] bcast_S_S1x4096x256) (call0_call0_cst_2 m c) :=
  by have h := eq1 (a₁ := main_call0_call0_cst_2) (o := main_call0_call0_v17) (f := (broadcastInDim S1x4096x256 ![] bcast_S_S1x4096x256)) (at1 m c) 22 [main_call0_call0_v18, main_call0_call0_cst_3, main_call0_call0_v19, main_call0_call0_v20, main_call0_call0_v21, main_v13_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v13_2, main_v13_0] (by exact rfl) (by exact rfl) (by decide +kernel); exact h
theorem e_call0_call0_v18 : call0_call0_v18 m c = (cmpf .oeq) (call0_v1_0 m c) (call0_call0_v17 m c) :=
  by have h := eq2 (a₁ := main_call0_v1_0) (a₂ := main_call0_call0_v17) (o := main_call0_call0_v18) (f := (cmpf .oeq)) (at1 m c) 23 [main_call0_call0_cst_3, main_call0_call0_v19, main_call0_call0_v20, main_call0_call0_v21, main_v13_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v13_2, main_v13_0] (by exact rfl) (by exact rfl) (by decide +kernel); exact h
theorem e_call0_call0_cst_3 : call0_call0_cst_3 m c = (constant S_ .f32 0x00000000#32) :=
  by have h := eq0  (o := main_call0_call0_cst_3) (at1 m c) 24 [main_call0_call0_v19, main_call0_call0_v20, main_call0_call0_v21, main_v13_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v13_2, main_v13_0] (by exact rfl) (by exact rfl) (by decide +kernel); exact h
theorem e_call0_call0_v19 : call0_call0_v19 m c = (broadcastInDim S1x4096x256 ![] bcast_S_S1x4096x256) (call0_call0_cst_3 m c) :=
  by have h := eq1 (a₁ := main_call0_call0_cst_3) (o := main_call0_call0_v19) (f := (broadcastInDim S1x4096x256 ![] bcast_S_S1x4096x256)) (at1 m c) 25 [main_call0_call0_v20, main_call0_call0_v21, main_v13_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v13_2, main_v13_0] (by exact rfl) (by exact rfl) (by decide +kernel); exact h
theorem e_call0_call0_v20 : call0_call0_v20 m c = select (call0_call0_v18 m c) (call0_call0_v19 m c) (call0_v1_0 m c) :=
  by have h := eq3 (a₁ := main_call0_call0_v18) (a₂ := main_call0_call0_v19) (a₃ := main_call0_v1_0) (o := main_call0_call0_v20) (f := select) (at1 m c) 26 [main_call0_call0_v21, main_v13_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v13_2, main_v13_0] (by exact rfl) (by exact rfl) (by decide +kernel); exact h
theorem e_call0_call0_v21 : call0_call0_v21 m c = subf (call0_call0_v16 m c) (call0_call0_v20 m c) :=
  by have h := eq2 (a₁ := main_call0_call0_v16) (a₂ := main_call0_call0_v20) (o := main_call0_call0_v21) (f := subf) (at1 m c) 27 [main_v13_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v13_2, main_v13_0] (by exact rfl) (by exact rfl) (by decide +kernel); exact h
theorem e_v13_1 : v13_1 m c = Host.exp (call0_call0_v21 m c) :=
  by have h := eq1 (a₁ := main_call0_call0_v21) (o := main_v13_1) (f := Host.exp) (at1 m c) 28 [main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v13_2, main_v13_0] (by exact rfl) (by exact rfl) (by decide +kernel); exact h
theorem e_v13_0 : v13_0 m c = Host.negf (call0_v1_0 m c) :=
  by have h := eq1 (a₁ := main_call0_v1_0) (o := main_v13_0) (f := Host.negf) (at1 m c) 47 [] (by exact rfl) (by exact rfl) (by decide +kernel); exact h
theorem e_cst_0 : cst_0 m c = (constant S_ .f32 0x41800000#32) :=
  by have h := eq0  (o := main_cst_0) (at2 m c) 0 [main_v14, main_v15, main_v16] (by exact rfl) (by exact rfl) (by decide +kernel); exact h
theorem e_v14 : v14 m c = broadcastInDim S1x4096x256 ![] bcast_S_S1x4096x256 (cst_0 m c) :=
  by have h := eq1 (a₁ := main_cst_0) (o := main_v14) (f := (broadcastInDim S1x4096x256 ![] bcast_S_S1x4096x256 : (⟨S_, .f32⟩ : BufTy).Contents (Elt F) → (⟨S1x4096x256, .f32⟩ : BufTy).Contents (Elt F))) (at2 m c) 1 [main_v15, main_v16] (by exact rfl) (by exact rfl) (by decide +kernel); exact h
theorem e_v15 : v15 m c = Host.divf (v13_0 m c) (v14 m c) :=
  by have h := eq2 (a₁ := main_v13_0) (a₂ := main_v14) (o := main_v15) (f := (Host.divf : (⟨S1x4096x256, .f32⟩ : BufTy).Contents (Elt F) → (⟨S1x4096x256, .f32⟩ : BufTy).Contents (Elt F) → (⟨S1x4096x256, .f32⟩ : BufTy).Contents (Elt F))) (at2 m c) 2 [main_v16] (by exact rfl) (by exact rfl) (by decide +kernel); exact h
theorem e_v16 : v16 m c = shapeCast S1x64x64x4x64 (v15 m c) shapeCasts_S1x4096x256_S1x64x64x4x64 :=
  by have h := eqR (a₁ := main_v15) (o := main_v16) (f := fun x : (⟨S1x4096x256, .f32⟩ : BufTy).Contents (Elt F) => (shapeCast S1x64x64x4x64 x shapeCasts_S1x4096x256_S1x64x64x4x64 : (⟨S1x64x64x4x64, .f32⟩ : BufTy).Contents (Elt F))) (at2 m c) 3 [] (by exact rfl) (by exact rfl) (fun _ _ => rfl) (by decide +kernel); exact h
theorem e_call1_call0_cst : call1_call0_cst m c = (constant S_ .f32 0x00000000#32) :=
  by have h := eq0  (o := main_call1_call0_cst) (at3 m c) 0 [main_call1_call0_v0, main_v17] (by exact rfl) (by exact rfl) (by decide +kernel); exact h
theorem e_call1_call0_v0 : call1_call0_v0 m c = (broadcastInDim S_ ![] bcast_S_S_) (call1_call0_cst m c) :=
  by have h := eq1 (a₁ := main_call1_call0_cst) (o := main_call1_call0_v0) (f := (broadcastInDim S_ ![] bcast_S_S_)) (at3 m c) 1 [main_v17] (by exact rfl) (by exact rfl) (by decide +kernel); exact h
theorem e_v17 : v17 m c = Host.reduceWindowAdd ![1, 1, 64, 1, 1] ![1, 1, 1, 1, 1] ![0, 0, 63, 0, 0] ![0, 0, 0, 0, 0] (v16 m c) (call1_call0_v0 m c) reduceWindows_S1x64x64x4x64_S1x64x64x4x64_w1s1p0_0_w1s1p0_0_w64s1p63_0_w1s1p0_0_w1s1p0_0 h_S_ :=
  by have h := eq2 (a₁ := main_v16) (a₂ := main_call1_call0_v0) (o := main_v17) (f := (fun x v => Host.reduceWindowAdd ![1, 1, 64, 1, 1] ![1, 1, 1, 1, 1] ![0, 0, 63, 0, 0] ![0, 0, 0, 0, 0] x v reduceWindows_S1x64x64x4x64_S1x64x64x4x64_w1s1p0_0_w1s1p0_0_w64s1p63_0_w1s1p0_0_w1s1p0_0 h_S_)) (at3 m c) 2 [] (by exact rfl) (by exact rfl) (by decide +kernel); exact h
theorem e_v18 : v18 m c = extractStridedSlice S1x64x1x4x64 ![0, 0, 63, 0, 0] (v17 m c) slices_S1x64x64x4x64_S1x64x1x4x64_0_0_63_0_0 :=
  by have h := eq1 (a₁ := main_v17) (o := main_v18) (f := ((extractStridedSlice S1x64x1x4x64 ![0, 0, 63, 0, 0] · slices_S1x64x64x4x64_S1x64x1x4x64_0_0_63_0_0) : (⟨S1x64x64x4x64, .f32⟩ : BufTy).Contents (Elt F) → (⟨S1x64x1x4x64, .f32⟩ : BufTy).Contents (Elt F))) (at4 m c) 0 [main_v19, main_v20, main_v21, main_v22, main_v23, main_v24, main_v25, main_c, main_v26] (by exact rfl) (by exact rfl) (by decide +kernel); exact h
theorem e_v19 : v19 m c = shapeCast S1x64x4x64 (v18 m c) shapeCasts_S1x64x1x4x64_S1x64x4x64 :=
  by have h := eqR (a₁ := main_v18) (o := main_v19) (f := fun x : (⟨S1x64x1x4x64, .f32⟩ : BufTy).Contents (Elt F) => (shapeCast S1x64x4x64 x shapeCasts_S1x64x1x4x64_S1x64x4x64 : (⟨S1x64x4x64, .f32⟩ : BufTy).Contents (Elt F))) (at4 m c) 1 [main_v20, main_v21, main_v22, main_v23, main_v24, main_v25, main_c, main_v26] (by exact rfl) (by exact rfl) (fun _ _ => rfl) (by decide +kernel); exact h
theorem e_v20 : v20 m c = Host.exp (v17 m c) :=
  by have h := eq1 (a₁ := main_v17) (o := main_v20) (f := (Host.exp : (⟨S1x64x64x4x64, .f32⟩ : BufTy).Contents (Elt F) → (⟨S1x64x64x4x64, .f32⟩ : BufTy).Contents (Elt F))) (at4 m c) 2 [main_v21, main_v22, main_v23, main_v24, main_v25, main_c, main_v26] (by exact rfl) (by exact rfl) (by decide +kernel); exact h
theorem e_v21 : v21 m c = mulf (v6 m c) (v20 m c) :=
  by have h := eq2 (a₁ := main_v6) (a₂ := main_v20) (o := main_v21) (f := (mulf : (⟨S1x64x64x4x64, .f32⟩ : BufTy).Contents (Elt F) → (⟨S1x64x64x4x64, .f32⟩ : BufTy).Contents (Elt F) → (⟨S1x64x64x4x64, .f32⟩ : BufTy).Contents (Elt F))) (at4 m c) 3 [main_v22, main_v23, main_v24, main_v25, main_c, main_v26] (by exact rfl) (by exact rfl) (by decide +kernel); exact h
theorem e_v22 : v22 m c = Host.negf (v17 m c) :=
  by have h := eq1 (a₁ := main_v17) (o := main_v22) (f := (Host.negf : (⟨S1x64x64x4x64, .f32⟩ : BufTy).Contents (Elt F) → (⟨S1x64x64x4x64, .f32⟩ : BufTy).Contents (Elt F))) (at4 m c) 4 [main_v23, main_v24, main_v25, main_c, main_v26] (by exact rfl) (by exact rfl) (by decide +kernel); exact h
theorem e_v23 : v23 m c = Host.exp (v22 m c) :=
  by have h := eq1 (a₁ := main_v22) (o := main_v23) (f := (Host.exp : (⟨S1x64x64x4x64, .f32⟩ : BufTy).Contents (Elt F) → (⟨S1x64x64x4x64, .f32⟩ : BufTy).Contents (Elt F))) (at4 m c) 5 [main_v24, main_v25, main_c, main_v26] (by exact rfl) (by exact rfl) (by decide +kernel); exact h
theorem e_v24 : v24 m c = mulf (v7 m c) (v23 m c) :=
  by have h := eq2 (a₁ := main_v7) (a₂ := main_v23) (o := main_v24) (f := (mulf : (⟨S1x64x64x4x64, .f32⟩ : BufTy).Contents (Elt F) → (⟨S1x64x64x4x64, .f32⟩ : BufTy).Contents (Elt F) → (⟨S1x64x64x4x64, .f32⟩ : BufTy).Contents (Elt F))) (at4 m c) 6 [main_v25, main_c, main_v26] (by exact rfl) (by exact rfl) (by decide +kernel); exact h
theorem e_v25 : v25 m c = Host.dotGeneral dot_S1x64x64x4x64_S1x64x64x4x64_S1x64x4x64x64_4_4_2_2_013_013 none (v21 m c) (v24 m c) :=
  by have h := eq2 (a₁ := main_v21) (a₂ := main_v24) (o := main_v25) (f := ((fun l r => Host.dotGeneral dot_S1x64x64x4x64_S1x64x64x4x64_S1x64x4x64x64_4_4_2_2_013_013 none l r) : (⟨S1x64x64x4x64, .f32⟩ : BufTy).Contents (Elt F) → (⟨S1x64x64x4x64, .f32⟩ : BufTy).Contents (Elt F) → (⟨S1x64x4x64x64, .f32⟩ : BufTy).Contents (Elt F))) (at4 m c) 7 [main_c, main_v26] (by exact rfl) (by exact rfl) (by decide +kernel); exact h
theorem e_cTrue : cTrue m c = (constantI S_ 1 1#1) :=
  by have h := eq0  (o := main_c) (at4 m c) 8 [main_v26] (by exact rfl) (by exact rfl) (by decide +kernel); exact h
theorem e_v26 : v26 m c = broadcastInDim S64x64 ![] bcast_S_S64x64 (cTrue m c) :=
  by have h := eq1 (a₁ := main_c) (o := main_v26) (f := (broadcastInDim S64x64 ![] bcast_S_S64x64 : (⟨S_, .i1⟩ : BufTy).Contents (Elt F) → (⟨S64x64, .i1⟩ : BufTy).Contents (Elt F))) (at4 m c) 9 [] (by exact rfl) (by exact rfl) (by decide +kernel); exact h
theorem e_call2_v0 : call2_v0 m c = (iotaInDim S64x64 32 0) :=
  by have h := eq0  (o := main_call2_v0) (at5 m c) 0 [main_call2_c, main_call2_v1, main_call2_v2, main_call2_v3, main_call2_v4, main_call2_c_0, main_call2_v5, main_v27] (by exact rfl) (by exact rfl) (by decide +kernel); exact h
theorem e_call2_c : call2_c m c = (constantI S_ 32 0#32) :=
  by have h := eq0  (o := main_call2_c) (at5 m c) 1 [main_call2_v1, main_call2_v2, main_call2_v3, main_call2_v4, main_call2_c_0, main_call2_v5, main_v27] (by exact rfl) (by exact rfl) (by decide +kernel); exact h
theorem e_call2_v1 : call2_v1 m c = (broadcastInDim S64x64 ![] bcast_S_S64x64) (call2_c m c) :=
  by have h := eq1 (a₁ := main_call2_c) (o := main_call2_v1) (f := (broadcastInDim S64x64 ![] bcast_S_S64x64)) (at5 m c) 2 [main_call2_v2, main_call2_v3, main_call2_v4, main_call2_c_0, main_call2_v5, main_v27] (by exact rfl) (by exact rfl) (by decide +kernel); exact h
theorem e_call2_v2 : call2_v2 m c = addi (call2_v0 m c) (call2_v1 m c) :=
  by have h := eq2 (a₁ := main_call2_v0) (a₂ := main_call2_v1) (o := main_call2_v2) (f := addi) (at5 m c) 3 [main_call2_v3, main_call2_v4, main_call2_c_0, main_call2_v5, main_v27] (by exact rfl) (by exact rfl) (by decide +kernel); exact h
theorem e_call2_v3 : call2_v3 m c = (iotaInDim S64x64 32 1) :=
  by have h := eq0  (o := main_call2_v3) (at5 m c) 4 [main_call2_v4, main_call2_c_0, main_call2_v5, main_v27] (by exact rfl) (by exact rfl) (by decide +kernel); exact h
theorem e_call2_v4 : call2_v4 m c = (cmpi .sge) (call2_v2 m c) (call2_v3 m c) :=
  by have h := eq2 (a₁ := main_call2_v2) (a₂ := main_call2_v3) (o := main_call2_v4) (f := (cmpi .sge)) (at5 m c) 5 [main_call2_c_0, main_call2_v5, main_v27] (by exact rfl) (by exact rfl) (by decide +kernel); exact h
theorem e_call2_c_0 : call2_c_0 m c = (constantI S_ 1 0#1) :=
  by have h := eq0  (o := main_call2_c_0) (at5 m c) 6 [main_call2_v5, main_v27] (by exact rfl) (by exact rfl) (by decide +kernel); exact h
theorem e_call2_v5 : call2_v5 m c = (broadcastInDim S64x64 ![] bcast_S_S64x64) (call2_c_0 m c) :=
  by have h := eq1 (a₁ := main_call2_c_0) (o := main_call2_v5) (f := (broadcastInDim S64x64 ![] bcast_S_S64x64)) (at5 m c) 7 [main_v27] (by exact rfl) (by exact rfl) (by decide +kernel); exact h
theorem e_v27 : v27 m c = select (call2_v4 m c) (v26 m c) (call2_v5 m c) :=
  by have h := eq3 (a₁ := main_call2_v4) (a₂ := main_v26) (a₃ := main_call2_v5) (o := main_v27) (f := select) (at5 m c) 8 [] (by exact rfl) (by exact rfl) (by decide +kernel); exact h
theorem e_cst_1 : cst_1 m c = (constant S_ .f32 0x00000000#32) :=
  by have h := eq0  (o := main_cst_1) (at6 m c) 0 [] (by exact rfl) (by exact rfl) (by decide +kernel); exact h
theorem e_call3_v0 : call3_v0 m c = id (cst_1 m c) :=
  by have h := eq1 (a₁ := main_cst_1) (o := main_call3_v0) (f := id) (at7 m c) 0 [main_v28_1, main_call3_v2, main_v28_0, main_call3_cst, main_v28_2] (by exact rfl) (by exact rfl) (by decide +kernel); exact h
theorem e_v28_1 : v28_1 m c = (broadcastInDim S1x64x4x64x64 ![3, 4] bcast_S64x64_S1x64x4x64x64_3_4) (v27 m c) :=
  by have h := eq1 (a₁ := main_v27) (o := main_v28_1) (f := (broadcastInDim S1x64x4x64x64 ![3, 4] bcast_S64x64_S1x64x4x64x64_3_4)) (at7 m c) 1 [main_call3_v2, main_v28_0, main_call3_cst, main_v28_2] (by exact rfl) (by exact rfl) (by decide +kernel); exact h
theorem e_call3_v2 : call3_v2 m c = (broadcastInDim S1x64x4x64x64 ![] bcast_S_S1x64x4x64x64) (call3_v0 m c) :=
  by have h := eq1 (a₁ := main_call3_v0) (o := main_call3_v2) (f := (broadcastInDim S1x64x4x64x64 ![] bcast_S_S1x64x4x64x64)) (at7 m c) 2 [main_v28_0, main_call3_cst, main_v28_2] (by exact rfl) (by exact rfl) (by decide +kernel); exact h
theorem e_v28_0 : v28_0 m c = select (v28_1 m c) (v25 m c) (call3_v2 m c) :=
  by have h := eq3 (a₁ := main_v28_1) (a₂ := main_v25) (a₃ := main_call3_v2) (o := main_v28_0) (f := select) (at7 m c) 3 [main_call3_cst, main_v28_2] (by exact rfl) (by exact rfl) (by decide +kernel); exact h

end Cert.ReferenceIdeal.Run
-- ==== Proof.RefEq1.lean ====
module

public import proofs.«01_k».proof.Proof.RefAt
public import Idealize.ShloMosaic.Lib.Pointwise

/-! What the reference leaves in every buffer its straight-line stretches write: each equals the operation that writes it, of the buffers that
operation reads, all as the program leaves them, since none is written twice. -/

@[expose] public section

set_option maxRecDepth 16384
set_option maxHeartbeats 0

noncomputable section

namespace Cert.ReferenceIdeal.Run

open Cert.ReferenceIdeal Cert.ReferenceIdeal.Gen Cert.ReferenceIdeal.Ops
open Idealize.ShloMosaic Idealize.ShloMosaic.TcCoe Idealize.ShloMosaic.Tactic
open Idealize.ShloMosaic.StableHlo
open Idealize.SL.Sem

variable {F : FTy → Type} [FloatOps F] (m : (ℓ : Loc nD τ sig) → Buf (Elt F) ℓ) (c : Dev nD)

theorem e_call3_cst : call3_cst m c = (constant S_ .f32 0x00000000#32) :=
  by have h := eq0  (o := main_call3_cst) (at7 m c) 4 [main_v28_2] (by exact rfl) (by exact rfl) (by decide +kernel); exact h
theorem e_v29 : v29 m c = Host.dotGeneral dot_S1x64x64x4x128_S1x64x4x64x64_S1x64x4x128x64_2_4_4_3_013_012 none (v8 m c) (v28_0 m c) :=
  by have h := eq2 (a₁ := main_v8) (a₂ := main_v28_0) (o := main_v29) (f := ((fun l r => Host.dotGeneral dot_S1x64x64x4x128_S1x64x4x64x64_S1x64x4x128x64_2_4_4_3_013_012 none l r) : (⟨S1x64x64x4x128, .f32⟩ : BufTy).Contents (Elt F) → (⟨S1x64x4x64x64, .f32⟩ : BufTy).Contents (Elt F) → (⟨S1x64x4x128x64, .f32⟩ : BufTy).Contents (Elt F))) (at8 m c) 0 [main_v30, main_v31, main_v32, main_v33, main_v34, main_v35, main_v36, main_v37, main_cst_2, main_v38, main_v39, main_v40, main_cst_3, main_v41, main_cst_4, main_v42, main_c_5, main_v43_0, main_v43_1, main_v43_2, main_v43_3, main_v43_4, main_v43_5] (by exact rfl) (by exact rfl) (by decide +kernel); exact h
theorem e_v30 : v30 m c = transpose S1x64x64x4x128 [0, 1, 4, 2, 3] (v29 m c) transposes_S1x64x4x128x64_S1x64x64x4x128_0_1_4_2_3 :=
  by have h := eq1 (a₁ := main_v29) (o := main_v30) (f := ((transpose S1x64x64x4x128 [0, 1, 4, 2, 3] · transposes_S1x64x4x128x64_S1x64x64x4x128_0_1_4_2_3) : (⟨S1x64x4x128x64, .f32⟩ : BufTy).Contents (Elt F) → (⟨S1x64x64x4x128, .f32⟩ : BufTy).Contents (Elt F))) (at8 m c) 1 [main_v31, main_v32, main_v33, main_v34, main_v35, main_v36, main_v37, main_cst_2, main_v38, main_v39, main_v40, main_cst_3, main_v41, main_cst_4, main_v42, main_c_5, main_v43_0, main_v43_1, main_v43_2, main_v43_3, main_v43_4, main_v43_5] (by exact rfl) (by exact rfl) (by decide +kernel); exact h
theorem e_v31 : v31 m c = broadcastInDim S1x64x1x4x64 ![0, 1, 3, 4] bcast_S1x64x4x64_S1x64x1x4x64_0_1_3_4 (v19 m c) :=
  by have h := eq1 (a₁ := main_v19) (o := main_v31) (f := (broadcastInDim S1x64x1x4x64 ![0, 1, 3, 4] bcast_S1x64x4x64_S1x64x1x4x64_0_1_3_4 : (⟨S1x64x4x64, .f32⟩ : BufTy).Contents (Elt F) → (⟨S1x64x1x4x64, .f32⟩ : BufTy).Contents (Elt F))) (at8 m c) 2 [main_v32, main_v33, main_v34, main_v35, main_v36, main_v37, main_cst_2, main_v38, main_v39, main_v40, main_cst_3, main_v41, main_cst_4, main_v42, main_c_5, main_v43_0, main_v43_1, main_v43_2, main_v43_3, main_v43_4, main_v43_5] (by exact rfl) (by exact rfl) (by decide +kernel); exact h
theorem e_v32 : v32 m c = broadcastInDim S1x64x64x4x64 ![0, 1, 2, 3, 4] bcast_S1x64x1x4x64_S1x64x64x4x64_0_1_2_3_4 (v31 m c) :=
  by have h := eq1 (a₁ := main_v31) (o := main_v32) (f := (broadcastInDim S1x64x64x4x64 ![0, 1, 2, 3, 4] bcast_S1x64x1x4x64_S1x64x64x4x64_0_1_2_3_4 : (⟨S1x64x1x4x64, .f32⟩ : BufTy).Contents (Elt F) → (⟨S1x64x64x4x64, .f32⟩ : BufTy).Contents (Elt F))) (at8 m c) 3 [main_v33, main_v34, main_v35, main_v36, main_v37, main_cst_2, main_v38, main_v39, main_v40, main_cst_3, main_v41, main_cst_4, main_v42, main_c_5, main_v43_0, main_v43_1, main_v43_2, main_v43_3, main_v43_4, main_v43_5] (by exact rfl) (by exact rfl) (by decide +kernel); exact h
theorem e_v33 : v33 m c = subf (v32 m c) (v17 m c) :=
  by have h := eq2 (a₁ := main_v32) (a₂ := main_v17) (o := main_v33) (f := (subf : (⟨S1x64x64x4x64, .f32⟩ : BufTy).Contents (Elt F) → (⟨S1x64x64x4x64, .f32⟩ : BufTy).Contents (Elt F) → (⟨S1x64x64x4x64, .f32⟩ : BufTy).Contents (Elt F))) (at8 m c) 4 [main_v34, main_v35, main_v36, main_v37, main_cst_2, main_v38, main_v39, main_v40, main_cst_3, main_v41, main_cst_4, main_v42, main_c_5, main_v43_0, main_v43_1, main_v43_2, main_v43_3, main_v43_4, main_v43_5] (by exact rfl) (by exact rfl) (by decide +kernel); exact h
theorem e_v34 : v34 m c = Host.exp (v33 m c) :=
  by have h := eq1 (a₁ := main_v33) (o := main_v34) (f := (Host.exp : (⟨S1x64x64x4x64, .f32⟩ : BufTy).Contents (Elt F) → (⟨S1x64x64x4x64, .f32⟩ : BufTy).Contents (Elt F))) (at8 m c) 5 [main_v35, main_v36, main_v37, main_cst_2, main_v38, main_v39, main_v40, main_cst_3, main_v41, main_cst_4, main_v42, main_c_5, main_v43_0, main_v43_1, main_v43_2, main_v43_3, main_v43_4, main_v43_5] (by exact rfl) (by exact rfl) (by decide +kernel); exact h
theorem e_v35 : v35 m c = mulf (v7 m c) (v34 m c) :=
  by have h := eq2 (a₁ := main_v7) (a₂ := main_v34) (o := main_v35) (f := (mulf : (⟨S1x64x64x4x64, .f32⟩ : BufTy).Contents (Elt F) → (⟨S1x64x64x4x64, .f32⟩ : BufTy).Contents (Elt F) → (⟨S1x64x64x4x64, .f32⟩ : BufTy).Contents (Elt F))) (at8 m c) 6 [main_v36, main_v37, main_cst_2, main_v38, main_v39, main_v40, main_cst_3, main_v41, main_cst_4, main_v42, main_c_5, main_v43_0, main_v43_1, main_v43_2, main_v43_3, main_v43_4, main_v43_5] (by exact rfl) (by exact rfl) (by decide +kernel); exact h
theorem e_v36 : v36 m c = Host.dotGeneral dot_S1x64x64x4x64_S1x64x64x4x128_S1x64x4x64x128_2_2_4_4_013_013 none (v35 m c) (v8 m c) :=
  by have h := eq2 (a₁ := main_v35) (a₂ := main_v8) (o := main_v36) (f := ((fun l r => Host.dotGeneral dot_S1x64x64x4x64_S1x64x64x4x128_S1x64x4x64x128_2_2_4_4_013_013 none l r) : (⟨S1x64x64x4x64, .f32⟩ : BufTy).Contents (Elt F) → (⟨S1x64x64x4x128, .f32⟩ : BufTy).Contents (Elt F) → (⟨S1x64x4x64x128, .f32⟩ : BufTy).Contents (Elt F))) (at8 m c) 7 [main_v37, main_cst_2, main_v38, main_v39, main_v40, main_cst_3, main_v41, main_cst_4, main_v42, main_c_5, main_v43_0, main_v43_1, main_v43_2, main_v43_3, main_v43_4, main_v43_5] (by exact rfl) (by exact rfl) (by decide +kernel); exact h
theorem e_v37 : v37 m c = Host.exp (v19 m c) :=
  by have h := eq1 (a₁ := main_v19) (o := main_v37) (f := (Host.exp : (⟨S1x64x4x64, .f32⟩ : BufTy).Contents (Elt F) → (⟨S1x64x4x64, .f32⟩ : BufTy).Contents (Elt F))) (at8 m c) 8 [main_cst_2, main_v38, main_v39, main_v40, main_cst_3, main_v41, main_cst_4, main_v42, main_c_5, main_v43_0, main_v43_1, main_v43_2, main_v43_3, main_v43_4, main_v43_5] (by exact rfl) (by exact rfl) (by decide +kernel); exact h
theorem e_cst_2 : cst_2 m c = (constant S_ .f32 0x00000000#32) :=
  by have h := eq0  (o := main_cst_2) (at8 m c) 9 [main_v38, main_v39, main_v40, main_cst_3, main_v41, main_cst_4, main_v42, main_c_5, main_v43_0, main_v43_1, main_v43_2, main_v43_3, main_v43_4, main_v43_5] (by exact rfl) (by exact rfl) (by decide +kernel); exact h
theorem e_v38 : v38 m c = broadcastInDim S1x4x64x128 ![] bcast_S_S1x4x64x128 (cst_2 m c) :=
  by have h := eq1 (a₁ := main_cst_2) (o := main_v38) (f := (broadcastInDim S1x4x64x128 ![] bcast_S_S1x4x64x128 : (⟨S_, .f32⟩ : BufTy).Contents (Elt F) → (⟨S1x4x64x128, .f32⟩ : BufTy).Contents (Elt F))) (at8 m c) 10 [main_v39, main_v40, main_cst_3, main_v41, main_cst_4, main_v42, main_c_5, main_v43_0, main_v43_1, main_v43_2, main_v43_3, main_v43_4, main_v43_5] (by exact rfl) (by exact rfl) (by decide +kernel); exact h
theorem e_v39 : v39 m c = transpose S64x1x4x64 [1, 0, 2, 3] (v37 m c) transposes_S1x64x4x64_S64x1x4x64_1_0_2_3 :=
  by have h := eq1 (a₁ := main_v37) (o := main_v39) (f := ((transpose S64x1x4x64 [1, 0, 2, 3] · transposes_S1x64x4x64_S64x1x4x64_1_0_2_3) : (⟨S1x64x4x64, .f32⟩ : BufTy).Contents (Elt F) → (⟨S64x1x4x64, .f32⟩ : BufTy).Contents (Elt F))) (at8 m c) 11 [main_v40, main_cst_3, main_v41, main_cst_4, main_v42, main_c_5, main_v43_0, main_v43_1, main_v43_2, main_v43_3, main_v43_4, main_v43_5] (by exact rfl) (by exact rfl) (by decide +kernel); exact h
theorem e_v40 : v40 m c = transpose S64x1x4x64x128 [1, 0, 2, 3, 4] (v36 m c) transposes_S1x64x4x64x128_S64x1x4x64x128_1_0_2_3_4 :=
  by have h := eq1 (a₁ := main_v36) (o := main_v40) (f := ((transpose S64x1x4x64x128 [1, 0, 2, 3, 4] · transposes_S1x64x4x64x128_S64x1x4x64x128_1_0_2_3_4) : (⟨S1x64x4x64x128, .f32⟩ : BufTy).Contents (Elt F) → (⟨S64x1x4x64x128, .f32⟩ : BufTy).Contents (Elt F))) (at8 m c) 12 [main_cst_3, main_v41, main_cst_4, main_v42, main_c_5, main_v43_0, main_v43_1, main_v43_2, main_v43_3, main_v43_4, main_v43_5] (by exact rfl) (by exact rfl) (by decide +kernel); exact h
theorem e_cst_3 : cst_3 m c = (constant S_ .f32 0x00000000#32) :=
  by have h := eq0  (o := main_cst_3) (at8 m c) 13 [main_v41, main_cst_4, main_v42, main_c_5, main_v43_0, main_v43_1, main_v43_2, main_v43_3, main_v43_4, main_v43_5] (by exact rfl) (by exact rfl) (by decide +kernel); exact h
theorem e_v41 : v41 m c = broadcastInDim S64x1x4x64x128 ![] bcast_S_S64x1x4x64x128 (cst_3 m c) :=
  by have h := eq1 (a₁ := main_cst_3) (o := main_v41) (f := (broadcastInDim S64x1x4x64x128 ![] bcast_S_S64x1x4x64x128 : (⟨S_, .f32⟩ : BufTy).Contents (Elt F) → (⟨S64x1x4x64x128, .f32⟩ : BufTy).Contents (Elt F))) (at8 m c) 14 [main_cst_4, main_v42, main_c_5, main_v43_0, main_v43_1, main_v43_2, main_v43_3, main_v43_4, main_v43_5] (by exact rfl) (by exact rfl) (by decide +kernel); exact h
theorem e_cst_4 : cst_4 m c = (constant S_ .f32 0x00000000#32) :=
  by have h := eq0  (o := main_cst_4) (at8 m c) 15 [main_v42, main_c_5, main_v43_0, main_v43_1, main_v43_2, main_v43_3, main_v43_4, main_v43_5] (by exact rfl) (by exact rfl) (by decide +kernel); exact h
theorem e_v42 : v42 m c = broadcastInDim S64x1x4x64x1 ![] bcast_S_S64x1x4x64x1 (cst_4 m c) :=
  by have h := eq1 (a₁ := main_cst_4) (o := main_v42) (f := (broadcastInDim S64x1x4x64x1 ![] bcast_S_S64x1x4x64x1 : (⟨S_, .f32⟩ : BufTy).Contents (Elt F) → (⟨S64x1x4x64x1, .f32⟩ : BufTy).Contents (Elt F))) (at8 m c) 16 [main_c_5, main_v43_0, main_v43_1, main_v43_2, main_v43_3, main_v43_4, main_v43_5] (by exact rfl) (by exact rfl) (by decide +kernel); exact h
theorem e_c_5 : c_5 m c = (constantI S_ 32 0#32) :=
  by have h := eq0  (o := main_c_5) (at8 m c) 17 [main_v43_0, main_v43_1, main_v43_2, main_v43_3, main_v43_4, main_v43_5] (by exact rfl) (by exact rfl) (by decide +kernel); exact h
theorem e_v44 : v44 m c = transpose S1x64x4x64x128 [1, 0, 2, 3, 4] (v43_4 m c) transposes_S64x1x4x64x128_S1x64x4x64x128_1_0_2_3_4 :=
  by have h := eq1 (a₁ := main_v43_4) (o := main_v44) (f := ((transpose S1x64x4x64x128 [1, 0, 2, 3, 4] · transposes_S64x1x4x64x128_S1x64x4x64x128_1_0_2_3_4) : (⟨S64x1x4x64x128, .f32⟩ : BufTy).Contents (Elt F) → (⟨S1x64x4x64x128, .f32⟩ : BufTy).Contents (Elt F))) (at9 m c) 0 [main_v45] (by exact rfl) (by exact rfl) (by decide +kernel); exact h
theorem e_v45 : v45 m c = Host.dotGeneral dot_S1x64x4x64x128_S1x64x64x4x64_S1x64x4x128x64_3_4_4_2_012_013 none (v44 m c) (v21 m c) :=
  by have h := eq2 (a₁ := main_v44) (a₂ := main_v21) (o := main_v45) (f := ((fun l r => Host.dotGeneral dot_S1x64x4x64x128_S1x64x64x4x64_S1x64x4x128x64_3_4_4_2_012_013 none l r) : (⟨S1x64x4x64x128, .f32⟩ : BufTy).Contents (Elt F) → (⟨S1x64x64x4x64, .f32⟩ : BufTy).Contents (Elt F) → (⟨S1x64x4x128x64, .f32⟩ : BufTy).Contents (Elt F))) (at9 m c) 1 [] (by exact rfl) (by exact rfl) (by decide +kernel); exact h
theorem e_v46 : v46 m c = transpose S1x64x64x4x128 [0, 1, 4, 2, 3] (v45 m c) transposes_S1x64x4x128x64_S1x64x64x4x128_0_1_4_2_3 :=
  by have h := eq1 (a₁ := main_v45) (o := main_v46) (f := ((transpose S1x64x64x4x128 [0, 1, 4, 2, 3] · transposes_S1x64x4x128x64_S1x64x64x4x128_0_1_4_2_3) : (⟨S1x64x4x128x64, .f32⟩ : BufTy).Contents (Elt F) → (⟨S1x64x64x4x128, .f32⟩ : BufTy).Contents (Elt F))) (at10 m c) 0 [main_v47, main_v48, main_v49, main_v50, main_cst_6, main_v51, main_v52, main_v53, main_v54, main_v55, main_v56, main_v57, main_v58, main_v59, main_cst_7, main_v60, main_cst_8, main_v61, main_cst_9, main_v62, main_c_10, main_v63_0, main_v63_1, main_v63_2, main_v63_3, main_v63_4, main_v63_5, main_v63_6] (by exact rfl) (by exact rfl) (by decide +kernel); exact h
theorem e_v47 : v47 m c = addf (v30 m c) (v46 m c) :=
  by have h := eq2 (a₁ := main_v30) (a₂ := main_v46) (o := main_v47) (f := (addf : (⟨S1x64x64x4x128, .f32⟩ : BufTy).Contents (Elt F) → (⟨S1x64x64x4x128, .f32⟩ : BufTy).Contents (Elt F) → (⟨S1x64x64x4x128, .f32⟩ : BufTy).Contents (Elt F))) (at10 m c) 1 [main_v48, main_v49, main_v50, main_cst_6, main_v51, main_v52, main_v53, main_v54, main_v55, main_v56, main_v57, main_v58, main_v59, main_cst_7, main_v60, main_cst_8, main_v61, main_cst_9, main_v62, main_c_10, main_v63_0, main_v63_1, main_v63_2, main_v63_3, main_v63_4, main_v63_5, main_v63_6] (by exact rfl) (by exact rfl) (by decide +kernel); exact h
theorem e_v48 : v48 m c = shapeCast S1x4096x512 (v47 m c) shapeCasts_S1x64x64x4x128_S1x4096x512 :=
  by have h := eqR (a₁ := main_v47) (o := main_v48) (f := fun x : (⟨S1x64x64x4x128, .f32⟩ : BufTy).Contents (Elt F) => (shapeCast S1x4096x512 x shapeCasts_S1x64x64x4x128_S1x4096x512 : (⟨S1x4096x512, .f32⟩ : BufTy).Contents (Elt F))) (at10 m c) 2 [main_v49, main_v50, main_cst_6, main_v51, main_v52, main_v53, main_v54, main_v55, main_v56, main_v57, main_v58, main_v59, main_cst_7, main_v60, main_cst_8, main_v61, main_cst_9, main_v62, main_c_10, main_v63_0, main_v63_1, main_v63_2, main_v63_3, main_v63_4, main_v63_5, main_v63_6] (by exact rfl) (by exact rfl) (fun _ _ => rfl) (by decide +kernel); exact h
theorem e_v49 : v49 m c = shapeCast S4096x512 (v48 m c) shapeCasts_S1x4096x512_S4096x512 :=
  by have h := eqR (a₁ := main_v48) (o := main_v49) (f := fun x : (⟨S1x4096x512, .f32⟩ : BufTy).Contents (Elt F) => (shapeCast S4096x512 x shapeCasts_S1x4096x512_S4096x512 : (⟨S4096x512, .f32⟩ : BufTy).Contents (Elt F))) (at10 m c) 3 [main_v50, main_cst_6, main_v51, main_v52, main_v53, main_v54, main_v55, main_v56, main_v57, main_v58, main_v59, main_cst_7, main_v60, main_cst_8, main_v61, main_cst_9, main_v62, main_c_10, main_v63_0, main_v63_1, main_v63_2, main_v63_3, main_v63_4, main_v63_5, main_v63_6] (by exact rfl) (by exact rfl) (fun _ _ => rfl) (by decide +kernel); exact h
theorem e_v50 : v50 m c = extf .f32 (arg6 m c) bitsLt_bf16_f32 :=
  by have h := eq1 (a₁ := main_arg6) (o := main_v50) (f := ((extf .f32 · bitsLt_bf16_f32) : (⟨S4096x512, .bf16⟩ : BufTy).Contents (Elt F) → (⟨S4096x512, .f32⟩ : BufTy).Contents (Elt F))) (at10 m c) 4 [main_cst_6, main_v51, main_v52, main_v53, main_v54, main_v55, main_v56, main_v57, main_v58, main_v59, main_cst_7, main_v60, main_cst_8, main_v61, main_cst_9, main_v62, main_c_10, main_v63_0, main_v63_1, main_v63_2, main_v63_3, main_v63_4, main_v63_5, main_v63_6] (by exact rfl) (by exact rfl) (by decide +kernel); exact h
theorem e_cst_6 : cst_6 m c = (constant S_ .f32 0x00000000#32) :=
  by have h := eq0  (o := main_cst_6) (at10 m c) 5 [main_v51, main_v52, main_v53, main_v54, main_v55, main_v56, main_v57, main_v58, main_v59, main_cst_7, main_v60, main_cst_8, main_v61, main_cst_9, main_v62, main_c_10, main_v63_0, main_v63_1, main_v63_2, main_v63_3, main_v63_4, main_v63_5, main_v63_6] (by exact rfl) (by exact rfl) (by decide +kernel); exact h
theorem e_v51 : v51 m c = broadcastInDim S1x4x64x128 ![] bcast_S_S1x4x64x128 (cst_6 m c) :=
  by have h := eq1 (a₁ := main_cst_6) (o := main_v51) (f := (broadcastInDim S1x4x64x128 ![] bcast_S_S1x4x64x128 : (⟨S_, .f32⟩ : BufTy).Contents (Elt F) → (⟨S1x4x64x128, .f32⟩ : BufTy).Contents (Elt F))) (at10 m c) 6 [main_v52, main_v53, main_v54, main_v55, main_v56, main_v57, main_v58, main_v59, main_cst_7, main_v60, main_cst_8, main_v61, main_cst_9, main_v62, main_c_10, main_v63_0, main_v63_1, main_v63_2, main_v63_3, main_v63_4, main_v63_5, main_v63_6] (by exact rfl) (by exact rfl) (by decide +kernel); exact h
theorem e_v52 : v52 m c = broadcastInDim S1x4096x512 ![1, 2] bcast_S4096x512_S1x4096x512_1_2 (v50 m c) :=
  by have h := eq1 (a₁ := main_v50) (o := main_v52) (f := (broadcastInDim S1x4096x512 ![1, 2] bcast_S4096x512_S1x4096x512_1_2 : (⟨S4096x512, .f32⟩ : BufTy).Contents (Elt F) → (⟨S1x4096x512, .f32⟩ : BufTy).Contents (Elt F))) (at10 m c) 7 [main_v53, main_v54, main_v55, main_v56, main_v57, main_v58, main_v59, main_cst_7, main_v60, main_cst_8, main_v61, main_cst_9, main_v62, main_c_10, main_v63_0, main_v63_1, main_v63_2, main_v63_3, main_v63_4, main_v63_5, main_v63_6] (by exact rfl) (by exact rfl) (by decide +kernel); exact h
theorem e_v53 : v53 m c = shapeCast S1x64x64x4x128 (v52 m c) shapeCasts_S1x4096x512_S1x64x64x4x128 :=
  by have h := eqR (a₁ := main_v52) (o := main_v53) (f := fun x : (⟨S1x4096x512, .f32⟩ : BufTy).Contents (Elt F) => (shapeCast S1x64x64x4x128 x shapeCasts_S1x4096x512_S1x64x64x4x128 : (⟨S1x64x64x4x128, .f32⟩ : BufTy).Contents (Elt F))) (at10 m c) 8 [main_v54, main_v55, main_v56, main_v57, main_v58, main_v59, main_cst_7, main_v60, main_cst_8, main_v61, main_cst_9, main_v62, main_c_10, main_v63_0, main_v63_1, main_v63_2, main_v63_3, main_v63_4, main_v63_5, main_v63_6] (by exact rfl) (by exact rfl) (fun _ _ => rfl) (by decide +kernel); exact h
theorem e_v54 : v54 m c = transpose S1x64x4x128x64 [0, 1, 3, 4, 2] (v53 m c) transposes_S1x64x64x4x128_S1x64x4x128x64_0_1_3_4_2 :=
  by have h := eq1 (a₁ := main_v53) (o := main_v54) (f := ((transpose S1x64x4x128x64 [0, 1, 3, 4, 2] · transposes_S1x64x64x4x128_S1x64x4x128x64_0_1_3_4_2) : (⟨S1x64x64x4x128, .f32⟩ : BufTy).Contents (Elt F) → (⟨S1x64x4x128x64, .f32⟩ : BufTy).Contents (Elt F))) (at10 m c) 9 [main_v55, main_v56, main_v57, main_v58, main_v59, main_cst_7, main_v60, main_cst_8, main_v61, main_cst_9, main_v62, main_c_10, main_v63_0, main_v63_1, main_v63_2, main_v63_3, main_v63_4, main_v63_5, main_v63_6] (by exact rfl) (by exact rfl) (by decide +kernel); exact h
theorem e_v55 : v55 m c = Host.dotGeneral dot_S1x64x4x128x64_S1x64x4x64x128_S1x64x4x64x64_3_4_4_3_012_012 none (v54 m c) (v44 m c) :=
  by have h := eq2 (a₁ := main_v54) (a₂ := main_v44) (o := main_v55) (f := ((fun l r => Host.dotGeneral dot_S1x64x4x128x64_S1x64x4x64x128_S1x64x4x64x64_3_4_4_3_012_012 none l r) : (⟨S1x64x4x128x64, .f32⟩ : BufTy).Contents (Elt F) → (⟨S1x64x4x64x128, .f32⟩ : BufTy).Contents (Elt F) → (⟨S1x64x4x64x64, .f32⟩ : BufTy).Contents (Elt F))) (at10 m c) 10 [main_v56, main_v57, main_v58, main_v59, main_cst_7, main_v60, main_cst_8, main_v61, main_cst_9, main_v62, main_c_10, main_v63_0, main_v63_1, main_v63_2, main_v63_3, main_v63_4, main_v63_5, main_v63_6] (by exact rfl) (by exact rfl) (by decide +kernel); exact h
theorem e_v56 : v56 m c = transpose S1x64x64x4x64 [0, 1, 3, 2, 4] (v55 m c) transposes_S1x64x4x64x64_S1x64x64x4x64_0_1_3_2_4 :=
  by have h := eq1 (a₁ := main_v55) (o := main_v56) (f := ((transpose S1x64x64x4x64 [0, 1, 3, 2, 4] · transposes_S1x64x4x64x64_S1x64x64x4x64_0_1_3_2_4) : (⟨S1x64x4x64x64, .f32⟩ : BufTy).Contents (Elt F) → (⟨S1x64x64x4x64, .f32⟩ : BufTy).Contents (Elt F))) (at10 m c) 11 [main_v57, main_v58, main_v59, main_cst_7, main_v60, main_cst_8, main_v61, main_cst_9, main_v62, main_c_10, main_v63_0, main_v63_1, main_v63_2, main_v63_3, main_v63_4, main_v63_5, main_v63_6] (by exact rfl) (by exact rfl) (by decide +kernel); exact h
theorem e_v57 : v57 m c = Host.dotGeneral dot_S1x64x4x128x64_S1x64x64x4x64_S1x64x4x128x64_4_2_3_4_012_013 none (v54 m c) (v21 m c) :=
  by have h := eq2 (a₁ := main_v54) (a₂ := main_v21) (o := main_v57) (f := ((fun l r => Host.dotGeneral dot_S1x64x4x128x64_S1x64x64x4x64_S1x64x4x128x64_4_2_3_4_012_013 none l r) : (⟨S1x64x4x128x64, .f32⟩ : BufTy).Contents (Elt F) → (⟨S1x64x64x4x64, .f32⟩ : BufTy).Contents (Elt F) → (⟨S1x64x4x128x64, .f32⟩ : BufTy).Contents (Elt F))) (at10 m c) 12 [main_v58, main_v59, main_cst_7, main_v60, main_cst_8, main_v61, main_cst_9, main_v62, main_c_10, main_v63_0, main_v63_1, main_v63_2, main_v63_3, main_v63_4, main_v63_5, main_v63_6] (by exact rfl) (by exact rfl) (by decide +kernel); exact h
theorem e_v58 : v58 m c = transpose S1x64x4x64x128 [0, 1, 2, 4, 3] (v57 m c) transposes_S1x64x4x128x64_S1x64x4x64x128_0_1_2_4_3 :=
  by have h := eq1 (a₁ := main_v57) (o := main_v58) (f := ((transpose S1x64x4x64x128 [0, 1, 2, 4, 3] · transposes_S1x64x4x128x64_S1x64x4x64x128_0_1_2_4_3) : (⟨S1x64x4x128x64, .f32⟩ : BufTy).Contents (Elt F) → (⟨S1x64x4x64x128, .f32⟩ : BufTy).Contents (Elt F))) (at10 m c) 13 [main_v59, main_cst_7, main_v60, main_cst_8, main_v61, main_cst_9, main_v62, main_c_10, main_v63_0, main_v63_1, main_v63_2, main_v63_3, main_v63_4, main_v63_5, main_v63_6] (by exact rfl) (by exact rfl) (by decide +kernel); exact h
theorem e_v59 : v59 m c = transpose S64x1x4x64x128 [1, 0, 2, 3, 4] (v58 m c) transposes_S1x64x4x64x128_S64x1x4x64x128_1_0_2_3_4 :=
  by have h := eq1 (a₁ := main_v58) (o := main_v59) (f := ((transpose S64x1x4x64x128 [1, 0, 2, 3, 4] · transposes_S1x64x4x64x128_S64x1x4x64x128_1_0_2_3_4) : (⟨S1x64x4x64x128, .f32⟩ : BufTy).Contents (Elt F) → (⟨S64x1x4x64x128, .f32⟩ : BufTy).Contents (Elt F))) (at10 m c) 14 [main_cst_7, main_v60, main_cst_8, main_v61, main_cst_9, main_v62, main_c_10, main_v63_0, main_v63_1, main_v63_2, main_v63_3, main_v63_4, main_v63_5, main_v63_6] (by exact rfl) (by exact rfl) (by decide +kernel); exact h
theorem e_cst_7 : cst_7 m c = (constant S_ .f32 0x00000000#32) :=
  by have h := eq0  (o := main_cst_7) (at10 m c) 15 [main_v60, main_cst_8, main_v61, main_cst_9, main_v62, main_c_10, main_v63_0, main_v63_1, main_v63_2, main_v63_3, main_v63_4, main_v63_5, main_v63_6] (by exact rfl) (by exact rfl) (by decide +kernel); exact h
theorem e_v60 : v60 m c = broadcastInDim S1x4x64x128 ![] bcast_S_S1x4x64x128 (cst_7 m c) :=
  by have h := eq1 (a₁ := main_cst_7) (o := main_v60) (f := (broadcastInDim S1x4x64x128 ![] bcast_S_S1x4x64x128 : (⟨S_, .f32⟩ : BufTy).Contents (Elt F) → (⟨S1x4x64x128, .f32⟩ : BufTy).Contents (Elt F))) (at10 m c) 16 [main_cst_8, main_v61, main_cst_9, main_v62, main_c_10, main_v63_0, main_v63_1, main_v63_2, main_v63_3, main_v63_4, main_v63_5, main_v63_6] (by exact rfl) (by exact rfl) (by decide +kernel); exact h
theorem e_cst_8 : cst_8 m c = (constant S_ .f32 0x00000000#32) :=
  by have h := eq0  (o := main_cst_8) (at10 m c) 17 [main_v61, main_cst_9, main_v62, main_c_10, main_v63_0, main_v63_1, main_v63_2, main_v63_3, main_v63_4, main_v63_5, main_v63_6] (by exact rfl) (by exact rfl) (by decide +kernel); exact h
theorem e_v61 : v61 m c = broadcastInDim S64x1x4x64 ![] bcast_S_S64x1x4x64 (cst_8 m c) :=
  by have h := eq1 (a₁ := main_cst_8) (o := main_v61) (f := (broadcastInDim S64x1x4x64 ![] bcast_S_S64x1x4x64 : (⟨S_, .f32⟩ : BufTy).Contents (Elt F) → (⟨S64x1x4x64, .f32⟩ : BufTy).Contents (Elt F))) (at10 m c) 18 [main_cst_9, main_v62, main_c_10, main_v63_0, main_v63_1, main_v63_2, main_v63_3, main_v63_4, main_v63_5, main_v63_6] (by exact rfl) (by exact rfl) (by decide +kernel); exact h
theorem e_cst_9 : cst_9 m c = (constant S_ .f32 0x00000000#32) :=
  by have h := eq0  (o := main_cst_9) (at10 m c) 19 [main_v62, main_c_10, main_v63_0, main_v63_1, main_v63_2, main_v63_3, main_v63_4, main_v63_5, main_v63_6] (by exact rfl) (by exact rfl) (by decide +kernel); exact h
theorem e_v62 : v62 m c = broadcastInDim S64x1x4x64x128 ![] bcast_S_S64x1x4x64x128 (cst_9 m c) :=
  by have h := eq1 (a₁ := main_cst_9) (o := main_v62) (f := (broadcastInDim S64x1x4x64x128 ![] bcast_S_S64x1x4x64x128 : (⟨S_, .f32⟩ : BufTy).Contents (Elt F) → (⟨S64x1x4x64x128, .f32⟩ : BufTy).Contents (Elt F))) (at10 m c) 20 [main_c_10, main_v63_0, main_v63_1, main_v63_2, main_v63_3, main_v63_4, main_v63_5, main_v63_6] (by exact rfl) (by exact rfl) (by decide +kernel); exact h
theorem e_c_10 : c_10 m c = (constantI S_ 32 0#32) :=
  by have h := eq0  (o := main_c_10) (at10 m c) 21 [main_v63_0, main_v63_1, main_v63_2, main_v63_3, main_v63_4, main_v63_5, main_v63_6] (by exact rfl) (by exact rfl) (by decide +kernel); exact h
theorem e_v64 : v64 m c = transpose S1x64x4x64x128 [1, 0, 2, 3, 4] (v63_6 m c) transposes_S64x1x4x64x128_S1x64x4x64x128_1_0_2_3_4 :=
  by have h := eq1 (a₁ := main_v63_6) (o := main_v64) (f := ((transpose S1x64x4x64x128 [1, 0, 2, 3, 4] · transposes_S64x1x4x64x128_S1x64x4x64x128_1_0_2_3_4) : (⟨S64x1x4x64x128, .f32⟩ : BufTy).Contents (Elt F) → (⟨S1x64x4x64x128, .f32⟩ : BufTy).Contents (Elt F))) (at11 m c) 0 [main_v65, main_v66, main_v67, main_v68, main_v69, main_v70, main_v71, main_v72, main_v73, main_cst_11, main_v74, main_v75, main_v76, main_cst_12, main_v77, main_v78, main_v79, main_v80, main_v81, main_v82, main_v83, main_v84] (by exact rfl) (by exact rfl) (by decide +kernel); exact h
theorem e_v65 : v65 m c = transpose S1x64x4x64 [1, 0, 2, 3] (v63_5 m c) transposes_S64x1x4x64_S1x64x4x64_1_0_2_3 :=
  by have h := eq1 (a₁ := main_v63_5) (o := main_v65) (f := ((transpose S1x64x4x64 [1, 0, 2, 3] · transposes_S64x1x4x64_S1x64x4x64_1_0_2_3) : (⟨S64x1x4x64, .f32⟩ : BufTy).Contents (Elt F) → (⟨S1x64x4x64, .f32⟩ : BufTy).Contents (Elt F))) (at11 m c) 1 [main_v66, main_v67, main_v68, main_v69, main_v70, main_v71, main_v72, main_v73, main_cst_11, main_v74, main_v75, main_v76, main_cst_12, main_v77, main_v78, main_v79, main_v80, main_v81, main_v82, main_v83, main_v84] (by exact rfl) (by exact rfl) (by decide +kernel); exact h
theorem e_v66 : v66 m c = mulf (v65 m c) (v37 m c) :=
  by have h := eq2 (a₁ := main_v65) (a₂ := main_v37) (o := main_v66) (f := (mulf : (⟨S1x64x4x64, .f32⟩ : BufTy).Contents (Elt F) → (⟨S1x64x4x64, .f32⟩ : BufTy).Contents (Elt F) → (⟨S1x64x4x64, .f32⟩ : BufTy).Contents (Elt F))) (at11 m c) 2 [main_v67, main_v68, main_v69, main_v70, main_v71, main_v72, main_v73, main_cst_11, main_v74, main_v75, main_v76, main_cst_12, main_v77, main_v78, main_v79, main_v80, main_v81, main_v82, main_v83, main_v84] (by exact rfl) (by exact rfl) (by decide +kernel); exact h
theorem e_v67 : v67 m c = Host.dotGeneral dot_S1x64x4x64x128_S1x64x64x4x64_S1x64x4x128x64_3_4_4_2_012_013 none (v64 m c) (v35 m c) :=
  by have h := eq2 (a₁ := main_v64) (a₂ := main_v35) (o := main_v67) (f := ((fun l r => Host.dotGeneral dot_S1x64x4x64x128_S1x64x64x4x64_S1x64x4x128x64_3_4_4_2_012_013 none l r) : (⟨S1x64x4x64x128, .f32⟩ : BufTy).Contents (Elt F) → (⟨S1x64x64x4x64, .f32⟩ : BufTy).Contents (Elt F) → (⟨S1x64x4x128x64, .f32⟩ : BufTy).Contents (Elt F))) (at11 m c) 3 [main_v68, main_v69, main_v70, main_v71, main_v72, main_v73, main_cst_11, main_v74, main_v75, main_v76, main_cst_12, main_v77, main_v78, main_v79, main_v80, main_v81, main_v82, main_v83, main_v84] (by exact rfl) (by exact rfl) (by decide +kernel); exact h
theorem e_v68 : v68 m c = transpose S1x64x64x4x128 [0, 1, 4, 2, 3] (v67 m c) transposes_S1x64x4x128x64_S1x64x64x4x128_0_1_4_2_3 :=
  by have h := eq1 (a₁ := main_v67) (o := main_v68) (f := ((transpose S1x64x64x4x128 [0, 1, 4, 2, 3] · transposes_S1x64x4x128x64_S1x64x64x4x128_0_1_4_2_3) : (⟨S1x64x4x128x64, .f32⟩ : BufTy).Contents (Elt F) → (⟨S1x64x64x4x128, .f32⟩ : BufTy).Contents (Elt F))) (at11 m c) 4 [main_v69, main_v70, main_v71, main_v72, main_v73, main_cst_11, main_v74, main_v75, main_v76, main_cst_12, main_v77, main_v78, main_v79, main_v80, main_v81, main_v82, main_v83, main_v84] (by exact rfl) (by exact rfl) (by decide +kernel); exact h
theorem e_v69 : v69 m c = Host.dotGeneral dot_S1x64x4x64x128_S1x64x64x4x128_S1x64x4x64x64_4_4_3_2_012_013 none (v64 m c) (v8 m c) :=
  by have h := eq2 (a₁ := main_v64) (a₂ := main_v8) (o := main_v69) (f := ((fun l r => Host.dotGeneral dot_S1x64x4x64x128_S1x64x64x4x128_S1x64x4x64x64_4_4_3_2_012_013 none l r) : (⟨S1x64x4x64x128, .f32⟩ : BufTy).Contents (Elt F) → (⟨S1x64x64x4x128, .f32⟩ : BufTy).Contents (Elt F) → (⟨S1x64x4x64x64, .f32⟩ : BufTy).Contents (Elt F))) (at11 m c) 5 [main_v70, main_v71, main_v72, main_v73, main_cst_11, main_v74, main_v75, main_v76, main_cst_12, main_v77, main_v78, main_v79, main_v80, main_v81, main_v82, main_v83, main_v84] (by exact rfl) (by exact rfl) (by decide +kernel); exact h
theorem e_v70 : v70 m c = transpose S1x64x64x4x64 [0, 1, 4, 2, 3] (v69 m c) transposes_S1x64x4x64x64_S1x64x64x4x64_0_1_4_2_3 :=
  by have h := eq1 (a₁ := main_v69) (o := main_v70) (f := ((transpose S1x64x64x4x64 [0, 1, 4, 2, 3] · transposes_S1x64x4x64x64_S1x64x64x4x64_0_1_4_2_3) : (⟨S1x64x4x64x64, .f32⟩ : BufTy).Contents (Elt F) → (⟨S1x64x64x4x64, .f32⟩ : BufTy).Contents (Elt F))) (at11 m c) 6 [main_v71, main_v72, main_v73, main_cst_11, main_v74, main_v75, main_v76, main_cst_12, main_v77, main_v78, main_v79, main_v80, main_v81, main_v82, main_v83, main_v84] (by exact rfl) (by exact rfl) (by decide +kernel); exact h
theorem e_v71 : v71 m c = mulf (v7 m c) (v70 m c) :=
  by have h := eq2 (a₁ := main_v7) (a₂ := main_v70) (o := main_v71) (f := (mulf : (⟨S1x64x64x4x64, .f32⟩ : BufTy).Contents (Elt F) → (⟨S1x64x64x4x64, .f32⟩ : BufTy).Contents (Elt F) → (⟨S1x64x64x4x64, .f32⟩ : BufTy).Contents (Elt F))) (at11 m c) 7 [main_v72, main_v73, main_cst_11, main_v74, main_v75, main_v76, main_cst_12, main_v77, main_v78, main_v79, main_v80, main_v81, main_v82, main_v83, main_v84] (by exact rfl) (by exact rfl) (by decide +kernel); exact h
theorem e_v72 : v72 m c = mulf (v70 m c) (v34 m c) :=
  by have h := eq2 (a₁ := main_v70) (a₂ := main_v34) (o := main_v72) (f := (mulf : (⟨S1x64x64x4x64, .f32⟩ : BufTy).Contents (Elt F) → (⟨S1x64x64x4x64, .f32⟩ : BufTy).Contents (Elt F) → (⟨S1x64x64x4x64, .f32⟩ : BufTy).Contents (Elt F))) (at11 m c) 8 [main_v73, main_cst_11, main_v74, main_v75, main_v76, main_cst_12, main_v77, main_v78, main_v79, main_v80, main_v81, main_v82, main_v83, main_v84] (by exact rfl) (by exact rfl) (by decide +kernel); exact h
theorem e_v73 : v73 m c = mulf (v71 m c) (v34 m c) :=
  by have h := eq2 (a₁ := main_v71) (a₂ := main_v34) (o := main_v73) (f := (mulf : (⟨S1x64x64x4x64, .f32⟩ : BufTy).Contents (Elt F) → (⟨S1x64x64x4x64, .f32⟩ : BufTy).Contents (Elt F) → (⟨S1x64x64x4x64, .f32⟩ : BufTy).Contents (Elt F))) (at11 m c) 9 [main_cst_11, main_v74, main_v75, main_v76, main_cst_12, main_v77, main_v78, main_v79, main_v80, main_v81, main_v82, main_v83, main_v84] (by exact rfl) (by exact rfl) (by decide +kernel); exact h
theorem e_cst_11 : cst_11 m c = (constant S_ .f32 0x00000000#32) :=
  by have h := eq0  (o := main_cst_11) (at11 m c) 10 [main_v74, main_v75, main_v76, main_cst_12, main_v77, main_v78, main_v79, main_v80, main_v81, main_v82, main_v83, main_v84] (by exact rfl) (by exact rfl) (by decide +kernel); exact h
theorem e_v74 : v74 m c = Host.reduceAdd (v73 m c) (cst_11 m c) reducesTo_S1x64x64x4x64_S1x64x4x64_d2 h_S_ :=
  by have h := eq2 (a₁ := main_v73) (a₂ := main_cst_11) (o := main_v74) (f := ((fun x v => Host.reduceAdd x v reducesTo_S1x64x64x4x64_S1x64x4x64_d2 h_S_) : (⟨S1x64x64x4x64, .f32⟩ : BufTy).Contents (Elt F) → (⟨S_, .f32⟩ : BufTy).Contents (Elt F) → (⟨S1x64x4x64, .f32⟩ : BufTy).Contents (Elt F))) (at11 m c) 11 [main_v75, main_v76, main_cst_12, main_v77, main_v78, main_v79, main_v80, main_v81, main_v82, main_v83, main_v84] (by exact rfl) (by exact rfl) (by decide +kernel); exact h
theorem e_v75 : v75 m c = shapeCast S1x64x1x4x64 (v74 m c) shapeCasts_S1x64x4x64_S1x64x1x4x64 :=
  by have h := eqR (a₁ := main_v74) (o := main_v75) (f := fun x : (⟨S1x64x4x64, .f32⟩ : BufTy).Contents (Elt F) => (shapeCast S1x64x1x4x64 x shapeCasts_S1x64x4x64_S1x64x1x4x64 : (⟨S1x64x1x4x64, .f32⟩ : BufTy).Contents (Elt F))) (at11 m c) 12 [main_v76, main_cst_12, main_v77, main_v78, main_v79, main_v80, main_v81, main_v82, main_v83, main_v84] (by exact rfl) (by exact rfl) (fun _ _ => rfl) (by decide +kernel); exact h
theorem e_v76 : v76 m c = Host.negf (v73 m c) :=
  by have h := eq1 (a₁ := main_v73) (o := main_v76) (f := (Host.negf : (⟨S1x64x64x4x64, .f32⟩ : BufTy).Contents (Elt F) → (⟨S1x64x64x4x64, .f32⟩ : BufTy).Contents (Elt F))) (at11 m c) 13 [main_cst_12, main_v77, main_v78, main_v79, main_v80, main_v81, main_v82, main_v83, main_v84] (by exact rfl) (by exact rfl) (by decide +kernel); exact h
theorem e_cst_12 : cst_12 m c = (constant S_ .f32 0x00000000#32) :=
  by have h := eq0  (o := main_cst_12) (at11 m c) 14 [main_v77, main_v78, main_v79, main_v80, main_v81, main_v82, main_v83, main_v84] (by exact rfl) (by exact rfl) (by decide +kernel); exact h
theorem e_v77 : v77 m c = Host.reduceAdd (v75 m c) (cst_12 m c) reducesTo_S1x64x1x4x64_S64x4x64_d0_2 h_S_ :=
  by have h := eq2 (a₁ := main_v75) (a₂ := main_cst_12) (o := main_v77) (f := ((fun x v => Host.reduceAdd x v reducesTo_S1x64x1x4x64_S64x4x64_d0_2 h_S_) : (⟨S1x64x1x4x64, .f32⟩ : BufTy).Contents (Elt F) → (⟨S_, .f32⟩ : BufTy).Contents (Elt F) → (⟨S64x4x64, .f32⟩ : BufTy).Contents (Elt F))) (at11 m c) 15 [main_v78, main_v79, main_v80, main_v81, main_v82, main_v83, main_v84] (by exact rfl) (by exact rfl) (by decide +kernel); exact h
theorem e_v78 : v78 m c = broadcastInDim S1x64x4x64 ![1, 2, 3] bcast_S64x4x64_S1x64x4x64_1_2_3 (v77 m c) :=
  by have h := eq1 (a₁ := main_v77) (o := main_v78) (f := (broadcastInDim S1x64x4x64 ![1, 2, 3] bcast_S64x4x64_S1x64x4x64_1_2_3 : (⟨S64x4x64, .f32⟩ : BufTy).Contents (Elt F) → (⟨S1x64x4x64, .f32⟩ : BufTy).Contents (Elt F))) (at11 m c) 16 [main_v79, main_v80, main_v81, main_v82, main_v83, main_v84] (by exact rfl) (by exact rfl) (by decide +kernel); exact h
theorem e_v79 : v79 m c = addf (v66 m c) (v78 m c) :=
  by have h := eq2 (a₁ := main_v66) (a₂ := main_v78) (o := main_v79) (f := (addf : (⟨S1x64x4x64, .f32⟩ : BufTy).Contents (Elt F) → (⟨S1x64x4x64, .f32⟩ : BufTy).Contents (Elt F) → (⟨S1x64x4x64, .f32⟩ : BufTy).Contents (Elt F))) (at11 m c) 17 [main_v80, main_v81, main_v82, main_v83, main_v84] (by exact rfl) (by exact rfl) (by decide +kernel); exact h
theorem e_v80 : v80 m c = transpose S1x64x4x128x64 [0, 1, 3, 4, 2] (v53 m c) transposes_S1x64x64x4x128_S1x64x4x128x64_0_1_3_4_2 :=
  by have h := eq1 (a₁ := main_v53) (o := main_v80) (f := ((transpose S1x64x4x128x64 [0, 1, 3, 4, 2] · transposes_S1x64x64x4x128_S1x64x4x128x64_0_1_3_4_2) : (⟨S1x64x64x4x128, .f32⟩ : BufTy).Contents (Elt F) → (⟨S1x64x4x128x64, .f32⟩ : BufTy).Contents (Elt F))) (at11 m c) 18 [main_v81, main_v82, main_v83, main_v84] (by exact rfl) (by exact rfl) (by decide +kernel); exact h
theorem e_v81 : v81 m c = Host.dotGeneral dot_S1x64x4x128x64_S1x64x64x4x128_S1x64x4x64x64_3_4_4_2_012_013 none (v80 m c) (v8 m c) :=
  by have h := eq2 (a₁ := main_v80) (a₂ := main_v8) (o := main_v81) (f := ((fun l r => Host.dotGeneral dot_S1x64x4x128x64_S1x64x64x4x128_S1x64x4x64x64_3_4_4_2_012_013 none l r) : (⟨S1x64x4x128x64, .f32⟩ : BufTy).Contents (Elt F) → (⟨S1x64x64x4x128, .f32⟩ : BufTy).Contents (Elt F) → (⟨S1x64x4x64x64, .f32⟩ : BufTy).Contents (Elt F))) (at11 m c) 19 [main_v82, main_v83, main_v84] (by exact rfl) (by exact rfl) (by decide +kernel); exact h
theorem e_v82 : v82 m c = Host.dotGeneral dot_S1x64x4x128x64_S1x64x4x64x64_S1x64x4x128x64_4_3_3_4_012_012 none (v80 m c) (v28_0 m c) :=
  by have h := eq2 (a₁ := main_v80) (a₂ := main_v28_0) (o := main_v82) (f := ((fun l r => Host.dotGeneral dot_S1x64x4x128x64_S1x64x4x64x64_S1x64x4x128x64_4_3_3_4_012_012 none l r) : (⟨S1x64x4x128x64, .f32⟩ : BufTy).Contents (Elt F) → (⟨S1x64x4x64x64, .f32⟩ : BufTy).Contents (Elt F) → (⟨S1x64x4x128x64, .f32⟩ : BufTy).Contents (Elt F))) (at11 m c) 20 [main_v83, main_v84] (by exact rfl) (by exact rfl) (by decide +kernel); exact h
theorem e_v83 : v83 m c = transpose S1x64x64x4x128 [0, 1, 4, 2, 3] (v82 m c) transposes_S1x64x4x128x64_S1x64x64x4x128_0_1_4_2_3 :=
  by have h := eq1 (a₁ := main_v82) (o := main_v83) (f := ((transpose S1x64x64x4x128 [0, 1, 4, 2, 3] · transposes_S1x64x4x128x64_S1x64x64x4x128_0_1_4_2_3) : (⟨S1x64x4x128x64, .f32⟩ : BufTy).Contents (Elt F) → (⟨S1x64x64x4x128, .f32⟩ : BufTy).Contents (Elt F))) (at11 m c) 21 [main_v84] (by exact rfl) (by exact rfl) (by decide +kernel); exact h
theorem e_v84 : v84 m c = addf (v68 m c) (v83 m c) :=
  by have h := eq2 (a₁ := main_v68) (a₂ := main_v83) (o := main_v84) (f := (addf : (⟨S1x64x64x4x128, .f32⟩ : BufTy).Contents (Elt F) → (⟨S1x64x64x4x128, .f32⟩ : BufTy).Contents (Elt F) → (⟨S1x64x64x4x128, .f32⟩ : BufTy).Contents (Elt F))) (at11 m c) 22 [] (by exact rfl) (by exact rfl) (by decide +kernel); exact h
theorem e_call13_cst : call13_cst m c = (constant S_ .f32 0x00000000#32) :=
  by have h := eq0  (o := main_call13_cst) (at12 m c) 0 [main_call13_v0, main_v85] (by exact rfl) (by exact rfl) (by decide +kernel); exact h
theorem e_call13_v0 : call13_v0 m c = (broadcastInDim S1x64x4x64x64 ![] bcast_S_S1x64x4x64x64) (call13_cst m c) :=
  by have h := eq1 (a₁ := main_call13_cst) (o := main_call13_v0) (f := (broadcastInDim S1x64x4x64x64 ![] bcast_S_S1x64x4x64x64)) (at12 m c) 1 [main_v85] (by exact rfl) (by exact rfl) (by decide +kernel); exact h
theorem e_v85 : v85 m c = select (v28_1 m c) (v81 m c) (call13_v0 m c) :=
  by have h := eq3 (a₁ := main_v28_1) (a₂ := main_v81) (a₃ := main_call13_v0) (o := main_v85) (f := select) (at12 m c) 2 [] (by exact rfl) (by exact rfl) (by decide +kernel); exact h
theorem e_v86 : v86 m c = Host.dotGeneral dot_S1x64x4x64x64_S1x64x64x4x64_S1x64x4x64x64_3_2_4_4_012_013 none (v85 m c) (v21 m c) :=
  by have h := eq2 (a₁ := main_v85) (a₂ := main_v21) (o := main_v86) (f := ((fun l r => Host.dotGeneral dot_S1x64x4x64x64_S1x64x64x4x64_S1x64x4x64x64_3_2_4_4_012_013 none l r) : (⟨S1x64x4x64x64, .f32⟩ : BufTy).Contents (Elt F) → (⟨S1x64x64x4x64, .f32⟩ : BufTy).Contents (Elt F) → (⟨S1x64x4x64x64, .f32⟩ : BufTy).Contents (Elt F))) (at13 m c) 0 [main_v87, main_v88, main_v89, main_v90, main_v91] (by exact rfl) (by exact rfl) (by decide +kernel); exact h

end Cert.ReferenceIdeal.Run
-- ==== Proof.RefEq2.lean ====
module

public import proofs.«01_k».proof.Proof.RefAt
public import Idealize.ShloMosaic.Lib.Pointwise

/-! What the reference leaves in every buffer its straight-line stretches write: each equals the operation that writes it, of the buffers that
operation reads, all as the program leaves them, since none is written twice. -/

@[expose] public section

set_option maxRecDepth 16384
set_option maxHeartbeats 0

noncomputable section

namespace Cert.ReferenceIdeal.Run

open Cert.ReferenceIdeal Cert.ReferenceIdeal.Gen Cert.ReferenceIdeal.Ops
open Idealize.ShloMosaic Idealize.ShloMosaic.TcCoe Idealize.ShloMosaic.Tactic
open Idealize.ShloMosaic.StableHlo
open Idealize.SL.Sem

variable {F : FTy → Type} [FloatOps F] (m : (ℓ : Loc nD τ sig) → Buf (Elt F) ℓ) (c : Dev nD)

theorem e_v87 : v87 m c = transpose S1x64x64x4x64 [0, 1, 3, 2, 4] (v86 m c) transposes_S1x64x4x64x64_S1x64x64x4x64_0_1_3_2_4 :=
  by have h := eq1 (a₁ := main_v86) (o := main_v87) (f := ((transpose S1x64x64x4x64 [0, 1, 3, 2, 4] · transposes_S1x64x4x64x64_S1x64x64x4x64_0_1_3_2_4) : (⟨S1x64x4x64x64, .f32⟩ : BufTy).Contents (Elt F) → (⟨S1x64x64x4x64, .f32⟩ : BufTy).Contents (Elt F))) (at13 m c) 1 [main_v88, main_v89, main_v90, main_v91] (by exact rfl) (by exact rfl) (by decide +kernel); exact h
theorem e_v88 : v88 m c = Host.dotGeneral dot_S1x64x4x64x64_S1x64x64x4x64_S1x64x4x64x64_4_2_3_4_012_013 none (v85 m c) (v24 m c) :=
  by have h := eq2 (a₁ := main_v85) (a₂ := main_v24) (o := main_v88) (f := ((fun l r => Host.dotGeneral dot_S1x64x4x64x64_S1x64x64x4x64_S1x64x4x64x64_4_2_3_4_012_013 none l r) : (⟨S1x64x4x64x64, .f32⟩ : BufTy).Contents (Elt F) → (⟨S1x64x64x4x64, .f32⟩ : BufTy).Contents (Elt F) → (⟨S1x64x4x64x64, .f32⟩ : BufTy).Contents (Elt F))) (at13 m c) 2 [main_v89, main_v90, main_v91] (by exact rfl) (by exact rfl) (by decide +kernel); exact h
theorem e_v89 : v89 m c = transpose S1x64x64x4x64 [0, 1, 3, 2, 4] (v88 m c) transposes_S1x64x4x64x64_S1x64x64x4x64_0_1_3_2_4 :=
  by have h := eq1 (a₁ := main_v88) (o := main_v89) (f := ((transpose S1x64x64x4x64 [0, 1, 3, 2, 4] · transposes_S1x64x4x64x64_S1x64x64x4x64_0_1_3_2_4) : (⟨S1x64x4x64x64, .f32⟩ : BufTy).Contents (Elt F) → (⟨S1x64x64x4x64, .f32⟩ : BufTy).Contents (Elt F))) (at13 m c) 3 [main_v90, main_v91] (by exact rfl) (by exact rfl) (by decide +kernel); exact h
theorem e_v90 : v90 m c = addf (v56 m c) (v89 m c) :=
  by have h := eq2 (a₁ := main_v56) (a₂ := main_v89) (o := main_v90) (f := (addf : (⟨S1x64x64x4x64, .f32⟩ : BufTy).Contents (Elt F) → (⟨S1x64x64x4x64, .f32⟩ : BufTy).Contents (Elt F) → (⟨S1x64x64x4x64, .f32⟩ : BufTy).Contents (Elt F))) (at13 m c) 4 [main_v91] (by exact rfl) (by exact rfl) (by decide +kernel); exact h
theorem e_v91 : v91 m c = mulf (v7 m c) (v87 m c) :=
  by have h := eq2 (a₁ := main_v7) (a₂ := main_v87) (o := main_v91) (f := (mulf : (⟨S1x64x64x4x64, .f32⟩ : BufTy).Contents (Elt F) → (⟨S1x64x64x4x64, .f32⟩ : BufTy).Contents (Elt F) → (⟨S1x64x64x4x64, .f32⟩ : BufTy).Contents (Elt F))) (at13 m c) 5 [] (by exact rfl) (by exact rfl) (by decide +kernel); exact h
theorem e_v92 : v92 m c = mulf (v87 m c) (v23 m c) :=
  by have h := eq2 (a₁ := main_v87) (a₂ := main_v23) (o := main_v92) (f := (mulf : (⟨S1x64x64x4x64, .f32⟩ : BufTy).Contents (Elt F) → (⟨S1x64x64x4x64, .f32⟩ : BufTy).Contents (Elt F) → (⟨S1x64x64x4x64, .f32⟩ : BufTy).Contents (Elt F))) (at14 m c) 0 [main_v93, main_v94, main_v95, main_v96, main_v97, main_v98, main_v99, main_v100, main_v101, main_cst_13, main_v102, main_v103] (by exact rfl) (by exact rfl) (by decide +kernel); exact h
theorem e_v93 : v93 m c = addf (v72 m c) (v92 m c) :=
  by have h := eq2 (a₁ := main_v72) (a₂ := main_v92) (o := main_v93) (f := (addf : (⟨S1x64x64x4x64, .f32⟩ : BufTy).Contents (Elt F) → (⟨S1x64x64x4x64, .f32⟩ : BufTy).Contents (Elt F) → (⟨S1x64x64x4x64, .f32⟩ : BufTy).Contents (Elt F))) (at14 m c) 1 [main_v94, main_v95, main_v96, main_v97, main_v98, main_v99, main_v100, main_v101, main_cst_13, main_v102, main_v103] (by exact rfl) (by exact rfl) (by decide +kernel); exact h
theorem e_v94 : v94 m c = mulf (v91 m c) (v23 m c) :=
  by have h := eq2 (a₁ := main_v91) (a₂ := main_v23) (o := main_v94) (f := (mulf : (⟨S1x64x64x4x64, .f32⟩ : BufTy).Contents (Elt F) → (⟨S1x64x64x4x64, .f32⟩ : BufTy).Contents (Elt F) → (⟨S1x64x64x4x64, .f32⟩ : BufTy).Contents (Elt F))) (at14 m c) 2 [main_v95, main_v96, main_v97, main_v98, main_v99, main_v100, main_v101, main_cst_13, main_v102, main_v103] (by exact rfl) (by exact rfl) (by decide +kernel); exact h
theorem e_v95 : v95 m c = Host.negf (v94 m c) :=
  by have h := eq1 (a₁ := main_v94) (o := main_v95) (f := (Host.negf : (⟨S1x64x64x4x64, .f32⟩ : BufTy).Contents (Elt F) → (⟨S1x64x64x4x64, .f32⟩ : BufTy).Contents (Elt F))) (at14 m c) 3 [main_v96, main_v97, main_v98, main_v99, main_v100, main_v101, main_cst_13, main_v102, main_v103] (by exact rfl) (by exact rfl) (by decide +kernel); exact h
theorem e_v96 : v96 m c = addf (v76 m c) (v95 m c) :=
  by have h := eq2 (a₁ := main_v76) (a₂ := main_v95) (o := main_v96) (f := (addf : (⟨S1x64x64x4x64, .f32⟩ : BufTy).Contents (Elt F) → (⟨S1x64x64x4x64, .f32⟩ : BufTy).Contents (Elt F) → (⟨S1x64x64x4x64, .f32⟩ : BufTy).Contents (Elt F))) (at14 m c) 4 [main_v97, main_v98, main_v99, main_v100, main_v101, main_cst_13, main_v102, main_v103] (by exact rfl) (by exact rfl) (by decide +kernel); exact h
theorem e_v97 : v97 m c = mulf (v6 m c) (v90 m c) :=
  by have h := eq2 (a₁ := main_v6) (a₂ := main_v90) (o := main_v97) (f := (mulf : (⟨S1x64x64x4x64, .f32⟩ : BufTy).Contents (Elt F) → (⟨S1x64x64x4x64, .f32⟩ : BufTy).Contents (Elt F) → (⟨S1x64x64x4x64, .f32⟩ : BufTy).Contents (Elt F))) (at14 m c) 5 [main_v98, main_v99, main_v100, main_v101, main_cst_13, main_v102, main_v103] (by exact rfl) (by exact rfl) (by decide +kernel); exact h
theorem e_v98 : v98 m c = mulf (v90 m c) (v20 m c) :=
  by have h := eq2 (a₁ := main_v90) (a₂ := main_v20) (o := main_v98) (f := (mulf : (⟨S1x64x64x4x64, .f32⟩ : BufTy).Contents (Elt F) → (⟨S1x64x64x4x64, .f32⟩ : BufTy).Contents (Elt F) → (⟨S1x64x64x4x64, .f32⟩ : BufTy).Contents (Elt F))) (at14 m c) 6 [main_v99, main_v100, main_v101, main_cst_13, main_v102, main_v103] (by exact rfl) (by exact rfl) (by decide +kernel); exact h
theorem e_v99 : v99 m c = mulf (v97 m c) (v20 m c) :=
  by have h := eq2 (a₁ := main_v97) (a₂ := main_v20) (o := main_v99) (f := (mulf : (⟨S1x64x64x4x64, .f32⟩ : BufTy).Contents (Elt F) → (⟨S1x64x64x4x64, .f32⟩ : BufTy).Contents (Elt F) → (⟨S1x64x64x4x64, .f32⟩ : BufTy).Contents (Elt F))) (at14 m c) 7 [main_v100, main_v101, main_cst_13, main_v102, main_v103] (by exact rfl) (by exact rfl) (by decide +kernel); exact h
theorem e_v100 : v100 m c = addf (v96 m c) (v99 m c) :=
  by have h := eq2 (a₁ := main_v96) (a₂ := main_v99) (o := main_v100) (f := (addf : (⟨S1x64x64x4x64, .f32⟩ : BufTy).Contents (Elt F) → (⟨S1x64x64x4x64, .f32⟩ : BufTy).Contents (Elt F) → (⟨S1x64x64x4x64, .f32⟩ : BufTy).Contents (Elt F))) (at14 m c) 8 [main_v101, main_cst_13, main_v102, main_v103] (by exact rfl) (by exact rfl) (by decide +kernel); exact h
theorem e_v101 : v101 m c = broadcastInDim S1x64x1x4x64 ![0, 1, 3, 4] bcast_S1x64x4x64_S1x64x1x4x64_0_1_3_4 (v79 m c) :=
  by have h := eq1 (a₁ := main_v79) (o := main_v101) (f := (broadcastInDim S1x64x1x4x64 ![0, 1, 3, 4] bcast_S1x64x4x64_S1x64x1x4x64_0_1_3_4 : (⟨S1x64x4x64, .f32⟩ : BufTy).Contents (Elt F) → (⟨S1x64x1x4x64, .f32⟩ : BufTy).Contents (Elt F))) (at14 m c) 9 [main_cst_13, main_v102, main_v103] (by exact rfl) (by exact rfl) (by decide +kernel); exact h
theorem e_cst_13 : cst_13 m c = (constant S_ .f32 0x00000000#32) :=
  by have h := eq0  (o := main_cst_13) (at14 m c) 10 [main_v102, main_v103] (by exact rfl) (by exact rfl) (by decide +kernel); exact h
theorem e_v102 : v102 m c = pad S1x64x64x4x64 ![0, 0, 63, 0, 0] ![0, 0, 0, 0, 0] ![0, 0, 0, 0, 0] (v101 m c) (cst_13 m c) pads_S1x64x1x4x64_S1x64x64x4x64_000_000_6300_000_000 h_S_ :=
  by have h := eq2 (a₁ := main_v101) (a₂ := main_cst_13) (o := main_v102) (f := ((fun x v => pad S1x64x64x4x64 ![0, 0, 63, 0, 0] ![0, 0, 0, 0, 0] ![0, 0, 0, 0, 0] x v pads_S1x64x1x4x64_S1x64x64x4x64_000_000_6300_000_000 h_S_) : (⟨S1x64x1x4x64, .f32⟩ : BufTy).Contents (Elt F) → (⟨S_, .f32⟩ : BufTy).Contents (Elt F) → (⟨S1x64x64x4x64, .f32⟩ : BufTy).Contents (Elt F))) (at14 m c) 11 [main_v103] (by exact rfl) (by exact rfl) (by decide +kernel); exact h
theorem e_v103 : v103 m c = addf (v100 m c) (v102 m c) :=
  by have h := eq2 (a₁ := main_v100) (a₂ := main_v102) (o := main_v103) (f := (addf : (⟨S1x64x64x4x64, .f32⟩ : BufTy).Contents (Elt F) → (⟨S1x64x64x4x64, .f32⟩ : BufTy).Contents (Elt F) → (⟨S1x64x64x4x64, .f32⟩ : BufTy).Contents (Elt F))) (at14 m c) 12 [] (by exact rfl) (by exact rfl) (by decide +kernel); exact h
theorem e_call14_call0_cst : call14_call0_cst m c = (constant S_ .f32 0x00000000#32) :=
  by have h := eq0  (o := main_call14_call0_cst) (at15 m c) 0 [main_call14_call0_v0, main_v104] (by exact rfl) (by exact rfl) (by decide +kernel); exact h
theorem e_call14_call0_v0 : call14_call0_v0 m c = (broadcastInDim S_ ![] bcast_S_S_) (call14_call0_cst m c) :=
  by have h := eq1 (a₁ := main_call14_call0_cst) (o := main_call14_call0_v0) (f := (broadcastInDim S_ ![] bcast_S_S_)) (at15 m c) 1 [main_v104] (by exact rfl) (by exact rfl) (by decide +kernel); exact h
theorem e_v104 : v104 m c = Host.reduceWindowAdd ![1, 1, 64, 1, 1] ![1, 1, 1, 1, 1] ![0, 0, 0, 0, 0] ![0, 0, 63, 0, 0] (v103 m c) (call14_call0_v0 m c) reduceWindows_S1x64x64x4x64_S1x64x64x4x64_w1s1p0_0_w1s1p0_0_w64s1p0_63_w1s1p0_0_w1s1p0_0 h_S_ :=
  by have h := eq2 (a₁ := main_v103) (a₂ := main_call14_call0_v0) (o := main_v104) (f := (fun x v => Host.reduceWindowAdd ![1, 1, 64, 1, 1] ![1, 1, 1, 1, 1] ![0, 0, 0, 0, 0] ![0, 0, 63, 0, 0] x v reduceWindows_S1x64x64x4x64_S1x64x64x4x64_w1s1p0_0_w1s1p0_0_w64s1p0_63_w1s1p0_0_w1s1p0_0 h_S_)) (at15 m c) 2 [] (by exact rfl) (by exact rfl) (by decide +kernel); exact h
theorem e_v105 : v105 m c = shapeCast S1x4096x256 (v104 m c) shapeCasts_S1x64x64x4x64_S1x4096x256 :=
  by have h := eqR (a₁ := main_v104) (o := main_v105) (f := fun x : (⟨S1x64x64x4x64, .f32⟩ : BufTy).Contents (Elt F) => (shapeCast S1x4096x256 x shapeCasts_S1x64x64x4x64_S1x4096x256 : (⟨S1x4096x256, .f32⟩ : BufTy).Contents (Elt F))) (at16 m c) 0 [main_cst_14, main_v106, main_v107] (by exact rfl) (by exact rfl) (fun _ _ => rfl) (by decide +kernel); exact h
theorem e_cst_14 : cst_14 m c = (constant S_ .f32 0x41800000#32) :=
  by have h := eq0  (o := main_cst_14) (at16 m c) 1 [main_v106, main_v107] (by exact rfl) (by exact rfl) (by decide +kernel); exact h
theorem e_v106 : v106 m c = broadcastInDim S1x4096x256 ![] bcast_S_S1x4096x256 (cst_14 m c) :=
  by have h := eq1 (a₁ := main_cst_14) (o := main_v106) (f := (broadcastInDim S1x4096x256 ![] bcast_S_S1x4096x256 : (⟨S_, .f32⟩ : BufTy).Contents (Elt F) → (⟨S1x4096x256, .f32⟩ : BufTy).Contents (Elt F))) (at16 m c) 2 [main_v107] (by exact rfl) (by exact rfl) (by decide +kernel); exact h
theorem e_v107 : v107 m c = Host.divf (v105 m c) (v106 m c) :=
  by have h := eq2 (a₁ := main_v105) (a₂ := main_v106) (o := main_v107) (f := (Host.divf : (⟨S1x4096x256, .f32⟩ : BufTy).Contents (Elt F) → (⟨S1x4096x256, .f32⟩ : BufTy).Contents (Elt F) → (⟨S1x4096x256, .f32⟩ : BufTy).Contents (Elt F))) (at16 m c) 3 [] (by exact rfl) (by exact rfl) (by decide +kernel); exact h
theorem e_call15_v0 : call15_v0 m c = Host.negf (v107 m c) :=
  by have h := eq1 (a₁ := main_v107) (o := main_call15_v0) (f := Host.negf) (at17 m c) 0 [main_call15_v1, main_v108] (by exact rfl) (by exact rfl) (by decide +kernel); exact h
theorem e_call15_v1 : call15_v1 m c = mulf (call15_v0 m c) (v13_1 m c) :=
  by have h := eq2 (a₁ := main_call15_v0) (a₂ := main_v13_1) (o := main_call15_v1) (f := mulf) (at17 m c) 1 [main_v108] (by exact rfl) (by exact rfl) (by decide +kernel); exact h
theorem e_v108 : v108 m c = Host.negf (call15_v1 m c) :=
  by have h := eq1 (a₁ := main_call15_v1) (o := main_v108) (f := Host.negf) (at17 m c) 2 [] (by exact rfl) (by exact rfl) (by decide +kernel); exact h
theorem e_cst_15 : cst_15 m c = (constant S_ .f32 0x00000000#32) :=
  by have h := eq0  (o := main_cst_15) (at18 m c) 0 [main_v109, main_v110, main_cst_16, main_v111, main_v112, main_v113, main_v114, main_v115, main_v116, main_v117, main_cst_17, main_v118, main_v119, main_v120, main_cst_18, main_v121, main_cst_19, main_v122, main_cst_20, main_v123, main_cst_21, main_v124, main_v125, main_v126, main_v127, main_v128] (by exact rfl) (by exact rfl) (by decide +kernel); exact h
theorem e_v109 : v109 m c = Host.reduceAdd (v108 m c) (cst_15 m c) reducesTo_S1x4096x256_S1x256_d1 h_S_ :=
  by have h := eq2 (a₁ := main_v108) (a₂ := main_cst_15) (o := main_v109) (f := ((fun x v => Host.reduceAdd x v reducesTo_S1x4096x256_S1x256_d1 h_S_) : (⟨S1x4096x256, .f32⟩ : BufTy).Contents (Elt F) → (⟨S_, .f32⟩ : BufTy).Contents (Elt F) → (⟨S1x256, .f32⟩ : BufTy).Contents (Elt F))) (at18 m c) 1 [main_v110, main_cst_16, main_v111, main_v112, main_v113, main_v114, main_v115, main_v116, main_v117, main_cst_17, main_v118, main_v119, main_v120, main_cst_18, main_v121, main_cst_19, main_v122, main_cst_20, main_v123, main_cst_21, main_v124, main_v125, main_v126, main_v127, main_v128] (by exact rfl) (by exact rfl) (by decide +kernel); exact h
theorem e_v110 : v110 m c = shapeCast S1x1x256 (v109 m c) shapeCasts_S1x256_S1x1x256 :=
  by have h := eqR (a₁ := main_v109) (o := main_v110) (f := fun x : (⟨S1x256, .f32⟩ : BufTy).Contents (Elt F) => (shapeCast S1x1x256 x shapeCasts_S1x256_S1x1x256 : (⟨S1x1x256, .f32⟩ : BufTy).Contents (Elt F))) (at18 m c) 2 [main_cst_16, main_v111, main_v112, main_v113, main_v114, main_v115, main_v116, main_v117, main_cst_17, main_v118, main_v119, main_v120, main_cst_18, main_v121, main_cst_19, main_v122, main_cst_20, main_v123, main_cst_21, main_v124, main_v125, main_v126, main_v127, main_v128] (by exact rfl) (by exact rfl) (fun _ _ => rfl) (by decide +kernel); exact h
theorem e_cst_16 : cst_16 m c = (constant S_ .f32 0x00000000#32) :=
  by have h := eq0  (o := main_cst_16) (at18 m c) 3 [main_v111, main_v112, main_v113, main_v114, main_v115, main_v116, main_v117, main_cst_17, main_v118, main_v119, main_v120, main_cst_18, main_v121, main_cst_19, main_v122, main_cst_20, main_v123, main_cst_21, main_v124, main_v125, main_v126, main_v127, main_v128] (by exact rfl) (by exact rfl) (by decide +kernel); exact h
theorem e_v111 : v111 m c = Host.reduceAdd (v110 m c) (cst_16 m c) reducesTo_S1x1x256_S256_d0_1 h_S_ :=
  by have h := eq2 (a₁ := main_v110) (a₂ := main_cst_16) (o := main_v111) (f := ((fun x v => Host.reduceAdd x v reducesTo_S1x1x256_S256_d0_1 h_S_) : (⟨S1x1x256, .f32⟩ : BufTy).Contents (Elt F) → (⟨S_, .f32⟩ : BufTy).Contents (Elt F) → (⟨S256, .f32⟩ : BufTy).Contents (Elt F))) (at18 m c) 4 [main_v112, main_v113, main_v114, main_v115, main_v116, main_v117, main_cst_17, main_v118, main_v119, main_v120, main_cst_18, main_v121, main_cst_19, main_v122, main_cst_20, main_v123, main_cst_21, main_v124, main_v125, main_v126, main_v127, main_v128] (by exact rfl) (by exact rfl) (by decide +kernel); exact h
theorem e_v112 : v112 m c = broadcastInDim S1x256 ![1] bcast_S256_S1x256_1 (v111 m c) :=
  by have h := eq1 (a₁ := main_v111) (o := main_v112) (f := (broadcastInDim S1x256 ![1] bcast_S256_S1x256_1 : (⟨S256, .f32⟩ : BufTy).Contents (Elt F) → (⟨S1x256, .f32⟩ : BufTy).Contents (Elt F))) (at18 m c) 5 [main_v113, main_v114, main_v115, main_v116, main_v117, main_cst_17, main_v118, main_v119, main_v120, main_cst_18, main_v121, main_cst_19, main_v122, main_cst_20, main_v123, main_cst_21, main_v124, main_v125, main_v126, main_v127, main_v128] (by exact rfl) (by exact rfl) (by decide +kernel); exact h
theorem e_v113 : v113 m c = Host.dotGeneral dot_S1x4096x256_S1x4096x16_S256x16_01_01_2_2_n_n none (v108 m c) (v3 m c) :=
  by have h := eq2 (a₁ := main_v108) (a₂ := main_v3) (o := main_v113) (f := ((fun l r => Host.dotGeneral dot_S1x4096x256_S1x4096x16_S256x16_01_01_2_2_n_n none l r) : (⟨S1x4096x256, .f32⟩ : BufTy).Contents (Elt F) → (⟨S1x4096x16, .f32⟩ : BufTy).Contents (Elt F) → (⟨S256x16, .f32⟩ : BufTy).Contents (Elt F))) (at18 m c) 6 [main_v114, main_v115, main_v116, main_v117, main_cst_17, main_v118, main_v119, main_v120, main_cst_18, main_v121, main_cst_19, main_v122, main_cst_20, main_v123, main_cst_21, main_v124, main_v125, main_v126, main_v127, main_v128] (by exact rfl) (by exact rfl) (by decide +kernel); exact h
theorem e_v114 : v114 m c = transpose S16x256 [1, 0] (v113 m c) transposes_S256x16_S16x256_1_0 :=
  by have h := eq1 (a₁ := main_v113) (o := main_v114) (f := ((transpose S16x256 [1, 0] · transposes_S256x16_S16x256_1_0) : (⟨S256x16, .f32⟩ : BufTy).Contents (Elt F) → (⟨S16x256, .f32⟩ : BufTy).Contents (Elt F))) (at18 m c) 7 [main_v115, main_v116, main_v117, main_cst_17, main_v118, main_v119, main_v120, main_cst_18, main_v121, main_cst_19, main_v122, main_cst_20, main_v123, main_cst_21, main_v124, main_v125, main_v126, main_v127, main_v128] (by exact rfl) (by exact rfl) (by decide +kernel); exact h
theorem e_v115 : v115 m c = Host.dotGeneral dot_S1x4096x256_S16x256_S1x4096x16_2_1_01_0_n_n none (v108 m c) (arg4 m c) :=
  by have h := eq2 (a₁ := main_v108) (a₂ := main_arg4) (o := main_v115) (f := ((fun l r => Host.dotGeneral dot_S1x4096x256_S16x256_S1x4096x16_2_1_01_0_n_n none l r) : (⟨S1x4096x256, .f32⟩ : BufTy).Contents (Elt F) → (⟨S16x256, .f32⟩ : BufTy).Contents (Elt F) → (⟨S1x4096x16, .f32⟩ : BufTy).Contents (Elt F))) (at18 m c) 8 [main_v116, main_v117, main_cst_17, main_v118, main_v119, main_v120, main_cst_18, main_v121, main_cst_19, main_v122, main_cst_20, main_v123, main_cst_21, main_v124, main_v125, main_v126, main_v127, main_v128] (by exact rfl) (by exact rfl) (by decide +kernel); exact h
theorem e_v116 : v116 m c = shapeCast S1x4096x512 (v84 m c) shapeCasts_S1x64x64x4x128_S1x4096x512 :=
  by have h := eqR (a₁ := main_v84) (o := main_v116) (f := fun x : (⟨S1x64x64x4x128, .f32⟩ : BufTy).Contents (Elt F) => (shapeCast S1x4096x512 x shapeCasts_S1x64x64x4x128_S1x4096x512 : (⟨S1x4096x512, .f32⟩ : BufTy).Contents (Elt F))) (at18 m c) 9 [main_v117, main_cst_17, main_v118, main_v119, main_v120, main_cst_18, main_v121, main_cst_19, main_v122, main_cst_20, main_v123, main_cst_21, main_v124, main_v125, main_v126, main_v127, main_v128] (by exact rfl) (by exact rfl) (fun _ _ => rfl) (by decide +kernel); exact h
theorem e_v117 : v117 m c = shapeCast S1x4096x256 (v93 m c) shapeCasts_S1x64x64x4x64_S1x4096x256 :=
  by have h := eqR (a₁ := main_v93) (o := main_v117) (f := fun x : (⟨S1x64x64x4x64, .f32⟩ : BufTy).Contents (Elt F) => (shapeCast S1x4096x256 x shapeCasts_S1x64x64x4x64_S1x4096x256 : (⟨S1x4096x256, .f32⟩ : BufTy).Contents (Elt F))) (at18 m c) 10 [main_cst_17, main_v118, main_v119, main_v120, main_cst_18, main_v121, main_cst_19, main_v122, main_cst_20, main_v123, main_cst_21, main_v124, main_v125, main_v126, main_v127, main_v128] (by exact rfl) (by exact rfl) (fun _ _ => rfl) (by decide +kernel); exact h
theorem e_cst_17 : cst_17 m c = (constant S_ .f32 0x3E000000#32) :=
  by have h := eq0  (o := main_cst_17) (at18 m c) 11 [main_v118, main_v119, main_v120, main_cst_18, main_v121, main_cst_19, main_v122, main_cst_20, main_v123, main_cst_21, main_v124, main_v125, main_v126, main_v127, main_v128] (by exact rfl) (by exact rfl) (by decide +kernel); exact h
theorem e_v118 : v118 m c = broadcastInDim S1x64x64x4x64 ![] bcast_S_S1x64x64x4x64 (cst_17 m c) :=
  by have h := eq1 (a₁ := main_cst_17) (o := main_v118) (f := (broadcastInDim S1x64x64x4x64 ![] bcast_S_S1x64x64x4x64 : (⟨S_, .f32⟩ : BufTy).Contents (Elt F) → (⟨S1x64x64x4x64, .f32⟩ : BufTy).Contents (Elt F))) (at18 m c) 12 [main_v119, main_v120, main_cst_18, main_v121, main_cst_19, main_v122, main_cst_20, main_v123, main_cst_21, main_v124, main_v125, main_v126, main_v127, main_v128] (by exact rfl) (by exact rfl) (by decide +kernel); exact h
theorem e_v119 : v119 m c = mulf (v98 m c) (v118 m c) :=
  by have h := eq2 (a₁ := main_v98) (a₂ := main_v118) (o := main_v119) (f := (mulf : (⟨S1x64x64x4x64, .f32⟩ : BufTy).Contents (Elt F) → (⟨S1x64x64x4x64, .f32⟩ : BufTy).Contents (Elt F) → (⟨S1x64x64x4x64, .f32⟩ : BufTy).Contents (Elt F))) (at18 m c) 13 [main_v120, main_cst_18, main_v121, main_cst_19, main_v122, main_cst_20, main_v123, main_cst_21, main_v124, main_v125, main_v126, main_v127, main_v128] (by exact rfl) (by exact rfl) (by decide +kernel); exact h
theorem e_v120 : v120 m c = shapeCast S1x4096x256 (v119 m c) shapeCasts_S1x64x64x4x64_S1x4096x256 :=
  by have h := eqR (a₁ := main_v119) (o := main_v120) (f := fun x : (⟨S1x64x64x4x64, .f32⟩ : BufTy).Contents (Elt F) => (shapeCast S1x4096x256 x shapeCasts_S1x64x64x4x64_S1x4096x256 : (⟨S1x4096x256, .f32⟩ : BufTy).Contents (Elt F))) (at18 m c) 14 [main_cst_18, main_v121, main_cst_19, main_v122, main_cst_20, main_v123, main_cst_21, main_v124, main_v125, main_v126, main_v127, main_v128] (by exact rfl) (by exact rfl) (fun _ _ => rfl) (by decide +kernel); exact h
theorem e_cst_18 : cst_18 m c = (constant S_ .f32 0x00000000#32) :=
  by have h := eq0  (o := main_cst_18) (at18 m c) 15 [main_v121, main_cst_19, main_v122, main_cst_20, main_v123, main_cst_21, main_v124, main_v125, main_v126, main_v127, main_v128] (by exact rfl) (by exact rfl) (by decide +kernel); exact h
theorem e_v121 : v121 m c = Host.reduceAdd (v115 m c) (cst_18 m c) reducesTo_S1x4096x16_S4096x16_d0 h_S_ :=
  by have h := eq2 (a₁ := main_v115) (a₂ := main_cst_18) (o := main_v121) (f := ((fun x v => Host.reduceAdd x v reducesTo_S1x4096x16_S4096x16_d0 h_S_) : (⟨S1x4096x16, .f32⟩ : BufTy).Contents (Elt F) → (⟨S_, .f32⟩ : BufTy).Contents (Elt F) → (⟨S4096x16, .f32⟩ : BufTy).Contents (Elt F))) (at18 m c) 16 [main_cst_19, main_v122, main_cst_20, main_v123, main_cst_21, main_v124, main_v125, main_v126, main_v127, main_v128] (by exact rfl) (by exact rfl) (by decide +kernel); exact h
theorem e_cst_19 : cst_19 m c = (constant S_ .f32 0x00000000#32) :=
  by have h := eq0  (o := main_cst_19) (at18 m c) 17 [main_v122, main_cst_20, main_v123, main_cst_21, main_v124, main_v125, main_v126, main_v127, main_v128] (by exact rfl) (by exact rfl) (by decide +kernel); exact h
theorem e_v122 : v122 m c = Host.reduceAdd (v116 m c) (cst_19 m c) reducesTo_S1x4096x512_S4096x512_d0 h_S_ :=
  by have h := eq2 (a₁ := main_v116) (a₂ := main_cst_19) (o := main_v122) (f := ((fun x v => Host.reduceAdd x v reducesTo_S1x4096x512_S4096x512_d0 h_S_) : (⟨S1x4096x512, .f32⟩ : BufTy).Contents (Elt F) → (⟨S_, .f32⟩ : BufTy).Contents (Elt F) → (⟨S4096x512, .f32⟩ : BufTy).Contents (Elt F))) (at18 m c) 18 [main_cst_20, main_v123, main_cst_21, main_v124, main_v125, main_v126, main_v127, main_v128] (by exact rfl) (by exact rfl) (by decide +kernel); exact h
theorem e_cst_20 : cst_20 m c = (constant S_ .f32 0x00000000#32) :=
  by have h := eq0  (o := main_cst_20) (at18 m c) 19 [main_v123, main_cst_21, main_v124, main_v125, main_v126, main_v127, main_v128] (by exact rfl) (by exact rfl) (by decide +kernel); exact h
theorem e_v123 : v123 m c = Host.reduceAdd (v117 m c) (cst_20 m c) reducesTo_S1x4096x256_S4096x256_d0 h_S_ :=
  by have h := eq2 (a₁ := main_v117) (a₂ := main_cst_20) (o := main_v123) (f := ((fun x v => Host.reduceAdd x v reducesTo_S1x4096x256_S4096x256_d0 h_S_) : (⟨S1x4096x256, .f32⟩ : BufTy).Contents (Elt F) → (⟨S_, .f32⟩ : BufTy).Contents (Elt F) → (⟨S4096x256, .f32⟩ : BufTy).Contents (Elt F))) (at18 m c) 20 [main_cst_21, main_v124, main_v125, main_v126, main_v127, main_v128] (by exact rfl) (by exact rfl) (by decide +kernel); exact h
theorem e_cst_21 : cst_21 m c = (constant S_ .f32 0x00000000#32) :=
  by have h := eq0  (o := main_cst_21) (at18 m c) 21 [main_v124, main_v125, main_v126, main_v127, main_v128] (by exact rfl) (by exact rfl) (by decide +kernel); exact h
theorem e_v124 : v124 m c = Host.reduceAdd (v120 m c) (cst_21 m c) reducesTo_S1x4096x256_S4096x256_d0 h_S_ :=
  by have h := eq2 (a₁ := main_v120) (a₂ := main_cst_21) (o := main_v124) (f := ((fun x v => Host.reduceAdd x v reducesTo_S1x4096x256_S4096x256_d0 h_S_) : (⟨S1x4096x256, .f32⟩ : BufTy).Contents (Elt F) → (⟨S_, .f32⟩ : BufTy).Contents (Elt F) → (⟨S4096x256, .f32⟩ : BufTy).Contents (Elt F))) (at18 m c) 22 [main_v125, main_v126, main_v127, main_v128] (by exact rfl) (by exact rfl) (by decide +kernel); exact h
theorem e_v125 : v125 m c = truncf .bf16 (v124 m c) bitsLt_bf16_f32 :=
  by have h := eq1 (a₁ := main_v124) (o := main_v125) (f := ((truncf .bf16 · bitsLt_bf16_f32) : (⟨S4096x256, .f32⟩ : BufTy).Contents (Elt F) → (⟨S4096x256, .bf16⟩ : BufTy).Contents (Elt F))) (at18 m c) 23 [main_v126, main_v127, main_v128] (by exact rfl) (by exact rfl) (by decide +kernel); exact h
theorem e_v126 : v126 m c = truncf .bf16 (v123 m c) bitsLt_bf16_f32 :=
  by have h := eq1 (a₁ := main_v123) (o := main_v126) (f := ((truncf .bf16 · bitsLt_bf16_f32) : (⟨S4096x256, .f32⟩ : BufTy).Contents (Elt F) → (⟨S4096x256, .bf16⟩ : BufTy).Contents (Elt F))) (at18 m c) 24 [main_v127, main_v128] (by exact rfl) (by exact rfl) (by decide +kernel); exact h
theorem e_v127 : v127 m c = truncf .bf16 (v122 m c) bitsLt_bf16_f32 :=
  by have h := eq1 (a₁ := main_v122) (o := main_v127) (f := ((truncf .bf16 · bitsLt_bf16_f32) : (⟨S4096x512, .f32⟩ : BufTy).Contents (Elt F) → (⟨S4096x512, .bf16⟩ : BufTy).Contents (Elt F))) (at18 m c) 25 [main_v128] (by exact rfl) (by exact rfl) (by decide +kernel); exact h
theorem e_v128 : v128 m c = truncf .bf16 (v121 m c) bitsLt_bf16_f32 :=
  by have h := eq1 (a₁ := main_v121) (o := main_v128) (f := ((truncf .bf16 · bitsLt_bf16_f32) : (⟨S4096x16, .f32⟩ : BufTy).Contents (Elt F) → (⟨S4096x16, .bf16⟩ : BufTy).Contents (Elt F))) (at18 m c) 26 [] (by exact rfl) (by exact rfl) (by decide +kernel); exact h
theorem i_v43_0 : entryContents Loop0.preI m c (Proc.devRef .tc main_v43_0) = id (v39 m c) :=
  by have h := ent1 (a₁ := main_v39) (o := main_v43_0) (f := id) (at8 m c) 18 [main_v43_1, main_v43_2, main_v43_3, main_v43_4, main_v43_5] (by exact rfl) (by exact rfl) (by decide +kernel); exact h
theorem i_v43_1 : entryContents Loop0.preI m c (Proc.devRef .tc main_v43_1) = id (v40 m c) :=
  by have h := ent1 (a₁ := main_v40) (o := main_v43_1) (f := id) (at8 m c) 19 [main_v43_2, main_v43_3, main_v43_4, main_v43_5] (by exact rfl) (by exact rfl) (by decide +kernel); exact h
theorem i_v43_2 : entryContents Loop0.preI m c (Proc.devRef .tc main_v43_2) = id (c_5 m c) :=
  by have h := ent1 (a₁ := main_c_5) (o := main_v43_2) (f := id) (at8 m c) 20 [main_v43_3, main_v43_4, main_v43_5] (by exact rfl) (by exact rfl) (by decide +kernel); exact h
theorem i_v43_3 : entryContents Loop0.preI m c (Proc.devRef .tc main_v43_3) = id (v38 m c) :=
  by have h := ent1 (a₁ := main_v38) (o := main_v43_3) (f := id) (at8 m c) 21 [main_v43_4, main_v43_5] (by exact rfl) (by exact rfl) (by decide +kernel); exact h
theorem i_v43_4 : entryContents Loop0.preI m c (Proc.devRef .tc main_v43_4) = id (v41 m c) :=
  by have h := ent1 (a₁ := main_v41) (o := main_v43_4) (f := id) (at8 m c) 22 [main_v43_5] (by exact rfl) (by exact rfl) (by decide +kernel); exact h
theorem i_v43_5 : entryContents Loop0.preI m c (Proc.devRef .tc main_v43_5) = id (v42 m c) :=
  by have h := ent1 (a₁ := main_v42) (o := main_v43_5) (f := id) (at8 m c) 23 [] (by exact rfl) (by exact rfl) (by decide +kernel); exact h
theorem i_v63_0 : Loop1.entry m c (Proc.devRef .tc main_v63_0) = id (v59 m c) :=
  by have h := ent1 (a₁ := main_v59) (o := main_v63_0) (f := id) (at10 m c) 22 [main_v63_1, main_v63_2, main_v63_3, main_v63_4, main_v63_5, main_v63_6] (by exact rfl) (by exact rfl) (by decide +kernel); exact h
theorem i_v63_1 : Loop1.entry m c (Proc.devRef .tc main_v63_1) = id (v43_4 m c) :=
  by have h := ent1 (a₁ := main_v43_4) (o := main_v63_1) (f := id) (at10 m c) 23 [main_v63_2, main_v63_3, main_v63_4, main_v63_5, main_v63_6] (by exact rfl) (by exact rfl) (by decide +kernel); exact h
theorem i_v63_2 : Loop1.entry m c (Proc.devRef .tc main_v63_2) = id (v43_5 m c) :=
  by have h := ent1 (a₁ := main_v43_5) (o := main_v63_2) (f := id) (at10 m c) 24 [main_v63_3, main_v63_4, main_v63_5, main_v63_6] (by exact rfl) (by exact rfl) (by decide +kernel); exact h
theorem i_v63_3 : Loop1.entry m c (Proc.devRef .tc main_v63_3) = id (c_10 m c) :=
  by have h := ent1 (a₁ := main_c_10) (o := main_v63_3) (f := id) (at10 m c) 25 [main_v63_4, main_v63_5, main_v63_6] (by exact rfl) (by exact rfl) (by decide +kernel); exact h
theorem i_v63_4 : Loop1.entry m c (Proc.devRef .tc main_v63_4) = id (v60 m c) :=
  by have h := ent1 (a₁ := main_v60) (o := main_v63_4) (f := id) (at10 m c) 26 [main_v63_5, main_v63_6] (by exact rfl) (by exact rfl) (by decide +kernel); exact h
theorem i_v63_5 : Loop1.entry m c (Proc.devRef .tc main_v63_5) = id (v61 m c) :=
  by have h := ent1 (a₁ := main_v61) (o := main_v63_5) (f := id) (at10 m c) 27 [main_v63_6] (by exact rfl) (by exact rfl) (by decide +kernel); exact h
theorem i_v63_6 : Loop1.entry m c (Proc.devRef .tc main_v63_6) = id (v62 m c) :=
  by have h := ent1 (a₁ := main_v62) (o := main_v63_6) (f := id) (at10 m c) 28 [] (by exact rfl) (by exact rfl) (by decide +kernel); exact h

end Cert.ReferenceIdeal.Run
-- ==== Proof.Window.lean ====
module

public import Idealize.ShloMosaic.Lib.Pointwise
public import proofs.«01_k».proof.Proof.RefAt

/-! Running sums along a chunk: a window of 64 positions, padded on one side with zeros. -/

@[expose] public section
noncomputable section
namespace Cert.ReferenceIdeal.Run
open Cert.ReferenceIdeal Cert.ReferenceIdeal.Gen Cert.ReferenceIdeal.Ops
open Idealize.ShloMosaic
open Finset (range Ico)

theorem foldl_plus {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The shape of the window. -/
abbrev SW : Shape := ⟨5, ![1, 1, 64, 1, 1]⟩

def wcol (k : Fin 64) : SW.Idx := ix5 (0 : Fin 1) (0 : Fin 1) k (0 : Fin 1) (0 : Fin 1)

theorem wcol_bij : Function.Bijective wcol := by
  constructor
  · intro a b h
    exact congrFun h 2
  · intro w
    refine ⟨w 2, ?_⟩
    funext a
    fin_cases a
    · exact Subsingleton.elim (α := Fin 1) _ _
    · exact Subsingleton.elim (α := Fin 1) _ _
    · rfl
    · exact Subsingleton.elim (α := Fin 1) _ _
    · exact Subsingleton.elim (α := Fin 1) _ _

theorem sum_window (G : SW.Idx → EReal) : ((List.finRange SW.numel).map (fun n => G (SW.rowMajor.symm n))).sum = ∑ k : Fin 64, G (wcol k) := by
  rw [← Fin.sum_univ_def, Equiv.sum_comp SW.rowMajor.symm G]
  exact (Fintype.sum_bijective wcol wcol_bij _ _ fun _ => rfl).symm

/-- A windowed sum along the rows of a chunk, the padding adding nothing. -/
theorem window_sum {u : Shape} (p q : ℕ) (x : FVec Ideal S1x64x64x4x64 .f32) (init : FVec Ideal u .f32) (hr) (hu : 0 < u.numel) (h0 : ∀ i, init i = (0 : EReal))
    (z : Fin 1) (n s : Fin 64) (h : Fin 4) (d : Fin 64) (f : ℕ → EReal) (hx : ∀ s' : Fin 64, x (ix5 z n s' h d) = f s') :
    Host.reduceWindowAdd (t := S1x64x64x4x64) ![1, 1, 64, 1, 1] ![1, 1, 1, 1, 1] ![0, 0, p, 0, 0] ![0, 0, q, 0, 0] x init hr hu (ix5 z n s h d)
      = ∑ k : Fin 64, if p ≤ s + k ∧ s + k - p < 64 then f (s + k - p) else 0 := by
  let P (w : SW.Idx) (a : Fin 5) : ℕ := (ix5 z n s h d (a.cast hr.1.symm) : ℕ) * (![1, 1, 1, 1, 1] : Fin 5 → ℕ) a + (w a : ℕ)
  let G (w : SW.Idx) : EReal := if hin : ∀ a : Fin 5, (![0, 0, p, 0, 0] : Fin 5 → ℕ) a ≤ P w a ∧ P w a - (![0, 0, p, 0, 0] : Fin 5 → ℕ) a < S1x64x64x4x64.size a
    then x (fun a => ⟨P w a - (![0, 0, p, 0, 0] : Fin 5 → ℕ) a, (hin a).2⟩) else init (Shape.Idx.first hu)
  have h1 : Host.reduceWindowAdd (t := S1x64x64x4x64) ![1, 1, 64, 1, 1] ![1, 1, 1, 1, 1] ![0, 0, p, 0, 0] ![0, 0, q, 0, 0] x init hr hu (ix5 z n s h d)
      = (List.finRange SW.numel).foldl (fun r n => r + G (SW.rowMajor.symm n)) (init (Shape.Idx.first hu)) := by
    unfold Host.reduceWindowAdd
    rw [Ideal.hostReduceWindowAdd_def]
    unfold Ideal.hostReduceWindowAdd Host.reduceWindow
    exact congrArg (fun g => List.foldl g (init (Shape.Idx.first hu)) (List.finRange SW.numel)) (by
      funext r n
      refine congrArg (r + ·) ?_
      exact dite_congr rfl (fun _ => rfl) (fun _ => rfl))
  rw [h1, foldl_plus, sum_window, h0, zero_add]
  refine Finset.sum_congr rfl fun k _ => ?_
  have p0 : P (wcol k) 0 = z := by show (z : ℕ) * 1 + 0 = z; omega
  have p1 : P (wcol k) 1 = n := by show (n : ℕ) * 1 + 0 = n; omega
  have p2 : P (wcol k) 2 = s + k := by show (s : ℕ) * 1 + k = s + k; omega
  have p3 : P (wcol k) 3 = h := by show (h : ℕ) * 1 + 0 = h; omega
  have p4 : P (wcol k) 4 = d := by show (d : ℕ) * 1 + 0 = d; omega
  by_cases hc : p ≤ (s : ℕ) + k ∧ (s : ℕ) + k - p < 64
  · have hin : ∀ a : Fin 5, (![0, 0, p, 0, 0] : Fin 5 → ℕ) a ≤ P (wcol k) a ∧ P (wcol k) a - (![0, 0, p, 0, 0] : Fin 5 → ℕ) a < S1x64x64x4x64.size a := by
      intro a
      fin_cases a
      · exact ⟨Nat.zero_le _, lt_of_eq_of_lt p0 z.isLt⟩
      · exact ⟨Nat.zero_le _, lt_of_eq_of_lt p1 n.isLt⟩
      · exact ⟨le_of_le_of_eq hc.1 p2.symm, lt_of_eq_of_lt (congrArg (· - p) p2) hc.2⟩
      · exact ⟨Nat.zero_le _, lt_of_eq_of_lt p3 h.isLt⟩
      · exact ⟨Nat.zero_le _, lt_of_eq_of_lt p4 d.isLt⟩
    rw [if_pos hc]
    refine (dif_pos hin).trans (Eq.trans (congrArg x (funext fun a => ?_)) (hx ⟨s + k - p, hc.2⟩))
    refine Fin.ext ?_
    fin_cases a
    · exact p0
    · exact p1
    · exact congrArg (· - p) p2
    · exact p3
    · exact p4
  · rw [if_neg hc]
    refine (dif_neg fun hin => hc ?_).trans (h0 _)
    have h2 := hin 2
    exact ⟨le_of_le_of_eq h2.1 p2, lt_of_eq_of_lt (congrArg (· - p) p2.symm) h2.2⟩

/-- Padded below: the sum of the rows up to this one. -/
theorem window_low {u : Shape} (x : FVec Ideal S1x64x64x4x64 .f32) (init : FVec Ideal u .f32) (hr) (hu : 0 < u.numel) (h0 : ∀ i, init i = (0 : EReal))
    (z : Fin 1) (n s : Fin 64) (h : Fin 4) (d : Fin 64) (f : ℕ → EReal) (hx : ∀ s' : Fin 64, x (ix5 z n s' h d) = f s') :
    Host.reduceWindowAdd (t := S1x64x64x4x64) ![1, 1, 64, 1, 1] ![1, 1, 1, 1, 1] ![0, 0, 63, 0, 0] ![0, 0, 0, 0, 0] x init hr hu (ix5 z n s h d)
      = ∑ i ∈ range (s + 1), f i := by
  rw [window_sum 63 0 x init hr hu h0 z n s h d f hx, Fin.sum_univ_eq_sum_range (fun k => if 63 ≤ (s : ℕ) + k ∧ (s : ℕ) + k - 63 < 64 then f (s + k - 63) else 0) 64,
    ← Finset.sum_filter]
  have hs := s.isLt
  refine Finset.sum_bij' (fun k _ => s + k - 63) (fun i _ => i + 63 - s) ?_ ?_ ?_ ?_ ?_ <;> intro k hk <;>
    simp only [Finset.mem_filter, Finset.mem_range] at hk ⊢ <;> omega

/-- Padded above: the sum of the rows from this one on. -/
theorem window_high {u : Shape} (x : FVec Ideal S1x64x64x4x64 .f32) (init : FVec Ideal u .f32) (hr) (hu : 0 < u.numel) (h0 : ∀ i, init i = (0 : EReal))
    (z : Fin 1) (n s : Fin 64) (h : Fin 4) (d : Fin 64) (f : ℕ → EReal) (hx : ∀ s' : Fin 64, x (ix5 z n s' h d) = f s') :
    Host.reduceWindowAdd (t := S1x64x64x4x64) ![1, 1, 64, 1, 1] ![1, 1, 1, 1, 1] ![0, 0, 0, 0, 0] ![0, 0, 63, 0, 0] x init hr hu (ix5 z n s h d)
      = ∑ i ∈ Ico (s : ℕ) 64, f i := by
  rw [window_sum 0 63 x init hr hu h0 z n s h d f hx, Fin.sum_univ_eq_sum_range (fun k => if 0 ≤ (s : ℕ) + k ∧ (s : ℕ) + k - 0 < 64 then f (s + k - 0) else 0) 64,
    ← Finset.sum_filter]
  have hs := s.isLt
  refine Finset.sum_bij' (fun k _ => s + k) (fun i _ => i - s) ?_ ?_ ?_ ?_ ?_ <;> intro k hk <;>
    simp only [Finset.mem_filter, Finset.mem_range, Finset.mem_Ico] at hk ⊢ <;> first | omega | rfl
end Cert.ReferenceIdeal.Run
-- ==== Proof.Soft.lean ====
module

public import Idealize.ShloMosaic.Lib.Pointwise
public import proofs.«01_k».proof.Proof.Spec

/-! The log-sigmoid of the gate, and its derivative, over the extended reals: the two ways the kernel and
the reference compute them agree on every number, the infinities included. -/

@[expose] public section
noncomputable section
namespace Cert.Gla
open Idealize.ShloMosaic

/-- The absolute value is the larger of a number and its negative. -/
theorem absE (x : EReal) : FloatOps.absf (F := Ideal) (φ := .f32) x = max x (-x) := by
  rfl
theorem mx (a b : ℝ) : max (a : EReal) b = ((max a b : ℝ) : EReal) := (EReal.coe_strictMono.monotone.map_max).symm
theorem mn (a b : ℝ) : min (a : EReal) b = ((min a b : ℝ) : EReal) := (EReal.coe_strictMono.monotone.map_min).symm
theorem mx0 (a : ℝ) : max (a : EReal) 0 = ((max a 0 : ℝ) : EReal) := mx a 0
theorem mn0 (a : ℝ) : min (a : EReal) 0 = ((min a 0 : ℝ) : EReal) := mn a 0

/-- The logarithm of one plus an exponential of a real is real. -/
theorem log_one_exp (y : ℝ) : Ideal.log (1 + Ideal.exp (y : EReal)) = ((Real.log (1 + Real.exp y) : ℝ) : EReal) := by
  have h : (1 : EReal) + ((Real.exp y : ℝ) : EReal) = ((1 + Real.exp y : ℝ) : EReal) := by push_cast; rfl
  rw [Ideal.exp_coe, h, Ideal.log_coe, if_neg (by have := Real.exp_pos y; linarith)]

theorem log_one : Ideal.log 1 = 0 := by
  rw [show (1 : EReal) = ((1 : ℝ) : EReal) from rfl, Ideal.log_coe, if_neg (by norm_num), Real.log_one]; rfl
theorem exp_zero : Ideal.exp 0 = 1 := by
  rw [show (0 : EReal) = ((0 : ℝ) : EReal) from rfl, Ideal.exp_coe, Real.exp_zero]; rfl
theorem one_add_top : (1 : EReal) + ⊤ = ⊤ := EReal.add_top_of_ne_bot (EReal.coe_ne_bot 1)

/-- The soft plus of a number, as the reference computes it. -/
def spl (x : EReal) : EReal := max x 0 + Ideal.log (1 + Ideal.exp (-(max (x - 0) (-(x - 0)))))

theorem spl_bot : spl ⊥ = 0 := by
  simp [spl, log_one]
theorem spl_top : spl ⊤ = ⊤ := by
  simp [spl, log_one]
theorem spl_coe (r : ℝ) : spl r = ((max r 0 + Real.log (1 + Real.exp (-|r|)) : ℝ) : EReal) := by
  rw [spl, sub_zero, ← EReal.coe_neg, mx, mx0, ← EReal.coe_neg, log_one_exp, ← EReal.coe_add]; rfl

/-- The kernel's log-sigmoid is the reference's. -/
theorem spl_neg (x : EReal) : -(spl (-x)) = min x 0 - Ideal.log (1 + Ideal.exp (0 - FloatOps.absf (F := Ideal) (φ := .f32) x)) := by
  rw [absE, zero_sub]
  induction x with
  | bot => simp [spl_top, log_one]
  | top => simp [spl_bot, log_one]
  | coe r =>
    rw [← EReal.coe_neg, spl_coe, mx, mn0, ← EReal.coe_neg, ← EReal.coe_neg, log_one_exp, ← EReal.coe_sub]
    congr 1
    have h1 : max r (-r) = |r| := rfl
    have h2 : max (-r) 0 = -min r 0 := by rw [← max_neg_neg, neg_zero]
    rw [abs_neg, h1, h2]; ring

theorem one_div_c16 : c16 = ((1/16 : ℝ) : EReal) := by
  simp [c16, Ideal.ofBits, Ideal.ieee, -EReal.coe_mul]; norm_num
theorem sixteen : Ideal.ofBits .f32 0x41800000#32 = ((16 : ℝ) : EReal) := by
  simp [Ideal.ofBits, Ideal.ieee, -EReal.coe_mul]; norm_num
theorem infty : Ideal.ofBits .f32 0x7F800000#32 = (⊤ : EReal) := by
  simp [Ideal.ofBits, Ideal.ieee]
/-- Dividing by sixteen is multiplying by a sixteenth. -/
theorem div_sixteen (x : EReal) : Ideal.div x (Ideal.ofBits .f32 0x41800000#32) = x * c16 := by
  rw [sixteen, Ideal.div_coe (by norm_num), one_div_c16]

/-- The reference's factor in the gradient of the log-sigmoid is the logistic function. -/
theorem repl_exp (x : EReal) : Ideal.exp ((if x = ⊤ then 0 else x) - (if spl x = ⊤ then 0 else spl x)) = Ideal.logistic x := by
  rw [Ideal.logistic]
  induction x with
  | bot => simp [spl_bot, Ideal.div, one_add_top, exp_zero]
  | top => simp [spl_top, Ideal.div, exp_zero]
  | coe r =>
    have e : (1 : EReal) + ((Real.exp (-r) : ℝ) : EReal) = ((1 + Real.exp (-r) : ℝ) : EReal) := by push_cast; rfl
    have p := Real.exp_pos (-r)
    rw [spl_coe, if_neg (EReal.coe_ne_top _), if_neg (EReal.coe_ne_top _), ← EReal.coe_sub, ← EReal.coe_neg, Ideal.exp_coe, Ideal.exp_coe, e,
      Ideal.div_coe (by positivity), one_mul]
    congr 1
    have q : 0 < 1 + Real.exp (-|r|) := by positivity
    rw [Real.exp_sub, Real.exp_add, Real.exp_log q, eq_div_iff (by positivity), div_mul_eq_mul_div, div_eq_iff (by positivity), one_mul]
    rcases le_total r 0 with h | h
    · rw [max_eq_right h, abs_of_nonpos h, neg_neg, Real.exp_zero, one_mul, mul_add, ← Real.exp_add]; simp [add_comm]
    · rw [max_eq_left h, abs_of_nonneg h, mul_add, ← Real.exp_add]
end Cert.Gla
-- ==== Proof.RefVal0.lean ====
module

public import proofs.«01_k».proof.Proof.RefEq0
public import proofs.«01_k».proof.Proof.RefEq1
public import proofs.«01_k».proof.Proof.RefEq2
public import proofs.«01_k».proof.Proof.Spec
public import proofs.«01_k».proof.Proof.Window
public import proofs.«01_k».proof.Proof.Soft
public import proofs.«01_k».proof.Proof.Words

/-! The arguments and the first operations of the reference, entry by entry. -/

@[expose] public section

set_option maxRecDepth 16384
set_option maxHeartbeats 0

noncomputable section

namespace Cert.ReferenceIdeal.Run

open Cert.ReferenceIdeal Cert.ReferenceIdeal.Gen Cert.ReferenceIdeal.Ops Cert.Gla
open Idealize.ShloMosaic Idealize.ShloMosaic.TcCoe Idealize.ShloMosaic.Tactic
open Idealize.ShloMosaic.StableHlo
open Finset (range Ico)

/-- The seven arguments are the data's. -/
structure InAt (D : Data) (m : (ℓ : Loc nD τ sig) → Buf (Elt Ideal) ℓ) (c : Dev nD) : Prop where
  q : ∀ (i : Fin 4096) (j : Fin 256), arg0 m c (ix2 i j) = D.q i j
  k : ∀ (i : Fin 4096) (j : Fin 256), arg1 m c (ix2 i j) = D.k i j
  v : ∀ (i : Fin 4096) (j : Fin 512), arg2 m c (ix2 i j) = D.v i j
  al : ∀ (i : Fin 4096) (j : Fin 16), arg3 m c (ix2 i j) = D.al i j
  wu : ∀ (i : Fin 16) (j : Fin 256), arg4 m c (ix2 i j) = D.wu i j
  bu : ∀ (i : Fin 1) (j : Fin 256), arg5 m c (ix2 i j) = D.bu j
  g : ∀ (i : Fin 4096) (j : Fin 512), arg6 m c (ix2 i j) = D.g i j

variable {D : Data} {m : (ℓ : Loc nD τ sig) → Buf (Elt Ideal) ℓ} {c : Dev nD} (I : InAt D m c)
include I

theorem a_v0 (z : Fin 1) (t : Fin 4096) (j : Fin 256) : v0 m c (ix3 z t j) = D.q t j := by
  rw [e_v0]; pointwise; exact I.q _ _
theorem a_v1 (z : Fin 1) (t : Fin 4096) (j : Fin 256) : v1 m c (ix3 z t j) = D.k t j := by
  rw [e_v1]; pointwise; exact I.k _ _
theorem a_v2 (z : Fin 1) (t : Fin 4096) (j : Fin 512) : v2 m c (ix3 z t j) = D.v t j := by
  rw [e_v2]; pointwise; exact I.v _ _
theorem a_v3 (z : Fin 1) (t : Fin 4096) (j : Fin 16) : v3 m c (ix3 z t j) = D.al t j := by
  rw [e_v3]; pointwise; exact I.al _ _
theorem a_v4 (z : Fin 1) (n s : Fin 64) (h : Fin 4) (d : Fin 64) : v4 m c (ix5 z n s h d) = D.q (64 * n + s) (64 * h + d) := by
  rw [e_v4]; pointwise; rw [a_v0 I]; congr 1 <;> (dsimp only; omega)
theorem a_v7 (z : Fin 1) (n s : Fin 64) (h : Fin 4) (d : Fin 64) : v7 m c (ix5 z n s h d) = D.k (64 * n + s) (64 * h + d) := by
  rw [e_v7]; pointwise; rw [a_v1 I]; congr 1 <;> (dsimp only; omega)
theorem a_v8 (z : Fin 1) (n s : Fin 64) (h : Fin 4) (w : Fin 128) : v8 m c (ix5 z n s h w) = D.v (64 * n + s) (128 * h + w) := by
  rw [e_v8]; pointwise; rw [a_v2 I]; congr 1 <;> (dsimp only; omega)
theorem a_v6 (z : Fin 1) (n s : Fin 64) (h : Fin 4) (d : Fin 64) : v6 m c (ix5 z n s h d) = D.q (64 * n + s) (64 * h + d) * c8 := by
  rw [e_v6]; pointwise; rw [a_v4 I, e_v5]; pointwise; rw [e_cst]; pointwise; rfl
theorem a_v12 (z : Fin 1) (t : Fin 4096) (j : Fin 256) : v12 m c (ix3 z t j) = D.pre t j := by
  rw [e_v12]; pointwise; rw [e_v9, e_v11]; pointwise; rw [e_v10]; pointwise; rw [I.bu]
  simp only [a_v3 I, I.wu]
  rfl
theorem a_n (z : Fin 1) (t : Fin 4096) (j : Fin 256) : call0_v0 m c (ix3 z t j) = -(D.pre t j) := by
  rw [e_call0_v0]; pointwise; rw [a_v12 I]
theorem a_s (z : Fin 1) (t : Fin 4096) (j : Fin 256) : call0_v1_0 m c (ix3 z t j) = spl (-(D.pre t j)) := by
  rw [e_call0_v1_0, e_call0_call0_v4, e_call0_call0_v11, e_call0_call0_v10, e_call0_call0_v9, e_call0_call0_v8, e_call0_call0_v7, e_call0_call0_v6,
    e_call0_call0_v3, e_call0_call0_v1, e_call0_call0_v0, e_call0_call0_v2, e_call0_call0_v5, e_call0_call0_cst]
  pointwise; simp only [a_n I]
  rw [if_neg (not_not.mpr rfl)]
  simp only [spl, sub_zero, Ideal.log1p, absE]
theorem a_v15 (z : Fin 1) (t : Fin 4096) (j : Fin 256) : v15 m c (ix3 z t j) = D.la t j := by
  rw [e_v15, e_v13_0, e_v14, e_cst_0]; pointwise; rw [a_s I, spl_neg, div_sixteen]; rfl
theorem a_v13_1 (z : Fin 1) (t : Fin 4096) (j : Fin 256) : v13_1 m c (ix3 z t j) = Ideal.logistic (-(D.pre t j)) := by
  rw [e_v13_1, e_call0_call0_v21, e_call0_call0_v20, e_call0_call0_v19, e_call0_call0_v18, e_call0_call0_v17, e_call0_call0_v16, e_call0_call0_v15, e_call0_call0_v14, e_call0_call0_v13, e_call0_call0_cst_0,
   e_call0_call0_cst_1,  e_call0_call0_cst_2,  e_call0_call0_cst_3]
  pointwise; simp only [a_n I, a_s I, infty]
  rw [← repl_exp]
theorem a_v16 (z : Fin 1) (n s : Fin 64) (h : Fin 4) (d : Fin 64) : v16 m c (ix5 z n s h d) = D.la (64 * n + s) (64 * h + d) := by
  rw [e_v16]; pointwise; rw [a_v15 I]; congr 1 <;> (dsimp only; omega)
theorem a_v17 (z : Fin 1) (n s : Fin 64) (h : Fin 4) (d : Fin 64) : v17 m c (ix5 z n s h d) = D.bc n s (64 * h + d) := by
  rw [e_v17]
  exact window_low _ _ _ _ (fun i => by rw [e_call1_call0_v0, e_call1_call0_cst]; pointwise) z n s h d (fun i => D.la (64 * n + i) (64 * h + d)) fun s' => a_v16 I z n s' h d
theorem a_v19 (z : Fin 1) (n : Fin 64) (h : Fin 4) (d : Fin 64) : v19 m c (ix4 z n h d) = D.bc n 63 (64 * h + d) := by
  rw [e_v19, e_v18]; pointwise; rw [a_v17 I]; rfl
theorem a_v27 (r s : Fin 64) : v27 m c (ix2 r s) = if (s : ℕ) ≤ r then 1#1 else 0#1 := by
  rw [e_v27, e_v26, e_call2_v5, e_cTrue, e_call2_c_0, e_call2_v4, e_call2_v3, e_call2_v2, e_call2_v1, e_call2_c, e_call2_v0]; pointwise
  revert r s; decide +kernel
omit I in
/-- A key feature's head. -/
theorem hd {d : ℕ} (h : ℕ) (hd : d < 64) : (64 * h + d) / 64 = h := by omega

theorem a_v20 (z : Fin 1) (n s : Fin 64) (h : Fin 4) (d : Fin 64) : v20 m c (ix5 z n s h d) = Ideal.exp (D.bc n s (64 * h + d)) := by
  rw [e_v20]; pointwise; rw [a_v17 I]
theorem a_v21 (z : Fin 1) (n s : Fin 64) (h : Fin 4) (d : Fin 64) : v21 m c (ix5 z n s h d) = D.qt n s (64 * h + d) := by
  rw [e_v21]; pointwise; rw [a_v6 I, a_v20 I]; rfl
theorem a_v23 (z : Fin 1) (n s : Fin 64) (h : Fin 4) (d : Fin 64) : v23 m c (ix5 z n s h d) = D.ng n s (64 * h + d) := by
  rw [e_v23, e_v22]; pointwise; rw [a_v17 I, Data.ng, zero_sub]
theorem a_v24 (z : Fin 1) (n s : Fin 64) (h : Fin 4) (d : Fin 64) : v24 m c (ix5 z n s h d) = D.kt n s (64 * h + d) := by
  rw [e_v24]; pointwise; rw [a_v7 I, a_v23 I]; rfl
theorem a_v25 (z : Fin 1) (n : Fin 64) (h : Fin 4) (r s : Fin 64) : v25 m c (ix5 z n h r s) = ∑ d ∈ range 64, D.qt n r (64 * h + d) * D.kt n s (64 * h + d) := by
  rw [e_v25]; pointwise; simp only [a_v21 I, a_v24 I]; rw [Finset.sum_range]
theorem a_v28_1 (z : Fin 1) (n : Fin 64) (h : Fin 4) (r s : Fin 64) : v28_1 m c (ix5 z n h r s) = if (s : ℕ) ≤ r then 1#1 else 0#1 := by
  rw [e_v28_1]; pointwise; rw [a_v27 I]
theorem a_v28_0 (z : Fin 1) (n : Fin 64) (h : Fin 4) (r s : Fin 64) : v28_0 m c (ix5 z n h r s) = D.sc n h r s := by
  rw [e_v28_0, e_call3_v2, e_call3_v0, id_eq, e_cst_1]; pointwise; rw [a_v28_1 I, a_v25 I, Data.sc]; split <;> rfl
theorem a_v30 (z : Fin 1) (n r : Fin 64) (h : Fin 4) (w : Fin 128) : v30 m c (ix5 z n r h w) = ∑ s ∈ range 64, D.sc n h r s * D.v (64 * n + s) (128 * h + w) := by
  rw [e_v30, e_v29]; pointwise; simp only [a_v8 I, a_v28_0 I]; rw [Finset.sum_range]; exact Finset.sum_congr rfl fun _ _ => mul_comm _ _
theorem a_v34 (z : Fin 1) (n s : Fin 64) (h : Fin 4) (d : Fin 64) : v34 m c (ix5 z n s h d) = D.en n s (64 * h + d) := by
  rw [e_v34, e_v33, e_v32, e_v31]; pointwise; rw [a_v19 I, a_v17 I]; rfl
theorem a_v35 (z : Fin 1) (n s : Fin 64) (h : Fin 4) (d : Fin 64) : v35 m c (ix5 z n s h d) = D.ke n s (64 * h + d) := by
  rw [e_v35]; pointwise; rw [a_v7 I, a_v34 I]; rfl
theorem a_v37 (z : Fin 1) (n : Fin 64) (h : Fin 4) (d : Fin 64) : v37 m c (ix4 z n h d) = D.dec n (64 * h + d) := by
  rw [e_v37]; pointwise; rw [a_v19 I]; rfl
theorem a_v39 (n : Fin 64) (z : Fin 1) (h : Fin 4) (d : Fin 64) : v39 m c (ix4 n z h d) = D.dec n (64 * h + d) := by
  rw [e_v39]; pointwise; rw [a_v37 I]
theorem a_v40 (n : Fin 64) (z : Fin 1) (h : Fin 4) (d : Fin 64) (w : Fin 128) :
    v40 m c (ix5 n z h d w) = ∑ r ∈ range 64, D.v (64 * n + r) (128 * h + w) * D.ke n r (64 * h + d) := by
  rw [e_v40, e_v36]; pointwise; simp only [a_v35 I, a_v8 I]; rw [Finset.sum_range]; exact Finset.sum_congr rfl fun _ _ => mul_comm _ _
theorem a_v53 (z : Fin 1) (n s : Fin 64) (h : Fin 4) (w : Fin 128) : v53 m c (ix5 z n s h w) = D.g (64 * n + s) (128 * h + w) := by
  rw [e_v53, e_v52, e_v50]; pointwise; rw [I.g]; congr 1 <;> (dsimp only; omega)
theorem a_v54 (z : Fin 1) (n : Fin 64) (h : Fin 4) (w : Fin 128) (s : Fin 64) : v54 m c (ix5 z n h w s) = D.g (64 * n + s) (128 * h + w) := by
  rw [e_v54]; pointwise; rw [a_v53 I]
theorem a_v80 (z : Fin 1) (n : Fin 64) (h : Fin 4) (w : Fin 128) (s : Fin 64) : v80 m c (ix5 z n h w s) = D.g (64 * n + s) (128 * h + w) := by
  rw [e_v80]; pointwise; rw [a_v53 I]
theorem a_v59 (n : Fin 64) (z : Fin 1) (h : Fin 4) (d : Fin 64) (w : Fin 128) :
    v59 m c (ix5 n z h d w) = ∑ r ∈ range 64, D.g (64 * n + r) (128 * h + w) * D.qt n r (64 * h + d) := by
  rw [e_v59, e_v58, e_v57]; pointwise; simp only [a_v54 I, a_v21 I]; rw [Finset.sum_range]
theorem a_v85 (z : Fin 1) (n : Fin 64) (h : Fin 4) (r s : Fin 64) : v85 m c (ix5 z n h r s) = D.dp n h r s := by
  rw [e_v85, e_v81, e_call13_v0, e_call13_cst]; pointwise; simp only [a_v80 I, a_v8 I]; rw [a_v28_1 I, Data.dp, Finset.sum_range]; split <;> rfl
theorem a_v83 (z : Fin 1) (n s : Fin 64) (h : Fin 4) (w : Fin 128) : v83 m c (ix5 z n s h w) = ∑ r ∈ range 64, D.sc n h r s * D.g (64 * n + r) (128 * h + w) := by
  rw [e_v83, e_v82]; pointwise; simp only [a_v80 I, a_v28_0 I]; rw [Finset.sum_range]; exact Finset.sum_congr rfl fun _ _ => mul_comm _ _
theorem a_v87 (z : Fin 1) (n s : Fin 64) (h : Fin 4) (d : Fin 64) : v87 m c (ix5 z n s h d) = D.dkt n s (64 * h + d) := by
  rw [e_v87, e_v86]; pointwise; simp only [a_v85 I, a_v21 I]; rw [Data.dkt, hd _ d.isLt, Finset.sum_range]
theorem a_v89 (z : Fin 1) (n r : Fin 64) (h : Fin 4) (d : Fin 64) : v89 m c (ix5 z n r h d) = ∑ s ∈ range 64, D.dp n h r s * D.kt n s (64 * h + d) := by
  rw [e_v89, e_v88]; pointwise; simp only [a_v85 I, a_v24 I]; rw [Finset.sum_range]

end Cert.ReferenceIdeal.Run
-- ==== Proof.Slot.lean ====
module

public import Idealize.ShloMosaic.Lib.Pointwise
public import Idealize.ShloMosaic.Lib.DynamicIndex

/-! Reading and writing one chunk's slot of an array over the chunks. -/

@[expose] public section
noncomputable section
namespace Cert.Gla
open Idealize.ShloMosaic

variable {α : Type}

theorem slot_le (n : Fin 64) {s t : Shape} (ht : t.rank = s.rank) (start : Fin s.rank → Int) (a : Fin s.rank) (k : ℕ)
    (hk : start a = k) (hle : k + t.size (a.cast ht.symm) ≤ s.size a) : Host.clampedStart s t ht start a = k := by
  unfold Host.clampedStart; omega

/-- A slot read out of a rank-5 array. -/
theorem slot5 {W : ℕ} (x : (⟨5, ![64, 1, 4, 64, W]⟩ : Shape).Idx → α) (start : Fin 5 → Int) (h) (n : Fin 64)
    (hs : start = ![((n : ℕ) : Int), 0, 0, 0, 0]) (a b : Fin 1) (e : Fin 4) (d : Fin 64) (w : Fin W) :
    Host.dynamicSlice (s := ⟨5, ![64, 1, 4, 64, W]⟩) ⟨5, ![1, 1, 4, 64, W]⟩ x start h (ix5 a b e d w) = x (ix5 n b e d w) := by
  subst hs
  have hn := n.isLt
  rw [Host.dynamicSlice_apply]
  refine congrArg x ?_
  funext i
  refine Fin.ext ?_
  fin_cases i
  · have := slot_le n h.1 ![((n : ℕ) : Int), 0, 0, 0, 0] 0 n rfl (by show (n : ℕ) + 1 ≤ 64; omega)
    exact (congrArg (· + (a : ℕ)) this).trans (by show (n : ℕ) + a = n; omega)
  · have := slot_le n h.1 ![((n : ℕ) : Int), 0, 0, 0, 0] 1 0 rfl (by show 0 + 1 ≤ 1; omega)
    exact (congrArg (· + (b : ℕ)) this).trans (Nat.zero_add _)
  · have := slot_le n h.1 ![((n : ℕ) : Int), 0, 0, 0, 0] 2 0 rfl (by show 0 + 4 ≤ 4; omega)
    exact (congrArg (· + (e : ℕ)) this).trans (Nat.zero_add _)
  · have := slot_le n h.1 ![((n : ℕ) : Int), 0, 0, 0, 0] 3 0 rfl (by show 0 + 64 ≤ 64; omega)
    exact (congrArg (· + (d : ℕ)) this).trans (Nat.zero_add _)
  · have := slot_le n h.1 ![((n : ℕ) : Int), 0, 0, 0, 0] 4 0 rfl (by show 0 + W ≤ W; omega)
    exact (congrArg (· + (w : ℕ)) this).trans (Nat.zero_add _)

/-- A slot read out of a rank-4 array. -/
theorem slot4 (x : (⟨4, ![64, 1, 4, 64]⟩ : Shape).Idx → α) (start : Fin 4 → Int) (h) (n : Fin 64)
    (hs : start = ![((n : ℕ) : Int), 0, 0, 0]) (a b : Fin 1) (e : Fin 4) (d : Fin 64) :
    Host.dynamicSlice (s := ⟨4, ![64, 1, 4, 64]⟩) ⟨4, ![1, 1, 4, 64]⟩ x start h (ix4 a b e d) = x (ix4 n b e d) := by
  subst hs
  have hn := n.isLt
  rw [Host.dynamicSlice_apply]
  refine congrArg x ?_
  funext i
  refine Fin.ext ?_
  fin_cases i
  · have := slot_le n h.1 ![((n : ℕ) : Int), 0, 0, 0] 0 n rfl (by show (n : ℕ) + 1 ≤ 64; omega)
    exact (congrArg (· + (a : ℕ)) this).trans (by show (n : ℕ) + a = n; omega)
  · have := slot_le n h.1 ![((n : ℕ) : Int), 0, 0, 0] 1 0 rfl (by show 0 + 1 ≤ 1; omega)
    exact (congrArg (· + (b : ℕ)) this).trans (Nat.zero_add _)
  · have := slot_le n h.1 ![((n : ℕ) : Int), 0, 0, 0] 2 0 rfl (by show 0 + 4 ≤ 4; omega)
    exact (congrArg (· + (e : ℕ)) this).trans (Nat.zero_add _)
  · have := slot_le n h.1 ![((n : ℕ) : Int), 0, 0, 0] 3 0 rfl (by show 0 + 64 ≤ 64; omega)
    exact (congrArg (· + (d : ℕ)) this).trans (Nat.zero_add _)

/-- A slot written into a rank-5 array. -/
theorem put5 {W : ℕ} (x : (⟨5, ![64, 1, 4, 64, W]⟩ : Shape).Idx → α) (u : (⟨5, ![1, 1, 4, 64, W]⟩ : Shape).Idx → α) (start : Fin 5 → Int) (h) (n : Fin 64)
    (hs : start = ![((n : ℕ) : Int), 0, 0, 0, 0]) (i : Fin 64) (b : Fin 1) (e : Fin 4) (d : Fin 64) (w : Fin W) :
    Host.dynamicUpdateSlice (s := ⟨5, ![64, 1, 4, 64, W]⟩) x u start h (ix5 i b e d w) = if i = n then u (ix5 0 b e d w) else x (ix5 i b e d w) := by
  subst hs
  have hn := n.isLt
  have hi := i.isLt
  have c0 := slot_le n h.1 ![((n : ℕ) : Int), 0, 0, 0, 0] 0 n rfl (by show (n : ℕ) + 1 ≤ 64; omega)
  have c1 := slot_le n h.1 ![((n : ℕ) : Int), 0, 0, 0, 0] 1 0 rfl (by show 0 + 1 ≤ 1; omega)
  have c2 := slot_le n h.1 ![((n : ℕ) : Int), 0, 0, 0, 0] 2 0 rfl (by show 0 + 4 ≤ 4; omega)
  have c3 := slot_le n h.1 ![((n : ℕ) : Int), 0, 0, 0, 0] 3 0 rfl (by show 0 + 64 ≤ 64; omega)
  have c4 := slot_le n h.1 ![((n : ℕ) : Int), 0, 0, 0, 0] 4 0 rfl (by show 0 + W ≤ W; omega)
  rw [Host.dynamicUpdateSlice_apply]
  by_cases hc : i = n
  · subst hc
    rw [if_pos rfl]
    refine (dif_pos ?_).trans (congrArg u ?_)
    · intro a
      fin_cases a
      · exact ⟨le_of_eq c0, lt_of_lt_of_eq (Nat.lt_succ_self (i : ℕ)) (congrArg (· + 1) c0).symm⟩
      · exact ⟨le_of_eq_of_le c1 (Nat.zero_le _), lt_of_lt_of_eq b.isLt ((congrArg (· + 1) c1).trans (Nat.zero_add _)).symm⟩
      · exact ⟨le_of_eq_of_le c2 (Nat.zero_le _), lt_of_lt_of_eq e.isLt ((congrArg (· + 4) c2).trans (Nat.zero_add _)).symm⟩
      · exact ⟨le_of_eq_of_le c3 (Nat.zero_le _), lt_of_lt_of_eq d.isLt ((congrArg (· + 64) c3).trans (Nat.zero_add _)).symm⟩
      · exact ⟨le_of_eq_of_le c4 (Nat.zero_le _), lt_of_lt_of_eq w.isLt ((congrArg (· + W) c4).trans (Nat.zero_add _)).symm⟩
    · funext a
      refine Fin.ext ?_
      fin_cases a
      · exact (congrArg ((i : ℕ) - ·) c0).trans (Nat.sub_self _)
      · exact (congrArg ((b : ℕ) - ·) c1).trans (Nat.sub_zero _)
      · exact (congrArg ((e : ℕ) - ·) c2).trans (Nat.sub_zero _)
      · exact (congrArg ((d : ℕ) - ·) c3).trans (Nat.sub_zero _)
      · exact (congrArg ((w : ℕ) - ·) c4).trans (Nat.sub_zero _)
  · rw [if_neg hc]
    refine dif_neg fun hin => hc (Fin.ext ?_)
    have h0 := hin 0
    have h1 := le_of_eq_of_le c0.symm h0.1
    have h2 : (i : ℕ) < n + 1 := lt_of_lt_of_eq h0.2 (congrArg (· + 1) c0)
    change (n : ℕ) ≤ i at h1
    omega

/-- A slot written into a rank-4 array. -/
theorem put4 (x : (⟨4, ![64, 1, 4, 64]⟩ : Shape).Idx → α) (u : (⟨4, ![1, 1, 4, 64]⟩ : Shape).Idx → α) (start : Fin 4 → Int) (h) (n : Fin 64)
    (hs : start = ![((n : ℕ) : Int), 0, 0, 0]) (i : Fin 64) (b : Fin 1) (e : Fin 4) (d : Fin 64) :
    Host.dynamicUpdateSlice (s := ⟨4, ![64, 1, 4, 64]⟩) x u start h (ix4 i b e d) = if i = n then u (ix4 0 b e d) else x (ix4 i b e d) := by
  subst hs
  have hn := n.isLt
  have hi := i.isLt
  have c0 := slot_le n h.1 ![((n : ℕ) : Int), 0, 0, 0] 0 n rfl (by show (n : ℕ) + 1 ≤ 64; omega)
  have c1 := slot_le n h.1 ![((n : ℕ) : Int), 0, 0, 0] 1 0 rfl (by show 0 + 1 ≤ 1; omega)
  have c2 := slot_le n h.1 ![((n : ℕ) : Int), 0, 0, 0] 2 0 rfl (by show 0 + 4 ≤ 4; omega)
  have c3 := slot_le n h.1 ![((n : ℕ) : Int), 0, 0, 0] 3 0 rfl (by show 0 + 64 ≤ 64; omega)
  rw [Host.dynamicUpdateSlice_apply]
  by_cases hc : i = n
  · subst hc
    rw [if_pos rfl]
    refine (dif_pos ?_).trans (congrArg u ?_)
    · intro a
      fin_cases a
      · exact ⟨le_of_eq c0, lt_of_lt_of_eq (Nat.lt_succ_self (i : ℕ)) (congrArg (· + 1) c0).symm⟩
      · exact ⟨le_of_eq_of_le c1 (Nat.zero_le _), lt_of_lt_of_eq b.isLt ((congrArg (· + 1) c1).trans (Nat.zero_add _)).symm⟩
      · exact ⟨le_of_eq_of_le c2 (Nat.zero_le _), lt_of_lt_of_eq e.isLt ((congrArg (· + 4) c2).trans (Nat.zero_add _)).symm⟩
      · exact ⟨le_of_eq_of_le c3 (Nat.zero_le _), lt_of_lt_of_eq d.isLt ((congrArg (· + 64) c3).trans (Nat.zero_add _)).symm⟩
    · funext a
      refine Fin.ext ?_
      fin_cases a
      · exact (congrArg ((i : ℕ) - ·) c0).trans (Nat.sub_self _)
      · exact (congrArg ((b : ℕ) - ·) c1).trans (Nat.sub_zero _)
      · exact (congrArg ((e : ℕ) - ·) c2).trans (Nat.sub_zero _)
      · exact (congrArg ((d : ℕ) - ·) c3).trans (Nat.sub_zero _)
  · rw [if_neg hc]
    refine dif_neg fun hin => hc (Fin.ext ?_)
    have h0 := hin 0
    have h1 := le_of_eq_of_le c0.symm h0.1
    have h2 : (i : ℕ) < n + 1 := lt_of_lt_of_eq h0.2 (congrArg (· + 1) c0)
    change (n : ℕ) ≤ i at h1
    omega

/-- The slot of chunk `n` of a rank-5 array. -/
def pick5 {W : ℕ} (x : (⟨5, ![64, 1, 4, 64, W]⟩ : Shape).Idx → α) (n : Fin 64) : (⟨5, ![1, 1, 4, 64, W]⟩ : Shape).Idx → α :=
  fun j => x (ix5 n (j 1) (j 2) (j 3) (j 4))
/-- The slot of chunk `n` of a rank-4 array. -/
def pick4 (x : (⟨4, ![64, 1, 4, 64]⟩ : Shape).Idx → α) (n : Fin 64) : (⟨4, ![1, 1, 4, 64]⟩ : Shape).Idx → α :=
  fun j => x (ix4 n (j 1) (j 2) (j 3))
theorem pick5_at {W : ℕ} (x : (⟨5, ![64, 1, 4, 64, W]⟩ : Shape).Idx → α) (n : Fin 64) (a b : Fin 1) (e : Fin 4) (d : Fin 64) (w : Fin W) :
    pick5 x n (ix5 a b e d w) = x (ix5 n b e d w) := rfl
theorem pick4_at (x : (⟨4, ![64, 1, 4, 64]⟩ : Shape).Idx → α) (n : Fin 64) (a b : Fin 1) (e : Fin 4) (d : Fin 64) :
    pick4 x n (ix4 a b e d) = x (ix4 n b e d) := rfl
theorem slice5 {W : ℕ} (x : (⟨5, ![64, 1, 4, 64, W]⟩ : Shape).Idx → α) (start : Fin 5 → Int) (h) (n : Fin 64)
    (hs : start = ![((n : ℕ) : Int), 0, 0, 0, 0]) :
    Host.dynamicSlice (s := ⟨5, ![64, 1, 4, 64, W]⟩) ⟨5, ![1, 1, 4, 64, W]⟩ x start h = pick5 x n := by
  funext j
  have hj : j = ix5 (j 0) (j 1) (j 2) (j 3) (j 4) := by
    funext a; fin_cases a <;> rfl
  rw [hj]
  exact slot5 x start h n hs _ _ _ _ _
theorem slice4 (x : (⟨4, ![64, 1, 4, 64]⟩ : Shape).Idx → α) (start : Fin 4 → Int) (h) (n : Fin 64)
    (hs : start = ![((n : ℕ) : Int), 0, 0, 0]) :
    Host.dynamicSlice (s := ⟨4, ![64, 1, 4, 64]⟩) ⟨4, ![1, 1, 4, 64]⟩ x start h = pick4 x n := by
  funext j
  have hj : j = ix4 (j 0) (j 1) (j 2) (j 3) := by
    funext a; fin_cases a <;> rfl
  rw [hj]
  exact slot4 x start h n hs _ _ _ _

end Cert.Gla
-- ==== Proof.RefVal1.lean ====
module

public import proofs.«01_k».proof.Proof.RefVal0
public import proofs.«01_k».proof.Proof.Slot

/-! The loop that carries the states forward over the chunks: the state and the decay it keeps of every chunk. -/

@[expose] public section

set_option maxRecDepth 16384
set_option maxHeartbeats 0

noncomputable section

namespace Cert.ReferenceIdeal.Run

open Cert.ReferenceIdeal Cert.ReferenceIdeal.Gen Cert.ReferenceIdeal.Ops Cert.Gla
open Idealize.ShloMosaic Idealize.ShloMosaic.TcCoe Idealize.ShloMosaic.Tactic
open Idealize.ShloMosaic.StableHlo
open Finset (range Ico)

theorem word_toInt (n : Fin 64) : (BitVec.ofNat 32 n).toInt = ((n : ℕ) : Int) := by
  revert n; decide +kernel

/-- The start of a slot of a rank-5 array. -/
theorem start5 (n : Fin 64) (x : IVec S_ 32) (hx : x = fun _ => BitVec.ofNat 32 n) :
    (fun k => (((![x, constantI S_ 32 0#32, constantI S_ 32 0#32, constantI S_ 32 0#32, constantI S_ 32 0#32] : Fin 5 → IVec S_ 32)) k (Shape.Idx.first h_S_)).toInt)
      = ![((n : ℕ) : Int), 0, 0, 0, 0] := by
  subst hx
  funext k
  fin_cases k
  · exact word_toInt n
  · rfl
  · rfl
  · rfl
  · rfl
/-- The start of a slot of a rank-4 array. -/
theorem start4 (n : Fin 64) (x : IVec S_ 32) (hx : x = fun _ => BitVec.ofNat 32 n) :
    (fun k => (((![x, constantI S_ 32 0#32, constantI S_ 32 0#32, constantI S_ 32 0#32] : Fin 4 → IVec S_ 32)) k (Shape.Idx.first h_S_)).toInt)
      = ![((n : ℕ) : Int), 0, 0, 0] := by
  subst hx
  funext k
  fin_cases k
  · exact word_toInt n
  · rfl
  · rfl
  · rfl

namespace Loop0

open Cert.ReferenceIdeal.Loop0

/-- What holds before turn `k` of the loop over the chunks that carries the states forward. -/
structure Inv (D : Data) (m : (ℓ : Loc nD τ sig) → Buf (Elt Ideal) ℓ) (c : Dev nD) (k : ℕ) (V : Valuation τ sig (Elt Ideal)) : Prop where
  a0 : V (Proc.devRef .tc main_v43_0) = v39 m c
  a1 : V (Proc.devRef .tc main_v43_1) = v40 m c
  a2 : V (Proc.devRef .tc main_v43_2) = fun _ => BitVec.ofNat 32 k
  a3 : ∀ (z : Fin 1) (h : Fin 4) (d : Fin 64) (w : Fin 128), (V (Proc.devRef .tc main_v43_3) : FVec Ideal S1x4x64x128 .f32) (ix4 z h d w) = D.S k w (64 * h + d)
  a4 : ∀ (n : Fin 64) (z : Fin 1) (h : Fin 4) (d : Fin 64) (w : Fin 128), (n : ℕ) < k →
    (V (Proc.devRef .tc main_v43_4) : FVec Ideal S64x1x4x64x128 .f32) (ix5 n z h d w) = D.S n w (64 * h + d)
  a5 : ∀ (n : Fin 64) (z : Fin 1) (h : Fin 4) (d : Fin 64) (u : Fin 1), (n : ℕ) < k →
    (V (Proc.devRef .tc main_v43_5) : FVec Ideal S64x1x4x64x1 .f32) (ix5 n z h d u) = D.dec n (64 * h + d)

variable {D : Data} {m : (ℓ : Loc nD τ sig) → Buf (Elt Ideal) ℓ} {c : Dev nD} (I : InAt D m c)
include I

theorem inv_zero : Inv D m c 0 (entryContents preI m c) where
  a0 := by rw [i_v43_0, id_eq]
  a1 := by rw [i_v43_1, id_eq]
  a2 := by rw [i_v43_2, id_eq, e_c_5]; rfl
  a3 z h d w := by rw [i_v43_3, id_eq, e_v38, e_cst_2]; pointwise; rfl
  a4 n z h d w hn := absurd hn (Nat.not_lt_zero _)
  a5 n z h d u hn := absurd hn (Nat.not_lt_zero _)

/-- The decay of this turn's chunk. -/
theorem decay_at (k : Fin 64) {V : Valuation τ sig (Elt Ideal)} (h : Inv D m c k V) (z : Fin 1) (e : Fin 4) (d : Fin 64) (u : Fin 1) :
    (res_main_while0b_v131 V : FVec Ideal S1x4x64x1 .f32) (ix4 z e d u) = D.dec k (64 * e + d) := by
  unfold res_main_while0b_v131
  rw [h.a0, slice4 _ _ _ k]
  rotate_left
  · exact start4 k _ h.a2
  pointwise
  rw [pick4_at, a_v39 I]

theorem inv_succ (k : Fin 64) {V : Valuation τ sig (Elt Ideal)} (h : Inv D m c k V) : Inv D m c (k + 1) (STEP V) where
  a0 := (STEP_main_v43_0 V).trans h.a0
  a1 := (STEP_main_v43_1 V).trans h.a1
  a2 := by
    rw [STEP_main_v43_2, step_main_v43_2, h.a2]
    funext i
    exact (BitVec.ofNat_add (k : ℕ) 1).symm
  a3 z e d w := by
    rw [STEP_main_v43_3, step_main_v43_3, id_eq, h.a1, slice5 _ _ _ k]
    rotate_left
    · exact start5 k _ h.a2
    pointwise
    rw [decay_at I k h, h.a3, pick5_at, a_v40 I, Data.S, hd _ d.isLt]
  a4 n z e d w hn := by
    rw [STEP_main_v43_4, step_main_v43_4, id_eq, put5 _ _ _ _ k]
    rotate_left
    · exact start5 k _ h.a2
    split
    · rename_i hk
      subst hk
      pointwise
      rw [h.a3]
    · rename_i hk
      exact h.a4 n z e d w (by have : (n : ℕ) ≠ k := fun h => hk (Fin.ext h); omega)
  a5 n z e d u hn := by
    rw [STEP_main_v43_5, step_main_v43_5, id_eq, put5 _ _ _ _ k]
    rotate_left
    · exact start5 k _ h.a2
    split
    · rename_i hk
      subst hk
      pointwise
      rw [decay_at I n h]
    · rename_i hk
      exact h.a5 n z e d u (by have : (n : ℕ) ≠ k := fun h => hk (Fin.ext h); omega)

theorem inv_all : ∀ k : ℕ, k ≤ 64 → Inv D m c k (STEP^[k] (entryContents preI m c))
  | 0, _ => inv_zero I
  | k + 1, hk => by rw [Function.iterate_succ_apply']; exact inv_succ I ⟨k, hk⟩ (inv_all k (by omega))

end Loop0

variable {D : Data} {m : (ℓ : Loc nD τ sig) → Buf (Elt Ideal) ℓ} {c : Dev nD} (I : InAt D m c)

/-- A loop result, as the loop leaves it. -/
theorem loop0_last (b : Ref sig .tc) (h : b ∉ main_part0_ops9_W ++ later9) (hc : b ∉ Loop0.condOps_W) (hb : b ∈ Loop0.carriedRefs) :
    last m c (Proc.devRef .tc b) = (Loop0.STEP^[64] (entryContents Loop0.preI m c)) (Proc.devRef .tc b) := by
  have e : ∀ V : Valuation τ sig (Elt Ideal), after Loop0.condOps V (Proc.devRef .tc b) = V (Proc.devRef .tc b) := fun V => after_of_writes_sub _ V Loop0.condOps_writes hc
  rw [at9 m c b (off h).2, after_of_writes_sub main_part0_ops9 _ main_part0_ops9_writes (off h).1]
  exact (e _).trans (Loop0.atK_agree m c 64 b hb)

include I
theorem a_v43_4 (n : Fin 64) (z : Fin 1) (h : Fin 4) (d : Fin 64) (w : Fin 128) : v43_4 m c (ix5 n z h d w) = D.S n w (64 * h + d) := by
  have e : v43_4 m c = (Loop0.STEP^[64] (entryContents Loop0.preI m c)) (Proc.devRef .tc main_v43_4) := loop0_last main_v43_4 (by decide +kernel) (by decide +kernel) (by decide +kernel)
  rw [e]
  exact (Loop0.inv_all I 64 le_rfl).a4 n z h d w n.isLt
theorem a_v43_5 (n : Fin 64) (z : Fin 1) (h : Fin 4) (d : Fin 64) (u : Fin 1) : v43_5 m c (ix5 n z h d u) = D.dec n (64 * h + d) := by
  have e : v43_5 m c = (Loop0.STEP^[64] (entryContents Loop0.preI m c)) (Proc.devRef .tc main_v43_5) := loop0_last main_v43_5 (by decide +kernel) (by decide +kernel) (by decide +kernel)
  rw [e]
  exact (Loop0.inv_all I 64 le_rfl).a5 n z h d u n.isLt

end Cert.ReferenceIdeal.Run
-- ==== Proof.UnitSum.lean ====
module

public import Idealize.ShloMosaic.Lib.Pointwise
public import proofs.«01_k».proof.Proof.RefOps

/-! Sums over axes of extent one. -/

@[expose] public section
noncomputable section
namespace Cert.Gla
open Idealize.ShloMosaic Cert.ReferenceIdeal Cert.ReferenceIdeal.Gen

/-- A sum over the operand's elements that reduce to `j`, when only one does. -/
theorem reduce_unique {s t : Shape} {axes : List (Fin s.rank)} (h : s.ReducesTo axes t) (x : s.Idx → EReal) (v : EReal) (j : t.Idx) (i : s.Idx)
    (hi : h.drop i = j) (hu : ∀ i', h.drop i' = j → i' = i) : Ideal.hostReduceAdd h x v j = v + x i := by
  unfold Ideal.hostReduceAdd
  rw [show Finset.univ.filter (fun i' => h.drop i' = j) = {i} from Finset.ext fun a => by
    simp only [Finset.mem_filter, Finset.mem_univ, true_and, Finset.mem_singleton]
    exact ⟨hu a, fun e => e ▸ hi⟩, Finset.sum_singleton]

theorem reduce_d0_3 (x : FVec Ideal S1x4x64x1 .f32) (v : EReal) (e : Fin 4) (d : Fin 64) :
    Ideal.hostReduceAdd reducesTo_S1x4x64x1_S4x64_d0_3 x v (ix2 e d) = v + x (ix4 (0 : Fin 1) e d (0 : Fin 1)) := by
  refine reduce_unique _ x v _ _ ?_ ?_
  · funext a; fin_cases a <;> rfl
  · intro i hi
    funext a
    fin_cases a
    · exact Subsingleton.elim (α := Fin 1) _ _
    · exact congrFun hi 0
    · exact congrFun hi 1
    · exact Subsingleton.elim (α := Fin 1) _ _
theorem reduce_d0_2 (x : FVec Ideal S1x64x1x4x64 .f32) (v : EReal) (n : Fin 64) (e : Fin 4) (d : Fin 64) :
    Ideal.hostReduceAdd reducesTo_S1x64x1x4x64_S64x4x64_d0_2 x v (ix3 n e d) = v + x (ix5 (0 : Fin 1) n (0 : Fin 1) e d) := by
  refine reduce_unique _ x v _ _ ?_ ?_
  · funext a; fin_cases a <;> rfl
  · intro i hi
    funext a
    fin_cases a
    · exact Subsingleton.elim (α := Fin 1) _ _
    · exact congrFun hi 0
    · exact Subsingleton.elim (α := Fin 1) _ _
    · exact congrFun hi 1
    · exact congrFun hi 2
theorem reduce_d0_1 (x : FVec Ideal S1x1x256 .f32) (v : EReal) (d : Fin 256) :
    Ideal.hostReduceAdd reducesTo_S1x1x256_S256_d0_1 x v (ix1 d) = v + x (ix3 (0 : Fin 1) (0 : Fin 1) d) := by
  refine reduce_unique _ x v _ _ ?_ ?_
  · funext a; fin_cases a <;> rfl
  · intro i hi
    funext a
    fin_cases a
    · exact Subsingleton.elim (α := Fin 1) _ _
    · exact Subsingleton.elim (α := Fin 1) _ _
    · exact congrFun hi 0
end Cert.Gla
-- ==== Proof.RefVal2.lean ====
module

public import proofs.«01_k».proof.Proof.RefVal1
public import proofs.«01_k».proof.Proof.Slot
public import proofs.«01_k».proof.Proof.UnitSum

/-! The loop over the chunks from the last to the first: the adjoint of the state it keeps of every chunk, and the adjoint of the chunk's decay. -/

@[expose] public section

set_option maxRecDepth 16384
set_option maxHeartbeats 0

noncomputable section

namespace Cert.ReferenceIdeal.Run

open Cert.ReferenceIdeal Cert.ReferenceIdeal.Gen Cert.ReferenceIdeal.Ops Cert.Gla
open Idealize.ShloMosaic Idealize.ShloMosaic.TcCoe Idealize.ShloMosaic.Tactic
open Idealize.ShloMosaic.StableHlo
open Finset (range Ico)

namespace Loop1

open Cert.ReferenceIdeal.Loop1

/-- What holds before turn `k` of the loop over the chunks from the last to the first: it has seen the last `k` of them. -/
structure Inv (D : Data) (m : (ℓ : Loc nD τ sig) → Buf (Elt Ideal) ℓ) (c : Dev nD) (k : ℕ) (V : Valuation τ sig (Elt Ideal)) : Prop where
  a0 : V (Proc.devRef .tc main_v63_0) = v59 m c
  a1 : V (Proc.devRef .tc main_v63_1) = v43_4 m c
  a2 : V (Proc.devRef .tc main_v63_2) = v43_5 m c
  a3 : V (Proc.devRef .tc main_v63_3) = fun _ => BitVec.ofNat 32 k
  a4 : ∀ (z : Fin 1) (h : Fin 4) (d : Fin 64) (w : Fin 128), (V (Proc.devRef .tc main_v63_4) : FVec Ideal S1x4x64x128 .f32) (ix4 z h d w) = D.H k w (64 * h + d)
  a5 : ∀ (n : Fin 64) (z : Fin 1) (h : Fin 4) (d : Fin 64), 64 - k ≤ (n : ℕ) →
    (V (Proc.devRef .tc main_v63_5) : FVec Ideal S64x1x4x64 .f32) (ix4 n z h d) = ∑ w ∈ range 128, D.H (63 - n) w (64 * h + d) * D.S n w (64 * h + d)
  a6 : ∀ (n : Fin 64) (z : Fin 1) (h : Fin 4) (d : Fin 64) (w : Fin 128), 64 - k ≤ (n : ℕ) →
    (V (Proc.devRef .tc main_v63_6) : FVec Ideal S64x1x4x64x128 .f32) (ix5 n z h d w) = D.H (63 - n) w (64 * h + d)

variable {D : Data} {m : (ℓ : Loc nD τ sig) → Buf (Elt Ideal) ℓ} {c : Dev nD} (I : InAt D m c)
include I

theorem inv_zero : Inv D m c 0 (entry m c) where
  a0 := by rw [i_v63_0, id_eq]
  a1 := by rw [i_v63_1, id_eq]
  a2 := by rw [i_v63_2, id_eq]
  a3 := by rw [i_v63_3, id_eq, e_c_10]; rfl
  a4 z h d w := by rw [i_v63_4, id_eq, e_v60, e_cst_7]; pointwise; rfl
  a5 n z h d hn := absurd hn (by have := n.isLt; omega)
  a6 n z h d w hn := absurd hn (by have := n.isLt; omega)

omit I in
/-- The chunk of this turn, counted from the last. -/
theorem back (k : Fin 64) {V : Valuation τ sig (Elt Ideal)} (h : V (Proc.devRef .tc main_v63_3) = fun _ => BitVec.ofNat 32 k) :
    res_main_while1b_v130 V = fun _ => BitVec.ofNat 32 k.rev := by
  unfold res_main_while1b_v130
  rw [h]
  funext i
  show (64#32 - BitVec.ofNat 32 k) - 1#32 = _
  clear h
  revert k; decide +kernel

omit I in
theorem rev_eq (k : Fin 64) : (k.rev : ℕ) = 63 - k := by rw [Fin.val_rev]; omega

theorem inv_succ (k : Fin 64) {V : Valuation τ sig (Elt Ideal)} (h : Inv D m c k V) : Inv D m c (k + 1) (STEP V) where
  a0 := (STEP_main_v63_0 V).trans h.a0
  a1 := (STEP_main_v63_1 V).trans h.a1
  a2 := (STEP_main_v63_2 V).trans h.a2
  a3 := by
    rw [STEP_main_v63_3, step_main_v63_3, h.a3]
    funext i
    exact (BitVec.ofNat_add (k : ℕ) 1).symm
  a4 z e d w := by
    rw [STEP_main_v63_4, step_main_v63_4, id_eq, h.a0, h.a2, back k h.a3, slice5 _ _ _ k.rev, slice5 _ _ _ k.rev]
    rotate_left
    · exact start5 k.rev _ rfl
    · exact start5 k.rev _ rfl
    pointwise
    rw [h.a4, pick5_at, pick5_at, a_v59 I, a_v43_5 I, Data.H, hd _ d.isLt, rev_eq, add_comm]
  a5 n z e d hn := by
    rw [STEP_main_v63_5, step_main_v63_5, id_eq, h.a1, back k h.a3, put4 _ _ _ _ k.rev, slice5 _ _ _ k.rev]
    rotate_left
    · exact start5 k.rev _ rfl
    · exact start4 k.rev _ rfl
    split
    · rename_i hk
      have hk' : 63 - (n : ℕ) = k := by have := rev_eq k; have := k.isLt; rw [hk]; omega
      pointwise
      rw [reduce_d0_3]
      pointwise
      simp only [h.a4, pick5_at, a_v43_4 I]
      rw [hk', Finset.sum_range, ← hk]
    · rename_i hk
      exact h.a5 n z e d (by have : (n : ℕ) ≠ k.rev := fun h => hk (Fin.ext h); have := rev_eq k; omega)
  a6 n z e d w hn := by
    rw [STEP_main_v63_6, step_main_v63_6, id_eq, back k h.a3, put5 _ _ _ _ k.rev]
    rotate_left
    · exact start5 k.rev _ rfl
    split
    · rename_i hk
      have hk' : 63 - (n : ℕ) = k := by have := rev_eq k; have := k.isLt; rw [hk]; omega
      pointwise
      rw [h.a4, hk']
    · rename_i hk
      exact h.a6 n z e d w (by have : (n : ℕ) ≠ k.rev := fun h => hk (Fin.ext h); have := rev_eq k; omega)

theorem inv_all : ∀ k : ℕ, k ≤ 64 → Inv D m c k (STEP^[k] (entry m c))
  | 0, _ => inv_zero I
  | k + 1, hk => by rw [Function.iterate_succ_apply']; exact inv_succ I ⟨k, hk⟩ (inv_all k (by omega))

end Loop1

variable {D : Data} {m : (ℓ : Loc nD τ sig) → Buf (Elt Ideal) ℓ} {c : Dev nD} (I : InAt D m c)

/-- A loop result, as the loop leaves it. -/
theorem loop1_last (b : Ref sig .tc) (h : b ∉ main_part1_ops1_W ++ later11) (hc : b ∉ Loop1.condOps_W) (hb : b ∈ Loop1.carriedRefs) :
    last m c (Proc.devRef .tc b) = (Loop1.STEP^[64] (Loop1.entry m c)) (Proc.devRef .tc b) := by
  have e : ∀ V : Valuation τ sig (Elt Ideal), after Loop1.condOps V (Proc.devRef .tc b) = V (Proc.devRef .tc b) := fun V => after_of_writes_sub _ V Loop1.condOps_writes hc
  rw [at11 m c b (off h).2, after_of_writes_sub main_part1_ops1 _ main_part1_ops1_writes (off h).1]
  exact (e _).trans (Loop1.atK_agree m c 64 b hb)

include I
theorem a_v63_5 (n : Fin 64) (z : Fin 1) (h : Fin 4) (d : Fin 64) :
    v63_5 m c (ix4 n z h d) = ∑ w ∈ range 128, D.H (63 - n) w (64 * h + d) * D.S n w (64 * h + d) := by
  have e : v63_5 m c = (Loop1.STEP^[64] (Loop1.entry m c)) (Proc.devRef .tc main_v63_5) := loop1_last main_v63_5 (by decide +kernel) (by decide +kernel) (by decide +kernel)
  rw [e]
  exact (Loop1.inv_all I 64 le_rfl).a5 n z h d (Nat.zero_le _)
theorem a_v63_6 (n : Fin 64) (z : Fin 1) (h : Fin 4) (d : Fin 64) (w : Fin 128) : v63_6 m c (ix5 n z h d w) = D.H (63 - n) w (64 * h + d) := by
  have e : v63_6 m c = (Loop1.STEP^[64] (Loop1.entry m c)) (Proc.devRef .tc main_v63_6) := loop1_last main_v63_6 (by decide +kernel) (by decide +kernel) (by decide +kernel)
  rw [e]
  exact (Loop1.inv_all I 64 le_rfl).a6 n z h d w (Nat.zero_le _)

end Cert.ReferenceIdeal.Run
-- ==== Proof.RefVal3.lean ====
module

public import proofs.«01_k».proof.Proof.RefVal2
public import proofs.«01_k».proof.Proof.Slot
public import proofs.«01_k».proof.Proof.UnitSum

/-! What the reference's seven results are, entry by entry. -/

@[expose] public section

set_option maxRecDepth 16384
set_option maxHeartbeats 0

noncomputable section

namespace Cert.ReferenceIdeal.Run

open Cert.ReferenceIdeal Cert.ReferenceIdeal.Gen Cert.ReferenceIdeal.Ops Cert.Gla
open Idealize.ShloMosaic Idealize.ShloMosaic.TcCoe Idealize.ShloMosaic.Tactic
open Idealize.ShloMosaic.StableHlo
open Finset (range Ico)

/-- A sum over all rows is the sum over the chunks of the sums over their rows. -/
theorem sum_rows (f : ℕ → ℕ → EReal) : ∑ t : Fin 4096, f ((t : ℕ) / 64) ((t : ℕ) % 64) = ∑ n ∈ range 64, ∑ r ∈ range 64, f n r := by
  rw [Fin.sum_univ_eq_sum_range (fun t => f (t / 64) (t % 64)) 4096, ← Finset.sum_product']
  refine Finset.sum_bij' (fun t _ => (t / 64, t % 64)) (fun p _ => 64 * p.1 + p.2) ?_ ?_ ?_ ?_ ?_
  · intro t ht; simp only [Finset.mem_product, Finset.mem_range] at ht ⊢; omega
  · intro p hp; simp only [Finset.mem_product, Finset.mem_range] at hp ⊢; omega
  · intro t ht; show 64 * (t / 64) + t % 64 = t; omega
  · intro p hp
    simp only [Finset.mem_product, Finset.mem_range] at hp
    exact Prod.ext (by show (64 * p.1 + p.2) / 64 = p.1; omega) (by show (64 * p.1 + p.2) % 64 = p.2; omega)
  · intro t ht; rfl

variable {D : Data} {m : (ℓ : Loc nD τ sig) → Buf (Elt Ideal) ℓ} {c : Dev nD} (I : InAt D m c)
include I

theorem a_v44 (z : Fin 1) (n : Fin 64) (h : Fin 4) (d : Fin 64) (w : Fin 128) : v44 m c (ix5 z n h d w) = D.S n w (64 * h + d) := by
  rw [e_v44]; pointwise; rw [a_v43_4 I]
theorem a_v64 (z : Fin 1) (n : Fin 64) (h : Fin 4) (d : Fin 64) (w : Fin 128) : v64 m c (ix5 z n h d w) = D.H (63 - n) w (64 * h + d) := by
  rw [e_v64]; pointwise; rw [a_v63_6 I]
theorem a_v65 (z : Fin 1) (n : Fin 64) (h : Fin 4) (d : Fin 64) : v65 m c (ix4 z n h d) = ∑ w ∈ range 128, D.H (63 - n) w (64 * h + d) * D.S n w (64 * h + d) := by
  rw [e_v65]; pointwise; rw [a_v63_5 I]
theorem a_v47 (z : Fin 1) (n r : Fin 64) (h : Fin 4) (w : Fin 128) : v47 m c (ix5 z n r h w) = D.o n h r w := by
  rw [e_v47, e_v46, e_v45]; pointwise; simp only [a_v44 I, a_v21 I]; rw [a_v30 I, Data.o]
  congr 1; rw [Finset.sum_range]; exact Finset.sum_congr rfl fun _ _ => mul_comm _ _
theorem a_v90 (z : Fin 1) (n r : Fin 64) (h : Fin 4) (d : Fin 64) : v90 m c (ix5 z n r h d) = D.dqt n r (64 * h + d) := by
  rw [e_v90, e_v56, e_v55]; pointwise; simp only [a_v54 I, a_v44 I]; rw [a_v89 I, Data.dqt, hd _ d.isLt, add_comm]
  rw [Finset.sum_range (n := 128)]
theorem a_v84 (z : Fin 1) (n s : Fin 64) (h : Fin 4) (w : Fin 128) : v84 m c (ix5 z n s h w) = D.dv n h s w := by
  rw [e_v84, e_v68, e_v67]; pointwise; simp only [a_v64 I, a_v35 I]; rw [a_v83 I, Data.dv, add_comm]
  congr 1; rw [Finset.sum_range]; exact Finset.sum_congr rfl fun _ _ => mul_comm _ _
theorem a_v70 (z : Fin 1) (n s : Fin 64) (h : Fin 4) (d : Fin 64) : v70 m c (ix5 z n s h d) = D.dke n s (64 * h + d) := by
  rw [e_v70, e_v69]; pointwise; simp only [a_v64 I, a_v8 I]; rw [Data.dke, hd _ d.isLt, Finset.sum_range]; exact Finset.sum_congr rfl fun _ _ => mul_comm _ _
theorem a_v73 (z : Fin 1) (n s : Fin 64) (h : Fin 4) (d : Fin 64) : v73 m c (ix5 z n s h d) = D.dke n s (64 * h + d) * D.ke n s (64 * h + d) := by
  rw [e_v73, e_v71]; pointwise; rw [a_v7 I, a_v70 I, a_v34 I, mul_comm (D.k _ _), mul_assoc]; rfl
theorem a_v93 (z : Fin 1) (n s : Fin 64) (h : Fin 4) (d : Fin 64) : v93 m c (ix5 z n s h d) = D.dk n s (64 * h + d) := by
  rw [e_v93, e_v72, e_v92]; pointwise; rw [a_v70 I, a_v34 I, a_v87 I, a_v23 I, Data.dk, add_comm]
theorem a_v94 (z : Fin 1) (n s : Fin 64) (h : Fin 4) (d : Fin 64) : v94 m c (ix5 z n s h d) = D.dkt n s (64 * h + d) * D.kt n s (64 * h + d) := by
  rw [e_v94, e_v91]; pointwise; rw [a_v7 I, a_v87 I, a_v23 I, mul_comm (D.k _ _), mul_assoc]; rfl
theorem a_v98 (z : Fin 1) (n s : Fin 64) (h : Fin 4) (d : Fin 64) : v98 m c (ix5 z n s h d) = D.dqt n s (64 * h + d) * Ideal.exp (D.bc n s (64 * h + d)) := by
  rw [e_v98]; pointwise; rw [a_v90 I, a_v20 I]
theorem a_v99 (z : Fin 1) (n s : Fin 64) (h : Fin 4) (d : Fin 64) : v99 m c (ix5 z n s h d) = D.dqt n s (64 * h + d) * D.qt n s (64 * h + d) := by
  rw [e_v99, e_v97]; pointwise; rw [a_v6 I, a_v90 I, a_v20 I, mul_comm (D.q _ _ * c8), mul_assoc]; rfl
theorem a_v79 (z : Fin 1) (n : Fin 64) (h : Fin 4) (d : Fin 64) : v79 m c (ix4 z n h d) = D.dbl n (64 * h + d) := by
  rw [e_v79, e_v66, e_v78, e_v77, e_cst_12]; pointwise
  rw [reduce_d0_2, e_v75]; pointwise; rw [e_v74, e_cst_11]; pointwise
  simp only [a_v73 I]
  rw [a_v65 I, a_v37 I, Data.dbl, add_comm, Finset.sum_range (n := 64)]
theorem a_v102 (z : Fin 1) (n s : Fin 64) (h : Fin 4) (d : Fin 64) : v102 m c (ix5 z n s h d) = if (s : ℕ) = 63 then D.dbl n (64 * h + d) else 0 := by
  rw [e_v102, e_cst_13]; pointwise
  have hs := s.isLt
  by_cases h63 : (s : ℕ) = 63
  · rw [dif_pos (by omega), if_pos h63, e_v101]; pointwise; rw [a_v79 I]
  · rw [dif_neg (by omega), if_neg h63]
theorem a_v103 (z : Fin 1) (n s : Fin 64) (h : Fin 4) (d : Fin 64) : v103 m c (ix5 z n s h d) = D.db n s (64 * h + d) := by
  rw [e_v103, e_v100, e_v96, e_v76, e_v95]; pointwise; rw [a_v73 I, a_v94 I, a_v99 I, a_v102 I, Data.db, sub_eq_add_neg, sub_eq_add_neg]
  congr 1
  rw [add_comm, add_comm (-_) (-_), add_assoc]
theorem a_v104 (z : Fin 1) (n s : Fin 64) (h : Fin 4) (d : Fin 64) : v104 m c (ix5 z n s h d) = D.dla n s (64 * h + d) := by
  rw [e_v104]
  exact window_high _ _ _ _ (fun i => by rw [e_call14_call0_v0, e_call14_call0_cst]; pointwise) z n s h d (fun i => D.db n i (64 * h + d)) fun s' => a_v103 I z n s' h d
theorem a_v105 (z : Fin 1) (t : Fin 4096) (j : Fin 256) : v105 m c (ix3 z t j) = D.dla ((t : ℕ) / 64) ((t : ℕ) % 64) j := by
  rw [e_v105]; pointwise; rw [a_v104 I]; congr 1 <;> (dsimp only; omega)
theorem a_v108 (z : Fin 1) (t : Fin 4096) (j : Fin 256) : v108 m c (ix3 z t j) = D.dpre ((t : ℕ) / 64) ((t : ℕ) % 64) j := by
  rw [e_v108, e_call15_v1, e_call15_v0, e_v107, e_v106, e_cst_14]; pointwise
  rw [a_v13_1 I, a_v105 I, div_sixteen, Data.dpre, zero_sub, show 64 * ((t : ℕ) / 64) + (t : ℕ) % 64 = t from Nat.div_add_mod _ _]
  rw [EReal.neg_mul, neg_neg]; rfl

/-! The seven results. -/

theorem r_o (t : Fin 4096) (j : Fin 512) : v49 m c (ix2 t j) = D.o ((t : ℕ) / 64) ((j : ℕ) / 128) ((t : ℕ) % 64) ((j : ℕ) % 128) := by
  rw [e_v49, e_v48]; pointwise; rw [a_v47 I]
theorem r_dq (t : Fin 4096) (j : Fin 256) : v125 m c (ix2 t j) = D.dq ((t : ℕ) / 64) ((t : ℕ) % 64) j := by
  rw [e_v125, e_v124, e_cst_21]; pointwise; rw [e_v120, e_v119]; pointwise; rw [e_v118, e_cst_17]; pointwise
  rw [Fin.sum_univ_one, a_v98 I]; dsimp only; rw [Nat.div_add_mod]; rfl
theorem r_dk (t : Fin 4096) (j : Fin 256) : v126 m c (ix2 t j) = D.dk ((t : ℕ) / 64) ((t : ℕ) % 64) j := by
  rw [e_v126, e_v123, e_cst_20]; pointwise; rw [e_v117]; pointwise
  rw [Fin.sum_univ_one, a_v93 I]; dsimp only; rw [Nat.div_add_mod]
theorem r_dv (t : Fin 4096) (j : Fin 512) : v127 m c (ix2 t j) = D.dv ((t : ℕ) / 64) ((j : ℕ) / 128) ((t : ℕ) % 64) ((j : ℕ) % 128) := by
  rw [e_v127, e_v122, e_cst_19]; pointwise; rw [e_v116]; pointwise
  rw [Fin.sum_univ_one, a_v84 I]
theorem r_dal (t : Fin 4096) (i : Fin 16) : v128 m c (ix2 t i) = D.dal ((t : ℕ) / 64) ((t : ℕ) % 64) i := by
  rw [e_v128, e_v121, e_cst_18]; pointwise; rw [e_v115]; pointwise
  rw [Fin.sum_univ_one]; simp only [a_v108 I, I.wu]; rw [Data.dal, Finset.sum_range]
theorem r_dwu (i : Fin 16) (j : Fin 256) : v114 m c (ix2 i j) = D.dwu i j := by
  rw [e_v114, e_v113]; pointwise
  rw [Fin.sum_univ_one]; simp only [a_v108 I, a_v3 I]
  rw [Data.dwu]
  simp only [Data.dwuC]
  rw [← sum_rows fun n r => D.al (64 * n + r) i * D.dpre n r j]
  refine Finset.sum_congr rfl fun t _ => ?_
  rw [Nat.div_add_mod, mul_comm]
theorem r_dbu (z : Fin 1) (j : Fin 256) : v112 m c (ix2 z j) = D.dbu j := by
  rw [e_v112, e_v111, e_cst_16]; pointwise; rw [reduce_d0_1, e_v110]; pointwise; rw [e_v109, e_cst_15]; pointwise
  simp only [a_v108 I]
  exact sum_rows fun n r => D.dpre n r j

end Cert.ReferenceIdeal.Run
-- ==== Proof.Value.lean ====
module

public import proofs.«01_k».proof.Defs
public import proofs.«01_k».proof.Proof.Run
public import proofs.«01_k».proof.Proof.Val1
public import proofs.«01_k».proof.Proof.RefVal3

/-! The kernel and the reference compute the same seven arrays. Both runs are read through one description of the mathematics,
the functions of `Data`: the data are the kernel's arguments, and each program's final arrays are those functions' values. -/

@[expose] public section

set_option maxRecDepth 16384
set_option maxHeartbeats 0

noncomputable section

/-! What the kernel's two calls leave. -/
namespace Cert.KernelIdeal.Gla

open Cert.KernelIdeal.Gen Cert.Gla
open Idealize.ShloMosaic Idealize.ShloMosaic.TcCoe Idealize.ShloMosaic.Tactic

/-- A matrix as a function of two numbers, zero outside it. -/
def entry {a b : ℕ} {φ : FTy} (X : FVec Ideal ⟨2, ![a, b]⟩ φ) (i j : ℕ) : EReal :=
  if h : i < a ∧ j < b then X (ix2 ⟨i, h.1⟩ ⟨j, h.2⟩) else 0

theorem is_entry {a b : ℕ} {φ : FTy} (X : FVec Ideal ⟨2, ![a, b]⟩ φ) : Is X (entry X) := fun i j => by
  rw [entry, dif_pos ⟨i.isLt, j.isLt⟩]

variable (m : (ℓ : Loc nD τ sig) → Buf (Elt Ideal) ℓ) (ρ : Dev nD → PrngReg) (c : Dev nD)

/-- The data: the seven arguments the kernel is launched on. -/
def dataOf : Data where
  q := entry (a := 4096) (b := 256) (φ := .f32) (m ((c.tc : Thread nD τ).loc main_arg0))
  k := entry (a := 4096) (b := 256) (φ := .f32) (m ((c.tc : Thread nD τ).loc main_arg1))
  v := entry (a := 4096) (b := 512) (φ := .f32) (m ((c.tc : Thread nD τ).loc main_arg2))
  al := entry (a := 4096) (b := 16) (φ := .f32) (m ((c.tc : Thread nD τ).loc main_arg3))
  wu := entry (a := 16) (b := 256) (φ := .f32) (m ((c.tc : Thread nD τ).loc main_arg4))
  bu := entry (a := 1) (b := 256) (φ := .f32) (m ((c.tc : Thread nD τ).loc main_arg5)) 0
  g := entry (a := 4096) (b := 512) (φ := .bf16) (m ((c.tc : Thread nD τ).loc main_arg6))

/-- At any contents with the launch's arguments, the arguments are the data. -/
theorem args_of (V : (c : Dev nD) → (b : Ref sig .tc) → Buf (Elt Ideal) ((c : Thread nD τ).loc b))
    (h : ∀ a ∈ argRefs, V c a = m ((c.tc : Thread nD τ).loc a)) : ArgsAt V (dataOf m c) c where
  q := by rw [h main_arg0 (by decide)]; exact is_entry (a := 4096) (b := 256) (φ := .f32) _
  k := by rw [h main_arg1 (by decide)]; exact is_entry (a := 4096) (b := 256) (φ := .f32) _
  v := by rw [h main_arg2 (by decide)]; exact is_entry (a := 4096) (b := 512) (φ := .f32) _
  al := by rw [h main_arg3 (by decide)]; exact is_entry (a := 4096) (b := 16) (φ := .f32) _
  wu := by rw [h main_arg4 (by decide)]; exact is_entry (a := 16) (b := 256) (φ := .f32) _
  bu := by
    rw [h main_arg5 (by decide)]
    intro i j
    have e := is_entry (a := 1) (b := 256) (φ := .f32) (m ((c.tc : Thread nD τ).loc main_arg5)) i j
    rwa [Fin.val_eq_zero i] at e
  g := by rw [h main_arg6 (by decide)]; exact is_entry (a := 4096) (b := 512) (φ := .bf16) _

theorem args0 : ArgsAt (V0 m ρ) (dataOf m c) c := args_of m c _ fun a ha => W0_args m ρ c a ha

/-- The backward call reads the arguments and the states the forward call wrote. -/
theorem reads1 : ReadsAt (V1 m ρ) (dataOf m c) c where
  toArgsAt := args_of m c _ fun a ha => W1_args m ρ c a ha
  st := fun n w κ => congrFun ((W1_arr m ρ c 7).trans (s_arr _ (args0 m ρ c))) (ix3 n w κ)

/-- The forward call's output is not touched by the backward call. -/
theorem out_o : W2 m ρ c (Proc.devRef .tc main_v0_0)
    = fun i : S4096x512.Idx => (dataOf m c).o ((i 0 : ℕ) / 64) ((i 1 : ℕ) / 128) ((i 0 : ℕ) % 64) ((i 1 : ℕ) % 128) :=
  (W2_of_ne m ρ c main_v0_0 (by decide)).trans ((W1_arr m ρ c 6).trans (o_arr _ (args0 m ρ c)))
theorem out_dq : W2 m ρ c (Proc.devRef .tc main_v1_0) = fun i : S4096x256.Idx => (dataOf m c).dq ((i 0 : ℕ) / 64) ((i 0 : ℕ) % 64) (i 1) :=
  (W2_arr m ρ c 8).trans (dq_arr _ (reads1 m ρ c))
theorem out_dk : W2 m ρ c (Proc.devRef .tc main_v1_1) = fun i : S4096x256.Idx => (dataOf m c).dk ((i 0 : ℕ) / 64) ((i 0 : ℕ) % 64) (i 1) :=
  (W2_arr m ρ c 9).trans (dk_arr _ (reads1 m ρ c))
theorem out_dv : W2 m ρ c (Proc.devRef .tc main_v1_2)
    = fun i : S4096x512.Idx => (dataOf m c).dv ((i 0 : ℕ) / 64) ((i 1 : ℕ) / 128) ((i 0 : ℕ) % 64) ((i 1 : ℕ) % 128) :=
  (W2_arr m ρ c 10).trans (dv_arr _ (reads1 m ρ c))
theorem out_dal : W2 m ρ c (Proc.devRef .tc main_v1_3) = fun i : S4096x16.Idx => (dataOf m c).dal ((i 0 : ℕ) / 64) ((i 0 : ℕ) % 64) (i 1) :=
  (W2_arr m ρ c 11).trans (dal_arr _ (reads1 m ρ c))
theorem out_dwu : W2 m ρ c (Proc.devRef .tc main_v1_4) = fun i : S16x256.Idx => (dataOf m c).dwu (i 0) (i 1) :=
  (W2_arr m ρ c 12).trans (wu_arr _ (reads1 m ρ c))
theorem out_dbu : W2 m ρ c (Proc.devRef .tc main_v1_5) = fun i : S1x256.Idx => (dataOf m c).dbu (i 1) :=
  (W2_arr m ρ c 13).trans (bu_arr _ (reads1 m ρ c))

end Cert.KernelIdeal.Gla

/-! What the reference leaves, as whole arrays. -/
namespace Cert.ReferenceIdeal.Run

open Cert.ReferenceIdeal.Gen Cert.Gla
open Idealize.ShloMosaic Idealize.ShloMosaic.TcCoe Idealize.ShloMosaic.Tactic

/-- Two matrices with the same entries are one. -/
theorem mat_ext {a b : ℕ} {φ : FTy} {X : FVec Ideal ⟨2, ![a, b]⟩ φ} {f : (⟨2, ![a, b]⟩ : Shape).Idx → EReal}
    (h : ∀ (i : Fin a) (j : Fin b), X (ix2 i j) = f (ix2 i j)) : X = f := funext fun x => by
  have e := h (x 0) (x 1)
  rwa [← eq_ix2 x] at e

variable {D : Data} {m : (ℓ : Loc nD τ sig) → Buf (Elt Ideal) ℓ} {c : Dev nD} (I : InAt D m c)
include I

theorem end_o : last m c (Proc.devRef .tc main_v49)
    = fun i : S4096x512.Idx => D.o ((i 0 : ℕ) / 64) ((i 1 : ℕ) / 128) ((i 0 : ℕ) % 64) ((i 1 : ℕ) % 128) :=
  mat_ext (a := 4096) (b := 512) (φ := .f32) fun t j => r_o I t j
theorem end_dq : last m c (Proc.devRef .tc main_v125) = fun i : S4096x256.Idx => D.dq ((i 0 : ℕ) / 64) ((i 0 : ℕ) % 64) (i 1) :=
  mat_ext (a := 4096) (b := 256) (φ := .f32) fun t j => r_dq I t j
theorem end_dk : last m c (Proc.devRef .tc main_v126) = fun i : S4096x256.Idx => D.dk ((i 0 : ℕ) / 64) ((i 0 : ℕ) % 64) (i 1) :=
  mat_ext (a := 4096) (b := 256) (φ := .f32) fun t j => r_dk I t j
theorem end_dv : last m c (Proc.devRef .tc main_v127)
    = fun i : S4096x512.Idx => D.dv ((i 0 : ℕ) / 64) ((i 1 : ℕ) / 128) ((i 0 : ℕ) % 64) ((i 1 : ℕ) % 128) :=
  mat_ext (a := 4096) (b := 512) (φ := .f32) fun t j => r_dv I t j
theorem end_dal : last m c (Proc.devRef .tc main_v128) = fun i : S4096x16.Idx => D.dal ((i 0 : ℕ) / 64) ((i 0 : ℕ) % 64) (i 1) :=
  mat_ext (a := 4096) (b := 16) (φ := .f32) fun t j => r_dal I t j
theorem end_dwu : last m c (Proc.devRef .tc main_v114) = fun i : S16x256.Idx => D.dwu (i 0) (i 1) :=
  mat_ext (a := 16) (b := 256) (φ := .f32) fun t j => r_dwu I t j
theorem end_dbu : last m c (Proc.devRef .tc main_v112) = fun i : S1x256.Idx => D.dbu (i 1) :=
  mat_ext (a := 1) (b := 256) (φ := .f32) fun t j => r_dbu I t j

end Cert.ReferenceIdeal.Run

namespace Cert.Proof

open Idealize.ShloMosaic Idealize.ShloMosaic.TcCoe Idealize.SL.Sem

/-- The reference launched on the kernel's arguments is launched on the data. -/
theorem in_of {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Run.InAt (Cert.KernelIdeal.Gla.dataOf m c) m' c := by
  obtain ⟨h0, h1, h2, h3, h4, h5, h6⟩ := h
  have k0 := (Cert.ReferenceIdeal.Run.arg_keep (F := Ideal) m' Cert.ReferenceIdeal.main_arg0 (by decide) c).trans h0
  have k1 := (Cert.ReferenceIdeal.Run.arg_keep (F := Ideal) m' Cert.ReferenceIdeal.main_arg1 (by decide) c).trans h1
  have k2 := (Cert.ReferenceIdeal.Run.arg_keep (F := Ideal) m' Cert.ReferenceIdeal.main_arg2 (by decide) c).trans h2
  have k3 := (Cert.ReferenceIdeal.Run.arg_keep (F := Ideal) m' Cert.ReferenceIdeal.main_arg3 (by decide) c).trans h3
  have k4 := (Cert.ReferenceIdeal.Run.arg_keep (F := Ideal) m' Cert.ReferenceIdeal.main_arg4 (by decide) c).trans h4
  have k5 := (Cert.ReferenceIdeal.Run.arg_keep (F := Ideal) m' Cert.ReferenceIdeal.main_arg5 (by decide) c).trans h5
  have k6 := (Cert.ReferenceIdeal.Run.arg_keep (F := Ideal) m' Cert.ReferenceIdeal.main_arg6 (by decide) c).trans h6
  have A := Cert.KernelIdeal.Gla.args_of m c (fun c b => m ((c.tc : Thread _ _).loc b)) fun _ _ => rfl
  exact ⟨fun i j => (congrFun k0 _).trans (A.q i j), fun i j => (congrFun k1 _).trans (A.k i j), fun i j => (congrFun k2 _).trans (A.v i j),
    fun i j => (congrFun k3 _).trans (A.al i j), fun i j => (congrFun k4 _).trans (A.wu i j), fun i j => (congrFun k5 _).trans (A.bu i j),
    fun i j => (congrFun k6 _).trans (A.g i j)⟩

/-- THE VALUE CLAIM: from the same arguments the two programs end with the same seven arrays: the output of the gated linear
    attention and the six gradients. -/
theorem algebraic : Cert.algebraic_KernelIdeal_ReferenceIdeal := fun m g m' g' _ hin =>
  ⟨fun c => Cert.KernelIdeal.Gla.W2 m g c (Proc.devRef .tc Cert.KernelIdeal.main_v0_0), fun c => Cert.KernelIdeal.Gla.W2 m g c (Proc.devRef .tc Cert.KernelIdeal.main_v1_0),
   fun c => Cert.KernelIdeal.Gla.W2 m g c (Proc.devRef .tc Cert.KernelIdeal.main_v1_1), fun c => Cert.KernelIdeal.Gla.W2 m g c (Proc.devRef .tc Cert.KernelIdeal.main_v1_2),
   fun c => Cert.KernelIdeal.Gla.W2 m g c (Proc.devRef .tc Cert.KernelIdeal.main_v1_3), fun c => Cert.KernelIdeal.Gla.W2 m g c (Proc.devRef .tc Cert.KernelIdeal.main_v1_4),
   fun c => Cert.KernelIdeal.Gla.W2 m g c (Proc.devRef .tc Cert.KernelIdeal.main_v1_5),
   (θ_run Cert.KernelIdeal.defs _ _).mono (fun _ h c =>
     ⟨h.1 c _ (Cert.KernelIdeal.Gla.mem_uc Cert.KernelIdeal.main_v0_0 (by decide)), h.1 c _ (Cert.KernelIdeal.Gla.mem_uc Cert.KernelIdeal.main_v1_0 (by decide)),
      h.1 c _ (Cert.KernelIdeal.Gla.mem_uc Cert.KernelIdeal.main_v1_1 (by decide)), h.1 c _ (Cert.KernelIdeal.Gla.mem_uc Cert.KernelIdeal.main_v1_2 (by decide)),
      h.1 c _ (Cert.KernelIdeal.Gla.mem_uc Cert.KernelIdeal.main_v1_3 (by decide)), h.1 c _ (Cert.KernelIdeal.Gla.mem_uc Cert.KernelIdeal.main_v1_4 (by decide)),
      h.1 c _ (Cert.KernelIdeal.Gla.mem_uc Cert.KernelIdeal.main_v1_5 (by decide)),
      (h.1 c _ (Cert.KernelIdeal.Gla.mem_uc Cert.KernelIdeal.main_arg0 (by decide))).trans (Cert.KernelIdeal.Gla.W2_main_arg0 m g c),
      (h.1 c _ (Cert.KernelIdeal.Gla.mem_uc Cert.KernelIdeal.main_arg1 (by decide))).trans (Cert.KernelIdeal.Gla.W2_main_arg1 m g c),
      (h.1 c _ (Cert.KernelIdeal.Gla.mem_uc Cert.KernelIdeal.main_arg2 (by decide))).trans (Cert.KernelIdeal.Gla.W2_main_arg2 m g c),
      (h.1 c _ (Cert.KernelIdeal.Gla.mem_uc Cert.KernelIdeal.main_arg3 (by decide))).trans (Cert.KernelIdeal.Gla.W2_main_arg3 m g c),
      (h.1 c _ (Cert.KernelIdeal.Gla.mem_uc Cert.KernelIdeal.main_arg4 (by decide))).trans (Cert.KernelIdeal.Gla.W2_main_arg4 m g c),
      (h.1 c _ (Cert.KernelIdeal.Gla.mem_uc Cert.KernelIdeal.main_arg5 (by decide))).trans (Cert.KernelIdeal.Gla.W2_main_arg5 m g c),
      (h.1 c _ (Cert.KernelIdeal.Gla.mem_uc Cert.KernelIdeal.main_arg6 (by decide))).trans (Cert.KernelIdeal.Gla.W2_main_arg6 m g c)⟩)
     (Cert.KernelIdeal.Gla.run (F := Ideal) m g),
   (θ_run Cert.ReferenceIdeal.defs _ _).mono (fun _ h c =>
     have I := in_of (hin c)
     ⟨((h c Cert.ReferenceIdeal.main_v49 rfl).trans (Cert.ReferenceIdeal.Run.end_o I)).trans (Cert.KernelIdeal.Gla.out_o m g c).symm,
      ((h c Cert.ReferenceIdeal.main_v125 rfl).trans (Cert.ReferenceIdeal.Run.end_dq I)).trans (Cert.KernelIdeal.Gla.out_dq m g c).symm,
      ((h c Cert.ReferenceIdeal.main_v126 rfl).trans (Cert.ReferenceIdeal.Run.end_dk I)).trans (Cert.KernelIdeal.Gla.out_dk m g c).symm,
      ((h c Cert.ReferenceIdeal.main_v127 rfl).trans (Cert.ReferenceIdeal.Run.end_dv I)).trans (Cert.KernelIdeal.Gla.out_dv m g c).symm,
      ((h c Cert.ReferenceIdeal.main_v128 rfl).trans (Cert.ReferenceIdeal.Run.end_dal I)).trans (Cert.KernelIdeal.Gla.out_dal m g c).symm,
      ((h c Cert.ReferenceIdeal.main_v114 rfl).trans (Cert.ReferenceIdeal.Run.end_dwu I)).trans (Cert.KernelIdeal.Gla.out_dwu m g c).symm,
      ((h c Cert.ReferenceIdeal.main_v112 rfl).trans (Cert.ReferenceIdeal.Run.end_dbu I)).trans (Cert.KernelIdeal.Gla.out_dbu m g c).symm,
      (h c Cert.ReferenceIdeal.main_arg0 rfl).trans (Cert.ReferenceIdeal.Run.arg_keep m' Cert.ReferenceIdeal.main_arg0 (by decide) c),
      (h c Cert.ReferenceIdeal.main_arg1 rfl).trans (Cert.ReferenceIdeal.Run.arg_keep m' Cert.ReferenceIdeal.main_arg1 (by decide) c),
      (h c Cert.ReferenceIdeal.main_arg2 rfl).trans (Cert.ReferenceIdeal.Run.arg_keep m' Cert.ReferenceIdeal.main_arg2 (by decide) c),
      (h c Cert.ReferenceIdeal.main_arg3 rfl).trans (Cert.ReferenceIdeal.Run.arg_keep m' Cert.ReferenceIdeal.main_arg3 (by decide) c),
      (h c Cert.ReferenceIdeal.main_arg4 rfl).trans (Cert.ReferenceIdeal.Run.arg_keep m' Cert.ReferenceIdeal.main_arg4 (by decide) c),
      (h c Cert.ReferenceIdeal.main_arg5 rfl).trans (Cert.ReferenceIdeal.Run.arg_keep m' Cert.ReferenceIdeal.main_arg5 (by decide) c),
      (h c Cert.ReferenceIdeal.main_arg6 rfl).trans (Cert.ReferenceIdeal.Run.arg_keep m' Cert.ReferenceIdeal.main_arg6 (by decide) c)⟩)
     (Cert.ReferenceIdeal.Run.run (F := Ideal) m' g')⟩

end Cert.Proof

end
-- ==== Proof.Dw.lean ====
module

public import proofs.«01_k».proof.Proof.ChunkAt
public import proofs.«01_k».proof.Proof.Gen.Kernel2Ideal.Value
public import proofs.«01_k».proof.Proof.Gen.Reference2Ideal.Run
public import Idealize.ShloMosaic.Lib.Pointwise
public import Idealize.ShloMosaic.Lib.Pipeline.ValueKit
public import Idealize.ShloMosaic.Lib.Pipeline.ReadBack

/-! The weight-gradient product: a block is eight partial products added one after the other. -/

@[expose] public section

set_option maxRecDepth 16384
set_option maxHeartbeats 0

noncomputable section

namespace Cert.Kernel2Ideal.Dw

open Cert.Kernel2Ideal Cert.Kernel2Ideal.Gen Cert.KernelIdeal.Gla
open Idealize.ShloMosaic Idealize.ShloMosaic.TcCoe Idealize.ShloMosaic.Tactic
open Idealize.ShloMosaic.Pipeline (Dat Cfg Window)
open Finset (range)

theorem inb0 (k : Fin 8) : ∀ a, (![0, 512 * k.val, 0] : Fin 3 → ℕ) a + (![1, 512, 256] : Fin 3 → ℕ) a ≤ S1x4096x256.size a := by
  revert k; decide +kernel

theorem inb1 (k : Fin 8) : ∀ a, (![512 * k.val, 0] : Fin 2 → ℕ) a + (![512, 1024] : Fin 2 → ℕ) a ≤ S4096x1024.size a := by
  revert k; decide +kernel

/-- One of the eight steps: 512 tokens' products join the sum. -/
def step (x0 : Vec Ideal S1x4096x256 .bf16) (x1 : Vec Ideal S4096x1024 .bf16) (k : Fin 8) (acc : Vec Ideal S256x1024 .f32) : FVec Ideal S256x1024 .f32 :=
  k0_pay1 (View.ld x0 (Rect.unit (s := S1x4096x256) ![0, 512 * k.val, 0] ![1, 512, 256] (inb0 k))) acc
    (View.ld x1 (Rect.unit (s := S4096x1024) ![512 * k.val, 0] ![512, 1024] (inb1 k)))

/-- The block of one grid point. -/
def blk (x0 : Vec Ideal S1x4096x256 .bf16) (x1 : Vec Ideal S4096x1024 .bf16) : FVec Ideal S256x1024 .bf16 :=
  k0_pay2 (step x0 x1 7 (step x0 x1 6 (step x0 x1 5 (step x0 x1 4 (step x0 x1 3 (step x0 x1 2 (step x0 x1 1 (step x0 x1 0 (k0_pay3 (F := Ideal))))))))))

theorem out_eq (c : Dev nD) (i : grid0.Coords) (arg1 : Memref sig .tc .vmem S1x4096x256 .bf16) (harg1 : arg1.IsWhole) (arg2 : Memref sig .tc .vmem S4096x1024 .bf16) (harg2 : arg2.IsWhole)
    (arg3 : Memref sig .tc .vmem S256x1024 .bf16) (harg3 : arg3.IsWhole) (arg4 : Memref sig .tc .vmem S256x1024 .f32) (harg4 : arg4.IsWhole)
    (x0 : Vec Ideal S1x4096x256 .bf16) (x1 : Vec Ideal S4096x1024 .bf16) :
    out0_A_2 (F := Ideal) c i arg1 harg1 arg2 harg2 arg3 harg3 arg4 harg4 x0 x1 = blk x0 x1 := by
  frame_out
  try simp (disch := decide) only [↓ View.readCov_skip, ↓ View.readCov_cons_toLoadRect, ↓ View.readCov_fill]
  rfl

section
variable {x0 : Vec Ideal S1x4096x256 .bf16} {x1 : Vec Ideal S4096x1024 .bf16} {A B : ℕ → ℕ → EReal}

theorem step_at (h0 : ∀ (s : Fin 4096) (i : Fin 256), x0 (ix3 (0 : Fin 1) s i) = A s i) (h1 : Is (φ := .bf16) x1 B) (k : Fin 8)
    {acc : Vec Ideal S256x1024 .f32} (ha : Is (φ := .f32) acc fun i j => ∑ s ∈ range (512 * k.val), A s i * B s j) :
    Is (step x0 x1 k acc) fun i j => ∑ s ∈ range (512 * (k.val + 1)), A s i * B s j := fun i j => by
  have hk := k.isLt
  pointwise [step, k0_pay1]
  rw [ha, mul_add, mul_one, Finset.sum_range_add]
  congr 1
  exact fsum _ (fun s => A (512 * k.val + s) i * B (512 * k.val + s) j) fun s => by rw [h0, h1]

theorem blk_at (h0 : ∀ (s : Fin 4096) (i : Fin 256), x0 (ix3 (0 : Fin 1) s i) = A s i) (h1 : Is (φ := .bf16) x1 B) :
    Is (blk x0 x1) fun i j => ∑ s ∈ range 4096, A s i * B s j := fun i j => by
  have z : Is (k0_pay3 (F := Ideal)) fun i j => ∑ s ∈ range (512 * 0), A s i * B s j := fun i j => by
    pointwise [k0_pay3]
    simp
  have e : blk x0 x1 (ix2 i j) = step x0 x1 7 (step x0 x1 6 (step x0 x1 5 (step x0 x1 4 (step x0 x1 3 (step x0 x1 2 (step x0 x1 1 (step x0 x1 0 (k0_pay3 (F := Ideal))))))))) (ix2 i j) := by
    pointwise [blk, k0_pay2]
  exact e.trans (step_at h0 h1 7 (step_at h0 h1 6 (step_at h0 h1 5 (step_at h0 h1 4 (step_at h0 h1 3 (step_at h0 h1 2 (step_at h0 h1 1 (step_at h0 h1 0 z))))))) i j)

end

variable (m : (ℓ : Loc nD τ sig) → Buf (Elt Ideal) ℓ)

/-- The saved gradients' entry of token `s` and hidden unit `i`. -/
def A (c : Dev nD) (s i : ℕ) : EReal :=
  if h : i / 256 < 11 ∧ s < 4096 then
    (m ((c : Thread nD τ).loc main_arg0) : S11x4096x256.Idx → EReal) (ix3 ⟨i / 256, h.1⟩ ⟨s, h.2⟩ ⟨i % 256, Nat.mod_lt _ (by omega)⟩)
  else 0

/-- The activations' entry of token `s` and coordinate `j`. -/
def B (c : Dev nD) (s j : ℕ) : EReal :=
  if h : s < 4096 ∧ j < 1024 then (m ((c : Thread nD τ).loc main_arg1) : S4096x1024.Idx → EReal) (ix2 ⟨s, h.1⟩ ⟨j, h.2⟩) else 0

/-- The weight gradient. -/
def G (c : Dev nD) (i j : ℕ) : EReal := ∑ s ∈ range 4096, A m c s i * B m c s j

theorem win_row : ∀ t : Fin cfg0.N, (cfg0.win 0).index t 0 = t.val ∧ (cfg0.win 0).index t 1 = 0 ∧ (cfg0.win 0).index t 2 = 0
    ∧ (cfg0.win 1).index t 0 = 0 ∧ (cfg0.win 1).index t 1 = 0 ∧ (cfg0.win 2).index t 0 = t.val ∧ (cfg0.win 2).index t 1 = 0 := by decide +kernel

theorem in_at (c : Dev nD) (t : Fin cfg0.N) :
    (∀ (s : Fin 4096) (i : Fin 256), iblk m c 0 t (ix3 (0 : Fin 1) s i) = A m c s (256 * t.val + i))
    ∧ Is (a := 4096) (b := 1024) (φ := .bf16) (iblk m c 1 t) (B m c) := by
  obtain ⟨a0, a1, a2, b0, b1, -⟩ := win_row t
  have ht : t.val < 11 := t.isLt
  refine ⟨fun s i => ?_, fun s j => ?_⟩
  · have e : iblk m c 0 t (ix3 (0 : Fin 1) s i) = m ((c : Thread nD τ).loc main_arg0) (ix3 (⟨t.val, ht⟩ : Fin 11) s i) := by
      blk_ext [iblk, a0, a1, a2]
    have hi := i.isLt
    rw [e, A, dif_pos ⟨by omega, s.isLt⟩]
    congr 2 <;> apply Fin.ext <;> dsimp only <;> omega
  · have e : iblk m c 1 t (ix2 s j) = m ((c : Thread nD τ).loc main_arg1) (ix2 s j) := by blk_ext [iblk, b0, b1]
    rw [e, B, dif_pos ⟨s.isLt, j.isLt⟩]

theorem arr (c : Dev nD) : (dats m 0 c).arrAt 2 cfg0.N = fun i : S2816x1024.Idx => G m c (i 0) (i 1) := by
  refine (dats m 0 c).arrAt_eq_of_covers 2 _ (by decide +kernel) fun t hf y => ?_
  obtain ⟨-, -, -, -, -, g0, g1⟩ := win_row t
  blk_simp [g0, g1]
  rw [after0_2]
  unfold outsAt0
  rw [out_eq]
  refine ((blk_at (A := fun s i => A m c s (256 * t.val + i)) (in_at m c t).1 (in_at m c t).2).idx y).trans ?_
  rw [mul_comm t.val 256]
  rfl

end Cert.Kernel2Ideal.Dw

namespace Cert.Reference2Ideal.Dw

open Cert.Reference2Ideal Cert.Reference2Ideal.Gen Cert.KernelIdeal.Gla
open Idealize.ShloMosaic Idealize.ShloMosaic.TcCoe Idealize.ShloMosaic.Tactic
open Finset (range)

/-- The reference's result. -/
def out (X : FVec Ideal S11x4096x256 .bf16) (Y : FVec Ideal S4096x1024 .bf16) : FVec Ideal S2816x1024 .bf16 :=
    truncf .bf16 (transpose S2816x1024 [1, 0] (transpose S1024x2816 [1, 0] (Host.dotGeneral (F := Ideal) (φ₁ := .f32) (φ₂ := .f32) dot_S4096x2816_S4096x1024_S2816x1024_0_0_1_1_n_n none (shapeCast _ (transpose S4096x11x256 [1, 0, 2] (extf .f32 X bitsLt_bf16_f32) transposes_S11x4096x256_S4096x11x256_1_0_2) shapeCasts_S4096x11x256_S4096x2816) (extf .f32 Y bitsLt_bf16_f32)) transposes_S2816x1024_S1024x2816_1_0) transposes_S1024x2816_S2816x1024_1_0) bitsLt_bf16_f32

/-- It is a sum over the tokens. -/
theorem out_at (X : FVec Ideal S11x4096x256 .bf16) (Y : FVec Ideal S4096x1024 .bf16) (i : Fin 2816) (j : Fin 1024) :
    out X Y (ix2 i j) = ∑ s : Fin 4096, X (ix3 ⟨i.val / 256, by omega⟩ s ⟨i.val % 256, by omega⟩) * Y (ix2 s j) := by
  pointwise [out]

end Cert.Reference2Ideal.Dw
-- ==== Proof.DwClaim.lean ====
module

public import proofs.«01_k».proof.Defs
public import proofs.«01_k».proof.Proof.Dw
public import proofs.«01_k».proof.Proof.Gen.Kernel2

/-! The weight-gradient product's claims. -/

@[expose] public section

set_option maxHeartbeats 0
set_option maxRecDepth 65536

noncomputable section

namespace Cert.Proof

open Idealize.ShloMosaic Idealize.ShloMosaic.TcCoe Idealize.ShloMosaic.Tactic Idealize.SL.Sem

section
variable [Cert.Kernel2.Facts] [Cert.Kernel2Ideal.Facts]

theorem bodies_eq2 : Cert.Kernel2.defs₀ (F := Bits) = Cert.Kernel2Ideal.defs₀ (F := Bits) := by
  unfold Cert.Kernel2.defs₀ Cert.Kernel2Ideal.defs₀
  refine congrArg Defs.onTc (funext fun ℓ => funext fun a => ?_)
  match ℓ, a with
  | 0, (t, s) => rfl

theorem tables_eq2 : Cert.Kernel2.defs (F := Bits) = Cert.Kernel2Ideal.defs (F := Bits) := by
  unfold Cert.Kernel2.defs Cert.Kernel2Ideal.defs
  exact congrArg (Pipeline.defs _) bodies_eq2

end

theorem frame_kernel2 : Cert.quiescent_Kernel2 := fun m ρ _ => by
  rw [tables_eq2]
  exact (θ_run Cert.Kernel2Ideal.defs _ _).mono (fun _ h => h) (Cert.Kernel2Ideal.Gen.frame (F := Bits) m ρ)

theorem frame_ideal2 : Cert.quiescent_Kernel2Ideal := fun m ρ _ => Cert.Kernel2Ideal.Gen.frame (F := Ideal) m ρ

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference's result is the weight gradient. -/
theorem ref2 (m : (ℓ : Loc Cert.Kernel2Ideal.nD Cert.Kernel2Ideal.τ Cert.Kernel2Ideal.sig) → Buf (Elt Ideal) ℓ) (c : Dev Cert.Kernel2Ideal.nD)
    (X : FVec Ideal Cert.Reference2Ideal.S11x4096x256 .bf16) (Y : FVec Ideal Cert.Reference2Ideal.S4096x1024 .bf16)
    (hX : X = m ((c.tc : Thread Cert.Kernel2Ideal.nD Cert.Kernel2Ideal.τ).loc Cert.Kernel2Ideal.main_arg0))
    (hY : Y = m ((c.tc : Thread Cert.Kernel2Ideal.nD Cert.Kernel2Ideal.τ).loc Cert.Kernel2Ideal.main_arg1)) :
    Cert.Reference2Ideal.Dw.out X Y = fun i : Cert.Kernel2Ideal.S2816x1024.Idx => Cert.Kernel2Ideal.Dw.G m c (i 0) (i 1) := by
  subst hX hY
  funext i
  have h0 : (i 0 : ℕ) < 2816 := (i 0).isLt
  rw [eq_ix2 i]
  refine (Cert.Reference2Ideal.Dw.out_at _ _ _ _).trans ?_
  exact Cert.KernelIdeal.Gla.fsum _ _ fun s => by
    rw [Cert.Kernel2Ideal.Dw.A, Cert.Kernel2Ideal.Dw.B, dif_pos ⟨show (i 0 : ℕ) / 256 < 11 by omega, s.isLt⟩, dif_pos ⟨s.isLt, (i 1).isLt⟩]
    rfl

theorem algebraic2 : Cert.algebraic_Kernel2Ideal_Reference2Ideal := fun m g m' g' _ hin =>
  ⟨fun c => fun i : Cert.Kernel2Ideal.S2816x1024.Idx => Cert.Kernel2Ideal.Dw.G m c (i 0) (i 1),
   (θ_run Cert.Kernel2Ideal.defs _ _).mono (fun _ h c => ⟨(h c).1.trans (Cert.Kernel2Ideal.Dw.arr m c), (h c).2⟩)
     (Cert.Kernel2Ideal.Value.run_blocks (F := Ideal) m g),
   (θ_run Cert.Reference2Ideal.defs _ _).mono (fun _ h c => ⟨(h c).1.trans (ref2 m c _ _ (hin c).1 (hin c).2), (h c).2⟩)
     (Cert.Reference2Ideal.Value.run (F := Ideal) m' g')⟩

end Cert.Proof

end
-- ==== Proof.Stack.lean ====
module

public import proofs.«01_k».proof.Proof.ChunkAt
public import Idealize.ShloMosaic.Lib.Pointwise
public import Idealize.ShloMosaic.Lib.Ring
public import Idealize.ShloMosaic.Lib.Pipeline.ValueKit
public import Idealize.ShloMosaic.Lib.Pipeline.ReadBack

/-! An array of eleven layers, stored layer by layer. -/

@[expose] public section

set_option maxRecDepth 16384
set_option maxHeartbeats 0

noncomputable section

namespace Cert.Ffn

open Cert.KernelIdeal.Gla
open Idealize.ShloMosaic Idealize.ShloMosaic.TcCoe Idealize.ShloMosaic.Tactic

variable {R : ℕ}

theorem inbS (f : Fin 11) : ∀ a, (![f.val, 0, 0] : Fin 3 → ℕ) a + (![1, R, 256] : Fin 3 → ℕ) a ≤ (⟨3, ![11, R, 256]⟩ : Shape).size a := by
  have := f.isLt
  intro a
  match a with
  | 0 => show f.val + 1 ≤ 11; omega
  | 1 => show 0 + R ≤ R; omega
  | 2 => show 0 + 256 ≤ 256; omega

theorem piece_layer (f : Fin 11) (G : ℕ → ℕ → ℕ → EReal) (P : FVec Ideal ⟨3, ![1, R, 256]⟩ .bf16)
    (hP : ∀ (r : Fin R) (j : Fin 256), P (ix3 (0 : Fin 1) r j) = G f r j) (inb) (x : (⟨3, ![1, R, 256]⟩ : Shape).Idx) :
    P x = (fun y : (⟨3, ![11, R, 256]⟩ : Shape).Idx => G (y 0) (y 1) (y 2))
      ((Rect.unit (s := ⟨3, ![11, R, 256]⟩) ![f.val, 0, 0] ![1, R, 256] inb).emb x) := by
  have h0 : (((Rect.unit (s := ⟨3, ![11, R, 256]⟩) ![f.val, 0, 0] ![1, R, 256] inb).emb x) 0 : ℕ) = f.val + (x 0 : ℕ) := Rect.idx_unit_val _ _ inb x 0
  have h1 : (((Rect.unit (s := ⟨3, ![11, R, 256]⟩) ![f.val, 0, 0] ![1, R, 256] inb).emb x) 1 : ℕ) = 0 + (x 1 : ℕ) := Rect.idx_unit_val _ _ inb x 1
  have h2 : (((Rect.unit (s := ⟨3, ![11, R, 256]⟩) ![f.val, 0, 0] ![1, R, 256] inb).emb x) 2 : ℕ) = 0 + (x 2 : ℕ) := Rect.idx_unit_val _ _ inb x 2
  have hx : (x 0 : ℕ) < 1 := (x 0).isLt
  have e : x = ix3 (0 : Fin 1) (x 1 : Fin R) (x 2 : Fin 256) := by
    refine (eq_ix3 x).trans ?_
    congr 1
    exact Fin.ext (show (x 0 : ℕ) = 0 by omega)
  dsimp only
  rw [h0, h1, h2, show f.val + (x 0 : ℕ) = f.val by omega, zero_add, zero_add]
  exact (congrArg P e).trans (hP (x 1) (x 2))

/-- The stores of the eleven layers, the last one first. -/
def layers (P : Fin 11 → FVec Ideal ⟨3, ![1, R, 256]⟩ .bf16) : List (View.Piece (Elt Ideal) ⟨3, ![11, R, 256]⟩ .bf16) :=
  [⟨Rect.unit ![(10 : Fin 11).val, 0, 0] ![1, R, 256] (inbS 10), P 10⟩, ⟨Rect.unit ![(9 : Fin 11).val, 0, 0] ![1, R, 256] (inbS 9), P 9⟩,
   ⟨Rect.unit ![(8 : Fin 11).val, 0, 0] ![1, R, 256] (inbS 8), P 8⟩, ⟨Rect.unit ![(7 : Fin 11).val, 0, 0] ![1, R, 256] (inbS 7), P 7⟩,
   ⟨Rect.unit ![(6 : Fin 11).val, 0, 0] ![1, R, 256] (inbS 6), P 6⟩, ⟨Rect.unit ![(5 : Fin 11).val, 0, 0] ![1, R, 256] (inbS 5), P 5⟩,
   ⟨Rect.unit ![(4 : Fin 11).val, 0, 0] ![1, R, 256] (inbS 4), P 4⟩, ⟨Rect.unit ![(3 : Fin 11).val, 0, 0] ![1, R, 256] (inbS 3), P 3⟩,
   ⟨Rect.unit ![(2 : Fin 11).val, 0, 0] ![1, R, 256] (inbS 2), P 2⟩, ⟨Rect.unit ![(1 : Fin 11).val, 0, 0] ![1, R, 256] (inbS 1), P 1⟩,
   ⟨Rect.unit ![(0 : Fin 11).val, 0, 0] ![1, R, 256] (inbS 0), P 0⟩]

theorem layers_pieces (P : Fin 11 → FVec Ideal ⟨3, ![1, R, 256]⟩ .bf16) (G : ℕ → ℕ → ℕ → EReal)
    (hP : ∀ (f : Fin 11) (r : Fin R) (j : Fin 256), P f (ix3 (0 : Fin 1) r j) = G f r j) :
    View.PiecesOf (fun y : (⟨3, ![11, R, 256]⟩ : Shape).Idx => G (y 0) (y 1) (y 2)) (layers P) :=
  ⟨piece_layer 10 G _ (hP 10) (inbS 10), piece_layer 9 G _ (hP 9) (inbS 9), piece_layer 8 G _ (hP 8) (inbS 8), piece_layer 7 G _ (hP 7) (inbS 7), piece_layer 6 G _ (hP 6) (inbS 6),
    piece_layer 5 G _ (hP 5) (inbS 5), piece_layer 4 G _ (hP 4) (inbS 4), piece_layer 3 G _ (hP 3) (inbS 3), piece_layer 2 G _ (hP 2) (inbS 2), piece_layer 1 G _ (hP 1) (inbS 1), piece_layer 0 G _ (hP 0) (inbS 0), trivial⟩

/-- The eleven layers of 512 rows. -/
theorem layers512_at (P : Fin 11 → FVec Ideal ⟨3, ![1, 512, 256]⟩ .bf16) (G : ℕ → ℕ → ℕ → EReal)
    (hP : ∀ (f : Fin 11) (r : Fin 512) (j : Fin 256), P f (ix3 (0 : Fin 1) r j) = G f r j) (y : (⟨3, ![11, 512, 256]⟩ : Shape).Idx) :
    View.canon (layers P) y = G (y 0) (y 1) (y 2) :=
  View.canon_apply_of_pieces (Val := Elt Ideal) (e := .bf16) (fun y : (⟨3, ![11, 512, 256]⟩ : Shape).Idx => G (y 0) (y 1) (y 2)) (layers P)
    (View.PiecesOf.mem (layers_pieces P G hP)) y (View.cover_of_tiledL (layers P) ![1, 512, 256] (by sl_kernel_rfl) y)

/-- The eleven layers of 256 rows. -/
theorem layers256_at (P : Fin 11 → FVec Ideal ⟨3, ![1, 256, 256]⟩ .bf16) (G : ℕ → ℕ → ℕ → EReal)
    (hP : ∀ (f : Fin 11) (r : Fin 256) (j : Fin 256), P f (ix3 (0 : Fin 1) r j) = G f r j) (y : (⟨3, ![11, 256, 256]⟩ : Shape).Idx) :
    View.canon (layers P) y = G (y 0) (y 1) (y 2) :=
  View.canon_apply_of_pieces (Val := Elt Ideal) (e := .bf16) (fun y : (⟨3, ![11, 256, 256]⟩ : Shape).Idx => G (y 0) (y 1) (y 2)) (layers P)
    (View.PiecesOf.mem (layers_pieces P G hP)) y (View.cover_of_tiledL (layers P) ![1, 256, 256] (by sl_kernel_rfl) y)

end Cert.Ffn
-- ==== Proof.FfnSpec.lean ====
module

public import proofs.«01_k».proof.Proof.ChunkAt

/-! The feed-forward part as a function of the rows and columns: its inputs and what its forward pass computes. -/

@[expose] public section

noncomputable section

namespace Cert.Ffn

open Idealize.ShloMosaic Cert.KernelIdeal.Gla
open Finset (range)

/-- The half that scales the part's output. -/
def half : EReal := Ideal.ofBits .f32 0x3F000000#32

theorem half_coe : half = ((1 / 2 : ℝ) : EReal) := by
  simp [half, Ideal.ofBits, Ideal.ieee, -EReal.coe_mul]; norm_num

/-- A finite factor distributes over a sum of extended reals. -/
theorem half_add (x y : EReal) : half * (x + y) = half * x + half * y :=
  EReal.left_distrib_of_nonneg_of_ne_top (by rw [half_coe]; exact_mod_cast (by norm_num : (0 : ℝ) ≤ 1 / 2)) (by rw [half_coe]; exact EReal.coe_ne_top _) x y

/-- An array of two axes as a function, zero outside. -/
def mat {a b : ℕ} {φ : FTy} (X : FVec Ideal ⟨2, ![a, b]⟩ φ) (i j : ℕ) : EReal := if h : i < a ∧ j < b then X (ix2 ⟨i, h.1⟩ ⟨j, h.2⟩) else 0

theorem is_mat {a b : ℕ} {φ : FTy} (X : FVec Ideal ⟨2, ![a, b]⟩ φ) : Is X (mat X) := fun i j => by
  rw [mat, dif_pos ⟨i.isLt, j.isLt⟩]

theorem is_row {b : ℕ} {φ : FTy} (X : FVec Ideal ⟨2, ![1, b]⟩ φ) : Is X fun _ => mat X 0 := fun i j => by
  show X (ix2 i j) = mat X 0 j
  rw [mat, dif_pos ⟨Nat.zero_lt_one, j.isLt⟩]
  exact congrArg (fun k => X (ix2 k j)) (Fin.ext (by omega))

/-- The inputs: the rows, the norm's weights, and the three weight matrices. -/
structure In where
  x : ℕ → ℕ → EReal
  g : ℕ → EReal
  w1 : ℕ → ℕ → EReal
  w3 : ℕ → ℕ → EReal
  w2 : ℕ → ℕ → EReal

namespace In

variable (D : In)

/-- The reciprocal root of a row's mean square. -/
def r (s : ℕ) : EReal :=
  Ideal.rsqrt (Ideal.div (∑ d ∈ range 1024, D.x s d * D.x s d) (Ideal.ofBits .f32 0x44800000#32) + Ideal.ofBits .f32 0x358637BD#32)

/-- The normalized rows. -/
def n (s d : ℕ) : EReal := D.x s d * D.r s * D.g d

/-- The two projections. -/
def a (s i : ℕ) : EReal := ∑ d ∈ range 1024, D.n s d * D.w1 i d
def b (s i : ℕ) : EReal := ∑ d ∈ range 1024, D.n s d * D.w3 i d

/-- The hidden units. -/
def s (t i : ℕ) : EReal := D.a t i * Ideal.logistic (D.a t i) * D.b t i

/-- The output. -/
def h (t d : ℕ) : EReal := D.x t d + half * ∑ i ∈ range 2816, D.s t i * D.w2 i d

end In

end Cert.Ffn
-- ==== Proof.Ffn.lean ====
module

public import proofs.«01_k».proof.Proof.Stack
public import proofs.«01_k».proof.Proof.FfnSpec
public import proofs.«01_k».proof.Proof.Gen.Kernel3Ideal.Value
public import Idealize.ShloMosaic.Lib.Pointwise
public import Idealize.ShloMosaic.Lib.Pipeline.ValueKit
public import Idealize.ShloMosaic.Lib.Pipeline.ReadBack

/-! The forward pass of the feed-forward part: what one grid step stores. -/

@[expose] public section

set_option maxRecDepth 16384
set_option maxHeartbeats 0

noncomputable section

namespace Cert.Kernel3Ideal.Ffn

open Cert.Kernel3Ideal Cert.Kernel3Ideal.Gen Cert.KernelIdeal.Gla
open Idealize.ShloMosaic Idealize.ShloMosaic.TcCoe Idealize.ShloMosaic.Tactic
open Idealize.ShloMosaic.Pipeline (Dat Cfg Window)
open Finset (range)

theorem inbw (k : Fin 11) : ∀ a, (![256 * k.val, 0] : Fin 2 → ℕ) a + (![256, 1024] : Fin 2 → ℕ) a ≤ S2816x1024.size a := by
  revert k; decide +kernel

/-- 256 rows of a weight matrix. -/
def rows (w : Vec Ideal S2816x1024 .bf16) (k : Fin 11) : Vec Ideal S256x1024 .bf16 :=
  View.ld w (Rect.unit (s := S2816x1024) ![256 * k.val, 0] ![256, 1024] (inbw k))

section
variable (x0 : Vec Ideal S512x1024 .f32) (x1 : Vec Ideal S1x1024 .f32) (x2 x3 x4 : Vec Ideal S2816x1024 .bf16)

/-- One of the eleven steps. -/
def step (k : Fin 11) (acc : Vec Ideal S512x1024 .f32) : FVec Ideal S512x1024 .f32 :=
  k0_pay6 (k0_pay2 x0 x1 (rows x2 k)) (k0_pay3 x0 x1 (rows x3 k)) acc (rows x4 k)

/-- The block of rows of the output. -/
def hBlk : FVec Ideal S512x1024 .f32 :=
  step x0 x1 x2 x3 x4 10 (step x0 x1 x2 x3 x4 9 (step x0 x1 x2 x3 x4 8 (step x0 x1 x2 x3 x4 7 (step x0 x1 x2 x3 x4 6 (step x0 x1 x2 x3 x4 5
    (step x0 x1 x2 x3 x4 4 (step x0 x1 x2 x3 x4 3 (step x0 x1 x2 x3 x4 2 (step x0 x1 x2 x3 x4 1 (step x0 x1 x2 x3 x4 0 x0))))))))))

end

variable (c : Dev nD) (i : grid0.Coords) (arg1 : Memref sig .tc .vmem S512x1024 .f32) (harg1 : arg1.IsWhole) (arg2 : Memref sig .tc .vmem S1x1024 .f32) (harg2 : arg2.IsWhole)
  (arg3 : Memref sig .tc .vmem S2816x1024 .bf16) (harg3 : arg3.IsWhole) (arg4 : Memref sig .tc .vmem S2816x1024 .bf16) (harg4 : arg4.IsWhole) (arg5 : Memref sig .tc .vmem S2816x1024 .bf16)
  (harg5 : arg5.IsWhole) (arg6 : Memref sig .tc .vmem S512x1024 .f32) (harg6 : arg6.IsWhole) (arg7 : Memref sig .tc .vmem S11x512x256 .bf16) (harg7 : arg7.IsWhole)
  (arg8 : Memref sig .tc .vmem S11x512x256 .bf16) (harg8 : arg8.IsWhole) (arg9 : Memref sig .tc .vmem S512x1024 .bf16) (harg9 : arg9.IsWhole)
  (x0 : Vec Ideal S512x1024 .f32) (x1 : Vec Ideal S1x1024 .f32) (x2 x3 x4 : Vec Ideal S2816x1024 .bf16)

theorem out5_eq : out0_A_5 (F := Ideal) c i arg1 harg1 arg2 harg2 arg3 harg3 arg4 harg4 arg5 harg5 arg6 harg6 arg7 harg7 arg8 harg8 arg9 harg9 x0 x1 x2 x3 x4 = hBlk x0 x1 x2 x3 x4 := by
  frame_out
  try simp (disch := decide) only [↓ View.readCov_skip, ↓ View.readCov_cons_toLoadRect, ↓ View.readCov_fill]
  rfl

theorem out8_eq : out0_A_8 (F := Ideal) c i arg1 harg1 arg2 harg2 arg3 harg3 arg4 harg4 arg5 harg5 arg6 harg6 arg7 harg7 arg8 harg8 arg9 harg9 x0 x1 x2 x3 x4 = k0_pay1 x0 x1 := by
  frame_out

theorem out6_eq : out0_A_6 (F := Ideal) c i arg1 harg1 arg2 harg2 arg3 harg3 arg4 harg4 arg5 harg5 arg6 harg6 arg7 harg7 arg8 harg8 arg9 harg9 x0 x1 x2 x3 x4
    = View.canon (Cert.Ffn.layers fun f => k0_pay4 x0 x1 (rows x2 f)) := by
  frame_out
  rfl

theorem out7_eq : out0_A_7 (F := Ideal) c i arg1 harg1 arg2 harg2 arg3 harg3 arg4 harg4 arg5 harg5 arg6 harg6 arg7 harg7 arg8 harg8 arg9 harg9 x0 x1 x2 x3 x4
    = View.canon (Cert.Ffn.layers fun f => k0_pay5 x0 x1 (rows x3 f)) := by
  frame_out
  rfl

/-! ## The blocks' entries -/

/-- A grid step's inputs: 512 rows, and the weights. -/
structure InAt (D : Cert.Ffn.In) (o : ℕ) (x0 : Vec Ideal S512x1024 .f32) (x1 : Vec Ideal S1x1024 .f32) (x2 x3 x4 : Vec Ideal S2816x1024 .bf16) : Prop where
  x : Is (φ := .f32) x0 fun r => D.x (o + r)
  g : Is (φ := .f32) x1 fun _ => D.g
  w1 : Is (φ := .bf16) x2 D.w1
  w3 : Is (φ := .bf16) x3 D.w3
  w2 : Is (φ := .bf16) x4 D.w2

section
variable {D : Cert.Ffn.In} {o : ℕ} {x0 : Vec Ideal S512x1024 .f32} {x1 : Vec Ideal S1x1024 .f32} {x2 x3 x4 : Vec Ideal S2816x1024 .bf16}

theorem n_at (h : InAt D o x0 x1 x2 x3 x4) : Is (k0_pay1 x0 x1) fun r => D.n (o + r) := fun r d => by
  pointwise [k0_pay1]
  rw [fsum _ (fun d => D.x (o + r) d * D.x (o + r) d) fun d => by rw [h.x], h.x, h.g]
  rfl

theorem a_at (h : InAt D o x0 x1 x2 x3 x4) (k : Fin 11) : Is (k0_pay2 x0 x1 (rows x2 k)) fun r j => D.a (o + r) (256 * k.val + j) := fun r j => by
  have hk := k.isLt
  pointwise [k0_pay2, rows]
  exact fsum _ (fun d => D.n (o + r) d * D.w1 (256 * k.val + j) d) fun d => by rw [n_at h, h.w1]

theorem b_at (h : InAt D o x0 x1 x2 x3 x4) (k : Fin 11) : Is (k0_pay3 x0 x1 (rows x3 k)) fun r j => D.b (o + r) (256 * k.val + j) := fun r j => by
  have hk := k.isLt
  pointwise [k0_pay3, rows]
  exact fsum _ (fun d => D.n (o + r) d * D.w3 (256 * k.val + j) d) fun d => by rw [n_at h, h.w3]

theorem step_at (h : InAt D o x0 x1 x2 x3 x4) (k : Fin 11) {acc : Vec Ideal S512x1024 .f32}
    (ha : Is (φ := .f32) acc fun r d => D.x (o + r) d + Cert.Ffn.half * ∑ i ∈ range (256 * k.val), D.s (o + r) i * D.w2 i d) :
    Is (step x0 x1 x2 x3 x4 k acc) fun r d => D.x (o + r) d + Cert.Ffn.half * ∑ i ∈ range (256 * (k.val + 1)), D.s (o + r) i * D.w2 i d := fun r d => by
  have hk := k.isLt
  pointwise [step, k0_pay6]
  rw [ha, mul_add, mul_one, Finset.sum_range_add, Cert.Ffn.half_add, add_assoc]
  congr 2
  refine congrArg _ (fsum _ (fun i => D.s (o + r) (256 * k.val + i) * D.w2 (256 * k.val + i) d) fun i => ?_)
  rw [a_at h, b_at h]
  pointwise [rows]
  rw [h.w2]
  rfl

theorem h_at (h : InAt D o x0 x1 x2 x3 x4) : Is (hBlk x0 x1 x2 x3 x4) fun r => D.h (o + r) := by
  have z : Is (φ := .f32) x0 fun r d => D.x (o + r) d + Cert.Ffn.half * ∑ i ∈ range (256 * (0 : Fin 11).val), D.s (o + r) i * D.w2 i d := fun r d => by
    rw [h.x]; simp
  exact step_at h 10 (step_at h 9 (step_at h 8 (step_at h 7 (step_at h 6 (step_at h 5 (step_at h 4 (step_at h 3 (step_at h 2 (step_at h 1 (step_at h 0 z))))))))))

theorem a3_at (h : InAt D o x0 x1 x2 x3 x4) (y : S11x512x256.Idx) :
    View.canon (Cert.Ffn.layers fun f => k0_pay4 x0 x1 (rows x2 f)) y = D.a (o + (y 1 : ℕ)) (256 * (y 0 : ℕ) + (y 2 : ℕ)) :=
  Cert.Ffn.layers512_at _ (fun f r j => D.a (o + r) (256 * f + j)) (fun f r j => by
    pointwise [k0_pay4]
    exact a_at h f r j) y

theorem b3_at (h : InAt D o x0 x1 x2 x3 x4) (y : S11x512x256.Idx) :
    View.canon (Cert.Ffn.layers fun f => k0_pay5 x0 x1 (rows x3 f)) y = D.b (o + (y 1 : ℕ)) (256 * (y 0 : ℕ) + (y 2 : ℕ)) :=
  Cert.Ffn.layers512_at _ (fun f r j => D.b (o + r) (256 * f + j)) (fun f r j => by
    pointwise [k0_pay5]
    exact b_at h f r j) y

end

/-! ## The arrays -/

section
variable (m : (ℓ : Loc nD τ sig) → Buf (Elt Ideal) ℓ)

/-- The arguments as the part's inputs. -/
structure ArgsAt (D : Cert.Ffn.In) (c : Dev nD) : Prop where
  x : Is (a := 4096) (b := 1024) (φ := .f32) (m ((c : Thread nD τ).loc main_arg0)) D.x
  g : Is (a := 1) (b := 1024) (φ := .f32) (m ((c : Thread nD τ).loc main_arg1)) fun _ => D.g
  w1 : Is (a := 2816) (b := 1024) (φ := .bf16) (m ((c : Thread nD τ).loc main_arg2)) D.w1
  w3 : Is (a := 2816) (b := 1024) (φ := .bf16) (m ((c : Thread nD τ).loc main_arg3)) D.w3
  w2 : Is (a := 2816) (b := 1024) (φ := .bf16) (m ((c : Thread nD τ).loc main_arg4)) D.w2

theorem win_row : ∀ t : Fin cfg0.N, (cfg0.win 0).index t 0 = t.val ∧ (cfg0.win 0).index t 1 = 0 ∧ (cfg0.win 1).index t 0 = 0 ∧ (cfg0.win 1).index t 1 = 0
    ∧ (cfg0.win 2).index t 0 = 0 ∧ (cfg0.win 2).index t 1 = 0 ∧ (cfg0.win 3).index t 0 = 0 ∧ (cfg0.win 3).index t 1 = 0
    ∧ (cfg0.win 4).index t 0 = 0 ∧ (cfg0.win 4).index t 1 = 0 := by decide +kernel

theorem win_out : ∀ t : Fin cfg0.N, (cfg0.win 5).index t 0 = t.val ∧ (cfg0.win 5).index t 1 = 0
    ∧ (cfg0.win 6).index t 0 = 0 ∧ (cfg0.win 6).index t 1 = t.val ∧ (cfg0.win 6).index t 2 = 0
    ∧ (cfg0.win 7).index t 0 = 0 ∧ (cfg0.win 7).index t 1 = t.val ∧ (cfg0.win 7).index t 2 = 0
    ∧ (cfg0.win 8).index t 0 = t.val ∧ (cfg0.win 8).index t 1 = 0 := by decide +kernel

variable {D : Cert.Ffn.In} {c : Dev nD}

theorem in_at (h : ArgsAt m D c) (t : Fin cfg0.N) : InAt D (512 * t.val) (iblk m c 0 t) (iblk m c 1 t) (iblk m c 2 t) (iblk m c 3 t) (iblk m c 4 t) := by
  obtain ⟨a0, a1, b0, b1, c0, c1, d0, d1, e0, e1⟩ := win_row t
  have ht : t.val < 8 := t.isLt
  refine ⟨fun r κ => ?_, fun r κ => ?_, fun r κ => ?_, fun r κ => ?_, fun r κ => ?_⟩
  · have e : iblk m c 0 t (ix2 r κ) = m ((c : Thread nD τ).loc main_arg0) (ix2 (⟨512 * t.val + r, by omega⟩ : Fin 4096) κ) := by blk_ext [iblk, a0, a1]
    exact e.trans (h.x _ _)
  · have e : iblk m c 1 t (ix2 r κ) = m ((c : Thread nD τ).loc main_arg1) (ix2 r κ) := by blk_ext [iblk, b0, b1]
    exact e.trans (h.g _ _)
  · have e : iblk m c 2 t (ix2 r κ) = m ((c : Thread nD τ).loc main_arg2) (ix2 r κ) := by blk_ext [iblk, c0, c1]
    exact e.trans (h.w1 _ _)
  · have e : iblk m c 3 t (ix2 r κ) = m ((c : Thread nD τ).loc main_arg3) (ix2 r κ) := by blk_ext [iblk, d0, d1]
    exact e.trans (h.w3 _ _)
  · have e : iblk m c 4 t (ix2 r κ) = m ((c : Thread nD τ).loc main_arg4) (ix2 r κ) := by blk_ext [iblk, e0, e1]
    exact e.trans (h.w2 _ _)

theorem arr_h (h : ArgsAt m D c) : (dats m 0 c).arrAt 5 cfg0.N = fun i : S4096x1024.Idx => D.h (i 0) (i 1) := by
  refine (dats m 0 c).arrAt_eq_of_covers 5 _ (by decide +kernel) fun t hf y => ?_
  obtain ⟨g0, g1, -⟩ := win_out t
  blk_simp [g0, g1]
  rw [after0_5]
  unfold outsAt0
  rw [out5_eq, mul_comm t.val 512]
  exact (h_at (in_at m h t)).idx y

theorem arr_a (h : ArgsAt m D c) : (dats m 0 c).arrAt 6 cfg0.N = fun i : S11x4096x256.Idx => D.a (i 1) (256 * (i 0 : ℕ) + (i 2 : ℕ)) := by
  refine (dats m 0 c).arrAt_eq_of_covers 6 _ (by decide +kernel) fun t hf y => ?_
  obtain ⟨-, -, g0, g1, g2, -⟩ := win_out t
  blk_simp [g0, g1, g2]
  rw [after0_6]
  unfold outsAt0
  rw [out6_eq, mul_comm t.val 512]
  exact a3_at (in_at m h t) y

theorem arr_b (h : ArgsAt m D c) : (dats m 0 c).arrAt 7 cfg0.N = fun i : S11x4096x256.Idx => D.b (i 1) (256 * (i 0 : ℕ) + (i 2 : ℕ)) := by
  refine (dats m 0 c).arrAt_eq_of_covers 7 _ (by decide +kernel) fun t hf y => ?_
  obtain ⟨-, -, -, -, -, g0, g1, g2, -⟩ := win_out t
  blk_simp [g0, g1, g2]
  rw [after0_7]
  unfold outsAt0
  rw [out7_eq, mul_comm t.val 512]
  exact b3_at (in_at m h t) y

theorem arr_n (h : ArgsAt m D c) : (dats m 0 c).arrAt 8 cfg0.N = fun i : S4096x1024.Idx => D.n (i 0) (i 1) := by
  refine (dats m 0 c).arrAt_eq_of_covers 8 _ (by decide +kernel) fun t hf y => ?_
  obtain ⟨-, -, -, -, -, -, -, -, g0, g1⟩ := win_out t
  blk_simp [g0, g1]
  rw [after0_8]
  unfold outsAt0
  rw [out8_eq, mul_comm t.val 512]
  exact (n_at (in_at m h t)).idx y

end

end Cert.Kernel3Ideal.Ffn
-- ==== Proof.FfnRef.lean ====
module

public import proofs.«01_k».proof.Proof.FfnSpec
public import proofs.«01_k».proof.Proof.Gen.Reference3Ideal.Run
public import Idealize.ShloMosaic.Lib.Pointwise

/-! The reference's forward pass of the feed-forward part. -/

@[expose] public section

set_option maxRecDepth 16384
set_option maxHeartbeats 0

noncomputable section

namespace Cert.Reference3Ideal.Ffn

open Cert.Reference3Ideal Cert.Reference3Ideal.Gen Cert.KernelIdeal.Gla
open Idealize.ShloMosaic Idealize.ShloMosaic.TcCoe Idealize.ShloMosaic.Tactic
open Finset (range)

section
variable (X : FVec Ideal S4096x1024 .f32) (g : FVec Ideal S1x1024 .f32) (w w1 w3 w2 : FVec Ideal S2816x1024 .bf16)

def nrm : FVec Ideal S4096x1024 .f32 :=
  mulf (mulf X (broadcastInDim S4096x1024 ![0, 1] bcast_S4096x1_S4096x1024_0_1 (Host.rsqrt (addf (Host.divf (broadcastInDim S4096x1 ![0] bcast_S4096_S4096x1_0
    (Host.reduceAdd (mulf X X) (constant S_ .f32 0x00000000#32) reducesTo_S4096x1024_S4096_d1 h_S_)) (broadcastInDim S4096x1 ![] bcast_S_S4096x1 (constant S_ .f32 0x44800000#32)))
    (broadcastInDim S4096x1 ![] bcast_S_S4096x1 (constant S_ .f32 0x358637BD#32)))))) (broadcastInDim S4096x1024 ![0, 1] bcast_S1x1024_S4096x1024_0_1 g)

def proj : FVec Ideal S4096x2816 .f32 :=
  Host.dotGeneral dot_S4096x1024_S1024x2816_S4096x2816_1_0_0_1_n_n none (nrm X g) (transpose S1024x2816 [1, 0] (extf .f32 w bitsLt_bf16_f32) transposes_S2816x1024_S1024x2816_1_0)

def hid : FVec Ideal S4096x2816 .f32 :=
  mulf (mulf (proj X g w1) (Host.divf (broadcastInDim S4096x2816 ![] bcast_S_S4096x2816 (constant S_ .f32 0x3F800000#32))
    (addf (broadcastInDim S4096x2816 ![] bcast_S_S4096x2816 (constant S_ .f32 0x3F800000#32)) (Host.exp (Host.negf (proj X g w1)))))) (proj X g w3)

def out : FVec Ideal S4096x1024 .f32 :=
  addf X (mulf (broadcastInDim S4096x1024 ![] bcast_S_S4096x1024 (constant S_ .f32 0x3F000000#32))
    (Host.dotGeneral dot_S4096x2816_S2816x1024_S4096x1024_1_0_0_1_n_n none (hid X g w1 w3) (extf .f32 w2 bitsLt_bf16_f32)))

def blocked (Z : FVec Ideal S4096x2816 .f32) : FVec Ideal S11x4096x256 .bf16 :=
  truncf .bf16 (transpose S11x4096x256 [1, 0, 2] (shapeCast S4096x11x256 Z shapeCasts_S4096x2816_S4096x11x256) transposes_S4096x11x256_S11x4096x256_1_0_2) bitsLt_bf16_f32

def nrmW : FVec Ideal S4096x1024 .bf16 := truncf .bf16 (nrm X g) bitsLt_bf16_f32

end

section
variable {D : Cert.Ffn.In} {X : FVec Ideal S4096x1024 .f32} {g : FVec Ideal S1x1024 .f32} {w w1 w3 w2 : FVec Ideal S2816x1024 .bf16}

theorem nrm_at (hX : Is X D.x) (hg : Is g fun _ => D.g) : Is (nrm X g) D.n := fun s d => by
  pointwise [nrm]
  rw [fsum _ (fun d => D.x s d * D.x s d) fun d => by rw [hX], hX, hg]
  rfl

theorem proj_at (hX : Is X D.x) (hg : Is g fun _ => D.g) {u : ℕ → ℕ → EReal} (hw : Is w u) : Is (proj X g w) fun s i => ∑ d ∈ range 1024, D.n s d * u i d := fun s i => by
  pointwise [proj]
  exact fsum _ (fun d => D.n s d * u i d) fun d => by rw [nrm_at hX hg, hw]

theorem hid_at (hX : Is X D.x) (hg : Is g fun _ => D.g) (h1 : Is w1 D.w1) (h3 : Is w3 D.w3) : Is (hid X g w1 w3) D.s := fun s i => by
  pointwise [hid]
  rw [proj_at hX hg h1, proj_at hX hg h3]
  rfl

theorem out_at (hX : Is X D.x) (hg : Is g fun _ => D.g) (h1 : Is w1 D.w1) (h3 : Is w3 D.w3) (h2 : Is w2 D.w2) : Is (out X g w1 w3 w2) D.h := fun s d => by
  pointwise [out]
  rw [fsum _ (fun i => D.s s i * D.w2 i d) fun i => by rw [hid_at hX hg h1 h3, h2], hX]
  rfl

theorem nrmW_at (hX : Is X D.x) (hg : Is g fun _ => D.g) : Is (nrmW X g) D.n := fun s d => by
  pointwise [nrmW]
  exact nrm_at hX hg s d

theorem blocked_at {Z : FVec Ideal S4096x2816 .f32} {f : ℕ → ℕ → EReal} (h : Is Z f) (k : Fin 11) (s : Fin 4096) (j : Fin 256) :
    blocked Z (ix3 k s j) = f s (256 * k.val + j) := by
  pointwise [blocked]
  rw [h]
  exact congrArg (f s) (show k.val * 256 + j.val = 256 * k.val + j.val by rw [mul_comm])

end

end Cert.Reference3Ideal.Ffn
-- ==== Proof.FfnClaim.lean ====
module

public import proofs.«01_k».proof.Defs
public import proofs.«01_k».proof.Proof.Ffn
public import proofs.«01_k».proof.Proof.FfnRef
public import proofs.«01_k».proof.Proof.Gen.Kernel3

/-! The claims of the feed-forward part's forward pass. -/

@[expose] public section

set_option maxHeartbeats 0
set_option maxRecDepth 65536

noncomputable section

namespace Cert.Proof

open Idealize.ShloMosaic Idealize.ShloMosaic.TcCoe Idealize.ShloMosaic.Tactic Idealize.SL.Sem

section
variable [Cert.Kernel3.Facts] [Cert.Kernel3Ideal.Facts]

theorem bodies_eq3 : Cert.Kernel3.defs₀ (F := Bits) = Cert.Kernel3Ideal.defs₀ (F := Bits) := by
  unfold Cert.Kernel3.defs₀ Cert.Kernel3Ideal.defs₀
  refine congrArg Defs.onTc (funext fun ℓ => funext fun a => ?_)
  match ℓ, a with
  | 0, (t, s) => rfl

theorem tables_eq3 : Cert.Kernel3.defs (F := Bits) = Cert.Kernel3Ideal.defs (F := Bits) := by
  unfold Cert.Kernel3.defs Cert.Kernel3Ideal.defs
  exact congrArg (Pipeline.defs _) bodies_eq3

end

theorem frame_kernel3 : Cert.quiescent_Kernel3 := fun m ρ _ => by
  rw [tables_eq3]
  exact (θ_run Cert.Kernel3Ideal.defs _ _).mono (fun _ h => h) (Cert.Kernel3Ideal.Gen.frame (F := Bits) m ρ)

theorem frame_ideal3 : Cert.quiescent_Kernel3Ideal := fun m ρ _ => Cert.Kernel3Ideal.Gen.frame (F := Ideal) m ρ

theorem frame_reference3 : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

/-- The inputs the arguments hold. -/
def in3 (m : (ℓ : Loc Cert.Kernel3Ideal.nD Cert.Kernel3Ideal.τ Cert.Kernel3Ideal.sig) → Buf (Elt Ideal) ℓ) (c : Dev Cert.Kernel3Ideal.nD) : Cert.Ffn.In where
  x := Cert.Ffn.mat (a := 4096) (b := 1024) (φ := .f32) (m ((c.tc : Thread Cert.Kernel3Ideal.nD Cert.Kernel3Ideal.τ).loc Cert.Kernel3Ideal.main_arg0))
  g := Cert.Ffn.mat (a := 1) (b := 1024) (φ := .f32) (m ((c.tc : Thread Cert.Kernel3Ideal.nD Cert.Kernel3Ideal.τ).loc Cert.Kernel3Ideal.main_arg1)) 0
  w1 := Cert.Ffn.mat (a := 2816) (b := 1024) (φ := .bf16) (m ((c.tc : Thread Cert.Kernel3Ideal.nD Cert.Kernel3Ideal.τ).loc Cert.Kernel3Ideal.main_arg2))
  w3 := Cert.Ffn.mat (a := 2816) (b := 1024) (φ := .bf16) (m ((c.tc : Thread Cert.Kernel3Ideal.nD Cert.Kernel3Ideal.τ).loc Cert.Kernel3Ideal.main_arg3))
  w2 := Cert.Ffn.mat (a := 2816) (b := 1024) (φ := .bf16) (m ((c.tc : Thread Cert.Kernel3Ideal.nD Cert.Kernel3Ideal.τ).loc Cert.Kernel3Ideal.main_arg4))

theorem args3 (m : (ℓ : Loc Cert.Kernel3Ideal.nD Cert.Kernel3Ideal.τ Cert.Kernel3Ideal.sig) → Buf (Elt Ideal) ℓ) (c : Dev Cert.Kernel3Ideal.nD) :
    Cert.Kernel3Ideal.Ffn.ArgsAt m (in3 m c) c :=
  ⟨Cert.Ffn.is_mat _, Cert.Ffn.is_row _, Cert.Ffn.is_mat _, Cert.Ffn.is_mat _, Cert.Ffn.is_mat _⟩

/-- A two-axis array with known entries. -/
theorem mat_fun {a b : ℕ} {φ : FTy} {X : FVec Ideal ⟨2, ![a, b]⟩ φ} {f : ℕ → ℕ → EReal} (h : Cert.KernelIdeal.Gla.Is X f) :
    X = fun i : (⟨2, ![a, b]⟩ : Shape).Idx => f (i 0) (i 1) := funext fun i => h.idx i

/-- A layered array with known entries. -/
theorem layer_fun {X : FVec Ideal ⟨3, ![11, 4096, 256]⟩ .bf16} {f : ℕ → ℕ → EReal}
    (h : ∀ (k : Fin 11) (s : Fin 4096) (j : Fin 256), X (ix3 k s j) = f s (256 * k.val + j)) :
    X = fun i : (⟨3, ![11, 4096, 256]⟩ : Shape).Idx => f (i 1) (256 * (i 0 : ℕ) + (i 2 : ℕ)) := funext fun i => (congrArg X (eq_ix3 i)).trans (h (i 0) (i 1) (i 2))

theorem algebraic3 : Cert.algebraic_Kernel3Ideal_Reference3Ideal := fun m g m' g' _ hin =>
  ⟨fun c => fun i : Cert.Kernel3Ideal.S4096x1024.Idx => (in3 m c).h (i 0) (i 1),
   fun c => fun i : Cert.Kernel3Ideal.S11x4096x256.Idx => (in3 m c).a (i 1) (256 * (i 0 : ℕ) + (i 2 : ℕ)),
   fun c => fun i : Cert.Kernel3Ideal.S11x4096x256.Idx => (in3 m c).b (i 1) (256 * (i 0 : ℕ) + (i 2 : ℕ)),
   fun c => fun i : Cert.Kernel3Ideal.S4096x1024.Idx => (in3 m c).n (i 0) (i 1),
   (θ_run Cert.Kernel3Ideal.defs _ _).mono (fun _ h c =>
      have A := args3 m c
      ⟨(h c).1.trans (Cert.Kernel3Ideal.Ffn.arr_h m A), (h c).2.1.trans (Cert.Kernel3Ideal.Ffn.arr_a m A),
       (h c).2.2.1.trans (Cert.Kernel3Ideal.Ffn.arr_b m A), (h c).2.2.2.1.trans (Cert.Kernel3Ideal.Ffn.arr_n m A), (h c).2.2.2.2⟩)
     (Cert.Kernel3Ideal.Value.run_blocks (F := Ideal) m g),
   (θ_run Cert.Reference3Ideal.defs _ _).mono (fun _ h c =>
      have A := args3 m c
      have hx : Cert.KernelIdeal.Gla.Is (a := 4096) (b := 1024) (φ := .f32) (m' ((c.tc : Thread Cert.Reference3Ideal.nD Cert.Reference3Ideal.τ).loc Cert.Reference3Ideal.main_arg0)) (in3 m c).x := by
        rw [(hin c).1]; exact A.x
      have hg : Cert.KernelIdeal.Gla.Is (a := 1) (b := 1024) (φ := .f32) (m' ((c.tc : Thread Cert.Reference3Ideal.nD Cert.Reference3Ideal.τ).loc Cert.Reference3Ideal.main_arg1)) (fun _ => (in3 m c).g) := by
        rw [(hin c).2.1]; exact A.g
      have h1 : Cert.KernelIdeal.Gla.Is (a := 2816) (b := 1024) (φ := .bf16) (m' ((c.tc : Thread Cert.Reference3Ideal.nD Cert.Reference3Ideal.τ).loc Cert.Reference3Ideal.main_arg2)) (in3 m c).w1 := by
        rw [(hin c).2.2.1]; exact A.w1
      have h3 : Cert.KernelIdeal.Gla.Is (a := 2816) (b := 1024) (φ := .bf16) (m' ((c.tc : Thread Cert.Reference3Ideal.nD Cert.Reference3Ideal.τ).loc Cert.Reference3Ideal.main_arg3)) (in3 m c).w3 := by
        rw [(hin c).2.2.2.1]; exact A.w3
      have h2 : Cert.KernelIdeal.Gla.Is (a := 2816) (b := 1024) (φ := .bf16) (m' ((c.tc : Thread Cert.Reference3Ideal.nD Cert.Reference3Ideal.τ).loc Cert.Reference3Ideal.main_arg4)) (in3 m c).w2 := by
        rw [(hin c).2.2.2.2]; exact A.w2
      ⟨(h c).1.trans (mat_fun (Cert.Reference3Ideal.Ffn.out_at hx hg h1 h3 h2)),
       (h c).2.1.trans (layer_fun (Cert.Reference3Ideal.Ffn.blocked_at (Cert.Reference3Ideal.Ffn.proj_at hx hg h1))),
       (h c).2.2.1.trans (layer_fun (Cert.Reference3Ideal.Ffn.blocked_at (Cert.Reference3Ideal.Ffn.proj_at hx hg h3))),
       (h c).2.2.2.1.trans (mat_fun (Cert.Reference3Ideal.Ffn.nrmW_at hx hg)), (h c).2.2.2.2⟩)
     (Cert.Reference3Ideal.Value.run (F := Ideal) m' g')⟩

end Cert.Proof

end
-- ==== Proof.BwdSpec.lean ====
module

public import proofs.«01_k».proof.Proof.FfnSpec

/-! The backward pass of the feed-forward part as a function of the rows and columns. -/

@[expose] public section

noncomputable section

namespace Cert.Ffn

open Idealize.ShloMosaic
open Finset (range)

/-- The forward pass's inputs and the gradient of its output. -/
structure Inb extends In where
  dh : ℕ → ℕ → EReal

namespace Inb

variable (D : Inb)

/-- The gradient of the scaled part's output. -/
def dy (s d : ℕ) : EReal := half * D.dh s d

/-- The gradient of the hidden units. -/
def ds (s i : ℕ) : EReal := ∑ d ∈ range 1024, D.dy s d * D.w2 i d

/-- The gradients of the two projections. -/
def da (s i : ℕ) : EReal := D.ds s i * D.b s i * Ideal.logistic (D.a s i) * (1 + D.a s i * (1 - Ideal.logistic (D.a s i)))
def db (s i : ℕ) : EReal := D.ds s i * (D.a s i * Ideal.logistic (D.a s i))

/-- The gradient of the normalized rows. -/
def dn (s d : ℕ) : EReal := ∑ i ∈ range 2816, (D.da s i * D.w1 i d + D.db s i * D.w3 i d)

/-- The rows over their root mean square. -/
def xh (s d : ℕ) : EReal := D.x s d * D.r s

/-- The gradients of the rows and of the norm's weights. -/
def dx (s d : ℕ) : EReal :=
  D.dh s d + D.r s * (D.dn s d * D.g d - D.xh s d * Ideal.div (∑ k ∈ range 1024, D.dn s k * D.g k * D.xh s k) (Ideal.ofBits .f32 0x44800000#32))
def dg (d : ℕ) : EReal := ∑ s ∈ range 4096, D.dn s d * D.xh s d

end Inb

end Cert.Ffn
-- ==== Proof.Bwd.lean ====
module

public import proofs.«01_k».proof.Proof.Stack
public import proofs.«01_k».proof.Proof.BwdSpec
public import proofs.«01_k».proof.Proof.Gen.Kernel4Ideal.Value
public import Idealize.ShloMosaic.Lib.Pointwise
public import Idealize.ShloMosaic.Lib.Pipeline.ValueKit
public import Idealize.ShloMosaic.Lib.Pipeline.ReadBack

/-! The backward pass of the feed-forward part: what one grid step stores. -/

@[expose] public section

set_option maxRecDepth 16384
set_option maxHeartbeats 0

noncomputable section

namespace Cert.Kernel4Ideal.Bwd

open Cert.Kernel4Ideal Cert.Kernel4Ideal.Gen Cert.KernelIdeal.Gla
open Idealize.ShloMosaic Idealize.ShloMosaic.TcCoe Idealize.ShloMosaic.Tactic
open Idealize.ShloMosaic.Pipeline (Dat Cfg Window)
open Finset (range)

theorem inbw (k : Fin 11) : ∀ a, (![256 * k.val, 0] : Fin 2 → ℕ) a + (![256, 1024] : Fin 2 → ℕ) a ≤ S2816x1024.size a := by
  revert k; decide +kernel

theorem inbl (k : Fin 11) : ∀ a, (![k.val, 0, 0] : Fin 3 → ℕ) a + (![1, 256, 256] : Fin 3 → ℕ) a ≤ S11x256x256.size a := by
  revert k; decide +kernel

/-- 256 rows of a weight matrix. -/
def rows (w : Vec Ideal S2816x1024 .bf16) (k : Fin 11) : Vec Ideal S256x1024 .bf16 :=
  View.ld w (Rect.unit (s := S2816x1024) ![256 * k.val, 0] ![256, 1024] (inbw k))

/-- A layer of a stack. -/
def layer (v : Vec Ideal S11x256x256 .bf16) (k : Fin 11) : Vec Ideal S1x256x256 .bf16 :=
  View.ld v (Rect.unit (s := S11x256x256) ![k.val, 0, 0] ![1, 256, 256] (inbl k))

section
variable (x0 x1 : Vec Ideal S256x1024 .f32) (x2 : Vec Ideal S1x1024 .f32) (x3 x4 : Vec Ideal S11x256x256 .bf16) (x5 x6 x7 : Vec Ideal S2816x1024 .bf16)

/-- A layer of the three stacks that the step stores. -/
def daBlk (k : Fin 11) : FVec Ideal S1x256x256 .bf16 := k0_pay13 (k0_pay6 (layer x3 k)) (k0_pay8 (layer x3 k)) (k0_pay11 x1 (rows x7 k) (layer x3 k) (layer x4 k))
def dbBlk (k : Fin 11) : FVec Ideal S1x256x256 .bf16 := k0_pay14 (k0_pay9 (layer x3 k)) (k0_pay10 x1 (rows x7 k))
def sBlk (k : Fin 11) : FVec Ideal S1x256x256 .bf16 := k0_pay12 (k0_pay7 (layer x4 k)) (k0_pay9 (layer x3 k))

/-- One of the eleven steps of the normalized rows' gradient. -/
def step (k : Fin 11) (acc : Vec Ideal S256x1024 .f32) : FVec Ideal S256x1024 .f32 :=
  k0_pay25 acc (daBlk x1 x3 x4 x7 k) (rows x5 k) (dbBlk x1 x3 x7 k) (rows x6 k)

/-- The normalized rows' gradient. -/
def dnBlk : FVec Ideal S256x1024 .f32 :=
  step x1 x3 x4 x5 x6 x7 10 (step x1 x3 x4 x5 x6 x7 9 (step x1 x3 x4 x5 x6 x7 8 (step x1 x3 x4 x5 x6 x7 7 (step x1 x3 x4 x5 x6 x7 6 (step x1 x3 x4 x5 x6 x7 5 (step x1 x3 x4 x5 x6 x7 4 (step x1 x3 x4 x5 x6 x7 3 (step x1 x3 x4 x5 x6 x7 2 (step x1 x3 x4 x5 x6 x7 1 (step x1 x3 x4 x5 x6 x7 0 (k0_pay5 (F := Ideal))))))))))))

end

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S1x1024 .f32) (harg3 : arg3.IsWhole)
  (arg4 : Memref sig .tc .vmem S11x256x256 .bf16) (harg4 : arg4.IsWhole)
  (arg5 : Memref sig .tc .vmem S11x256x256 .bf16) (harg5 : arg5.IsWhole)
  (arg6 : Memref sig .tc .vmem S2816x1024 .bf16) (harg6 : arg6.IsWhole)
  (arg7 : Memref sig .tc .vmem S2816x1024 .bf16) (harg7 : arg7.IsWhole)
  (arg8 : Memref sig .tc .vmem S2816x1024 .bf16) (harg8 : arg8.IsWhole)
  (arg9 : Memref sig .tc .vmem S256x1024 .f32) (harg9 : arg9.IsWhole)
  (arg10 : Memref sig .tc .vmem S1x1024 .f32) (harg10 : arg10.IsWhole)
  (arg11 : Memref sig .tc .vmem S11x256x256 .bf16) (harg11 : arg11.IsWhole)
  (arg12 : Memref sig .tc .vmem S11x256x256 .bf16) (harg12 : arg12.IsWhole)
  (arg13 : Memref sig .tc .vmem S11x256x256 .bf16) (harg13 : arg13.IsWhole)
  (arg14 : Memref sig .tc .vmem S256x1024 .bf16) (harg14 : arg14.IsWhole)
  (arg15 : Memref sig .tc .vmem S256x1024 .f32) (harg15 : arg15.IsWhole)
  (x0 x1 : Vec Ideal S256x1024 .f32) (x2 : Vec Ideal S1x1024 .f32) (x3 x4 : Vec Ideal S11x256x256 .bf16) (x5 x6 x7 : Vec Ideal S2816x1024 .bf16) (xo9 : Vec Ideal S1x1024 .f32)

theorem out13_A (hc : cond0_0 i) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7
    = k0_pay4 x1 := by
  frame_out

theorem out12_A (hc : cond0_0 i) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7
    = View.canon (Cert.Ffn.layers fun f => sBlk x3 x4 f) := by
  frame_out
  try simp (disch := decide) only [↓ View.readCov_skip, ↓ View.readCov_cons_toLoadRect, ↓ View.readCov_fill]
  rfl

theorem out11_A (hc : cond0_0 i) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7
    = View.canon (Cert.Ffn.layers fun f => dbBlk x1 x3 x7 f) := by
  frame_out
  try simp (disch := decide) only [↓ View.readCov_skip, ↓ View.readCov_cons_toLoadRect, ↓ View.readCov_fill]
  rfl

theorem out10_A (hc : cond0_0 i) : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7
    = View.canon (Cert.Ffn.layers fun f => daBlk x1 x3 x4 x7 f) := by
  frame_out
  try simp (disch := decide) only [↓ View.readCov_skip, ↓ View.readCov_cons_toLoadRect, ↓ View.readCov_fill]
  rfl

theorem out8_A (hc : cond0_0 i) : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7
    = k0_pay124 x2 (k0_pay2 x0) (k0_pay3 x0) x1 (dnBlk x1 x3 x4 x5 x6 x7) := by
  frame_out
  try simp (disch := decide) only [↓ View.readCov_skip, ↓ View.readCov_cons_toLoadRect, ↓ View.readCov_fill]
  rfl

theorem out9_A (hc : cond0_0 i) : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7
    = k0_pay1 (k0_pay123 (k0_pay3 x0) (dnBlk x1 x3 x4 x5 x6 x7)) (k0_pay125 (F := Ideal)) := by
  frame_out
  try simp (disch := decide) only [↓ View.readCov_skip, ↓ View.readCov_cons_toLoadRect, ↓ View.readCov_fill]
  rfl

theorem out13_B (hc : ¬cond0_0 i) : out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xo9
    = k0_pay4 x1 := by
  frame_out

theorem out12_B (hc : ¬cond0_0 i) : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xo9
    = View.canon (Cert.Ffn.layers fun f => sBlk x3 x4 f) := by
  frame_out
  try simp (disch := decide) only [↓ View.readCov_skip, ↓ View.readCov_cons_toLoadRect, ↓ View.readCov_fill]
  rfl

theorem out11_B (hc : ¬cond0_0 i) : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xo9
    = View.canon (Cert.Ffn.layers fun f => dbBlk x1 x3 x7 f) := by
  frame_out
  try simp (disch := decide) only [↓ View.readCov_skip, ↓ View.readCov_cons_toLoadRect, ↓ View.readCov_fill]
  rfl

theorem out10_B (hc : ¬cond0_0 i) : out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xo9
    = View.canon (Cert.Ffn.layers fun f => daBlk x1 x3 x4 x7 f) := by
  frame_out
  try simp (disch := decide) only [↓ View.readCov_skip, ↓ View.readCov_cons_toLoadRect, ↓ View.readCov_fill]
  rfl

theorem out8_B (hc : ¬cond0_0 i) : out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xo9
    = k0_pay124 x2 (k0_pay2 x0) (k0_pay3 x0) x1 (dnBlk x1 x3 x4 x5 x6 x7) := by
  frame_out
  try simp (disch := decide) only [↓ View.readCov_skip, ↓ View.readCov_cons_toLoadRect, ↓ View.readCov_fill]
  rfl

theorem out9_B (hc : ¬cond0_0 i) : out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xo9
    = k0_pay1 (k0_pay123 (k0_pay3 x0) (dnBlk x1 x3 x4 x5 x6 x7)) xo9 := by
  frame_out
  try simp (disch := decide) only [↓ View.readCov_skip, ↓ View.readCov_cons_toLoadRect, ↓ View.readCov_fill]
  rfl

/-! ## The blocks' entries -/

/-- A grid step's inputs: 256 rows, the saved projections of these rows, and the weights. -/
structure InAt (D : Cert.Ffn.Inb) (o : ℕ) (x0 x1 : Vec Ideal S256x1024 .f32) (x2 : Vec Ideal S1x1024 .f32) (x3 x4 : Vec Ideal S11x256x256 .bf16) (x5 x6 x7 : Vec Ideal S2816x1024 .bf16) : Prop where
  x : Is (φ := .f32) x0 fun r => D.x (o + r)
  dh : Is (φ := .f32) x1 fun r => D.dh (o + r)
  g : Is (φ := .f32) x2 fun _ => D.g
  a : ∀ (k : Fin 11) (r j : Fin 256), x3 (ix3 k r j) = D.a (o + r) (256 * k.val + j)
  b : ∀ (k : Fin 11) (r j : Fin 256), x4 (ix3 k r j) = D.b (o + r) (256 * k.val + j)
  w1 : Is (φ := .bf16) x5 D.w1
  w3 : Is (φ := .bf16) x6 D.w3
  w2 : Is (φ := .bf16) x7 D.w2

section
variable {D : Cert.Ffn.Inb} {o : ℕ} {x0 x1 : Vec Ideal S256x1024 .f32} {x2 : Vec Ideal S1x1024 .f32} {x3 x4 : Vec Ideal S11x256x256 .bf16} {x5 x6 x7 : Vec Ideal S2816x1024 .bf16}

theorem layer_at (v : Vec Ideal S11x256x256 .bf16) (k : Fin 11) (r j : Fin 256) : layer v k (ix3 (0 : Fin 1) r j) = v (ix3 k r j) := by
  pointwise [layer]

theorem dy_at (h : InAt D o x0 x1 x2 x3 x4 x5 x6 x7) : Is (k0_pay4 x1) fun r => D.dy (o + r) := fun r d => by
  pointwise [k0_pay4]
  rw [h.dh]
  rfl

theorem ds_at (h : InAt D o x0 x1 x2 x3 x4 x5 x6 x7) (k : Fin 11) : Is (k0_pay10 x1 (rows x7 k)) fun r j => D.ds (o + r) (256 * k.val + j) := fun r j => by
  have hk := k.isLt
  pointwise [k0_pay10, rows]
  exact fsum _ (fun d => D.dy (o + r) d * D.w2 (256 * k.val + j) d) fun d => by rw [dy_at h, h.w2]

theorem da_at (h : InAt D o x0 x1 x2 x3 x4 x5 x6 x7) (k : Fin 11) (r j : Fin 256) :
    daBlk x1 x3 x4 x7 k (ix3 (0 : Fin 1) r j) = D.da (o + r) (256 * k.val + j) := by
  pointwise [daBlk, k0_pay13, k0_pay11, k0_pay8, k0_pay7, k0_pay6]
  rw [ds_at h, layer_at, layer_at, h.a, h.b]
  rfl

theorem db_at (h : InAt D o x0 x1 x2 x3 x4 x5 x6 x7) (k : Fin 11) (r j : Fin 256) :
    dbBlk x1 x3 x7 k (ix3 (0 : Fin 1) r j) = D.db (o + r) (256 * k.val + j) := by
  pointwise [dbBlk, k0_pay14, k0_pay9, k0_pay8, k0_pay6]
  rw [ds_at h, layer_at, h.a]
  rfl

theorem s_at (h : InAt D o x0 x1 x2 x3 x4 x5 x6 x7) (k : Fin 11) (r j : Fin 256) :
    sBlk x3 x4 k (ix3 (0 : Fin 1) r j) = D.s (o + r) (256 * k.val + j) := by
  pointwise [sBlk, k0_pay12, k0_pay9, k0_pay8, k0_pay7, k0_pay6]
  rw [layer_at, layer_at, h.a, h.b]
  rfl

theorem step_at (h : InAt D o x0 x1 x2 x3 x4 x5 x6 x7) (k : Fin 11) {acc : Vec Ideal S256x1024 .f32}
    (ha : Is (φ := .f32) acc fun r d => ∑ i ∈ range (256 * k.val), (D.da (o + r) i * D.w1 i d + D.db (o + r) i * D.w3 i d)) :
    Is (step x1 x3 x4 x5 x6 x7 k acc) fun r d => ∑ i ∈ range (256 * (k.val + 1)), (D.da (o + r) i * D.w1 i d + D.db (o + r) i * D.w3 i d) := fun r d => by
  have hk := k.isLt
  pointwise [step, k0_pay25]
  rw [ha, mul_add, mul_one, Finset.sum_range_add, Finset.sum_add_distrib (f := fun i => D.da (o + r) (256 * k.val + i) * D.w1 (256 * k.val + i) d)]
  congr 2
  · refine fsum _ (fun i => D.da (o + r) (256 * k.val + i) * D.w1 (256 * k.val + i) d) fun i => ?_
    rw [da_at h]
    pointwise [rows]
    rw [h.w1]
  · refine fsum _ (fun i => D.db (o + r) (256 * k.val + i) * D.w3 (256 * k.val + i) d) fun i => ?_
    rw [db_at h]
    pointwise [rows]
    rw [h.w3]

theorem dn_at (h : InAt D o x0 x1 x2 x3 x4 x5 x6 x7) : Is (dnBlk x1 x3 x4 x5 x6 x7) fun r => D.dn (o + r) := by
  have z : Is (k0_pay5 (F := Ideal)) fun r d => ∑ i ∈ range (256 * (0 : Fin 11).val), (D.da (o + r) i * D.w1 i d + D.db (o + r) i * D.w3 i d) := fun r d => by
    pointwise [k0_pay5]
    simp
  exact step_at h 10 (step_at h 9 (step_at h 8 (step_at h 7 (step_at h 6 (step_at h 5 (step_at h 4 (step_at h 3 (step_at h 2 (step_at h 1 (step_at h 0 z))))))))))

theorem xh_at (h : InAt D o x0 x1 x2 x3 x4 x5 x6 x7) : Is (k0_pay3 x0) fun r => D.xh (o + r) := fun r d => by
  pointwise [k0_pay3, k0_pay2]
  rw [fsum _ (fun d => D.x (o + r) d * D.x (o + r) d) fun d => by rw [h.x], h.x]
  rfl

theorem r_at (h : InAt D o x0 x1 x2 x3 x4 x5 x6 x7) (r : Fin 256) : k0_pay2 x0 (ix2 r (0 : Fin 1)) = D.r (o + r) := by
  pointwise [k0_pay2]
  rw [fsum _ (fun d => D.x (o + r) d * D.x (o + r) d) fun d => by rw [h.x]]
  rfl

theorem dx_at (h : InAt D o x0 x1 x2 x3 x4 x5 x6 x7) : Is (k0_pay124 x2 (k0_pay2 x0) (k0_pay3 x0) x1 (dnBlk x1 x3 x4 x5 x6 x7)) fun r => D.dx (o + r) := fun r d => by
  pointwise [k0_pay124]
  rw [fsum _ (fun d => D.dn (o + r) d * D.g d * D.xh (o + r) d) fun d => by rw [dn_at h, h.g, xh_at h], h.dh, dn_at h, h.g, xh_at h, r_at h]
  rfl

theorem dg_at (h : InAt D o x0 x1 x2 x3 x4 x5 x6 x7) {acc : Vec Ideal S1x1024 .f32} {f : ℕ → EReal} (ha : Is (φ := .f32) acc fun _ => f) :
    Is (k0_pay1 (k0_pay123 (k0_pay3 x0) (dnBlk x1 x3 x4 x5 x6 x7)) acc) fun _ d => f d + ∑ s ∈ range 256, D.dn (o + s) d * D.xh (o + s) d := fun r d => by
  pointwise [k0_pay1, k0_pay123]
  rw [ha, fsum _ (fun s => D.dn (o + s) d * D.xh (o + s) d) fun s => by rw [dn_at h, xh_at h]]

end

end Cert.Kernel4Ideal.Bwd
-- ==== Proof.BwdArr.lean ====
module

public import proofs.«01_k».proof.Proof.Bwd
public import proofs.«01_k».proof.Proof.FfnRef
public import Idealize.ShloMosaic.Lib.StableHlo.Run

/-! The backward pass of the feed-forward part: its arrays. -/

@[expose] public section

set_option maxRecDepth 16384
set_option maxHeartbeats 0

noncomputable section

namespace Cert.Kernel4Ideal.Bwd

open Cert.Kernel4Ideal Cert.Kernel4Ideal.Gen Cert.KernelIdeal.Gla
open Idealize.ShloMosaic Idealize.ShloMosaic.TcCoe Idealize.ShloMosaic.Tactic
open Idealize.ShloMosaic.Pipeline (Dat Cfg Window)
open Finset (range)

variable (m : (ℓ : Loc nD τ sig) → Buf (Elt Ideal) ℓ)

/-- The saved projections, as the host computes them. -/
theorem host_a (c : Dev nD) : V m c main_v17
    = Cert.Reference3Ideal.Ffn.blocked (Cert.Reference3Ideal.Ffn.proj (m ((c : Thread nD τ).loc main_arg0)) (m ((c : Thread nD τ).loc main_arg1)) (m ((c : Thread nD τ).loc main_arg2))) := by
  show StableHlo.after hostOps0 (fun b => m (c, b)) main_v17 = _
  unfold hostOps0
  after_results_simp
  rfl

theorem host_b (c : Dev nD) : V m c main_v23
    = Cert.Reference3Ideal.Ffn.blocked (Cert.Reference3Ideal.Ffn.proj (m ((c : Thread nD τ).loc main_arg0)) (m ((c : Thread nD τ).loc main_arg1)) (m ((c : Thread nD τ).loc main_arg3))) := by
  show StableHlo.after hostOps0 (fun b => m (c, b)) main_v23 = _
  unfold hostOps0
  after_results_simp
  rfl

/-- The arguments as the pass's inputs. -/
structure ArgsAt (D : Cert.Ffn.Inb) (c : Dev nD) : Prop where
  x : Is (a := 4096) (b := 1024) (φ := .f32) (m ((c : Thread nD τ).loc main_arg0)) D.x
  g : Is (a := 1) (b := 1024) (φ := .f32) (m ((c : Thread nD τ).loc main_arg1)) fun _ => D.g
  w1 : Is (a := 2816) (b := 1024) (φ := .bf16) (m ((c : Thread nD τ).loc main_arg2)) D.w1
  w3 : Is (a := 2816) (b := 1024) (φ := .bf16) (m ((c : Thread nD τ).loc main_arg3)) D.w3
  w2 : Is (a := 2816) (b := 1024) (φ := .bf16) (m ((c : Thread nD τ).loc main_arg4)) D.w2
  dh : Is (a := 4096) (b := 1024) (φ := .f32) (m ((c : Thread nD τ).loc main_arg5)) D.dh

theorem win_row : ∀ t : Fin cfg0.N, (cfg0.win 0).index t 0 = t.val ∧ (cfg0.win 0).index t 1 = 0 ∧ (cfg0.win 1).index t 0 = t.val ∧ (cfg0.win 1).index t 1 = 0
    ∧ (cfg0.win 2).index t 0 = 0 ∧ (cfg0.win 2).index t 1 = 0
    ∧ (cfg0.win 3).index t 0 = 0 ∧ (cfg0.win 3).index t 1 = t.val ∧ (cfg0.win 3).index t 2 = 0
    ∧ (cfg0.win 4).index t 0 = 0 ∧ (cfg0.win 4).index t 1 = t.val ∧ (cfg0.win 4).index t 2 = 0
    ∧ (cfg0.win 5).index t 0 = 0 ∧ (cfg0.win 5).index t 1 = 0 ∧ (cfg0.win 6).index t 0 = 0 ∧ (cfg0.win 6).index t 1 = 0
    ∧ (cfg0.win 7).index t 0 = 0 ∧ (cfg0.win 7).index t 1 = 0 := by decide +kernel

theorem win_out : ∀ t : Fin cfg0.N, (cfg0.win 8).index t 0 = t.val ∧ (cfg0.win 8).index t 1 = 0
    ∧ (cfg0.win 9).index t 0 = 0 ∧ (cfg0.win 9).index t 1 = 0
    ∧ (cfg0.win 10).index t 0 = 0 ∧ (cfg0.win 10).index t 1 = t.val ∧ (cfg0.win 10).index t 2 = 0
    ∧ (cfg0.win 11).index t 0 = 0 ∧ (cfg0.win 11).index t 1 = t.val ∧ (cfg0.win 11).index t 2 = 0
    ∧ (cfg0.win 12).index t 0 = 0 ∧ (cfg0.win 12).index t 1 = t.val ∧ (cfg0.win 12).index t 2 = 0
    ∧ (cfg0.win 13).index t 0 = t.val ∧ (cfg0.win 13).index t 1 = 0 := by decide +kernel

variable {D : Cert.Ffn.Inb} {c : Dev nD}

theorem in_at (h : ArgsAt m D c) (t : Fin cfg0.N) :
    InAt D (256 * t.val) (iblk m c 0 t) (iblk m c 1 t) (iblk m c 2 t) (iblk m c 3 t) (iblk m c 4 t) (iblk m c 5 t) (iblk m c 6 t) (iblk m c 7 t) := by
  obtain ⟨a0, a1, b0, b1, c0, c1, d0, d1, d2, e0, e1, e2, f0, f1, g0, g1, h0, h1⟩ := win_row t
  have ht : t.val < 16 := t.isLt
  refine ⟨fun r κ => ?_, fun r κ => ?_, fun r κ => ?_, fun k r j => ?_, fun k r j => ?_, fun r κ => ?_, fun r κ => ?_, fun r κ => ?_⟩
  · have e : iblk m c 0 t (ix2 r κ) = V m c main_arg0 (ix2 (⟨256 * t.val + r, by omega⟩ : Fin 4096) κ) := by blk_ext [iblk, a0, a1]
    exact e.trans (h.x _ _)
  · have e : iblk m c 1 t (ix2 r κ) = V m c main_arg5 (ix2 (⟨256 * t.val + r, by omega⟩ : Fin 4096) κ) := by blk_ext [iblk, b0, b1]
    exact e.trans (h.dh _ _)
  · have e : iblk m c 2 t (ix2 r κ) = V m c main_arg1 (ix2 r κ) := by blk_ext [iblk, c0, c1]
    exact e.trans (h.g _ _)
  · have e : iblk m c 3 t (ix3 k r j) = V m c main_v17 (ix3 k (⟨256 * t.val + r, by omega⟩ : Fin 4096) j) := by blk_ext [iblk, d0, d1, d2]
    rw [e, host_a]
    exact Cert.Reference3Ideal.Ffn.blocked_at (Cert.Reference3Ideal.Ffn.proj_at (D := D.toIn) h.x h.g h.w1) k _ j
  · have e : iblk m c 4 t (ix3 k r j) = V m c main_v23 (ix3 k (⟨256 * t.val + r, by omega⟩ : Fin 4096) j) := by blk_ext [iblk, e0, e1, e2]
    rw [e, host_b]
    exact Cert.Reference3Ideal.Ffn.blocked_at (Cert.Reference3Ideal.Ffn.proj_at (D := D.toIn) h.x h.g h.w3) k _ j
  · have e : iblk m c 5 t (ix2 r κ) = V m c main_arg2 (ix2 r κ) := by blk_ext [iblk, f0, f1]
    exact e.trans (h.w1 _ _)
  · have e : iblk m c 6 t (ix2 r κ) = V m c main_arg3 (ix2 r κ) := by blk_ext [iblk, g0, g1]
    exact e.trans (h.w3 _ _)
  · have e : iblk m c 7 t (ix2 r κ) = V m c main_arg4 (ix2 r κ) := by blk_ext [iblk, h0, h1]
    exact e.trans (h.w2 _ _)

theorem arr_dx (h : ArgsAt m D c) : (dats m 0 c).arrAt 8 cfg0.N = fun i : S4096x1024.Idx => D.dx (i 0) (i 1) := by
  refine (dats m 0 c).arrAt_eq_of_covers 8 _ (by decide +kernel) fun t hf y => ?_
  obtain ⟨g0, g1, -⟩ := win_out t
  blk_simp [g0, g1]
  rw [after0_8, mul_comm t.val 256]
  by_cases h0 : t.val % 16 = 0
  · rw [outsAt0_A m c t h0]; dsimp only; rw [out8_A]
    exact (dx_at (in_at m h t)).idx y
  · rw [outsAt0_B m c t h0]; dsimp only; rw [out8_B]
    exact (dx_at (in_at m h t)).idx y

theorem arr_dy (h : ArgsAt m D c) : (dats m 0 c).arrAt 13 cfg0.N = fun i : S4096x1024.Idx => D.dy (i 0) (i 1) := by
  refine (dats m 0 c).arrAt_eq_of_covers 13 _ (by decide +kernel) fun t hf y => ?_
  obtain ⟨-, -, -, -, -, -, -, -, -, -, -, -, -, g0, g1⟩ := win_out t
  blk_simp [g0, g1]
  rw [after0_13, mul_comm t.val 256]
  by_cases h0 : t.val % 16 = 0
  · rw [outsAt0_A m c t h0]; dsimp only; rw [out13_A]
    exact (dy_at (in_at m h t)).idx y
  · rw [outsAt0_B m c t h0]; dsimp only; rw [out13_B]
    exact (dy_at (in_at m h t)).idx y

theorem arr_da (h : ArgsAt m D c) : (dats m 0 c).arrAt 10 cfg0.N = fun i : S11x4096x256.Idx => D.da (i 1) (256 * (i 0 : ℕ) + (i 2 : ℕ)) := by
  refine (dats m 0 c).arrAt_eq_of_covers 10 _ (by decide +kernel) fun t hf y => ?_
  obtain ⟨-, -, -, -, g0, g1, g2, -⟩ := win_out t
  blk_simp [g0, g1, g2]
  rw [after0_10, mul_comm t.val 256]
  have L := Cert.Ffn.layers256_at _ (fun f r j => D.da (256 * t.val + r) (256 * f + j)) (fun f r j => da_at (in_at m h t) f r j) y
  by_cases h0 : t.val % 16 = 0
  · rw [outsAt0_A m c t h0]; dsimp only; rw [out10_A]
    exact L
  · rw [outsAt0_B m c t h0]; dsimp only; rw [out10_B]
    exact L

theorem arr_db (h : ArgsAt m D c) : (dats m 0 c).arrAt 11 cfg0.N = fun i : S11x4096x256.Idx => D.db (i 1) (256 * (i 0 : ℕ) + (i 2 : ℕ)) := by
  refine (dats m 0 c).arrAt_eq_of_covers 11 _ (by decide +kernel) fun t hf y => ?_
  obtain ⟨-, -, -, -, -, -, -, g0, g1, g2, -⟩ := win_out t
  blk_simp [g0, g1, g2]
  rw [after0_11, mul_comm t.val 256]
  have L := Cert.Ffn.layers256_at _ (fun f r j => D.db (256 * t.val + r) (256 * f + j)) (fun f r j => db_at (in_at m h t) f r j) y
  by_cases h0 : t.val % 16 = 0
  · rw [outsAt0_A m c t h0]; dsimp only; rw [out11_A]
    exact L
  · rw [outsAt0_B m c t h0]; dsimp only; rw [out11_B]
    exact L

theorem arr_s (h : ArgsAt m D c) : (dats m 0 c).arrAt 12 cfg0.N = fun i : S11x4096x256.Idx => D.s (i 1) (256 * (i 0 : ℕ) + (i 2 : ℕ)) := by
  refine (dats m 0 c).arrAt_eq_of_covers 12 _ (by decide +kernel) fun t hf y => ?_
  obtain ⟨-, -, -, -, -, -, -, -, -, -, g0, g1, g2, -⟩ := win_out t
  blk_simp [g0, g1, g2]
  rw [after0_12, mul_comm t.val 256]
  have L := Cert.Ffn.layers256_at _ (fun f r j => D.s (256 * t.val + r) (256 * f + j)) (fun f r j => s_at (in_at m h t) f r j) y
  by_cases h0 : t.val % 16 = 0
  · rw [outsAt0_A m c t h0]; dsimp only; rw [out12_A]
    exact L
  · rw [outsAt0_B m c t h0]; dsimp only; rw [out12_B]
    exact L

/-- The norm's weights' gradient after a grid step: the sum over the rows so far. -/
theorem dg_run (h : ArgsAt m D c) : ∀ (n : ℕ) (hn : n < cfg0.N), Is (φ := .f32) (outsAt0 m c n hn).2.1 fun _ d => ∑ s ∈ range (256 * (n + 1)), D.dn s d * D.xh s d
  | 0, hn => by
    have z : Is (φ := .f32) (k0_pay125 (F := Ideal)) fun _ _ => (0 : EReal) := fun r d => by
      pointwise [k0_pay125]
    intro r d
    rw [outsAt0_A m c ⟨0, hn⟩ rfl]
    dsimp only
    rw [out9_A]
    refine (dg_at (in_at m h ⟨0, hn⟩) z r d).trans ?_
    simp
  | n + 1, hn => by
    have hN : n + 1 < 16 := hn
    intro r d
    rw [outsAt0_B m c ⟨n + 1, hn⟩ (by show ¬(n + 1) % 16 = 0; omega)]
    dsimp only
    rw [out9_B]
    refine (dg_at (in_at m h ⟨n + 1, hn⟩) (dg_run h n (by omega)) r d).trans ?_
    rw [mul_add 256 (n + 1) 1, mul_one, Finset.sum_range_add]

theorem arr_dg (h : ArgsAt m D c) : (dats m 0 c).arrAt 9 cfg0.N = fun i : S1x1024.Idx => D.dg (i 1) := by
  refine (dats m 0 c).arrAt_eq_of_covers 9 _ (by decide +kernel) fun t hf y => ?_
  obtain ⟨-, -, g0, g1, -⟩ := win_out t
  have ht : t.val = 15 := by revert t; decide +kernel
  blk_simp [g0, g1]
  rw [after0_9]
  refine ((dg_run m h t.val t.isLt).idx y).trans ?_
  rw [ht]
  rfl

end Cert.Kernel4Ideal.Bwd
-- ==== Proof.BwdReal.lean ====
module

public import proofs.«01_k».proof.Proof.BwdSpec

/-! The backward pass over finite inputs: everything it computes is a real number, and two forms of it agree. -/

@[expose] public section

noncomputable section

namespace Cert.Ffn

open Idealize.ShloMosaic
open Finset (range)

/-- A real number. -/
def IsReal (x : EReal) : Prop := ∃ r : ℝ, x = (r : EReal)

namespace IsReal

variable {x y : EReal}

theorem coe (r : ℝ) : IsReal (r : EReal) := ⟨r, rfl⟩

theorem add (hx : IsReal x) (hy : IsReal y) : IsReal (x + y) := by
  obtain ⟨a, rfl⟩ := hx
  obtain ⟨b, rfl⟩ := hy
  exact ⟨a + b, (EReal.coe_add a b).symm⟩

theorem mul (hx : IsReal x) (hy : IsReal y) : IsReal (x * y) := by
  obtain ⟨a, rfl⟩ := hx
  obtain ⟨b, rfl⟩ := hy
  exact ⟨a * b, (EReal.coe_mul a b).symm⟩

theorem sub (hx : IsReal x) (hy : IsReal y) : IsReal (x - y) := by
  obtain ⟨a, rfl⟩ := hx
  obtain ⟨b, rfl⟩ := hy
  exact ⟨a - b, (EReal.coe_sub a b).symm⟩

theorem logistic (hx : IsReal x) : IsReal (Ideal.logistic x) := by
  obtain ⟨a, rfl⟩ := hx
  exact ⟨_, Ideal.logistic_coe a⟩

theorem one : IsReal 1 := ⟨1, rfl⟩

end IsReal

theorem coe_sum (n : ℕ) (f : ℕ → ℝ) : ∑ i ∈ range n, (f i : EReal) = ((∑ i ∈ range n, f i : ℝ) : EReal) := by
  induction n with
  | zero => simp
  | succ n ih => rw [Finset.sum_range_succ, Finset.sum_range_succ, ih, EReal.coe_add]

theorem IsReal.sum {n : ℕ} {f : ℕ → EReal} (h : ∀ i, IsReal (f i)) : IsReal (∑ i ∈ range n, f i) := by
  choose g hg using h
  exact ⟨∑ i ∈ range n, g i, by rw [← coe_sum]; exact Finset.sum_congr rfl fun i _ => hg i⟩

theorem c1024 : Ideal.ofBits .f32 0x44800000#32 = ((1024 : ℝ) : EReal) := by
  simp [Ideal.ofBits, Ideal.ieee, -EReal.coe_mul]; norm_num

theorem mhalf : Ideal.ofBits .f32 0xBF000000#32 = ((-1 / 2 : ℝ) : EReal) := by
  simp [Ideal.ofBits, Ideal.ieee, -EReal.coe_mul]; norm_num

theorem eps : ∃ e : ℝ, 0 < e ∧ Ideal.ofBits .f32 0x358637BD#32 = (e : EReal) := by
  refine ⟨_, ?_, by simp [Ideal.ofBits, Ideal.ieee, -EReal.coe_mul]; rfl⟩
  norm_num

namespace Inb

/-- Every input is a real number. -/
structure Finite (D : Inb) : Prop where
  x : ∀ s d, IsReal (D.x s d)
  g : ∀ d, IsReal (D.g d)
  w1 : ∀ i d, IsReal (D.w1 i d)
  w3 : ∀ i d, IsReal (D.w3 i d)
  w2 : ∀ i d, IsReal (D.w2 i d)
  dh : ∀ s d, IsReal (D.dh s d)

variable {D : Inb}

/-- A row's mean square, a little above zero. -/
def ms (D : Inb) (s : ℕ) : EReal :=
  Ideal.div (∑ d ∈ range 1024, D.x s d * D.x s d) (Ideal.ofBits .f32 0x44800000#32) + Ideal.ofBits .f32 0x358637BD#32

theorem ms_pos (h : D.Finite) (s : ℕ) : ∃ v : ℝ, 0 < v ∧ D.ms s = (v : EReal) := by
  choose f hf using h.x s
  obtain ⟨e, he, e'⟩ := eps
  refine ⟨(∑ d ∈ range 1024, f d * f d) * (1 / 1024) + e, add_pos_of_nonneg_of_pos (mul_nonneg (Finset.sum_nonneg fun d _ => mul_self_nonneg _) (by norm_num)) he, ?_⟩
  rw [ms, e', c1024, Ideal.div_coe (by norm_num), EReal.coe_add, EReal.coe_mul, ← coe_sum]
  refine congrArg (fun z => z * ((1 / 1024 : ℝ) : EReal) + (e : EReal)) (Finset.sum_congr rfl fun d _ => ?_)
  rw [hf, EReal.coe_mul]

theorem r_real (h : D.Finite) (s : ℕ) : ∃ v ρ : ℝ, v ≠ 0 ∧ ρ * ρ = 1 / v ∧ D.ms s = (v : EReal) ∧ D.r s = (ρ : EReal) := by
  obtain ⟨v, hv, e⟩ := ms_pos h s
  refine ⟨v, (√v)⁻¹, hv.ne', ?_, e, ?_⟩
  · rw [← mul_inv, Real.mul_self_sqrt hv.le, one_div]
  · show Ideal.rsqrt (D.ms s) = _
    rw [e, Ideal.rsqrt_coe, if_neg (not_lt.mpr hv.le), if_neg hv.ne']

theorem fin_r (h : D.Finite) (s : ℕ) : IsReal (D.r s) := by
  obtain ⟨_, ρ, _, _, _, e⟩ := r_real h s
  exact ⟨ρ, e⟩

theorem fin_n (h : D.Finite) (s d : ℕ) : IsReal (D.n s d) := ((h.x s d).mul (fin_r h s)).mul (h.g d)

theorem fin_a (h : D.Finite) (s i : ℕ) : IsReal (D.a s i) := IsReal.sum fun d => (fin_n h s d).mul (h.w1 i d)

theorem fin_b (h : D.Finite) (s i : ℕ) : IsReal (D.b s i) := IsReal.sum fun d => (fin_n h s d).mul (h.w3 i d)

theorem fin_ds (h : D.Finite) (s i : ℕ) : IsReal (D.ds s i) :=
  IsReal.sum fun d => (((show IsReal half from ⟨_, half_coe⟩)).mul (h.dh s d)).mul (h.w2 i d)

theorem fin_da (h : D.Finite) (s i : ℕ) : IsReal (D.da s i) :=
  (((fin_ds h s i).mul (fin_b h s i)).mul (fin_a h s i).logistic).mul (IsReal.one.add ((fin_a h s i).mul (IsReal.one.sub (fin_a h s i).logistic)))

theorem fin_db (h : D.Finite) (s i : ℕ) : IsReal (D.db s i) := (fin_ds h s i).mul ((fin_a h s i).mul (fin_a h s i).logistic)

theorem fin_dn (h : D.Finite) (s d : ℕ) : IsReal (D.dn s d) := IsReal.sum fun i => ((fin_da h s i).mul (h.w1 i d)).add ((fin_db h s i).mul (h.w3 i d))

/-- The gradient of the gated projection, term by term. -/
theorem da_eq (h : D.Finite) (s i : ℕ) :
    D.ds s i * D.b s i * Ideal.logistic (D.a s i) + D.a s i * (D.ds s i * D.b s i) * (Ideal.logistic (D.a s i) * (1 - Ideal.logistic (D.a s i))) = D.da s i := by
  unfold da
  obtain ⟨t, ht⟩ := (fin_ds h s i).mul (fin_b h s i)
  obtain ⟨g, hg⟩ := (fin_a h s i).logistic
  obtain ⟨a, ha⟩ := fin_a h s i
  rw [ht, hg, ha]
  norm_cast
  ring

/-- The gradient of the rows, the mean square's share of it twice. -/
theorem dx_eq (h : D.Finite) (s d : ℕ) :
    D.dh s d + D.dn s d * D.g d * D.r s
      + D.x s d * Ideal.div ((∑ k ∈ range 1024, D.x s k * (D.dn s k * D.g k)) * (Ideal.ofBits .f32 0xBF000000#32 * Ideal.div (D.r s) (D.ms s))) (Ideal.ofBits .f32 0x44800000#32)
      + Ideal.div ((∑ k ∈ range 1024, D.x s k * (D.dn s k * D.g k)) * (Ideal.ofBits .f32 0xBF000000#32 * Ideal.div (D.r s) (D.ms s))) (Ideal.ofBits .f32 0x44800000#32) * D.x s d
    = D.dx s d := by
  obtain ⟨v, ρ, hv, e, hm, hr⟩ := r_real h s
  choose f hf using h.x s
  choose p hp using fun d => (fin_dn h s d).mul (h.g d)
  obtain ⟨δ, hδ⟩ := h.dh s d
  have S1 : ∑ k ∈ range 1024, D.x s k * (D.dn s k * D.g k) = ((∑ k ∈ range 1024, f k * p k : ℝ) : EReal) := by
    rw [← coe_sum]
    exact Finset.sum_congr rfl fun k _ => by rw [hp, hf, EReal.coe_mul]
  have S2 : ∑ k ∈ range 1024, D.dn s k * D.g k * D.xh s k = ((ρ * ∑ k ∈ range 1024, f k * p k : ℝ) : EReal) := by
    rw [Finset.mul_sum, ← coe_sum]
    refine Finset.sum_congr rfl fun k _ => ?_
    rw [hp, xh, hf, hr]
    norm_cast
    ring
  unfold dx
  rw [S1, S2, xh, hp, hf, hr, hm, hδ, mhalf, c1024, Ideal.div_coe (by norm_num), Ideal.div_coe hv, Ideal.div_coe (by norm_num), ← e]
  simp only [← EReal.coe_mul, ← EReal.coe_add, ← EReal.coe_sub]
  congr 1
  ring

end Inb

end Cert.Ffn
-- ==== Proof.BwdRef.lean ====
module

public import proofs.«01_k».proof.Proof.BwdReal
public import proofs.«01_k».proof.Proof.FfnRef
public import proofs.«01_k».proof.Proof.Gen.Reference4Ideal.Run
public import Idealize.ShloMosaic.Lib.Pointwise

/-! The reference's backward pass of the feed-forward part. -/

@[expose] public section

set_option maxRecDepth 16384
set_option maxHeartbeats 0

noncomputable section

namespace Cert.Reference4Ideal.Bwd

open Cert.Reference4Ideal Cert.Reference4Ideal.Gen Cert.KernelIdeal.Gla
open Idealize.ShloMosaic Idealize.ShloMosaic.TcCoe Idealize.ShloMosaic.Tactic
open Cert.Reference3Ideal.Ffn (proj proj_at blocked blocked_at)
open Finset (range)

section
variable (X : FVec Ideal S4096x1024 .f32) (g : FVec Ideal S1x1024 .f32) (w w1 w3 w2 : FVec Ideal S2816x1024 .bf16) (H : FVec Ideal S4096x1024 .f32)

def msq : FVec Ideal S4096x1 .f32 :=
  addf (Host.divf (broadcastInDim S4096x1 ![0] bcast_S4096_S4096x1_0
    (Host.reduceAdd (mulf X X) (constant S_ .f32 0x00000000#32) reducesTo_S4096x1024_S4096_d1 h_S_)) (broadcastInDim S4096x1 ![] bcast_S_S4096x1 (constant S_ .f32 0x44800000#32)))
    (broadcastInDim S4096x1 ![] bcast_S_S4096x1 (constant S_ .f32 0x358637BD#32))

def root : FVec Ideal S4096x1 .f32 := Host.rsqrt (msq X)

def slope : FVec Ideal S4096x1 .f32 := mulf (broadcastInDim S4096x1 ![] bcast_S_S4096x1 (constant S_ .f32 0xBF000000#32)) (Host.divf (root X) (msq X))

def xhat : FVec Ideal S4096x1024 .f32 := mulf X (broadcastInDim S4096x1024 ![0, 1] bcast_S4096x1_S4096x1024_0_1 (root X))

/-- A projection, a zero added. -/
def pre : FVec Ideal S4096x2816 .f32 := addf (proj X g w) (broadcastInDim S4096x2816 ![] bcast_S_S4096x2816 (constant S_ .f32 0x00000000#32))

def sig : FVec Ideal S4096x2816 .f32 :=
  Host.divf (broadcastInDim S4096x2816 ![] bcast_S_S4096x2816 (constant S_ .f32 0x3F800000#32))
    (addf (broadcastInDim S4096x2816 ![] bcast_S_S4096x2816 (constant S_ .f32 0x3F800000#32)) (Host.exp (Host.negf (pre X g w))))

def gate : FVec Ideal S4096x2816 .f32 := mulf (pre X g w) (sig X g w)

def hid : FVec Ideal S4096x2816 .f32 := mulf (gate X g w1) (pre X g w3)

def dyR : FVec Ideal S4096x1024 .f32 :=
  mulf (broadcastInDim S4096x1024 ![] bcast_S_S4096x1024 (constant S_ .f32 0x3F000000#32)) (shapeCast S4096x1024 H shapeCasts_S4096x1024_S4096x1024)

def dsR : FVec Ideal S4096x2816 .f32 := Host.dotGeneral dot_S4096x1024_S2816x1024_S4096x2816_1_1_0_0_n_n none (dyR H) (extf .f32 w2 bitsLt_bf16_f32)

def dbR : FVec Ideal S4096x2816 .f32 := mulf (gate X g w1) (dsR w2 H)

def dtR : FVec Ideal S4096x2816 .f32 := mulf (dsR w2 H) (pre X g w3)

def daR : FVec Ideal S4096x2816 .f32 :=
  addf (mulf (dtR X g w3 w2 H) (sig X g w1)) (mulf (mulf (pre X g w1) (dtR X g w3 w2 H))
    (mulf (sig X g w1) (subf (broadcastInDim S4096x2816 ![] bcast_S_S4096x2816 (constant S_ .f32 0x3F800000#32)) (sig X g w1))))

def dnR : FVec Ideal S4096x1024 .f32 :=
  addf (Host.dotGeneral dot_S4096x2816_S1024x2816_S4096x1024_1_1_0_0_n_n none (dbR X g w1 w2 H) (transpose S1024x2816 [1, 0] (extf .f32 w3 bitsLt_bf16_f32) transposes_S2816x1024_S1024x2816_1_0))
    (Host.dotGeneral dot_S4096x2816_S1024x2816_S4096x1024_1_1_0_0_n_n none (daR X g w1 w3 w2 H) (transpose S1024x2816 [1, 0] (extf .f32 w1 bitsLt_bf16_f32) transposes_S2816x1024_S1024x2816_1_0))

def dgR : FVec Ideal S1x1024 .f32 :=
  shapeCast S1x1024 (Host.reduceAdd (mulf (xhat X) (dnR X g w1 w3 w2 H)) (constant S_ .f32 0x00000000#32) reducesTo_S4096x1024_S1024_d0 h_S_) shapeCasts_S1024_S1x1024

def dhatR : FVec Ideal S4096x1024 .f32 := mulf (dnR X g w1 w3 w2 H) (broadcastInDim S4096x1024 ![0, 1] bcast_S1x1024_S4096x1024_0_1 g)

/-- The rows' share through their mean square. -/
def share : FVec Ideal S4096x1 .f32 :=
  Host.divf (mulf (shapeCast S4096x1 (Host.reduceAdd (mulf X (dhatR X g w1 w3 w2 H)) (constant S_ .f32 0x00000000#32) reducesTo_S4096x1024_S4096_d1 h_S_) shapeCasts_S4096_S4096x1) (slope X))
    (broadcastInDim S4096x1 ![] bcast_S_S4096x1 (constant S_ .f32 0x44800000#32))

def shares : FVec Ideal S4096x1024 .f32 :=
  broadcastInDim S4096x1024 ![0] bcast_S4096_S4096x1024_0 (Host.reduceAdd (share X g w1 w3 w2 H) (constant S_ .f32 0x00000000#32) reducesTo_S4096x1_S4096_d1 h_S_)

def dxR : FVec Ideal S4096x1024 .f32 :=
  addf (addf (addf H (mulf (dhatR X g w1 w3 w2 H) (broadcastInDim S4096x1024 ![0, 1] bcast_S4096x1_S4096x1024_0_1 (root X))))
    (mulf X (shares X g w1 w3 w2 H))) (mulf (shares X g w1 w3 w2 H) X)

end

section
variable (m : (ℓ : Loc nD τ Reference4Ideal.sig) → Buf (Elt Ideal) ℓ) (c : Dev nD)

theorem res_dx : Value.res_main_v62 m c = dxR (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) := rfl

theorem res_dg : Value.res_main_v45 m c = dgR (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) := rfl

theorem res_da : Value.res_main_v65 m c = blocked (daR (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))) := rfl

end

section
variable {D : Cert.Ffn.Inb} {X : FVec Ideal S4096x1024 .f32} {g : FVec Ideal S1x1024 .f32} {w w1 w3 w2 : FVec Ideal S2816x1024 .bf16} {H : FVec Ideal S4096x1024 .f32}

/-- The arguments' entries. -/
structure ArgsAt (D : Cert.Ffn.Inb) (X : FVec Ideal S4096x1024 .f32) (g : FVec Ideal S1x1024 .f32) (w1 w3 w2 : FVec Ideal S2816x1024 .bf16) (H : FVec Ideal S4096x1024 .f32) : Prop where
  x : Is X D.x
  g : Is g fun _ => D.g
  w1 : Is w1 D.w1
  w3 : Is w3 D.w3
  w2 : Is w2 D.w2
  dh : Is H D.dh

theorem msq_at (h : Is X D.x) (s : Fin 4096) : msq X (ix2 s (0 : Fin 1)) = D.ms s := by
  pointwise [msq]
  rw [fsum _ (fun d => D.x s d * D.x s d) fun d => by rw [h]]
  rfl

theorem root_at (h : Is X D.x) (s : Fin 4096) : root X (ix2 s (0 : Fin 1)) = D.r s := by
  pointwise [root]
  rw [msq_at h]
  rfl

theorem slope_at (h : Is X D.x) (s : Fin 4096) : slope X (ix2 s (0 : Fin 1)) = Ideal.ofBits .f32 0xBF000000#32 * Ideal.div (D.r s) (D.ms s) := by
  pointwise [slope]
  rw [msq_at h, root_at h]

theorem xhat_at (h : Is X D.x) : Is (xhat X) D.xh := fun s d => by
  pointwise [xhat]
  rw [h, root_at h]
  rfl

theorem preA_at (h : ArgsAt D X g w1 w3 w2 H) : Is (pre X g w1) D.a := fun s i => by
  pointwise [pre]
  exact proj_at (D := D.toIn) h.x h.g h.w1 s i

theorem preB_at (h : ArgsAt D X g w1 w3 w2 H) : Is (pre X g w3) D.b := fun s i => by
  pointwise [pre]
  exact proj_at (D := D.toIn) h.x h.g h.w3 s i

theorem sig_at (h : ArgsAt D X g w1 w3 w2 H) : Is (sig X g w1) fun s i => Ideal.logistic (D.a s i) := fun s i => by
  pointwise [sig]
  rw [preA_at h]
  rfl

theorem gate_at (h : ArgsAt D X g w1 w3 w2 H) : Is (gate X g w1) fun s i => D.a s i * Ideal.logistic (D.a s i) := fun s i => by
  pointwise [gate]
  rw [preA_at h, sig_at h]

theorem hid_at (h : ArgsAt D X g w1 w3 w2 H) : Is (hid X g w1 w3) D.s := fun s i => by
  pointwise [hid]
  rw [gate_at h, preB_at h]
  rfl

theorem dy_at (h : ArgsAt D X g w1 w3 w2 H) : Is (dyR H) D.dy := fun s d => by
  pointwise [dyR]
  rw [h.dh]
  rfl

theorem ds_at (h : ArgsAt D X g w1 w3 w2 H) : Is (dsR w2 H) D.ds := fun s i => by
  pointwise [dsR]
  exact fsum _ (fun d => D.dy s d * D.w2 i d) fun d => by rw [dy_at h, h.w2]

theorem db_at (h : ArgsAt D X g w1 w3 w2 H) : Is (dbR X g w1 w2 H) D.db := fun s i => by
  pointwise [dbR]
  rw [gate_at h, ds_at h, mul_comm]
  rfl

theorem da_at (h : ArgsAt D X g w1 w3 w2 H) (hD : D.Finite) : Is (daR X g w1 w3 w2 H) D.da := fun s i => by
  pointwise [daR, dtR]
  rw [ds_at h, preB_at h, preA_at h, sig_at h]
  exact Cert.Ffn.Inb.da_eq hD s i

theorem dn_at (h : ArgsAt D X g w1 w3 w2 H) (hD : D.Finite) : Is (dnR X g w1 w3 w2 H) D.dn := fun s d => by
  pointwise [dnR]
  rw [fsum _ (fun i => D.db s i * D.w3 i d) fun i => by rw [db_at h, h.w3], fsum _ (fun i => D.da s i * D.w1 i d) fun i => by rw [da_at h hD, h.w1], add_comm,
    ← Finset.sum_add_distrib]
  rfl

theorem dg_at (h : ArgsAt D X g w1 w3 w2 H) (hD : D.Finite) : Is (dgR X g w1 w3 w2 H) fun _ => D.dg := fun r d => by
  pointwise [dgR]
  exact fsum _ (fun s => D.dn s d * D.xh s d) fun s => by rw [xhat_at h.x, dn_at h hD, mul_comm]

theorem dhat_at (h : ArgsAt D X g w1 w3 w2 H) (hD : D.Finite) : Is (dhatR X g w1 w3 w2 H) fun s d => D.dn s d * D.g d := fun s d => by
  pointwise [dhatR]
  rw [dn_at h hD, h.g]

theorem share_at (h : ArgsAt D X g w1 w3 w2 H) (hD : D.Finite) (s : Fin 4096) : share X g w1 w3 w2 H (ix2 s (0 : Fin 1))
    = Ideal.div ((∑ k ∈ range 1024, D.x s k * (D.dn s k * D.g k)) * (Ideal.ofBits .f32 0xBF000000#32 * Ideal.div (D.r s) (D.ms s))) (Ideal.ofBits .f32 0x44800000#32) := by
  pointwise [share]
  rw [fsum _ (fun k => D.x s k * (D.dn s k * D.g k)) fun k => by rw [h.x, dhat_at h hD], slope_at h.x]

theorem shares_at (h : ArgsAt D X g w1 w3 w2 H) (hD : D.Finite) (s : Fin 4096) (d : Fin 1024) : shares X g w1 w3 w2 H (ix2 s d) = share X g w1 w3 w2 H (ix2 s (0 : Fin 1)) := by
  pointwise [shares]
  exact Fin.sum_univ_one _

theorem dx_at (h : ArgsAt D X g w1 w3 w2 H) (hD : D.Finite) : Is (dxR X g w1 w3 w2 H) D.dx := fun s d => by
  pointwise [dxR]
  rw [shares_at h hD, share_at h hD, dhat_at h hD, root_at h.x, h.x, h.dh]
  exact Cert.Ffn.Inb.dx_eq hD s d

end

end Cert.Reference4Ideal.Bwd
-- ==== Proof.BwdClaim.lean ====
module

public import proofs.«01_k».proof.Defs
public import proofs.«01_k».proof.Proof.BwdArr
public import proofs.«01_k».proof.Proof.BwdRef
public import proofs.«01_k».proof.Proof.FfnClaim
public import proofs.«01_k».proof.Proof.Soft
public import proofs.«01_k».proof.Proof.Gen.Kernel4

/-! The claims of the feed-forward part's backward pass. -/

@[expose] public section

set_option maxHeartbeats 0
set_option maxRecDepth 65536

noncomputable section

namespace Cert.Proof

open Idealize.ShloMosaic Idealize.ShloMosaic.TcCoe Idealize.ShloMosaic.Tactic Idealize.SL.Sem

section
variable [Cert.Kernel4.Facts] [Cert.Kernel4Ideal.Facts]

theorem bodies_eq4 : Cert.Kernel4.defs₀ (F := Bits) = Cert.Kernel4Ideal.defs₀ (F := Bits) := by
  unfold Cert.Kernel4.defs₀ Cert.Kernel4Ideal.defs₀
  refine congrArg Defs.onTc (funext fun ℓ => funext fun a => ?_)
  match ℓ, a with
  | 0, (t, s) => rfl

theorem tables_eq4 : Cert.Kernel4.defs (F := Bits) = Cert.Kernel4Ideal.defs (F := Bits) := by
  unfold Cert.Kernel4.defs Cert.Kernel4Ideal.defs
  exact congrArg (Pipeline.defs _) bodies_eq4

end

theorem frame_kernel4 : Cert.quiescent_Kernel4 := fun m ρ _ => by
  rw [tables_eq4]
  exact (θ_run Cert.Kernel4Ideal.defs _ _).mono (fun _ h => h) (Cert.Kernel4Ideal.Gen.frame (F := Bits) m ρ)

theorem frame_ideal4 : Cert.quiescent_Kernel4Ideal := fun m ρ _ => Cert.Kernel4Ideal.Gen.frame (F := Ideal) m ρ

theorem frame_reference4 : Cert.quiescent_Reference4Ideal := fun m ρ _ =>
  (θ_run Cert.Reference4Ideal.defs _ _).mono (fun r h => ⟨fun c => (h c).2.2.2.2.2.2, sem_eq_zero_of_no_sems (by decide) r.2⟩)
    (Cert.Reference4Ideal.Value.run (F := Ideal) m ρ)

/-- A row with known entries. -/
theorem row_fun {b : ℕ} {φ : FTy} {X : FVec Ideal ⟨2, ![1, b]⟩ φ} {f : ℕ → EReal} (h : Cert.KernelIdeal.Gla.Is X fun _ => f) :
    X = fun i : (⟨2, ![1, b]⟩ : Shape).Idx => f (i 1) := funext fun i => h.idx i

section
variable [Cert.Pre_finite.Facts]

theorem frame_ideal4_finite : Cert.quiescent_Kernel4Ideal_pre_finite := fun m ρ _ => frame_ideal4 m ρ trivial

theorem frame_reference4_finite : Cert.quiescent_Reference4Ideal_pre_finite := fun m ρ _ => frame_reference4 m ρ trivial

/-- The inputs the arguments hold. -/
def in4 (m : (ℓ : Loc Cert.Kernel4Ideal.nD Cert.Kernel4Ideal.τ Cert.Kernel4Ideal.sig) → Buf (Elt Ideal) ℓ) (c : Dev Cert.Kernel4Ideal.nD) : Cert.Ffn.Inb where
  x := Cert.Ffn.mat (a := 4096) (b := 1024) (φ := .f32) (m ((c.tc : Thread Cert.Kernel4Ideal.nD Cert.Kernel4Ideal.τ).loc Cert.Kernel4Ideal.main_arg0))
  g := Cert.Ffn.mat (a := 1) (b := 1024) (φ := .f32) (m ((c.tc : Thread Cert.Kernel4Ideal.nD Cert.Kernel4Ideal.τ).loc Cert.Kernel4Ideal.main_arg1)) 0
  w1 := Cert.Ffn.mat (a := 2816) (b := 1024) (φ := .bf16) (m ((c.tc : Thread Cert.Kernel4Ideal.nD Cert.Kernel4Ideal.τ).loc Cert.Kernel4Ideal.main_arg2))
  w3 := Cert.Ffn.mat (a := 2816) (b := 1024) (φ := .bf16) (m ((c.tc : Thread Cert.Kernel4Ideal.nD Cert.Kernel4Ideal.τ).loc Cert.Kernel4Ideal.main_arg3))
  w2 := Cert.Ffn.mat (a := 2816) (b := 1024) (φ := .bf16) (m ((c.tc : Thread Cert.Kernel4Ideal.nD Cert.Kernel4Ideal.τ).loc Cert.Kernel4Ideal.main_arg4))
  dh := Cert.Ffn.mat (a := 4096) (b := 1024) (φ := .f32) (m ((c.tc : Thread Cert.Kernel4Ideal.nD Cert.Kernel4Ideal.τ).loc Cert.Kernel4Ideal.main_arg5))

theorem args4 (m : (ℓ : Loc Cert.Kernel4Ideal.nD Cert.Kernel4Ideal.τ Cert.Kernel4Ideal.sig) → Buf (Elt Ideal) ℓ) (c : Dev Cert.Kernel4Ideal.nD) :
    Cert.Kernel4Ideal.Bwd.ArgsAt m (in4 m c) c :=
  ⟨Cert.Ffn.is_mat _, Cert.Ffn.is_row _, Cert.Ffn.is_mat _, Cert.Ffn.is_mat _, Cert.Ffn.is_mat _, Cert.Ffn.is_mat _⟩

/-- An extended real whose magnitude is below infinity is a real number. -/
theorem real_of_lt {x : EReal} (h : Ideal.cmp .olt (max x (-x)) (Ideal.ofBits .f32 0x7F800000#32) = 1#1) : Cert.Ffn.IsReal x := by
  induction x using EReal.rec with
  | bot => rw [Cert.Gla.infty] at h; simp [Ideal.cmp] at h
  | top => rw [Cert.Gla.infty] at h; simp [Ideal.cmp] at h
  | coe r => exact ⟨r, rfl⟩

/-- An array of real numbers as a function has real values. -/
theorem mat_real {a b : ℕ} {φ : FTy} {X : FVec Ideal ⟨2, ![a, b]⟩ φ} (h : ∀ i, Cert.Ffn.IsReal (X i)) (i j : ℕ) : Cert.Ffn.IsReal (Cert.Ffn.mat X i j) := by
  unfold Cert.Ffn.mat
  split
  · exact h _
  · exact ⟨0, rfl⟩

theorem finite4 (m : (ℓ : Loc Cert.Kernel4Ideal.nD Cert.Kernel4Ideal.τ Cert.Kernel4Ideal.sig) → Buf (Elt Ideal) ℓ) (h : Cert.Pre_Kernel4Ideal_finite m) (c : Dev Cert.Kernel4Ideal.nD) :
    (in4 m c).Finite where
  x := mat_real (φ := .f32) fun i => real_of_lt (congrFun (h c).1 i)
  g := fun d => mat_real (φ := .f32) (fun i => real_of_lt (congrFun (h c).2.1 i)) 0 d
  w1 := mat_real (φ := .bf16) fun i => real_of_lt (congrFun (h c).2.2.1 i)
  w3 := mat_real (φ := .bf16) fun i => real_of_lt (congrFun (h c).2.2.2.1 i)
  w2 := mat_real (φ := .bf16) fun i => real_of_lt (congrFun (h c).2.2.2.2.1 i)
  dh := mat_real (φ := .f32) fun i => real_of_lt (congrFun (h c).2.2.2.2.2 i)

theorem algebraic4 : Cert.algebraic_Kernel4Ideal_Reference4Ideal_pre_finite := fun m g m' g' hpre hin =>
  ⟨fun c => fun i : Cert.Kernel4Ideal.S4096x1024.Idx => (in4 m c).dx (i 0) (i 1),
   fun c => fun i : Cert.Kernel4Ideal.S1x1024.Idx => (in4 m c).dg (i 1),
   fun c => fun i : Cert.Kernel4Ideal.S11x4096x256.Idx => (in4 m c).da (i 1) (256 * (i 0 : ℕ) + (i 2 : ℕ)),
   fun c => fun i : Cert.Kernel4Ideal.S11x4096x256.Idx => (in4 m c).db (i 1) (256 * (i 0 : ℕ) + (i 2 : ℕ)),
   fun c => fun i : Cert.Kernel4Ideal.S11x4096x256.Idx => (in4 m c).s (i 1) (256 * (i 0 : ℕ) + (i 2 : ℕ)),
   fun c => fun i : Cert.Kernel4Ideal.S4096x1024.Idx => (in4 m c).dy (i 0) (i 1),
   (θ_run Cert.Kernel4Ideal.defs _ _).mono (fun _ h c =>
      have A := args4 m c
      ⟨(h c).1.trans (Cert.Kernel4Ideal.Bwd.arr_dx m A), (h c).2.1.trans (Cert.Kernel4Ideal.Bwd.arr_dg m A),
       (h c).2.2.1.trans (Cert.Kernel4Ideal.Bwd.arr_da m A), (h c).2.2.2.1.trans (Cert.Kernel4Ideal.Bwd.arr_db m A),
       (h c).2.2.2.2.1.trans (Cert.Kernel4Ideal.Bwd.arr_s m A), (h c).2.2.2.2.2.1.trans (Cert.Kernel4Ideal.Bwd.arr_dy m A), (h c).2.2.2.2.2.2⟩)
     (Cert.Kernel4Ideal.Value.run_blocks (F := Ideal) m g),
   (θ_run Cert.Reference4Ideal.defs _ _).mono (fun _ h c =>
      have A := args4 m c
      have hD := finite4 m hpre c
      have B : Cert.Reference4Ideal.Bwd.ArgsAt (in4 m c)
          (m' ((c.tc : Thread Cert.Reference4Ideal.nD Cert.Reference4Ideal.τ).loc Cert.Reference4Ideal.main_arg0))
          (m' ((c.tc : Thread Cert.Reference4Ideal.nD Cert.Reference4Ideal.τ).loc Cert.Reference4Ideal.main_arg1))
          (m' ((c.tc : Thread Cert.Reference4Ideal.nD Cert.Reference4Ideal.τ).loc Cert.Reference4Ideal.main_arg2))
          (m' ((c.tc : Thread Cert.Reference4Ideal.nD Cert.Reference4Ideal.τ).loc Cert.Reference4Ideal.main_arg3))
          (m' ((c.tc : Thread Cert.Reference4Ideal.nD Cert.Reference4Ideal.τ).loc Cert.Reference4Ideal.main_arg4))
          (m' ((c.tc : Thread Cert.Reference4Ideal.nD Cert.Reference4Ideal.τ).loc Cert.Reference4Ideal.main_arg5)) :=
        ⟨by rw [(hin c).1]; exact A.x, by rw [(hin c).2.1]; exact A.g, by rw [(hin c).2.2.1]; exact A.w1, by rw [(hin c).2.2.2.1]; exact A.w3,
         by rw [(hin c).2.2.2.2.1]; exact A.w2, by rw [(hin c).2.2.2.2.2]; exact A.dh⟩
      ⟨(h c).1.trans ((Cert.Reference4Ideal.Bwd.res_dx m' c).trans (mat_fun (Cert.Reference4Ideal.Bwd.dx_at B hD))),
       (h c).2.1.trans ((Cert.Reference4Ideal.Bwd.res_dg m' c).trans (row_fun (Cert.Reference4Ideal.Bwd.dg_at B hD))),
       (h c).2.2.1.trans ((Cert.Reference4Ideal.Bwd.res_da m' c).trans (layer_fun (Cert.Reference3Ideal.Ffn.blocked_at (Cert.Reference4Ideal.Bwd.da_at B hD)))),
       (h c).2.2.2.1.trans (layer_fun (Cert.Reference3Ideal.Ffn.blocked_at (Cert.Reference4Ideal.Bwd.db_at B))),
       (h c).2.2.2.2.1.trans (layer_fun (Cert.Reference3Ideal.Ffn.blocked_at (Cert.Reference4Ideal.Bwd.hid_at B))),
       (h c).2.2.2.2.2.1.trans (mat_fun (Cert.Reference4Ideal.Bwd.dy_at B)), (h c).2.2.2.2.2.2⟩)
     (Cert.Reference4Ideal.Value.run (F := Ideal) m' g')⟩

end

/-- The side conditions of the precondition. -/
theorem facts_finite : Cert.Pre_finite.Facts where
  bcast_S_S4096x1024 := by decide
  bcast_S_S1x1024 := by decide
  bitsLt_bf16_f32 := by decide
  bcast_S_S2816x1024 := by decide

end Cert.Proof

end
-- ==== Proof.HeadSpec.lean ====
module

public import proofs.«01_k».proof.Proof.BwdReal

/-! The second feed-forward layer under the loss, as a function of the rows and columns: the normed output's squared distance from a target, and its gradients. -/

@[expose] public section

set_option maxRecDepth 16384
set_option maxHeartbeats 0

noncomputable section

namespace Cert.Ffn

open Idealize.ShloMosaic
open Finset (range)

/-- A nonnegative real factor distributes over a sum. -/
theorem scale_sum {c : ℝ} (hc : 0 ≤ c) (n : ℕ) (f : ℕ → EReal) : (c : EReal) * ∑ i ∈ range n, f i = ∑ i ∈ range n, (c : EReal) * f i := by
  induction n with
  | zero => simp
  | succ n ih =>
    rw [Finset.sum_range_succ, Finset.sum_range_succ, ← ih]
    exact EReal.left_distrib_of_nonneg_of_ne_top (by exact_mod_cast hc) (EReal.coe_ne_top _) _ _

theorem add_self (x : EReal) : x + x = ((2 : ℝ) : EReal) * x := by
  induction x using EReal.rec with
  | bot => rw [EReal.coe_mul_bot_of_pos (by norm_num)]; rfl
  | top => rw [EReal.coe_mul_top_of_pos (by norm_num)]; rfl
  | coe r => rw [← EReal.coe_add, ← EReal.coe_mul, two_mul]

theorem square_nonneg (x : EReal) : 0 ≤ x * x := by
  induction x using EReal.rec with
  | bot => rw [EReal.bot_mul_bot]; exact le_top
  | top => rw [EReal.top_mul_top]; exact le_top
  | coe r => exact_mod_cast mul_self_nonneg r

theorem real_of_square {x : EReal} (h : x * x ≠ ⊤) : IsReal x := by
  induction x using EReal.rec with
  | bot => exact absurd EReal.bot_mul_bot h
  | top => exact absurd EReal.top_mul_top h
  | coe r => exact ⟨r, rfl⟩

namespace Inb

variable {D : Inb}

/-- A row whose mean square is not a real number has the reciprocal root zero. -/
theorem r_cases (s : ℕ) : (D.ms s = ⊤ ∧ D.r s = 0)
    ∨ (∀ d < 1024, IsReal (D.x s d)) ∧ ∃ v ρ : ℝ, v ≠ 0 ∧ 0 ≤ ρ ∧ ρ * ρ = 1 / v ∧ D.ms s = (v : EReal) ∧ D.r s = (ρ : EReal) := by
  obtain ⟨e, he, e'⟩ := eps
  have N : 0 ≤ ∑ d ∈ range 1024, D.x s d * D.x s d := Finset.sum_nonneg fun d _ => square_nonneg _
  have R : D.r s = Ideal.rsqrt (D.ms s) := rfl
  have M : D.ms s = (∑ d ∈ range 1024, D.x s d * D.x s d) * ((1 / 1024 : ℝ) : EReal) + (e : EReal) := by
    rw [ms, e', c1024, Ideal.div_coe (by norm_num)]
  by_cases T : ∑ d ∈ range 1024, D.x s d * D.x s d = ⊤
  · left
    have t : D.ms s = ⊤ := by
      rw [M, T, EReal.top_mul_coe_of_pos (by norm_num)]; rfl
    exact ⟨t, by rw [R, t, Ideal.rsqrt_top]⟩
  · right
    refine ⟨fun d hd => real_of_square fun h => T (top_le_iff.mp (h ▸ Finset.single_le_sum (f := fun d => D.x s d * D.x s d) (fun d _ => square_nonneg _) (Finset.mem_range.mpr hd))), ?_⟩
    obtain ⟨q, hq⟩ : IsReal (∑ d ∈ range 1024, D.x s d * D.x s d) :=
      ⟨_, (EReal.coe_toReal T (fun h => by rw [h] at N; exact absurd N (by simp))).symm⟩
    have hq0 : 0 ≤ q := by rw [hq] at N; exact_mod_cast N
    have hv : 0 < q * (1 / 1024) + e := by positivity
    have V : D.ms s = ((q * (1 / 1024) + e : ℝ) : EReal) := by rw [M, hq, EReal.coe_add, EReal.coe_mul]
    refine ⟨_, (√(q * (1 / 1024) + e))⁻¹, hv.ne', by positivity, ?_, V, ?_⟩
    · rw [← mul_inv, Real.mul_self_sqrt hv.le]; exact (one_div _).symm
    · rw [R, V, Ideal.rsqrt_coe, if_neg (not_lt.mpr hv.le), if_neg hv.ne']

/-- What a norm's rows get from the gradient of its output, the mean square's share of it twice. -/
theorem norm_eq (p : ℕ → EReal) (s d : ℕ) (hd : d < 1024) :
    p d * D.r s
      + D.x s d * Ideal.div ((∑ k ∈ range 1024, D.x s k * p k) * (Ideal.ofBits .f32 0xBF000000#32 * Ideal.div (D.r s) (D.ms s))) (Ideal.ofBits .f32 0x44800000#32)
      + Ideal.div ((∑ k ∈ range 1024, D.x s k * p k) * (Ideal.ofBits .f32 0xBF000000#32 * Ideal.div (D.r s) (D.ms s))) (Ideal.ofBits .f32 0x44800000#32) * D.x s d
    = D.r s * (p d - D.xh s d * Ideal.div (∑ k ∈ range 1024, p k * D.xh s k) (Ideal.ofBits .f32 0x44800000#32)) := by
  have X : ∀ k, D.xh s k = D.x s k * D.r s := fun k => rfl
  rcases r_cases (D := D) s with ⟨M, R⟩ | ⟨F, v, ρ, hv, h0, e, M, R⟩
  · have Z : Ideal.div 0 (⊤ : EReal) = 0 := by simp [Ideal.div]
    rw [M, R, Z, mul_zero, mul_zero, c1024, Ideal.div_coe (by norm_num)]
    simp only [mul_zero, zero_mul, add_zero]
  · obtain ⟨f, hf⟩ : IsReal (D.x s d) := F d hd
    have S : ∑ k ∈ range 1024, p k * D.xh s k = (ρ : EReal) * ∑ k ∈ range 1024, D.x s k * p k := by
      rw [scale_sum h0]
      exact Finset.sum_congr rfl fun k _ => by rw [X, R]; ac_rfl
    rw [S, X, R, M, hf, mhalf, c1024, Ideal.div_coe hv, Ideal.div_coe (by norm_num), Ideal.div_coe (by norm_num)]
    generalize ∑ k ∈ range 1024, D.x s k * p k = S
    generalize p d = p
    have l : (f : EReal) * (S * (((-1 / 2 : ℝ) : EReal) * ((ρ : EReal) * ((1 / v : ℝ) : EReal))) * ((1 / 1024 : ℝ) : EReal)) = ((f * (-1 / 2 * (ρ * (1 / v))) * (1 / 1024) : ℝ) : EReal) * S := by
      simp only [EReal.coe_mul]
      ac_rfl
    have r : -((f : EReal) * (ρ : EReal) * ((ρ : EReal) * S * ((1 / 1024 : ℝ) : EReal))) = ((-(f * ρ * ρ * (1 / 1024)) : ℝ) : EReal) * S := by
      rw [EReal.coe_neg, EReal.neg_mul]
      simp only [EReal.coe_mul]
      congr 1
      ac_rfl
    rw [mul_comm (S * _ * _) (f : EReal), l, add_assoc, add_self, ← mul_assoc, ← EReal.coe_mul, sub_eq_add_neg, r,
      EReal.left_distrib_of_nonneg_of_ne_top (by exact_mod_cast h0) (EReal.coe_ne_top _), ← mul_assoc (ρ : EReal), ← EReal.coe_mul ρ, mul_comm p]
    congr 3
    linear_combination (-(f * ρ * (1 / 1024))) * -e

end Inb

/-- The layer's inputs, the last norm's weights and the target. -/
structure Inh extends In where
  gf : ℕ → EReal
  t : ℕ → ℕ → EReal

namespace Inh

variable (D : Inh)

/-- The layer alone. -/
def low : Inb where
  toIn := D.toIn
  dh := 0

/-- The last norm: its rows are the layer's output. -/
def top : Inb where
  x := D.h
  g := D.gf
  w1 := 0
  w3 := 0
  w2 := 0
  dh := 0

/-- The distance from the target. -/
def err (s d : ℕ) : EReal := D.top.xh s d * D.gf d - D.t s d

/-- A row's squared distance. -/
def sq (s : ℕ) : EReal := ∑ d ∈ range 1024, D.err s d * D.err s d

/-- The loss. -/
def loss : EReal := Ideal.ofBits .f32 0x3A000000#32 * ∑ s ∈ range 4096, D.sq s

/-- The gradient of the normed output. -/
def dn (s d : ℕ) : EReal := D.err s d * Ideal.ofBits .f32 0x3A800000#32

/-- The gradients of the layer's output and of the last norm's weights. -/
def dh (s d : ℕ) : EReal :=
  D.top.r s * (D.dn s d * D.gf d - D.top.xh s d * Ideal.div (∑ k ∈ range 1024, D.dn s k * D.gf k * D.top.xh s k) (Ideal.ofBits .f32 0x44800000#32))
def dg (d : ℕ) : EReal := ∑ s ∈ range 4096, D.dn s d * D.top.xh s d

theorem c2048 : Ideal.ofBits .f32 0x3A000000#32 = ((1 / 2048 : ℝ) : EReal) := by
  simp [Ideal.ofBits, Ideal.ieee, -EReal.coe_mul]; norm_num

theorem r1024 : Ideal.ofBits .f32 0x3A800000#32 = ((1 / 1024 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

/-- The loss's factor distributes over a sum. -/
theorem loss_add (x y : EReal) : Ideal.ofBits .f32 0x3A000000#32 * (x + y) = Ideal.ofBits .f32 0x3A000000#32 * x + Ideal.ofBits .f32 0x3A000000#32 * y :=
  EReal.left_distrib_of_nonneg_of_ne_top (by rw [c2048]; exact_mod_cast (by norm_num : (0 : ℝ) ≤ 1 / 2048)) (by rw [c2048]; exact EReal.coe_ne_top _) x y

/-- Half the sum of the rows' means is the loss. -/
theorem loss_eq : half * ∑ s ∈ range 4096, Ideal.div (D.sq s) (Ideal.ofBits .f32 0x44800000#32) = D.loss := by
  have S : ∑ s ∈ range 4096, Ideal.div (D.sq s) (Ideal.ofBits .f32 0x44800000#32) = ((1 / 1024 : ℝ) : EReal) * ∑ s ∈ range 4096, D.sq s := by
    rw [scale_sum (by norm_num)]
    exact Finset.sum_congr rfl fun s _ => by rw [c1024, Ideal.div_coe (by norm_num), mul_comm]
  rw [S, half_coe, ← mul_assoc, ← EReal.coe_mul, loss, c2048]
  norm_num

/-- The chain rule through the mean and the square. -/
theorem dn_eq (s d : ℕ) :
    Ideal.div (half * Ideal.ofBits .f32 0x3F800000#32) (Ideal.ofBits .f32 0x44800000#32) * (Ideal.ofBits .f32 0x40000000#32 * D.err s d) = D.dn s d := by
  have one : Ideal.ofBits .f32 0x3F800000#32 = ((1 : ℝ) : EReal) := by
    simp [Ideal.ofBits, Ideal.ieee, -EReal.coe_mul]; norm_num
  unfold dn
  rw [half_coe, one, c1024, two, r1024, Ideal.div_coe (by norm_num), ← mul_assoc, ← EReal.coe_mul, ← EReal.coe_mul, ← EReal.coe_mul, mul_comm (D.err s d)]
  norm_num

/-- The gradient of the layer's output, the mean square's share of it twice. -/
theorem dh_eq (s d : ℕ) (hd : d < 1024) :
    D.dn s d * D.gf d * D.top.r s
      + D.h s d * Ideal.div ((∑ k ∈ range 1024, D.h s k * (D.dn s k * D.gf k)) * (Ideal.ofBits .f32 0xBF000000#32 * Ideal.div (D.top.r s) (D.top.ms s))) (Ideal.ofBits .f32 0x44800000#32)
      + Ideal.div ((∑ k ∈ range 1024, D.h s k * (D.dn s k * D.gf k)) * (Ideal.ofBits .f32 0xBF000000#32 * Ideal.div (D.top.r s) (D.top.ms s))) (Ideal.ofBits .f32 0x44800000#32) * D.h s d
    = D.dh s d :=
  Inb.norm_eq (D := D.top) (fun k => D.dn s k * D.gf k) s d hd

end Inh

end Cert.Ffn
-- ==== Proof.Head.lean ====
module

public import proofs.«01_k».proof.Proof.Stack
public import proofs.«01_k».proof.Proof.HeadSpec
public import proofs.«01_k».proof.Proof.Gen.Kernel5Ideal.Value
public import Idealize.ShloMosaic.Lib.Pointwise
public import Idealize.ShloMosaic.Lib.Pipeline.ValueKit
public import Idealize.ShloMosaic.Lib.Pipeline.ReadBack

/-! The second feed-forward layer under the loss: the blocks of one grid step and their entries. -/

@[expose] public section

set_option maxRecDepth 16384
set_option maxHeartbeats 0

noncomputable section

namespace Cert.Kernel5Ideal.Head

open Cert.Kernel5Ideal Cert.Kernel5Ideal.Gen Cert.KernelIdeal.Gla
open Idealize.ShloMosaic Idealize.ShloMosaic.TcCoe Idealize.ShloMosaic.Tactic
open Idealize.ShloMosaic.Pipeline (Dat Cfg Window)
open Finset (range)

theorem inbw (k : Fin 11) : ∀ a, (![256 * k.val, 0] : Fin 2 → ℕ) a + (![256, 1024] : Fin 2 → ℕ) a ≤ S2816x1024.size a := by
  revert k; decide +kernel

/-- 256 rows of a weight matrix. -/
def rows (w : Vec Ideal S2816x1024 .bf16) (k : Fin 11) : Vec Ideal S256x1024 .bf16 :=
  View.ld w (Rect.unit (s := S2816x1024) ![256 * k.val, 0] ![256, 1024] (inbw k))

section
variable (x0 : Vec Ideal S512x1024 .f32) (x1 : Vec Ideal S1x1024 .f32) (x2 x3 x4 : Vec Ideal S2816x1024 .bf16)

/-- One of the eleven steps. -/
def step (k : Fin 11) (acc : Vec Ideal S512x1024 .f32) : FVec Ideal S512x1024 .f32 :=
  k0_pay12 (k0_pay7 x0 x1 (rows x2 k)) (k0_pay8 x0 x1 (rows x3 k)) acc (rows x4 k)

/-- The block of rows of the layer's output. -/
def hBlk : FVec Ideal S512x1024 .f32 :=
  step x0 x1 x2 x3 x4 10 (step x0 x1 x2 x3 x4 9 (step x0 x1 x2 x3 x4 8 (step x0 x1 x2 x3 x4 7 (step x0 x1 x2 x3 x4 6 (step x0 x1 x2 x3 x4 5
    (step x0 x1 x2 x3 x4 4 (step x0 x1 x2 x3 x4 3 (step x0 x1 x2 x3 x4 2 (step x0 x1 x2 x3 x4 1 (step x0 x1 x2 x3 x4 0 (k0_pay6 x0)))))))))))

end

/-- A grid step's inputs: 512 rows, the weights, and the rows' targets. -/
structure InAt (D : Cert.Ffn.Inh) (o : ℕ) (x0 : Vec Ideal S512x1024 .f32) (x1 : Vec Ideal S1x1024 .f32) (x2 x3 x4 : Vec Ideal S2816x1024 .bf16) (x5 : Vec Ideal S1x1024 .f32)
    (x6 : Vec Ideal S512x1024 .f32) : Prop where
  x : Is (φ := .f32) x0 fun r => D.x (o + r)
  g : Is (φ := .f32) x1 fun _ => D.g
  w1 : Is (φ := .bf16) x2 D.w1
  w3 : Is (φ := .bf16) x3 D.w3
  w2 : Is (φ := .bf16) x4 D.w2
  gf : Is (φ := .f32) x5 fun _ => D.gf
  t : Is (φ := .f32) x6 fun r => D.t (o + r)

section
variable {D : Cert.Ffn.Inh} {o : ℕ} {x0 : Vec Ideal S512x1024 .f32} {x1 : Vec Ideal S1x1024 .f32} {x2 x3 x4 : Vec Ideal S2816x1024 .bf16} {x5 : Vec Ideal S1x1024 .f32}
  {x6 : Vec Ideal S512x1024 .f32}

theorem n_at (h : InAt D o x0 x1 x2 x3 x4 x5 x6) : Is (k0_pay5 x0 x1) fun r => D.n (o + r) := fun r d => by
  pointwise [k0_pay5]
  rw [fsum _ (fun d => D.x (o + r) d * D.x (o + r) d) fun d => by rw [h.x], h.x, h.g]
  rfl

theorem a_at (h : InAt D o x0 x1 x2 x3 x4 x5 x6) (k : Fin 11) : Is (k0_pay7 x0 x1 (rows x2 k)) fun r j => D.a (o + r) (256 * k.val + j) := fun r j => by
  have hk := k.isLt
  pointwise [k0_pay7, rows]
  exact fsum _ (fun d => D.n (o + r) d * D.w1 (256 * k.val + j) d) fun d => by rw [n_at h, h.w1]

theorem b_at (h : InAt D o x0 x1 x2 x3 x4 x5 x6) (k : Fin 11) : Is (k0_pay8 x0 x1 (rows x3 k)) fun r j => D.b (o + r) (256 * k.val + j) := fun r j => by
  have hk := k.isLt
  pointwise [k0_pay8, rows]
  exact fsum _ (fun d => D.n (o + r) d * D.w3 (256 * k.val + j) d) fun d => by rw [n_at h, h.w3]

theorem step_at (h : InAt D o x0 x1 x2 x3 x4 x5 x6) (k : Fin 11) {acc : Vec Ideal S512x1024 .f32}
    (ha : Is (φ := .f32) acc fun r d => D.x (o + r) d + Cert.Ffn.half * ∑ i ∈ range (256 * k.val), D.s (o + r) i * D.w2 i d) :
    Is (step x0 x1 x2 x3 x4 k acc) fun r d => D.x (o + r) d + Cert.Ffn.half * ∑ i ∈ range (256 * (k.val + 1)), D.s (o + r) i * D.w2 i d := fun r d => by
  have hk := k.isLt
  pointwise [step, k0_pay12]
  rw [ha, mul_add, mul_one, Finset.sum_range_add, Cert.Ffn.half_add, add_assoc]
  congr 2
  refine congrArg _ (fsum _ (fun i => D.s (o + r) (256 * k.val + i) * D.w2 (256 * k.val + i) d) fun i => ?_)
  rw [a_at h, b_at h]
  pointwise [rows]
  rw [h.w2]
  rfl

theorem h_at (h : InAt D o x0 x1 x2 x3 x4 x5 x6) : Is (hBlk x0 x1 x2 x3 x4) fun r => D.h (o + r) := by
  have z : Is (k0_pay6 x0) fun r d => D.x (o + r) d + Cert.Ffn.half * ∑ i ∈ range (256 * (0 : Fin 11).val), D.s (o + r) i * D.w2 i d := fun r d => by
    pointwise [k0_pay6]
    rw [h.x]; simp
  exact step_at h 10 (step_at h 9 (step_at h 8 (step_at h 7 (step_at h 6 (step_at h 5 (step_at h 4 (step_at h 3 (step_at h 2 (step_at h 1 (step_at h 0 z))))))))))

theorem a3_at (h : InAt D o x0 x1 x2 x3 x4 x5 x6) (y : S11x512x256.Idx) :
    View.canon (Cert.Ffn.layers fun f => k0_pay9 x0 x1 (rows x2 f)) y = D.a (o + (y 1 : ℕ)) (256 * (y 0 : ℕ) + (y 2 : ℕ)) :=
  Cert.Ffn.layers512_at _ (fun f r j => D.a (o + r) (256 * f + j)) (fun f r j => by
    pointwise [k0_pay9]
    exact a_at h f r j) y

theorem b3_at (h : InAt D o x0 x1 x2 x3 x4 x5 x6) (y : S11x512x256.Idx) :
    View.canon (Cert.Ffn.layers fun f => k0_pay11 (k0_pay10 x0 x1 (rows x3 f))) y = D.b (o + (y 1 : ℕ)) (256 * (y 0 : ℕ) + (y 2 : ℕ)) :=
  Cert.Ffn.layers512_at _ (fun f r j => D.b (o + r) (256 * f + j)) (fun f r j => by
    pointwise [k0_pay11, k0_pay10]
    exact b_at h f r j) y

/-! ## The loss and its gradients, over the layer's output -/

variable {H : Vec Ideal S512x1024 .f32}

theorem r_at (hH : Is (φ := .f32) H fun r => D.h (o + r)) (r : Fin 512) : k0_pay70 H (ix2 r (0 : Fin 1)) = D.top.r (o + r) := by
  pointwise [k0_pay70]
  rw [fsum _ (fun d => D.h (o + r) d * D.h (o + r) d) fun d => by rw [hH]]
  rfl

theorem xh_at (hH : Is (φ := .f32) H fun r => D.h (o + r)) : Is (k0_pay71 H) fun r => D.top.xh (o + r) := fun r d => by
  pointwise [k0_pay71]
  rw [hH, r_at hH]
  rfl

theorem err_at (hH : Is (φ := .f32) H fun r => D.h (o + r)) (h : InAt D o x0 x1 x2 x3 x4 x5 x6) : Is (k0_pay72 H x5 x6) fun r => D.err (o + r) := fun r d => by
  pointwise [k0_pay72]
  rw [xh_at hH, h.gf, h.t]
  rfl

theorem dn_at (hH : Is (φ := .f32) H fun r => D.h (o + r)) (h : InAt D o x0 x1 x2 x3 x4 x5 x6) : Is (k0_pay73 H x5 x6) fun r => D.dn (o + r) := fun r d => by
  pointwise [k0_pay73]
  rw [err_at hH h]
  rfl

theorem dh_at (hH : Is (φ := .f32) H fun r => D.h (o + r)) (h : InAt D o x0 x1 x2 x3 x4 x5 x6) : Is (k0_pay74 H x5 x6) fun r => D.dh (o + r) := fun r d => by
  pointwise [k0_pay74]
  rw [fsum _ (fun d => D.dn (o + r) d * D.gf d * D.top.xh (o + r) d) fun d => by rw [dn_at hH h, h.gf, xh_at hH], dn_at hH h, h.gf, xh_at hH, r_at hH]
  rfl

theorem dg_at (hH : Is (φ := .f32) H fun r => D.h (o + r)) (h : InAt D o x0 x1 x2 x3 x4 x5 x6) {acc : Vec Ideal S1x1024 .f32} {f : ℕ → EReal} (ha : Is (φ := .f32) acc fun _ => f) :
    Is (k0_pay4 (k0_pay75 H x5 x6) acc) fun _ d => f d + ∑ s ∈ range 512, D.dn (o + s) d * D.top.xh (o + s) d := fun r d => by
  pointwise [k0_pay4, k0_pay75]
  rw [ha, fsum _ (fun s => D.dn (o + s) d * D.top.xh (o + s) d) fun s => by rw [dn_at hH h, xh_at hH]]

theorem loss_at (hH : Is (φ := .f32) H fun r => D.h (o + r)) (h : InAt D o x0 x1 x2 x3 x4 x5 x6) {acc : Vec Ideal S1x1 .f32} {f : EReal} (ha : Is (φ := .f32) acc fun _ _ => f) :
    Is (k0_pay3 (k0_pay72 H x5 x6) acc) fun _ _ => f + Ideal.ofBits .f32 0x3A000000#32 * ∑ s ∈ range 512, D.sq (o + s) := fun r d => by
  pointwise [k0_pay3]
  rw [ha, fsum _ (fun s => D.sq (o + s)) fun s => fsum _ (fun d => D.err (o + s) d * D.err (o + s) d) fun d => by rw [err_at hH h]]

end

end Cert.Kernel5Ideal.Head
-- ==== Proof.HeadA.lean ====
module

public import proofs.«01_k».proof.Proof.Head

/-! The second feed-forward layer under the loss: what the first grid step stores. -/

@[expose] public section

set_option maxRecDepth 16384
set_option maxHeartbeats 0

noncomputable section

namespace Cert.Kernel5Ideal.Head

open Cert.Kernel5Ideal Cert.Kernel5Ideal.Gen Cert.KernelIdeal.Gla
open Idealize.ShloMosaic Idealize.ShloMosaic.TcCoe Idealize.ShloMosaic.Tactic
open Idealize.ShloMosaic.Pipeline (Dat Cfg Window)
open Finset (range)

variable (c : Dev nD) (i : grid0.Coords)
  (arg1 : Memref sig .tc .vmem S512x1024 .f32) (harg1 : arg1.IsWhole)
  (arg2 : Memref sig .tc .vmem S1x1024 .f32) (harg2 : arg2.IsWhole)
  (arg3 : Memref sig .tc .vmem S2816x1024 .bf16) (harg3 : arg3.IsWhole)
  (arg4 : Memref sig .tc .vmem S2816x1024 .bf16) (harg4 : arg4.IsWhole)
  (arg5 : Memref sig .tc .vmem S2816x1024 .bf16) (harg5 : arg5.IsWhole)
  (arg6 : Memref sig .tc .vmem S1x1024 .f32) (harg6 : arg6.IsWhole)
  (arg7 : Memref sig .tc .vmem S512x1024 .f32) (harg7 : arg7.IsWhole)
  (arg8 : Memref sig .tc .vmem S1x1 .f32) (harg8 : arg8.IsWhole)
  (arg9 : Memref sig .tc .vmem S512x1024 .f32) (harg9 : arg9.IsWhole)
  (arg10 : Memref sig .tc .vmem S1x1024 .f32) (harg10 : arg10.IsWhole)
  (arg11 : Memref sig .tc .vmem S11x512x256 .bf16) (harg11 : arg11.IsWhole)
  (arg12 : Memref sig .tc .vmem S11x512x256 .bf16) (harg12 : arg12.IsWhole)
  (arg13 : Memref sig .tc .vmem S512x1024 .bf16) (harg13 : arg13.IsWhole)
  (arg14 : Memref sig .tc .vmem S512x1024 .f32) (harg14 : arg14.IsWhole)
  (x0 : Vec Ideal S512x1024 .f32) (x1 : Vec Ideal S1x1024 .f32) (x2 x3 x4 : Vec Ideal S2816x1024 .bf16) (x5 : Vec Ideal S1x1024 .f32) (x6 : Vec Ideal S512x1024 .f32)

theorem out12_A (hc : cond0_0 i) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6
    = k0_pay5 x0 x1 := by
  frame_out

theorem out11_A (hc : cond0_0 i) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6
    = View.canon (Cert.Ffn.layers fun f => k0_pay11 (k0_pay10 x0 x1 (rows x3 f))) := by
  frame_out
  rfl

theorem out10_A (hc : cond0_0 i) : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6
    = View.canon (Cert.Ffn.layers fun f => k0_pay9 x0 x1 (rows x2 f)) := by
  frame_out
  rfl

theorem out8_A (hc : cond0_0 i) : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6
    = k0_pay74 (hBlk x0 x1 x2 x3 x4) x5 x6 := by
  frame_out
  try simp (disch := decide) only [↓ View.readCov_skip, ↓ View.readCov_cons_toLoadRect, ↓ View.readCov_fill]
  rfl

theorem out9_A (hc : cond0_0 i) : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6
    = k0_pay4 (k0_pay75 (hBlk x0 x1 x2 x3 x4) x5 x6) (k0_pay2 (F := Ideal)) := by
  frame_out
  try simp (disch := decide) only [↓ View.readCov_skip, ↓ View.readCov_cons_toLoadRect, ↓ View.readCov_fill]
  rfl

theorem out7_A (hc : cond0_0 i) : out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6
    = k0_pay3 (k0_pay72 (hBlk x0 x1 x2 x3 x4) x5 x6) (k0_pay1 (F := Ideal)) := by
  frame_out
  try simp (disch := decide) only [↓ View.readCov_skip, ↓ View.readCov_cons_toLoadRect, ↓ View.readCov_fill]
  rfl

end Cert.Kernel5Ideal.Head
-- ==== Proof.HeadB.lean ====
module

public import proofs.«01_k».proof.Proof.Head

/-! The second feed-forward layer under the loss: what a later grid step stores. -/

@[expose] public section

set_option maxRecDepth 16384
set_option maxHeartbeats 0

noncomputable section

namespace Cert.Kernel5Ideal.Head

open Cert.Kernel5Ideal Cert.Kernel5Ideal.Gen Cert.KernelIdeal.Gla
open Idealize.ShloMosaic Idealize.ShloMosaic.TcCoe Idealize.ShloMosaic.Tactic
open Idealize.ShloMosaic.Pipeline (Dat Cfg Window)
open Finset (range)

variable (c : Dev nD) (i : grid0.Coords)
  (arg1 : Memref sig .tc .vmem S512x1024 .f32) (harg1 : arg1.IsWhole)
  (arg2 : Memref sig .tc .vmem S1x1024 .f32) (harg2 : arg2.IsWhole)
  (arg3 : Memref sig .tc .vmem S2816x1024 .bf16) (harg3 : arg3.IsWhole)
  (arg4 : Memref sig .tc .vmem S2816x1024 .bf16) (harg4 : arg4.IsWhole)
  (arg5 : Memref sig .tc .vmem S2816x1024 .bf16) (harg5 : arg5.IsWhole)
  (arg6 : Memref sig .tc .vmem S1x1024 .f32) (harg6 : arg6.IsWhole)
  (arg7 : Memref sig .tc .vmem S512x1024 .f32) (harg7 : arg7.IsWhole)
  (arg8 : Memref sig .tc .vmem S1x1 .f32) (harg8 : arg8.IsWhole)
  (arg9 : Memref sig .tc .vmem S512x1024 .f32) (harg9 : arg9.IsWhole)
  (arg10 : Memref sig .tc .vmem S1x1024 .f32) (harg10 : arg10.IsWhole)
  (arg11 : Memref sig .tc .vmem S11x512x256 .bf16) (harg11 : arg11.IsWhole)
  (arg12 : Memref sig .tc .vmem S11x512x256 .bf16) (harg12 : arg12.IsWhole)
  (arg13 : Memref sig .tc .vmem S512x1024 .bf16) (harg13 : arg13.IsWhole)
  (arg14 : Memref sig .tc .vmem S512x1024 .f32) (harg14 : arg14.IsWhole)
  (x0 : Vec Ideal S512x1024 .f32) (x1 : Vec Ideal S1x1024 .f32) (x2 x3 x4 : Vec Ideal S2816x1024 .bf16) (x5 : Vec Ideal S1x1024 .f32) (x6 : Vec Ideal S512x1024 .f32) (xo7 : Vec Ideal S1x1 .f32) (xo9 : Vec Ideal S1x1024 .f32)

theorem out12_B (hc : ¬cond0_0 i) : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 xo7 xo9
    = k0_pay5 x0 x1 := by
  frame_out

theorem out11_B (hc : ¬cond0_0 i) : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 xo7 xo9
    = View.canon (Cert.Ffn.layers fun f => k0_pay11 (k0_pay10 x0 x1 (rows x3 f))) := by
  frame_out
  rfl

theorem out10_B (hc : ¬cond0_0 i) : out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 xo7 xo9
    = View.canon (Cert.Ffn.layers fun f => k0_pay9 x0 x1 (rows x2 f)) := by
  frame_out
  rfl

theorem out8_B (hc : ¬cond0_0 i) : out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 xo7 xo9
    = k0_pay74 (hBlk x0 x1 x2 x3 x4) x5 x6 := by
  frame_out
  try simp (disch := decide) only [↓ View.readCov_skip, ↓ View.readCov_cons_toLoadRect, ↓ View.readCov_fill]
  rfl

theorem out9_B (hc : ¬cond0_0 i) : out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 xo7 xo9
    = k0_pay4 (k0_pay75 (hBlk x0 x1 x2 x3 x4) x5 x6) xo9 := by
  frame_out
  try simp (disch := decide) only [↓ View.readCov_skip, ↓ View.readCov_cons_toLoadRect, ↓ View.readCov_fill]
  rfl

theorem out7_B (hc : ¬cond0_0 i) : out0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 xo7 xo9
    = k0_pay3 (k0_pay72 (hBlk x0 x1 x2 x3 x4) x5 x6) xo7 := by
  frame_out
  try simp (disch := decide) only [↓ View.readCov_skip, ↓ View.readCov_cons_toLoadRect, ↓ View.readCov_fill]
  rfl

end Cert.Kernel5Ideal.Head
-- ==== Proof.HeadArr.lean ====
module

public import proofs.«01_k».proof.Proof.HeadA
public import proofs.«01_k».proof.Proof.HeadB

/-! The second feed-forward layer under the loss: its arrays. -/

@[expose] public section

set_option maxRecDepth 16384
set_option maxHeartbeats 0

noncomputable section

namespace Cert.Kernel5Ideal.Head

open Cert.Kernel5Ideal Cert.Kernel5Ideal.Gen Cert.KernelIdeal.Gla
open Idealize.ShloMosaic Idealize.ShloMosaic.TcCoe Idealize.ShloMosaic.Tactic
open Idealize.ShloMosaic.Pipeline (Dat Cfg Window)
open Finset (range)

variable (m : (ℓ : Loc nD τ sig) → Buf (Elt Ideal) ℓ)

/-- The arguments as the call's inputs. -/
structure ArgsAt (D : Cert.Ffn.Inh) (c : Dev nD) : Prop where
  x : Is (a := 4096) (b := 1024) (φ := .f32) (m ((c : Thread nD τ).loc main_arg0)) D.x
  g : Is (a := 1) (b := 1024) (φ := .f32) (m ((c : Thread nD τ).loc main_arg1)) fun _ => D.g
  w1 : Is (a := 2816) (b := 1024) (φ := .bf16) (m ((c : Thread nD τ).loc main_arg2)) D.w1
  w3 : Is (a := 2816) (b := 1024) (φ := .bf16) (m ((c : Thread nD τ).loc main_arg3)) D.w3
  w2 : Is (a := 2816) (b := 1024) (φ := .bf16) (m ((c : Thread nD τ).loc main_arg4)) D.w2
  gf : Is (a := 1) (b := 1024) (φ := .f32) (m ((c : Thread nD τ).loc main_arg5)) fun _ => D.gf
  t : Is (a := 4096) (b := 1024) (φ := .f32) (m ((c : Thread nD τ).loc main_arg6)) D.t

theorem win_row : ∀ t : Fin cfg0.N, (cfg0.win 0).index t 0 = t.val ∧ (cfg0.win 0).index t 1 = 0 ∧ (cfg0.win 1).index t 0 = 0 ∧ (cfg0.win 1).index t 1 = 0
    ∧ (cfg0.win 2).index t 0 = 0 ∧ (cfg0.win 2).index t 1 = 0 ∧ (cfg0.win 3).index t 0 = 0 ∧ (cfg0.win 3).index t 1 = 0
    ∧ (cfg0.win 4).index t 0 = 0 ∧ (cfg0.win 4).index t 1 = 0 ∧ (cfg0.win 5).index t 0 = 0 ∧ (cfg0.win 5).index t 1 = 0
    ∧ (cfg0.win 6).index t 0 = t.val ∧ (cfg0.win 6).index t 1 = 0 := by decide +kernel

theorem win_out : ∀ t : Fin cfg0.N, ((cfg0.win 7).index t 0 = 0 ∧ (cfg0.win 7).index t 1 = 0) ∧ ((cfg0.win 8).index t 0 = t.val ∧ (cfg0.win 8).index t 1 = 0)
    ∧ ((cfg0.win 9).index t 0 = 0 ∧ (cfg0.win 9).index t 1 = 0)
    ∧ ((cfg0.win 10).index t 0 = 0 ∧ (cfg0.win 10).index t 1 = t.val ∧ (cfg0.win 10).index t 2 = 0)
    ∧ ((cfg0.win 11).index t 0 = 0 ∧ (cfg0.win 11).index t 1 = t.val ∧ (cfg0.win 11).index t 2 = 0)
    ∧ ((cfg0.win 12).index t 0 = t.val ∧ (cfg0.win 12).index t 1 = 0) := by decide +kernel

variable {D : Cert.Ffn.Inh} {c : Dev nD}

theorem in_at (h : ArgsAt m D c) (t : Fin cfg0.N) :
    InAt D (512 * t.val) (iblk m c 0 t) (iblk m c 1 t) (iblk m c 2 t) (iblk m c 3 t) (iblk m c 4 t) (iblk m c 5 t) (iblk m c 6 t) := by
  obtain ⟨a0, a1, b0, b1, c0, c1, d0, d1, e0, e1, f0, f1, g0, g1⟩ := win_row t
  have ht : t.val < 8 := t.isLt
  refine ⟨fun r κ => ?_, fun r κ => ?_, fun r κ => ?_, fun r κ => ?_, fun r κ => ?_, fun r κ => ?_, fun r κ => ?_⟩
  · have e : iblk m c 0 t (ix2 r κ) = m ((c : Thread nD τ).loc main_arg0) (ix2 (⟨512 * t.val + r, by omega⟩ : Fin 4096) κ) := by blk_ext [iblk, a0, a1]
    exact e.trans (h.x _ _)
  · have e : iblk m c 1 t (ix2 r κ) = m ((c : Thread nD τ).loc main_arg1) (ix2 r κ) := by blk_ext [iblk, b0, b1]
    exact e.trans (h.g _ _)
  · have e : iblk m c 2 t (ix2 r κ) = m ((c : Thread nD τ).loc main_arg2) (ix2 r κ) := by blk_ext [iblk, c0, c1]
    exact e.trans (h.w1 _ _)
  · have e : iblk m c 3 t (ix2 r κ) = m ((c : Thread nD τ).loc main_arg3) (ix2 r κ) := by blk_ext [iblk, d0, d1]
    exact e.trans (h.w3 _ _)
  · have e : iblk m c 4 t (ix2 r κ) = m ((c : Thread nD τ).loc main_arg4) (ix2 r κ) := by blk_ext [iblk, e0, e1]
    exact e.trans (h.w2 _ _)
  · have e : iblk m c 5 t (ix2 r κ) = m ((c : Thread nD τ).loc main_arg5) (ix2 r κ) := by blk_ext [iblk, f0, f1]
    exact e.trans (h.gf _ _)
  · have e : iblk m c 6 t (ix2 r κ) = m ((c : Thread nD τ).loc main_arg6) (ix2 (⟨512 * t.val + r, by omega⟩ : Fin 4096) κ) := by blk_ext [iblk, g0, g1]
    exact e.trans (h.t _ _)

theorem arr_dh (h : ArgsAt m D c) : (dats m 0 c).arrAt 8 cfg0.N = fun i : S4096x1024.Idx => D.dh (i 0) (i 1) := by
  refine (dats m 0 c).arrAt_eq_of_covers 8 _ (by decide +kernel) fun t hf y => ?_
  obtain ⟨-, ⟨g0, g1⟩, -⟩ := win_out t
  blk_simp [g0, g1]
  rw [after0_8, mul_comm t.val 512]
  have L := (dh_at (h_at (in_at m h t)) (in_at m h t)).idx y
  by_cases h0 : t.val % 8 = 0
  · rw [outsAt0_A m c t h0]; dsimp only; rw [out8_A]
    exact L
  · rw [outsAt0_B m c t h0]; dsimp only; rw [out8_B]
    exact L

theorem arr_a (h : ArgsAt m D c) : (dats m 0 c).arrAt 10 cfg0.N = fun i : S11x4096x256.Idx => D.a (i 1) (256 * (i 0 : ℕ) + (i 2 : ℕ)) := by
  refine (dats m 0 c).arrAt_eq_of_covers 10 _ (by decide +kernel) fun t hf y => ?_
  obtain ⟨-, -, -, ⟨g0, g1, g2⟩, -⟩ := win_out t
  blk_simp [g0, g1, g2]
  rw [after0_10, mul_comm t.val 512]
  have L := a3_at (in_at m h t) y
  by_cases h0 : t.val % 8 = 0
  · rw [outsAt0_A m c t h0]; dsimp only; rw [out10_A]
    exact L
  · rw [outsAt0_B m c t h0]; dsimp only; rw [out10_B]
    exact L

theorem arr_b (h : ArgsAt m D c) : (dats m 0 c).arrAt 11 cfg0.N = fun i : S11x4096x256.Idx => D.b (i 1) (256 * (i 0 : ℕ) + (i 2 : ℕ)) := by
  refine (dats m 0 c).arrAt_eq_of_covers 11 _ (by decide +kernel) fun t hf y => ?_
  obtain ⟨-, -, -, -, ⟨g0, g1, g2⟩, -⟩ := win_out t
  blk_simp [g0, g1, g2]
  rw [after0_11, mul_comm t.val 512]
  have L := b3_at (in_at m h t) y
  by_cases h0 : t.val % 8 = 0
  · rw [outsAt0_A m c t h0]; dsimp only; rw [out11_A]
    exact L
  · rw [outsAt0_B m c t h0]; dsimp only; rw [out11_B]
    exact L

theorem arr_n (h : ArgsAt m D c) : (dats m 0 c).arrAt 12 cfg0.N = fun i : S4096x1024.Idx => D.n (i 0) (i 1) := by
  refine (dats m 0 c).arrAt_eq_of_covers 12 _ (by decide +kernel) fun t hf y => ?_
  obtain ⟨-, -, -, -, -, g0, g1⟩ := win_out t
  blk_simp [g0, g1]
  rw [after0_12, mul_comm t.val 512]
  have L := (n_at (in_at m h t)).idx y
  by_cases h0 : t.val % 8 = 0
  · rw [outsAt0_A m c t h0]; dsimp only; rw [out12_A]
    exact L
  · rw [outsAt0_B m c t h0]; dsimp only; rw [out12_B]
    exact L

/-- The loss after a grid step: that of the rows so far. -/
theorem loss_run (h : ArgsAt m D c) : ∀ (n : ℕ) (hn : n < cfg0.N),
    Is (φ := .f32) (outsAt0 m c n hn).1 fun _ _ => Ideal.ofBits .f32 0x3A000000#32 * ∑ s ∈ range (512 * (n + 1)), D.sq s
  | 0, hn => by
    have z : Is (k0_pay1 (F := Ideal)) fun _ _ => (0 : EReal) := fun r d => by
      pointwise [k0_pay1]
    intro r d
    rw [outsAt0_A m c ⟨0, hn⟩ rfl]
    dsimp only
    rw [out7_A]
    refine (loss_at (h_at (in_at m h ⟨0, hn⟩)) (in_at m h ⟨0, hn⟩) z r d).trans ?_
    simp
  | n + 1, hn => by
    have hN : n + 1 < 8 := hn
    intro r d
    rw [outsAt0_B m c ⟨n + 1, hn⟩ (by show ¬(n + 1) % 8 = 0; omega)]
    dsimp only
    rw [out7_B]
    refine (loss_at (h_at (in_at m h ⟨n + 1, hn⟩)) (in_at m h ⟨n + 1, hn⟩) (loss_run h n (by omega)) r d).trans ?_
    rw [mul_add 512 (n + 1) 1, mul_one, Finset.sum_range_add, Cert.Ffn.Inh.loss_add]

/-- The last norm's weights' gradient after a grid step: the sum over the rows so far. -/
theorem dg_run (h : ArgsAt m D c) : ∀ (n : ℕ) (hn : n < cfg0.N),
    Is (φ := .f32) (outsAt0 m c n hn).2.2.1 fun _ d => ∑ s ∈ range (512 * (n + 1)), D.dn s d * D.top.xh s d
  | 0, hn => by
    have z : Is (φ := .f32) (k0_pay2 (F := Ideal)) fun _ _ => (0 : EReal) := fun r d => by
      pointwise [k0_pay2]
    intro r d
    rw [outsAt0_A m c ⟨0, hn⟩ rfl]
    dsimp only
    rw [out9_A]
    refine (dg_at (h_at (in_at m h ⟨0, hn⟩)) (in_at m h ⟨0, hn⟩) z r d).trans ?_
    simp
  | n + 1, hn => by
    have hN : n + 1 < 8 := hn
    intro r d
    rw [outsAt0_B m c ⟨n + 1, hn⟩ (by show ¬(n + 1) % 8 = 0; omega)]
    dsimp only
    rw [out9_B]
    refine (dg_at (h_at (in_at m h ⟨n + 1, hn⟩)) (in_at m h ⟨n + 1, hn⟩) (dg_run h n (by omega)) r d).trans ?_
    rw [mul_add 512 (n + 1) 1, mul_one, Finset.sum_range_add]

theorem arr_loss (h : ArgsAt m D c) : (dats m 0 c).arrAt 7 cfg0.N = fun i : S1x1.Idx => D.loss := by
  refine (dats m 0 c).arrAt_eq_of_covers 7 _ (by decide +kernel) fun t hf y => ?_
  obtain ⟨⟨g0, g1⟩, -⟩ := win_out t
  have ht : t.val = 7 := by revert t; decide +kernel
  blk_simp [g0, g1]
  rw [after0_7]
  refine ((loss_run m h t.val t.isLt).idx y).trans ?_
  rw [ht]
  rfl

theorem arr_dg (h : ArgsAt m D c) : (dats m 0 c).arrAt 9 cfg0.N = fun i : S1x1024.Idx => D.dg (i 1) := by
  refine (dats m 0 c).arrAt_eq_of_covers 9 _ (by decide +kernel) fun t hf y => ?_
  obtain ⟨-, -, ⟨g0, g1⟩, -⟩ := win_out t
  have ht : t.val = 7 := by revert t; decide +kernel
  blk_simp [g0, g1]
  rw [after0_9]
  refine ((dg_run m h t.val t.isLt).idx y).trans ?_
  rw [ht]
  rfl

end Cert.Kernel5Ideal.Head
-- ==== Proof.HeadRef.lean ====
module

public import proofs.«01_k».proof.Proof.HeadSpec
public import proofs.«01_k».proof.Proof.FfnRef
public import proofs.«01_k».proof.Proof.BwdRef
public import proofs.«01_k».proof.Proof.Gen.Reference5Ideal.Run

/-! The reference of the second feed-forward layer under the loss: its loss and gradients. -/

@[expose] public section

set_option maxRecDepth 16384
set_option maxHeartbeats 0

noncomputable section

namespace Cert.Reference5Ideal.Head

open Cert.Reference5Ideal Cert.Reference5Ideal.Gen Cert.KernelIdeal.Gla
open Idealize.ShloMosaic Idealize.ShloMosaic.TcCoe Idealize.ShloMosaic.Tactic
open Cert.Reference3Ideal.Ffn (out out_at)
open Cert.Reference4Ideal.Bwd (root slope xhat root_at slope_at xhat_at)
open Finset (range)

section
variable (H : FVec Ideal S4096x1024 .f32) (gf : FVec Ideal S1x1024 .f32) (T : FVec Ideal S4096x1024 .f32)

def errR : FVec Ideal S4096x1024 .f32 := subf (mulf (xhat H) (broadcastInDim S4096x1024 ![0, 1] bcast_S1x1024_S4096x1024_0_1 gf)) T

def sqR : FVec Ideal S4096 .f32 := Host.reduceAdd (mulf (errR H gf T) (errR H gf T)) (constant S_ .f32 0x00000000#32) reducesTo_S4096x1024_S4096_d1 h_S_

def meanR : FVec Ideal S4096 .f32 := Host.divf (sqR H gf T) (broadcastInDim S4096 ![] bcast_S_S4096 (constant S_ .f32 0x44800000#32))

def lossR : FVec Ideal S1x1 .f32 :=
  shapeCast S1x1 (mulf (constant S_ .f32 0x3F000000#32) (Host.reduceAdd (meanR H gf T) (constant S_ .f32 0x00000000#32) reducesTo_S4096_S_d0 h_S_)) shapeCasts_S_S1x1

/-- What the mean passes to each of a row's squares. -/
def part : FVec Ideal S4096 .f32 :=
  Host.divf (broadcastInDim S4096 ![] bcast_S_S4096 (mulf (constant S_ .f32 0x3F000000#32) (constant S_ .f32 0x3F800000#32)))
    (broadcastInDim S4096 ![] bcast_S_S4096 (constant S_ .f32 0x44800000#32))

def dnR : FVec Ideal S4096x1024 .f32 :=
  mulf (broadcastInDim S4096x1024 ![0] bcast_S4096_S4096x1024_0 part) (mulf (broadcastInDim S4096x1024 ![] bcast_S_S4096x1024 (constant S_ .f32 0x40000000#32)) (errR H gf T))

def dgR : FVec Ideal S1x1024 .f32 :=
  shapeCast S1x1024 (Host.reduceAdd (mulf (xhat H) (dnR H gf T)) (constant S_ .f32 0x00000000#32) reducesTo_S4096x1024_S1024_d0 h_S_) shapeCasts_S1024_S1x1024

def dhatR : FVec Ideal S4096x1024 .f32 := mulf (dnR H gf T) (broadcastInDim S4096x1024 ![0, 1] bcast_S1x1024_S4096x1024_0_1 gf)

/-- The rows' share through their mean square. -/
def share : FVec Ideal S4096x1 .f32 :=
  Host.divf (mulf (shapeCast S4096x1 (Host.reduceAdd (mulf H (dhatR H gf T)) (constant S_ .f32 0x00000000#32) reducesTo_S4096x1024_S4096_d1 h_S_) shapeCasts_S4096_S4096x1) (slope H))
    (broadcastInDim S4096x1 ![] bcast_S_S4096x1 (constant S_ .f32 0x44800000#32))

def shares : FVec Ideal S4096x1024 .f32 :=
  broadcastInDim S4096x1024 ![0] bcast_S4096_S4096x1024_0 (Host.reduceAdd (share H gf T) (constant S_ .f32 0x00000000#32) reducesTo_S4096x1_S4096_d1 h_S_)

def dhR : FVec Ideal S4096x1024 .f32 :=
  addf (addf (mulf (dhatR H gf T) (broadcastInDim S4096x1024 ![0, 1] bcast_S4096x1_S4096x1024_0_1 (root H))) (mulf H (shares H gf T))) (mulf (shares H gf T) H)

end

section
variable (m : (ℓ : Loc nD τ Reference5Ideal.sig) → Buf (Elt Ideal) ℓ) (c : Dev nD)

/-- The layer's output, from the arguments. -/
def outR : FVec Ideal S4096x1024 .f32 :=
  out (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

theorem res_loss : Value.res_main_v74 m c = lossR (outR m c) (m ((c.tc : Thread nD τ).loc main_arg5)) (m ((c.tc : Thread nD τ).loc main_arg6)) := rfl

theorem res_dh : Value.res_main_v73 m c = dhR (outR m c) (m ((c.tc : Thread nD τ).loc main_arg5)) (m ((c.tc : Thread nD τ).loc main_arg6)) := rfl

theorem res_dg : Value.res_main_v57 m c = dgR (outR m c) (m ((c.tc : Thread nD τ).loc main_arg5)) (m ((c.tc : Thread nD τ).loc main_arg6)) := rfl

end

/-- The layer's output, the last norm's weights and the target. -/
structure ArgsAt (D : Cert.Ffn.Inh) (H : FVec Ideal S4096x1024 .f32) (gf : FVec Ideal S1x1024 .f32) (T : FVec Ideal S4096x1024 .f32) : Prop where
  h : Is H D.h
  gf : Is gf fun _ => D.gf
  t : Is T D.t

section
variable {D : Cert.Ffn.Inh} {H : FVec Ideal S4096x1024 .f32} {gf : FVec Ideal S1x1024 .f32} {T : FVec Ideal S4096x1024 .f32}

theorem err_at (h : ArgsAt D H gf T) : Is (errR H gf T) D.err := fun s d => by
  pointwise [errR]
  rw [xhat_at (D := D.top) h.h, h.gf, h.t]
  rfl

theorem mean_at (h : ArgsAt D H gf T) (s : Fin 4096) : meanR H gf T (ix1 s) = Ideal.div (D.sq s) (Ideal.ofBits .f32 0x44800000#32) := by
  pointwise [meanR, sqR]
  rw [fsum _ (fun d => D.err s d * D.err s d) fun d => by rw [err_at h]]
  rfl

theorem loss_at (h : ArgsAt D H gf T) : Is (lossR H gf T) fun _ _ => D.loss := fun r d => by
  pointwise [lossR]
  rw [fsum _ (fun s => Ideal.div (D.sq s) (Ideal.ofBits .f32 0x44800000#32)) fun s => by rw [mean_at h]]
  exact D.loss_eq

theorem dn_at (h : ArgsAt D H gf T) : Is (dnR H gf T) D.dn := fun s d => by
  pointwise [dnR, part]
  rw [err_at h]
  have e := D.dn_eq s d
  rwa [show Ideal.ofBits .f32 0x3F800000#32 = 1 by simp [Ideal.ofBits, Ideal.ieee, -EReal.coe_mul]; norm_num, mul_one] at e

theorem dg_at (h : ArgsAt D H gf T) : Is (dgR H gf T) fun _ => D.dg := fun r d => by
  pointwise [dgR]
  exact fsum _ (fun s => D.dn s d * D.top.xh s d) fun s => by rw [xhat_at (D := D.top) h.h, dn_at h, mul_comm]

theorem dhat_at (h : ArgsAt D H gf T) : Is (dhatR H gf T) fun s d => D.dn s d * D.gf d := fun s d => by
  pointwise [dhatR]
  rw [dn_at h, h.gf]

theorem share_at (h : ArgsAt D H gf T) (s : Fin 4096) : share H gf T (ix2 s (0 : Fin 1))
    = Ideal.div ((∑ k ∈ range 1024, D.h s k * (D.dn s k * D.gf k)) * (Ideal.ofBits .f32 0xBF000000#32 * Ideal.div (D.top.r s) (D.top.ms s))) (Ideal.ofBits .f32 0x44800000#32) := by
  pointwise [share]
  rw [fsum _ (fun k => D.h s k * (D.dn s k * D.gf k)) fun k => by rw [h.h, dhat_at h], slope_at (D := D.top) h.h]

theorem shares_at (s : Fin 4096) (d : Fin 1024) : shares H gf T (ix2 s d) = share H gf T (ix2 s (0 : Fin 1)) := by
  pointwise [shares]
  exact Fin.sum_univ_one _

theorem dh_at (h : ArgsAt D H gf T) : Is (dhR H gf T) D.dh := fun s d => by
  pointwise [dhR]
  rw [shares_at, share_at h, dhat_at h, root_at (D := D.top) h.h, h.h]
  exact D.dh_eq s d d.isLt

end

end Cert.Reference5Ideal.Head
-- ==== Proof.HeadClaim.lean ====
module

public import proofs.«01_k».proof.Defs
public import proofs.«01_k».proof.Proof.HeadArr
public import proofs.«01_k».proof.Proof.HeadRef
public import proofs.«01_k».proof.Proof.BwdClaim
public import proofs.«01_k».proof.Proof.Gen.Kernel5

/-! The claims of the second feed-forward layer under the loss. -/

@[expose] public section

set_option maxHeartbeats 0
set_option maxRecDepth 65536

noncomputable section

namespace Cert.Proof

open Idealize.ShloMosaic Idealize.ShloMosaic.TcCoe Idealize.ShloMosaic.Tactic Idealize.SL.Sem

section
variable [Cert.Kernel5.Facts] [Cert.Kernel5Ideal.Facts]

theorem bodies_eq5 : Cert.Kernel5.defs₀ (F := Bits) = Cert.Kernel5Ideal.defs₀ (F := Bits) := by
  unfold Cert.Kernel5.defs₀ Cert.Kernel5Ideal.defs₀
  refine congrArg Defs.onTc (funext fun ℓ => funext fun a => ?_)
  match ℓ, a with
  | 0, (t, s) => rfl

theorem tables_eq5 : Cert.Kernel5.defs (F := Bits) = Cert.Kernel5Ideal.defs (F := Bits) := by
  unfold Cert.Kernel5.defs Cert.Kernel5Ideal.defs
  exact congrArg (Pipeline.defs _) bodies_eq5

end

theorem frame_kernel5 : Cert.quiescent_Kernel5 := fun m ρ _ => by
  rw [tables_eq5]
  exact (θ_run Cert.Kernel5Ideal.defs _ _).mono (fun _ h => h) (Cert.Kernel5Ideal.Gen.frame (F := Bits) m ρ)

theorem frame_ideal5 : Cert.quiescent_Kernel5Ideal := fun m ρ _ => Cert.Kernel5Ideal.Gen.frame (F := Ideal) m ρ

theorem frame_reference5 : Cert.quiescent_Reference5Ideal := fun m ρ _ =>
  (θ_run Cert.Reference5Ideal.defs _ _).mono (fun r h => ⟨fun c => (h c).2.2.2.2.2.2, sem_eq_zero_of_no_sems (by decide) r.2⟩)
    (Cert.Reference5Ideal.Value.run (F := Ideal) m ρ)

/-- The inputs the arguments hold. -/
def in5 (m : (ℓ : Loc Cert.Kernel5Ideal.nD Cert.Kernel5Ideal.τ Cert.Kernel5Ideal.sig) → Buf (Elt Ideal) ℓ) (c : Dev Cert.Kernel5Ideal.nD) : Cert.Ffn.Inh where
  x := Cert.Ffn.mat (a := 4096) (b := 1024) (φ := .f32) (m ((c.tc : Thread Cert.Kernel5Ideal.nD Cert.Kernel5Ideal.τ).loc Cert.Kernel5Ideal.main_arg0))
  g := Cert.Ffn.mat (a := 1) (b := 1024) (φ := .f32) (m ((c.tc : Thread Cert.Kernel5Ideal.nD Cert.Kernel5Ideal.τ).loc Cert.Kernel5Ideal.main_arg1)) 0
  w1 := Cert.Ffn.mat (a := 2816) (b := 1024) (φ := .bf16) (m ((c.tc : Thread Cert.Kernel5Ideal.nD Cert.Kernel5Ideal.τ).loc Cert.Kernel5Ideal.main_arg2))
  w3 := Cert.Ffn.mat (a := 2816) (b := 1024) (φ := .bf16) (m ((c.tc : Thread Cert.Kernel5Ideal.nD Cert.Kernel5Ideal.τ).loc Cert.Kernel5Ideal.main_arg3))
  w2 := Cert.Ffn.mat (a := 2816) (b := 1024) (φ := .bf16) (m ((c.tc : Thread Cert.Kernel5Ideal.nD Cert.Kernel5Ideal.τ).loc Cert.Kernel5Ideal.main_arg4))
  gf := Cert.Ffn.mat (a := 1) (b := 1024) (φ := .f32) (m ((c.tc : Thread Cert.Kernel5Ideal.nD Cert.Kernel5Ideal.τ).loc Cert.Kernel5Ideal.main_arg5)) 0
  t := Cert.Ffn.mat (a := 4096) (b := 1024) (φ := .f32) (m ((c.tc : Thread Cert.Kernel5Ideal.nD Cert.Kernel5Ideal.τ).loc Cert.Kernel5Ideal.main_arg6))

theorem args5 (m : (ℓ : Loc Cert.Kernel5Ideal.nD Cert.Kernel5Ideal.τ Cert.Kernel5Ideal.sig) → Buf (Elt Ideal) ℓ) (c : Dev Cert.Kernel5Ideal.nD) :
    Cert.Kernel5Ideal.Head.ArgsAt m (in5 m c) c :=
  ⟨Cert.Ffn.is_mat _, Cert.Ffn.is_row _, Cert.Ffn.is_mat _, Cert.Ffn.is_mat _, Cert.Ffn.is_mat _, Cert.Ffn.is_row _, Cert.Ffn.is_mat _⟩

theorem algebraic5 : Cert.algebraic_Kernel5Ideal_Reference5Ideal := fun m g m' g' _ hin =>
  ⟨fun c => fun i : Cert.Kernel5Ideal.S1x1.Idx => (in5 m c).loss,
   fun c => fun i : Cert.Kernel5Ideal.S4096x1024.Idx => (in5 m c).dh (i 0) (i 1),
   fun c => fun i : Cert.Kernel5Ideal.S1x1024.Idx => (in5 m c).dg (i 1),
   fun c => fun i : Cert.Kernel5Ideal.S11x4096x256.Idx => (in5 m c).a (i 1) (256 * (i 0 : ℕ) + (i 2 : ℕ)),
   fun c => fun i : Cert.Kernel5Ideal.S11x4096x256.Idx => (in5 m c).b (i 1) (256 * (i 0 : ℕ) + (i 2 : ℕ)),
   fun c => fun i : Cert.Kernel5Ideal.S4096x1024.Idx => (in5 m c).n (i 0) (i 1),
   (θ_run Cert.Kernel5Ideal.defs _ _).mono (fun _ h c =>
      have A := args5 m c
      ⟨(h c).1.trans (Cert.Kernel5Ideal.Head.arr_loss m A),
       (h c).2.1.trans (Cert.Kernel5Ideal.Head.arr_dh m A),
       (h c).2.2.1.trans (Cert.Kernel5Ideal.Head.arr_dg m A),
       (h c).2.2.2.1.trans (Cert.Kernel5Ideal.Head.arr_a m A),
       (h c).2.2.2.2.1.trans (Cert.Kernel5Ideal.Head.arr_b m A),
       (h c).2.2.2.2.2.1.trans (Cert.Kernel5Ideal.Head.arr_n m A), (h c).2.2.2.2.2.2⟩)
     (Cert.Kernel5Ideal.Value.run_blocks (F := Ideal) m g),
   (θ_run Cert.Reference5Ideal.defs _ _).mono (fun _ h c =>
      have A := args5 m c
      have hx : Cert.KernelIdeal.Gla.Is (a := 4096) (b := 1024) (φ := .f32) (m' ((c.tc : Thread Cert.Reference5Ideal.nD Cert.Reference5Ideal.τ).loc Cert.Reference5Ideal.main_arg0)) (in5 m c).x := by
        rw [(hin c).1]; exact A.x
      have hg : Cert.KernelIdeal.Gla.Is (a := 1) (b := 1024) (φ := .f32) (m' ((c.tc : Thread Cert.Reference5Ideal.nD Cert.Reference5Ideal.τ).loc Cert.Reference5Ideal.main_arg1)) (fun _ => (in5 m c).g) := by
        rw [(hin c).2.1]; exact A.g
      have hw1 : Cert.KernelIdeal.Gla.Is (a := 2816) (b := 1024) (φ := .bf16) (m' ((c.tc : Thread Cert.Reference5Ideal.nD Cert.Reference5Ideal.τ).loc Cert.Reference5Ideal.main_arg2)) (in5 m c).w1 := by
        rw [(hin c).2.2.1]; exact A.w1
      have hw3 : Cert.KernelIdeal.Gla.Is (a := 2816) (b := 1024) (φ := .bf16) (m' ((c.tc : Thread Cert.Reference5Ideal.nD Cert.Reference5Ideal.τ).loc Cert.Reference5Ideal.main_arg3)) (in5 m c).w3 := by
        rw [(hin c).2.2.2.1]; exact A.w3
      have hw2 : Cert.KernelIdeal.Gla.Is (a := 2816) (b := 1024) (φ := .bf16) (m' ((c.tc : Thread Cert.Reference5Ideal.nD Cert.Reference5Ideal.τ).loc Cert.Reference5Ideal.main_arg4)) (in5 m c).w2 := by
        rw [(hin c).2.2.2.2.1]; exact A.w2
      have hgf : Cert.KernelIdeal.Gla.Is (a := 1) (b := 1024) (φ := .f32) (m' ((c.tc : Thread Cert.Reference5Ideal.nD Cert.Reference5Ideal.τ).loc Cert.Reference5Ideal.main_arg5)) (fun _ => (in5 m c).gf) := by
        rw [(hin c).2.2.2.2.2.1]; exact A.gf
      have ht : Cert.KernelIdeal.Gla.Is (a := 4096) (b := 1024) (φ := .f32) (m' ((c.tc : Thread Cert.Reference5Ideal.nD Cert.Reference5Ideal.τ).loc Cert.Reference5Ideal.main_arg6)) (in5 m c).t := by
        rw [(hin c).2.2.2.2.2.2]; exact A.t
      have B : Cert.Reference5Ideal.Head.ArgsAt (in5 m c) (Cert.Reference5Ideal.Head.outR m' c)
          (m' ((c.tc : Thread Cert.Reference5Ideal.nD Cert.Reference5Ideal.τ).loc Cert.Reference5Ideal.main_arg5))
          (m' ((c.tc : Thread Cert.Reference5Ideal.nD Cert.Reference5Ideal.τ).loc Cert.Reference5Ideal.main_arg6)) :=
        ⟨Cert.Reference3Ideal.Ffn.out_at hx hg hw1 hw3 hw2, hgf, ht⟩
      ⟨(h c).1.trans ((Cert.Reference5Ideal.Head.res_loss m' c).trans (mat_fun (Cert.Reference5Ideal.Head.loss_at B))),
       (h c).2.1.trans ((Cert.Reference5Ideal.Head.res_dh m' c).trans (mat_fun (Cert.Reference5Ideal.Head.dh_at B))),
       (h c).2.2.1.trans ((Cert.Reference5Ideal.Head.res_dg m' c).trans (row_fun (Cert.Reference5Ideal.Head.dg_at B))),
       (h c).2.2.2.1.trans (layer_fun (Cert.Reference3Ideal.Ffn.blocked_at (Cert.Reference3Ideal.Ffn.proj_at hx hg hw1))),
       (h c).2.2.2.2.1.trans (layer_fun (Cert.Reference3Ideal.Ffn.blocked_at (Cert.Reference3Ideal.Ffn.proj_at hx hg hw3))),
       (h c).2.2.2.2.2.1.trans (mat_fun (Cert.Reference3Ideal.Ffn.nrmW_at hx hg)), (h c).2.2.2.2.2.2⟩)
     (Cert.Reference5Ideal.Value.run (F := Ideal) m' g')⟩

end Cert.Proof

end
-- ==== Proof.Mix.lean ====
module

public import proofs.«01_k».proof.Proof.FfnSpec
public import proofs.«01_k».proof.Proof.Gen.Kernel6Ideal.Value
public import Idealize.ShloMosaic.Lib.Pointwise
public import Idealize.ShloMosaic.Lib.Pipeline.ValueKit
public import Idealize.ShloMosaic.Lib.Pipeline.ReadBack

/-! The mixers' projection: the norm and the product of every grid step, and the arrays they make up. The weight matrix is the first of `In`;
the projection's columns are those of `In.a`, cut into eight arrays. -/

@[expose] public section

set_option maxRecDepth 16384
set_option maxHeartbeats 0

noncomputable section

namespace Cert.Kernel6Ideal.Mix

open Cert.Kernel6Ideal Cert.Kernel6Ideal.Gen Cert.KernelIdeal.Gla
open Idealize.ShloMosaic Idealize.ShloMosaic.TcCoe Idealize.ShloMosaic.Tactic
open Idealize.ShloMosaic.Pipeline (Dat Cfg Window)
open Finset (range)

/-- A grid step's inputs: 512 rows, the norm's weights and the projection's. -/
structure InAt (D : Cert.Ffn.In) (o : ℕ) (x0 : Vec Ideal S512x1024 .f32) (x1 : Vec Ideal S1x1024 .f32) (x2 : Vec Ideal S4112x1024 .bf16) : Prop where
  x : Is (φ := .f32) x0 fun r => D.x (o + r)
  g : Is (φ := .f32) x1 fun _ => D.g
  w : Is (φ := .bf16) x2 D.w1

section
variable {D : Cert.Ffn.In} {o : ℕ} {x0 : Vec Ideal S512x1024 .f32} {x1 : Vec Ideal S1x1024 .f32} {x2 : Vec Ideal S4112x1024 .bf16}

theorem n_at (h : InAt D o x0 x1 x2) : Is (φ := .bf16) (k0_pay5 x0 x1) fun r => D.n (o + r) := fun r d => by
  pointwise [k0_pay5]
  rw [fsum _ (fun d => D.x (o + r) d * D.x (o + r) d) fun d => by rw [h.x], h.x, h.g]
  rfl

theorem pay10_eq : k0_pay10 x0 x1 x2 = k0_pay5 x0 x1 := by
  unfold k0_pay10
  frame_out

theorem u_at (h : InAt D o x0 x1 x2) : Is (φ := .bf16) (out0_3 x0 x1 x2) fun r => D.n (o + r) := fun r d => by
  have e : out0_3 x0 x1 x2 = k0_pay5 x0 x1 := by frame_out
  rw [e]
  exact n_at h r d

theorem out4_at (h : InAt D o x0 x1 x2) : Is (φ := .f32) (out0_4 x0 x1 x2) fun r j => D.a (o + r) j := fun r j => by
  have e : out0_4 x0 x1 x2 = k0_pay6 x0 x1 (View.ld x2 r0_2) := by frame_out
  rw [e]
  pointwise [k0_pay6]
  exact fsum _ (fun d => D.n (o + r) d * D.w1 j d) fun d => by rw [n_at h, h.w]

theorem out5_at (h : InAt D o x0 x1 x2) : Is (φ := .f32) (out0_5 x0 x1 x2) fun r j => D.a (o + r) (512 + j) := fun r j => by
  have e : out0_5 x0 x1 x2 = k0_pay7 x0 x1 (View.ld x2 r0_4) := by frame_out
  rw [e]
  pointwise [k0_pay7]
  exact fsum _ (fun d => D.n (o + r) d * D.w1 (512 + j) d) fun d => by rw [n_at h, h.w]

theorem out6_at (h : InAt D o x0 x1 x2) : Is (φ := .f32) (out0_6 x0 x1 x2) fun r j => D.a (o + r) (768 + j) := fun r j => by
  have e : out0_6 x0 x1 x2 = k0_pay8 x0 x1 (View.ld x2 r0_6) := by frame_out
  rw [e]
  pointwise [k0_pay8]
  exact fsum _ (fun d => D.n (o + r) d * D.w1 (768 + j) d) fun d => by rw [n_at h, h.w]

theorem out7_at (h : InAt D o x0 x1 x2) : Is (φ := .f32) (out0_7 x0 x1 x2) fun r j => D.a (o + r) (1024 + j) := fun r j => by
  have e : out0_7 x0 x1 x2 = k0_pay9 x0 x1 (View.ld x2 r0_7) := by frame_out
  rw [e]
  pointwise [k0_pay9]
  exact fsum _ (fun d => D.n (o + r) d * D.w1 (1024 + j) d) fun d => by rw [n_at h, h.w]

theorem out8_at (h : InAt D o x0 x1 x2) : Is (φ := .f32) (out0_8 x0 x1 x2) fun r j => D.a (o + r) (1536 + j) := fun r j => by
  have e : out0_8 x0 x1 x2 = k0_pay1 (k0_pay5 x0 x1) (View.ld x2 r0_8) := by
    frame_out
    rw [pay10_eq]
  rw [e]
  pointwise [k0_pay1]
  exact fsum _ (fun d => D.n (o + r) d * D.w1 (1536 + j) d) fun d => by rw [n_at h, h.w]

theorem out9_at (h : InAt D o x0 x1 x2) : Is (φ := .f32) (out0_9 x0 x1 x2) fun r j => D.a (o + r) (2048 + j) := fun r j => by
  have e : out0_9 x0 x1 x2 = k0_pay2 (k0_pay5 x0 x1) (View.ld x2 r0_9) := by
    frame_out
    rw [pay10_eq]
  rw [e]
  pointwise [k0_pay2]
  exact fsum _ (fun d => D.n (o + r) d * D.w1 (2048 + j) d) fun d => by rw [n_at h, h.w]

theorem out10_at (h : InAt D o x0 x1 x2) : Is (φ := .f32) (out0_10 x0 x1 x2) fun r j => D.a (o + r) (2064 + j) := fun r j => by
  have e : out0_10 x0 x1 x2 = k0_pay3 (k0_pay5 x0 x1) (View.ld x2 r0_11) := by
    frame_out
    rw [pay10_eq]
  rw [e]
  pointwise [k0_pay3]
  exact fsum _ (fun d => D.n (o + r) d * D.w1 (2064 + j) d) fun d => by rw [n_at h, h.w]

theorem out11_at (h : InAt D o x0 x1 x2) : Is (φ := .f32) (out0_11 x0 x1 x2) fun r j => D.a (o + r) (3088 + j) := fun r j => by
  have e : out0_11 x0 x1 x2 = k0_pay4 (k0_pay5 x0 x1) (View.ld x2 r0_12) := by
    frame_out
    rw [pay10_eq]
  rw [e]
  pointwise [k0_pay4]
  exact fsum _ (fun d => D.n (o + r) d * D.w1 (3088 + j) d) fun d => by rw [n_at h, h.w]

end

/-! ## The arrays -/

section
variable (m : (ℓ : Loc nD τ sig) → Buf (Elt Ideal) ℓ)

/-- The arguments as the part's inputs. -/
structure ArgsAt (D : Cert.Ffn.In) (c : Dev nD) : Prop where
  x : Is (a := 4096) (b := 1024) (φ := .f32) (m ((c : Thread nD τ).loc main_arg0)) D.x
  g : Is (a := 1) (b := 1024) (φ := .f32) (m ((c : Thread nD τ).loc main_arg1)) fun _ => D.g
  w : Is (a := 4112) (b := 1024) (φ := .bf16) (m ((c : Thread nD τ).loc main_arg2)) D.w1

theorem win_in : ∀ t : Fin cfg0.N, (cfg0.win 0).index t 0 = t.val ∧ (cfg0.win 0).index t 1 = 0 ∧ (cfg0.win 1).index t 0 = 0 ∧ (cfg0.win 1).index t 1 = 0
    ∧ (cfg0.win 2).index t 0 = 0 ∧ (cfg0.win 2).index t 1 = 0 := by decide +kernel

theorem win_out : ∀ t : Fin cfg0.N, ((cfg0.win 3).index t 0 = t.val ∧ (cfg0.win 3).index t 1 = 0) ∧ ((cfg0.win 4).index t 0 = t.val ∧ (cfg0.win 4).index t 1 = 0)
    ∧ ((cfg0.win 5).index t 0 = t.val ∧ (cfg0.win 5).index t 1 = 0) ∧ ((cfg0.win 6).index t 0 = t.val ∧ (cfg0.win 6).index t 1 = 0)
    ∧ ((cfg0.win 7).index t 0 = t.val ∧ (cfg0.win 7).index t 1 = 0) ∧ ((cfg0.win 8).index t 0 = t.val ∧ (cfg0.win 8).index t 1 = 0)
    ∧ ((cfg0.win 9).index t 0 = t.val ∧ (cfg0.win 9).index t 1 = 0) ∧ ((cfg0.win 10).index t 0 = t.val ∧ (cfg0.win 10).index t 1 = 0)
    ∧ ((cfg0.win 11).index t 0 = t.val ∧ (cfg0.win 11).index t 1 = 0) := by decide +kernel

variable {D : Cert.Ffn.In} {c : Dev nD}

theorem in_at (h : ArgsAt m D c) (t : Fin cfg0.N) : InAt D (512 * t.val) (iblk m c 0 t) (iblk m c 1 t) (iblk m c 2 t) := by
  obtain ⟨a0, a1, b0, b1, c0, c1⟩ := win_in t
  have ht : t.val < 8 := t.isLt
  refine ⟨fun r κ => ?_, fun r κ => ?_, fun r κ => ?_⟩
  · have e : iblk m c 0 t (ix2 r κ) = m ((c : Thread nD τ).loc main_arg0) (ix2 (⟨512 * t.val + r, by omega⟩ : Fin 4096) κ) := by blk_ext [iblk, a0, a1]
    exact e.trans (h.x _ _)
  · have e : iblk m c 1 t (ix2 r κ) = m ((c : Thread nD τ).loc main_arg1) (ix2 r κ) := by blk_ext [iblk, b0, b1]
    exact e.trans (h.g _ _)
  · have e : iblk m c 2 t (ix2 r κ) = m ((c : Thread nD τ).loc main_arg2) (ix2 r κ) := by blk_ext [iblk, c0, c1]
    exact e.trans (h.w _ _)

theorem arr_u (h : ArgsAt m D c) : (dats m 0 c).arrAt 3 cfg0.N = fun i : S4096x1024.Idx => D.n (i 0) (i 1) := by
  refine (dats m 0 c).arrAt_eq_of_covers 3 _ (by decide +kernel) fun t hf y => ?_
  obtain ⟨⟨g0, g1⟩, -⟩ := win_out t
  blk_simp [g0, g1]
  rw [after0_3, mul_comm t.val 512]
  exact (u_at (in_at m h t)).idx y

theorem arr4 (h : ArgsAt m D c) : (dats m 0 c).arrAt 4 cfg0.N = fun i : S4096x512.Idx => D.a (i 0) (i 1) := by
  refine (dats m 0 c).arrAt_eq_of_covers 4 _ (by decide +kernel) fun t hf y => ?_
  obtain ⟨-, ⟨g0, g1⟩, -⟩ := win_out t
  blk_simp [g0, g1]
  rw [after0_4, mul_comm t.val 512]
  exact (out4_at (in_at m h t)).idx y

theorem arr5 (h : ArgsAt m D c) : (dats m 0 c).arrAt 5 cfg0.N = fun i : S4096x256.Idx => D.a (i 0) (512 + (i 1 : ℕ)) := by
  refine (dats m 0 c).arrAt_eq_of_covers 5 _ (by decide +kernel) fun t hf y => ?_
  obtain ⟨-, -, ⟨g0, g1⟩, -⟩ := win_out t
  blk_simp [g0, g1]
  rw [after0_5, mul_comm t.val 512]
  exact (out5_at (in_at m h t)).idx y

theorem arr6 (h : ArgsAt m D c) : (dats m 0 c).arrAt 6 cfg0.N = fun i : S4096x256.Idx => D.a (i 0) (768 + (i 1 : ℕ)) := by
  refine (dats m 0 c).arrAt_eq_of_covers 6 _ (by decide +kernel) fun t hf y => ?_
  obtain ⟨-, -, -, ⟨g0, g1⟩, -⟩ := win_out t
  blk_simp [g0, g1]
  rw [after0_6, mul_comm t.val 512]
  exact (out6_at (in_at m h t)).idx y

theorem arr7 (h : ArgsAt m D c) : (dats m 0 c).arrAt 7 cfg0.N = fun i : S4096x512.Idx => D.a (i 0) (1024 + (i 1 : ℕ)) := by
  refine (dats m 0 c).arrAt_eq_of_covers 7 _ (by decide +kernel) fun t hf y => ?_
  obtain ⟨-, -, -, -, ⟨g0, g1⟩, -⟩ := win_out t
  blk_simp [g0, g1]
  rw [after0_7, mul_comm t.val 512]
  exact (out7_at (in_at m h t)).idx y

theorem arr8 (h : ArgsAt m D c) : (dats m 0 c).arrAt 8 cfg0.N = fun i : S4096x512.Idx => D.a (i 0) (1536 + (i 1 : ℕ)) := by
  refine (dats m 0 c).arrAt_eq_of_covers 8 _ (by decide +kernel) fun t hf y => ?_
  obtain ⟨-, -, -, -, -, ⟨g0, g1⟩, -⟩ := win_out t
  blk_simp [g0, g1]
  rw [after0_8, mul_comm t.val 512]
  exact (out8_at (in_at m h t)).idx y

theorem arr9 (h : ArgsAt m D c) : (dats m 0 c).arrAt 9 cfg0.N = fun i : S4096x16.Idx => D.a (i 0) (2048 + (i 1 : ℕ)) := by
  refine (dats m 0 c).arrAt_eq_of_covers 9 _ (by decide +kernel) fun t hf y => ?_
  obtain ⟨-, -, -, -, -, -, ⟨g0, g1⟩, -⟩ := win_out t
  blk_simp [g0, g1]
  rw [after0_9, mul_comm t.val 512]
  exact (out9_at (in_at m h t)).idx y

theorem arr10 (h : ArgsAt m D c) : (dats m 0 c).arrAt 10 cfg0.N = fun i : S4096x1024.Idx => D.a (i 0) (2064 + (i 1 : ℕ)) := by
  refine (dats m 0 c).arrAt_eq_of_covers 10 _ (by decide +kernel) fun t hf y => ?_
  obtain ⟨-, -, -, -, -, -, -, ⟨g0, g1⟩, -⟩ := win_out t
  blk_simp [g0, g1]
  rw [after0_10, mul_comm t.val 512]
  exact (out10_at (in_at m h t)).idx y

theorem arr11 (h : ArgsAt m D c) : (dats m 0 c).arrAt 11 cfg0.N = fun i : S4096x1024.Idx => D.a (i 0) (3088 + (i 1 : ℕ)) := by
  refine (dats m 0 c).arrAt_eq_of_covers 11 _ (by decide +kernel) fun t hf y => ?_
  obtain ⟨-, -, -, -, -, -, -, -, ⟨g0, g1⟩⟩ := win_out t
  blk_simp [g0, g1]
  rw [after0_11, mul_comm t.val 512]
  exact (out11_at (in_at m h t)).idx y

end

end Cert.Kernel6Ideal.Mix
-- ==== Proof.MixClaim.lean ====
module

public import proofs.«01_k».proof.Defs
public import proofs.«01_k».proof.Proof.Mix
public import proofs.«01_k».proof.Proof.FfnClaim
public import proofs.«01_k».proof.Proof.Gen.Kernel6
public import proofs.«01_k».proof.Proof.Gen.Reference6Ideal.Run

/-! The claims of the mixers' projection. -/

@[expose] public section

set_option maxHeartbeats 0
set_option maxRecDepth 65536

noncomputable section

namespace Cert.Reference6Ideal.Mix

open Cert.Reference6Ideal Cert.Reference6Ideal.Gen Cert.KernelIdeal.Gla
open Idealize.ShloMosaic Idealize.ShloMosaic.TcCoe Idealize.ShloMosaic.Tactic
open Finset (range)

/-- The reference's projection, before it is cut. -/
def proj (X : FVec Ideal S4096x1024 .f32) (g : FVec Ideal S1x1024 .f32) (w : FVec Ideal S4112x1024 .bf16) : FVec Ideal S4096x4112 .f32 :=
  Host.dotGeneral dot_S4096x1024_S1024x4112_S4096x4112_1_0_0_1_n_n none (Cert.Reference3Ideal.Ffn.nrm X g)
    (transpose S1024x4112 [1, 0] (extf .f32 w bitsLt_bf16_f32) transposes_S4112x1024_S1024x4112_1_0)

variable {D : Cert.Ffn.In} {X : FVec Ideal S4096x1024 .f32} {g : FVec Ideal S1x1024 .f32} {w : FVec Ideal S4112x1024 .bf16}

theorem proj_at (hX : Is X D.x) (hg : Is g fun _ => D.g) (hw : Is w D.w1) : Is (proj X g w) D.a := fun s i => by
  pointwise [proj]
  exact fsum _ (fun d => D.n s d * D.w1 i d) fun d => by rw [Cert.Reference3Ideal.Ffn.nrm_at hX hg, hw]

/-- A range of columns. -/
theorem cut_fun {a b n o : ℕ} {φ : FTy} {P : FVec Ideal ⟨2, ![a, b]⟩ φ} {f : ℕ → ℕ → EReal} (h : Is P f) (hs : (⟨2, ![a, b]⟩ : Shape).Slices ![0, o] ⟨2, ![a, n]⟩) :
    extractStridedSlice ⟨2, ![a, n]⟩ ![0, o] P hs = fun i : (⟨2, ![a, n]⟩ : Shape).Idx => f (i 0) (o + (i 1 : ℕ)) := funext fun i => by
  refine (h.idx _).trans ?_
  show f (0 + (i 0 : ℕ)) (o + (i 1 : ℕ)) = _
  rw [zero_add]

end Cert.Reference6Ideal.Mix

namespace Cert.Proof

open Idealize.ShloMosaic Idealize.ShloMosaic.TcCoe Idealize.ShloMosaic.Tactic Idealize.SL.Sem

section
variable [Cert.Kernel6.Facts] [Cert.Kernel6Ideal.Facts]

theorem bodies_eq6 : Cert.Kernel6.defs₀ (F := Bits) = Cert.Kernel6Ideal.defs₀ (F := Bits) := by
  unfold Cert.Kernel6.defs₀ Cert.Kernel6Ideal.defs₀
  refine congrArg Defs.onTc (funext fun ℓ => funext fun a => ?_)
  match ℓ, a with
  | 0, (t, s) => rfl

theorem tables_eq6 : Cert.Kernel6.defs (F := Bits) = Cert.Kernel6Ideal.defs (F := Bits) := by
  unfold Cert.Kernel6.defs Cert.Kernel6Ideal.defs
  exact congrArg (Pipeline.defs _) bodies_eq6

end

theorem frame_kernel6 : Cert.quiescent_Kernel6 := fun m ρ _ => by
  rw [tables_eq6]
  exact (θ_run Cert.Kernel6Ideal.defs _ _).mono (fun _ h => h) (Cert.Kernel6Ideal.Gen.frame (F := Bits) m ρ)

theorem frame_ideal6 : Cert.quiescent_Kernel6Ideal := fun m ρ _ => Cert.Kernel6Ideal.Gen.frame (F := Ideal) m ρ

theorem frame_reference6 : Cert.quiescent_Reference6Ideal := fun m ρ _ =>
  (θ_run Cert.Reference6Ideal.defs _ _).mono (fun r h => ⟨fun c => (h c).2.2.2.2.2.2.2.2.2, sem_eq_zero_of_no_sems (by decide) r.2⟩)
    (Cert.Reference6Ideal.Value.run (F := Ideal) m ρ)

/-- The inputs the arguments hold: the rows, the norm's weights and the projection's. -/
def in6 (m : (ℓ : Loc Cert.Kernel6Ideal.nD Cert.Kernel6Ideal.τ Cert.Kernel6Ideal.sig) → Buf (Elt Ideal) ℓ) (c : Dev Cert.Kernel6Ideal.nD) : Cert.Ffn.In where
  x := Cert.Ffn.mat (a := 4096) (b := 1024) (φ := .f32) (m ((c.tc : Thread Cert.Kernel6Ideal.nD Cert.Kernel6Ideal.τ).loc Cert.Kernel6Ideal.main_arg0))
  g := Cert.Ffn.mat (a := 1) (b := 1024) (φ := .f32) (m ((c.tc : Thread Cert.Kernel6Ideal.nD Cert.Kernel6Ideal.τ).loc Cert.Kernel6Ideal.main_arg1)) 0
  w1 := Cert.Ffn.mat (a := 4112) (b := 1024) (φ := .bf16) (m ((c.tc : Thread Cert.Kernel6Ideal.nD Cert.Kernel6Ideal.τ).loc Cert.Kernel6Ideal.main_arg2))
  w3 := 0
  w2 := 0

theorem args6 (m : (ℓ : Loc Cert.Kernel6Ideal.nD Cert.Kernel6Ideal.τ Cert.Kernel6Ideal.sig) → Buf (Elt Ideal) ℓ) (c : Dev Cert.Kernel6Ideal.nD) :
    Cert.Kernel6Ideal.Mix.ArgsAt m (in6 m c) c := ⟨Cert.Ffn.is_mat _, Cert.Ffn.is_row _, Cert.Ffn.is_mat _⟩

theorem algebraic6 : Cert.algebraic_Kernel6Ideal_Reference6Ideal := fun m g m' g' hpre hin =>
  ⟨fun c => fun i : Cert.Kernel6Ideal.S4096x1024.Idx => (in6 m c).n (i 0) (i 1),
   fun c => fun i : Cert.Kernel6Ideal.S4096x512.Idx => (in6 m c).a (i 0) (i 1),
   fun c => fun i : Cert.Kernel6Ideal.S4096x256.Idx => (in6 m c).a (i 0) (512 + (i 1 : ℕ)),
   fun c => fun i : Cert.Kernel6Ideal.S4096x256.Idx => (in6 m c).a (i 0) (768 + (i 1 : ℕ)),
   fun c => fun i : Cert.Kernel6Ideal.S4096x512.Idx => (in6 m c).a (i 0) (1024 + (i 1 : ℕ)),
   fun c => fun i : Cert.Kernel6Ideal.S4096x512.Idx => (in6 m c).a (i 0) (1536 + (i 1 : ℕ)),
   fun c => fun i : Cert.Kernel6Ideal.S4096x16.Idx => (in6 m c).a (i 0) (2048 + (i 1 : ℕ)),
   fun c => fun i : Cert.Kernel6Ideal.S4096x1024.Idx => (in6 m c).a (i 0) (2064 + (i 1 : ℕ)),
   fun c => fun i : Cert.Kernel6Ideal.S4096x1024.Idx => (in6 m c).a (i 0) (3088 + (i 1 : ℕ)),
   (θ_run Cert.Kernel6Ideal.defs _ _).mono (fun _ h c =>
      have A := args6 m c
      ⟨(h c).1.trans (Cert.Kernel6Ideal.Mix.arr_u m A),
       (h c).2.1.trans (Cert.Kernel6Ideal.Mix.arr4 m A),
       (h c).2.2.1.trans (Cert.Kernel6Ideal.Mix.arr5 m A),
       (h c).2.2.2.1.trans (Cert.Kernel6Ideal.Mix.arr6 m A),
       (h c).2.2.2.2.1.trans (Cert.Kernel6Ideal.Mix.arr7 m A),
       (h c).2.2.2.2.2.1.trans (Cert.Kernel6Ideal.Mix.arr8 m A),
       (h c).2.2.2.2.2.2.1.trans (Cert.Kernel6Ideal.Mix.arr9 m A),
       (h c).2.2.2.2.2.2.2.1.trans (Cert.Kernel6Ideal.Mix.arr10 m A),
       (h c).2.2.2.2.2.2.2.2.1.trans (Cert.Kernel6Ideal.Mix.arr11 m A),
       (h c).2.2.2.2.2.2.2.2.2⟩)
     (Cert.Kernel6Ideal.Value.run_blocks (F := Ideal) m g),
   (θ_run Cert.Reference6Ideal.defs _ _).mono (fun _ h c =>
      have A := args6 m c
      have B0 : Cert.KernelIdeal.Gla.Is (a := 4096) (b := 1024) (φ := .f32)
          (m' ((c.tc : Thread Cert.Reference6Ideal.nD Cert.Reference6Ideal.τ).loc Cert.Reference6Ideal.main_arg0)) (in6 m c).x := by rw [(hin c).1]; exact A.x
      have B1 : Cert.KernelIdeal.Gla.Is (a := 1) (b := 1024) (φ := .f32)
          (m' ((c.tc : Thread Cert.Reference6Ideal.nD Cert.Reference6Ideal.τ).loc Cert.Reference6Ideal.main_arg1)) (fun _ => (in6 m c).g) := by rw [(hin c).2.1]; exact A.g
      have B2 : Cert.KernelIdeal.Gla.Is (a := 4112) (b := 1024) (φ := .bf16)
          (m' ((c.tc : Thread Cert.Reference6Ideal.nD Cert.Reference6Ideal.τ).loc Cert.Reference6Ideal.main_arg2)) (in6 m c).w1 := by rw [(hin c).2.2]; exact A.w
      have P := Cert.Reference6Ideal.Mix.proj_at B0 B1 B2
      ⟨(h c).1.trans (mat_fun (Cert.Reference3Ideal.Ffn.nrmW_at B0 B1)),
       (h c).2.1.trans ((Cert.Reference6Ideal.Mix.cut_fun P _).trans (funext fun i => by rw [zero_add])),
       (h c).2.2.1.trans (Cert.Reference6Ideal.Mix.cut_fun P _),
       (h c).2.2.2.1.trans (Cert.Reference6Ideal.Mix.cut_fun P _),
       (h c).2.2.2.2.1.trans (Cert.Reference6Ideal.Mix.cut_fun P _),
       (h c).2.2.2.2.2.1.trans (Cert.Reference6Ideal.Mix.cut_fun P _),
       (h c).2.2.2.2.2.2.1.trans (Cert.Reference6Ideal.Mix.cut_fun P _),
       (h c).2.2.2.2.2.2.2.1.trans (Cert.Reference6Ideal.Mix.cut_fun P _),
       (h c).2.2.2.2.2.2.2.2.1.trans (Cert.Reference6Ideal.Mix.cut_fun P _),
       (h c).2.2.2.2.2.2.2.2.2⟩)
     (Cert.Reference6Ideal.Value.run (F := Ideal) m' g')⟩

end Cert.Proof

end
-- ==== Proof.MixbSpec.lean ====
module

public import proofs.«01_k».proof.Proof.HeadSpec

/-! The backward pass through the normed projection before the mixers, as a function of the rows and columns: the projection's output is cut into eight pieces. -/

@[expose] public section

set_option maxRecDepth 16384
set_option maxHeartbeats 0

noncomputable section

namespace Cert.Mixb

open Idealize.ShloMosaic
open Cert.KernelIdeal.Gla (fsum)
open Finset (range)

/-- The rows, the norm's weights, the projection's weights, the gradient the rows get past the mixers, and the gradient of each piece. -/
structure In where
  x : ℕ → ℕ → EReal
  g : ℕ → EReal
  w : ℕ → ℕ → EReal
  dh : ℕ → ℕ → EReal
  z : ℕ → ℕ → ℕ → EReal

namespace In

variable (D : In)

/-- The norm. -/
def top : Cert.Ffn.Inb where
  x := D.x
  g := D.g
  w1 := 0
  w3 := 0
  w2 := 0
  dh := D.dh

/-- What one piece, `n` columns from column `off` on, adds to the gradient of the normed rows. -/
def part (k off n s d : ℕ) : EReal := ∑ i ∈ range n, D.z k s i * D.w (off + i) d

/-- The gradient of the normed rows. -/
def dn (s d : ℕ) : EReal :=
  D.part 0 0 512 s d + D.part 1 512 256 s d + D.part 2 768 256 s d + D.part 3 1024 512 s d + D.part 4 1536 512 s d + D.part 5 2048 16 s d
    + D.part 6 2064 1024 s d + D.part 7 3088 1024 s d

/-- The gradients of the rows and of the norm's weights. -/
def dx (s d : ℕ) : EReal :=
  D.dh s d + D.top.r s * (D.dn s d * D.g d - D.top.xh s d * Ideal.div (∑ k ∈ range 1024, D.dn s k * D.g k * D.top.xh s k) (Ideal.ofBits .f32 0x44800000#32))
def dg (d : ℕ) : EReal := ∑ s ∈ range 4096, D.dn s d * D.top.xh s d

theorem piece (k off : ℕ) {n s d : ℕ} {a b : Fin n → EReal} (ha : ∀ i, a i = D.z k s i) (hb : ∀ i, b i = D.w (off + i) d) :
    ∑ i : Fin n, a i * b i = D.part k off n s d :=
  fsum _ (fun i => D.z k s i * D.w (off + i) d) fun i => by rw [ha, hb]

/-- The pieces in the other order. -/
theorem dn_rev (s d : ℕ) :
    D.part 7 3088 1024 s d + D.part 6 2064 1024 s d + D.part 5 2048 16 s d + D.part 4 1536 512 s d + D.part 3 1024 512 s d + D.part 2 768 256 s d
      + D.part 1 512 256 s d + D.part 0 0 512 s d = D.dn s d := by
  unfold dn
  ac_rfl

/-- The gradient of the rows, the mean square's share of it twice. -/
theorem dx_eq (s d : ℕ) (hd : d < 1024) :
    D.dh s d + D.dn s d * D.g d * D.top.r s
      + D.x s d * Ideal.div ((∑ k ∈ range 1024, D.x s k * (D.dn s k * D.g k)) * (Ideal.ofBits .f32 0xBF000000#32 * Ideal.div (D.top.r s) (D.top.ms s))) (Ideal.ofBits .f32 0x44800000#32)
      + Ideal.div ((∑ k ∈ range 1024, D.x s k * (D.dn s k * D.g k)) * (Ideal.ofBits .f32 0xBF000000#32 * Ideal.div (D.top.r s) (D.top.ms s))) (Ideal.ofBits .f32 0x44800000#32) * D.x s d
    = D.dx s d := by
  have e := Cert.Ffn.Inb.norm_eq (D := D.top) (fun k => D.dn s k * D.g k) s d hd
  rw [add_assoc (D.dh s d), add_assoc (D.dh s d)]
  exact congrArg (D.dh s d + ·) e

end In

end Cert.Mixb
-- ==== Proof.Mixb.lean ====
module

public import proofs.«01_k».proof.Proof.Stack
public import proofs.«01_k».proof.Proof.MixbSpec
public import proofs.«01_k».proof.Proof.Gen.Kernel7Ideal.Value
public import Idealize.ShloMosaic.Lib.Pointwise
public import Idealize.ShloMosaic.Lib.Pipeline.ValueKit
public import Idealize.ShloMosaic.Lib.Pipeline.ReadBack

/-! The backward pass through the normed projection before the mixers: the blocks of one grid step, their entries, and the arrays the call leaves. -/

@[expose] public section

set_option maxRecDepth 16384
set_option maxHeartbeats 0

noncomputable section

namespace Cert.Kernel7Ideal.Mixb

open Cert.Kernel7Ideal Cert.Kernel7Ideal.Gen Cert.KernelIdeal.Gla
open Idealize.ShloMosaic Idealize.ShloMosaic.TcCoe Idealize.ShloMosaic.Tactic
open Idealize.ShloMosaic.Pipeline (Dat Cfg Window)
open Finset (range)

/-- `n` rows of the weights from row `off` on. -/
def rows (off n : ℕ) (h : off + n ≤ 4112) (w : Vec Ideal S4112x1024 .bf16) : Vec Ideal ⟨2, ![n, 1024]⟩ .bf16 :=
  View.ld w (Rect.unit (s := S4112x1024) ![off, 0] ![n, 1024] fun a => by
    match a with
    | 0 => exact h
    | 1 => exact le_refl _)

theorem rows_at {w : Vec Ideal S4112x1024 .bf16} {W : ℕ → ℕ → EReal} (hw : Is (φ := .bf16) w W) (off n : ℕ) (h : off + n ≤ 4112) :
    Is (a := n) (b := 1024) (φ := .bf16) (rows off n h w) fun i => W (off + i) := fun i d => by
  have e : rows off n h w (ix2 i d) = w (ix2 (⟨off + i, by omega⟩ : Fin 4112) d) := by
    unfold rows View.ld
    congr 1
    funext a
    match a with
    | 0 => exact Fin.ext (by simp [ix2])
    | 1 => exact Fin.ext (by simp [ix2])
  exact e.trans (hw _ _)

section
variable (x0 : Vec Ideal S512x1024 .f32) (x1 : Vec Ideal S1x1024 .f32) (x2 : Vec Ideal S4112x1024 .bf16) (x3 : Vec Ideal S512x1024 .f32) (x4 : Vec Ideal S512x512 .f32)
  (x5 x6 : Vec Ideal S512x256 .f32) (x7 x8 : Vec Ideal S512x512 .f32) (x9 : Vec Ideal S512x16 .f32) (x10 x11 : Vec Ideal S512x1024 .f32)

/-- The block of the gradient of the normed rows. -/
def du : FVec Ideal S512x1024 .f32 :=
  k0_pay8 (k0_pay6 x4 (rows 0 512 (by decide) x2) x5 (rows 512 256 (by decide) x2) x6 (rows 768 256 (by decide) x2)) (k0_pay7 x7) (rows 1024 512 (by decide) x2) (constant S512x1024 .f32 0x00000000#32) x8 (rows 1536 512 (by decide) x2) x9 (rows 2048 16 (by decide) x2) x10 (rows 2064 1024 (by decide) x2) x11 (rows 3088 1024 (by decide) x2)

/-- The block of the gradient of the rows. -/
def dxBlk : FVec Ideal S512x1024 .f32 :=
  k0_pay1 (k0_pay9 x1 (k0_pay4 x0) (k0_pay5 x0) (k0_pay6 x4 (rows 0 512 (by decide) x2) x5 (rows 512 256 (by decide) x2) x6 (rows 768 256 (by decide) x2)) (k0_pay7 x7) (rows 1024 512 (by decide) x2) (constant S512x1024 .f32 0x00000000#32) x8 (rows 1536 512 (by decide) x2) x9 (rows 2048 16 (by decide) x2) x10 (rows 2064 1024 (by decide) x2) x11 (rows 3088 1024 (by decide) x2)) x3

/-- What the block's rows add to the gradient of the norm's weights. -/
def dgBlk : FVec Ideal S1x1024 .f32 :=
  k0_pay10 (k0_pay5 x0) (k0_pay6 x4 (rows 0 512 (by decide) x2) x5 (rows 512 256 (by decide) x2) x6 (rows 768 256 (by decide) x2)) (k0_pay7 x7) (rows 1024 512 (by decide) x2) (constant S512x1024 .f32 0x00000000#32) x8 (rows 1536 512 (by decide) x2) x9 (rows 2048 16 (by decide) x2) x10 (rows 2064 1024 (by decide) x2) x11 (rows 3088 1024 (by decide) x2)

end

/-- A grid step's inputs: 512 rows, the weights, and the rows' gradients. -/
structure InAt (D : Cert.Mixb.In) (o : ℕ) (x0 : Vec Ideal S512x1024 .f32) (x1 : Vec Ideal S1x1024 .f32) (x2 : Vec Ideal S4112x1024 .bf16) (x3 : Vec Ideal S512x1024 .f32) (x4 : Vec Ideal S512x512 .f32)
  (x5 x6 : Vec Ideal S512x256 .f32) (x7 x8 : Vec Ideal S512x512 .f32) (x9 : Vec Ideal S512x16 .f32) (x10 x11 : Vec Ideal S512x1024 .f32) : Prop where
  x : Is (φ := .f32) x0 fun r => D.x (o + r)
  g : Is (φ := .f32) x1 fun _ => D.g
  w : Is (φ := .bf16) x2 D.w
  dh : Is (φ := .f32) x3 fun r => D.dh (o + r)
  z0 : Is (φ := .f32) x4 fun r => D.z 0 (o + r)
  z1 : Is (φ := .f32) x5 fun r => D.z 1 (o + r)
  z2 : Is (φ := .f32) x6 fun r => D.z 2 (o + r)
  z3 : Is (φ := .f32) x7 fun r => D.z 3 (o + r)
  z4 : Is (φ := .f32) x8 fun r => D.z 4 (o + r)
  z5 : Is (φ := .f32) x9 fun r => D.z 5 (o + r)
  z6 : Is (φ := .f32) x10 fun r => D.z 6 (o + r)
  z7 : Is (φ := .f32) x11 fun r => D.z 7 (o + r)

section
variable {D : Cert.Mixb.In} {o : ℕ} {x0 : Vec Ideal S512x1024 .f32} {x1 : Vec Ideal S1x1024 .f32} {x2 : Vec Ideal S4112x1024 .bf16} {x3 : Vec Ideal S512x1024 .f32} {x4 : Vec Ideal S512x512 .f32}
  {x5 x6 : Vec Ideal S512x256 .f32} {x7 x8 : Vec Ideal S512x512 .f32} {x9 : Vec Ideal S512x16 .f32} {x10 x11 : Vec Ideal S512x1024 .f32}

theorem r_at (h : InAt D o x0 x1 x2 x3 x4 x5 x6 x7 x8 x9 x10 x11) (r : Fin 512) : k0_pay4 x0 (ix2 r (0 : Fin 1)) = D.top.r (o + r) := by
  pointwise [k0_pay4]
  rw [fsum _ (fun d => D.x (o + r) d * D.x (o + r) d) fun d => by rw [h.x]]
  rfl

theorem xh_at (h : InAt D o x0 x1 x2 x3 x4 x5 x6 x7 x8 x9 x10 x11) : Is (k0_pay5 x0) fun r => D.top.xh (o + r) := fun r d => by
  pointwise [k0_pay5]
  rw [h.x, r_at h]
  rfl

theorem du_at (h : InAt D o x0 x1 x2 x3 x4 x5 x6 x7 x8 x9 x10 x11) : Is (du x2 x4 x5 x6 x7 x8 x9 x10 x11) fun r => D.dn (o + r) := fun r d => by
  pointwise [du, k0_pay8, k0_pay7, k0_pay6]
  rw [D.piece 0 0 (h.z0 r) fun i => rows_at h.w 0 512 (by decide) i d,
    D.piece 1 512 (h.z1 r) fun i => rows_at h.w 512 256 (by decide) i d,
    D.piece 2 768 (h.z2 r) fun i => rows_at h.w 768 256 (by decide) i d,
    D.piece 3 1024 (h.z3 r) fun i => rows_at h.w 1024 512 (by decide) i d,
    D.piece 4 1536 (h.z4 r) fun i => rows_at h.w 1536 512 (by decide) i d,
    D.piece 5 2048 (h.z5 r) fun i => rows_at h.w 2048 16 (by decide) i d,
    D.piece 6 2064 (h.z6 r) fun i => rows_at h.w 2064 1024 (by decide) i d,
    D.piece 7 3088 (h.z7 r) fun i => rows_at h.w 3088 1024 (by decide) i d]
  rfl

theorem dx_at (h : InAt D o x0 x1 x2 x3 x4 x5 x6 x7 x8 x9 x10 x11) : Is (dxBlk x0 x1 x2 x3 x4 x5 x6 x7 x8 x9 x10 x11) fun r => D.dx (o + r) := fun r d => by
  have U := du_at h
  unfold du at U
  pointwise [dxBlk, k0_pay1, k0_pay9]
  rw [fsum _ (fun d => D.dn (o + r) d * D.g d * D.top.xh (o + r) d) fun d => by rw [U, h.g, xh_at h], U, h.g, xh_at h, r_at h, h.dh]
  rfl

theorem dg_at (h : InAt D o x0 x1 x2 x3 x4 x5 x6 x7 x8 x9 x10 x11) {acc : Vec Ideal S1x1024 .f32} {f : ℕ → EReal} (ha : Is (φ := .f32) acc fun _ => f) :
    Is (k0_pay3 (dgBlk x0 x2 x4 x5 x6 x7 x8 x9 x10 x11) acc) fun _ d => f d + ∑ s ∈ range 512, D.dn (o + s) d * D.top.xh (o + s) d := fun r d => by
  have U := du_at h
  unfold du at U
  pointwise [k0_pay3, dgBlk, k0_pay10]
  rw [ha, fsum _ (fun s => D.dn (o + s) d * D.top.xh (o + s) d) fun s => by rw [U, xh_at h]]

end

section
variable (c : Dev nD) (i : grid0.Coords)
  (arg1 : Memref sig .tc .vmem S512x1024 .f32) (harg1 : arg1.IsWhole)
  (arg2 : Memref sig .tc .vmem S1x1024 .f32) (harg2 : arg2.IsWhole)
  (arg3 : Memref sig .tc .vmem S4112x1024 .bf16) (harg3 : arg3.IsWhole)
  (arg4 : Memref sig .tc .vmem S512x1024 .f32) (harg4 : arg4.IsWhole)
  (arg5 : Memref sig .tc .vmem S512x512 .f32) (harg5 : arg5.IsWhole)
  (arg6 : Memref sig .tc .vmem S512x256 .f32) (harg6 : arg6.IsWhole)
  (arg7 : Memref sig .tc .vmem S512x256 .f32) (harg7 : arg7.IsWhole)
  (arg8 : Memref sig .tc .vmem S512x512 .f32) (harg8 : arg8.IsWhole)
  (arg9 : Memref sig .tc .vmem S512x512 .f32) (harg9 : arg9.IsWhole)
  (arg10 : Memref sig .tc .vmem S512x16 .f32) (harg10 : arg10.IsWhole)
  (arg11 : Memref sig .tc .vmem S512x1024 .f32) (harg11 : arg11.IsWhole)
  (arg12 : Memref sig .tc .vmem S512x1024 .f32) (harg12 : arg12.IsWhole)
  (arg13 : Memref sig .tc .vmem S512x1024 .f32) (harg13 : arg13.IsWhole)
  (arg14 : Memref sig .tc .vmem S1x1024 .f32) (harg14 : arg14.IsWhole)
  (x0 : Vec Ideal S512x1024 .f32) (x1 : Vec Ideal S1x1024 .f32) (x2 : Vec Ideal S4112x1024 .bf16) (x3 : Vec Ideal S512x1024 .f32) (x4 : Vec Ideal S512x512 .f32)
  (x5 x6 : Vec Ideal S512x256 .f32) (x7 x8 : Vec Ideal S512x512 .f32) (x9 : Vec Ideal S512x16 .f32) (x10 x11 : Vec Ideal S512x1024 .f32) (xo13 : Vec Ideal S1x1024 .f32)

theorem out12_A (hc : cond0_0 i) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9 x10 x11
    = dxBlk x0 x1 x2 x3 x4 x5 x6 x7 x8 x9 x10 x11 := by
  frame_out
  try simp (disch := decide) only [↓ View.readCov_skip, ↓ View.readCov_cons_toLoadRect, ↓ View.readCov_fill]
  rfl

theorem out13_A (hc : cond0_0 i) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9 x10 x11
    = k0_pay3 (dgBlk x0 x2 x4 x5 x6 x7 x8 x9 x10 x11) (k0_pay2 (F := Ideal)) := by
  frame_out
  try simp (disch := decide) only [↓ View.readCov_skip, ↓ View.readCov_cons_toLoadRect, ↓ View.readCov_fill]
  rfl

theorem out12_B (hc : ¬cond0_0 i) : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9 x10 x11 xo13
    = dxBlk x0 x1 x2 x3 x4 x5 x6 x7 x8 x9 x10 x11 := by
  frame_out
  try simp (disch := decide) only [↓ View.readCov_skip, ↓ View.readCov_cons_toLoadRect, ↓ View.readCov_fill]
  rfl

theorem out13_B (hc : ¬cond0_0 i) : out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9 x10 x11 xo13
    = k0_pay3 (dgBlk x0 x2 x4 x5 x6 x7 x8 x9 x10 x11) xo13 := by
  frame_out
  try simp (disch := decide) only [↓ View.readCov_skip, ↓ View.readCov_cons_toLoadRect, ↓ View.readCov_fill]
  rfl

end

variable (m : (ℓ : Loc nD τ sig) → Buf (Elt Ideal) ℓ)

/-- The arguments as the call's inputs. -/
structure ArgsAt (D : Cert.Mixb.In) (c : Dev nD) : Prop where
  x : Is (a := 4096) (b := 1024) (φ := .f32) (m ((c : Thread nD τ).loc main_arg0)) D.x
  g : Is (a := 1) (b := 1024) (φ := .f32) (m ((c : Thread nD τ).loc main_arg1)) fun _ => D.g
  w : Is (a := 4112) (b := 1024) (φ := .bf16) (m ((c : Thread nD τ).loc main_arg2)) D.w
  dh : Is (a := 4096) (b := 1024) (φ := .f32) (m ((c : Thread nD τ).loc main_arg3)) D.dh
  z0 : Is (a := 4096) (b := 512) (φ := .f32) (m ((c : Thread nD τ).loc main_arg4)) (D.z 0)
  z1 : Is (a := 4096) (b := 256) (φ := .f32) (m ((c : Thread nD τ).loc main_arg5)) (D.z 1)
  z2 : Is (a := 4096) (b := 256) (φ := .f32) (m ((c : Thread nD τ).loc main_arg6)) (D.z 2)
  z3 : Is (a := 4096) (b := 512) (φ := .f32) (m ((c : Thread nD τ).loc main_arg7)) (D.z 3)
  z4 : Is (a := 4096) (b := 512) (φ := .f32) (m ((c : Thread nD τ).loc main_arg8)) (D.z 4)
  z5 : Is (a := 4096) (b := 16) (φ := .f32) (m ((c : Thread nD τ).loc main_arg9)) (D.z 5)
  z6 : Is (a := 4096) (b := 1024) (φ := .f32) (m ((c : Thread nD τ).loc main_arg10)) (D.z 6)
  z7 : Is (a := 4096) (b := 1024) (φ := .f32) (m ((c : Thread nD τ).loc main_arg11)) (D.z 7)

theorem win_row : ∀ t : Fin cfg0.N, ((cfg0.win 0).index t 0 = t.val ∧ (cfg0.win 0).index t 1 = 0)
    ∧ ((cfg0.win 1).index t 0 = 0 ∧ (cfg0.win 1).index t 1 = 0)
    ∧ ((cfg0.win 2).index t 0 = 0 ∧ (cfg0.win 2).index t 1 = 0)
    ∧ ((cfg0.win 3).index t 0 = t.val ∧ (cfg0.win 3).index t 1 = 0)
    ∧ ((cfg0.win 4).index t 0 = t.val ∧ (cfg0.win 4).index t 1 = 0)
    ∧ ((cfg0.win 5).index t 0 = t.val ∧ (cfg0.win 5).index t 1 = 0)
    ∧ ((cfg0.win 6).index t 0 = t.val ∧ (cfg0.win 6).index t 1 = 0)
    ∧ ((cfg0.win 7).index t 0 = t.val ∧ (cfg0.win 7).index t 1 = 0)
    ∧ ((cfg0.win 8).index t 0 = t.val ∧ (cfg0.win 8).index t 1 = 0)
    ∧ ((cfg0.win 9).index t 0 = t.val ∧ (cfg0.win 9).index t 1 = 0)
    ∧ ((cfg0.win 10).index t 0 = t.val ∧ (cfg0.win 10).index t 1 = 0)
    ∧ ((cfg0.win 11).index t 0 = t.val ∧ (cfg0.win 11).index t 1 = 0)
    ∧ ((cfg0.win 12).index t 0 = t.val ∧ (cfg0.win 12).index t 1 = 0)
    ∧ ((cfg0.win 13).index t 0 = 0 ∧ (cfg0.win 13).index t 1 = 0) := by decide +kernel

variable {D : Cert.Mixb.In} {c : Dev nD}

theorem in_at (h : ArgsAt m D c) (t : Fin cfg0.N) :
    InAt D (512 * t.val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩, ⟨a10, b10⟩, ⟨a11, b11⟩, -⟩ := win_row t
  have ht : t.val < 8 := t.isLt
  refine ⟨fun r κ => ?_, fun r κ => ?_, fun r κ => ?_, fun r κ => ?_, fun r κ => ?_, fun r κ => ?_, fun r κ => ?_, fun r κ => ?_, fun r κ => ?_, fun r κ => ?_, fun r κ => ?_, fun r κ => ?_⟩
  · have e : iblk m c 0 t (ix2 r κ) = m ((c : Thread nD τ).loc main_arg0) (ix2 (⟨512 * t.val + r, by omega⟩ : Fin 4096) κ) := by blk_ext [iblk, a0, b0]
    exact e.trans (h.x _ _)
  · have e : iblk m c 1 t (ix2 r κ) = m ((c : Thread nD τ).loc main_arg1) (ix2 r κ) := by blk_ext [iblk, a1, b1]
    exact e.trans (h.g _ _)
  · have e : iblk m c 2 t (ix2 r κ) = m ((c : Thread nD τ).loc main_arg2) (ix2 r κ) := by blk_ext [iblk, a2, b2]
    exact e.trans (h.w _ _)
  · have e : iblk m c 3 t (ix2 r κ) = m ((c : Thread nD τ).loc main_arg3) (ix2 (⟨512 * t.val + r, by omega⟩ : Fin 4096) κ) := by blk_ext [iblk, a3, b3]
    exact e.trans (h.dh _ _)
  · have e : iblk m c 4 t (ix2 r κ) = m ((c : Thread nD τ).loc main_arg4) (ix2 (⟨512 * t.val + r, by omega⟩ : Fin 4096) κ) := by blk_ext [iblk, a4, b4]
    exact e.trans (h.z0 _ _)
  · have e : iblk m c 5 t (ix2 r κ) = m ((c : Thread nD τ).loc main_arg5) (ix2 (⟨512 * t.val + r, by omega⟩ : Fin 4096) κ) := by blk_ext [iblk, a5, b5]
    exact e.trans (h.z1 _ _)
  · have e : iblk m c 6 t (ix2 r κ) = m ((c : Thread nD τ).loc main_arg6) (ix2 (⟨512 * t.val + r, by omega⟩ : Fin 4096) κ) := by blk_ext [iblk, a6, b6]
    exact e.trans (h.z2 _ _)
  · have e : iblk m c 7 t (ix2 r κ) = m ((c : Thread nD τ).loc main_arg7) (ix2 (⟨512 * t.val + r, by omega⟩ : Fin 4096) κ) := by blk_ext [iblk, a7, b7]
    exact e.trans (h.z3 _ _)
  · have e : iblk m c 8 t (ix2 r κ) = m ((c : Thread nD τ).loc main_arg8) (ix2 (⟨512 * t.val + r, by omega⟩ : Fin 4096) κ) := by blk_ext [iblk, a8, b8]
    exact e.trans (h.z4 _ _)
  · have e : iblk m c 9 t (ix2 r κ) = m ((c : Thread nD τ).loc main_arg9) (ix2 (⟨512 * t.val + r, by omega⟩ : Fin 4096) κ) := by blk_ext [iblk, a9, b9]
    exact e.trans (h.z5 _ _)
  · have e : iblk m c 10 t (ix2 r κ) = m ((c : Thread nD τ).loc main_arg10) (ix2 (⟨512 * t.val + r, by omega⟩ : Fin 4096) κ) := by blk_ext [iblk, a10, b10]
    exact e.trans (h.z6 _ _)
  · have e : iblk m c 11 t (ix2 r κ) = m ((c : Thread nD τ).loc main_arg11) (ix2 (⟨512 * t.val + r, by omega⟩ : Fin 4096) κ) := by blk_ext [iblk, a11, b11]
    exact e.trans (h.z7 _ _)

theorem arr_dx (h : ArgsAt m D c) : (dats m 0 c).arrAt 12 cfg0.N = fun i : S4096x1024.Idx => D.dx (i 0) (i 1) := by
  refine (dats m 0 c).arrAt_eq_of_covers 12 _ (by decide +kernel) fun t hf y => ?_
  obtain ⟨-, -, -, -, -, -, -, -, -, -, -, -, ⟨g0, g1⟩, -⟩ := win_row t
  blk_simp [g0, g1]
  rw [after0_12, mul_comm t.val 512]
  have L := (dx_at (in_at m h t)).idx y
  by_cases h0 : t.val % 8 = 0
  · rw [outsAt0_A m c t h0]; dsimp only; rw [out12_A]
    exact L
  · rw [outsAt0_B m c t h0]; dsimp only; rw [out12_B]
    exact L

/-- The norm's weights' gradient after a grid step: the sum over the rows so far. -/
theorem dg_run (h : ArgsAt m D c) : ∀ (n : ℕ) (hn : n < cfg0.N),
    Is (φ := .f32) (outsAt0 m c n hn).2 fun _ d => ∑ s ∈ range (512 * (n + 1)), D.dn s d * D.top.xh s d
  | 0, hn => by
    have z : Is (φ := .f32) (k0_pay2 (F := Ideal)) fun _ _ => (0 : EReal) := fun r d => by
      pointwise [k0_pay2]
    intro r d
    rw [outsAt0_A m c ⟨0, hn⟩ rfl]
    dsimp only
    rw [out13_A]
    refine (dg_at (in_at m h ⟨0, hn⟩) z r d).trans ?_
    simp
  | n + 1, hn => by
    have hN : n + 1 < 8 := hn
    intro r d
    rw [outsAt0_B m c ⟨n + 1, hn⟩ (by show ¬(n + 1) % 8 = 0; omega)]
    dsimp only
    rw [out13_B]
    refine (dg_at (in_at m h ⟨n + 1, hn⟩) (dg_run h n (by omega)) r d).trans ?_
    rw [mul_add 512 (n + 1) 1, mul_one, Finset.sum_range_add]

theorem arr_dg (h : ArgsAt m D c) : (dats m 0 c).arrAt 13 cfg0.N = fun i : S1x1024.Idx => D.dg (i 1) := by
  refine (dats m 0 c).arrAt_eq_of_covers 13 _ (by decide +kernel) fun t hf y => ?_
  obtain ⟨-, -, -, -, -, -, -, -, -, -, -, -, -, g0, g1⟩ := win_row t
  have ht : t.val = 7 := by revert t; decide +kernel
  blk_simp [g0, g1]
  rw [after0_13]
  refine ((dg_run m h t.val t.isLt).idx y).trans ?_
  rw [ht]
  rfl

end Cert.Kernel7Ideal.Mixb
-- ==== Proof.MixbRef.lean ====
module

public import proofs.«01_k».proof.Proof.MixbSpec
public import proofs.«01_k».proof.Proof.BwdRef
public import proofs.«01_k».proof.Proof.Gen.Reference7Ideal.Run

/-! The reference of the backward pass through the normed projection before the mixers: its two gradients. -/

@[expose] public section

set_option maxRecDepth 16384
set_option maxHeartbeats 0

noncomputable section

namespace Cert.Reference7Ideal.Mixb

open Cert.Reference7Ideal Cert.Reference7Ideal.Gen Cert.KernelIdeal.Gla
open Idealize.ShloMosaic Idealize.ShloMosaic.TcCoe Idealize.ShloMosaic.Tactic
open Cert.Reference4Ideal.Bwd (root slope xhat root_at slope_at xhat_at)
open Finset (range)

section
variable (X : FVec Ideal S4096x1024 .f32) (g : FVec Ideal S1x1024 .f32) (w : FVec Ideal S4112x1024 .bf16) (H : FVec Ideal S4096x1024 .f32)
  (z0 : FVec Ideal S4096x512 .f32) (z1 : FVec Ideal S4096x256 .f32) (z2 : FVec Ideal S4096x256 .f32) (z3 : FVec Ideal S4096x512 .f32) (z4 : FVec Ideal S4096x512 .f32) (z5 : FVec Ideal S4096x16 .f32) (z6 : FVec Ideal S4096x1024 .f32) (z7 : FVec Ideal S4096x1024 .f32)

/-- The gradient of the normed rows: one product for each piece. -/
def dnR : FVec Ideal S4096x1024 .f32 :=
  (addf (addf (addf (addf (addf (addf (addf (Host.dotGeneral dot_S4096x1024_S1024x1024_S4096x1024_1_1_0_0_n_n none z7 (transpose S1024x1024 [1, 0] (extf .f32 (extractStridedSlice S1024x1024 ![3088, 0] w slices_S4112x1024_S1024x1024_3088_0) bitsLt_bf16_f32) transposes_S1024x1024_S1024x1024_1_0))
    (Host.dotGeneral dot_S4096x1024_S1024x1024_S4096x1024_1_1_0_0_n_n none z6 (transpose S1024x1024 [1, 0] (extf .f32 (extractStridedSlice S1024x1024 ![2064, 0] w slices_S4112x1024_S1024x1024_2064_0) bitsLt_bf16_f32) transposes_S1024x1024_S1024x1024_1_0)))
    (Host.dotGeneral dot_S4096x16_S1024x16_S4096x1024_1_1_0_0_n_n none z5 (transpose S1024x16 [1, 0] (extf .f32 (extractStridedSlice S16x1024 ![2048, 0] w slices_S4112x1024_S16x1024_2048_0) bitsLt_bf16_f32) transposes_S16x1024_S1024x16_1_0)))
    (Host.dotGeneral dot_S4096x512_S1024x512_S4096x1024_1_1_0_0_n_n none z4 (transpose S1024x512 [1, 0] (extf .f32 (extractStridedSlice S512x1024 ![1536, 0] w slices_S4112x1024_S512x1024_1536_0) bitsLt_bf16_f32) transposes_S512x1024_S1024x512_1_0)))
    (Host.dotGeneral dot_S4096x512_S1024x512_S4096x1024_1_1_0_0_n_n none z3 (transpose S1024x512 [1, 0] (extf .f32 (extractStridedSlice S512x1024 ![1024, 0] w slices_S4112x1024_S512x1024_1024_0) bitsLt_bf16_f32) transposes_S512x1024_S1024x512_1_0)))
    (Host.dotGeneral dot_S4096x256_S1024x256_S4096x1024_1_1_0_0_n_n none z2 (transpose S1024x256 [1, 0] (extf .f32 (extractStridedSlice S256x1024 ![768, 0] w slices_S4112x1024_S256x1024_768_0) bitsLt_bf16_f32) transposes_S256x1024_S1024x256_1_0)))
    (Host.dotGeneral dot_S4096x256_S1024x256_S4096x1024_1_1_0_0_n_n none z1 (transpose S1024x256 [1, 0] (extf .f32 (extractStridedSlice S256x1024 ![512, 0] w slices_S4112x1024_S256x1024_512_0) bitsLt_bf16_f32) transposes_S256x1024_S1024x256_1_0)))
    (Host.dotGeneral dot_S4096x512_S1024x512_S4096x1024_1_1_0_0_n_n none z0 (transpose S1024x512 [1, 0] (extf .f32 (extractStridedSlice S512x1024 ![0, 0] w slices_S4112x1024_S512x1024_0_0) bitsLt_bf16_f32) transposes_S512x1024_S1024x512_1_0)))

def dgR : FVec Ideal S1x1024 .f32 :=
  shapeCast S1x1024 (Host.reduceAdd (mulf (xhat X) (dnR w z0 z1 z2 z3 z4 z5 z6 z7)) (constant S_ .f32 0x00000000#32) reducesTo_S4096x1024_S1024_d0 h_S_) shapeCasts_S1024_S1x1024

def dhatR : FVec Ideal S4096x1024 .f32 := mulf (dnR w z0 z1 z2 z3 z4 z5 z6 z7) (broadcastInDim S4096x1024 ![0, 1] bcast_S1x1024_S4096x1024_0_1 g)

/-- The rows' share through their mean square. -/
def share : FVec Ideal S4096x1 .f32 :=
  Host.divf (mulf (shapeCast S4096x1 (Host.reduceAdd (mulf X (dhatR g w z0 z1 z2 z3 z4 z5 z6 z7)) (constant S_ .f32 0x00000000#32) reducesTo_S4096x1024_S4096_d1 h_S_) shapeCasts_S4096_S4096x1) (slope X))
    (broadcastInDim S4096x1 ![] bcast_S_S4096x1 (constant S_ .f32 0x44800000#32))

def shares : FVec Ideal S4096x1024 .f32 :=
  broadcastInDim S4096x1024 ![0] bcast_S4096_S4096x1024_0 (Host.reduceAdd (share X g w z0 z1 z2 z3 z4 z5 z6 z7) (constant S_ .f32 0x00000000#32) reducesTo_S4096x1_S4096_d1 h_S_)

def dxR : FVec Ideal S4096x1024 .f32 :=
  addf (addf (addf H (mulf (dhatR g w z0 z1 z2 z3 z4 z5 z6 z7) (broadcastInDim S4096x1024 ![0, 1] bcast_S4096x1_S4096x1024_0_1 (root X))))
    (mulf X (shares X g w z0 z1 z2 z3 z4 z5 z6 z7))) (mulf (shares X g w z0 z1 z2 z3 z4 z5 z6 z7) X)

/-- The arguments as the call's inputs. -/
structure ArgsAt (D : Cert.Mixb.In) : Prop where
  x : Is X D.x
  g : Is g fun _ => D.g
  w : Is w D.w
  dh : Is H D.dh
  z0 : Is z0 (D.z 0)
  z1 : Is z1 (D.z 1)
  z2 : Is z2 (D.z 2)
  z3 : Is z3 (D.z 3)
  z4 : Is z4 (D.z 4)
  z5 : Is z5 (D.z 5)
  z6 : Is z6 (D.z 6)
  z7 : Is z7 (D.z 7)

end

theorem res_dx (m : (ℓ : Loc nD τ Reference7Ideal.sig) → Buf (Elt Ideal) ℓ) (c : Dev nD) : Value.res_main_v81 m c = dxR (m ((c.tc : Thread nD τ).loc main_arg0))
    (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := rfl

section
variable {D : Cert.Mixb.In} {X : FVec Ideal S4096x1024 .f32} {g : FVec Ideal S1x1024 .f32} {w : FVec Ideal S4112x1024 .bf16} {H : FVec Ideal S4096x1024 .f32}
  {z0 : FVec Ideal S4096x512 .f32} {z1 : FVec Ideal S4096x256 .f32} {z2 : FVec Ideal S4096x256 .f32} {z3 : FVec Ideal S4096x512 .f32} {z4 : FVec Ideal S4096x512 .f32} {z5 : FVec Ideal S4096x16 .f32} {z6 : FVec Ideal S4096x1024 .f32} {z7 : FVec Ideal S4096x1024 .f32}

theorem dn_at (h : ArgsAt X g w H z0 z1 z2 z3 z4 z5 z6 z7 D) : Is (dnR w z0 z1 z2 z3 z4 z5 z6 z7) D.dn := fun s d => by
  pointwise [dnR]
  rw [D.piece 7 3088 (h.z7 s) fun i => h.w ⟨3088 + i, by omega⟩ d,
    D.piece 6 2064 (h.z6 s) fun i => h.w ⟨2064 + i, by omega⟩ d,
    D.piece 5 2048 (h.z5 s) fun i => h.w ⟨2048 + i, by omega⟩ d,
    D.piece 4 1536 (h.z4 s) fun i => h.w ⟨1536 + i, by omega⟩ d,
    D.piece 3 1024 (h.z3 s) fun i => h.w ⟨1024 + i, by omega⟩ d,
    D.piece 2 768 (h.z2 s) fun i => h.w ⟨768 + i, by omega⟩ d,
    D.piece 1 512 (h.z1 s) fun i => h.w ⟨512 + i, by omega⟩ d,
    D.piece 0 0 (h.z0 s) fun i => (h.w ⟨i, by omega⟩ d).trans (by rw [zero_add])]
  exact D.dn_rev s d

theorem dg_at (h : ArgsAt X g w H z0 z1 z2 z3 z4 z5 z6 z7 D) : Is (dgR X w z0 z1 z2 z3 z4 z5 z6 z7) fun _ => D.dg := fun r d => by
  pointwise [dgR]
  exact fsum _ (fun s => D.dn s d * D.top.xh s d) fun s => by rw [xhat_at (D := D.top) h.x, dn_at h, mul_comm]

theorem dhat_at (h : ArgsAt X g w H z0 z1 z2 z3 z4 z5 z6 z7 D) : Is (dhatR g w z0 z1 z2 z3 z4 z5 z6 z7) fun s d => D.dn s d * D.g d := fun s d => by
  pointwise [dhatR]
  rw [dn_at h, h.g]

theorem share_at (h : ArgsAt X g w H z0 z1 z2 z3 z4 z5 z6 z7 D) (s : Fin 4096) : share X g w z0 z1 z2 z3 z4 z5 z6 z7 (ix2 s (0 : Fin 1))
    = Ideal.div ((∑ k ∈ range 1024, D.x s k * (D.dn s k * D.g k)) * (Ideal.ofBits .f32 0xBF000000#32 * Ideal.div (D.top.r s) (D.top.ms s))) (Ideal.ofBits .f32 0x44800000#32) := by
  pointwise [share]
  rw [fsum _ (fun k => D.x s k * (D.dn s k * D.g k)) fun k => by rw [h.x, dhat_at h], slope_at (D := D.top) h.x]

theorem shares_at (s : Fin 4096) (d : Fin 1024) : shares X g w z0 z1 z2 z3 z4 z5 z6 z7 (ix2 s d) = share X g w z0 z1 z2 z3 z4 z5 z6 z7 (ix2 s (0 : Fin 1)) := by
  pointwise [shares]
  exact Fin.sum_univ_one _

theorem dx_at (h : ArgsAt X g w H z0 z1 z2 z3 z4 z5 z6 z7 D) : Is (dxR X g w H z0 z1 z2 z3 z4 z5 z6 z7) D.dx := fun s d => by
  pointwise [dxR]
  rw [shares_at, share_at h, dhat_at h, root_at (D := D.top) h.x, h.x, h.dh]
  exact D.dx_eq s d d.isLt

end

end Cert.Reference7Ideal.Mixb
-- ==== Proof.MixbClaim.lean ====
module

public import proofs.«01_k».proof.Defs
public import proofs.«01_k».proof.Proof.Mixb
public import proofs.«01_k».proof.Proof.MixbRef
public import proofs.«01_k».proof.Proof.BwdClaim
public import proofs.«01_k».proof.Proof.Gen.Kernel7

/-! The claims on the backward pass through the normed projection before the mixers. -/

@[expose] public section

set_option maxHeartbeats 0
set_option maxRecDepth 65536

noncomputable section

namespace Cert.Proof

open Idealize.ShloMosaic Idealize.ShloMosaic.TcCoe Idealize.ShloMosaic.Tactic Idealize.SL.Sem

section
variable [Cert.Kernel7.Facts] [Cert.Kernel7Ideal.Facts]

theorem bodies_eq7 : Cert.Kernel7.defs₀ (F := Bits) = Cert.Kernel7Ideal.defs₀ (F := Bits) := by
  unfold Cert.Kernel7.defs₀ Cert.Kernel7Ideal.defs₀
  refine congrArg Defs.onTc (funext fun ℓ => funext fun a => ?_)
  match ℓ, a with
  | 0, (t, s) => rfl

theorem tables_eq7 : Cert.Kernel7.defs (F := Bits) = Cert.Kernel7Ideal.defs (F := Bits) := by
  unfold Cert.Kernel7.defs Cert.Kernel7Ideal.defs
  exact congrArg (Pipeline.defs _) bodies_eq7

end

theorem frame_kernel7 : Cert.quiescent_Kernel7 := fun m ρ _ => by
  rw [tables_eq7]
  exact (θ_run Cert.Kernel7Ideal.defs _ _).mono (fun _ h => h) (Cert.Kernel7Ideal.Gen.frame (F := Bits) m ρ)

theorem frame_ideal7 : Cert.quiescent_Kernel7Ideal := fun m ρ _ => Cert.Kernel7Ideal.Gen.frame (F := Ideal) m ρ

theorem frame_reference7 : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- The inputs the arguments hold. -/
def in7 (m : (ℓ : Loc Cert.Kernel7Ideal.nD Cert.Kernel7Ideal.τ Cert.Kernel7Ideal.sig) → Buf (Elt Ideal) ℓ) (c : Dev Cert.Kernel7Ideal.nD) : Cert.Mixb.In where
  x := Cert.Ffn.mat (a := 4096) (b := 1024) (φ := .f32) (m ((c.tc : Thread Cert.Kernel7Ideal.nD Cert.Kernel7Ideal.τ).loc Cert.Kernel7Ideal.main_arg0))
  g := Cert.Ffn.mat (a := 1) (b := 1024) (φ := .f32) (m ((c.tc : Thread Cert.Kernel7Ideal.nD Cert.Kernel7Ideal.τ).loc Cert.Kernel7Ideal.main_arg1)) 0
  w := Cert.Ffn.mat (a := 4112) (b := 1024) (φ := .bf16) (m ((c.tc : Thread Cert.Kernel7Ideal.nD Cert.Kernel7Ideal.τ).loc Cert.Kernel7Ideal.main_arg2))
  dh := Cert.Ffn.mat (a := 4096) (b := 1024) (φ := .f32) (m ((c.tc : Thread Cert.Kernel7Ideal.nD Cert.Kernel7Ideal.τ).loc Cert.Kernel7Ideal.main_arg3))
  z
    | 0 => Cert.Ffn.mat (a := 4096) (b := 512) (φ := .f32) (m ((c.tc : Thread Cert.Kernel7Ideal.nD Cert.Kernel7Ideal.τ).loc Cert.Kernel7Ideal.main_arg4))
    | 1 => Cert.Ffn.mat (a := 4096) (b := 256) (φ := .f32) (m ((c.tc : Thread Cert.Kernel7Ideal.nD Cert.Kernel7Ideal.τ).loc Cert.Kernel7Ideal.main_arg5))
    | 2 => Cert.Ffn.mat (a := 4096) (b := 256) (φ := .f32) (m ((c.tc : Thread Cert.Kernel7Ideal.nD Cert.Kernel7Ideal.τ).loc Cert.Kernel7Ideal.main_arg6))
    | 3 => Cert.Ffn.mat (a := 4096) (b := 512) (φ := .f32) (m ((c.tc : Thread Cert.Kernel7Ideal.nD Cert.Kernel7Ideal.τ).loc Cert.Kernel7Ideal.main_arg7))
    | 4 => Cert.Ffn.mat (a := 4096) (b := 512) (φ := .f32) (m ((c.tc : Thread Cert.Kernel7Ideal.nD Cert.Kernel7Ideal.τ).loc Cert.Kernel7Ideal.main_arg8))
    | 5 => Cert.Ffn.mat (a := 4096) (b := 16) (φ := .f32) (m ((c.tc : Thread Cert.Kernel7Ideal.nD Cert.Kernel7Ideal.τ).loc Cert.Kernel7Ideal.main_arg9))
    | 6 => Cert.Ffn.mat (a := 4096) (b := 1024) (φ := .f32) (m ((c.tc : Thread Cert.Kernel7Ideal.nD Cert.Kernel7Ideal.τ).loc Cert.Kernel7Ideal.main_arg10))
    | 7 => Cert.Ffn.mat (a := 4096) (b := 1024) (φ := .f32) (m ((c.tc : Thread Cert.Kernel7Ideal.nD Cert.Kernel7Ideal.τ).loc Cert.Kernel7Ideal.main_arg11))
    | _ => 0

theorem args7 (m : (ℓ : Loc Cert.Kernel7Ideal.nD Cert.Kernel7Ideal.τ Cert.Kernel7Ideal.sig) → Buf (Elt Ideal) ℓ) (c : Dev Cert.Kernel7Ideal.nD) : Cert.Kernel7Ideal.Mixb.ArgsAt m (in7 m c) c :=
  ⟨Cert.Ffn.is_mat _, Cert.Ffn.is_row _, Cert.Ffn.is_mat _, Cert.Ffn.is_mat _, Cert.Ffn.is_mat _, Cert.Ffn.is_mat _, Cert.Ffn.is_mat _, Cert.Ffn.is_mat _, Cert.Ffn.is_mat _, Cert.Ffn.is_mat _, Cert.Ffn.is_mat _, Cert.Ffn.is_mat _⟩

theorem algebraic7 : Cert.algebraic_Kernel7Ideal_Reference7Ideal := fun m g m' g' _ hin =>
  ⟨fun c => fun i : Cert.Kernel7Ideal.S4096x1024.Idx => (in7 m c).dx (i 0) (i 1),
   fun c => fun i : Cert.Kernel7Ideal.S1x1024.Idx => (in7 m c).dg (i 1),
   (θ_run Cert.Kernel7Ideal.defs _ _).mono (fun _ h c =>
      have A := args7 m c
      ⟨(h c).1.trans (Cert.Kernel7Ideal.Mixb.arr_dx m A), (h c).2.1.trans (Cert.Kernel7Ideal.Mixb.arr_dg m A), (h c).2.2⟩)
     (Cert.Kernel7Ideal.Value.run_blocks (F := Ideal) m g),
   (θ_run Cert.Reference7Ideal.defs _ _).mono (fun _ h c =>
      have A := args7 m c
      have h0 : Cert.KernelIdeal.Gla.Is (a := 4096) (b := 1024) (φ := .f32) (m' ((c.tc : Thread Cert.Reference7Ideal.nD Cert.Reference7Ideal.τ).loc Cert.Reference7Ideal.main_arg0)) (in7 m c).x := by
        rw [(hin c).1]; exact A.x
      have h1 : Cert.KernelIdeal.Gla.Is (a := 1) (b := 1024) (φ := .f32) (m' ((c.tc : Thread Cert.Reference7Ideal.nD Cert.Reference7Ideal.τ).loc Cert.Reference7Ideal.main_arg1)) (fun _ => (in7 m c).g) := by
        rw [(hin c).2.1]; exact A.g
      have h2 : Cert.KernelIdeal.Gla.Is (a := 4112) (b := 1024) (φ := .bf16) (m' ((c.tc : Thread Cert.Reference7Ideal.nD Cert.Reference7Ideal.τ).loc Cert.Reference7Ideal.main_arg2)) (in7 m c).w := by
        rw [(hin c).2.2.1]; exact A.w
      have h3 : Cert.KernelIdeal.Gla.Is (a := 4096) (b := 1024) (φ := .f32) (m' ((c.tc : Thread Cert.Reference7Ideal.nD Cert.Reference7Ideal.τ).loc Cert.Reference7Ideal.main_arg3)) (in7 m c).dh := by
        rw [(hin c).2.2.2.1]; exact A.dh
      have h4 : Cert.KernelIdeal.Gla.Is (a := 4096) (b := 512) (φ := .f32) (m' ((c.tc : Thread Cert.Reference7Ideal.nD Cert.Reference7Ideal.τ).loc Cert.Reference7Ideal.main_arg4)) ((in7 m c).z 0) := by
        rw [(hin c).2.2.2.2.1]; exact A.z0
      have h5 : Cert.KernelIdeal.Gla.Is (a := 4096) (b := 256) (φ := .f32) (m' ((c.tc : Thread Cert.Reference7Ideal.nD Cert.Reference7Ideal.τ).loc Cert.Reference7Ideal.main_arg5)) ((in7 m c).z 1) := by
        rw [(hin c).2.2.2.2.2.1]; exact A.z1
      have h6 : Cert.KernelIdeal.Gla.Is (a := 4096) (b := 256) (φ := .f32) (m' ((c.tc : Thread Cert.Reference7Ideal.nD Cert.Reference7Ideal.τ).loc Cert.Reference7Ideal.main_arg6)) ((in7 m c).z 2) := by
        rw [(hin c).2.2.2.2.2.2.1]; exact A.z2
      have h7 : Cert.KernelIdeal.Gla.Is (a := 4096) (b := 512) (φ := .f32) (m' ((c.tc : Thread Cert.Reference7Ideal.nD Cert.Reference7Ideal.τ).loc Cert.Reference7Ideal.main_arg7)) ((in7 m c).z 3) := by
        rw [(hin c).2.2.2.2.2.2.2.1]; exact A.z3
      have h8 : Cert.KernelIdeal.Gla.Is (a := 4096) (b := 512) (φ := .f32) (m' ((c.tc : Thread Cert.Reference7Ideal.nD Cert.Reference7Ideal.τ).loc Cert.Reference7Ideal.main_arg8)) ((in7 m c).z 4) := by
        rw [(hin c).2.2.2.2.2.2.2.2.1]; exact A.z4
      have h9 : Cert.KernelIdeal.Gla.Is (a := 4096) (b := 16) (φ := .f32) (m' ((c.tc : Thread Cert.Reference7Ideal.nD Cert.Reference7Ideal.τ).loc Cert.Reference7Ideal.main_arg9)) ((in7 m c).z 5) := by
        rw [(hin c).2.2.2.2.2.2.2.2.2.1]; exact A.z5
      have h10 : Cert.KernelIdeal.Gla.Is (a := 4096) (b := 1024) (φ := .f32) (m' ((c.tc : Thread Cert.Reference7Ideal.nD Cert.Reference7Ideal.τ).loc Cert.Reference7Ideal.main_arg10)) ((in7 m c).z 6) := by
        rw [(hin c).2.2.2.2.2.2.2.2.2.2.1]; exact A.z6
      have h11 : Cert.KernelIdeal.Gla.Is (a := 4096) (b := 1024) (φ := .f32) (m' ((c.tc : Thread Cert.Reference7Ideal.nD Cert.Reference7Ideal.τ).loc Cert.Reference7Ideal.main_arg11)) ((in7 m c).z 7) := by
        rw [(hin c).2.2.2.2.2.2.2.2.2.2.2]; exact A.z7
      have B : Cert.Reference7Ideal.Mixb.ArgsAt (m' ((c.tc : Thread Cert.Reference7Ideal.nD Cert.Reference7Ideal.τ).loc Cert.Reference7Ideal.main_arg0))
          (m' ((c.tc : Thread Cert.Reference7Ideal.nD Cert.Reference7Ideal.τ).loc Cert.Reference7Ideal.main_arg1))
          (m' ((c.tc : Thread Cert.Reference7Ideal.nD Cert.Reference7Ideal.τ).loc Cert.Reference7Ideal.main_arg2))
          (m' ((c.tc : Thread Cert.Reference7Ideal.nD Cert.Reference7Ideal.τ).loc Cert.Reference7Ideal.main_arg3))
          (m' ((c.tc : Thread Cert.Reference7Ideal.nD Cert.Reference7Ideal.τ).loc Cert.Reference7Ideal.main_arg4))
          (m' ((c.tc : Thread Cert.Reference7Ideal.nD Cert.Reference7Ideal.τ).loc Cert.Reference7Ideal.main_arg5))
          (m' ((c.tc : Thread Cert.Reference7Ideal.nD Cert.Reference7Ideal.τ).loc Cert.Reference7Ideal.main_arg6))
          (m' ((c.tc : Thread Cert.Reference7Ideal.nD Cert.Reference7Ideal.τ).loc Cert.Reference7Ideal.main_arg7))
          (m' ((c.tc : Thread Cert.Reference7Ideal.nD Cert.Reference7Ideal.τ).loc Cert.Reference7Ideal.main_arg8))
          (m' ((c.tc : Thread Cert.Reference7Ideal.nD Cert.Reference7Ideal.τ).loc Cert.Reference7Ideal.main_arg9))
          (m' ((c.tc : Thread Cert.Reference7Ideal.nD Cert.Reference7Ideal.τ).loc Cert.Reference7Ideal.main_arg10))
          (m' ((c.tc : Thread Cert.Reference7Ideal.nD Cert.Reference7Ideal.τ).loc Cert.Reference7Ideal.main_arg11)) (in7 m c) :=
        ⟨h0, h1, h2, h3, h4, h5, h6, h7, h8, h9, h10, h11⟩
      ⟨(h c).1.trans ((Cert.Reference7Ideal.Mixb.res_dx m' c).trans (mat_fun (Cert.Reference7Ideal.Mixb.dx_at B))),
       (h c).2.1.trans (row_fun (Cert.Reference7Ideal.Mixb.dg_at B)), (h c).2.2⟩)
     (Cert.Reference7Ideal.Value.run (F := Ideal) m' g')⟩

end Cert.Proof

end
-- ==== Proof.DwOut.lean ====
module

public import proofs.«01_k».proof.Proof.ChunkAt
public import proofs.«01_k».proof.Proof.Gen.Kernel8Ideal.Value
public import proofs.«01_k».proof.Proof.Gen.Reference8Ideal.Run
public import Idealize.ShloMosaic.Lib.Pointwise
public import Idealize.ShloMosaic.Lib.Pipeline.ValueKit
public import Idealize.ShloMosaic.Lib.Pipeline.ReadBack

/-! The weight gradient of the projection after the mixers: a block is eight partial products added one after the other. -/

@[expose] public section

set_option maxRecDepth 16384
set_option maxHeartbeats 0

noncomputable section

namespace Cert.Kernel8Ideal.DwOut

open Cert.Kernel8Ideal Cert.Kernel8Ideal.Gen Cert.KernelIdeal.Gla
open Idealize.ShloMosaic Idealize.ShloMosaic.TcCoe Idealize.ShloMosaic.Tactic
open Idealize.ShloMosaic.Pipeline (Dat Cfg Window)
open Finset (range)

theorem inb0 (k : Fin 8) : ∀ a, (![512 * k.val, 0] : Fin 2 → ℕ) a + (![512, 256] : Fin 2 → ℕ) a ≤ S4096x256.size a := by
  revert k; decide +kernel

theorem inb1 (k : Fin 8) : ∀ a, (![512 * k.val, 0] : Fin 2 → ℕ) a + (![512, 1024] : Fin 2 → ℕ) a ≤ S4096x1024.size a := by
  revert k; decide +kernel

/-- One of the eight steps: 512 tokens' products join the sum. -/
def step (x0 : Vec Ideal S4096x256 .bf16) (x1 : Vec Ideal S4096x1024 .bf16) (k : Fin 8) (acc : Vec Ideal S256x1024 .f32) : FVec Ideal S256x1024 .f32 :=
  k0_pay4 (View.ld x0 (Rect.unit (s := S4096x256) ![512 * k.val, 0] ![512, 256] (inb0 k))) acc
    (View.ld x1 (Rect.unit (s := S4096x1024) ![512 * k.val, 0] ![512, 1024] (inb1 k)))

/-- The block of one grid point. -/
def blk (x0 : Vec Ideal S4096x256 .bf16) (x1 : Vec Ideal S4096x1024 .bf16) : FVec Ideal S256x1024 .bf16 :=
  k0_pay2 (step x0 x1 7 (step x0 x1 6 (step x0 x1 5 (step x0 x1 4 (step x0 x1 3 (step x0 x1 2 (step x0 x1 1 (step x0 x1 0 (k0_pay3 (F := Ideal))))))))))

theorem out_eq (c : Dev nD) (i : grid0.Coords) (arg1 : Memref sig .tc .vmem S4096x256 .bf16) (harg1 : arg1.IsWhole) (arg2 : Memref sig .tc .vmem S4096x1024 .bf16) (harg2 : arg2.IsWhole)
    (arg3 : Memref sig .tc .vmem S256x1024 .bf16) (harg3 : arg3.IsWhole) (arg4 : Memref sig .tc .vmem S256x1024 .f32) (harg4 : arg4.IsWhole)
    (x0 : Vec Ideal S4096x256 .bf16) (x1 : Vec Ideal S4096x1024 .bf16) :
    out0_A_2 (F := Ideal) c i arg1 harg1 arg2 harg2 arg3 harg3 arg4 harg4 x0 x1 = blk x0 x1 := by
  frame_out
  try simp (disch := decide) only [↓ View.readCov_skip, ↓ View.readCov_cons_toLoadRect, ↓ View.readCov_fill]
  rfl

section
variable {x0 : Vec Ideal S4096x256 .bf16} {x1 : Vec Ideal S4096x1024 .bf16} {A B : ℕ → ℕ → EReal}

theorem step_at (h0 : Is (φ := .bf16) x0 A) (h1 : Is (φ := .bf16) x1 B) (k : Fin 8)
    {acc : Vec Ideal S256x1024 .f32} (ha : Is (φ := .f32) acc fun i j => ∑ s ∈ range (512 * k.val), A s i * B s j) :
    Is (step x0 x1 k acc) fun i j => ∑ s ∈ range (512 * (k.val + 1)), A s i * B s j := fun i j => by
  have hk := k.isLt
  pointwise [step, k0_pay4]
  rw [ha, mul_add, mul_one, Finset.sum_range_add]
  congr 1
  exact fsum _ (fun s => A (512 * k.val + s) i * B (512 * k.val + s) j) fun s => by rw [h0, h1]

theorem blk_at (h0 : Is (φ := .bf16) x0 A) (h1 : Is (φ := .bf16) x1 B) :
    Is (blk x0 x1) fun i j => ∑ s ∈ range 4096, A s i * B s j := fun i j => by
  have z : Is (k0_pay3 (F := Ideal)) fun i j => ∑ s ∈ range (512 * 0), A s i * B s j := fun i j => by
    pointwise [k0_pay3]
    simp
  have e : blk x0 x1 (ix2 i j) = step x0 x1 7 (step x0 x1 6 (step x0 x1 5 (step x0 x1 4 (step x0 x1 3 (step x0 x1 2 (step x0 x1 1 (step x0 x1 0 (k0_pay3 (F := Ideal))))))))) (ix2 i j) := by
    pointwise [blk, k0_pay2]
  exact e.trans (step_at h0 h1 7 (step_at h0 h1 6 (step_at h0 h1 5 (step_at h0 h1 4 (step_at h0 h1 3 (step_at h0 h1 2 (step_at h0 h1 1 (step_at h0 h1 0 z))))))) i j)

end

variable (m : (ℓ : Loc nD τ sig) → Buf (Elt Ideal) ℓ)

/-- The merged heads' entry of token `s` and coordinate `i`. -/
def A (c : Dev nD) (s i : ℕ) : EReal :=
  if h : s < 4096 ∧ i < 1024 then (m ((c : Thread nD τ).loc main_arg0) : S4096x1024.Idx → EReal) (ix2 ⟨s, h.1⟩ ⟨i, h.2⟩) else 0

/-- The gradients' entry of token `s` and coordinate `j`. -/
def B (c : Dev nD) (s j : ℕ) : EReal :=
  if h : s < 4096 ∧ j < 1024 then (m ((c : Thread nD τ).loc main_arg1) : S4096x1024.Idx → EReal) (ix2 ⟨s, h.1⟩ ⟨j, h.2⟩) else 0

/-- The weight gradient. -/
def G (c : Dev nD) (i j : ℕ) : EReal := ∑ s ∈ range 4096, A m c s i * B m c s j

theorem win_row : ∀ t : Fin cfg0.N, (cfg0.win 0).index t 0 = 0 ∧ (cfg0.win 0).index t 1 = t.val
    ∧ (cfg0.win 1).index t 0 = 0 ∧ (cfg0.win 1).index t 1 = 0 ∧ (cfg0.win 2).index t 0 = t.val ∧ (cfg0.win 2).index t 1 = 0 := by decide +kernel

theorem in_at (c : Dev nD) (t : Fin cfg0.N) :
    Is (a := 4096) (b := 256) (φ := .bf16) (iblk m c 0 t) (fun s i => A m c s (256 * t.val + i))
    ∧ Is (a := 4096) (b := 1024) (φ := .bf16) (iblk m c 1 t) (B m c) := by
  obtain ⟨a0, a1, b0, b1, -⟩ := win_row t
  have ht : t.val < 4 := t.isLt
  refine ⟨fun s i => ?_, fun s j => ?_⟩
  · have hi := i.isLt
    have e : iblk m c 0 t (ix2 s i) = m ((c : Thread nD τ).loc main_arg0) (ix2 s (⟨256 * t.val + i.val, by omega⟩ : Fin 1024)) := by
      blk_ext [iblk, a0, a1]
    refine e.trans ?_
    dsimp only
    rw [A, dif_pos ⟨s.isLt, by omega⟩]
  · have e : iblk m c 1 t (ix2 s j) = m ((c : Thread nD τ).loc main_arg1) (ix2 s j) := by blk_ext [iblk, b0, b1]
    rw [e, B, dif_pos ⟨s.isLt, j.isLt⟩]

theorem arr (c : Dev nD) : (dats m 0 c).arrAt 2 cfg0.N = fun i : S1024x1024.Idx => G m c (i 0) (i 1) := by
  refine (dats m 0 c).arrAt_eq_of_covers 2 _ (by decide +kernel) fun t hf y => ?_
  obtain ⟨-, -, -, -, g0, g1⟩ := win_row t
  blk_simp [g0, g1]
  rw [after0_2]
  unfold outsAt0
  rw [out_eq]
  refine ((blk_at (A := fun s i => A m c s (256 * t.val + i)) (in_at m c t).1 (in_at m c t).2).idx y).trans ?_
  rw [mul_comm t.val 256]
  rfl

end Cert.Kernel8Ideal.DwOut

namespace Cert.Reference8Ideal.DwOut

open Cert.Reference8Ideal Cert.Reference8Ideal.Gen Cert.KernelIdeal.Gla
open Idealize.ShloMosaic Idealize.ShloMosaic.TcCoe Idealize.ShloMosaic.Tactic
open Finset (range)

/-- The reference's result. -/
def out (X Y : FVec Ideal S4096x1024 .bf16) : FVec Ideal S1024x1024 .bf16 :=
  truncf .bf16 (transpose S1024x1024 [1, 0] (Host.dotGeneral (F := Ideal) (φ₁ := .f32) (φ₂ := .f32) dot_S4096x1024_S4096x1024_S1024x1024_0_0_1_1_n_n none (extf .f32 Y bitsLt_bf16_f32) (extf .f32 X bitsLt_bf16_f32)) transposes_S1024x1024_S1024x1024_1_0) bitsLt_bf16_f32

/-- It is a sum over the tokens. -/
theorem out_at (X Y : FVec Ideal S4096x1024 .bf16) (i j : Fin 1024) : out X Y (ix2 i j) = ∑ s : Fin 4096, Y (ix2 s j) * X (ix2 s i) := by
  pointwise [out]

end Cert.Reference8Ideal.DwOut
-- ==== Proof.DwOutClaim.lean ====
module

public import proofs.«01_k».proof.Defs
public import proofs.«01_k».proof.Proof.DwOut
public import proofs.«01_k».proof.Proof.Gen.Kernel8

/-! The claims on the weight gradient of the projection after the mixers. -/

@[expose] public section

set_option maxHeartbeats 0
set_option maxRecDepth 65536

noncomputable section

namespace Cert.Proof

open Idealize.ShloMosaic Idealize.ShloMosaic.TcCoe Idealize.ShloMosaic.Tactic Idealize.SL.Sem

section
variable [Cert.Kernel8.Facts] [Cert.Kernel8Ideal.Facts]

theorem bodies_eq8 : Cert.Kernel8.defs₀ (F := Bits) = Cert.Kernel8Ideal.defs₀ (F := Bits) := by
  unfold Cert.Kernel8.defs₀ Cert.Kernel8Ideal.defs₀
  refine congrArg Defs.onTc (funext fun ℓ => funext fun a => ?_)
  match ℓ, a with
  | 0, (t, s) => rfl

theorem tables_eq8 : Cert.Kernel8.defs (F := Bits) = Cert.Kernel8Ideal.defs (F := Bits) := by
  unfold Cert.Kernel8.defs Cert.Kernel8Ideal.defs
  exact congrArg (Pipeline.defs _) bodies_eq8

end

theorem frame_kernel8 : Cert.quiescent_Kernel8 := fun m ρ _ => by
  rw [tables_eq8]
  exact (θ_run Cert.Kernel8Ideal.defs _ _).mono (fun _ h => h) (Cert.Kernel8Ideal.Gen.frame (F := Bits) m ρ)

theorem frame_ideal8 : Cert.quiescent_Kernel8Ideal := fun m ρ _ => Cert.Kernel8Ideal.Gen.frame (F := Ideal) m ρ

theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The reference's result is the weight gradient. -/
theorem ref8 (m : (ℓ : Loc Cert.Kernel8Ideal.nD Cert.Kernel8Ideal.τ Cert.Kernel8Ideal.sig) → Buf (Elt Ideal) ℓ) (c : Dev Cert.Kernel8Ideal.nD)
    (X : FVec Ideal Cert.Reference8Ideal.S4096x1024 .bf16) (Y : FVec Ideal Cert.Reference8Ideal.S4096x1024 .bf16)
    (hX : X = m ((c.tc : Thread Cert.Kernel8Ideal.nD Cert.Kernel8Ideal.τ).loc Cert.Kernel8Ideal.main_arg0))
    (hY : Y = m ((c.tc : Thread Cert.Kernel8Ideal.nD Cert.Kernel8Ideal.τ).loc Cert.Kernel8Ideal.main_arg1)) :
    Cert.Reference8Ideal.DwOut.out X Y = fun i : Cert.Kernel8Ideal.S1024x1024.Idx => Cert.Kernel8Ideal.DwOut.G m c (i 0) (i 1) := by
  subst hX hY
  funext i
  rw [eq_ix2 i]
  refine (Cert.Reference8Ideal.DwOut.out_at _ _ _ _).trans ?_
  exact Cert.KernelIdeal.Gla.fsum _ _ fun s => by
    rw [Cert.Kernel8Ideal.DwOut.A, Cert.Kernel8Ideal.DwOut.B, dif_pos ⟨s.isLt, (i 0).isLt⟩, dif_pos ⟨s.isLt, (i 1).isLt⟩]
    exact mul_comm _ _

theorem algebraic8 : Cert.algebraic_Kernel8Ideal_Reference8Ideal := fun m g m' g' _ hin =>
  ⟨fun c => fun i : Cert.Kernel8Ideal.S1024x1024.Idx => Cert.Kernel8Ideal.DwOut.G m c (i 0) (i 1),
   (θ_run Cert.Kernel8Ideal.defs _ _).mono (fun _ h c => ⟨(h c).1.trans (Cert.Kernel8Ideal.DwOut.arr m c), (h c).2⟩)
     (Cert.Kernel8Ideal.Value.run_blocks (F := Ideal) m g),
   (θ_run Cert.Reference8Ideal.defs _ _).mono (fun _ h c => ⟨(h c).1.trans (ref8 m c _ _ (hin c).1 (hin c).2), (h c).2⟩)
     (Cert.Reference8Ideal.Value.run (F := Ideal) m' g')⟩

end Cert.Proof

end
-- ==== Proof.PostSpec.lean ====
module

public import proofs.«01_k».proof.Proof.FfnSpec

/-! What follows the mixers, as a function of the rows and columns: the gated unit of the one, the norm and gate of the other, the merging of both, and the projection. -/

@[expose] public section

set_option maxRecDepth 16384
set_option maxHeartbeats 0

noncomputable section

namespace Cert.Post

open Idealize.ShloMosaic
open Finset (range)

/-- The two mixers' outputs, the second's gate, the merging gates, the rows they join, and the weights. -/
structure In where
  y : ℕ → ℕ → EReal
  o : ℕ → ℕ → EReal
  r : ℕ → ℕ → EReal
  g1 : ℕ → ℕ → EReal
  g2 : ℕ → ℕ → EReal
  h : ℕ → ℕ → EReal
  wg : ℕ → ℕ → EReal
  bg : ℕ → EReal
  gn : ℕ → EReal
  p1 : ℕ → ℕ → EReal
  p2 : ℕ → ℕ → EReal
  wo : ℕ → ℕ → EReal

namespace In

variable (D : In)

/-- The first mixer's output through the Gaussian error unit, and the gate on it. -/
def z (s i : ℕ) : EReal :=
  D.y s i * (Ideal.ofBits .f32 0x3F000000#32 * (1 + Ideal.tanh (Ideal.ofBits .f32 0x3F4C422A#32 * (D.y s i + Ideal.ofBits .f32 0x3D372713#32 * (D.y s i * D.y s i * D.y s i)))))
def ys (s i : ℕ) : EReal := D.z s i * Ideal.logistic (∑ k ∈ range 512, D.z s k * D.wg k i + D.bg i)

/-- One head's reciprocal root mean square, and the second mixer's output normed and gated. -/
def rt (s q : ℕ) : EReal :=
  Ideal.rsqrt (Ideal.div (∑ d ∈ range 128, D.o s (128 * q + d) * D.o s (128 * q + d)) (Ideal.ofBits .f32 0x43000000#32) + Ideal.ofBits .f32 0x358637BD#32)
def yg (s i : ℕ) : EReal := D.o s i * D.rt s (i / 128) * D.gn i * (D.r s i * Ideal.logistic (D.r s i))

/-- The merging, and the projection. -/
def mg (s j : ℕ) : EReal :=
  Ideal.logistic (D.g1 s j) * ∑ i ∈ range 512, D.ys s i * D.p1 j i + Ideal.logistic (D.g2 s j) * ∑ i ∈ range 512, D.yg s i * D.p2 j i
def out (s d : ℕ) : EReal := D.h s d + ∑ j ∈ range 1024, D.mg s j * D.wo j d

/-- The error unit with its factors in another order. -/
theorem z_eq (s i : ℕ) :
    Ideal.ofBits .f32 0x3F000000#32 * D.y s i * (1 + Ideal.tanh (Ideal.ofBits .f32 0x3F4C422A#32 * (D.y s i + Ideal.ofBits .f32 0x3D372713#32 * D.y s i * (D.y s i * D.y s i)))) = D.z s i := by
  unfold z
  rw [show Ideal.ofBits .f32 0x3D372713#32 * D.y s i * (D.y s i * D.y s i) = Ideal.ofBits .f32 0x3D372713#32 * (D.y s i * D.y s i * D.y s i) by ac_rfl, mul_comm _ (D.y s i), mul_assoc]

end In

end Cert.Post
-- ==== Proof.Post.lean ====
module

public import proofs.«01_k».proof.Proof.Stack
public import proofs.«01_k».proof.Proof.PostSpec
public import proofs.«01_k».proof.Proof.Gen.Kernel9Ideal.Value
public import Idealize.ShloMosaic.Lib.Pointwise
public import Idealize.ShloMosaic.Lib.Pipeline.ValueKit
public import Idealize.ShloMosaic.Lib.Pipeline.ReadBack

/-! What follows the mixers: the block of one grid step, its entries, and the array the call leaves. -/

@[expose] public section

set_option maxRecDepth 16384
set_option maxHeartbeats 0

noncomputable section

namespace Cert.Kernel9Ideal.Post

open Cert.Kernel9Ideal Cert.Kernel9Ideal.Gen Cert.KernelIdeal.Gla
open Idealize.ShloMosaic Idealize.ShloMosaic.TcCoe Idealize.ShloMosaic.Tactic
open Idealize.ShloMosaic.Pipeline (Dat Cfg Window)
open Finset (range)

/-- A grid step's inputs: 512 rows, and the weights. -/
structure InAt (D : Cert.Post.In) (n : ℕ) (x0 : Vec Ideal S512x512 .f32) (x1 : Vec Ideal S512x512 .f32) (x2 : Vec Ideal S512x512 .f32) (x3 : Vec Ideal S512x1024 .f32) (x4 : Vec Ideal S512x1024 .f32) (x5 : Vec Ideal S512x1024 .f32) (x6 : Vec Ideal S512x512 .bf16) (x7 : Vec Ideal S1x512 .f32) (x8 : Vec Ideal S1x512 .f32) (x9 : Vec Ideal S1024x512 .bf16) (x10 : Vec Ideal S1024x512 .bf16) (x11 : Vec Ideal S1024x1024 .bf16) : Prop where
  y : Is (φ := .f32) x0 fun r => D.y (n + r)
  o : Is (φ := .f32) x1 fun r => D.o (n + r)
  r : Is (φ := .f32) x2 fun r => D.r (n + r)
  g1 : Is (φ := .f32) x3 fun r => D.g1 (n + r)
  g2 : Is (φ := .f32) x4 fun r => D.g2 (n + r)
  h : Is (φ := .f32) x5 fun r => D.h (n + r)
  wg : Is (φ := .bf16) x6 D.wg
  bg : Is (φ := .f32) x7 fun _ => D.bg
  gn : Is (φ := .f32) x8 fun _ => D.gn
  p1 : Is (φ := .bf16) x9 D.p1
  p2 : Is (φ := .bf16) x10 D.p2
  wo : Is (φ := .bf16) x11 D.wo

section
variable {D : Cert.Post.In} {n : ℕ} {x0 : Vec Ideal S512x512 .f32} {x1 : Vec Ideal S512x512 .f32} {x2 : Vec Ideal S512x512 .f32} {x3 : Vec Ideal S512x1024 .f32} {x4 : Vec Ideal S512x1024 .f32} {x5 : Vec Ideal S512x1024 .f32} {x6 : Vec Ideal S512x512 .bf16} {x7 : Vec Ideal S1x512 .f32} {x8 : Vec Ideal S1x512 .f32} {x9 : Vec Ideal S1024x512 .bf16} {x10 : Vec Ideal S1024x512 .bf16} {x11 : Vec Ideal S1024x1024 .bf16}

theorem ys_at (h : InAt D n x0 x1 x2 x3 x4 x5 x6 x7 x8 x9 x10 x11) : Is (φ := .bf16) (k0_pay5 (k0_pay2 x0 x6 x7)) fun r => D.ys (n + r) := fun r i => by
  pointwise [k0_pay5, k0_pay2]
  rw [fsum _ (fun k => D.z (n + r) k * D.wg k i) fun k => by rw [h.y, D.z_eq, h.wg], h.y, D.z_eq, h.bg]
  rfl

/-- A column of one head, times the head's reciprocal root mean square, the columns counted from any start. -/
theorem head {s i a : ℕ} {f : Fin 128 → ℕ} (ha : a = i) (hf : ∀ x, f x = 128 * (i / 128) + x) :
    D.o s a * Ideal.rsqrt (Ideal.div (∑ x, D.o s (f x) * D.o s (f x)) (Ideal.ofBits .f32 0x43000000#32) + Ideal.ofBits .f32 0x358637BD#32) = D.o s i * D.rt s (i / 128) := by
  rw [ha, Cert.Post.In.rt, Finset.sum_range]
  simp only [hf]

theorem yg_at (h : InAt D n x0 x1 x2 x3 x4 x5 x6 x7 x8 x9 x10 x11) : Is (φ := .bf16) (k0_pay6 x1 x2 x8 (k0_pay3 x1) (k0_pay4 x1)) fun r => D.yg (n + r) := fun r i => by
  pointwise [k0_pay6, k0_pay3, k0_pay4]
  have O : ∀ (a b : Fin 512), x1 (ix2 a b) = D.o (n + a) b := h.o
  rw [h.gn, h.r]
  refine congrArg (fun u => u * D.gn i * (D.r (n + r) i * Ideal.logistic (D.r (n + r) i))) ?_
  simp only [O]
  split_ifs <;> exact head (by omega) fun x => by omega

theorem out_at (h : InAt D n x0 x1 x2 x3 x4 x5 x6 x7 x8 x9 x10 x11) : Is (φ := .f32) (out0_12 x0 x1 x2 x3 x4 x5 x6 x7 x8 x9 x10 x11) fun r => D.out (n + r) := fun r d => by
  have e : out0_12 x0 x1 x2 x3 x4 x5 x6 x7 x8 x9 x10 x11 = k0_pay1 x3 x4 x9 x10 (k0_pay5 (k0_pay2 x0 x6 x7)) (k0_pay6 x1 x2 x8 (k0_pay3 x1) (k0_pay4 x1)) (constant S512x1024 .f32 0x00000000#32) x5 x11 := by
    frame_out
  rw [e]
  have U := ys_at h
  have V := yg_at h
  generalize k0_pay5 (k0_pay2 x0 x6 x7) = u at U ⊢
  generalize k0_pay6 x1 x2 x8 (k0_pay3 x1) (k0_pay4 x1) = v at V ⊢
  pointwise [k0_pay1]
  rw [h.h]
  refine congrArg (D.h (n + r) d + ·) (fsum _ (fun j => D.mg (n + r) j * D.wo j d) fun j => ?_)
  rw [h.g1, h.g2, h.wo, Cert.Post.In.mg]
  congr 3
  · exact fsum _ (fun i => D.ys (n + r) i * D.p1 j i) fun i => by rw [U, h.p1]
  · exact fsum _ (fun i => D.yg (n + r) i * D.p2 j i) fun i => by rw [V, h.p2]

end

variable (m : (ℓ : Loc nD τ sig) → Buf (Elt Ideal) ℓ)

/-- The arguments as the call's inputs. -/
structure ArgsAt (D : Cert.Post.In) (c : Dev nD) : Prop where
  y : Is (a := 4096) (b := 512) (φ := .f32) (m ((c : Thread nD τ).loc main_arg0)) D.y
  o : Is (a := 4096) (b := 512) (φ := .f32) (m ((c : Thread nD τ).loc main_arg1)) D.o
  r : Is (a := 4096) (b := 512) (φ := .f32) (m ((c : Thread nD τ).loc main_arg2)) D.r
  g1 : Is (a := 4096) (b := 1024) (φ := .f32) (m ((c : Thread nD τ).loc main_arg3)) D.g1
  g2 : Is (a := 4096) (b := 1024) (φ := .f32) (m ((c : Thread nD τ).loc main_arg4)) D.g2
  h : Is (a := 4096) (b := 1024) (φ := .f32) (m ((c : Thread nD τ).loc main_arg5)) D.h
  wg : Is (a := 512) (b := 512) (φ := .bf16) (m ((c : Thread nD τ).loc main_arg6)) D.wg
  bg : Is (a := 1) (b := 512) (φ := .f32) (m ((c : Thread nD τ).loc main_arg7)) fun _ => D.bg
  gn : Is (a := 1) (b := 512) (φ := .f32) (m ((c : Thread nD τ).loc main_arg8)) fun _ => D.gn
  p1 : Is (a := 1024) (b := 512) (φ := .bf16) (m ((c : Thread nD τ).loc main_arg9)) D.p1
  p2 : Is (a := 1024) (b := 512) (φ := .bf16) (m ((c : Thread nD τ).loc main_arg10)) D.p2
  wo : Is (a := 1024) (b := 1024) (φ := .bf16) (m ((c : Thread nD τ).loc main_arg11)) D.wo

theorem win_row : ∀ t : Fin cfg0.N, ((cfg0.win 0).index t 0 = t.val ∧ (cfg0.win 0).index t 1 = 0)
    ∧ ((cfg0.win 1).index t 0 = t.val ∧ (cfg0.win 1).index t 1 = 0)
    ∧ ((cfg0.win 2).index t 0 = t.val ∧ (cfg0.win 2).index t 1 = 0)
    ∧ ((cfg0.win 3).index t 0 = t.val ∧ (cfg0.win 3).index t 1 = 0)
    ∧ ((cfg0.win 4).index t 0 = t.val ∧ (cfg0.win 4).index t 1 = 0)
    ∧ ((cfg0.win 5).index t 0 = t.val ∧ (cfg0.win 5).index t 1 = 0)
    ∧ ((cfg0.win 6).index t 0 = 0 ∧ (cfg0.win 6).index t 1 = 0)
    ∧ ((cfg0.win 7).index t 0 = 0 ∧ (cfg0.win 7).index t 1 = 0)
    ∧ ((cfg0.win 8).index t 0 = 0 ∧ (cfg0.win 8).index t 1 = 0)
    ∧ ((cfg0.win 9).index t 0 = 0 ∧ (cfg0.win 9).index t 1 = 0)
    ∧ ((cfg0.win 10).index t 0 = 0 ∧ (cfg0.win 10).index t 1 = 0)
    ∧ ((cfg0.win 11).index t 0 = 0 ∧ (cfg0.win 11).index t 1 = 0)
    ∧ ((cfg0.win 12).index t 0 = t.val ∧ (cfg0.win 12).index t 1 = 0) := by decide +kernel

variable {D : Cert.Post.In} {c : Dev nD}

theorem in_at (h : ArgsAt m D c) (t : Fin cfg0.N) :
    InAt D (512 * t.val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩, ⟨a10, b10⟩, ⟨a11, b11⟩, -⟩ := win_row t
  have ht : t.val < 8 := t.isLt
  refine ⟨fun r κ => ?_, fun r κ => ?_, fun r κ => ?_, fun r κ => ?_, fun r κ => ?_, fun r κ => ?_, fun r κ => ?_, fun r κ => ?_, fun r κ => ?_, fun r κ => ?_, fun r κ => ?_, fun r κ => ?_⟩
  · have e : iblk m c 0 t (ix2 r κ) = m ((c : Thread nD τ).loc main_arg0) (ix2 (⟨512 * t.val + r, by omega⟩ : Fin 4096) κ) := by blk_ext [iblk, a0, b0]
    exact e.trans (h.y _ _)
  · have e : iblk m c 1 t (ix2 r κ) = m ((c : Thread nD τ).loc main_arg1) (ix2 (⟨512 * t.val + r, by omega⟩ : Fin 4096) κ) := by blk_ext [iblk, a1, b1]
    exact e.trans (h.o _ _)
  · have e : iblk m c 2 t (ix2 r κ) = m ((c : Thread nD τ).loc main_arg2) (ix2 (⟨512 * t.val + r, by omega⟩ : Fin 4096) κ) := by blk_ext [iblk, a2, b2]
    exact e.trans (h.r _ _)
  · have e : iblk m c 3 t (ix2 r κ) = m ((c : Thread nD τ).loc main_arg3) (ix2 (⟨512 * t.val + r, by omega⟩ : Fin 4096) κ) := by blk_ext [iblk, a3, b3]
    exact e.trans (h.g1 _ _)
  · have e : iblk m c 4 t (ix2 r κ) = m ((c : Thread nD τ).loc main_arg4) (ix2 (⟨512 * t.val + r, by omega⟩ : Fin 4096) κ) := by blk_ext [iblk, a4, b4]
    exact e.trans (h.g2 _ _)
  · have e : iblk m c 5 t (ix2 r κ) = m ((c : Thread nD τ).loc main_arg5) (ix2 (⟨512 * t.val + r, by omega⟩ : Fin 4096) κ) := by blk_ext [iblk, a5, b5]
    exact e.trans (h.h _ _)
  · have e : iblk m c 6 t (ix2 r κ) = m ((c : Thread nD τ).loc main_arg6) (ix2 r κ) := by blk_ext [iblk, a6, b6]
    exact e.trans (h.wg _ _)
  · have e : iblk m c 7 t (ix2 r κ) = m ((c : Thread nD τ).loc main_arg7) (ix2 r κ) := by blk_ext [iblk, a7, b7]
    exact e.trans (h.bg _ _)
  · have e : iblk m c 8 t (ix2 r κ) = m ((c : Thread nD τ).loc main_arg8) (ix2 r κ) := by blk_ext [iblk, a8, b8]
    exact e.trans (h.gn _ _)
  · have e : iblk m c 9 t (ix2 r κ) = m ((c : Thread nD τ).loc main_arg9) (ix2 r κ) := by blk_ext [iblk, a9, b9]
    exact e.trans (h.p1 _ _)
  · have e : iblk m c 10 t (ix2 r κ) = m ((c : Thread nD τ).loc main_arg10) (ix2 r κ) := by blk_ext [iblk, a10, b10]
    exact e.trans (h.p2 _ _)
  · have e : iblk m c 11 t (ix2 r κ) = m ((c : Thread nD τ).loc main_arg11) (ix2 r κ) := by blk_ext [iblk, a11, b11]
    exact e.trans (h.wo _ _)

theorem arr (h : ArgsAt m D c) : (dats m 0 c).arrAt 12 cfg0.N = fun i : S4096x1024.Idx => D.out (i 0) (i 1) := by
  refine (dats m 0 c).arrAt_eq_of_covers 12 _ (by decide +kernel) fun t hf y => ?_
  obtain ⟨-, -, -, -, -, -, -, -, -, -, -, -, g0, g1⟩ := win_row t
  blk_simp [g0, g1]
  rw [after0_12, mul_comm t.val 512]
  exact (out_at (in_at m h t)).idx y

end Cert.Kernel9Ideal.Post
-- ==== Proof.PostRef.lean ====
module

public import proofs.«01_k».proof.Proof.PostSpec
public import proofs.«01_k».proof.Proof.Stack
public import proofs.«01_k».proof.Proof.Gen.Reference9Ideal.Run
public import Idealize.ShloMosaic.Lib.Pointwise

/-! The reference of what follows the mixers: its result's entries. -/

@[expose] public section

set_option maxRecDepth 16384
set_option maxHeartbeats 0

noncomputable section

namespace Cert.Reference9Ideal.Post

open Cert.Reference9Ideal Cert.Reference9Ideal.Gen Cert.KernelIdeal.Gla
open Idealize.ShloMosaic Idealize.ShloMosaic.TcCoe Idealize.ShloMosaic.Tactic
open Finset (range)

section
variable (Y : FVec Ideal S4096x512 .f32) (O : FVec Ideal S4096x512 .f32) (R : FVec Ideal S4096x512 .f32) (G1 : FVec Ideal S4096x1024 .f32)
  (G2 : FVec Ideal S4096x1024 .f32) (H : FVec Ideal S4096x1024 .f32) (wg : FVec Ideal S512x512 .bf16) (bg : FVec Ideal S1x512 .f32)
  (gn : FVec Ideal S1x512 .f32) (p1 : FVec Ideal S1024x512 .bf16) (p2 : FVec Ideal S1024x512 .bf16) (wo : FVec Ideal S1024x1024 .bf16)

/-- The first mixer's output through the error unit, and its gate. -/
def zR : FVec Ideal S4096x512 .f32 :=
  mulf Y (mulf (broadcastInDim S4096x512 ![] bcast_S_S4096x512 (constant S_ .f32 0x3F000000#32)) (addf (broadcastInDim S4096x512 ![] bcast_S_S4096x512 (constant S_ .f32 0x3F800000#32)) (Host.tanh (mulf (broadcastInDim S4096x512 ![] bcast_S_S4096x512 (constant S_ .f32 0x3F4C422A#32))
    (addf Y (mulf (broadcastInDim S4096x512 ![] bcast_S_S4096x512 (constant S_ .f32 0x3D372713#32)) (mulf (mulf Y Y) Y)))))))

def preR : FVec Ideal S4096x512 .f32 :=
  addf (Host.dotGeneral dot_S4096x512_S512x512_S4096x512_1_0_0_1_n_n none (zR Y) (extf .f32 wg bitsLt_bf16_f32)) (broadcastInDim S4096x512 ![0, 1] bcast_S1x512_S4096x512_0_1 bg)

def sigR (X : FVec Ideal S4096x512 .f32) : FVec Ideal S4096x512 .f32 := Host.divf (broadcastInDim S4096x512 ![] bcast_S_S4096x512 (constant S_ .f32 0x3F800000#32)) (addf (broadcastInDim S4096x512 ![] bcast_S_S4096x512 (constant S_ .f32 0x3F800000#32)) (Host.exp (Host.negf X)))

def sigW (X : FVec Ideal S4096x1024 .f32) : FVec Ideal S4096x1024 .f32 := Host.divf (broadcastInDim S4096x1024 ![] bcast_S_S4096x1024 (constant S_ .f32 0x3F800000#32)) (addf (broadcastInDim S4096x1024 ![] bcast_S_S4096x1024 (constant S_ .f32 0x3F800000#32)) (Host.exp (Host.negf X)))

def ysR : FVec Ideal S4096x512 .f32 := mulf (zR Y) (sigR (preR Y wg bg))

/-- The second mixer's output by heads, each head's reciprocal root mean square, and the normed rows. -/
def heads : FVec Ideal S4096x4x128 .f32 := shapeCast S4096x4x128 O shapeCasts_S4096x512_S4096x4x128

def rtR : FVec Ideal S4096x4x1 .f32 :=
  Host.rsqrt (addf (Host.divf (broadcastInDim S4096x4x1 ![0, 1] bcast_S4096x4_S4096x4x1_0_1 (Host.reduceAdd (mulf (heads O) (heads O)) (constant S_ .f32 0x00000000#32) reducesTo_S4096x4x128_S4096x4_d2 h_S_))
    (broadcastInDim S4096x4x1 ![] bcast_S_S4096x4x1 (constant S_ .f32 0x43000000#32))) (broadcastInDim S4096x4x1 ![] bcast_S_S4096x4x1 (constant S_ .f32 0x358637BD#32)))

def nrmR : FVec Ideal S4096x512 .f32 :=
  shapeCast S4096x512 (mulf (heads O) (broadcastInDim S4096x4x128 ![0, 1, 2] bcast_S4096x4x1_S4096x4x128_0_1_2 (rtR O))) shapeCasts_S4096x4x128_S4096x512

def ygR : FVec Ideal S4096x512 .f32 :=
  mulf (mulf (nrmR O) (broadcastInDim S4096x512 ![0, 1] bcast_S1x512_S4096x512_0_1 gn)) (mulf R (sigR R))

/-- A branch's projection, the merging, and the result. -/
def proj (u : FVec Ideal S4096x512 .f32) (p : FVec Ideal S1024x512 .bf16) : FVec Ideal S4096x1024 .f32 :=
  Host.dotGeneral dot_S4096x512_S512x1024_S4096x1024_1_0_0_1_n_n none u (transpose S512x1024 [1, 0] (extf .f32 p bitsLt_bf16_f32) transposes_S1024x512_S512x1024_1_0)

def mgR : FVec Ideal S4096x1024 .f32 :=
  addf (mulf (sigW G1) (proj (ysR Y wg bg) p1)) (mulf (sigW G2) (proj (ygR O R gn) p2))

def outR : FVec Ideal S4096x1024 .f32 :=
  addf H (Host.dotGeneral dot_S4096x1024_S1024x1024_S4096x1024_1_0_0_1_n_n none (mgR Y O R G1 G2 wg bg gn p1 p2) (extf .f32 wo bitsLt_bf16_f32))

/-- The arguments as the call's inputs. -/
structure ArgsAt (D : Cert.Post.In) : Prop where
  y : Is Y D.y
  o : Is O D.o
  r : Is R D.r
  g1 : Is G1 D.g1
  g2 : Is G2 D.g2
  h : Is H D.h
  wg : Is wg D.wg
  bg : Is bg fun _ => D.bg
  gn : Is gn fun _ => D.gn
  p1 : Is p1 D.p1
  p2 : Is p2 D.p2
  wo : Is wo D.wo

end

section
variable {D : Cert.Post.In} {Y : FVec Ideal S4096x512 .f32} {O : FVec Ideal S4096x512 .f32} {R : FVec Ideal S4096x512 .f32} {G1 : FVec Ideal S4096x1024 .f32}
  {G2 : FVec Ideal S4096x1024 .f32} {H : FVec Ideal S4096x1024 .f32} {wg : FVec Ideal S512x512 .bf16} {bg : FVec Ideal S1x512 .f32}
  {gn : FVec Ideal S1x512 .f32} {p1 : FVec Ideal S1024x512 .bf16} {p2 : FVec Ideal S1024x512 .bf16} {wo : FVec Ideal S1024x1024 .bf16}

theorem sigR_at {X : FVec Ideal S4096x512 .f32} {f : ℕ → ℕ → EReal} (h : Is X f) : Is (sigR X) fun s i => Ideal.logistic (f s i) := fun s i => by
  pointwise [sigR]
  rw [h]
  rfl

theorem sigW_at {X : FVec Ideal S4096x1024 .f32} {f : ℕ → ℕ → EReal} (h : Is X f) : Is (sigW X) fun s i => Ideal.logistic (f s i) := fun s i => by
  pointwise [sigW]
  rw [h]
  rfl

theorem z_at (h : ArgsAt Y O R G1 G2 H wg bg gn p1 p2 wo D) : Is (zR Y) D.z := fun s i => by
  pointwise [zR]
  rw [h.y]
  rfl

theorem pre_at (h : ArgsAt Y O R G1 G2 H wg bg gn p1 p2 wo D) : Is (preR Y wg bg) fun s i => ∑ k ∈ range 512, D.z s k * D.wg k i + D.bg i := fun s i => by
  pointwise [preR]
  rw [fsum _ (fun k => D.z s k * D.wg k i) fun k => by rw [z_at h, h.wg], h.bg]

theorem ys_at (h : ArgsAt Y O R G1 G2 H wg bg gn p1 p2 wo D) : Is (ysR Y wg bg) D.ys := fun s i => by
  pointwise [ysR]
  rw [z_at h, sigR_at (pre_at h)]
  rfl

theorem heads_at (h : ArgsAt Y O R G1 G2 H wg bg gn p1 p2 wo D) (s : Fin 4096) (q : Fin 4) (d : Fin 128) : heads O (ix3 s q d) = D.o s (128 * q + d) := by
  pointwise [heads]
  rw [h.o]
  exact congrArg (D.o s) (by dsimp only; rw [mul_comm])

theorem rt_at (h : ArgsAt Y O R G1 G2 H wg bg gn p1 p2 wo D) (s : Fin 4096) (q : Fin 4) : rtR O (ix3 s q (0 : Fin 1)) = D.rt s q := by
  pointwise [rtR]
  rw [fsum _ (fun d => D.o s (128 * q + d) * D.o s (128 * q + d)) fun d => by rw [heads_at h]]
  rfl

theorem nrm_at (h : ArgsAt Y O R G1 G2 H wg bg gn p1 p2 wo D) : Is (nrmR O) fun s i => D.o s i * D.rt s (i / 128) := fun s i => by
  pointwise [nrmR]
  rw [heads_at h, rt_at h]
  exact congrArg (fun j => D.o s j * D.rt s (i / 128)) (Nat.div_add_mod _ _)

theorem yg_at (h : ArgsAt Y O R G1 G2 H wg bg gn p1 p2 wo D) : Is (ygR O R gn) D.yg := fun s i => by
  pointwise [ygR]
  rw [nrm_at h, sigR_at h.r, h.gn, h.r]
  rfl

theorem proj_at {u : FVec Ideal S4096x512 .f32} {p : FVec Ideal S1024x512 .bf16} {f g : ℕ → ℕ → EReal} (hu : Is u f) (hp : Is p g) :
    Is (proj u p) fun s j => ∑ i ∈ range 512, f s i * g j i := fun s j => by
  pointwise [proj]
  exact fsum _ (fun i => f s i * g j i) fun i => by rw [hu, hp]

theorem mg_at (h : ArgsAt Y O R G1 G2 H wg bg gn p1 p2 wo D) : Is (mgR Y O R G1 G2 wg bg gn p1 p2) D.mg := fun s j => by
  pointwise [mgR]
  rw [sigW_at h.g1, sigW_at h.g2, proj_at (ys_at h) h.p1, proj_at (yg_at h) h.p2]
  rfl

theorem out_at (h : ArgsAt Y O R G1 G2 H wg bg gn p1 p2 wo D) : Is (outR Y O R G1 G2 H wg bg gn p1 p2 wo) D.out := fun s d => by
  pointwise [outR]
  rw [fsum _ (fun j => D.mg s j * D.wo j d) fun j => by rw [mg_at h, h.wo], h.h]
  rfl

end

end Cert.Reference9Ideal.Post
-- ==== Proof.PostClaim.lean ====
module

public import proofs.«01_k».proof.Defs
public import proofs.«01_k».proof.Proof.Post
public import proofs.«01_k».proof.Proof.PostRef
public import proofs.«01_k».proof.Proof.BwdClaim
public import proofs.«01_k».proof.Proof.Gen.Kernel9

/-! The claims on what follows the mixers. -/

@[expose] public section

set_option maxHeartbeats 0
set_option maxRecDepth 65536

noncomputable section

namespace Cert.Proof

open Idealize.ShloMosaic Idealize.ShloMosaic.TcCoe Idealize.ShloMosaic.Tactic Idealize.SL.Sem

section
variable [Cert.Kernel9.Facts] [Cert.Kernel9Ideal.Facts]

theorem bodies_eq9 : Cert.Kernel9.defs₀ (F := Bits) = Cert.Kernel9Ideal.defs₀ (F := Bits) := by
  unfold Cert.Kernel9.defs₀ Cert.Kernel9Ideal.defs₀
  refine congrArg Defs.onTc (funext fun ℓ => funext fun a => ?_)
  match ℓ, a with
  | 0, (t, s) => rfl

theorem tables_eq9 : Cert.Kernel9.defs (F := Bits) = Cert.Kernel9Ideal.defs (F := Bits) := by
  unfold Cert.Kernel9.defs Cert.Kernel9Ideal.defs
  exact congrArg (Pipeline.defs _) bodies_eq9

end

theorem frame_kernel9 : Cert.quiescent_Kernel9 := fun m ρ _ => by
  rw [tables_eq9]
  exact (θ_run Cert.Kernel9Ideal.defs _ _).mono (fun _ h => h) (Cert.Kernel9Ideal.Gen.frame (F := Bits) m ρ)

theorem frame_ideal9 : Cert.quiescent_Kernel9Ideal := fun m ρ _ => Cert.Kernel9Ideal.Gen.frame (F := Ideal) m ρ

theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The inputs the arguments hold. -/
def in9 (m : (ℓ : Loc Cert.Kernel9Ideal.nD Cert.Kernel9Ideal.τ Cert.Kernel9Ideal.sig) → Buf (Elt Ideal) ℓ) (c : Dev Cert.Kernel9Ideal.nD) : Cert.Post.In where
  y := Cert.Ffn.mat (a := 4096) (b := 512) (φ := .f32) (m ((c.tc : Thread Cert.Kernel9Ideal.nD Cert.Kernel9Ideal.τ).loc Cert.Kernel9Ideal.main_arg0))
  o := Cert.Ffn.mat (a := 4096) (b := 512) (φ := .f32) (m ((c.tc : Thread Cert.Kernel9Ideal.nD Cert.Kernel9Ideal.τ).loc Cert.Kernel9Ideal.main_arg1))
  r := Cert.Ffn.mat (a := 4096) (b := 512) (φ := .f32) (m ((c.tc : Thread Cert.Kernel9Ideal.nD Cert.Kernel9Ideal.τ).loc Cert.Kernel9Ideal.main_arg2))
  g1 := Cert.Ffn.mat (a := 4096) (b := 1024) (φ := .f32) (m ((c.tc : Thread Cert.Kernel9Ideal.nD Cert.Kernel9Ideal.τ).loc Cert.Kernel9Ideal.main_arg3))
  g2 := Cert.Ffn.mat (a := 4096) (b := 1024) (φ := .f32) (m ((c.tc : Thread Cert.Kernel9Ideal.nD Cert.Kernel9Ideal.τ).loc Cert.Kernel9Ideal.main_arg4))
  h := Cert.Ffn.mat (a := 4096) (b := 1024) (φ := .f32) (m ((c.tc : Thread Cert.Kernel9Ideal.nD Cert.Kernel9Ideal.τ).loc Cert.Kernel9Ideal.main_arg5))
  wg := Cert.Ffn.mat (a := 512) (b := 512) (φ := .bf16) (m ((c.tc : Thread Cert.Kernel9Ideal.nD Cert.Kernel9Ideal.τ).loc Cert.Kernel9Ideal.main_arg6))
  bg := Cert.Ffn.mat (a := 1) (b := 512) (φ := .f32) (m ((c.tc : Thread Cert.Kernel9Ideal.nD Cert.Kernel9Ideal.τ).loc Cert.Kernel9Ideal.main_arg7)) 0
  gn := Cert.Ffn.mat (a := 1) (b := 512) (φ := .f32) (m ((c.tc : Thread Cert.Kernel9Ideal.nD Cert.Kernel9Ideal.τ).loc Cert.Kernel9Ideal.main_arg8)) 0
  p1 := Cert.Ffn.mat (a := 1024) (b := 512) (φ := .bf16) (m ((c.tc : Thread Cert.Kernel9Ideal.nD Cert.Kernel9Ideal.τ).loc Cert.Kernel9Ideal.main_arg9))
  p2 := Cert.Ffn.mat (a := 1024) (b := 512) (φ := .bf16) (m ((c.tc : Thread Cert.Kernel9Ideal.nD Cert.Kernel9Ideal.τ).loc Cert.Kernel9Ideal.main_arg10))
  wo := Cert.Ffn.mat (a := 1024) (b := 1024) (φ := .bf16) (m ((c.tc : Thread Cert.Kernel9Ideal.nD Cert.Kernel9Ideal.τ).loc Cert.Kernel9Ideal.main_arg11))

theorem args9 (m : (ℓ : Loc Cert.Kernel9Ideal.nD Cert.Kernel9Ideal.τ Cert.Kernel9Ideal.sig) → Buf (Elt Ideal) ℓ) (c : Dev Cert.Kernel9Ideal.nD) : Cert.Kernel9Ideal.Post.ArgsAt m (in9 m c) c :=
  ⟨Cert.Ffn.is_mat _, Cert.Ffn.is_mat _, Cert.Ffn.is_mat _, Cert.Ffn.is_mat _, Cert.Ffn.is_mat _, Cert.Ffn.is_mat _, Cert.Ffn.is_mat _, Cert.Ffn.is_row _, Cert.Ffn.is_row _, Cert.Ffn.is_mat _, Cert.Ffn.is_mat _, Cert.Ffn.is_mat _⟩

theorem algebraic9 : Cert.algebraic_Kernel9Ideal_Reference9Ideal := fun m g m' g' _ hin =>
  ⟨fun c => fun i : Cert.Kernel9Ideal.S4096x1024.Idx => (in9 m c).out (i 0) (i 1),
   (θ_run Cert.Kernel9Ideal.defs _ _).mono (fun _ h c => ⟨(h c).1.trans (Cert.Kernel9Ideal.Post.arr m (args9 m c)), (h c).2⟩)
     (Cert.Kernel9Ideal.Value.run_blocks (F := Ideal) m g),
   (θ_run Cert.Reference9Ideal.defs _ _).mono (fun _ h c =>
      have A := args9 m c
      have h0 : Cert.KernelIdeal.Gla.Is (a := 4096) (b := 512) (φ := .f32) (m' ((c.tc : Thread Cert.Reference9Ideal.nD Cert.Reference9Ideal.τ).loc Cert.Reference9Ideal.main_arg0)) (in9 m c).y := by
        rw [(hin c).1]; exact A.y
      have h1 : Cert.KernelIdeal.Gla.Is (a := 4096) (b := 512) (φ := .f32) (m' ((c.tc : Thread Cert.Reference9Ideal.nD Cert.Reference9Ideal.τ).loc Cert.Reference9Ideal.main_arg1)) (in9 m c).o := by
        rw [(hin c).2.1]; exact A.o
      have h2 : Cert.KernelIdeal.Gla.Is (a := 4096) (b := 512) (φ := .f32) (m' ((c.tc : Thread Cert.Reference9Ideal.nD Cert.Reference9Ideal.τ).loc Cert.Reference9Ideal.main_arg2)) (in9 m c).r := by
        rw [(hin c).2.2.1]; exact A.r
      have h3 : Cert.KernelIdeal.Gla.Is (a := 4096) (b := 1024) (φ := .f32) (m' ((c.tc : Thread Cert.Reference9Ideal.nD Cert.Reference9Ideal.τ).loc Cert.Reference9Ideal.main_arg3)) (in9 m c).g1 := by
        rw [(hin c).2.2.2.1]; exact A.g1
      have h4 : Cert.KernelIdeal.Gla.Is (a := 4096) (b := 1024) (φ := .f32) (m' ((c.tc : Thread Cert.Reference9Ideal.nD Cert.Reference9Ideal.τ).loc Cert.Reference9Ideal.main_arg4)) (in9 m c).g2 := by
        rw [(hin c).2.2.2.2.1]; exact A.g2
      have h5 : Cert.KernelIdeal.Gla.Is (a := 4096) (b := 1024) (φ := .f32) (m' ((c.tc : Thread Cert.Reference9Ideal.nD Cert.Reference9Ideal.τ).loc Cert.Reference9Ideal.main_arg5)) (in9 m c).h := by
        rw [(hin c).2.2.2.2.2.1]; exact A.h
      have h6 : Cert.KernelIdeal.Gla.Is (a := 512) (b := 512) (φ := .bf16) (m' ((c.tc : Thread Cert.Reference9Ideal.nD Cert.Reference9Ideal.τ).loc Cert.Reference9Ideal.main_arg6)) (in9 m c).wg := by
        rw [(hin c).2.2.2.2.2.2.1]; exact A.wg
      have h7 : Cert.KernelIdeal.Gla.Is (a := 1) (b := 512) (φ := .f32) (m' ((c.tc : Thread Cert.Reference9Ideal.nD Cert.Reference9Ideal.τ).loc Cert.Reference9Ideal.main_arg7)) (fun _ => (in9 m c).bg) := by
        rw [(hin c).2.2.2.2.2.2.2.1]; exact A.bg
      have h8 : Cert.KernelIdeal.Gla.Is (a := 1) (b := 512) (φ := .f32) (m' ((c.tc : Thread Cert.Reference9Ideal.nD Cert.Reference9Ideal.τ).loc Cert.Reference9Ideal.main_arg8)) (fun _ => (in9 m c).gn) := by
        rw [(hin c).2.2.2.2.2.2.2.2.1]; exact A.gn
      have h9 : Cert.KernelIdeal.Gla.Is (a := 1024) (b := 512) (φ := .bf16) (m' ((c.tc : Thread Cert.Reference9Ideal.nD Cert.Reference9Ideal.τ).loc Cert.Reference9Ideal.main_arg9)) (in9 m c).p1 := by
        rw [(hin c).2.2.2.2.2.2.2.2.2.1]; exact A.p1
      have h10 : Cert.KernelIdeal.Gla.Is (a := 1024) (b := 512) (φ := .bf16) (m' ((c.tc : Thread Cert.Reference9Ideal.nD Cert.Reference9Ideal.τ).loc Cert.Reference9Ideal.main_arg10)) (in9 m c).p2 := by
        rw [(hin c).2.2.2.2.2.2.2.2.2.2.1]; exact A.p2
      have h11 : Cert.KernelIdeal.Gla.Is (a := 1024) (b := 1024) (φ := .bf16) (m' ((c.tc : Thread Cert.Reference9Ideal.nD Cert.Reference9Ideal.τ).loc Cert.Reference9Ideal.main_arg11)) (in9 m c).wo := by
        rw [(hin c).2.2.2.2.2.2.2.2.2.2.2]; exact A.wo
      have B : Cert.Reference9Ideal.Post.ArgsAt (m' ((c.tc : Thread Cert.Reference9Ideal.nD Cert.Reference9Ideal.τ).loc Cert.Reference9Ideal.main_arg0))
          (m' ((c.tc : Thread Cert.Reference9Ideal.nD Cert.Reference9Ideal.τ).loc Cert.Reference9Ideal.main_arg1))
          (m' ((c.tc : Thread Cert.Reference9Ideal.nD Cert.Reference9Ideal.τ).loc Cert.Reference9Ideal.main_arg2))
          (m' ((c.tc : Thread Cert.Reference9Ideal.nD Cert.Reference9Ideal.τ).loc Cert.Reference9Ideal.main_arg3))
          (m' ((c.tc : Thread Cert.Reference9Ideal.nD Cert.Reference9Ideal.τ).loc Cert.Reference9Ideal.main_arg4))
          (m' ((c.tc : Thread Cert.Reference9Ideal.nD Cert.Reference9Ideal.τ).loc Cert.Reference9Ideal.main_arg5))
          (m' ((c.tc : Thread Cert.Reference9Ideal.nD Cert.Reference9Ideal.τ).loc Cert.Reference9Ideal.main_arg6))
          (m' ((c.tc : Thread Cert.Reference9Ideal.nD Cert.Reference9Ideal.τ).loc Cert.Reference9Ideal.main_arg7))
          (m' ((c.tc : Thread Cert.Reference9Ideal.nD Cert.Reference9Ideal.τ).loc Cert.Reference9Ideal.main_arg8))
          (m' ((c.tc : Thread Cert.Reference9Ideal.nD Cert.Reference9Ideal.τ).loc Cert.Reference9Ideal.main_arg9))
          (m' ((c.tc : Thread Cert.Reference9Ideal.nD Cert.Reference9Ideal.τ).loc Cert.Reference9Ideal.main_arg10))
          (m' ((c.tc : Thread Cert.Reference9Ideal.nD Cert.Reference9Ideal.τ).loc Cert.Reference9Ideal.main_arg11)) (in9 m c) :=
        ⟨h0, h1, h2, h3, h4, h5, h6, h7, h8, h9, h10, h11⟩
      ⟨(h c).1.trans (mat_fun (Cert.Reference9Ideal.Post.out_at B)), (h c).2⟩)
     (Cert.Reference9Ideal.Value.run (F := Ideal) m' g')⟩

end Cert.Proof

end
-- ==== Proof.DwIn.lean ====
module

public import proofs.«01_k».proof.Proof.FfnSpec
public import proofs.«01_k».proof.Proof.ChunkAt
public import proofs.«01_k».proof.Proof.Gen.Kernel10Ideal.Value
public import Idealize.ShloMosaic.Lib.Pointwise
public import Idealize.ShloMosaic.Lib.Pipeline.ValueKit
public import Idealize.ShloMosaic.Lib.Pipeline.ReadBack

/-! The weight gradient of the projection before the mixers: seven arrays' products with one array, one below the other, a block of 256
rows to a grid step. -/

@[expose] public section

set_option maxRecDepth 16384
set_option maxHeartbeats 0

noncomputable section

namespace Cert.DwIn

open Finset (range)

/-- Seven arrays side by side. -/
def z (f : ℕ → ℕ → ℕ → EReal) (s i : ℕ) : EReal :=
    if i < 512 then f 1 s i
    else if i < 768 then f 2 s (i - 512)
    else if i < 1024 then f 3 s (i - 768)
    else if i < 1536 then f 4 s (i - 1024)
    else if i < 2048 then f 5 s (i - 1536)
    else if i < 3072 then f 6 s (i - 2048)
    else f 7 s (i - 3072)

/-- The products with the eighth, one array's below the other's. -/
def dw (f : ℕ → ℕ → ℕ → EReal) (i j : ℕ) : EReal := ∑ s ∈ range 4096, z f s i * f 0 s j

end Cert.DwIn

namespace Cert.Kernel10Ideal.DwIn

open Cert.Kernel10Ideal Cert.Kernel10Ideal.Gen Cert.KernelIdeal.Gla Cert.DwIn
open Idealize.ShloMosaic Idealize.ShloMosaic.TcCoe Idealize.ShloMosaic.Tactic
open Idealize.ShloMosaic.Pipeline (Dat Cfg Window)
open Finset (range)

theorem inb0 (k : Fin 8) : ∀ a, (![512 * k.val, 0] : Fin 2 → ℕ) a + (![512, 256] : Fin 2 → ℕ) a ≤ S4096x256.size a := by
  revert k; decide +kernel

theorem inb1 (k : Fin 8) : ∀ a, (![512 * k.val, 0] : Fin 2 → ℕ) a + (![512, 1024] : Fin 2 → ℕ) a ≤ S4096x1024.size a := by
  revert k; decide +kernel

/-- One of the eight steps: 512 tokens' products join the sum. -/
def step (x0 : Vec Ideal S4096x256 .bf16) (x1 : Vec Ideal S4096x1024 .bf16) (k : Fin 8) (acc : Vec Ideal S256x1024 .f32) : FVec Ideal S256x1024 .f32 :=
  k0_pay14 acc (View.ld x0 (Rect.unit (s := S4096x256) ![512 * k.val, 0] ![512, 256] (inb0 k)))
    (View.ld x1 (Rect.unit (s := S4096x1024) ![512 * k.val, 0] ![512, 1024] (inb1 k)))

/-- The block of one grid point. -/
def blk (x0 : Vec Ideal S4096x256 .bf16) (x1 : Vec Ideal S4096x1024 .bf16) : FVec Ideal S256x1024 .bf16 :=
  k0_pay70 (step x0 x1 7 (step x0 x1 6 (step x0 x1 5 (step x0 x1 4 (step x0 x1 3 (step x0 x1 2 (step x0 x1 1 (step x0 x1 0 (k0_pay13 (F := Ideal))))))))))

section
variable {x0 : Vec Ideal S4096x256 .bf16} {x1 : Vec Ideal S4096x1024 .bf16} {A B : ℕ → ℕ → EReal}

theorem step_at (h0 : Is (φ := .bf16) x0 A) (h1 : Is (φ := .bf16) x1 B) (k : Fin 8)
    {acc : Vec Ideal S256x1024 .f32} (ha : Is (φ := .f32) acc fun i j => ∑ s ∈ range (512 * k.val), A s i * B s j) :
    Is (step x0 x1 k acc) fun i j => ∑ s ∈ range (512 * (k.val + 1)), A s i * B s j := fun i j => by
  have hk := k.isLt
  pointwise [step, k0_pay14]
  rw [ha, mul_add, mul_one, Finset.sum_range_add]
  congr 1
  exact fsum _ (fun s => A (512 * k.val + s) i * B (512 * k.val + s) j) fun s => by rw [h0, h1]

theorem blk_at (h0 : Is (φ := .bf16) x0 A) (h1 : Is (φ := .bf16) x1 B) :
    Is (blk x0 x1) fun i j => ∑ s ∈ range 4096, A s i * B s j := fun i j => by
  have z : Is (k0_pay13 (F := Ideal)) fun i j => ∑ s ∈ range (512 * 0), A s i * B s j := fun i j => by
    pointwise [k0_pay13]
    simp
  have e : blk x0 x1 (ix2 i j) = step x0 x1 7 (step x0 x1 6 (step x0 x1 5 (step x0 x1 4 (step x0 x1 3 (step x0 x1 2 (step x0 x1 1 (step x0 x1 0 (k0_pay13 (F := Ideal))))))))) (ix2 i j) := by
    pointwise [blk, k0_pay70]
  exact e.trans (step_at h0 h1 7 (step_at h0 h1 6 (step_at h0 h1 5 (step_at h0 h1 4 (step_at h0 h1 3 (step_at h0 h1 2 (step_at h0 h1 1 (step_at h0 h1 0 z))))))) i j)

end

variable (m : (ℓ : Loc nD τ sig) → Buf (Elt Ideal) ℓ)

/-- The columns that one grid step takes: each step is inside one of the seven arrays. -/
def col (c : Dev nD) (t : Fin cfg0.N) : Vec Ideal S4096x256 .bf16 :=
    if t.val < 2 then (iblk m c 0 t : S4096x256.Idx → EReal)
    else if t.val < 3 then (iblk m c 1 t : S4096x256.Idx → EReal)
    else if t.val < 4 then (iblk m c 2 t : S4096x256.Idx → EReal)
    else if t.val < 6 then (iblk m c 3 t : S4096x256.Idx → EReal)
    else if t.val < 8 then (iblk m c 4 t : S4096x256.Idx → EReal)
    else if t.val < 12 then (iblk m c 5 t : S4096x256.Idx → EReal)
    else (iblk m c 6 t : S4096x256.Idx → EReal)

theorem outs_eq (c : Dev nD) (t : Fin cfg0.N) : outsAt0 m c t.val t.isLt = blk (col m c t) (iblk m c 7 t) := by
  have ht : t.val < 16 := t.isLt
  unfold col
  split_ifs
  all_goals
    first
    | rw [outsAt0_A m c t (by omega) (by omega) (by omega) (by omega) (by omega) (by omega) (by omega)]
    | rw [outsAt0_B m c t (by omega) (by omega) (by omega) (by omega) (by omega) (by omega) (by omega)]
    | rw [outsAt0_C m c t (by omega) (by omega) (by omega) (by omega) (by omega) (by omega) (by omega)]
    | rw [outsAt0_D m c t (by omega) (by omega) (by omega) (by omega) (by omega) (by omega) (by omega)]
    | rw [outsAt0_E m c t (by omega) (by omega) (by omega) (by omega) (by omega) (by omega) (by omega)]
    | rw [outsAt0_F m c t (by omega) (by omega) (by omega) (by omega) (by omega) (by omega) (by omega)]
    | rw [outsAt0_G m c t (by omega) (by omega) (by omega) (by omega) (by omega) (by omega) (by omega)]
    frame_out
    try simp (disch := decide) only [↓ View.readCov_skip, ↓ View.readCov_cons_toLoadRect, ↓ View.readCov_fill]
    rfl

/-- The arguments' entries. -/
def args (c : Dev nD) : ℕ → ℕ → ℕ → EReal
  | 0 => Cert.Ffn.mat (a := 4096) (b := 1024) (φ := .bf16) (m ((c : Thread nD τ).loc main_arg0))
  | 1 => Cert.Ffn.mat (a := 4096) (b := 512) (φ := .f32) (m ((c : Thread nD τ).loc main_arg1))
  | 2 => Cert.Ffn.mat (a := 4096) (b := 256) (φ := .bf16) (m ((c : Thread nD τ).loc main_arg2))
  | 3 => Cert.Ffn.mat (a := 4096) (b := 256) (φ := .bf16) (m ((c : Thread nD τ).loc main_arg3))
  | 4 => Cert.Ffn.mat (a := 4096) (b := 512) (φ := .bf16) (m ((c : Thread nD τ).loc main_arg4))
  | 5 => Cert.Ffn.mat (a := 4096) (b := 512) (φ := .bf16) (m ((c : Thread nD τ).loc main_arg5))
  | 6 => Cert.Ffn.mat (a := 4096) (b := 1024) (φ := .bf16) (m ((c : Thread nD τ).loc main_arg6))
  | 7 => Cert.Ffn.mat (a := 4096) (b := 1024) (φ := .bf16) (m ((c : Thread nD τ).loc main_arg7))
  | _ => 0

theorem win_row : ∀ t : Fin cfg0.N, ((cfg0.win 0).index t 0 = 0 ∧ (cfg0.win 0).index t 1 = min (t.val - 0) 1)
    ∧ ((cfg0.win 1).index t 0 = 0 ∧ (cfg0.win 1).index t 1 = min (t.val - 2) 0)
    ∧ ((cfg0.win 2).index t 0 = 0 ∧ (cfg0.win 2).index t 1 = min (t.val - 3) 0)
    ∧ ((cfg0.win 3).index t 0 = 0 ∧ (cfg0.win 3).index t 1 = min (t.val - 4) 1)
    ∧ ((cfg0.win 4).index t 0 = 0 ∧ (cfg0.win 4).index t 1 = min (t.val - 6) 1)
    ∧ ((cfg0.win 5).index t 0 = 0 ∧ (cfg0.win 5).index t 1 = min (t.val - 8) 3)
    ∧ ((cfg0.win 6).index t 0 = 0 ∧ (cfg0.win 6).index t 1 = min (t.val - 12) 3)
    ∧ ((cfg0.win 7).index t 0 = 0 ∧ (cfg0.win 7).index t 1 = 0) ∧ ((cfg0.win 8).index t 0 = t.val ∧ (cfg0.win 8).index t 1 = 0) := by decide +kernel

theorem col_at (c : Dev nD) (t : Fin cfg0.N) : Is (φ := .bf16) (col m c t) fun s i => z (args m c) s (256 * t.val + i) := fun s i => by
  obtain ⟨⟨a0, b0⟩, ⟨a1, b1⟩, ⟨a2, b2⟩, ⟨a3, b3⟩, ⟨a4, b4⟩, ⟨a5, b5⟩, ⟨a6, b6⟩, -⟩ := win_row t
  have ht : t.val < 16 := t.isLt
  have hi := i.isLt
  unfold col
  split_ifs
  · have e : iblk m c 0 t (ix2 s i) = m ((c : Thread nD τ).loc main_arg1) (ix2 s (⟨256 * t.val + i.val, by omega⟩ : Fin 512)) := by
      rw [show min (t.val - 0) 1 = t.val by omega] at b0
      blk_ext [iblk, a0, b0]
    refine (e.trans (Cert.Ffn.is_mat (a := 4096) (b := 512) (φ := .f32) _ _ _)).trans ?_
    dsimp only
    rw [z, if_pos (by omega)]
    exact congrArg (args m c 1 s) (by omega)
  · have e : iblk m c 1 t (ix2 s i) = m ((c : Thread nD τ).loc main_arg2) (ix2 s (⟨256 * (t.val - 2) + i.val, by omega⟩ : Fin 256)) := by
      rw [show min (t.val - 2) 0 = (t.val - 2) by omega] at b1
      blk_ext [iblk, a1, b1]
    refine (e.trans (Cert.Ffn.is_mat (a := 4096) (b := 256) (φ := .bf16) _ _ _)).trans ?_
    dsimp only
    rw [z, if_neg (by omega), if_pos (by omega)]
    exact congrArg (args m c 2 s) (by omega)
  · have e : iblk m c 2 t (ix2 s i) = m ((c : Thread nD τ).loc main_arg3) (ix2 s (⟨256 * (t.val - 3) + i.val, by omega⟩ : Fin 256)) := by
      rw [show min (t.val - 3) 0 = (t.val - 3) by omega] at b2
      blk_ext [iblk, a2, b2]
    refine (e.trans (Cert.Ffn.is_mat (a := 4096) (b := 256) (φ := .bf16) _ _ _)).trans ?_
    dsimp only
    rw [z, if_neg (by omega), if_neg (by omega), if_pos (by omega)]
    exact congrArg (args m c 3 s) (by omega)
  · have e : iblk m c 3 t (ix2 s i) = m ((c : Thread nD τ).loc main_arg4) (ix2 s (⟨256 * (t.val - 4) + i.val, by omega⟩ : Fin 512)) := by
      rw [show min (t.val - 4) 1 = (t.val - 4) by omega] at b3
      blk_ext [iblk, a3, b3]
    refine (e.trans (Cert.Ffn.is_mat (a := 4096) (b := 512) (φ := .bf16) _ _ _)).trans ?_
    dsimp only
    rw [z, if_neg (by omega), if_neg (by omega), if_neg (by omega), if_pos (by omega)]
    exact congrArg (args m c 4 s) (by omega)
  · have e : iblk m c 4 t (ix2 s i) = m ((c : Thread nD τ).loc main_arg5) (ix2 s (⟨256 * (t.val - 6) + i.val, by omega⟩ : Fin 512)) := by
      rw [show min (t.val - 6) 1 = (t.val - 6) by omega] at b4
      blk_ext [iblk, a4, b4]
    refine (e.trans (Cert.Ffn.is_mat (a := 4096) (b := 512) (φ := .bf16) _ _ _)).trans ?_
    dsimp only
    rw [z, if_neg (by omega), if_neg (by omega), if_neg (by omega), if_neg (by omega), if_pos (by omega)]
    exact congrArg (args m c 5 s) (by omega)
  · have e : iblk m c 5 t (ix2 s i) = m ((c : Thread nD τ).loc main_arg6) (ix2 s (⟨256 * (t.val - 8) + i.val, by omega⟩ : Fin 1024)) := by
      rw [show min (t.val - 8) 3 = (t.val - 8) by omega] at b5
      blk_ext [iblk, a5, b5]
    refine (e.trans (Cert.Ffn.is_mat (a := 4096) (b := 1024) (φ := .bf16) _ _ _)).trans ?_
    dsimp only
    rw [z, if_neg (by omega), if_neg (by omega), if_neg (by omega), if_neg (by omega), if_neg (by omega), if_pos (by omega)]
    exact congrArg (args m c 6 s) (by omega)
  · have e : iblk m c 6 t (ix2 s i) = m ((c : Thread nD τ).loc main_arg7) (ix2 s (⟨256 * (t.val - 12) + i.val, by omega⟩ : Fin 1024)) := by
      rw [show min (t.val - 12) 3 = (t.val - 12) by omega] at b6
      blk_ext [iblk, a6, b6]
    refine (e.trans (Cert.Ffn.is_mat (a := 4096) (b := 1024) (φ := .bf16) _ _ _)).trans ?_
    dsimp only
    rw [z, if_neg (by omega), if_neg (by omega), if_neg (by omega), if_neg (by omega), if_neg (by omega), if_neg (by omega)]
    exact congrArg (args m c 7 s) (by omega)

theorem in_at (c : Dev nD) (t : Fin cfg0.N) : Is (a := 4096) (b := 1024) (φ := .bf16) (iblk m c 7 t) (args m c 0) := fun s j => by
  obtain ⟨-, -, -, -, -, -, -, ⟨a, b⟩, -⟩ := win_row t
  have e : iblk m c 7 t (ix2 s j) = m ((c : Thread nD τ).loc main_arg0) (ix2 s j) := by blk_ext [iblk, a, b]
  exact e.trans (Cert.Ffn.is_mat (a := 4096) (b := 1024) (φ := .bf16) _ _ _)

theorem arr (c : Dev nD) : (dats m 0 c).arrAt 8 cfg0.N = fun i : S4096x1024.Idx => dw (args m c) (i 0) (i 1) := by
  refine (dats m 0 c).arrAt_eq_of_covers 8 _ (by decide +kernel) fun t hf y => ?_
  obtain ⟨-, -, -, -, -, -, -, -, ⟨g0, g1⟩⟩ := win_row t
  blk_simp [g0, g1]
  rw [after0_8, outs_eq]
  refine ((blk_at (A := fun s i => z (args m c) s (256 * t.val + i)) (col_at m c t) (in_at m c t)).idx y).trans ?_
  rw [mul_comm t.val 256]
  rfl

end Cert.Kernel10Ideal.DwIn
-- ==== Proof.DwInRef.lean ====
module

public import proofs.«01_k».proof.Proof.DwIn
public import proofs.«01_k».proof.Proof.Gen.Reference10Ideal.Run

/-! The reference of the weight gradient of the projection before the mixers: its entries. -/

@[expose] public section

set_option maxRecDepth 16384
set_option maxHeartbeats 0

noncomputable section

namespace Cert.Reference10Ideal.DwIn

open Cert.Reference10Ideal Cert.Reference10Ideal.Gen Cert.KernelIdeal.Gla Cert.DwIn
open Idealize.ShloMosaic Idealize.ShloMosaic.TcCoe Idealize.ShloMosaic.Tactic
open Finset (range)

/-- One weight's gradient, for each of the seven. -/
def p1 (u : FVec Ideal S4096x1024 .bf16) (d1 : FVec Ideal S4096x512 .f32) : FVec Ideal S512x1024 .f32 :=
  transpose S512x1024 [1, 0] (transpose S1024x512 [1, 0] (Host.dotGeneral dot_S4096x512_S4096x1024_S512x1024_0_0_1_1_n_n none d1 (extf .f32 u bitsLt_bf16_f32)) transposes_S512x1024_S1024x512_1_0) transposes_S1024x512_S512x1024_1_0
def p2 (u : FVec Ideal S4096x1024 .bf16) (d2 : FVec Ideal S4096x256 .bf16) : FVec Ideal S256x1024 .f32 :=
  transpose S256x1024 [1, 0] (transpose S1024x256 [1, 0] (Host.dotGeneral dot_S4096x256_S4096x1024_S256x1024_0_0_1_1_n_n none (extf .f32 d2 bitsLt_bf16_f32) (extf .f32 u bitsLt_bf16_f32)) transposes_S256x1024_S1024x256_1_0) transposes_S1024x256_S256x1024_1_0
def p3 (u : FVec Ideal S4096x1024 .bf16) (d3 : FVec Ideal S4096x256 .bf16) : FVec Ideal S256x1024 .f32 :=
  transpose S256x1024 [1, 0] (transpose S1024x256 [1, 0] (Host.dotGeneral dot_S4096x256_S4096x1024_S256x1024_0_0_1_1_n_n none (extf .f32 d3 bitsLt_bf16_f32) (extf .f32 u bitsLt_bf16_f32)) transposes_S256x1024_S1024x256_1_0) transposes_S1024x256_S256x1024_1_0
def p4 (u : FVec Ideal S4096x1024 .bf16) (d4 : FVec Ideal S4096x512 .bf16) : FVec Ideal S512x1024 .f32 :=
  transpose S512x1024 [1, 0] (transpose S1024x512 [1, 0] (Host.dotGeneral dot_S4096x512_S4096x1024_S512x1024_0_0_1_1_n_n none (extf .f32 d4 bitsLt_bf16_f32) (extf .f32 u bitsLt_bf16_f32)) transposes_S512x1024_S1024x512_1_0) transposes_S1024x512_S512x1024_1_0
def p5 (u : FVec Ideal S4096x1024 .bf16) (d5 : FVec Ideal S4096x512 .bf16) : FVec Ideal S512x1024 .f32 :=
  transpose S512x1024 [1, 0] (transpose S1024x512 [1, 0] (Host.dotGeneral dot_S4096x512_S4096x1024_S512x1024_0_0_1_1_n_n none (extf .f32 d5 bitsLt_bf16_f32) (extf .f32 u bitsLt_bf16_f32)) transposes_S512x1024_S1024x512_1_0) transposes_S1024x512_S512x1024_1_0
def p6 (u : FVec Ideal S4096x1024 .bf16) (d6 : FVec Ideal S4096x1024 .bf16) : FVec Ideal S1024x1024 .f32 :=
  transpose S1024x1024 [1, 0] (transpose S1024x1024 [1, 0] (Host.dotGeneral dot_S4096x1024_S4096x1024_S1024x1024_0_0_1_1_n_n none (extf .f32 d6 bitsLt_bf16_f32) (extf .f32 u bitsLt_bf16_f32)) transposes_S1024x1024_S1024x1024_1_0) transposes_S1024x1024_S1024x1024_1_0
def p7 (u : FVec Ideal S4096x1024 .bf16) (d7 : FVec Ideal S4096x1024 .bf16) : FVec Ideal S1024x1024 .f32 :=
  transpose S1024x1024 [1, 0] (transpose S1024x1024 [1, 0] (Host.dotGeneral dot_S4096x1024_S4096x1024_S1024x1024_0_0_1_1_n_n none (extf .f32 d7 bitsLt_bf16_f32) (extf .f32 u bitsLt_bf16_f32)) transposes_S1024x1024_S1024x1024_1_0) transposes_S1024x1024_S1024x1024_1_0

/-- The reference's result. -/
def out (u : FVec Ideal S4096x1024 .bf16) (d1 : FVec Ideal S4096x512 .f32) (d2 : FVec Ideal S4096x256 .bf16) (d3 : FVec Ideal S4096x256 .bf16) (d4 : FVec Ideal S4096x512 .bf16) (d5 : FVec Ideal S4096x512 .bf16) (d6 : FVec Ideal S4096x1024 .bf16) (d7 : FVec Ideal S4096x1024 .bf16) : FVec Ideal S4096x1024 .bf16 :=
  truncf .bf16 ((concatenate S4096x1024 0 [⟨S512x1024, (p1 u d1 : (⟨S512x1024, .f32⟩ : BufTy).Contents (Elt Ideal))⟩,
    ⟨S256x1024, (p2 u d2 : (⟨S256x1024, .f32⟩ : BufTy).Contents (Elt Ideal))⟩,
    ⟨S256x1024, (p3 u d3 : (⟨S256x1024, .f32⟩ : BufTy).Contents (Elt Ideal))⟩,
    ⟨S512x1024, (p4 u d4 : (⟨S512x1024, .f32⟩ : BufTy).Contents (Elt Ideal))⟩,
    ⟨S512x1024, (p5 u d5 : (⟨S512x1024, .f32⟩ : BufTy).Contents (Elt Ideal))⟩,
    ⟨S1024x1024, (p6 u d6 : (⟨S1024x1024, .f32⟩ : BufTy).Contents (Elt Ideal))⟩,
    ⟨S1024x1024, (p7 u d7 : (⟨S1024x1024, .f32⟩ : BufTy).Contents (Elt Ideal))⟩] concatenates_S512x1024_S256x1024_S256x1024_S512x1024_S512x1024_S1024x1024_S1024x1024_S4096x1024_d0 : (⟨S4096x1024, .f32⟩ : BufTy).Contents (Elt Ideal))) bitsLt_bf16_f32

/-- The arguments as the arrays that are multiplied. -/
structure ArgsAt (f : ℕ → ℕ → ℕ → EReal) (u : FVec Ideal S4096x1024 .bf16) (d1 : FVec Ideal S4096x512 .f32) (d2 : FVec Ideal S4096x256 .bf16) (d3 : FVec Ideal S4096x256 .bf16) (d4 : FVec Ideal S4096x512 .bf16) (d5 : FVec Ideal S4096x512 .bf16) (d6 : FVec Ideal S4096x1024 .bf16) (d7 : FVec Ideal S4096x1024 .bf16) : Prop where
  a0 : Is u (f 0)
  a1 : Is d1 (f 1)
  a2 : Is d2 (f 2)
  a3 : Is d3 (f 3)
  a4 : Is d4 (f 4)
  a5 : Is d5 (f 5)
  a6 : Is d6 (f 6)
  a7 : Is d7 (f 7)

/-- A sum over the tokens against one of the seven is a row of the gradient, whose row number counts those before it. -/
theorem piece {f : ℕ → ℕ → ℕ → EReal} {w k i : ℕ} {φ : FTy} {X : FVec Ideal ⟨2, ![4096, w]⟩ φ} {u : FVec Ideal S4096x1024 .bf16} (hX : Is X (f k)) (h0 : Is u (f 0))
    {a : Fin w} {j : Fin 1024} (e : ∀ s, z f s i = f k s a) : (∑ x, X (ix2 x a) * u (ix2 x j)) = dw f i j :=
  fsum _ (fun s => z f s i * f 0 s j) fun s => by rw [hX, h0, e]

theorem out_at {f : ℕ → ℕ → ℕ → EReal} {u : FVec Ideal S4096x1024 .bf16} {d1 : FVec Ideal S4096x512 .f32} {d2 : FVec Ideal S4096x256 .bf16} {d3 : FVec Ideal S4096x256 .bf16} {d4 : FVec Ideal S4096x512 .bf16} {d5 : FVec Ideal S4096x512 .bf16} {d6 : FVec Ideal S4096x1024 .bf16} {d7 : FVec Ideal S4096x1024 .bf16}
    (h : ArgsAt f u d1 d2 d3 d4 d5 d6 d7) : Is (out u d1 d2 d3 d4 d5 d6 d7) (dw f) := fun i j => by
  pointwise [out, p1, p2, p3, p4, p5, p6, p7]
  split_ifs
  all_goals
    first
    | refine piece h.a1 h.a0 fun s => ?_
      rw [z, if_pos (by omega)]
      try exact congrArg (f 1 s) (by dsimp only; try omega)
    | refine piece h.a2 h.a0 fun s => ?_
      rw [z, if_neg (by omega), if_pos (by omega)]
      try exact congrArg (f 2 s) (by dsimp only; try omega)
    | refine piece h.a3 h.a0 fun s => ?_
      rw [z, if_neg (by omega), if_neg (by omega), if_pos (by omega)]
      try exact congrArg (f 3 s) (by dsimp only; try omega)
    | refine piece h.a4 h.a0 fun s => ?_
      rw [z, if_neg (by omega), if_neg (by omega), if_neg (by omega), if_pos (by omega)]
      try exact congrArg (f 4 s) (by dsimp only; try omega)
    | refine piece h.a5 h.a0 fun s => ?_
      rw [z, if_neg (by omega), if_neg (by omega), if_neg (by omega), if_neg (by omega), if_pos (by omega)]
      try exact congrArg (f 5 s) (by dsimp only; try omega)
    | refine piece h.a6 h.a0 fun s => ?_
      rw [z, if_neg (by omega), if_neg (by omega), if_neg (by omega), if_neg (by omega), if_neg (by omega), if_pos (by omega)]
      try exact congrArg (f 6 s) (by dsimp only; try omega)
    | refine piece h.a7 h.a0 fun s => ?_
      rw [z, if_neg (by omega), if_neg (by omega), if_neg (by omega), if_neg (by omega), if_neg (by omega), if_neg (by omega)]
      try exact congrArg (f 7 s) (by dsimp only; try omega)

end Cert.Reference10Ideal.DwIn
-- ==== Proof.DwInClaim.lean ====
module

public import proofs.«01_k».proof.Defs
public import proofs.«01_k».proof.Proof.DwIn
public import proofs.«01_k».proof.Proof.DwInRef
public import proofs.«01_k».proof.Proof.BwdClaim
public import proofs.«01_k».proof.Proof.Gen.Kernel10

/-! The claims on the weight gradient of the projection before the mixers. -/

@[expose] public section

set_option maxHeartbeats 0
set_option maxRecDepth 65536

noncomputable section

namespace Cert.Proof

open Idealize.ShloMosaic Idealize.ShloMosaic.TcCoe Idealize.ShloMosaic.Tactic Idealize.SL.Sem

section
variable [Cert.Kernel10.Facts] [Cert.Kernel10Ideal.Facts]

theorem bodies_eq10 : Cert.Kernel10.defs₀ (F := Bits) = Cert.Kernel10Ideal.defs₀ (F := Bits) := by
  unfold Cert.Kernel10.defs₀ Cert.Kernel10Ideal.defs₀
  refine congrArg Defs.onTc (funext fun ℓ => funext fun a => ?_)
  match ℓ, a with
  | 0, (t, s) => rfl

theorem tables_eq10 : Cert.Kernel10.defs (F := Bits) = Cert.Kernel10Ideal.defs (F := Bits) := by
  unfold Cert.Kernel10.defs Cert.Kernel10Ideal.defs
  exact congrArg (Pipeline.defs _) bodies_eq10

end

theorem frame_kernel10 : Cert.quiescent_Kernel10 := fun m ρ _ => by
  rw [tables_eq10]
  exact (θ_run Cert.Kernel10Ideal.defs _ _).mono (fun _ h => h) (Cert.Kernel10Ideal.Gen.frame (F := Bits) m ρ)

theorem frame_ideal10 : Cert.quiescent_Kernel10Ideal := fun m ρ _ => Cert.Kernel10Ideal.Gen.frame (F := Ideal) m ρ

theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic10 : Cert.algebraic_Kernel10Ideal_Reference10Ideal := fun m g m' g' _ hin =>
  ⟨fun c => fun i : Cert.Kernel10Ideal.S4096x1024.Idx => Cert.DwIn.dw (Cert.Kernel10Ideal.DwIn.args m c) (i 0) (i 1),
   (θ_run Cert.Kernel10Ideal.defs _ _).mono (fun _ h c => ⟨(h c).1.trans (Cert.Kernel10Ideal.DwIn.arr m c), (h c).2⟩)
     (Cert.Kernel10Ideal.Value.run_blocks (F := Ideal) m g),
   (θ_run Cert.Reference10Ideal.defs _ _).mono (fun _ h c =>
      have h0 : Cert.KernelIdeal.Gla.Is (a := 4096) (b := 1024) (φ := .bf16) (m' ((c.tc : Thread Cert.Reference10Ideal.nD Cert.Reference10Ideal.τ).loc Cert.Reference10Ideal.main_arg0)) (Cert.Kernel10Ideal.DwIn.args m c 0) := by
        rw [(hin c).1]; exact Cert.Ffn.is_mat _
      have h1 : Cert.KernelIdeal.Gla.Is (a := 4096) (b := 512) (φ := .f32) (m' ((c.tc : Thread Cert.Reference10Ideal.nD Cert.Reference10Ideal.τ).loc Cert.Reference10Ideal.main_arg1)) (Cert.Kernel10Ideal.DwIn.args m c 1) := by
        rw [(hin c).2.1]; exact Cert.Ffn.is_mat _
      have h2 : Cert.KernelIdeal.Gla.Is (a := 4096) (b := 256) (φ := .bf16) (m' ((c.tc : Thread Cert.Reference10Ideal.nD Cert.Reference10Ideal.τ).loc Cert.Reference10Ideal.main_arg2)) (Cert.Kernel10Ideal.DwIn.args m c 2) := by
        rw [(hin c).2.2.1]; exact Cert.Ffn.is_mat _
      have h3 : Cert.KernelIdeal.Gla.Is (a := 4096) (b := 256) (φ := .bf16) (m' ((c.tc : Thread Cert.Reference10Ideal.nD Cert.Reference10Ideal.τ).loc Cert.Reference10Ideal.main_arg3)) (Cert.Kernel10Ideal.DwIn.args m c 3) := by
        rw [(hin c).2.2.2.1]; exact Cert.Ffn.is_mat _
      have h4 : Cert.KernelIdeal.Gla.Is (a := 4096) (b := 512) (φ := .bf16) (m' ((c.tc : Thread Cert.Reference10Ideal.nD Cert.Reference10Ideal.τ).loc Cert.Reference10Ideal.main_arg4)) (Cert.Kernel10Ideal.DwIn.args m c 4) := by
        rw [(hin c).2.2.2.2.1]; exact Cert.Ffn.is_mat _
      have h5 : Cert.KernelIdeal.Gla.Is (a := 4096) (b := 512) (φ := .bf16) (m' ((c.tc : Thread Cert.Reference10Ideal.nD Cert.Reference10Ideal.τ).loc Cert.Reference10Ideal.main_arg5)) (Cert.Kernel10Ideal.DwIn.args m c 5) := by
        rw [(hin c).2.2.2.2.2.1]; exact Cert.Ffn.is_mat _
      have h6 : Cert.KernelIdeal.Gla.Is (a := 4096) (b := 1024) (φ := .bf16) (m' ((c.tc : Thread Cert.Reference10Ideal.nD Cert.Reference10Ideal.τ).loc Cert.Reference10Ideal.main_arg6)) (Cert.Kernel10Ideal.DwIn.args m c 6) := by
        rw [(hin c).2.2.2.2.2.2.1]; exact Cert.Ffn.is_mat _
      have h7 : Cert.KernelIdeal.Gla.Is (a := 4096) (b := 1024) (φ := .bf16) (m' ((c.tc : Thread Cert.Reference10Ideal.nD Cert.Reference10Ideal.τ).loc Cert.Reference10Ideal.main_arg7)) (Cert.Kernel10Ideal.DwIn.args m c 7) := by
        rw [(hin c).2.2.2.2.2.2.2]; exact Cert.Ffn.is_mat _
      ⟨(h c).1.trans (mat_fun (Cert.Reference10Ideal.DwIn.out_at ⟨h0, h1, h2, h3, h4, h5, h6, h7⟩)), (h c).2⟩)
     (Cert.Reference10Ideal.Value.run (F := Ideal) m' g')⟩

end Cert.Proof

end
-- ==== Proof.DwProj.lean ====
module

public import proofs.«01_k».proof.Proof.FfnSpec
public import proofs.«01_k».proof.Proof.ChunkAt
public import proofs.«01_k».proof.Proof.Gen.Kernel11Ideal.Value
public import proofs.«01_k».proof.Proof.Gen.Reference11Ideal.Run
public import Idealize.ShloMosaic.Lib.Pointwise
public import Idealize.ShloMosaic.Lib.Pipeline.ValueKit
public import Idealize.ShloMosaic.Lib.Pipeline.ReadBack

/-! The weight gradient of one mixer's output projection: a block of 256 rows is eight partial products added one after the other. -/

@[expose] public section

set_option maxRecDepth 16384
set_option maxHeartbeats 0

noncomputable section

namespace Cert.Kernel11Ideal.DwProj

open Cert.Kernel11Ideal Cert.Kernel11Ideal.Gen Cert.KernelIdeal.Gla
open Idealize.ShloMosaic Idealize.ShloMosaic.TcCoe Idealize.ShloMosaic.Tactic
open Idealize.ShloMosaic.Pipeline (Dat Cfg Window)
open Finset (range)

theorem inb0 (k : Fin 8) : ∀ a, (![512 * k.val, 0] : Fin 2 → ℕ) a + (![512, 256] : Fin 2 → ℕ) a ≤ S4096x256.size a := by
  revert k; decide +kernel

theorem inb1 (k : Fin 8) : ∀ a, (![512 * k.val, 0] : Fin 2 → ℕ) a + (![512, 512] : Fin 2 → ℕ) a ≤ S4096x512.size a := by
  revert k; decide +kernel

/-- One of the eight steps: 512 tokens' products join the sum. -/
def step (x0 : Vec Ideal S4096x256 .bf16) (x1 : Vec Ideal S4096x512 .bf16) (k : Fin 8) (acc : Vec Ideal S256x512 .f32) : FVec Ideal S256x512 .f32 :=
  k0_pay4 (View.ld x0 (Rect.unit (s := S4096x256) ![512 * k.val, 0] ![512, 256] (inb0 k))) acc
    (View.ld x1 (Rect.unit (s := S4096x512) ![512 * k.val, 0] ![512, 512] (inb1 k)))

/-- The block of one grid point. -/
def blk (x0 : Vec Ideal S4096x256 .bf16) (x1 : Vec Ideal S4096x512 .bf16) : FVec Ideal S256x512 .bf16 :=
  k0_pay2 (step x0 x1 7 (step x0 x1 6 (step x0 x1 5 (step x0 x1 4 (step x0 x1 3 (step x0 x1 2 (step x0 x1 1 (step x0 x1 0 (k0_pay3 (F := Ideal))))))))))

theorem out_eq (c : Dev nD) (i : grid0.Coords) (arg1 : Memref sig .tc .vmem S4096x256 .bf16) (harg1 : arg1.IsWhole) (arg2 : Memref sig .tc .vmem S4096x512 .bf16) (harg2 : arg2.IsWhole)
    (arg3 : Memref sig .tc .vmem S256x512 .bf16) (harg3 : arg3.IsWhole) (arg4 : Memref sig .tc .vmem S256x512 .f32) (harg4 : arg4.IsWhole)
    (x0 : Vec Ideal S4096x256 .bf16) (x1 : Vec Ideal S4096x512 .bf16) :
    out0_A_2 (F := Ideal) c i arg1 harg1 arg2 harg2 arg3 harg3 arg4 harg4 x0 x1 = blk x0 x1 := by
  frame_out
  try simp (disch := decide) only [↓ View.readCov_skip, ↓ View.readCov_cons_toLoadRect, ↓ View.readCov_fill]
  rfl

section
variable {x0 : Vec Ideal S4096x256 .bf16} {x1 : Vec Ideal S4096x512 .bf16} {A B : ℕ → ℕ → EReal}

theorem step_at (h0 : Is (φ := .bf16) x0 A) (h1 : Is (φ := .bf16) x1 B) (k : Fin 8)
    {acc : Vec Ideal S256x512 .f32} (ha : Is (φ := .f32) acc fun i j => ∑ s ∈ range (512 * k.val), A s i * B s j) :
    Is (step x0 x1 k acc) fun i j => ∑ s ∈ range (512 * (k.val + 1)), A s i * B s j := fun i j => by
  have hk := k.isLt
  pointwise [step, k0_pay4]
  rw [ha, mul_add, mul_one, Finset.sum_range_add]
  congr 1
  exact fsum _ (fun s => A (512 * k.val + s) i * B (512 * k.val + s) j) fun s => by rw [h0, h1]

theorem blk_at (h0 : Is (φ := .bf16) x0 A) (h1 : Is (φ := .bf16) x1 B) :
    Is (blk x0 x1) fun i j => ∑ s ∈ range 4096, A s i * B s j := fun i j => by
  have z : Is (k0_pay3 (F := Ideal)) fun i j => ∑ s ∈ range (512 * 0), A s i * B s j := fun i j => by
    pointwise [k0_pay3]
    simp
  have e : blk x0 x1 (ix2 i j) = step x0 x1 7 (step x0 x1 6 (step x0 x1 5 (step x0 x1 4 (step x0 x1 3 (step x0 x1 2 (step x0 x1 1 (step x0 x1 0 (k0_pay3 (F := Ideal))))))))) (ix2 i j) := by
    pointwise [blk, k0_pay2]
  exact e.trans (step_at h0 h1 7 (step_at h0 h1 6 (step_at h0 h1 5 (step_at h0 h1 4 (step_at h0 h1 3 (step_at h0 h1 2 (step_at h0 h1 1 (step_at h0 h1 0 z))))))) i j)

end

variable (m : (ℓ : Loc nD τ sig) → Buf (Elt Ideal) ℓ)

/-- The two arguments' entries. -/
abbrev A (c : Dev nD) : ℕ → ℕ → EReal := Cert.Ffn.mat (a := 4096) (b := 1024) (φ := .bf16) (m ((c : Thread nD τ).loc main_arg0))
abbrev B (c : Dev nD) : ℕ → ℕ → EReal := Cert.Ffn.mat (a := 4096) (b := 512) (φ := .bf16) (m ((c : Thread nD τ).loc main_arg1))

/-- The weight gradient. -/
def G (c : Dev nD) (i j : ℕ) : EReal := ∑ s ∈ range 4096, A m c s i * B m c s j

theorem win_row : ∀ t : Fin cfg0.N, (cfg0.win 0).index t 0 = 0 ∧ (cfg0.win 0).index t 1 = t.val
    ∧ (cfg0.win 1).index t 0 = 0 ∧ (cfg0.win 1).index t 1 = 0 ∧ (cfg0.win 2).index t 0 = t.val ∧ (cfg0.win 2).index t 1 = 0 := by decide +kernel

theorem in_at (c : Dev nD) (t : Fin cfg0.N) :
    Is (a := 4096) (b := 256) (φ := .bf16) (iblk m c 0 t) (fun s i => A m c s (256 * t.val + i))
    ∧ Is (a := 4096) (b := 512) (φ := .bf16) (iblk m c 1 t) (B m c) := by
  obtain ⟨a0, a1, b0, b1, -⟩ := win_row t
  have ht : t.val < 4 := t.isLt
  refine ⟨fun s i => ?_, fun s j => ?_⟩
  · have e : iblk m c 0 t (ix2 s i) = m ((c : Thread nD τ).loc main_arg0) (ix2 s (⟨256 * t.val + i.val, by omega⟩ : Fin 1024)) := by
      blk_ext [iblk, a0, a1]
    exact e.trans (Cert.Ffn.is_mat (a := 4096) (b := 1024) (φ := .bf16) _ _ _)
  · have e : iblk m c 1 t (ix2 s j) = m ((c : Thread nD τ).loc main_arg1) (ix2 s j) := by blk_ext [iblk, b0, b1]
    exact e.trans (Cert.Ffn.is_mat (a := 4096) (b := 512) (φ := .bf16) _ _ _)

theorem arr (c : Dev nD) : (dats m 0 c).arrAt 2 cfg0.N = fun i : S1024x512.Idx => G m c (i 0) (i 1) := by
  refine (dats m 0 c).arrAt_eq_of_covers 2 _ (by decide +kernel) fun t hf y => ?_
  obtain ⟨-, -, -, -, g0, g1⟩ := win_row t
  blk_simp [g0, g1]
  rw [after0_2]
  unfold outsAt0
  rw [out_eq]
  refine ((blk_at (A := fun s i => A m c s (256 * t.val + i)) (in_at m c t).1 (in_at m c t).2).idx y).trans ?_
  rw [mul_comm t.val 256]
  rfl

end Cert.Kernel11Ideal.DwProj

namespace Cert.Reference11Ideal.DwProj

open Cert.Reference11Ideal Cert.Reference11Ideal.Gen Cert.KernelIdeal.Gla
open Idealize.ShloMosaic Idealize.ShloMosaic.TcCoe Idealize.ShloMosaic.Tactic
open Finset (range)

/-- The reference's result. -/
def out (X : FVec Ideal S4096x1024 .bf16) (Y : FVec Ideal S4096x512 .bf16) : FVec Ideal S1024x512 .bf16 :=
  truncf .bf16 (transpose S1024x512 [1, 0] (transpose S512x1024 [1, 0] (Host.dotGeneral (F := Ideal) (φ₁ := .f32) (φ₂ := .f32) dot_S4096x1024_S4096x512_S1024x512_0_0_1_1_n_n none (extf .f32 X bitsLt_bf16_f32) (extf .f32 Y bitsLt_bf16_f32)) transposes_S1024x512_S512x1024_1_0) transposes_S512x1024_S1024x512_1_0) bitsLt_bf16_f32

/-- It is a sum over the tokens. -/
theorem out_at {X : FVec Ideal S4096x1024 .bf16} {Y : FVec Ideal S4096x512 .bf16} {A B : ℕ → ℕ → EReal} (hX : Is X A) (hY : Is Y B) :
    Is (out X Y) fun i j => ∑ s ∈ range 4096, A s i * B s j := fun i j => by
  pointwise [out]
  exact fsum _ (fun s => A s i * B s j) fun s => by rw [hX, hY]

end Cert.Reference11Ideal.DwProj
-- ==== Proof.DwProjClaim.lean ====
module

public import proofs.«01_k».proof.Defs
public import proofs.«01_k».proof.Proof.DwProj
public import proofs.«01_k».proof.Proof.BwdClaim
public import proofs.«01_k».proof.Proof.Gen.Kernel11

/-! The claims on the weight gradient of the projections of the mixers' outputs. -/

@[expose] public section

set_option maxHeartbeats 0
set_option maxRecDepth 65536

noncomputable section

namespace Cert.Proof

open Idealize.ShloMosaic Idealize.ShloMosaic.TcCoe Idealize.ShloMosaic.Tactic Idealize.SL.Sem

section
variable [Cert.Kernel11.Facts] [Cert.Kernel11Ideal.Facts]

theorem bodies_eq11 : Cert.Kernel11.defs₀ (F := Bits) = Cert.Kernel11Ideal.defs₀ (F := Bits) := by
  unfold Cert.Kernel11.defs₀ Cert.Kernel11Ideal.defs₀
  refine congrArg Defs.onTc (funext fun ℓ => funext fun a => ?_)
  match ℓ, a with
  | 0, (t, s) => rfl

theorem tables_eq11 : Cert.Kernel11.defs (F := Bits) = Cert.Kernel11Ideal.defs (F := Bits) := by
  unfold Cert.Kernel11.defs Cert.Kernel11Ideal.defs
  exact congrArg (Pipeline.defs _) bodies_eq11

end

theorem frame_kernel11 : Cert.quiescent_Kernel11 := fun m ρ _ => by
  rw [tables_eq11]
  exact (θ_run Cert.Kernel11Ideal.defs _ _).mono (fun _ h => h) (Cert.Kernel11Ideal.Gen.frame (F := Bits) m ρ)

theorem frame_ideal11 : Cert.quiescent_Kernel11Ideal := fun m ρ _ => Cert.Kernel11Ideal.Gen.frame (F := Ideal) m ρ

theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem algebraic11 : Cert.algebraic_Kernel11Ideal_Reference11Ideal := fun m g m' g' _ hin =>
  ⟨fun c => fun i : Cert.Kernel11Ideal.S1024x512.Idx => Cert.Kernel11Ideal.DwProj.G m c (i 0) (i 1),
   (θ_run Cert.Kernel11Ideal.defs _ _).mono (fun _ h c => ⟨(h c).1.trans (Cert.Kernel11Ideal.DwProj.arr m c), (h c).2⟩)
     (Cert.Kernel11Ideal.Value.run_blocks (F := Ideal) m g),
   (θ_run Cert.Reference11Ideal.defs _ _).mono (fun _ h c =>
      have h0 : Cert.KernelIdeal.Gla.Is (a := 4096) (b := 1024) (φ := .bf16) (m' ((c.tc : Thread Cert.Reference11Ideal.nD Cert.Reference11Ideal.τ).loc Cert.Reference11Ideal.main_arg0)) (Cert.Kernel11Ideal.DwProj.A m c) := by
        rw [(hin c).1]; exact Cert.Ffn.is_mat _
      have h1 : Cert.KernelIdeal.Gla.Is (a := 4096) (b := 512) (φ := .bf16) (m' ((c.tc : Thread Cert.Reference11Ideal.nD Cert.Reference11Ideal.τ).loc Cert.Reference11Ideal.main_arg1)) (Cert.Kernel11Ideal.DwProj.B m c) := by
        rw [(hin c).2]; exact Cert.Ffn.is_mat _
      ⟨(h c).1.trans (mat_fun (Cert.Reference11Ideal.DwProj.out_at h0 h1)), (h c).2⟩)
     (Cert.Reference11Ideal.Value.run (F := Ideal) m' g')⟩

end Cert.Proof

end
-- ==== Proof.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.ReferenceIdeal
public import proofs.«01_k».proof.Proof.Gen.Kernel
public import proofs.«01_k».proof.Proof.Gen.Kernel4
public import proofs.«01_k».proof.Proof.Gen.Reference7Ideal.Run
public import proofs.«01_k».proof.Proof.Gen.Kernel7
public import proofs.«01_k».proof.Proof.Gen.Kernel7Ideal.Value
public import proofs.«01_k».proof.Proof.Gen.Reference8Ideal.Run
public import proofs.«01_k».proof.Proof.Gen.Reference9Ideal.Run
public import proofs.«01_k».proof.Proof.Gen.Kernel8
public import proofs.«01_k».proof.Proof.Gen.Kernel9
public import proofs.«01_k».proof.Proof.Gen.Kernel8Ideal.Value
public import proofs.«01_k».proof.Proof.Gen.Kernel9Ideal.Value
public import proofs.«01_k».proof.Proof.Gen.Reference10Ideal.Run
public import proofs.«01_k».proof.Proof.Gen.Kernel10
public import proofs.«01_k».proof.Proof.Gen.Kernel10Ideal.Value
public import proofs.«01_k».proof.Proof.Gen.Reference11Ideal.Run
public import proofs.«01_k».proof.Proof.Gen.Kernel11
public import proofs.«01_k».proof.Proof.Gen.Kernel11Ideal.Value
public import proofs.«01_k».proof.Proof.Gen.Reference5Ideal.Run
public import proofs.«01_k».proof.Proof.Gen.Kernel5
public import proofs.«01_k».proof.Proof.Gen.Kernel5Ideal.Value
public import proofs.«01_k».proof.Proof.Gen.Reference6Ideal.Run
public import proofs.«01_k».proof.Proof.Gen.Kernel6
public import proofs.«01_k».proof.Proof.Gen.Kernel6Ideal.Value
public import proofs.«01_k».proof.Proof.Gen.Reference4Ideal.Run
public import proofs.«01_k».proof.Proof.Gen.Kernel4Ideal.Value
public import proofs.«01_k».proof.Proof.Gen.Reference3Ideal.Run
public import proofs.«01_k».proof.Proof.Gen.Kernel3
public import proofs.«01_k».proof.Proof.Gen.Kernel3Ideal.Value
public import proofs.«01_k».proof.Proof.Gen.Reference2Ideal.Run
public import proofs.«01_k».proof.Proof.Gen.Kernel2
public import proofs.«01_k».proof.Proof.Gen.Kernel2Ideal.Value
public import proofs.«01_k».proof.Proof.Frames
public import proofs.«01_k».proof.Proof.Value
public import proofs.«01_k».proof.Proof.DwClaim
public import proofs.«01_k».proof.Proof.FfnClaim
public import proofs.«01_k».proof.Proof.BwdClaim
public import proofs.«01_k».proof.Proof.HeadClaim
public import proofs.«01_k».proof.Proof.MixClaim
public import proofs.«01_k».proof.Proof.MixbClaim
public import proofs.«01_k».proof.Proof.DwOutClaim
public import proofs.«01_k».proof.Proof.PostClaim
public import proofs.«01_k».proof.Proof.DwInClaim
public import proofs.«01_k».proof.Proof.DwProjClaim

@[expose] public section
namespace Cert.Proof
theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts, Cert.Kernel7.Gen.facts, Cert.Kernel7Ideal.Gen.facts, Cert.Reference7Ideal.Gen.facts,
   Cert.Kernel8.Gen.facts, Cert.Kernel8Ideal.Gen.facts, Cert.Reference8Ideal.Gen.facts,
   Cert.Kernel9.Gen.facts, Cert.Kernel9Ideal.Gen.facts, Cert.Reference9Ideal.Gen.facts,
   Cert.Kernel10.Gen.facts, Cert.Kernel10Ideal.Gen.facts, Cert.Reference10Ideal.Gen.facts,
   Cert.Kernel11.Gen.facts, Cert.Kernel11Ideal.Gen.facts, Cert.Reference11Ideal.Gen.facts, facts_finite,
   frame_kernel, frame_ideal, frame_reference, frame_kernel2, frame_ideal2, frame_reference2,
   frame_kernel3, frame_ideal3, frame_reference3, frame_kernel4, frame_ideal4,
   (have := facts_finite; frame_ideal4_finite), frame_reference4,
   (have := facts_finite; frame_reference4_finite), frame_kernel5, frame_ideal5,
   frame_reference5, frame_kernel6, frame_ideal6, frame_reference6,
   frame_kernel7, frame_ideal7, frame_reference7, frame_kernel8, frame_ideal8, frame_reference8,
   frame_kernel9, frame_ideal9, frame_reference9,
   frame_kernel10, frame_ideal10, frame_reference10,
   frame_kernel11, frame_ideal11, frame_reference11,
   trivial, algebraic, trivial, algebraic2, trivial, algebraic3, trivial,
   (have := facts_finite; algebraic4), trivial,
   algebraic5, trivial, algebraic6, trivial, algebraic7, trivial, algebraic8,
   trivial, algebraic9, trivial, algebraic10,
   trivial, algebraic11⟩
end Cert.Proof
end
